-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_KernelMixIn (m : (ℓ : Loc Cert.KernelMixIn.nD Cert.KernelMixIn.τ Cert.KernelMixIn.sig) → Buf (Elt Bits) ℓ) : Prop :=
  True

def Pre_KernelMixInIdeal (m : (ℓ : Loc Cert.KernelMixInIdeal.nD Cert.KernelMixInIdeal.τ Cert.KernelMixInIdeal.sig) → Buf (Elt Ideal) ℓ) : Prop :=
  True

def Pre_ReferenceMixInIdeal (m : (ℓ : Loc Cert.ReferenceMixInIdeal.nD Cert.ReferenceMixInIdeal.τ Cert.ReferenceMixInIdeal.sig) → Buf (Elt Ideal) ℓ) : Prop :=
  True

def Pre_KernelMixOut (m : (ℓ : Loc Cert.KernelMixOut.nD Cert.KernelMixOut.τ Cert.KernelMixOut.sig) → Buf (Elt Bits) ℓ) : Prop :=
  True

def Pre_KernelMixOutIdeal (m : (ℓ : Loc Cert.KernelMixOutIdeal.nD Cert.KernelMixOutIdeal.τ Cert.KernelMixOutIdeal.sig) → Buf (Elt Ideal) ℓ) : Prop :=
  True

def Pre_ReferenceMixOutIdeal (m : (ℓ : Loc Cert.ReferenceMixOutIdeal.nD Cert.ReferenceMixOutIdeal.τ Cert.ReferenceMixOutIdeal.sig) → Buf (Elt Ideal) ℓ) : Prop :=
  True

def Pre_KernelMixInBwd (m : (ℓ : Loc Cert.KernelMixInBwd.nD Cert.KernelMixInBwd.τ Cert.KernelMixInBwd.sig) → Buf (Elt Bits) ℓ) : Prop :=
  True

def Pre_KernelMixInBwdIdeal (m : (ℓ : Loc Cert.KernelMixInBwdIdeal.nD Cert.KernelMixInBwdIdeal.τ Cert.KernelMixInBwdIdeal.sig) → Buf (Elt Ideal) ℓ) : Prop :=
  True

def Pre_KernelMixInBwdIdeal_finite_in [hPre_finite_in : Cert.Pre_finite_in.Facts] (m : (ℓ : Loc Cert.KernelMixInBwdIdeal.nD Cert.KernelMixInBwdIdeal.τ Cert.KernelMixInBwdIdeal.sig) → Buf (Elt Ideal) ℓ) : Prop :=
  ∀ c : Dev Cert.KernelMixInBwdIdeal.nD,
    (Cert.Pre_finite_in.fn (F := Ideal) (m ((c.tc : Thread Cert.KernelMixInBwdIdeal.nD Cert.KernelMixInBwdIdeal.τ).loc Cert.KernelMixInBwdIdeal.main_arg0)) (m ((c.tc : Thread Cert.KernelMixInBwdIdeal.nD Cert.KernelMixInBwdIdeal.τ).loc Cert.KernelMixInBwdIdeal.main_arg1)) (m ((c.tc : Thread Cert.KernelMixInBwdIdeal.nD Cert.KernelMixInBwdIdeal.τ).loc Cert.KernelMixInBwdIdeal.main_arg2)) (m ((c.tc : Thread Cert.KernelMixInBwdIdeal.nD Cert.KernelMixInBwdIdeal.τ).loc Cert.KernelMixInBwdIdeal.main_arg3)) (m ((c.tc : Thread Cert.KernelMixInBwdIdeal.nD Cert.KernelMixInBwdIdeal.τ).loc Cert.KernelMixInBwdIdeal.main_arg4)) (m ((c.tc : Thread Cert.KernelMixInBwdIdeal.nD Cert.KernelMixInBwdIdeal.τ).loc Cert.KernelMixInBwdIdeal.main_arg5)) (m ((c.tc : Thread Cert.KernelMixInBwdIdeal.nD Cert.KernelMixInBwdIdeal.τ).loc Cert.KernelMixInBwdIdeal.main_arg6))).1 = (fun _ => 1#1)
    ∧ (Cert.Pre_finite_in.fn (F := Ideal) (m ((c.tc : Thread Cert.KernelMixInBwdIdeal.nD Cert.KernelMixInBwdIdeal.τ).loc Cert.KernelMixInBwdIdeal.main_arg0)) (m ((c.tc : Thread Cert.KernelMixInBwdIdeal.nD Cert.KernelMixInBwdIdeal.τ).loc Cert.KernelMixInBwdIdeal.main_arg1)) (m ((c.tc : Thread Cert.KernelMixInBwdIdeal.nD Cert.KernelMixInBwdIdeal.τ).loc Cert.KernelMixInBwdIdeal.main_arg2)) (m ((c.tc : Thread Cert.KernelMixInBwdIdeal.nD Cert.KernelMixInBwdIdeal.τ).loc Cert.KernelMixInBwdIdeal.main_arg3)) (m ((c.tc : Thread Cert.KernelMixInBwdIdeal.nD Cert.KernelMixInBwdIdeal.τ).loc Cert.KernelMixInBwdIdeal.main_arg4)) (m ((c.tc : Thread Cert.KernelMixInBwdIdeal.nD Cert.KernelMixInBwdIdeal.τ).loc Cert.KernelMixInBwdIdeal.main_arg5)) (m ((c.tc : Thread Cert.KernelMixInBwdIdeal.nD Cert.KernelMixInBwdIdeal.τ).loc Cert.KernelMixInBwdIdeal.main_arg6))).2.1 = (fun _ => 1#1)
    ∧ (Cert.Pre_finite_in.fn (F := Ideal) (m ((c.tc : Thread Cert.KernelMixInBwdIdeal.nD Cert.KernelMixInBwdIdeal.τ).loc Cert.KernelMixInBwdIdeal.main_arg0)) (m ((c.tc : Thread Cert.KernelMixInBwdIdeal.nD Cert.KernelMixInBwdIdeal.τ).loc Cert.KernelMixInBwdIdeal.main_arg1)) (m ((c.tc : Thread Cert.KernelMixInBwdIdeal.nD Cert.KernelMixInBwdIdeal.τ).loc Cert.KernelMixInBwdIdeal.main_arg2)) (m ((c.tc : Thread Cert.KernelMixInBwdIdeal.nD Cert.KernelMixInBwdIdeal.τ).loc Cert.KernelMixInBwdIdeal.main_arg3)) (m ((c.tc : Thread Cert.KernelMixInBwdIdeal.nD Cert.KernelMixInBwdIdeal.τ).loc Cert.KernelMixInBwdIdeal.main_arg4)) (m ((c.tc : Thread Cert.KernelMixInBwdIdeal.nD Cert.KernelMixInBwdIdeal.τ).loc Cert.KernelMixInBwdIdeal.main_arg5)) (m ((c.tc : Thread Cert.KernelMixInBwdIdeal.nD Cert.KernelMixInBwdIdeal.τ).loc Cert.KernelMixInBwdIdeal.main_arg6))).2.2.1 = (fun _ => 1#1)
    ∧ (Cert.Pre_finite_in.fn (F := Ideal) (m ((c.tc : Thread Cert.KernelMixInBwdIdeal.nD Cert.KernelMixInBwdIdeal.τ).loc Cert.KernelMixInBwdIdeal.main_arg0)) (m ((c.tc : Thread Cert.KernelMixInBwdIdeal.nD Cert.KernelMixInBwdIdeal.τ).loc Cert.KernelMixInBwdIdeal.main_arg1)) (m ((c.tc : Thread Cert.KernelMixInBwdIdeal.nD Cert.KernelMixInBwdIdeal.τ).loc Cert.KernelMixInBwdIdeal.main_arg2)) (m ((c.tc : Thread Cert.KernelMixInBwdIdeal.nD Cert.KernelMixInBwdIdeal.τ).loc Cert.KernelMixInBwdIdeal.main_arg3)) (m ((c.tc : Thread Cert.KernelMixInBwdIdeal.nD Cert.KernelMixInBwdIdeal.τ).loc Cert.KernelMixInBwdIdeal.main_arg4)) (m ((c.tc : Thread Cert.KernelMixInBwdIdeal.nD Cert.KernelMixInBwdIdeal.τ).loc Cert.KernelMixInBwdIdeal.main_arg5)) (m ((c.tc : Thread Cert.KernelMixInBwdIdeal.nD Cert.KernelMixInBwdIdeal.τ).loc Cert.KernelMixInBwdIdeal.main_arg6))).2.2.2.1 = (fun _ => 1#1)
    ∧ (Cert.Pre_finite_in.fn (F := Ideal) (m ((c.tc : Thread Cert.KernelMixInBwdIdeal.nD Cert.KernelMixInBwdIdeal.τ).loc Cert.KernelMixInBwdIdeal.main_arg0)) (m ((c.tc : Thread Cert.KernelMixInBwdIdeal.nD Cert.KernelMixInBwdIdeal.τ).loc Cert.KernelMixInBwdIdeal.main_arg1)) (m ((c.tc : Thread Cert.KernelMixInBwdIdeal.nD Cert.KernelMixInBwdIdeal.τ).loc Cert.KernelMixInBwdIdeal.main_arg2)) (m ((c.tc : Thread Cert.KernelMixInBwdIdeal.nD Cert.KernelMixInBwdIdeal.τ).loc Cert.KernelMixInBwdIdeal.main_arg3)) (m ((c.tc : Thread Cert.KernelMixInBwdIdeal.nD Cert.KernelMixInBwdIdeal.τ).loc Cert.KernelMixInBwdIdeal.main_arg4)) (m ((c.tc : Thread Cert.KernelMixInBwdIdeal.nD Cert.KernelMixInBwdIdeal.τ).loc Cert.KernelMixInBwdIdeal.main_arg5)) (m ((c.tc : Thread Cert.KernelMixInBwdIdeal.nD Cert.KernelMixInBwdIdeal.τ).loc Cert.KernelMixInBwdIdeal.main_arg6))).2.2.2.2 = (fun _ => 1#1)

def Pre_ReferenceMixInBwdIdeal (m : (ℓ : Loc Cert.ReferenceMixInBwdIdeal.nD Cert.ReferenceMixInBwdIdeal.τ Cert.ReferenceMixInBwdIdeal.sig) → Buf (Elt Ideal) ℓ) : Prop :=
  True

def Pre_ReferenceMixInBwdIdeal_finite_in [hPre_finite_in : Cert.Pre_finite_in.Facts] (m : (ℓ : Loc Cert.ReferenceMixInBwdIdeal.nD Cert.ReferenceMixInBwdIdeal.τ Cert.ReferenceMixInBwdIdeal.sig) → Buf (Elt Ideal) ℓ) : Prop :=
  ∀ c : Dev Cert.ReferenceMixInBwdIdeal.nD,
    (Cert.Pre_finite_in.fn (F := Ideal) (m ((c.tc : Thread Cert.ReferenceMixInBwdIdeal.nD Cert.ReferenceMixInBwdIdeal.τ).loc Cert.ReferenceMixInBwdIdeal.main_arg0)) (m ((c.tc : Thread Cert.ReferenceMixInBwdIdeal.nD Cert.ReferenceMixInBwdIdeal.τ).loc Cert.ReferenceMixInBwdIdeal.main_arg1)) (m ((c.tc : Thread Cert.ReferenceMixInBwdIdeal.nD Cert.ReferenceMixInBwdIdeal.τ).loc Cert.ReferenceMixInBwdIdeal.main_arg2)) (m ((c.tc : Thread Cert.ReferenceMixInBwdIdeal.nD Cert.ReferenceMixInBwdIdeal.τ).loc Cert.ReferenceMixInBwdIdeal.main_arg3)) (m ((c.tc : Thread Cert.ReferenceMixInBwdIdeal.nD Cert.ReferenceMixInBwdIdeal.τ).loc Cert.ReferenceMixInBwdIdeal.main_arg4)) (m ((c.tc : Thread Cert.ReferenceMixInBwdIdeal.nD Cert.ReferenceMixInBwdIdeal.τ).loc Cert.ReferenceMixInBwdIdeal.main_arg5)) (m ((c.tc : Thread Cert.ReferenceMixInBwdIdeal.nD Cert.ReferenceMixInBwdIdeal.τ).loc Cert.ReferenceMixInBwdIdeal.main_arg6))).1 = (fun _ => 1#1)
    ∧ (Cert.Pre_finite_in.fn (F := Ideal) (m ((c.tc : Thread Cert.ReferenceMixInBwdIdeal.nD Cert.ReferenceMixInBwdIdeal.τ).loc Cert.ReferenceMixInBwdIdeal.main_arg0)) (m ((c.tc : Thread Cert.ReferenceMixInBwdIdeal.nD Cert.ReferenceMixInBwdIdeal.τ).loc Cert.ReferenceMixInBwdIdeal.main_arg1)) (m ((c.tc : Thread Cert.ReferenceMixInBwdIdeal.nD Cert.ReferenceMixInBwdIdeal.τ).loc Cert.ReferenceMixInBwdIdeal.main_arg2)) (m ((c.tc : Thread Cert.ReferenceMixInBwdIdeal.nD Cert.ReferenceMixInBwdIdeal.τ).loc Cert.ReferenceMixInBwdIdeal.main_arg3)) (m ((c.tc : Thread Cert.ReferenceMixInBwdIdeal.nD Cert.ReferenceMixInBwdIdeal.τ).loc Cert.ReferenceMixInBwdIdeal.main_arg4)) (m ((c.tc : Thread Cert.ReferenceMixInBwdIdeal.nD Cert.ReferenceMixInBwdIdeal.τ).loc Cert.ReferenceMixInBwdIdeal.main_arg5)) (m ((c.tc : Thread Cert.ReferenceMixInBwdIdeal.nD Cert.ReferenceMixInBwdIdeal.τ).loc Cert.ReferenceMixInBwdIdeal.main_arg6))).2.1 = (fun _ => 1#1)
    ∧ (Cert.Pre_finite_in.fn (F := Ideal) (m ((c.tc : Thread Cert.ReferenceMixInBwdIdeal.nD Cert.ReferenceMixInBwdIdeal.τ).loc Cert.ReferenceMixInBwdIdeal.main_arg0)) (m ((c.tc : Thread Cert.ReferenceMixInBwdIdeal.nD Cert.ReferenceMixInBwdIdeal.τ).loc Cert.ReferenceMixInBwdIdeal.main_arg1)) (m ((c.tc : Thread Cert.ReferenceMixInBwdIdeal.nD Cert.ReferenceMixInBwdIdeal.τ).loc Cert.ReferenceMixInBwdIdeal.main_arg2)) (m ((c.tc : Thread Cert.ReferenceMixInBwdIdeal.nD Cert.ReferenceMixInBwdIdeal.τ).loc Cert.ReferenceMixInBwdIdeal.main_arg3)) (m ((c.tc : Thread Cert.ReferenceMixInBwdIdeal.nD Cert.ReferenceMixInBwdIdeal.τ).loc Cert.ReferenceMixInBwdIdeal.main_arg4)) (m ((c.tc : Thread Cert.ReferenceMixInBwdIdeal.nD Cert.ReferenceMixInBwdIdeal.τ).loc Cert.ReferenceMixInBwdIdeal.main_arg5)) (m ((c.tc : Thread Cert.ReferenceMixInBwdIdeal.nD Cert.ReferenceMixInBwdIdeal.τ).loc Cert.ReferenceMixInBwdIdeal.main_arg6))).2.2.1 = (fun _ => 1#1)
    ∧ (Cert.Pre_finite_in.fn (F := Ideal) (m ((c.tc : Thread Cert.ReferenceMixInBwdIdeal.nD Cert.ReferenceMixInBwdIdeal.τ).loc Cert.ReferenceMixInBwdIdeal.main_arg0)) (m ((c.tc : Thread Cert.ReferenceMixInBwdIdeal.nD Cert.ReferenceMixInBwdIdeal.τ).loc Cert.ReferenceMixInBwdIdeal.main_arg1)) (m ((c.tc : Thread Cert.ReferenceMixInBwdIdeal.nD Cert.ReferenceMixInBwdIdeal.τ).loc Cert.ReferenceMixInBwdIdeal.main_arg2)) (m ((c.tc : Thread Cert.ReferenceMixInBwdIdeal.nD Cert.ReferenceMixInBwdIdeal.τ).loc Cert.ReferenceMixInBwdIdeal.main_arg3)) (m ((c.tc : Thread Cert.ReferenceMixInBwdIdeal.nD Cert.ReferenceMixInBwdIdeal.τ).loc Cert.ReferenceMixInBwdIdeal.main_arg4)) (m ((c.tc : Thread Cert.ReferenceMixInBwdIdeal.nD Cert.ReferenceMixInBwdIdeal.τ).loc Cert.ReferenceMixInBwdIdeal.main_arg5)) (m ((c.tc : Thread Cert.ReferenceMixInBwdIdeal.nD Cert.ReferenceMixInBwdIdeal.τ).loc Cert.ReferenceMixInBwdIdeal.main_arg6))).2.2.2.1 = (fun _ => 1#1)
    ∧ (Cert.Pre_finite_in.fn (F := Ideal) (m ((c.tc : Thread Cert.ReferenceMixInBwdIdeal.nD Cert.ReferenceMixInBwdIdeal.τ).loc Cert.ReferenceMixInBwdIdeal.main_arg0)) (m ((c.tc : Thread Cert.ReferenceMixInBwdIdeal.nD Cert.ReferenceMixInBwdIdeal.τ).loc Cert.ReferenceMixInBwdIdeal.main_arg1)) (m ((c.tc : Thread Cert.ReferenceMixInBwdIdeal.nD Cert.ReferenceMixInBwdIdeal.τ).loc Cert.ReferenceMixInBwdIdeal.main_arg2)) (m ((c.tc : Thread Cert.ReferenceMixInBwdIdeal.nD Cert.ReferenceMixInBwdIdeal.τ).loc Cert.ReferenceMixInBwdIdeal.main_arg3)) (m ((c.tc : Thread Cert.ReferenceMixInBwdIdeal.nD Cert.ReferenceMixInBwdIdeal.τ).loc Cert.ReferenceMixInBwdIdeal.main_arg4)) (m ((c.tc : Thread Cert.ReferenceMixInBwdIdeal.nD Cert.ReferenceMixInBwdIdeal.τ).loc Cert.ReferenceMixInBwdIdeal.main_arg5)) (m ((c.tc : Thread Cert.ReferenceMixInBwdIdeal.nD Cert.ReferenceMixInBwdIdeal.τ).loc Cert.ReferenceMixInBwdIdeal.main_arg6))).2.2.2.2 = (fun _ => 1#1)

def Pre_KernelAdamUp (m : (ℓ : Loc Cert.KernelAdamUp.nD Cert.KernelAdamUp.τ Cert.KernelAdamUp.sig) → Buf (Elt Bits) ℓ) : Prop :=
  True

def Pre_KernelAdamUpIdeal (m : (ℓ : Loc Cert.KernelAdamUpIdeal.nD Cert.KernelAdamUpIdeal.τ Cert.KernelAdamUpIdeal.sig) → Buf (Elt Ideal) ℓ) : Prop :=
  True

def Pre_ReferenceAdamUpIdeal (m : (ℓ : Loc Cert.ReferenceAdamUpIdeal.nD Cert.ReferenceAdamUpIdeal.τ Cert.ReferenceAdamUpIdeal.sig) → Buf (Elt Ideal) ℓ) : Prop :=
  True

def Pre_KernelAdamDown (m : (ℓ : Loc Cert.KernelAdamDown.nD Cert.KernelAdamDown.τ Cert.KernelAdamDown.sig) → Buf (Elt Bits) ℓ) : Prop :=
  True

def Pre_KernelAdamDownIdeal (m : (ℓ : Loc Cert.KernelAdamDownIdeal.nD Cert.KernelAdamDownIdeal.τ Cert.KernelAdamDownIdeal.sig) → Buf (Elt Ideal) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamAda (m : (ℓ : Loc Cert.KernelAdamAda.nD Cert.KernelAdamAda.τ Cert.KernelAdamAda.sig) → Buf (Elt Bits) ℓ) : Prop :=
  True

def Pre_KernelAdamAdaIdeal (m : (ℓ : Loc Cert.KernelAdamAdaIdeal.nD Cert.KernelAdamAdaIdeal.τ Cert.KernelAdamAdaIdeal.sig) → Buf (Elt Ideal) ℓ) : Prop :=
  True

def Pre_ReferenceAdamAdaIdeal (m : (ℓ : Loc Cert.ReferenceAdamAdaIdeal.nD Cert.ReferenceAdamAdaIdeal.τ Cert.ReferenceAdamAdaIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def Pre_KernelBias (m : (ℓ : Loc Cert.KernelBias.nD Cert.KernelBias.τ Cert.KernelBias.sig) → Buf (Elt Bits) ℓ) : Prop :=
  True

def Pre_KernelBiasIdeal (m : (ℓ : Loc Cert.KernelBiasIdeal.nD Cert.KernelBiasIdeal.τ Cert.KernelBiasIdeal.sig) → Buf (Elt Ideal) ℓ) : Prop :=
  True

def Pre_ReferenceBiasIdeal (m : (ℓ : Loc Cert.ReferenceBiasIdeal.nD Cert.ReferenceBiasIdeal.τ Cert.ReferenceBiasIdeal.sig) → Buf (Elt Ideal) ℓ) : Prop :=
  True

def Pre_KernelParts (m : (ℓ : Loc Cert.KernelParts.nD Cert.KernelParts.τ Cert.KernelParts.sig) → Buf (Elt Bits) ℓ) : Prop :=
  True

def Pre_KernelPartsIdeal (m : (ℓ : Loc Cert.KernelPartsIdeal.nD Cert.KernelPartsIdeal.τ Cert.KernelPartsIdeal.sig) → Buf (Elt Ideal) ℓ) : Prop :=
  True

def Pre_ReferencePartsIdeal (m : (ℓ : Loc Cert.ReferencePartsIdeal.nD Cert.ReferencePartsIdeal.τ Cert.ReferencePartsIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4)
      ∧ r.2.mem ((c.tc : Thread Cert.KernelFwd.nD Cert.KernelFwd.τ).loc Cert.KernelFwd.main_arg5) = m ((c.tc : Thread Cert.KernelFwd.nD Cert.KernelFwd.τ).loc Cert.KernelFwd.main_arg5)
      ∧ r.2.mem ((c.tc : Thread Cert.KernelFwd.nD Cert.KernelFwd.τ).loc Cert.KernelFwd.main_arg6) = m ((c.tc : Thread Cert.KernelFwd.nD Cert.KernelFwd.τ).loc Cert.KernelFwd.main_arg6))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
      ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5)
      ∧ r.2.mem ((c.tc : Thread Cert.ReferenceFwdIdeal.nD Cert.ReferenceFwdIdeal.τ).loc Cert.ReferenceFwdIdeal.main_arg6) = m ((c.tc : Thread Cert.ReferenceFwdIdeal.nD Cert.ReferenceFwdIdeal.τ).loc Cert.ReferenceFwdIdeal.main_arg6))
      ∧ r.2.sem = fun _ => 0)

def quiescent_KernelMixIn [hKernelMixIn : Cert.KernelMixIn.Facts] : Prop :=
  ∀ (m : (ℓ : Loc Cert.KernelMixIn.nD Cert.KernelMixIn.τ Cert.KernelMixIn.sig) → Buf (Elt Bits) ℓ) (g : Dev Cert.KernelMixIn.nD → PrngReg), Pre_KernelMixIn m →
    θ_run (Cert.KernelMixIn.defs (F := Bits)) (onTc (τ := Cert.KernelMixIn.τ) (Cert.KernelMixIn.main (F := Bits))) ⟨m, fun _ => 0, g⟩ (fun r => (∀ c : Dev Cert.KernelMixIn.nD,
      r.2.mem ((c.tc : Thread Cert.KernelMixIn.nD Cert.KernelMixIn.τ).loc Cert.KernelMixIn.main_arg0) = m ((c.tc : Thread Cert.KernelMixIn.nD Cert.KernelMixIn.τ).loc Cert.KernelMixIn.main_arg0)
      ∧ r.2.mem ((c.tc : Thread Cert.KernelMixIn.nD Cert.KernelMixIn.τ).loc Cert.KernelMixIn.main_arg1) = m ((c.tc : Thread Cert.KernelMixIn.nD Cert.KernelMixIn.τ).loc Cert.KernelMixIn.main_arg1)
      ∧ r.2.mem ((c.tc : Thread Cert.KernelMixIn.nD Cert.KernelMixIn.τ).loc Cert.KernelMixIn.main_arg2) = m ((c.tc : Thread Cert.KernelMixIn.nD Cert.KernelMixIn.τ).loc Cert.KernelMixIn.main_arg2)
      ∧ r.2.mem ((c.tc : Thread Cert.KernelMixIn.nD Cert.KernelMixIn.τ).loc Cert.KernelMixIn.main_arg3) = m ((c.tc : Thread Cert.KernelMixIn.nD Cert.KernelMixIn.τ).loc Cert.KernelMixIn.main_arg3)
      ∧ r.2.mem ((c.tc : Thread Cert.KernelMixIn.nD Cert.KernelMixIn.τ).loc Cert.KernelMixIn.main_arg4) = m ((c.tc : Thread Cert.KernelMixIn.nD Cert.KernelMixIn.τ).loc Cert.KernelMixIn.main_arg4))
      ∧ r.2.sem = fun _ => 0)

def quiescent_KernelMixInIdeal [hKernelMixInIdeal : Cert.KernelMixInIdeal.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg), Pre_KernelMixInIdeal m →
    θ_run (Cert.KernelMixInIdeal.defs (F := Ideal)) (onTc (τ := Cert.KernelMixInIdeal.τ) (Cert.KernelMixInIdeal.main (F := Ideal))) ⟨m, fun _ => 0, g⟩ (fun r => (∀ c : Dev Cert.KernelMixInIdeal.nD,
      r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
      ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1)
      ∧ r.2.mem ((c.tc : Thread Cert.KernelMixInIdeal.nD Cert.KernelMixInIdeal.τ).loc Cert.KernelMixInIdeal.main_arg2) = m ((c.tc : Thread Cert.KernelMixInIdeal.nD Cert.KernelMixInIdeal.τ).loc Cert.KernelMixInIdeal.main_arg2)
      ∧ r.2.mem ((c.tc : Thread Cert.KernelMixInIdeal.nD Cert.KernelMixInIdeal.τ).loc Cert.KernelMixInIdeal.main_arg3) = m ((c.tc : Thread Cert.KernelMixInIdeal.nD Cert.KernelMixInIdeal.τ).loc Cert.KernelMixInIdeal.main_arg3)
      ∧ r.2.mem ((c.tc : Thread Cert.KernelMixInIdeal.nD Cert.KernelMixInIdeal.τ).loc Cert.KernelMixInIdeal.main_arg4) = m ((c.tc : Thread Cert.KernelMixInIdeal.nD Cert.KernelMixInIdeal.τ).loc Cert.KernelMixInIdeal.main_arg4))
      ∧ r.2.sem = fun _ => 0)

def quiescent_ReferenceMixInIdeal [hReferenceMixInIdeal : Cert.ReferenceMixInIdeal.Facts] : Prop :=
  ∀ (m : (ℓ : Loc Cert.ReferenceMixInIdeal.nD Cert.ReferenceMixInIdeal.τ Cert.ReferenceMixInIdeal.sig) → Buf (Elt Ideal) ℓ) (g : Dev Cert.ReferenceMixInIdeal.nD → PrngReg), Pre_ReferenceMixInIdeal m →
    θ_run (Cert.ReferenceMixInIdeal.defs (F := Ideal)) (onTc (τ := Cert.ReferenceMixInIdeal.τ) (Cert.ReferenceMixInIdeal.main (F := Ideal))) ⟨m, fun _ => 0, g⟩ (fun r => (∀ c : Dev Cert.ReferenceMixInIdeal.nD,
      r.2.mem ((c.tc : Thread Cert.ReferenceMixInIdeal.nD Cert.ReferenceMixInIdeal.τ).loc Cert.ReferenceMixInIdeal.main_arg0) = m ((c.tc : Thread Cert.ReferenceMixInIdeal.nD Cert.ReferenceMixInIdeal.τ).loc Cert.ReferenceMixInIdeal.main_arg0)
      ∧ r.2.mem ((c.tc : Thread Cert.ReferenceMixInIdeal.nD Cert.ReferenceMixInIdeal.τ).loc Cert.ReferenceMixInIdeal.main_arg1) = m ((c.tc : Thread Cert.ReferenceMixInIdeal.nD Cert.ReferenceMixInIdeal.τ).loc Cert.ReferenceMixInIdeal.main_arg1)
      ∧ r.2.mem ((c.tc : Thread Cert.ReferenceMixInIdeal.nD Cert.ReferenceMixInIdeal.τ).loc Cert.ReferenceMixInIdeal.main_arg2) = m ((c.tc : Thread Cert.ReferenceMixInIdeal.nD Cert.ReferenceMixInIdeal.τ).loc Cert.ReferenceMixInIdeal.main_arg2)
      ∧ r.2.mem ((c.tc : Thread Cert.ReferenceMixInIdeal.nD Cert.ReferenceMixInIdeal.τ).loc Cert.ReferenceMixInIdeal.main_arg3) = m ((c.tc : Thread Cert.ReferenceMixInIdeal.nD Cert.ReferenceMixInIdeal.τ).loc Cert.ReferenceMixInIdeal.main_arg3)
      ∧ r.2.mem ((c.tc : Thread Cert.ReferenceMixInIdeal.nD Cert.ReferenceMixInIdeal.τ).loc Cert.ReferenceMixInIdeal.main_arg4) = m ((c.tc : Thread Cert.ReferenceMixInIdeal.nD Cert.ReferenceMixInIdeal.τ).loc Cert.ReferenceMixInIdeal.main_arg4))
      ∧ r.2.sem = fun _ => 0)

def quiescent_KernelMixOut [hKernelMixOut : Cert.KernelMixOut.Facts] : Prop :=
  ∀ (m : (ℓ : Loc Cert.KernelMixOut.nD Cert.KernelMixOut.τ Cert.KernelMixOut.sig) → Buf (Elt Bits) ℓ) (g : Dev Cert.KernelMixOut.nD → PrngReg), Pre_KernelMixOut m →
    θ_run (Cert.KernelMixOut.defs (F := Bits)) (onTc (τ := Cert.KernelMixOut.τ) (Cert.KernelMixOut.main (F := Bits))) ⟨m, fun _ => 0, g⟩ (fun r => (∀ c : Dev Cert.KernelMixOut.nD,
      r.2.mem ((c.tc : Thread Cert.KernelMixOut.nD Cert.KernelMixOut.τ).loc Cert.KernelMixOut.main_arg0) = m ((c.tc : Thread Cert.KernelMixOut.nD Cert.KernelMixOut.τ).loc Cert.KernelMixOut.main_arg0)
      ∧ r.2.mem ((c.tc : Thread Cert.KernelMixOut.nD Cert.KernelMixOut.τ).loc Cert.KernelMixOut.main_arg1) = m ((c.tc : Thread Cert.KernelMixOut.nD Cert.KernelMixOut.τ).loc Cert.KernelMixOut.main_arg1)
      ∧ r.2.mem ((c.tc : Thread Cert.KernelMixOut.nD Cert.KernelMixOut.τ).loc Cert.KernelMixOut.main_arg2) = m ((c.tc : Thread Cert.KernelMixOut.nD Cert.KernelMixOut.τ).loc Cert.KernelMixOut.main_arg2)
      ∧ r.2.mem ((c.tc : Thread Cert.KernelMixOut.nD Cert.KernelMixOut.τ).loc Cert.KernelMixOut.main_arg3) = m ((c.tc : Thread Cert.KernelMixOut.nD Cert.KernelMixOut.τ).loc Cert.KernelMixOut.main_arg3)
      ∧ r.2.mem ((c.tc : Thread Cert.KernelMixOut.nD Cert.KernelMixOut.τ).loc Cert.KernelMixOut.main_arg4) = m ((c.tc : Thread Cert.KernelMixOut.nD Cert.KernelMixOut.τ).loc Cert.KernelMixOut.main_arg4)
      ∧ r.2.mem ((c.tc : Thread Cert.KernelMixOut.nD Cert.KernelMixOut.τ).loc Cert.KernelMixOut.main_arg5) = m ((c.tc : Thread Cert.KernelMixOut.nD Cert.KernelMixOut.τ).loc Cert.KernelMixOut.main_arg5)
      ∧ r.2.mem ((c.tc : Thread Cert.KernelMixOut.nD Cert.KernelMixOut.τ).loc Cert.KernelMixOut.main_arg6) = m ((c.tc : Thread Cert.KernelMixOut.nD Cert.KernelMixOut.τ).loc Cert.KernelMixOut.main_arg6))
      ∧ r.2.sem = fun _ => 0)

def quiescent_KernelMixOutIdeal [hKernelMixOutIdeal : Cert.KernelMixOutIdeal.Facts] : Prop :=
  ∀ (m : (ℓ : Loc Cert.KernelMixOutIdeal.nD Cert.KernelMixOutIdeal.τ Cert.KernelMixOutIdeal.sig) → Buf (Elt Ideal) ℓ) (g : Dev Cert.KernelMixOutIdeal.nD → PrngReg), Pre_KernelMixOutIdeal m →
    θ_run (Cert.KernelMixOutIdeal.defs (F := Ideal)) (onTc (τ := Cert.KernelMixOutIdeal.τ) (Cert.KernelMixOutIdeal.main (F := Ideal))) ⟨m, fun _ => 0, g⟩ (fun r => (∀ c : Dev Cert.KernelMixOutIdeal.nD,
      r.2.mem ((c.tc : Thread Cert.KernelMixOutIdeal.nD Cert.KernelMixOutIdeal.τ).loc Cert.KernelMixOutIdeal.main_arg0) = m ((c.tc : Thread Cert.KernelMixOutIdeal.nD Cert.KernelMixOutIdeal.τ).loc Cert.KernelMixOutIdeal.main_arg0)
      ∧ r.2.mem ((c.tc : Thread Cert.KernelMixOutIdeal.nD Cert.KernelMixOutIdeal.τ).loc Cert.KernelMixOutIdeal.main_arg1) = m ((c.tc : Thread Cert.KernelMixOutIdeal.nD Cert.KernelMixOutIdeal.τ).loc Cert.KernelMixOutIdeal.main_arg1)
      ∧ r.2.mem ((c.tc : Thread Cert.KernelMixOutIdeal.nD Cert.KernelMixOutIdeal.τ).loc Cert.KernelMixOutIdeal.main_arg2) = m ((c.tc : Thread Cert.KernelMixOutIdeal.nD Cert.KernelMixOutIdeal.τ).loc Cert.KernelMixOutIdeal.main_arg2)
      ∧ r.2.mem ((c.tc : Thread Cert.KernelMixOutIdeal.nD Cert.KernelMixOutIdeal.τ).loc Cert.KernelMixOutIdeal.main_arg3) = m ((c.tc : Thread Cert.KernelMixOutIdeal.nD Cert.KernelMixOutIdeal.τ).loc Cert.KernelMixOutIdeal.main_arg3)
      ∧ r.2.mem ((c.tc : Thread Cert.KernelMixOutIdeal.nD Cert.KernelMixOutIdeal.τ).loc Cert.KernelMixOutIdeal.main_arg4) = m ((c.tc : Thread Cert.KernelMixOutIdeal.nD Cert.KernelMixOutIdeal.τ).loc Cert.KernelMixOutIdeal.main_arg4)
      ∧ r.2.mem ((c.tc : Thread Cert.KernelMixOutIdeal.nD Cert.KernelMixOutIdeal.τ).loc Cert.KernelMixOutIdeal.main_arg5) = m ((c.tc : Thread Cert.KernelMixOutIdeal.nD Cert.KernelMixOutIdeal.τ).loc Cert.KernelMixOutIdeal.main_arg5)
      ∧ r.2.mem ((c.tc : Thread Cert.KernelMixOutIdeal.nD Cert.KernelMixOutIdeal.τ).loc Cert.KernelMixOutIdeal.main_arg6) = m ((c.tc : Thread Cert.KernelMixOutIdeal.nD Cert.KernelMixOutIdeal.τ).loc Cert.KernelMixOutIdeal.main_arg6))
      ∧ r.2.sem = fun _ => 0)

def quiescent_ReferenceMixOutIdeal [hReferenceMixOutIdeal : Cert.ReferenceMixOutIdeal.Facts] : Prop :=
  ∀ (m : (ℓ : Loc Cert.ReferenceMixOutIdeal.nD Cert.ReferenceMixOutIdeal.τ Cert.ReferenceMixOutIdeal.sig) → Buf (Elt Ideal) ℓ) (g : Dev Cert.ReferenceMixOutIdeal.nD → PrngReg), Pre_ReferenceMixOutIdeal m →
    θ_run (Cert.ReferenceMixOutIdeal.defs (F := Ideal)) (onTc (τ := Cert.ReferenceMixOutIdeal.τ) (Cert.ReferenceMixOutIdeal.main (F := Ideal))) ⟨m, fun _ => 0, g⟩ (fun r => (∀ c : Dev Cert.ReferenceMixOutIdeal.nD,
      r.2.mem ((c.tc : Thread Cert.ReferenceMixOutIdeal.nD Cert.ReferenceMixOutIdeal.τ).loc Cert.ReferenceMixOutIdeal.main_arg0) = m ((c.tc : Thread Cert.ReferenceMixOutIdeal.nD Cert.ReferenceMixOutIdeal.τ).loc Cert.ReferenceMixOutIdeal.main_arg0)
      ∧ r.2.mem ((c.tc : Thread Cert.ReferenceMixOutIdeal.nD Cert.ReferenceMixOutIdeal.τ).loc Cert.ReferenceMixOutIdeal.main_arg1) = m ((c.tc : Thread Cert.ReferenceMixOutIdeal.nD Cert.ReferenceMixOutIdeal.τ).loc Cert.ReferenceMixOutIdeal.main_arg1)
      ∧ r.2.mem ((c.tc : Thread Cert.ReferenceMixOutIdeal.nD Cert.ReferenceMixOutIdeal.τ).loc Cert.ReferenceMixOutIdeal.main_arg2) = m ((c.tc : Thread Cert.ReferenceMixOutIdeal.nD Cert.ReferenceMixOutIdeal.τ).loc Cert.ReferenceMixOutIdeal.main_arg2)
      ∧ r.2.mem ((c.tc : Thread Cert.ReferenceMixOutIdeal.nD Cert.ReferenceMixOutIdeal.τ).loc Cert.ReferenceMixOutIdeal.main_arg3) = m ((c.tc : Thread Cert.ReferenceMixOutIdeal.nD Cert.ReferenceMixOutIdeal.τ).loc Cert.ReferenceMixOutIdeal.main_arg3)
      ∧ r.2.mem ((c.tc : Thread Cert.ReferenceMixOutIdeal.nD Cert.ReferenceMixOutIdeal.τ).loc Cert.ReferenceMixOutIdeal.main_arg4) = m ((c.tc : Thread Cert.ReferenceMixOutIdeal.nD Cert.ReferenceMixOutIdeal.τ).loc Cert.ReferenceMixOutIdeal.main_arg4)
      ∧ r.2.mem ((c.tc : Thread Cert.ReferenceMixOutIdeal.nD Cert.ReferenceMixOutIdeal.τ).loc Cert.ReferenceMixOutIdeal.main_arg5) = m ((c.tc : Thread Cert.ReferenceMixOutIdeal.nD Cert.ReferenceMixOutIdeal.τ).loc Cert.ReferenceMixOutIdeal.main_arg5)
      ∧ r.2.mem ((c.tc : Thread Cert.ReferenceMixOutIdeal.nD Cert.ReferenceMixOutIdeal.τ).loc Cert.ReferenceMixOutIdeal.main_arg6) = m ((c.tc : Thread Cert.ReferenceMixOutIdeal.nD Cert.ReferenceMixOutIdeal.τ).loc Cert.ReferenceMixOutIdeal.main_arg6))
      ∧ r.2.sem = fun _ => 0)

def quiescent_KernelMixInBwd [hKernelMixInBwd : Cert.KernelMixInBwd.Facts] : Prop :=
  ∀ (m : (ℓ : Loc Cert.KernelMixInBwd.nD Cert.KernelMixInBwd.τ Cert.KernelMixInBwd.sig) → Buf (Elt Bits) ℓ) (g : Dev Cert.KernelMixInBwd.nD → PrngReg), Pre_KernelMixInBwd m →
    θ_run (Cert.KernelMixInBwd.defs (F := Bits)) (onTc (τ := Cert.KernelMixInBwd.τ) (Cert.KernelMixInBwd.main (F := Bits))) ⟨m, fun _ => 0, g⟩ (fun r => (∀ c : Dev Cert.KernelMixInBwd.nD,
      r.2.mem ((c.tc : Thread Cert.KernelMixInBwd.nD Cert.KernelMixInBwd.τ).loc Cert.KernelMixInBwd.main_arg0) = m ((c.tc : Thread Cert.KernelMixInBwd.nD Cert.KernelMixInBwd.τ).loc Cert.KernelMixInBwd.main_arg0)
      ∧ r.2.mem ((c.tc : Thread Cert.KernelMixInBwd.nD Cert.KernelMixInBwd.τ).loc Cert.KernelMixInBwd.main_arg1) = m ((c.tc : Thread Cert.KernelMixInBwd.nD Cert.KernelMixInBwd.τ).loc Cert.KernelMixInBwd.main_arg1)
      ∧ r.2.mem ((c.tc : Thread Cert.KernelMixInBwd.nD Cert.KernelMixInBwd.τ).loc Cert.KernelMixInBwd.main_arg2) = m ((c.tc : Thread Cert.KernelMixInBwd.nD Cert.KernelMixInBwd.τ).loc Cert.KernelMixInBwd.main_arg2)
      ∧ r.2.mem ((c.tc : Thread Cert.KernelMixInBwd.nD Cert.KernelMixInBwd.τ).loc Cert.KernelMixInBwd.main_arg3) = m ((c.tc : Thread Cert.KernelMixInBwd.nD Cert.KernelMixInBwd.τ).loc Cert.KernelMixInBwd.main_arg3)
      ∧ r.2.mem ((c.tc : Thread Cert.KernelMixInBwd.nD Cert.KernelMixInBwd.τ).loc Cert.KernelMixInBwd.main_arg4) = m ((c.tc : Thread Cert.KernelMixInBwd.nD Cert.KernelMixInBwd.τ).loc Cert.KernelMixInBwd.main_arg4)
      ∧ r.2.mem ((c.tc : Thread Cert.KernelMixInBwd.nD Cert.KernelMixInBwd.τ).loc Cert.KernelMixInBwd.main_arg5) = m ((c.tc : Thread Cert.KernelMixInBwd.nD Cert.KernelMixInBwd.τ).loc Cert.KernelMixInBwd.main_arg5)
      ∧ r.2.mem ((c.tc : Thread Cert.KernelMixInBwd.nD Cert.KernelMixInBwd.τ).loc Cert.KernelMixInBwd.main_arg6) = m ((c.tc : Thread Cert.KernelMixInBwd.nD Cert.KernelMixInBwd.τ).loc Cert.KernelMixInBwd.main_arg6))
      ∧ r.2.sem = fun _ => 0)

def quiescent_KernelMixInBwdIdeal [hKernelMixInBwdIdeal : Cert.KernelMixInBwdIdeal.Facts] : Prop :=
  ∀ (m : (ℓ : Loc Cert.KernelMixInBwdIdeal.nD Cert.KernelMixInBwdIdeal.τ Cert.KernelMixInBwdIdeal.sig) → Buf (Elt Ideal) ℓ) (g : Dev Cert.KernelMixInBwdIdeal.nD → PrngReg), Pre_KernelMixInBwdIdeal m →
    θ_run (Cert.KernelMixInBwdIdeal.defs (F := Ideal)) (onTc (τ := Cert.KernelMixInBwdIdeal.τ) (Cert.KernelMixInBwdIdeal.main (F := Ideal))) ⟨m, fun _ => 0, g⟩ (fun r => (∀ c : Dev Cert.KernelMixInBwdIdeal.nD,
      r.2.mem ((c.tc : Thread Cert.KernelMixInBwdIdeal.nD Cert.KernelMixInBwdIdeal.τ).loc Cert.KernelMixInBwdIdeal.main_arg0) = m ((c.tc : Thread Cert.KernelMixInBwdIdeal.nD Cert.KernelMixInBwdIdeal.τ).loc Cert.KernelMixInBwdIdeal.main_arg0)
      ∧ r.2.mem ((c.tc : Thread Cert.KernelMixInBwdIdeal.nD Cert.KernelMixInBwdIdeal.τ).loc Cert.KernelMixInBwdIdeal.main_arg1) = m ((c.tc : Thread Cert.KernelMixInBwdIdeal.nD Cert.KernelMixInBwdIdeal.τ).loc Cert.KernelMixInBwdIdeal.main_arg1)
      ∧ r.2.mem ((c.tc : Thread Cert.KernelMixInBwdIdeal.nD Cert.KernelMixInBwdIdeal.τ).loc Cert.KernelMixInBwdIdeal.main_arg2) = m ((c.tc : Thread Cert.KernelMixInBwdIdeal.nD Cert.KernelMixInBwdIdeal.τ).loc Cert.KernelMixInBwdIdeal.main_arg2)
      ∧ r.2.mem ((c.tc : Thread Cert.KernelMixInBwdIdeal.nD Cert.KernelMixInBwdIdeal.τ).loc Cert.KernelMixInBwdIdeal.main_arg3) = m ((c.tc : Thread Cert.KernelMixInBwdIdeal.nD Cert.KernelMixInBwdIdeal.τ).loc Cert.KernelMixInBwdIdeal.main_arg3)
      ∧ r.2.mem ((c.tc : Thread Cert.KernelMixInBwdIdeal.nD Cert.KernelMixInBwdIdeal.τ).loc Cert.KernelMixInBwdIdeal.main_arg4) = m ((c.tc : Thread Cert.KernelMixInBwdIdeal.nD Cert.KernelMixInBwdIdeal.τ).loc Cert.KernelMixInBwdIdeal.main_arg4)
      ∧ r.2.mem ((c.tc : Thread Cert.KernelMixInBwdIdeal.nD Cert.KernelMixInBwdIdeal.τ).loc Cert.KernelMixInBwdIdeal.main_arg5) = m ((c.tc : Thread Cert.KernelMixInBwdIdeal.nD Cert.KernelMixInBwdIdeal.τ).loc Cert.KernelMixInBwdIdeal.main_arg5)
      ∧ r.2.mem ((c.tc : Thread Cert.KernelMixInBwdIdeal.nD Cert.KernelMixInBwdIdeal.τ).loc Cert.KernelMixInBwdIdeal.main_arg6) = m ((c.tc : Thread Cert.KernelMixInBwdIdeal.nD Cert.KernelMixInBwdIdeal.τ).loc Cert.KernelMixInBwdIdeal.main_arg6))
      ∧ r.2.sem = fun _ => 0)

def quiescent_KernelMixInBwdIdeal_pre_finite_in [hKernelMixInBwdIdeal : Cert.KernelMixInBwdIdeal.Facts] [hPre_finite_in : Cert.Pre_finite_in.Facts] : Prop :=
  ∀ (m : (ℓ : Loc Cert.KernelMixInBwdIdeal.nD Cert.KernelMixInBwdIdeal.τ Cert.KernelMixInBwdIdeal.sig) → Buf (Elt Ideal) ℓ) (g : Dev Cert.KernelMixInBwdIdeal.nD → PrngReg), Pre_KernelMixInBwdIdeal_finite_in m →
    θ_run (Cert.KernelMixInBwdIdeal.defs (F := Ideal)) (onTc (τ := Cert.KernelMixInBwdIdeal.τ) (Cert.KernelMixInBwdIdeal.main (F := Ideal))) ⟨m, fun _ => 0, g⟩ (fun r => (∀ c : Dev Cert.KernelMixInBwdIdeal.nD,
      r.2.mem ((c.tc : Thread Cert.KernelMixInBwdIdeal.nD Cert.KernelMixInBwdIdeal.τ).loc Cert.KernelMixInBwdIdeal.main_arg0) = m ((c.tc : Thread Cert.KernelMixInBwdIdeal.nD Cert.KernelMixInBwdIdeal.τ).loc Cert.KernelMixInBwdIdeal.main_arg0)
      ∧ r.2.mem ((c.tc : Thread Cert.KernelMixInBwdIdeal.nD Cert.KernelMixInBwdIdeal.τ).loc Cert.KernelMixInBwdIdeal.main_arg1) = m ((c.tc : Thread Cert.KernelMixInBwdIdeal.nD Cert.KernelMixInBwdIdeal.τ).loc Cert.KernelMixInBwdIdeal.main_arg1)
      ∧ r.2.mem ((c.tc : Thread Cert.KernelMixInBwdIdeal.nD Cert.KernelMixInBwdIdeal.τ).loc Cert.KernelMixInBwdIdeal.main_arg2) = m ((c.tc : Thread Cert.KernelMixInBwdIdeal.nD Cert.KernelMixInBwdIdeal.τ).loc Cert.KernelMixInBwdIdeal.main_arg2)
      ∧ r.2.mem ((c.tc : Thread Cert.KernelMixInBwdIdeal.nD Cert.KernelMixInBwdIdeal.τ).loc Cert.KernelMixInBwdIdeal.main_arg3) = m ((c.tc : Thread Cert.KernelMixInBwdIdeal.nD Cert.KernelMixInBwdIdeal.τ).loc Cert.KernelMixInBwdIdeal.main_arg3)
      ∧ r.2.mem ((c.tc : Thread Cert.KernelMixInBwdIdeal.nD Cert.KernelMixInBwdIdeal.τ).loc Cert.KernelMixInBwdIdeal.main_arg4) = m ((c.tc : Thread Cert.KernelMixInBwdIdeal.nD Cert.KernelMixInBwdIdeal.τ).loc Cert.KernelMixInBwdIdeal.main_arg4)
      ∧ r.2.mem ((c.tc : Thread Cert.KernelMixInBwdIdeal.nD Cert.KernelMixInBwdIdeal.τ).loc Cert.KernelMixInBwdIdeal.main_arg5) = m ((c.tc : Thread Cert.KernelMixInBwdIdeal.nD Cert.KernelMixInBwdIdeal.τ).loc Cert.KernelMixInBwdIdeal.main_arg5)
      ∧ r.2.mem ((c.tc : Thread Cert.KernelMixInBwdIdeal.nD Cert.KernelMixInBwdIdeal.τ).loc Cert.KernelMixInBwdIdeal.main_arg6) = m ((c.tc : Thread Cert.KernelMixInBwdIdeal.nD Cert.KernelMixInBwdIdeal.τ).loc Cert.KernelMixInBwdIdeal.main_arg6))
      ∧ r.2.sem = fun _ => 0)

def quiescent_ReferenceMixInBwdIdeal [hReferenceMixInBwdIdeal : Cert.ReferenceMixInBwdIdeal.Facts] : Prop :=
  ∀ (m : (ℓ : Loc Cert.ReferenceMixInBwdIdeal.nD Cert.ReferenceMixInBwdIdeal.τ Cert.ReferenceMixInBwdIdeal.sig) → Buf (Elt Ideal) ℓ) (g : Dev Cert.ReferenceMixInBwdIdeal.nD → PrngReg), Pre_ReferenceMixInBwdIdeal m →
    θ_run (Cert.ReferenceMixInBwdIdeal.defs (F := Ideal)) (onTc (τ := Cert.ReferenceMixInBwdIdeal.τ) (Cert.ReferenceMixInBwdIdeal.main (F := Ideal))) ⟨m, fun _ => 0, g⟩ (fun r => (∀ c : Dev Cert.ReferenceMixInBwdIdeal.nD,
      r.2.mem ((c.tc : Thread Cert.ReferenceMixInBwdIdeal.nD Cert.ReferenceMixInBwdIdeal.τ).loc Cert.ReferenceMixInBwdIdeal.main_arg0) = m ((c.tc : Thread Cert.ReferenceMixInBwdIdeal.nD Cert.ReferenceMixInBwdIdeal.τ).loc Cert.ReferenceMixInBwdIdeal.main_arg0)
      ∧ r.2.mem ((c.tc : Thread Cert.ReferenceMixInBwdIdeal.nD Cert.ReferenceMixInBwdIdeal.τ).loc Cert.ReferenceMixInBwdIdeal.main_arg1) = m ((c.tc : Thread Cert.ReferenceMixInBwdIdeal.nD Cert.ReferenceMixInBwdIdeal.τ).loc Cert.ReferenceMixInBwdIdeal.main_arg1)
      ∧ r.2.mem ((c.tc : Thread Cert.ReferenceMixInBwdIdeal.nD Cert.ReferenceMixInBwdIdeal.τ).loc Cert.ReferenceMixInBwdIdeal.main_arg2) = m ((c.tc : Thread Cert.ReferenceMixInBwdIdeal.nD Cert.ReferenceMixInBwdIdeal.τ).loc Cert.ReferenceMixInBwdIdeal.main_arg2)
      ∧ r.2.mem ((c.tc : Thread Cert.ReferenceMixInBwdIdeal.nD Cert.ReferenceMixInBwdIdeal.τ).loc Cert.ReferenceMixInBwdIdeal.main_arg3) = m ((c.tc : Thread Cert.ReferenceMixInBwdIdeal.nD Cert.ReferenceMixInBwdIdeal.τ).loc Cert.ReferenceMixInBwdIdeal.main_arg3)
      ∧ r.2.mem ((c.tc : Thread Cert.ReferenceMixInBwdIdeal.nD Cert.ReferenceMixInBwdIdeal.τ).loc Cert.ReferenceMixInBwdIdeal.main_arg4) = m ((c.tc : Thread Cert.ReferenceMixInBwdIdeal.nD Cert.ReferenceMixInBwdIdeal.τ).loc Cert.ReferenceMixInBwdIdeal.main_arg4)
      ∧ r.2.mem ((c.tc : Thread Cert.ReferenceMixInBwdIdeal.nD Cert.ReferenceMixInBwdIdeal.τ).loc Cert.ReferenceMixInBwdIdeal.main_arg5) = m ((c.tc : Thread Cert.ReferenceMixInBwdIdeal.nD Cert.ReferenceMixInBwdIdeal.τ).loc Cert.ReferenceMixInBwdIdeal.main_arg5)
      ∧ r.2.mem ((c.tc : Thread Cert.ReferenceMixInBwdIdeal.nD Cert.ReferenceMixInBwdIdeal.τ).loc Cert.ReferenceMixInBwdIdeal.main_arg6) = m ((c.tc : Thread Cert.ReferenceMixInBwdIdeal.nD Cert.ReferenceMixInBwdIdeal.τ).loc Cert.ReferenceMixInBwdIdeal.main_arg6))
      ∧ r.2.sem = fun _ => 0)

def quiescent_ReferenceMixInBwdIdeal_pre_finite_in [hReferenceMixInBwdIdeal : Cert.ReferenceMixInBwdIdeal.Facts] [hPre_finite_in : Cert.Pre_finite_in.Facts] : Prop :=
  ∀ (m : (ℓ : Loc Cert.ReferenceMixInBwdIdeal.nD Cert.ReferenceMixInBwdIdeal.τ Cert.ReferenceMixInBwdIdeal.sig) → Buf (Elt Ideal) ℓ) (g : Dev Cert.ReferenceMixInBwdIdeal.nD → PrngReg), Pre_ReferenceMixInBwdIdeal_finite_in m →
    θ_run (Cert.ReferenceMixInBwdIdeal.defs (F := Ideal)) (onTc (τ := Cert.ReferenceMixInBwdIdeal.τ) (Cert.ReferenceMixInBwdIdeal.main (F := Ideal))) ⟨m, fun _ => 0, g⟩ (fun r => (∀ c : Dev Cert.ReferenceMixInBwdIdeal.nD,
      r.2.mem ((c.tc : Thread Cert.ReferenceMixInBwdIdeal.nD Cert.ReferenceMixInBwdIdeal.τ).loc Cert.ReferenceMixInBwdIdeal.main_arg0) = m ((c.tc : Thread Cert.ReferenceMixInBwdIdeal.nD Cert.ReferenceMixInBwdIdeal.τ).loc Cert.ReferenceMixInBwdIdeal.main_arg0)
      ∧ r.2.mem ((c.tc : Thread Cert.ReferenceMixInBwdIdeal.nD Cert.ReferenceMixInBwdIdeal.τ).loc Cert.ReferenceMixInBwdIdeal.main_arg1) = m ((c.tc : Thread Cert.ReferenceMixInBwdIdeal.nD Cert.ReferenceMixInBwdIdeal.τ).loc Cert.ReferenceMixInBwdIdeal.main_arg1)
      ∧ r.2.mem ((c.tc : Thread Cert.ReferenceMixInBwdIdeal.nD Cert.ReferenceMixInBwdIdeal.τ).loc Cert.ReferenceMixInBwdIdeal.main_arg2) = m ((c.tc : Thread Cert.ReferenceMixInBwdIdeal.nD Cert.ReferenceMixInBwdIdeal.τ).loc Cert.ReferenceMixInBwdIdeal.main_arg2)
      ∧ r.2.mem ((c.tc : Thread Cert.ReferenceMixInBwdIdeal.nD Cert.ReferenceMixInBwdIdeal.τ).loc Cert.ReferenceMixInBwdIdeal.main_arg3) = m ((c.tc : Thread Cert.ReferenceMixInBwdIdeal.nD Cert.ReferenceMixInBwdIdeal.τ).loc Cert.ReferenceMixInBwdIdeal.main_arg3)
      ∧ r.2.mem ((c.tc : Thread Cert.ReferenceMixInBwdIdeal.nD Cert.ReferenceMixInBwdIdeal.τ).loc Cert.ReferenceMixInBwdIdeal.main_arg4) = m ((c.tc : Thread Cert.ReferenceMixInBwdIdeal.nD Cert.ReferenceMixInBwdIdeal.τ).loc Cert.ReferenceMixInBwdIdeal.main_arg4)
      ∧ r.2.mem ((c.tc : Thread Cert.ReferenceMixInBwdIdeal.nD Cert.ReferenceMixInBwdIdeal.τ).loc Cert.ReferenceMixInBwdIdeal.main_arg5) = m ((c.tc : Thread Cert.ReferenceMixInBwdIdeal.nD Cert.ReferenceMixInBwdIdeal.τ).loc Cert.ReferenceMixInBwdIdeal.main_arg5)
      ∧ r.2.mem ((c.tc : Thread Cert.ReferenceMixInBwdIdeal.nD Cert.ReferenceMixInBwdIdeal.τ).loc Cert.ReferenceMixInBwdIdeal.main_arg6) = m ((c.tc : Thread Cert.ReferenceMixInBwdIdeal.nD Cert.ReferenceMixInBwdIdeal.τ).loc Cert.ReferenceMixInBwdIdeal.main_arg6))
      ∧ r.2.sem = fun _ => 0)

def quiescent_KernelAdamUp [hKernelAdamUp : Cert.KernelAdamUp.Facts] : Prop :=
  ∀ (m : (ℓ : Loc Cert.KernelAdamUp.nD Cert.KernelAdamUp.τ Cert.KernelAdamUp.sig) → Buf (Elt Bits) ℓ) (g : Dev Cert.KernelAdamUp.nD → PrngReg), Pre_KernelAdamUp m →
    θ_run (Cert.KernelAdamUp.defs (F := Bits)) (onTc (τ := Cert.KernelAdamUp.τ) (Cert.KernelAdamUp.main (F := Bits))) ⟨m, fun _ => 0, g⟩ (fun r => (∀ c : Dev Cert.KernelAdamUp.nD,
      r.2.mem ((c.tc : Thread Cert.KernelAdamUp.nD Cert.KernelAdamUp.τ).loc Cert.KernelAdamUp.main_arg0) = m ((c.tc : Thread Cert.KernelAdamUp.nD Cert.KernelAdamUp.τ).loc Cert.KernelAdamUp.main_arg0)
      ∧ r.2.mem ((c.tc : Thread Cert.KernelAdamUp.nD Cert.KernelAdamUp.τ).loc Cert.KernelAdamUp.main_arg1) = m ((c.tc : Thread Cert.KernelAdamUp.nD Cert.KernelAdamUp.τ).loc Cert.KernelAdamUp.main_arg1)
      ∧ r.2.mem ((c.tc : Thread Cert.KernelAdamUp.nD Cert.KernelAdamUp.τ).loc Cert.KernelAdamUp.main_arg2) = m ((c.tc : Thread Cert.KernelAdamUp.nD Cert.KernelAdamUp.τ).loc Cert.KernelAdamUp.main_arg2)
      ∧ r.2.mem ((c.tc : Thread Cert.KernelAdamUp.nD Cert.KernelAdamUp.τ).loc Cert.KernelAdamUp.main_arg3) = m ((c.tc : Thread Cert.KernelAdamUp.nD Cert.KernelAdamUp.τ).loc Cert.KernelAdamUp.main_arg3))
      ∧ r.2.sem = fun _ => 0)

def quiescent_KernelAdamUpIdeal [hKernelAdamUpIdeal : Cert.KernelAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg), Pre_KernelAdamUpIdeal m →
    θ_run (Cert.KernelAdamUpIdeal.defs (F := Ideal)) (onTc (τ := Cert.KernelAdamUpIdeal.τ) (Cert.KernelAdamUpIdeal.main (F := Ideal))) ⟨m, fun _ => 0, g⟩ (fun r => (∀ c : Dev Cert.KernelAdamUpIdeal.nD,
      r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
      ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
      ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
      ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3))
      ∧ r.2.sem = fun _ => 0)

def quiescent_ReferenceAdamUpIdeal [hReferenceAdamUpIdeal : Cert.ReferenceAdamUpIdeal.Facts] : Prop :=
  ∀ (m : (ℓ : Loc Cert.ReferenceAdamUpIdeal.nD Cert.ReferenceAdamUpIdeal.τ Cert.ReferenceAdamUpIdeal.sig) → Buf (Elt Ideal) ℓ) (g : Dev Cert.ReferenceAdamUpIdeal.nD → PrngReg), Pre_ReferenceAdamUpIdeal m →
    θ_run (Cert.ReferenceAdamUpIdeal.defs (F := Ideal)) (onTc (τ := Cert.ReferenceAdamUpIdeal.τ) (Cert.ReferenceAdamUpIdeal.main (F := Ideal))) ⟨m, fun _ => 0, g⟩ (fun r => (∀ c : Dev Cert.ReferenceAdamUpIdeal.nD,
      r.2.mem ((c.tc : Thread Cert.ReferenceAdamUpIdeal.nD Cert.ReferenceAdamUpIdeal.τ).loc Cert.ReferenceAdamUpIdeal.main_arg0) = m ((c.tc : Thread Cert.ReferenceAdamUpIdeal.nD Cert.ReferenceAdamUpIdeal.τ).loc Cert.ReferenceAdamUpIdeal.main_arg0)
      ∧ r.2.mem ((c.tc : Thread Cert.ReferenceAdamUpIdeal.nD Cert.ReferenceAdamUpIdeal.τ).loc Cert.ReferenceAdamUpIdeal.main_arg1) = m ((c.tc : Thread Cert.ReferenceAdamUpIdeal.nD Cert.ReferenceAdamUpIdeal.τ).loc Cert.ReferenceAdamUpIdeal.main_arg1)
      ∧ r.2.mem ((c.tc : Thread Cert.ReferenceAdamUpIdeal.nD Cert.ReferenceAdamUpIdeal.τ).loc Cert.ReferenceAdamUpIdeal.main_arg2) = m ((c.tc : Thread Cert.ReferenceAdamUpIdeal.nD Cert.ReferenceAdamUpIdeal.τ).loc Cert.ReferenceAdamUpIdeal.main_arg2)
      ∧ r.2.mem ((c.tc : Thread Cert.ReferenceAdamUpIdeal.nD Cert.ReferenceAdamUpIdeal.τ).loc Cert.ReferenceAdamUpIdeal.main_arg3) = m ((c.tc : Thread Cert.ReferenceAdamUpIdeal.nD Cert.ReferenceAdamUpIdeal.τ).loc Cert.ReferenceAdamUpIdeal.main_arg3))
      ∧ r.2.sem = fun _ => 0)

def quiescent_KernelAdamDown [hKernelAdamDown : Cert.KernelAdamDown.Facts] : Prop :=
  ∀ (m : (ℓ : Loc Cert.KernelAdamDown.nD Cert.KernelAdamDown.τ Cert.KernelAdamDown.sig) → Buf (Elt Bits) ℓ) (g : Dev Cert.KernelAdamDown.nD → PrngReg), Pre_KernelAdamDown m →
    θ_run (Cert.KernelAdamDown.defs (F := Bits)) (onTc (τ := Cert.KernelAdamDown.τ) (Cert.KernelAdamDown.main (F := Bits))) ⟨m, fun _ => 0, g⟩ (fun r => (∀ c : Dev Cert.KernelAdamDown.nD,
      r.2.mem ((c.tc : Thread Cert.KernelAdamDown.nD Cert.KernelAdamDown.τ).loc Cert.KernelAdamDown.main_arg0) = m ((c.tc : Thread Cert.KernelAdamDown.nD Cert.KernelAdamDown.τ).loc Cert.KernelAdamDown.main_arg0)
      ∧ r.2.mem ((c.tc : Thread Cert.KernelAdamDown.nD Cert.KernelAdamDown.τ).loc Cert.KernelAdamDown.main_arg1) = m ((c.tc : Thread Cert.KernelAdamDown.nD Cert.KernelAdamDown.τ).loc Cert.KernelAdamDown.main_arg1)
      ∧ r.2.mem ((c.tc : Thread Cert.KernelAdamDown.nD Cert.KernelAdamDown.τ).loc Cert.KernelAdamDown.main_arg2) = m ((c.tc : Thread Cert.KernelAdamDown.nD Cert.KernelAdamDown.τ).loc Cert.KernelAdamDown.main_arg2)
      ∧ r.2.mem ((c.tc : Thread Cert.KernelAdamDown.nD Cert.KernelAdamDown.τ).loc Cert.KernelAdamDown.main_arg3) = m ((c.tc : Thread Cert.KernelAdamDown.nD Cert.KernelAdamDown.τ).loc Cert.KernelAdamDown.main_arg3))
      ∧ r.2.sem = fun _ => 0)

def quiescent_KernelAdamDownIdeal [hKernelAdamDownIdeal : Cert.KernelAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg), Pre_KernelAdamDownIdeal m →
    θ_run (Cert.KernelAdamDownIdeal.defs (F := Ideal)) (onTc (τ := Cert.KernelAdamDownIdeal.τ) (Cert.KernelAdamDownIdeal.main (F := Ideal))) ⟨m, fun _ => 0, g⟩ (fun r => (∀ c : Dev Cert.KernelAdamDownIdeal.nD,
      r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
      ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
      ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
      ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0)

def quiescent_KernelAdamAda [hKernelAdamAda : Cert.KernelAdamAda.Facts] : Prop :=
  ∀ (m : (ℓ : Loc Cert.KernelAdamAda.nD Cert.KernelAdamAda.τ Cert.KernelAdamAda.sig) → Buf (Elt Bits) ℓ) (g : Dev Cert.KernelAdamAda.nD → PrngReg), Pre_KernelAdamAda m →
    θ_run (Cert.KernelAdamAda.defs (F := Bits)) (onTc (τ := Cert.KernelAdamAda.τ) (Cert.KernelAdamAda.main (F := Bits))) ⟨m, fun _ => 0, g⟩ (fun r => (∀ c : Dev Cert.KernelAdamAda.nD,
      r.2.mem ((c.tc : Thread Cert.KernelAdamAda.nD Cert.KernelAdamAda.τ).loc Cert.KernelAdamAda.main_arg0) = m ((c.tc : Thread Cert.KernelAdamAda.nD Cert.KernelAdamAda.τ).loc Cert.KernelAdamAda.main_arg0)
      ∧ r.2.mem ((c.tc : Thread Cert.KernelAdamAda.nD Cert.KernelAdamAda.τ).loc Cert.KernelAdamAda.main_arg1) = m ((c.tc : Thread Cert.KernelAdamAda.nD Cert.KernelAdamAda.τ).loc Cert.KernelAdamAda.main_arg1)
      ∧ r.2.mem ((c.tc : Thread Cert.KernelAdamAda.nD Cert.KernelAdamAda.τ).loc Cert.KernelAdamAda.main_arg2) = m ((c.tc : Thread Cert.KernelAdamAda.nD Cert.KernelAdamAda.τ).loc Cert.KernelAdamAda.main_arg2)
      ∧ r.2.mem ((c.tc : Thread Cert.KernelAdamAda.nD Cert.KernelAdamAda.τ).loc Cert.KernelAdamAda.main_arg3) = m ((c.tc : Thread Cert.KernelAdamAda.nD Cert.KernelAdamAda.τ).loc Cert.KernelAdamAda.main_arg3))
      ∧ r.2.sem = fun _ => 0)

def quiescent_KernelAdamAdaIdeal [hKernelAdamAdaIdeal : Cert.KernelAdamAdaIdeal.Facts] : Prop :=
  ∀ (m : (ℓ : Loc Cert.KernelAdamAdaIdeal.nD Cert.KernelAdamAdaIdeal.τ Cert.KernelAdamAdaIdeal.sig) → Buf (Elt Ideal) ℓ) (g : Dev Cert.KernelAdamAdaIdeal.nD → PrngReg), Pre_KernelAdamAdaIdeal m →
    θ_run (Cert.KernelAdamAdaIdeal.defs (F := Ideal)) (onTc (τ := Cert.KernelAdamAdaIdeal.τ) (Cert.KernelAdamAdaIdeal.main (F := Ideal))) ⟨m, fun _ => 0, g⟩ (fun r => (∀ c : Dev Cert.KernelAdamAdaIdeal.nD,
      r.2.mem ((c.tc : Thread Cert.KernelAdamAdaIdeal.nD Cert.KernelAdamAdaIdeal.τ).loc Cert.KernelAdamAdaIdeal.main_arg0) = m ((c.tc : Thread Cert.KernelAdamAdaIdeal.nD Cert.KernelAdamAdaIdeal.τ).loc Cert.KernelAdamAdaIdeal.main_arg0)
      ∧ r.2.mem ((c.tc : Thread Cert.KernelAdamAdaIdeal.nD Cert.KernelAdamAdaIdeal.τ).loc Cert.KernelAdamAdaIdeal.main_arg1) = m ((c.tc : Thread Cert.KernelAdamAdaIdeal.nD Cert.KernelAdamAdaIdeal.τ).loc Cert.KernelAdamAdaIdeal.main_arg1)
      ∧ r.2.mem ((c.tc : Thread Cert.KernelAdamAdaIdeal.nD Cert.KernelAdamAdaIdeal.τ).loc Cert.KernelAdamAdaIdeal.main_arg2) = m ((c.tc : Thread Cert.KernelAdamAdaIdeal.nD Cert.KernelAdamAdaIdeal.τ).loc Cert.KernelAdamAdaIdeal.main_arg2)
      ∧ r.2.mem ((c.tc : Thread Cert.KernelAdamAdaIdeal.nD Cert.KernelAdamAdaIdeal.τ).loc Cert.KernelAdamAdaIdeal.main_arg3) = m ((c.tc : Thread Cert.KernelAdamAdaIdeal.nD Cert.KernelAdamAdaIdeal.τ).loc Cert.KernelAdamAdaIdeal.main_arg3))
      ∧ r.2.sem = fun _ => 0)

def quiescent_ReferenceAdamAdaIdeal [hReferenceAdamAdaIdeal : Cert.ReferenceAdamAdaIdeal.Facts] : Prop :=
  ∀ (m : (ℓ : Loc Cert.ReferenceAdamAdaIdeal.nD Cert.ReferenceAdamAdaIdeal.τ Cert.ReferenceAdamAdaIdeal.sig) → Buf (Elt Ideal) ℓ) (g : Dev Cert.ReferenceAdamAdaIdeal.nD → PrngReg), Pre_ReferenceAdamAdaIdeal m →
    θ_run (Cert.ReferenceAdamAdaIdeal.defs (F := Ideal)) (onTc (τ := Cert.ReferenceAdamAdaIdeal.τ) (Cert.ReferenceAdamAdaIdeal.main (F := Ideal))) ⟨m, fun _ => 0, g⟩ (fun r => (∀ c : Dev Cert.ReferenceAdamAdaIdeal.nD,
      r.2.mem ((c.tc : Thread Cert.ReferenceAdamAdaIdeal.nD Cert.ReferenceAdamAdaIdeal.τ).loc Cert.ReferenceAdamAdaIdeal.main_arg0) = m ((c.tc : Thread Cert.ReferenceAdamAdaIdeal.nD Cert.ReferenceAdamAdaIdeal.τ).loc Cert.ReferenceAdamAdaIdeal.main_arg0)
      ∧ r.2.mem ((c.tc : Thread Cert.ReferenceAdamAdaIdeal.nD Cert.ReferenceAdamAdaIdeal.τ).loc Cert.ReferenceAdamAdaIdeal.main_arg1) = m ((c.tc : Thread Cert.ReferenceAdamAdaIdeal.nD Cert.ReferenceAdamAdaIdeal.τ).loc Cert.ReferenceAdamAdaIdeal.main_arg1)
      ∧ r.2.mem ((c.tc : Thread Cert.ReferenceAdamAdaIdeal.nD Cert.ReferenceAdamAdaIdeal.τ).loc Cert.ReferenceAdamAdaIdeal.main_arg2) = m ((c.tc : Thread Cert.ReferenceAdamAdaIdeal.nD Cert.ReferenceAdamAdaIdeal.τ).loc Cert.ReferenceAdamAdaIdeal.main_arg2)
      ∧ r.2.mem ((c.tc : Thread Cert.ReferenceAdamAdaIdeal.nD Cert.ReferenceAdamAdaIdeal.τ).loc Cert.ReferenceAdamAdaIdeal.main_arg3) = m ((c.tc : Thread Cert.ReferenceAdamAdaIdeal.nD Cert.ReferenceAdamAdaIdeal.τ).loc Cert.ReferenceAdamAdaIdeal.main_arg3))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1))
      ∧ r.2.sem = fun _ => 0)

def quiescent_KernelBias [hKernelBias : Cert.KernelBias.Facts] : Prop :=
  ∀ (m : (ℓ : Loc Cert.KernelBias.nD Cert.KernelBias.τ Cert.KernelBias.sig) → Buf (Elt Bits) ℓ) (g : Dev Cert.KernelBias.nD → PrngReg), Pre_KernelBias m →
    θ_run (Cert.KernelBias.defs (F := Bits)) (onTc (τ := Cert.KernelBias.τ) (Cert.KernelBias.main (F := Bits))) ⟨m, fun _ => 0, g⟩ (fun r => (∀ c : Dev Cert.KernelBias.nD,
      r.2.mem ((c.tc : Thread Cert.KernelBias.nD Cert.KernelBias.τ).loc Cert.KernelBias.main_arg0) = m ((c.tc : Thread Cert.KernelBias.nD Cert.KernelBias.τ).loc Cert.KernelBias.main_arg0))
      ∧ r.2.sem = fun _ => 0)

def quiescent_KernelBiasIdeal [hKernelBiasIdeal : Cert.KernelBiasIdeal.Facts] : Prop :=
  ∀ (m : (ℓ : Loc Cert.KernelBiasIdeal.nD Cert.KernelBiasIdeal.τ Cert.KernelBiasIdeal.sig) → Buf (Elt Ideal) ℓ) (g : Dev Cert.KernelBiasIdeal.nD → PrngReg), Pre_KernelBiasIdeal m →
    θ_run (Cert.KernelBiasIdeal.defs (F := Ideal)) (onTc (τ := Cert.KernelBiasIdeal.τ) (Cert.KernelBiasIdeal.main (F := Ideal))) ⟨m, fun _ => 0, g⟩ (fun r => (∀ c : Dev Cert.KernelBiasIdeal.nD,
      r.2.mem ((c.tc : Thread Cert.KernelBiasIdeal.nD Cert.KernelBiasIdeal.τ).loc Cert.KernelBiasIdeal.main_arg0) = m ((c.tc : Thread Cert.KernelBiasIdeal.nD Cert.KernelBiasIdeal.τ).loc Cert.KernelBiasIdeal.main_arg0))
      ∧ r.2.sem = fun _ => 0)

def quiescent_ReferenceBiasIdeal [hReferenceBiasIdeal : Cert.ReferenceBiasIdeal.Facts] : Prop :=
  ∀ (m : (ℓ : Loc Cert.ReferenceBiasIdeal.nD Cert.ReferenceBiasIdeal.τ Cert.ReferenceBiasIdeal.sig) → Buf (Elt Ideal) ℓ) (g : Dev Cert.ReferenceBiasIdeal.nD → PrngReg), Pre_ReferenceBiasIdeal m →
    θ_run (Cert.ReferenceBiasIdeal.defs (F := Ideal)) (onTc (τ := Cert.ReferenceBiasIdeal.τ) (Cert.ReferenceBiasIdeal.main (F := Ideal))) ⟨m, fun _ => 0, g⟩ (fun r => (∀ c : Dev Cert.ReferenceBiasIdeal.nD,
      r.2.mem ((c.tc : Thread Cert.ReferenceBiasIdeal.nD Cert.ReferenceBiasIdeal.τ).loc Cert.ReferenceBiasIdeal.main_arg0) = m ((c.tc : Thread Cert.ReferenceBiasIdeal.nD Cert.ReferenceBiasIdeal.τ).loc Cert.ReferenceBiasIdeal.main_arg0))
      ∧ r.2.sem = fun _ => 0)

def quiescent_KernelParts [hKernelParts : Cert.KernelParts.Facts] : Prop :=
  ∀ (m : (ℓ : Loc Cert.KernelParts.nD Cert.KernelParts.τ Cert.KernelParts.sig) → Buf (Elt Bits) ℓ) (g : Dev Cert.KernelParts.nD → PrngReg), Pre_KernelParts m →
    θ_run (Cert.KernelParts.defs (F := Bits)) (onTc (τ := Cert.KernelParts.τ) (Cert.KernelParts.main (F := Bits))) ⟨m, fun _ => 0, g⟩ (fun r => (∀ c : Dev Cert.KernelParts.nD,
      r.2.mem ((c.tc : Thread Cert.KernelParts.nD Cert.KernelParts.τ).loc Cert.KernelParts.main_arg0) = m ((c.tc : Thread Cert.KernelParts.nD Cert.KernelParts.τ).loc Cert.KernelParts.main_arg0))
      ∧ r.2.sem = fun _ => 0)

def quiescent_KernelPartsIdeal [hKernelPartsIdeal : Cert.KernelPartsIdeal.Facts] : Prop :=
  ∀ (m : (ℓ : Loc Cert.KernelPartsIdeal.nD Cert.KernelPartsIdeal.τ Cert.KernelPartsIdeal.sig) → Buf (Elt Ideal) ℓ) (g : Dev Cert.KernelPartsIdeal.nD → PrngReg), Pre_KernelPartsIdeal m →
    θ_run (Cert.KernelPartsIdeal.defs (F := Ideal)) (onTc (τ := Cert.KernelPartsIdeal.τ) (Cert.KernelPartsIdeal.main (F := Ideal))) ⟨m, fun _ => 0, g⟩ (fun r => (∀ c : Dev Cert.KernelPartsIdeal.nD,
      r.2.mem ((c.tc : Thread Cert.KernelPartsIdeal.nD Cert.KernelPartsIdeal.τ).loc Cert.KernelPartsIdeal.main_arg0) = m ((c.tc : Thread Cert.KernelPartsIdeal.nD Cert.KernelPartsIdeal.τ).loc Cert.KernelPartsIdeal.main_arg0))
      ∧ r.2.sem = fun _ => 0)

def quiescent_ReferencePartsIdeal [hReferencePartsIdeal : Cert.ReferencePartsIdeal.Facts] : Prop :=
  ∀ (m : (ℓ : Loc Cert.ReferencePartsIdeal.nD Cert.ReferencePartsIdeal.τ Cert.ReferencePartsIdeal.sig) → Buf (Elt Ideal) ℓ) (g : Dev Cert.ReferencePartsIdeal.nD → PrngReg), Pre_ReferencePartsIdeal m →
    θ_run (Cert.ReferencePartsIdeal.defs (F := Ideal)) (onTc (τ := Cert.ReferencePartsIdeal.τ) (Cert.ReferencePartsIdeal.main (F := Ideal))) ⟨m, fun _ => 0, g⟩ (fun r => (∀ c : Dev Cert.ReferencePartsIdeal.nD,
      r.2.mem ((c.tc : Thread Cert.ReferencePartsIdeal.nD Cert.ReferencePartsIdeal.τ).loc Cert.ReferencePartsIdeal.main_arg0) = m ((c.tc : Thread Cert.ReferencePartsIdeal.nD Cert.ReferencePartsIdeal.τ).loc Cert.ReferencePartsIdeal.main_arg0))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)) (v2 : (c : Dev Cert.KernelIdeal.nD) → Buf (Elt Ideal) ((c.tc : Thread Cert.KernelIdeal.nD Cert.KernelIdeal.τ).loc Cert.KernelIdeal.main_v57_2)) (v3 : (c : Dev Cert.KernelIdeal.nD) → Buf (Elt Ideal) ((c.tc : Thread Cert.KernelIdeal.nD Cert.KernelIdeal.τ).loc Cert.KernelIdeal.main_v57_3)) (v4 : (c : Dev Cert.KernelIdeal.nD) → Buf (Elt Ideal) ((c.tc : Thread Cert.KernelIdeal.nD Cert.KernelIdeal.τ).loc Cert.KernelIdeal.main_v57_4)) (v5 : (c : Dev Cert.KernelIdeal.nD) → Buf (Elt Ideal) ((c.tc : Thread Cert.KernelIdeal.nD Cert.KernelIdeal.τ).loc Cert.KernelIdeal.main_v57_5)) (v6 : (c : Dev Cert.KernelIdeal.nD) → Buf (Elt Ideal) ((c.tc : Thread Cert.KernelIdeal.nD Cert.KernelIdeal.τ).loc Cert.KernelIdeal.main_v57_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_v57_2) = v2 c
          ∧ r.2.mem ((c.tc : Thread Cert.KernelIdeal.nD Cert.KernelIdeal.τ).loc Cert.KernelIdeal.main_v57_3) = v3 c
          ∧ r.2.mem ((c.tc : Thread Cert.KernelIdeal.nD Cert.KernelIdeal.τ).loc Cert.KernelIdeal.main_v57_4) = v4 c
          ∧ r.2.mem ((c.tc : Thread Cert.KernelIdeal.nD Cert.KernelIdeal.τ).loc Cert.KernelIdeal.main_v57_5) = v5 c
          ∧ r.2.mem ((c.tc : Thread Cert.KernelIdeal.nD Cert.KernelIdeal.τ).loc Cert.KernelIdeal.main_v57_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v105) = v3 c
          ∧ r.2.mem ((c.tc : Thread Cert.ReferenceIdeal.nD Cert.ReferenceIdeal.τ).loc Cert.ReferenceIdeal.main_v107) = v4 c
          ∧ r.2.mem ((c.tc : Thread Cert.ReferenceIdeal.nD Cert.ReferenceIdeal.τ).loc Cert.ReferenceIdeal.main_v109) = v5 c
          ∧ r.2.mem ((c.tc : Thread Cert.ReferenceIdeal.nD Cert.ReferenceIdeal.τ).loc Cert.ReferenceIdeal.main_v112) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v5_0)) (v1 : (c : Dev Cert.KernelUpIdeal.nD) → Buf (Elt Ideal) ((c.tc : Thread Cert.KernelUpIdeal.nD Cert.KernelUpIdeal.τ).loc Cert.KernelUpIdeal.main_v5_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v5_0) = v0 c
          ∧ r.2.mem ((c.tc : Thread Cert.KernelUpIdeal.nD Cert.KernelUpIdeal.τ).loc Cert.KernelUpIdeal.main_v5_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v5) = v0 c
          ∧ r.2.mem ((c.tc : Thread Cert.ReferenceUpIdeal.nD Cert.ReferenceUpIdeal.τ).loc Cert.ReferenceUpIdeal.main_v6) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v5_0)) (v1 : (c : Dev Cert.KernelDownIdeal.nD) → Buf (Elt Ideal) ((c.tc : Thread Cert.KernelDownIdeal.nD Cert.KernelDownIdeal.τ).loc Cert.KernelDownIdeal.main_v5_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v5_0) = v0 c
          ∧ r.2.mem ((c.tc : Thread Cert.KernelDownIdeal.nD Cert.KernelDownIdeal.τ).loc Cert.KernelDownIdeal.main_v5_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_v4) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v5_0)) (v1 : (c : Dev Cert.KernelOutIdeal.nD) → Buf (Elt Ideal) ((c.tc : Thread Cert.KernelOutIdeal.nD Cert.KernelOutIdeal.τ).loc Cert.KernelOutIdeal.main_v5_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v5_0) = v0 c
          ∧ r.2.mem ((c.tc : Thread Cert.KernelOutIdeal.nD Cert.KernelOutIdeal.τ).loc Cert.KernelOutIdeal.main_v5_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_v4) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v6)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v6) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v4) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)
      ∧ m' ((c.tc : Thread Cert.ReferenceFwdIdeal.nD Cert.ReferenceFwdIdeal.τ).loc Cert.ReferenceFwdIdeal.main_arg5) = m ((c.tc : Thread Cert.KernelFwdIdeal.nD Cert.KernelFwdIdeal.τ).loc Cert.KernelFwdIdeal.main_arg5)
      ∧ m' ((c.tc : Thread Cert.ReferenceFwdIdeal.nD Cert.ReferenceFwdIdeal.τ).loc Cert.ReferenceFwdIdeal.main_arg6) = m ((c.tc : Thread Cert.KernelFwdIdeal.nD Cert.KernelFwdIdeal.τ).loc Cert.KernelFwdIdeal.main_arg6)) →
    ∃ (v0 : (c : Dev Cert.KernelFwdIdeal.nD) → Buf (Elt Ideal) ((c.tc : Thread Cert.KernelFwdIdeal.nD Cert.KernelFwdIdeal.τ).loc Cert.KernelFwdIdeal.main_v20_0)) (v1 : (c : Dev Cert.KernelFwdIdeal.nD) → Buf (Elt Ideal) ((c.tc : Thread Cert.KernelFwdIdeal.nD Cert.KernelFwdIdeal.τ).loc Cert.KernelFwdIdeal.main_v20_1)) (v2 : (c : Dev Cert.KernelFwdIdeal.nD) → Buf (Elt Ideal) ((c.tc : Thread Cert.KernelFwdIdeal.nD Cert.KernelFwdIdeal.τ).loc Cert.KernelFwdIdeal.main_v20_2)) (v3 : (c : Dev Cert.KernelFwdIdeal.nD) → Buf (Elt Ideal) ((c.tc : Thread Cert.KernelFwdIdeal.nD Cert.KernelFwdIdeal.τ).loc Cert.KernelFwdIdeal.main_v20_3)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v20_0) = v0 c
          ∧ r.2.mem ((c.tc : Thread Cert.KernelFwdIdeal.nD Cert.KernelFwdIdeal.τ).loc Cert.KernelFwdIdeal.main_v20_1) = v1 c
          ∧ r.2.mem ((c.tc : Thread Cert.KernelFwdIdeal.nD Cert.KernelFwdIdeal.τ).loc Cert.KernelFwdIdeal.main_v20_2) = v2 c
          ∧ r.2.mem ((c.tc : Thread Cert.KernelFwdIdeal.nD Cert.KernelFwdIdeal.τ).loc Cert.KernelFwdIdeal.main_v20_3) = v3 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
          ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
          ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v38) = v0 c
          ∧ r.2.mem ((c.tc : Thread Cert.ReferenceFwdIdeal.nD Cert.ReferenceFwdIdeal.τ).loc Cert.ReferenceFwdIdeal.main_v40) = v1 c
          ∧ r.2.mem ((c.tc : Thread Cert.ReferenceFwdIdeal.nD Cert.ReferenceFwdIdeal.τ).loc Cert.ReferenceFwdIdeal.main_v42) = v2 c
          ∧ r.2.mem ((c.tc : Thread Cert.ReferenceFwdIdeal.nD Cert.ReferenceFwdIdeal.τ).loc Cert.ReferenceFwdIdeal.main_v44) = v3 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4)
          ∧ r.2.mem ((c.tc : Thread Cert.ReferenceFwdIdeal.nD Cert.ReferenceFwdIdeal.τ).loc Cert.ReferenceFwdIdeal.main_arg5) = m' ((c.tc : Thread Cert.ReferenceFwdIdeal.nD Cert.ReferenceFwdIdeal.τ).loc Cert.ReferenceFwdIdeal.main_arg5)
          ∧ r.2.mem ((c.tc : Thread Cert.ReferenceFwdIdeal.nD Cert.ReferenceFwdIdeal.τ).loc Cert.ReferenceFwdIdeal.main_arg6) = m' ((c.tc : Thread Cert.ReferenceFwdIdeal.nD Cert.ReferenceFwdIdeal.τ).loc Cert.ReferenceFwdIdeal.main_arg6))

def preserves_KernelMixIn_KernelMixInIdeal : Prop :=
  True

def algebraic_KernelMixInIdeal_ReferenceMixInIdeal [hKernelMixInIdeal : Cert.KernelMixInIdeal.Facts] [hReferenceMixInIdeal : Cert.ReferenceMixInIdeal.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg)
    (m' : (ℓ : Loc Cert.ReferenceMixInIdeal.nD Cert.ReferenceMixInIdeal.τ Cert.ReferenceMixInIdeal.sig) → Buf (Elt Ideal) ℓ) (g' : Dev Cert.ReferenceMixInIdeal.nD → PrngReg), Pre_KernelMixInIdeal m →
    (∀ c : Dev Cert.KernelMixInIdeal.nD,
      m' ((c.tc : Thread Cert.ReferenceMixInIdeal.nD Cert.ReferenceMixInIdeal.τ).loc Cert.ReferenceMixInIdeal.main_arg0) = m ((c.tc : Thread Cert.KernelMixInIdeal.nD Cert.KernelMixInIdeal.τ).loc Cert.KernelMixInIdeal.main_arg0)
      ∧ m' ((c.tc : Thread Cert.ReferenceMixInIdeal.nD Cert.ReferenceMixInIdeal.τ).loc Cert.ReferenceMixInIdeal.main_arg1) = m ((c.tc : Thread Cert.KernelMixInIdeal.nD Cert.KernelMixInIdeal.τ).loc Cert.KernelMixInIdeal.main_arg1)
      ∧ m' ((c.tc : Thread Cert.ReferenceMixInIdeal.nD Cert.ReferenceMixInIdeal.τ).loc Cert.ReferenceMixInIdeal.main_arg2) = m ((c.tc : Thread Cert.KernelMixInIdeal.nD Cert.KernelMixInIdeal.τ).loc Cert.KernelMixInIdeal.main_arg2)
      ∧ m' ((c.tc : Thread Cert.ReferenceMixInIdeal.nD Cert.ReferenceMixInIdeal.τ).loc Cert.ReferenceMixInIdeal.main_arg3) = m ((c.tc : Thread Cert.KernelMixInIdeal.nD Cert.KernelMixInIdeal.τ).loc Cert.KernelMixInIdeal.main_arg3)
      ∧ m' ((c.tc : Thread Cert.ReferenceMixInIdeal.nD Cert.ReferenceMixInIdeal.τ).loc Cert.ReferenceMixInIdeal.main_arg4) = m ((c.tc : Thread Cert.KernelMixInIdeal.nD Cert.KernelMixInIdeal.τ).loc Cert.KernelMixInIdeal.main_arg4)) →
    ∃ (v0 : (c : Dev Cert.KernelMixInIdeal.nD) → Buf (Elt Ideal) ((c.tc : Thread Cert.KernelMixInIdeal.nD Cert.KernelMixInIdeal.τ).loc Cert.KernelMixInIdeal.main_v16_0)) (v1 : (c : Dev Cert.KernelMixInIdeal.nD) → Buf (Elt Ideal) ((c.tc : Thread Cert.KernelMixInIdeal.nD Cert.KernelMixInIdeal.τ).loc Cert.KernelMixInIdeal.main_v16_1)),
      θ_run (Cert.KernelMixInIdeal.defs (F := Ideal)) (onTc (τ := Cert.KernelMixInIdeal.τ) (Cert.KernelMixInIdeal.main (F := Ideal))) ⟨m, fun _ => 0, g⟩ (fun r => ∀ c : Dev Cert.KernelMixInIdeal.nD,
          r.2.mem ((c.tc : Thread Cert.KernelMixInIdeal.nD Cert.KernelMixInIdeal.τ).loc Cert.KernelMixInIdeal.main_v16_0) = v0 c
          ∧ r.2.mem ((c.tc : Thread Cert.KernelMixInIdeal.nD Cert.KernelMixInIdeal.τ).loc Cert.KernelMixInIdeal.main_v16_1) = v1 c
          ∧ r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
          ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1)
          ∧ r.2.mem ((c.tc : Thread Cert.KernelMixInIdeal.nD Cert.KernelMixInIdeal.τ).loc Cert.KernelMixInIdeal.main_arg2) = m ((c.tc : Thread Cert.KernelMixInIdeal.nD Cert.KernelMixInIdeal.τ).loc Cert.KernelMixInIdeal.main_arg2)
          ∧ r.2.mem ((c.tc : Thread Cert.KernelMixInIdeal.nD Cert.KernelMixInIdeal.τ).loc Cert.KernelMixInIdeal.main_arg3) = m ((c.tc : Thread Cert.KernelMixInIdeal.nD Cert.KernelMixInIdeal.τ).loc Cert.KernelMixInIdeal.main_arg3)
          ∧ r.2.mem ((c.tc : Thread Cert.KernelMixInIdeal.nD Cert.KernelMixInIdeal.τ).loc Cert.KernelMixInIdeal.main_arg4) = m ((c.tc : Thread Cert.KernelMixInIdeal.nD Cert.KernelMixInIdeal.τ).loc Cert.KernelMixInIdeal.main_arg4))
      ∧ θ_run (Cert.ReferenceMixInIdeal.defs (F := Ideal)) (onTc (τ := Cert.ReferenceMixInIdeal.τ) (Cert.ReferenceMixInIdeal.main (F := Ideal))) ⟨m', fun _ => 0, g'⟩ (fun r => ∀ c : Dev Cert.ReferenceMixInIdeal.nD,
          r.2.mem ((c.tc : Thread Cert.ReferenceMixInIdeal.nD Cert.ReferenceMixInIdeal.τ).loc Cert.ReferenceMixInIdeal.main_v24) = v0 c
          ∧ r.2.mem ((c.tc : Thread Cert.ReferenceMixInIdeal.nD Cert.ReferenceMixInIdeal.τ).loc Cert.ReferenceMixInIdeal.main_v26) = v1 c
          ∧ r.2.mem ((c.tc : Thread Cert.ReferenceMixInIdeal.nD Cert.ReferenceMixInIdeal.τ).loc Cert.ReferenceMixInIdeal.main_arg0) = m' ((c.tc : Thread Cert.ReferenceMixInIdeal.nD Cert.ReferenceMixInIdeal.τ).loc Cert.ReferenceMixInIdeal.main_arg0)
          ∧ r.2.mem ((c.tc : Thread Cert.ReferenceMixInIdeal.nD Cert.ReferenceMixInIdeal.τ).loc Cert.ReferenceMixInIdeal.main_arg1) = m' ((c.tc : Thread Cert.ReferenceMixInIdeal.nD Cert.ReferenceMixInIdeal.τ).loc Cert.ReferenceMixInIdeal.main_arg1)
          ∧ r.2.mem ((c.tc : Thread Cert.ReferenceMixInIdeal.nD Cert.ReferenceMixInIdeal.τ).loc Cert.ReferenceMixInIdeal.main_arg2) = m' ((c.tc : Thread Cert.ReferenceMixInIdeal.nD Cert.ReferenceMixInIdeal.τ).loc Cert.ReferenceMixInIdeal.main_arg2)
          ∧ r.2.mem ((c.tc : Thread Cert.ReferenceMixInIdeal.nD Cert.ReferenceMixInIdeal.τ).loc Cert.ReferenceMixInIdeal.main_arg3) = m' ((c.tc : Thread Cert.ReferenceMixInIdeal.nD Cert.ReferenceMixInIdeal.τ).loc Cert.ReferenceMixInIdeal.main_arg3)
          ∧ r.2.mem ((c.tc : Thread Cert.ReferenceMixInIdeal.nD Cert.ReferenceMixInIdeal.τ).loc Cert.ReferenceMixInIdeal.main_arg4) = m' ((c.tc : Thread Cert.ReferenceMixInIdeal.nD Cert.ReferenceMixInIdeal.τ).loc Cert.ReferenceMixInIdeal.main_arg4))

def preserves_KernelMixOut_KernelMixOutIdeal : Prop :=
  True

def algebraic_KernelMixOutIdeal_ReferenceMixOutIdeal [hKernelMixOutIdeal : Cert.KernelMixOutIdeal.Facts] [hReferenceMixOutIdeal : Cert.ReferenceMixOutIdeal.Facts] : Prop :=
  ∀ (m : (ℓ : Loc Cert.KernelMixOutIdeal.nD Cert.KernelMixOutIdeal.τ Cert.KernelMixOutIdeal.sig) → Buf (Elt Ideal) ℓ) (g : Dev Cert.KernelMixOutIdeal.nD → PrngReg)
    (m' : (ℓ : Loc Cert.ReferenceMixOutIdeal.nD Cert.ReferenceMixOutIdeal.τ Cert.ReferenceMixOutIdeal.sig) → Buf (Elt Ideal) ℓ) (g' : Dev Cert.ReferenceMixOutIdeal.nD → PrngReg), Pre_KernelMixOutIdeal m →
    (∀ c : Dev Cert.KernelMixOutIdeal.nD,
      m' ((c.tc : Thread Cert.ReferenceMixOutIdeal.nD Cert.ReferenceMixOutIdeal.τ).loc Cert.ReferenceMixOutIdeal.main_arg0) = m ((c.tc : Thread Cert.KernelMixOutIdeal.nD Cert.KernelMixOutIdeal.τ).loc Cert.KernelMixOutIdeal.main_arg0)
      ∧ m' ((c.tc : Thread Cert.ReferenceMixOutIdeal.nD Cert.ReferenceMixOutIdeal.τ).loc Cert.ReferenceMixOutIdeal.main_arg1) = m ((c.tc : Thread Cert.KernelMixOutIdeal.nD Cert.KernelMixOutIdeal.τ).loc Cert.KernelMixOutIdeal.main_arg1)
      ∧ m' ((c.tc : Thread Cert.ReferenceMixOutIdeal.nD Cert.ReferenceMixOutIdeal.τ).loc Cert.ReferenceMixOutIdeal.main_arg2) = m ((c.tc : Thread Cert.KernelMixOutIdeal.nD Cert.KernelMixOutIdeal.τ).loc Cert.KernelMixOutIdeal.main_arg2)
      ∧ m' ((c.tc : Thread Cert.ReferenceMixOutIdeal.nD Cert.ReferenceMixOutIdeal.τ).loc Cert.ReferenceMixOutIdeal.main_arg3) = m ((c.tc : Thread Cert.KernelMixOutIdeal.nD Cert.KernelMixOutIdeal.τ).loc Cert.KernelMixOutIdeal.main_arg3)
      ∧ m' ((c.tc : Thread Cert.ReferenceMixOutIdeal.nD Cert.ReferenceMixOutIdeal.τ).loc Cert.ReferenceMixOutIdeal.main_arg4) = m ((c.tc : Thread Cert.KernelMixOutIdeal.nD Cert.KernelMixOutIdeal.τ).loc Cert.KernelMixOutIdeal.main_arg4)
      ∧ m' ((c.tc : Thread Cert.ReferenceMixOutIdeal.nD Cert.ReferenceMixOutIdeal.τ).loc Cert.ReferenceMixOutIdeal.main_arg5) = m ((c.tc : Thread Cert.KernelMixOutIdeal.nD Cert.KernelMixOutIdeal.τ).loc Cert.KernelMixOutIdeal.main_arg5)
      ∧ m' ((c.tc : Thread Cert.ReferenceMixOutIdeal.nD Cert.ReferenceMixOutIdeal.τ).loc Cert.ReferenceMixOutIdeal.main_arg6) = m ((c.tc : Thread Cert.KernelMixOutIdeal.nD Cert.KernelMixOutIdeal.τ).loc Cert.KernelMixOutIdeal.main_arg6)) →
    ∃ (v0 : (c : Dev Cert.KernelMixOutIdeal.nD) → Buf (Elt Ideal) ((c.tc : Thread Cert.KernelMixOutIdeal.nD Cert.KernelMixOutIdeal.τ).loc Cert.KernelMixOutIdeal.main_v19_0)) (v1 : (c : Dev Cert.KernelMixOutIdeal.nD) → Buf (Elt Ideal) ((c.tc : Thread Cert.KernelMixOutIdeal.nD Cert.KernelMixOutIdeal.τ).loc Cert.KernelMixOutIdeal.main_v19_1)) (v2 : (c : Dev Cert.KernelMixOutIdeal.nD) → Buf (Elt Ideal) ((c.tc : Thread Cert.KernelMixOutIdeal.nD Cert.KernelMixOutIdeal.τ).loc Cert.KernelMixOutIdeal.main_v19_2)),
      θ_run (Cert.KernelMixOutIdeal.defs (F := Ideal)) (onTc (τ := Cert.KernelMixOutIdeal.τ) (Cert.KernelMixOutIdeal.main (F := Ideal))) ⟨m, fun _ => 0, g⟩ (fun r => ∀ c : Dev Cert.KernelMixOutIdeal.nD,
          r.2.mem ((c.tc : Thread Cert.KernelMixOutIdeal.nD Cert.KernelMixOutIdeal.τ).loc Cert.KernelMixOutIdeal.main_v19_0) = v0 c
          ∧ r.2.mem ((c.tc : Thread Cert.KernelMixOutIdeal.nD Cert.KernelMixOutIdeal.τ).loc Cert.KernelMixOutIdeal.main_v19_1) = v1 c
          ∧ r.2.mem ((c.tc : Thread Cert.KernelMixOutIdeal.nD Cert.KernelMixOutIdeal.τ).loc Cert.KernelMixOutIdeal.main_v19_2) = v2 c
          ∧ r.2.mem ((c.tc : Thread Cert.KernelMixOutIdeal.nD Cert.KernelMixOutIdeal.τ).loc Cert.KernelMixOutIdeal.main_arg0) = m ((c.tc : Thread Cert.KernelMixOutIdeal.nD Cert.KernelMixOutIdeal.τ).loc Cert.KernelMixOutIdeal.main_arg0)
          ∧ r.2.mem ((c.tc : Thread Cert.KernelMixOutIdeal.nD Cert.KernelMixOutIdeal.τ).loc Cert.KernelMixOutIdeal.main_arg1) = m ((c.tc : Thread Cert.KernelMixOutIdeal.nD Cert.KernelMixOutIdeal.τ).loc Cert.KernelMixOutIdeal.main_arg1)
          ∧ r.2.mem ((c.tc : Thread Cert.KernelMixOutIdeal.nD Cert.KernelMixOutIdeal.τ).loc Cert.KernelMixOutIdeal.main_arg2) = m ((c.tc : Thread Cert.KernelMixOutIdeal.nD Cert.KernelMixOutIdeal.τ).loc Cert.KernelMixOutIdeal.main_arg2)
          ∧ r.2.mem ((c.tc : Thread Cert.KernelMixOutIdeal.nD Cert.KernelMixOutIdeal.τ).loc Cert.KernelMixOutIdeal.main_arg3) = m ((c.tc : Thread Cert.KernelMixOutIdeal.nD Cert.KernelMixOutIdeal.τ).loc Cert.KernelMixOutIdeal.main_arg3)
          ∧ r.2.mem ((c.tc : Thread Cert.KernelMixOutIdeal.nD Cert.KernelMixOutIdeal.τ).loc Cert.KernelMixOutIdeal.main_arg4) = m ((c.tc : Thread Cert.KernelMixOutIdeal.nD Cert.KernelMixOutIdeal.τ).loc Cert.KernelMixOutIdeal.main_arg4)
          ∧ r.2.mem ((c.tc : Thread Cert.KernelMixOutIdeal.nD Cert.KernelMixOutIdeal.τ).loc Cert.KernelMixOutIdeal.main_arg5) = m ((c.tc : Thread Cert.KernelMixOutIdeal.nD Cert.KernelMixOutIdeal.τ).loc Cert.KernelMixOutIdeal.main_arg5)
          ∧ r.2.mem ((c.tc : Thread Cert.KernelMixOutIdeal.nD Cert.KernelMixOutIdeal.τ).loc Cert.KernelMixOutIdeal.main_arg6) = m ((c.tc : Thread Cert.KernelMixOutIdeal.nD Cert.KernelMixOutIdeal.τ).loc Cert.KernelMixOutIdeal.main_arg6))
      ∧ θ_run (Cert.ReferenceMixOutIdeal.defs (F := Ideal)) (onTc (τ := Cert.ReferenceMixOutIdeal.τ) (Cert.ReferenceMixOutIdeal.main (F := Ideal))) ⟨m', fun _ => 0, g'⟩ (fun r => ∀ c : Dev Cert.ReferenceMixOutIdeal.nD,
          r.2.mem ((c.tc : Thread Cert.ReferenceMixOutIdeal.nD Cert.ReferenceMixOutIdeal.τ).loc Cert.ReferenceMixOutIdeal.main_v43) = v0 c
          ∧ r.2.mem ((c.tc : Thread Cert.ReferenceMixOutIdeal.nD Cert.ReferenceMixOutIdeal.τ).loc Cert.ReferenceMixOutIdeal.main_v45) = v1 c
          ∧ r.2.mem ((c.tc : Thread Cert.ReferenceMixOutIdeal.nD Cert.ReferenceMixOutIdeal.τ).loc Cert.ReferenceMixOutIdeal.main_v47) = v2 c
          ∧ r.2.mem ((c.tc : Thread Cert.ReferenceMixOutIdeal.nD Cert.ReferenceMixOutIdeal.τ).loc Cert.ReferenceMixOutIdeal.main_arg0) = m' ((c.tc : Thread Cert.ReferenceMixOutIdeal.nD Cert.ReferenceMixOutIdeal.τ).loc Cert.ReferenceMixOutIdeal.main_arg0)
          ∧ r.2.mem ((c.tc : Thread Cert.ReferenceMixOutIdeal.nD Cert.ReferenceMixOutIdeal.τ).loc Cert.ReferenceMixOutIdeal.main_arg1) = m' ((c.tc : Thread Cert.ReferenceMixOutIdeal.nD Cert.ReferenceMixOutIdeal.τ).loc Cert.ReferenceMixOutIdeal.main_arg1)
          ∧ r.2.mem ((c.tc : Thread Cert.ReferenceMixOutIdeal.nD Cert.ReferenceMixOutIdeal.τ).loc Cert.ReferenceMixOutIdeal.main_arg2) = m' ((c.tc : Thread Cert.ReferenceMixOutIdeal.nD Cert.ReferenceMixOutIdeal.τ).loc Cert.ReferenceMixOutIdeal.main_arg2)
          ∧ r.2.mem ((c.tc : Thread Cert.ReferenceMixOutIdeal.nD Cert.ReferenceMixOutIdeal.τ).loc Cert.ReferenceMixOutIdeal.main_arg3) = m' ((c.tc : Thread Cert.ReferenceMixOutIdeal.nD Cert.ReferenceMixOutIdeal.τ).loc Cert.ReferenceMixOutIdeal.main_arg3)
          ∧ r.2.mem ((c.tc : Thread Cert.ReferenceMixOutIdeal.nD Cert.ReferenceMixOutIdeal.τ).loc Cert.ReferenceMixOutIdeal.main_arg4) = m' ((c.tc : Thread Cert.ReferenceMixOutIdeal.nD Cert.ReferenceMixOutIdeal.τ).loc Cert.ReferenceMixOutIdeal.main_arg4)
          ∧ r.2.mem ((c.tc : Thread Cert.ReferenceMixOutIdeal.nD Cert.ReferenceMixOutIdeal.τ).loc Cert.ReferenceMixOutIdeal.main_arg5) = m' ((c.tc : Thread Cert.ReferenceMixOutIdeal.nD Cert.ReferenceMixOutIdeal.τ).loc Cert.ReferenceMixOutIdeal.main_arg5)
          ∧ r.2.mem ((c.tc : Thread Cert.ReferenceMixOutIdeal.nD Cert.ReferenceMixOutIdeal.τ).loc Cert.ReferenceMixOutIdeal.main_arg6) = m' ((c.tc : Thread Cert.ReferenceMixOutIdeal.nD Cert.ReferenceMixOutIdeal.τ).loc Cert.ReferenceMixOutIdeal.main_arg6))

def preserves_KernelMixInBwd_KernelMixInBwdIdeal : Prop :=
  True

def algebraic_KernelMixInBwdIdeal_ReferenceMixInBwdIdeal_pre_finite_in [hKernelMixInBwdIdeal : Cert.KernelMixInBwdIdeal.Facts] [hReferenceMixInBwdIdeal : Cert.ReferenceMixInBwdIdeal.Facts] [hPre_finite_in : Cert.Pre_finite_in.Facts] : Prop :=
  ∀ (m : (ℓ : Loc Cert.KernelMixInBwdIdeal.nD Cert.KernelMixInBwdIdeal.τ Cert.KernelMixInBwdIdeal.sig) → Buf (Elt Ideal) ℓ) (g : Dev Cert.KernelMixInBwdIdeal.nD → PrngReg)
    (m' : (ℓ : Loc Cert.ReferenceMixInBwdIdeal.nD Cert.ReferenceMixInBwdIdeal.τ Cert.ReferenceMixInBwdIdeal.sig) → Buf (Elt Ideal) ℓ) (g' : Dev Cert.ReferenceMixInBwdIdeal.nD → PrngReg), Pre_KernelMixInBwdIdeal_finite_in m →
    (∀ c : Dev Cert.KernelMixInBwdIdeal.nD,
      m' ((c.tc : Thread Cert.ReferenceMixInBwdIdeal.nD Cert.ReferenceMixInBwdIdeal.τ).loc Cert.ReferenceMixInBwdIdeal.main_arg0) = m ((c.tc : Thread Cert.KernelMixInBwdIdeal.nD Cert.KernelMixInBwdIdeal.τ).loc Cert.KernelMixInBwdIdeal.main_arg0)
      ∧ m' ((c.tc : Thread Cert.ReferenceMixInBwdIdeal.nD Cert.ReferenceMixInBwdIdeal.τ).loc Cert.ReferenceMixInBwdIdeal.main_arg1) = m ((c.tc : Thread Cert.KernelMixInBwdIdeal.nD Cert.KernelMixInBwdIdeal.τ).loc Cert.KernelMixInBwdIdeal.main_arg1)
      ∧ m' ((c.tc : Thread Cert.ReferenceMixInBwdIdeal.nD Cert.ReferenceMixInBwdIdeal.τ).loc Cert.ReferenceMixInBwdIdeal.main_arg2) = m ((c.tc : Thread Cert.KernelMixInBwdIdeal.nD Cert.KernelMixInBwdIdeal.τ).loc Cert.KernelMixInBwdIdeal.main_arg2)
      ∧ m' ((c.tc : Thread Cert.ReferenceMixInBwdIdeal.nD Cert.ReferenceMixInBwdIdeal.τ).loc Cert.ReferenceMixInBwdIdeal.main_arg3) = m ((c.tc : Thread Cert.KernelMixInBwdIdeal.nD Cert.KernelMixInBwdIdeal.τ).loc Cert.KernelMixInBwdIdeal.main_arg3)
      ∧ m' ((c.tc : Thread Cert.ReferenceMixInBwdIdeal.nD Cert.ReferenceMixInBwdIdeal.τ).loc Cert.ReferenceMixInBwdIdeal.main_arg4) = m ((c.tc : Thread Cert.KernelMixInBwdIdeal.nD Cert.KernelMixInBwdIdeal.τ).loc Cert.KernelMixInBwdIdeal.main_arg4)
      ∧ m' ((c.tc : Thread Cert.ReferenceMixInBwdIdeal.nD Cert.ReferenceMixInBwdIdeal.τ).loc Cert.ReferenceMixInBwdIdeal.main_arg5) = m ((c.tc : Thread Cert.KernelMixInBwdIdeal.nD Cert.KernelMixInBwdIdeal.τ).loc Cert.KernelMixInBwdIdeal.main_arg5)
      ∧ m' ((c.tc : Thread Cert.ReferenceMixInBwdIdeal.nD Cert.ReferenceMixInBwdIdeal.τ).loc Cert.ReferenceMixInBwdIdeal.main_arg6) = m ((c.tc : Thread Cert.KernelMixInBwdIdeal.nD Cert.KernelMixInBwdIdeal.τ).loc Cert.KernelMixInBwdIdeal.main_arg6)) →
    ∃ (v0 : (c : Dev Cert.KernelMixInBwdIdeal.nD) → Buf (Elt Ideal) ((c.tc : Thread Cert.KernelMixInBwdIdeal.nD Cert.KernelMixInBwdIdeal.τ).loc Cert.KernelMixInBwdIdeal.main_v20_0)) (v1 : (c : Dev Cert.KernelMixInBwdIdeal.nD) → Buf (Elt Ideal) ((c.tc : Thread Cert.KernelMixInBwdIdeal.nD Cert.KernelMixInBwdIdeal.τ).loc Cert.KernelMixInBwdIdeal.main_v20_1)) (v2 : (c : Dev Cert.KernelMixInBwdIdeal.nD) → Buf (Elt Ideal) ((c.tc : Thread Cert.KernelMixInBwdIdeal.nD Cert.KernelMixInBwdIdeal.τ).loc Cert.KernelMixInBwdIdeal.main_v20_2)),
      θ_run (Cert.KernelMixInBwdIdeal.defs (F := Ideal)) (onTc (τ := Cert.KernelMixInBwdIdeal.τ) (Cert.KernelMixInBwdIdeal.main (F := Ideal))) ⟨m, fun _ => 0, g⟩ (fun r => ∀ c : Dev Cert.KernelMixInBwdIdeal.nD,
          r.2.mem ((c.tc : Thread Cert.KernelMixInBwdIdeal.nD Cert.KernelMixInBwdIdeal.τ).loc Cert.KernelMixInBwdIdeal.main_v20_0) = v0 c
          ∧ r.2.mem ((c.tc : Thread Cert.KernelMixInBwdIdeal.nD Cert.KernelMixInBwdIdeal.τ).loc Cert.KernelMixInBwdIdeal.main_v20_1) = v1 c
          ∧ r.2.mem ((c.tc : Thread Cert.KernelMixInBwdIdeal.nD Cert.KernelMixInBwdIdeal.τ).loc Cert.KernelMixInBwdIdeal.main_v20_2) = v2 c
          ∧ r.2.mem ((c.tc : Thread Cert.KernelMixInBwdIdeal.nD Cert.KernelMixInBwdIdeal.τ).loc Cert.KernelMixInBwdIdeal.main_arg0) = m ((c.tc : Thread Cert.KernelMixInBwdIdeal.nD Cert.KernelMixInBwdIdeal.τ).loc Cert.KernelMixInBwdIdeal.main_arg0)
          ∧ r.2.mem ((c.tc : Thread Cert.KernelMixInBwdIdeal.nD Cert.KernelMixInBwdIdeal.τ).loc Cert.KernelMixInBwdIdeal.main_arg1) = m ((c.tc : Thread Cert.KernelMixInBwdIdeal.nD Cert.KernelMixInBwdIdeal.τ).loc Cert.KernelMixInBwdIdeal.main_arg1)
          ∧ r.2.mem ((c.tc : Thread Cert.KernelMixInBwdIdeal.nD Cert.KernelMixInBwdIdeal.τ).loc Cert.KernelMixInBwdIdeal.main_arg2) = m ((c.tc : Thread Cert.KernelMixInBwdIdeal.nD Cert.KernelMixInBwdIdeal.τ).loc Cert.KernelMixInBwdIdeal.main_arg2)
          ∧ r.2.mem ((c.tc : Thread Cert.KernelMixInBwdIdeal.nD Cert.KernelMixInBwdIdeal.τ).loc Cert.KernelMixInBwdIdeal.main_arg3) = m ((c.tc : Thread Cert.KernelMixInBwdIdeal.nD Cert.KernelMixInBwdIdeal.τ).loc Cert.KernelMixInBwdIdeal.main_arg3)
          ∧ r.2.mem ((c.tc : Thread Cert.KernelMixInBwdIdeal.nD Cert.KernelMixInBwdIdeal.τ).loc Cert.KernelMixInBwdIdeal.main_arg4) = m ((c.tc : Thread Cert.KernelMixInBwdIdeal.nD Cert.KernelMixInBwdIdeal.τ).loc Cert.KernelMixInBwdIdeal.main_arg4)
          ∧ r.2.mem ((c.tc : Thread Cert.KernelMixInBwdIdeal.nD Cert.KernelMixInBwdIdeal.τ).loc Cert.KernelMixInBwdIdeal.main_arg5) = m ((c.tc : Thread Cert.KernelMixInBwdIdeal.nD Cert.KernelMixInBwdIdeal.τ).loc Cert.KernelMixInBwdIdeal.main_arg5)
          ∧ r.2.mem ((c.tc : Thread Cert.KernelMixInBwdIdeal.nD Cert.KernelMixInBwdIdeal.τ).loc Cert.KernelMixInBwdIdeal.main_arg6) = m ((c.tc : Thread Cert.KernelMixInBwdIdeal.nD Cert.KernelMixInBwdIdeal.τ).loc Cert.KernelMixInBwdIdeal.main_arg6))
      ∧ θ_run (Cert.ReferenceMixInBwdIdeal.defs (F := Ideal)) (onTc (τ := Cert.ReferenceMixInBwdIdeal.τ) (Cert.ReferenceMixInBwdIdeal.main (F := Ideal))) ⟨m', fun _ => 0, g'⟩ (fun r => ∀ c : Dev Cert.ReferenceMixInBwdIdeal.nD,
          r.2.mem ((c.tc : Thread Cert.ReferenceMixInBwdIdeal.nD Cert.ReferenceMixInBwdIdeal.τ).loc Cert.ReferenceMixInBwdIdeal.main_v72) = v0 c
          ∧ r.2.mem ((c.tc : Thread Cert.ReferenceMixInBwdIdeal.nD Cert.ReferenceMixInBwdIdeal.τ).loc Cert.ReferenceMixInBwdIdeal.main_v65) = v1 c
          ∧ r.2.mem ((c.tc : Thread Cert.ReferenceMixInBwdIdeal.nD Cert.ReferenceMixInBwdIdeal.τ).loc Cert.ReferenceMixInBwdIdeal.main_v70) = v2 c
          ∧ r.2.mem ((c.tc : Thread Cert.ReferenceMixInBwdIdeal.nD Cert.ReferenceMixInBwdIdeal.τ).loc Cert.ReferenceMixInBwdIdeal.main_arg0) = m' ((c.tc : Thread Cert.ReferenceMixInBwdIdeal.nD Cert.ReferenceMixInBwdIdeal.τ).loc Cert.ReferenceMixInBwdIdeal.main_arg0)
          ∧ r.2.mem ((c.tc : Thread Cert.ReferenceMixInBwdIdeal.nD Cert.ReferenceMixInBwdIdeal.τ).loc Cert.ReferenceMixInBwdIdeal.main_arg1) = m' ((c.tc : Thread Cert.ReferenceMixInBwdIdeal.nD Cert.ReferenceMixInBwdIdeal.τ).loc Cert.ReferenceMixInBwdIdeal.main_arg1)
          ∧ r.2.mem ((c.tc : Thread Cert.ReferenceMixInBwdIdeal.nD Cert.ReferenceMixInBwdIdeal.τ).loc Cert.ReferenceMixInBwdIdeal.main_arg2) = m' ((c.tc : Thread Cert.ReferenceMixInBwdIdeal.nD Cert.ReferenceMixInBwdIdeal.τ).loc Cert.ReferenceMixInBwdIdeal.main_arg2)
          ∧ r.2.mem ((c.tc : Thread Cert.ReferenceMixInBwdIdeal.nD Cert.ReferenceMixInBwdIdeal.τ).loc Cert.ReferenceMixInBwdIdeal.main_arg3) = m' ((c.tc : Thread Cert.ReferenceMixInBwdIdeal.nD Cert.ReferenceMixInBwdIdeal.τ).loc Cert.ReferenceMixInBwdIdeal.main_arg3)
          ∧ r.2.mem ((c.tc : Thread Cert.ReferenceMixInBwdIdeal.nD Cert.ReferenceMixInBwdIdeal.τ).loc Cert.ReferenceMixInBwdIdeal.main_arg4) = m' ((c.tc : Thread Cert.ReferenceMixInBwdIdeal.nD Cert.ReferenceMixInBwdIdeal.τ).loc Cert.ReferenceMixInBwdIdeal.main_arg4)
          ∧ r.2.mem ((c.tc : Thread Cert.ReferenceMixInBwdIdeal.nD Cert.ReferenceMixInBwdIdeal.τ).loc Cert.ReferenceMixInBwdIdeal.main_arg5) = m' ((c.tc : Thread Cert.ReferenceMixInBwdIdeal.nD Cert.ReferenceMixInBwdIdeal.τ).loc Cert.ReferenceMixInBwdIdeal.main_arg5)
          ∧ r.2.mem ((c.tc : Thread Cert.ReferenceMixInBwdIdeal.nD Cert.ReferenceMixInBwdIdeal.τ).loc Cert.ReferenceMixInBwdIdeal.main_arg6) = m' ((c.tc : Thread Cert.ReferenceMixInBwdIdeal.nD Cert.ReferenceMixInBwdIdeal.τ).loc Cert.ReferenceMixInBwdIdeal.main_arg6))

def preserves_KernelAdamUp_KernelAdamUpIdeal : Prop :=
  IdealRules.named_const.Statement Cert.KernelAdamUpIdeal.κ "inv_corr1" .f32 0x3FC48605#32 ((8388608 / 5463681 : ℝ) : EReal)
  ∧ IdealRules.named_const.Statement Cert.KernelAdamUpIdeal.κ "inv_corr2" .f32 0x42C8E6D3#32 ((268435456 / 2672307 : ℝ) : EReal)

def algebraic_KernelAdamUpIdeal_ReferenceAdamUpIdeal [hKernelAdamUpIdeal : Cert.KernelAdamUpIdeal.Facts] [hReferenceAdamUpIdeal : Cert.ReferenceAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg)
    (m' : (ℓ : Loc Cert.ReferenceAdamUpIdeal.nD Cert.ReferenceAdamUpIdeal.τ Cert.ReferenceAdamUpIdeal.sig) → Buf (Elt Ideal) ℓ) (g' : Dev Cert.ReferenceAdamUpIdeal.nD → PrngReg), Pre_KernelAdamUpIdeal m →
    (∀ c : Dev Cert.KernelAdamUpIdeal.nD,
      m' ((c.tc : Thread Cert.ReferenceAdamUpIdeal.nD Cert.ReferenceAdamUpIdeal.τ).loc Cert.ReferenceAdamUpIdeal.main_arg0) = m ((c.tc : Thread Cert.KernelAdamUpIdeal.nD Cert.KernelAdamUpIdeal.τ).loc Cert.KernelAdamUpIdeal.main_arg0)
      ∧ m' ((c.tc : Thread Cert.ReferenceAdamUpIdeal.nD Cert.ReferenceAdamUpIdeal.τ).loc Cert.ReferenceAdamUpIdeal.main_arg1) = m ((c.tc : Thread Cert.KernelAdamUpIdeal.nD Cert.KernelAdamUpIdeal.τ).loc Cert.KernelAdamUpIdeal.main_arg1)
      ∧ m' ((c.tc : Thread Cert.ReferenceAdamUpIdeal.nD Cert.ReferenceAdamUpIdeal.τ).loc Cert.ReferenceAdamUpIdeal.main_arg2) = m ((c.tc : Thread Cert.KernelAdamUpIdeal.nD Cert.KernelAdamUpIdeal.τ).loc Cert.KernelAdamUpIdeal.main_arg2)
      ∧ m' ((c.tc : Thread Cert.ReferenceAdamUpIdeal.nD Cert.ReferenceAdamUpIdeal.τ).loc Cert.ReferenceAdamUpIdeal.main_arg3) = m ((c.tc : Thread Cert.KernelAdamUpIdeal.nD Cert.KernelAdamUpIdeal.τ).loc Cert.KernelAdamUpIdeal.main_arg3)) →
    ∃ (v0 : (c : Dev Cert.KernelAdamUpIdeal.nD) → Buf (Elt Ideal) ((c.tc : Thread Cert.KernelAdamUpIdeal.nD Cert.KernelAdamUpIdeal.τ).loc Cert.KernelAdamUpIdeal.main_v4_0)) (v1 : (c : Dev Cert.KernelAdamUpIdeal.nD) → Buf (Elt Ideal) ((c.tc : Thread Cert.KernelAdamUpIdeal.nD Cert.KernelAdamUpIdeal.τ).loc Cert.KernelAdamUpIdeal.main_v4_1)) (v2 : (c : Dev Cert.KernelAdamUpIdeal.nD) → Buf (Elt Ideal) ((c.tc : Thread Cert.KernelAdamUpIdeal.nD Cert.KernelAdamUpIdeal.τ).loc Cert.KernelAdamUpIdeal.main_v4_2)),
      θ_run (Cert.KernelAdamUpIdeal.defs (F := Ideal)) (onTc (τ := Cert.KernelAdamUpIdeal.τ) (Cert.KernelAdamUpIdeal.main (F := Ideal))) ⟨m, fun _ => 0, g⟩ (fun r => ∀ c : Dev Cert.KernelAdamUpIdeal.nD,
          r.2.mem ((c.tc : Thread Cert.KernelAdamUpIdeal.nD Cert.KernelAdamUpIdeal.τ).loc Cert.KernelAdamUpIdeal.main_v4_0) = v0 c
          ∧ r.2.mem ((c.tc : Thread Cert.KernelAdamUpIdeal.nD Cert.KernelAdamUpIdeal.τ).loc Cert.KernelAdamUpIdeal.main_v4_1) = v1 c
          ∧ r.2.mem ((c.tc : Thread Cert.KernelAdamUpIdeal.nD Cert.KernelAdamUpIdeal.τ).loc Cert.KernelAdamUpIdeal.main_v4_2) = v2 c
          ∧ r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
          ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
          ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
          ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3))
      ∧ θ_run (Cert.ReferenceAdamUpIdeal.defs (F := Ideal)) (onTc (τ := Cert.ReferenceAdamUpIdeal.τ) (Cert.ReferenceAdamUpIdeal.main (F := Ideal))) ⟨m', fun _ => 0, g'⟩ (fun r => ∀ c : Dev Cert.ReferenceAdamUpIdeal.nD,
          r.2.mem ((c.tc : Thread Cert.ReferenceAdamUpIdeal.nD Cert.ReferenceAdamUpIdeal.τ).loc Cert.ReferenceAdamUpIdeal.main_v24) = v0 c
          ∧ r.2.mem ((c.tc : Thread Cert.ReferenceAdamUpIdeal.nD Cert.ReferenceAdamUpIdeal.τ).loc Cert.ReferenceAdamUpIdeal.main_v25) = v1 c
          ∧ r.2.mem ((c.tc : Thread Cert.ReferenceAdamUpIdeal.nD Cert.ReferenceAdamUpIdeal.τ).loc Cert.ReferenceAdamUpIdeal.main_v26) = v2 c
          ∧ r.2.mem ((c.tc : Thread Cert.ReferenceAdamUpIdeal.nD Cert.ReferenceAdamUpIdeal.τ).loc Cert.ReferenceAdamUpIdeal.main_arg0) = m' ((c.tc : Thread Cert.ReferenceAdamUpIdeal.nD Cert.ReferenceAdamUpIdeal.τ).loc Cert.ReferenceAdamUpIdeal.main_arg0)
          ∧ r.2.mem ((c.tc : Thread Cert.ReferenceAdamUpIdeal.nD Cert.ReferenceAdamUpIdeal.τ).loc Cert.ReferenceAdamUpIdeal.main_arg1) = m' ((c.tc : Thread Cert.ReferenceAdamUpIdeal.nD Cert.ReferenceAdamUpIdeal.τ).loc Cert.ReferenceAdamUpIdeal.main_arg1)
          ∧ r.2.mem ((c.tc : Thread Cert.ReferenceAdamUpIdeal.nD Cert.ReferenceAdamUpIdeal.τ).loc Cert.ReferenceAdamUpIdeal.main_arg2) = m' ((c.tc : Thread Cert.ReferenceAdamUpIdeal.nD Cert.ReferenceAdamUpIdeal.τ).loc Cert.ReferenceAdamUpIdeal.main_arg2)
          ∧ r.2.mem ((c.tc : Thread Cert.ReferenceAdamUpIdeal.nD Cert.ReferenceAdamUpIdeal.τ).loc Cert.ReferenceAdamUpIdeal.main_arg3) = m' ((c.tc : Thread Cert.ReferenceAdamUpIdeal.nD Cert.ReferenceAdamUpIdeal.τ).loc Cert.ReferenceAdamUpIdeal.main_arg3))

def preserves_KernelAdamDown_KernelAdamDownIdeal : Prop :=
  IdealRules.named_const.Statement Cert.KernelAdamDownIdeal.κ "inv_corr1" .f32 0x3FC48605#32 ((8388608 / 5463681 : ℝ) : EReal)
  ∧ IdealRules.named_const.Statement Cert.KernelAdamDownIdeal.κ "inv_corr2" .f32 0x42C8E6D3#32 ((268435456 / 2672307 : ℝ) : EReal)

def algebraic_KernelAdamDownIdeal_ReferenceAdamDownIdeal [hKernelAdamDownIdeal : Cert.KernelAdamDownIdeal.Facts] [hReferenceAdamDownIdeal : Cert.ReferenceAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_KernelAdamDownIdeal m →
    (∀ c : Dev Cert.KernelAdamDownIdeal.nD,
      m' ((c.tc : Thread Cert.ReferenceAdamDownIdeal.nD Cert.ReferenceAdamDownIdeal.τ).loc Cert.ReferenceAdamDownIdeal.main_arg0) = m ((c.tc : Thread Cert.KernelAdamDownIdeal.nD Cert.KernelAdamDownIdeal.τ).loc Cert.KernelAdamDownIdeal.main_arg0)
      ∧ m' ((c.tc : Thread Cert.ReferenceAdamDownIdeal.nD Cert.ReferenceAdamDownIdeal.τ).loc Cert.ReferenceAdamDownIdeal.main_arg1) = m ((c.tc : Thread Cert.KernelAdamDownIdeal.nD Cert.KernelAdamDownIdeal.τ).loc Cert.KernelAdamDownIdeal.main_arg1)
      ∧ m' ((c.tc : Thread Cert.ReferenceAdamDownIdeal.nD Cert.ReferenceAdamDownIdeal.τ).loc Cert.ReferenceAdamDownIdeal.main_arg2) = m ((c.tc : Thread Cert.KernelAdamDownIdeal.nD Cert.KernelAdamDownIdeal.τ).loc Cert.KernelAdamDownIdeal.main_arg2)
      ∧ m' ((c.tc : Thread Cert.ReferenceAdamDownIdeal.nD Cert.ReferenceAdamDownIdeal.τ).loc Cert.ReferenceAdamDownIdeal.main_arg3) = m ((c.tc : Thread Cert.KernelAdamDownIdeal.nD Cert.KernelAdamDownIdeal.τ).loc Cert.KernelAdamDownIdeal.main_arg3)) →
    ∃ (v0 : (c : Dev Cert.KernelAdamDownIdeal.nD) → Buf (Elt Ideal) ((c.tc : Thread Cert.KernelAdamDownIdeal.nD Cert.KernelAdamDownIdeal.τ).loc Cert.KernelAdamDownIdeal.main_v4_0)) (v1 : (c : Dev Cert.KernelAdamDownIdeal.nD) → Buf (Elt Ideal) ((c.tc : Thread Cert.KernelAdamDownIdeal.nD Cert.KernelAdamDownIdeal.τ).loc Cert.KernelAdamDownIdeal.main_v4_1)) (v2 : (c : Dev Cert.KernelAdamDownIdeal.nD) → Buf (Elt Ideal) ((c.tc : Thread Cert.KernelAdamDownIdeal.nD Cert.KernelAdamDownIdeal.τ).loc Cert.KernelAdamDownIdeal.main_v4_2)),
      θ_run (Cert.KernelAdamDownIdeal.defs (F := Ideal)) (onTc (τ := Cert.KernelAdamDownIdeal.τ) (Cert.KernelAdamDownIdeal.main (F := Ideal))) ⟨m, fun _ => 0, g⟩ (fun r => ∀ c : Dev Cert.KernelAdamDownIdeal.nD,
          r.2.mem ((c.tc : Thread Cert.KernelAdamDownIdeal.nD Cert.KernelAdamDownIdeal.τ).loc Cert.KernelAdamDownIdeal.main_v4_0) = v0 c
          ∧ r.2.mem ((c.tc : Thread Cert.KernelAdamDownIdeal.nD Cert.KernelAdamDownIdeal.τ).loc Cert.KernelAdamDownIdeal.main_v4_1) = v1 c
          ∧ r.2.mem ((c.tc : Thread Cert.KernelAdamDownIdeal.nD Cert.KernelAdamDownIdeal.τ).loc Cert.KernelAdamDownIdeal.main_v4_2) = v2 c
          ∧ r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
          ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
          ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
          ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_v24) = v0 c
          ∧ r.2.mem ((c.tc : Thread Cert.ReferenceAdamDownIdeal.nD Cert.ReferenceAdamDownIdeal.τ).loc Cert.ReferenceAdamDownIdeal.main_v25) = v1 c
          ∧ r.2.mem ((c.tc : Thread Cert.ReferenceAdamDownIdeal.nD Cert.ReferenceAdamDownIdeal.τ).loc Cert.ReferenceAdamDownIdeal.main_v26) = v2 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3))

def preserves_KernelAdamIn_KernelAdamInIdeal : Prop :=
  IdealRules.named_const.Statement Cert.KernelAdamInIdeal.κ "inv_corr1" .f32 0x3FC48605#32 ((8388608 / 5463681 : ℝ) : EReal)
  ∧ IdealRules.named_const.Statement Cert.KernelAdamInIdeal.κ "inv_corr2" .f32 0x42C8E6D3#32 ((268435456 / 2672307 : ℝ) : EReal)

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v4_0)) (v1 : (c : Dev Cert.KernelAdamInIdeal.nD) → Buf (Elt Ideal) ((c.tc : Thread Cert.KernelAdamInIdeal.nD Cert.KernelAdamInIdeal.τ).loc Cert.KernelAdamInIdeal.main_v4_1)) (v2 : (c : Dev Cert.KernelAdamInIdeal.nD) → Buf (Elt Ideal) ((c.tc : Thread Cert.KernelAdamInIdeal.nD Cert.KernelAdamInIdeal.τ).loc Cert.KernelAdamInIdeal.main_v4_2)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v4_0) = v0 c
          ∧ r.2.mem ((c.tc : Thread Cert.KernelAdamInIdeal.nD Cert.KernelAdamInIdeal.τ).loc Cert.KernelAdamInIdeal.main_v4_1) = v1 c
          ∧ r.2.mem ((c.tc : Thread Cert.KernelAdamInIdeal.nD Cert.KernelAdamInIdeal.τ).loc Cert.KernelAdamInIdeal.main_v4_2) = v2 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v24) = v0 c
          ∧ r.2.mem ((c.tc : Thread Cert.ReferenceAdamInIdeal.nD Cert.ReferenceAdamInIdeal.τ).loc Cert.ReferenceAdamInIdeal.main_v25) = v1 c
          ∧ r.2.mem ((c.tc : Thread Cert.ReferenceAdamInIdeal.nD Cert.ReferenceAdamInIdeal.τ).loc Cert.ReferenceAdamInIdeal.main_v26) = v2 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamOut_KernelAdamOutIdeal : Prop :=
  IdealRules.named_const.Statement Cert.KernelAdamOutIdeal.κ "inv_corr1" .f32 0x3FC48605#32 ((8388608 / 5463681 : ℝ) : EReal)
  ∧ IdealRules.named_const.Statement Cert.KernelAdamOutIdeal.κ "inv_corr2" .f32 0x42C8E6D3#32 ((268435456 / 2672307 : ℝ) : EReal)

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)) →
    ∃ (v0 : (c : Dev Cert.KernelAdamOutIdeal.nD) → Buf (Elt Ideal) ((c.tc : Thread Cert.KernelAdamOutIdeal.nD Cert.KernelAdamOutIdeal.τ).loc Cert.KernelAdamOutIdeal.main_v4_0)) (v1 : (c : Dev Cert.KernelAdamOutIdeal.nD) → Buf (Elt Ideal) ((c.tc : Thread Cert.KernelAdamOutIdeal.nD Cert.KernelAdamOutIdeal.τ).loc Cert.KernelAdamOutIdeal.main_v4_1)) (v2 : (c : Dev Cert.KernelAdamOutIdeal.nD) → Buf (Elt Ideal) ((c.tc : Thread Cert.KernelAdamOutIdeal.nD Cert.KernelAdamOutIdeal.τ).loc Cert.KernelAdamOutIdeal.main_v4_2)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v4_0) = v0 c
          ∧ r.2.mem ((c.tc : Thread Cert.KernelAdamOutIdeal.nD Cert.KernelAdamOutIdeal.τ).loc Cert.KernelAdamOutIdeal.main_v4_1) = v1 c
          ∧ r.2.mem ((c.tc : Thread Cert.KernelAdamOutIdeal.nD Cert.KernelAdamOutIdeal.τ).loc Cert.KernelAdamOutIdeal.main_v4_2) = v2 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v24) = v0 c
          ∧ r.2.mem ((c.tc : Thread Cert.ReferenceAdamOutIdeal.nD Cert.ReferenceAdamOutIdeal.τ).loc Cert.ReferenceAdamOutIdeal.main_v25) = v1 c
          ∧ r.2.mem ((c.tc : Thread Cert.ReferenceAdamOutIdeal.nD Cert.ReferenceAdamOutIdeal.τ).loc Cert.ReferenceAdamOutIdeal.main_v26) = v2 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3))

def preserves_KernelAdamAda_KernelAdamAdaIdeal : Prop :=
  IdealRules.named_const.Statement Cert.KernelAdamAdaIdeal.κ "inv_corr1" .f32 0x3FC48605#32 ((8388608 / 5463681 : ℝ) : EReal)
  ∧ IdealRules.named_const.Statement Cert.KernelAdamAdaIdeal.κ "inv_corr2" .f32 0x42C8E6D3#32 ((268435456 / 2672307 : ℝ) : EReal)

def algebraic_KernelAdamAdaIdeal_ReferenceAdamAdaIdeal [hKernelAdamAdaIdeal : Cert.KernelAdamAdaIdeal.Facts] [hReferenceAdamAdaIdeal : Cert.ReferenceAdamAdaIdeal.Facts] : Prop :=
  ∀ (m : (ℓ : Loc Cert.KernelAdamAdaIdeal.nD Cert.KernelAdamAdaIdeal.τ Cert.KernelAdamAdaIdeal.sig) → Buf (Elt Ideal) ℓ) (g : Dev Cert.KernelAdamAdaIdeal.nD → PrngReg)
    (m' : (ℓ : Loc Cert.ReferenceAdamAdaIdeal.nD Cert.ReferenceAdamAdaIdeal.τ Cert.ReferenceAdamAdaIdeal.sig) → Buf (Elt Ideal) ℓ) (g' : Dev Cert.ReferenceAdamAdaIdeal.nD → PrngReg), Pre_KernelAdamAdaIdeal m →
    (∀ c : Dev Cert.KernelAdamAdaIdeal.nD,
      m' ((c.tc : Thread Cert.ReferenceAdamAdaIdeal.nD Cert.ReferenceAdamAdaIdeal.τ).loc Cert.ReferenceAdamAdaIdeal.main_arg0) = m ((c.tc : Thread Cert.KernelAdamAdaIdeal.nD Cert.KernelAdamAdaIdeal.τ).loc Cert.KernelAdamAdaIdeal.main_arg0)
      ∧ m' ((c.tc : Thread Cert.ReferenceAdamAdaIdeal.nD Cert.ReferenceAdamAdaIdeal.τ).loc Cert.ReferenceAdamAdaIdeal.main_arg1) = m ((c.tc : Thread Cert.KernelAdamAdaIdeal.nD Cert.KernelAdamAdaIdeal.τ).loc Cert.KernelAdamAdaIdeal.main_arg1)
      ∧ m' ((c.tc : Thread Cert.ReferenceAdamAdaIdeal.nD Cert.ReferenceAdamAdaIdeal.τ).loc Cert.ReferenceAdamAdaIdeal.main_arg2) = m ((c.tc : Thread Cert.KernelAdamAdaIdeal.nD Cert.KernelAdamAdaIdeal.τ).loc Cert.KernelAdamAdaIdeal.main_arg2)
      ∧ m' ((c.tc : Thread Cert.ReferenceAdamAdaIdeal.nD Cert.ReferenceAdamAdaIdeal.τ).loc Cert.ReferenceAdamAdaIdeal.main_arg3) = m ((c.tc : Thread Cert.KernelAdamAdaIdeal.nD Cert.KernelAdamAdaIdeal.τ).loc Cert.KernelAdamAdaIdeal.main_arg3)) →
    ∃ (v0 : (c : Dev Cert.KernelAdamAdaIdeal.nD) → Buf (Elt Ideal) ((c.tc : Thread Cert.KernelAdamAdaIdeal.nD Cert.KernelAdamAdaIdeal.τ).loc Cert.KernelAdamAdaIdeal.main_v4_0)) (v1 : (c : Dev Cert.KernelAdamAdaIdeal.nD) → Buf (Elt Ideal) ((c.tc : Thread Cert.KernelAdamAdaIdeal.nD Cert.KernelAdamAdaIdeal.τ).loc Cert.KernelAdamAdaIdeal.main_v4_1)) (v2 : (c : Dev Cert.KernelAdamAdaIdeal.nD) → Buf (Elt Ideal) ((c.tc : Thread Cert.KernelAdamAdaIdeal.nD Cert.KernelAdamAdaIdeal.τ).loc Cert.KernelAdamAdaIdeal.main_v4_2)),
      θ_run (Cert.KernelAdamAdaIdeal.defs (F := Ideal)) (onTc (τ := Cert.KernelAdamAdaIdeal.τ) (Cert.KernelAdamAdaIdeal.main (F := Ideal))) ⟨m, fun _ => 0, g⟩ (fun r => ∀ c : Dev Cert.KernelAdamAdaIdeal.nD,
          r.2.mem ((c.tc : Thread Cert.KernelAdamAdaIdeal.nD Cert.KernelAdamAdaIdeal.τ).loc Cert.KernelAdamAdaIdeal.main_v4_0) = v0 c
          ∧ r.2.mem ((c.tc : Thread Cert.KernelAdamAdaIdeal.nD Cert.KernelAdamAdaIdeal.τ).loc Cert.KernelAdamAdaIdeal.main_v4_1) = v1 c
          ∧ r.2.mem ((c.tc : Thread Cert.KernelAdamAdaIdeal.nD Cert.KernelAdamAdaIdeal.τ).loc Cert.KernelAdamAdaIdeal.main_v4_2) = v2 c
          ∧ r.2.mem ((c.tc : Thread Cert.KernelAdamAdaIdeal.nD Cert.KernelAdamAdaIdeal.τ).loc Cert.KernelAdamAdaIdeal.main_arg0) = m ((c.tc : Thread Cert.KernelAdamAdaIdeal.nD Cert.KernelAdamAdaIdeal.τ).loc Cert.KernelAdamAdaIdeal.main_arg0)
          ∧ r.2.mem ((c.tc : Thread Cert.KernelAdamAdaIdeal.nD Cert.KernelAdamAdaIdeal.τ).loc Cert.KernelAdamAdaIdeal.main_arg1) = m ((c.tc : Thread Cert.KernelAdamAdaIdeal.nD Cert.KernelAdamAdaIdeal.τ).loc Cert.KernelAdamAdaIdeal.main_arg1)
          ∧ r.2.mem ((c.tc : Thread Cert.KernelAdamAdaIdeal.nD Cert.KernelAdamAdaIdeal.τ).loc Cert.KernelAdamAdaIdeal.main_arg2) = m ((c.tc : Thread Cert.KernelAdamAdaIdeal.nD Cert.KernelAdamAdaIdeal.τ).loc Cert.KernelAdamAdaIdeal.main_arg2)
          ∧ r.2.mem ((c.tc : Thread Cert.KernelAdamAdaIdeal.nD Cert.KernelAdamAdaIdeal.τ).loc Cert.KernelAdamAdaIdeal.main_arg3) = m ((c.tc : Thread Cert.KernelAdamAdaIdeal.nD Cert.KernelAdamAdaIdeal.τ).loc Cert.KernelAdamAdaIdeal.main_arg3))
      ∧ θ_run (Cert.ReferenceAdamAdaIdeal.defs (F := Ideal)) (onTc (τ := Cert.ReferenceAdamAdaIdeal.τ) (Cert.ReferenceAdamAdaIdeal.main (F := Ideal))) ⟨m', fun _ => 0, g'⟩ (fun r => ∀ c : Dev Cert.ReferenceAdamAdaIdeal.nD,
          r.2.mem ((c.tc : Thread Cert.ReferenceAdamAdaIdeal.nD Cert.ReferenceAdamAdaIdeal.τ).loc Cert.ReferenceAdamAdaIdeal.main_v24) = v0 c
          ∧ r.2.mem ((c.tc : Thread Cert.ReferenceAdamAdaIdeal.nD Cert.ReferenceAdamAdaIdeal.τ).loc Cert.ReferenceAdamAdaIdeal.main_v25) = v1 c
          ∧ r.2.mem ((c.tc : Thread Cert.ReferenceAdamAdaIdeal.nD Cert.ReferenceAdamAdaIdeal.τ).loc Cert.ReferenceAdamAdaIdeal.main_v26) = v2 c
          ∧ r.2.mem ((c.tc : Thread Cert.ReferenceAdamAdaIdeal.nD Cert.ReferenceAdamAdaIdeal.τ).loc Cert.ReferenceAdamAdaIdeal.main_arg0) = m' ((c.tc : Thread Cert.ReferenceAdamAdaIdeal.nD Cert.ReferenceAdamAdaIdeal.τ).loc Cert.ReferenceAdamAdaIdeal.main_arg0)
          ∧ r.2.mem ((c.tc : Thread Cert.ReferenceAdamAdaIdeal.nD Cert.ReferenceAdamAdaIdeal.τ).loc Cert.ReferenceAdamAdaIdeal.main_arg1) = m' ((c.tc : Thread Cert.ReferenceAdamAdaIdeal.nD Cert.ReferenceAdamAdaIdeal.τ).loc Cert.ReferenceAdamAdaIdeal.main_arg1)
          ∧ r.2.mem ((c.tc : Thread Cert.ReferenceAdamAdaIdeal.nD Cert.ReferenceAdamAdaIdeal.τ).loc Cert.ReferenceAdamAdaIdeal.main_arg2) = m' ((c.tc : Thread Cert.ReferenceAdamAdaIdeal.nD Cert.ReferenceAdamAdaIdeal.τ).loc Cert.ReferenceAdamAdaIdeal.main_arg2)
          ∧ r.2.mem ((c.tc : Thread Cert.ReferenceAdamAdaIdeal.nD Cert.ReferenceAdamAdaIdeal.τ).loc Cert.ReferenceAdamAdaIdeal.main_arg3) = m' ((c.tc : Thread Cert.ReferenceAdamAdaIdeal.nD Cert.ReferenceAdamAdaIdeal.τ).loc Cert.ReferenceAdamAdaIdeal.main_arg3))

def preserves_KernelAdamSmall_KernelAdamSmallIdeal : Prop :=
  IdealRules.named_const.Statement Cert.KernelAdamSmallIdeal.κ "inv_corr1" .f32 0x3FC48605#32 ((8388608 / 5463681 : ℝ) : EReal)
  ∧ IdealRules.named_const.Statement Cert.KernelAdamSmallIdeal.κ "inv_corr2" .f32 0x42C8E6D3#32 ((268435456 / 2672307 : ℝ) : EReal)

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v23) = v0 c
          ∧ r.2.mem ((c.tc : Thread Cert.ReferenceAdamSmallIdeal.nD Cert.ReferenceAdamSmallIdeal.τ).loc Cert.ReferenceAdamSmallIdeal.main_v4) = v1 c
          ∧ r.2.mem ((c.tc : Thread Cert.ReferenceAdamSmallIdeal.nD Cert.ReferenceAdamSmallIdeal.τ).loc Cert.ReferenceAdamSmallIdeal.main_v10) = v2 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)) →
    ∃ (v0 : (c : Dev Cert.KernelLossIdeal.nD) → Buf (Elt Ideal) ((c.tc : Thread Cert.KernelLossIdeal.nD Cert.KernelLossIdeal.τ).loc Cert.KernelLossIdeal.main_v2_0)) (v1 : (c : Dev Cert.KernelLossIdeal.nD) → Buf (Elt Ideal) ((c.tc : Thread Cert.KernelLossIdeal.nD Cert.KernelLossIdeal.τ).loc Cert.KernelLossIdeal.main_v2_1)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v2_0) = v0 c
          ∧ r.2.mem ((c.tc : Thread Cert.KernelLossIdeal.nD Cert.KernelLossIdeal.τ).loc Cert.KernelLossIdeal.main_v2_1) = v1 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v15) = v0 c
          ∧ r.2.mem ((c.tc : Thread Cert.ReferenceLossIdeal.nD Cert.ReferenceLossIdeal.τ).loc Cert.ReferenceLossIdeal.main_v16) = v1 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)) →
    ∃ (v0 : (c : Dev Cert.KernelAdaIdeal.nD) → Buf (Elt Ideal) ((c.tc : Thread Cert.KernelAdaIdeal.nD Cert.KernelAdaIdeal.τ).loc Cert.KernelAdaIdeal.main_v0)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v0) = v0 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v24) = v0 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1))

def preserves_KernelBias_KernelBiasIdeal : Prop :=
  True

def algebraic_KernelBiasIdeal_ReferenceBiasIdeal [hKernelBiasIdeal : Cert.KernelBiasIdeal.Facts] [hReferenceBiasIdeal : Cert.ReferenceBiasIdeal.Facts] : Prop :=
  ∀ (m : (ℓ : Loc Cert.KernelBiasIdeal.nD Cert.KernelBiasIdeal.τ Cert.KernelBiasIdeal.sig) → Buf (Elt Ideal) ℓ) (g : Dev Cert.KernelBiasIdeal.nD → PrngReg)
    (m' : (ℓ : Loc Cert.ReferenceBiasIdeal.nD Cert.ReferenceBiasIdeal.τ Cert.ReferenceBiasIdeal.sig) → Buf (Elt Ideal) ℓ) (g' : Dev Cert.ReferenceBiasIdeal.nD → PrngReg), Pre_KernelBiasIdeal m →
    (∀ c : Dev Cert.KernelBiasIdeal.nD,
      m' ((c.tc : Thread Cert.ReferenceBiasIdeal.nD Cert.ReferenceBiasIdeal.τ).loc Cert.ReferenceBiasIdeal.main_arg0) = m ((c.tc : Thread Cert.KernelBiasIdeal.nD Cert.KernelBiasIdeal.τ).loc Cert.KernelBiasIdeal.main_arg0)) →
    ∃ (v0 : (c : Dev Cert.KernelBiasIdeal.nD) → Buf (Elt Ideal) ((c.tc : Thread Cert.KernelBiasIdeal.nD Cert.KernelBiasIdeal.τ).loc Cert.KernelBiasIdeal.main_v3)),
      θ_run (Cert.KernelBiasIdeal.defs (F := Ideal)) (onTc (τ := Cert.KernelBiasIdeal.τ) (Cert.KernelBiasIdeal.main (F := Ideal))) ⟨m, fun _ => 0, g⟩ (fun r => ∀ c : Dev Cert.KernelBiasIdeal.nD,
          r.2.mem ((c.tc : Thread Cert.KernelBiasIdeal.nD Cert.KernelBiasIdeal.τ).loc Cert.KernelBiasIdeal.main_v3) = v0 c
          ∧ r.2.mem ((c.tc : Thread Cert.KernelBiasIdeal.nD Cert.KernelBiasIdeal.τ).loc Cert.KernelBiasIdeal.main_arg0) = m ((c.tc : Thread Cert.KernelBiasIdeal.nD Cert.KernelBiasIdeal.τ).loc Cert.KernelBiasIdeal.main_arg0))
      ∧ θ_run (Cert.ReferenceBiasIdeal.defs (F := Ideal)) (onTc (τ := Cert.ReferenceBiasIdeal.τ) (Cert.ReferenceBiasIdeal.main (F := Ideal))) ⟨m', fun _ => 0, g'⟩ (fun r => ∀ c : Dev Cert.ReferenceBiasIdeal.nD,
          r.2.mem ((c.tc : Thread Cert.ReferenceBiasIdeal.nD Cert.ReferenceBiasIdeal.τ).loc Cert.ReferenceBiasIdeal.main_v9) = v0 c
          ∧ r.2.mem ((c.tc : Thread Cert.ReferenceBiasIdeal.nD Cert.ReferenceBiasIdeal.τ).loc Cert.ReferenceBiasIdeal.main_arg0) = m' ((c.tc : Thread Cert.ReferenceBiasIdeal.nD Cert.ReferenceBiasIdeal.τ).loc Cert.ReferenceBiasIdeal.main_arg0))

def preserves_KernelParts_KernelPartsIdeal : Prop :=
  True

def algebraic_KernelPartsIdeal_ReferencePartsIdeal [hKernelPartsIdeal : Cert.KernelPartsIdeal.Facts] [hReferencePartsIdeal : Cert.ReferencePartsIdeal.Facts] : Prop :=
  ∀ (m : (ℓ : Loc Cert.KernelPartsIdeal.nD Cert.KernelPartsIdeal.τ Cert.KernelPartsIdeal.sig) → Buf (Elt Ideal) ℓ) (g : Dev Cert.KernelPartsIdeal.nD → PrngReg)
    (m' : (ℓ : Loc Cert.ReferencePartsIdeal.nD Cert.ReferencePartsIdeal.τ Cert.ReferencePartsIdeal.sig) → Buf (Elt Ideal) ℓ) (g' : Dev Cert.ReferencePartsIdeal.nD → PrngReg), Pre_KernelPartsIdeal m →
    (∀ c : Dev Cert.KernelPartsIdeal.nD,
      m' ((c.tc : Thread Cert.ReferencePartsIdeal.nD Cert.ReferencePartsIdeal.τ).loc Cert.ReferencePartsIdeal.main_arg0) = m ((c.tc : Thread Cert.KernelPartsIdeal.nD Cert.KernelPartsIdeal.τ).loc Cert.KernelPartsIdeal.main_arg0)) →
    ∃ (v0 : (c : Dev Cert.KernelPartsIdeal.nD) → Buf (Elt Ideal) ((c.tc : Thread Cert.KernelPartsIdeal.nD Cert.KernelPartsIdeal.τ).loc Cert.KernelPartsIdeal.main_v0)),
      θ_run (Cert.KernelPartsIdeal.defs (F := Ideal)) (onTc (τ := Cert.KernelPartsIdeal.τ) (Cert.KernelPartsIdeal.main (F := Ideal))) ⟨m, fun _ => 0, g⟩ (fun r => ∀ c : Dev Cert.KernelPartsIdeal.nD,
          r.2.mem ((c.tc : Thread Cert.KernelPartsIdeal.nD Cert.KernelPartsIdeal.τ).loc Cert.KernelPartsIdeal.main_v0) = v0 c
          ∧ r.2.mem ((c.tc : Thread Cert.KernelPartsIdeal.nD Cert.KernelPartsIdeal.τ).loc Cert.KernelPartsIdeal.main_arg0) = m ((c.tc : Thread Cert.KernelPartsIdeal.nD Cert.KernelPartsIdeal.τ).loc Cert.KernelPartsIdeal.main_arg0))
      ∧ θ_run (Cert.ReferencePartsIdeal.defs (F := Ideal)) (onTc (τ := Cert.ReferencePartsIdeal.τ) (Cert.ReferencePartsIdeal.main (F := Ideal))) ⟨m', fun _ => 0, g'⟩ (fun r => ∀ c : Dev Cert.ReferencePartsIdeal.nD,
          r.2.mem ((c.tc : Thread Cert.ReferencePartsIdeal.nD Cert.ReferencePartsIdeal.τ).loc Cert.ReferencePartsIdeal.main_v0) = v0 c
          ∧ r.2.mem ((c.tc : Thread Cert.ReferencePartsIdeal.nD Cert.ReferencePartsIdeal.τ).loc Cert.ReferencePartsIdeal.main_arg0) = m' ((c.tc : Thread Cert.ReferencePartsIdeal.nD Cert.ReferencePartsIdeal.τ).loc Cert.ReferencePartsIdeal.main_arg0))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)) →
    ∃ (v0 : (c : Dev Cert.KernelModIdeal.nD) → Buf (Elt Ideal) ((c.tc : Thread Cert.KernelModIdeal.nD Cert.KernelModIdeal.τ).loc Cert.KernelModIdeal.main_v1)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v1) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v20) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)) →
    ∃ (v0 : (c : Dev Cert.KernelGateIdeal.nD) → Buf (Elt Ideal) ((c.tc : Thread Cert.KernelGateIdeal.nD Cert.KernelGateIdeal.τ).loc Cert.KernelGateIdeal.main_v10_0)) (v1 : (c : Dev Cert.KernelGateIdeal.nD) → Buf (Elt Ideal) ((c.tc : Thread Cert.KernelGateIdeal.nD Cert.KernelGateIdeal.τ).loc Cert.KernelGateIdeal.main_v10_1)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v10_0) = v0 c
          ∧ r.2.mem ((c.tc : Thread Cert.KernelGateIdeal.nD Cert.KernelGateIdeal.τ).loc Cert.KernelGateIdeal.main_v10_1) = v1 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v18) = v0 c
          ∧ r.2.mem ((c.tc : Thread Cert.ReferenceGateIdeal.nD Cert.ReferenceGateIdeal.τ).loc Cert.ReferenceGateIdeal.main_v20) = v1 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelFwd : Cert.KernelFwd.Facts) (hKernelFwdIdeal : Cert.KernelFwdIdeal.Facts) (hReferenceFwdIdeal : Cert.ReferenceFwdIdeal.Facts) (hKernelMixIn : Cert.KernelMixIn.Facts) (hKernelMixInIdeal : Cert.KernelMixInIdeal.Facts) (hReferenceMixInIdeal : Cert.ReferenceMixInIdeal.Facts) (hKernelMixOut : Cert.KernelMixOut.Facts) (hKernelMixOutIdeal : Cert.KernelMixOutIdeal.Facts) (hReferenceMixOutIdeal : Cert.ReferenceMixOutIdeal.Facts) (hKernelMixInBwd : Cert.KernelMixInBwd.Facts) (hKernelMixInBwdIdeal : Cert.KernelMixInBwdIdeal.Facts) (hReferenceMixInBwdIdeal : Cert.ReferenceMixInBwdIdeal.Facts) (hKernelAdamUp : Cert.KernelAdamUp.Facts) (hKernelAdamUpIdeal : Cert.KernelAdamUpIdeal.Facts) (hReferenceAdamUpIdeal : Cert.ReferenceAdamUpIdeal.Facts) (hKernelAdamDown : Cert.KernelAdamDown.Facts) (hKernelAdamDownIdeal : Cert.KernelAdamDownIdeal.Facts) (hReferenceAdamDownIdeal : Cert.ReferenceAdamDownIdeal.Facts) (hKernelAdamIn : Cert.KernelAdamIn.Facts) (hKernelAdamInIdeal : Cert.KernelAdamInIdeal.Facts) (hReferenceAdamInIdeal : Cert.ReferenceAdamInIdeal.Facts) (hKernelAdamOut : Cert.KernelAdamOut.Facts) (hKernelAdamOutIdeal : Cert.KernelAdamOutIdeal.Facts) (hReferenceAdamOutIdeal : Cert.ReferenceAdamOutIdeal.Facts) (hKernelAdamAda : Cert.KernelAdamAda.Facts) (hKernelAdamAdaIdeal : Cert.KernelAdamAdaIdeal.Facts) (hReferenceAdamAdaIdeal : Cert.ReferenceAdamAdaIdeal.Facts) (hKernelAdamSmall : Cert.KernelAdamSmall.Facts) (hKernelAdamSmallIdeal : Cert.KernelAdamSmallIdeal.Facts) (hReferenceAdamSmallIdeal : Cert.ReferenceAdamSmallIdeal.Facts) (hKernelLoss : Cert.KernelLoss.Facts) (hKernelLossIdeal : Cert.KernelLossIdeal.Facts) (hReferenceLossIdeal : Cert.ReferenceLossIdeal.Facts) (hKernelAda : Cert.KernelAda.Facts) (hKernelAdaIdeal : Cert.KernelAdaIdeal.Facts) (hReferenceAdaIdeal : Cert.ReferenceAdaIdeal.Facts) (hKernelBias : Cert.KernelBias.Facts) (hKernelBiasIdeal : Cert.KernelBiasIdeal.Facts) (hReferenceBiasIdeal : Cert.ReferenceBiasIdeal.Facts) (hKernelParts : Cert.KernelParts.Facts) (hKernelPartsIdeal : Cert.KernelPartsIdeal.Facts) (hReferencePartsIdeal : Cert.ReferencePartsIdeal.Facts) (hKernelMod : Cert.KernelMod.Facts) (hKernelModIdeal : Cert.KernelModIdeal.Facts) (hReferenceModIdeal : Cert.ReferenceModIdeal.Facts) (hKernelGate : Cert.KernelGate.Facts) (hKernelGateIdeal : Cert.KernelGateIdeal.Facts) (hReferenceGateIdeal : Cert.ReferenceGateIdeal.Facts) (hPre_finite : Cert.Pre_finite.Facts) (hPre_finite_in : Cert.Pre_finite_in.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ quiescent_KernelMixIn (hKernelMixIn := hKernelMixIn)
    ∧ quiescent_KernelMixInIdeal (hKernelMixInIdeal := hKernelMixInIdeal)
    ∧ quiescent_ReferenceMixInIdeal (hReferenceMixInIdeal := hReferenceMixInIdeal)
    ∧ quiescent_KernelMixOut (hKernelMixOut := hKernelMixOut)
    ∧ quiescent_KernelMixOutIdeal (hKernelMixOutIdeal := hKernelMixOutIdeal)
    ∧ quiescent_ReferenceMixOutIdeal (hReferenceMixOutIdeal := hReferenceMixOutIdeal)
    ∧ quiescent_KernelMixInBwd (hKernelMixInBwd := hKernelMixInBwd)
    ∧ quiescent_KernelMixInBwdIdeal (hKernelMixInBwdIdeal := hKernelMixInBwdIdeal)
    ∧ quiescent_KernelMixInBwdIdeal_pre_finite_in (hKernelMixInBwdIdeal := hKernelMixInBwdIdeal) (hPre_finite_in := hPre_finite_in)
    ∧ quiescent_ReferenceMixInBwdIdeal (hReferenceMixInBwdIdeal := hReferenceMixInBwdIdeal)
    ∧ quiescent_ReferenceMixInBwdIdeal_pre_finite_in (hReferenceMixInBwdIdeal := hReferenceMixInBwdIdeal) (hPre_finite_in := hPre_finite_in)
    ∧ quiescent_KernelAdamUp (hKernelAdamUp := hKernelAdamUp)
    ∧ quiescent_KernelAdamUpIdeal (hKernelAdamUpIdeal := hKernelAdamUpIdeal)
    ∧ quiescent_ReferenceAdamUpIdeal (hReferenceAdamUpIdeal := hReferenceAdamUpIdeal)
    ∧ quiescent_KernelAdamDown (hKernelAdamDown := hKernelAdamDown)
    ∧ quiescent_KernelAdamDownIdeal (hKernelAdamDownIdeal := hKernelAdamDownIdeal)
    ∧ quiescent_ReferenceAdamDownIdeal (hReferenceAdamDownIdeal := hReferenceAdamDownIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamAda (hKernelAdamAda := hKernelAdamAda)
    ∧ quiescent_KernelAdamAdaIdeal (hKernelAdamAdaIdeal := hKernelAdamAdaIdeal)
    ∧ quiescent_ReferenceAdamAdaIdeal (hReferenceAdamAdaIdeal := hReferenceAdamAdaIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ quiescent_KernelBias (hKernelBias := hKernelBias)
    ∧ quiescent_KernelBiasIdeal (hKernelBiasIdeal := hKernelBiasIdeal)
    ∧ quiescent_ReferenceBiasIdeal (hReferenceBiasIdeal := hReferenceBiasIdeal)
    ∧ quiescent_KernelParts (hKernelParts := hKernelParts)
    ∧ quiescent_KernelPartsIdeal (hKernelPartsIdeal := hKernelPartsIdeal)
    ∧ quiescent_ReferencePartsIdeal (hReferencePartsIdeal := hReferencePartsIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelFwd_KernelFwdIdeal
    ∧ algebraic_KernelFwdIdeal_ReferenceFwdIdeal (hKernelFwdIdeal := hKernelFwdIdeal) (hReferenceFwdIdeal := hReferenceFwdIdeal)
    ∧ preserves_KernelMixIn_KernelMixInIdeal
    ∧ algebraic_KernelMixInIdeal_ReferenceMixInIdeal (hKernelMixInIdeal := hKernelMixInIdeal) (hReferenceMixInIdeal := hReferenceMixInIdeal)
    ∧ preserves_KernelMixOut_KernelMixOutIdeal
    ∧ algebraic_KernelMixOutIdeal_ReferenceMixOutIdeal (hKernelMixOutIdeal := hKernelMixOutIdeal) (hReferenceMixOutIdeal := hReferenceMixOutIdeal)
    ∧ preserves_KernelMixInBwd_KernelMixInBwdIdeal
    ∧ algebraic_KernelMixInBwdIdeal_ReferenceMixInBwdIdeal_pre_finite_in (hKernelMixInBwdIdeal := hKernelMixInBwdIdeal) (hReferenceMixInBwdIdeal := hReferenceMixInBwdIdeal) (hPre_finite_in := hPre_finite_in)
    ∧ preserves_KernelAdamUp_KernelAdamUpIdeal
    ∧ algebraic_KernelAdamUpIdeal_ReferenceAdamUpIdeal (hKernelAdamUpIdeal := hKernelAdamUpIdeal) (hReferenceAdamUpIdeal := hReferenceAdamUpIdeal)
    ∧ preserves_KernelAdamDown_KernelAdamDownIdeal
    ∧ algebraic_KernelAdamDownIdeal_ReferenceAdamDownIdeal (hKernelAdamDownIdeal := hKernelAdamDownIdeal) (hReferenceAdamDownIdeal := hReferenceAdamDownIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamAda_KernelAdamAdaIdeal
    ∧ algebraic_KernelAdamAdaIdeal_ReferenceAdamAdaIdeal (hKernelAdamAdaIdeal := hKernelAdamAdaIdeal) (hReferenceAdamAdaIdeal := hReferenceAdamAdaIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
    ∧ preserves_KernelLoss_KernelLossIdeal
    ∧ algebraic_KernelLossIdeal_ReferenceLossIdeal (hKernelLossIdeal := hKernelLossIdeal) (hReferenceLossIdeal := hReferenceLossIdeal)
    ∧ preserves_KernelAda_KernelAdaIdeal
    ∧ algebraic_KernelAdaIdeal_ReferenceAdaIdeal (hKernelAdaIdeal := hKernelAdaIdeal) (hReferenceAdaIdeal := hReferenceAdaIdeal)
    ∧ preserves_KernelBias_KernelBiasIdeal
    ∧ algebraic_KernelBiasIdeal_ReferenceBiasIdeal (hKernelBiasIdeal := hKernelBiasIdeal) (hReferenceBiasIdeal := hReferenceBiasIdeal)
    ∧ preserves_KernelParts_KernelPartsIdeal
    ∧ algebraic_KernelPartsIdeal_ReferencePartsIdeal (hKernelPartsIdeal := hKernelPartsIdeal) (hReferencePartsIdeal := hReferencePartsIdeal)
    ∧ preserves_KernelMod_KernelModIdeal
    ∧ algebraic_KernelModIdeal_ReferenceModIdeal (hKernelModIdeal := hKernelModIdeal) (hReferenceModIdeal := hReferenceModIdeal)
    ∧ preserves_KernelGate_KernelGateIdeal
    ∧ algebraic_KernelGateIdeal_ReferenceGateIdeal (hKernelGateIdeal := hKernelGateIdeal) (hReferenceGateIdeal := hReferenceGateIdeal)
-- ==== Pre_finite.lean ====
abbrev S2x4096x1024 : Shape := ⟨3, ![2, 4096, 1024]⟩
abbrev S2x1024 : Shape := ⟨2, ![2, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S2x4096x1024 : S_.BroadcastsInDim S2x4096x1024 (![] : Fin 0 → Fin S2x4096x1024.rank)
  bcast_S_S2x1024 : S_.BroadcastsInDim S2x1024 (![] : Fin 0 → Fin S2x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part1 {F : FTy → Type} [FloatOps F] (main_arg6 : FVec F S2816x1024 .f32) (main_arg7 : FVec F S2x4096x1024 .f32) (main_v2 : IVec S2x4096x1024 1) (main_v5 : IVec S2x1024 1) (main_v8 : IVec S2x1024 1) (main_v11 : IVec S2x1024 1) (main_v14 : IVec S1024 1) (main_v17 : IVec S1024x5632 1) : IVec S2x4096x1024 1 × IVec S2x1024 1 × IVec S2x1024 1 × IVec S2x1024 1 × IVec S1024 1 × IVec S1024x5632 1 × IVec S2816x1024 1 × IVec S2x4096x1024 1 :=
  let main_v18 : FVec F S2816x1024 .f32 := Host.absf main_arg6
  let main_cst_5 : FVec F S_ .f32 := constant S_ .f32 0x7F800000#32
  let main_v19 : FVec F S2816x1024 .f32 := broadcastInDim S2816x1024 ![] bcast_S_S2816x1024 main_cst_5
  let main_v20 : IVec S2816x1024 1 := cmpf .olt main_v18 main_v19
  let main_v21 : FVec F S2x4096x1024 .f32 := Host.absf main_arg7
  let main_cst_6 : FVec F S_ .f32 := constant S_ .f32 0x7F800000#32
  let main_v22 : FVec F S2x4096x1024 .f32 := broadcastInDim S2x4096x1024 ![] bcast_S_S2x4096x1024 main_cst_6
  let main_v23 : IVec S2x4096x1024 1 := cmpf .olt main_v21 main_v22
  (main_v2, main_v5, main_v8, main_v11, main_v14, main_v17, main_v20, main_v23)

def fn {F : FTy → Type} [FloatOps F] (main_arg0 : FVec F S2x4096x1024 .f32) (main_arg1 : FVec F S2x1024 .f32) (main_arg2 : FVec F S2x1024 .f32) (main_arg3 : FVec F S2x1024 .f32) (main_arg4 : FVec F S1024 .f32) (main_arg5 : FVec F S1024x5632 .f32) (main_arg6 : FVec F S2816x1024 .f32) (main_arg7 : FVec F S2x4096x1024 .f32) : IVec S2x4096x1024 1 × IVec S2x1024 1 × IVec S2x1024 1 × IVec S2x1024 1 × IVec S1024 1 × IVec S1024x5632 1 × IVec S2816x1024 1 × IVec S2x4096x1024 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x5632 .f32 := Host.absf main_arg5
  let main_cst_4 : FVec F S_ .f32 := constant S_ .f32 0x7F800000#32
  let main_v16 : FVec F S1024x5632 .f32 := broadcastInDim S1024x5632 ![] bcast_S_S1024x5632 main_cst_4
  let main_v17 : IVec S1024x5632 1 := cmpf .olt main_v15 main_v16
  fn_part1 (F := F) main_arg6 main_arg7 main_v2 main_v5 main_v8 main_v11 main_v14 main_v17
-- ==== Pre_finite_in.lean ====
abbrev S2x4096x1024 : Shape := ⟨3, ![2, 4096, 1024]⟩
abbrev S2x1024 : Shape := ⟨2, ![2, 1024]⟩
abbrev S1024 : Shape := ⟨1, ![1024]⟩
abbrev S1024x2564 : Shape := ⟨2, ![1024, 2564]⟩
abbrev S2x4096x2564 : Shape := ⟨3, ![2, 4096, 2564]⟩
abbrev S_ : Shape := ⟨0, ![]⟩

class Facts : Prop where
  bcast_S_S2x4096x1024 : S_.BroadcastsInDim S2x4096x1024 (![] : Fin 0 → Fin S2x4096x1024.rank)
  bcast_S_S2x1024 : S_.BroadcastsInDim S2x1024 (![] : Fin 0 → Fin S2x1024.rank)
  bcast_S_S1024 : S_.BroadcastsInDim S1024 (![] : Fin 0 → Fin S1024.rank)
  bcast_S_S1024x2564 : S_.BroadcastsInDim S1024x2564 (![] : Fin 0 → Fin S1024x2564.rank)
  bcast_S_S2x4096x2564 : S_.BroadcastsInDim S2x4096x2564 (![] : Fin 0 → Fin S2x4096x2564.rank)

variable [Facts]

def fn {F : FTy → Type} [FloatOps F] (main_arg0 : FVec F S2x4096x1024 .f32) (main_arg1 : FVec F S2x1024 .f32) (main_arg2 : FVec F S2x1024 .f32) (main_arg3 : FVec F S1024 .f32) (main_arg4 : FVec F S1024x2564 .f32) (main_arg5 : FVec F S2x4096x1024 .f32) (main_arg6 : FVec F S2x4096x2564 .f32) : IVec S2x4096x1024 1 × IVec S2x1024 1 × IVec S1024 1 × IVec S1024x2564 1 × IVec S2x4096x2564 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S2x1024 .f32 := Host.absf main_arg2
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2564 .f32 := Host.absf main_arg4
  let main_cst_2 : FVec F S_ .f32 := constant S_ .f32 0x7F800000#32
  let main_v10 : FVec F S1024x2564 .f32 := broadcastInDim S1024x2564 ![] bcast_S_S1024x2564 main_cst_2
  let main_v11 : IVec S1024x2564 1 := cmpf .olt main_v9 main_v10
  let main_v12 : FVec F S2x4096x2564 .f32 := Host.absf main_arg6
  let main_cst_3 : FVec F S_ .f32 := constant S_ .f32 0x7F800000#32
  let main_v13 : FVec F S2x4096x2564 .f32 := broadcastInDim S2x4096x2564 ![] bcast_S_S2x4096x2564 main_cst_3
  let main_v14 : IVec S2x4096x2564 1 := cmpf .olt main_v12 main_v13
  (main_v2, main_v5, main_v8, main_v11, main_v14)
-- ==== Kernel.lean ====
abbrev S2x4096x1024 : Shape := ⟨3, ![2, 4096, 1024]⟩
abbrev S2x1024 : Shape := ⟨2, ![2, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S2x4096x5632 : Shape := ⟨3, ![2, 4096, 5632]⟩
abbrev S2x4096x2816 : Shape := ⟨3, ![2, 4096, 2816]⟩
abbrev S2x8x1024 : Shape := ⟨3, ![2, 8, 1024]⟩
abbrev S1024x4x1408 : Shape := ⟨3, ![1024, 4, 1408]⟩
abbrev S4x1024x1408 : Shape := ⟨3, ![4, 1024, 1408]⟩
abbrev S8192x1024 : Shape := ⟨2, ![8192, 1024]⟩
abbrev S8192x2816 : Shape := ⟨2, ![8192, 2816]⟩
abbrev S8x1024 : Shape := ⟨2, ![8, 1024]⟩
abbrev S2x8192x2816 : Shape := ⟨3, ![2, 8192, 2816]⟩
abbrev S256x1024 : Shape := ⟨2, ![256, 1024]⟩
abbrev S1x8x1024 : Shape := ⟨3, ![1, 8, 1024]⟩
abbrev S256x2816 : Shape := ⟨2, ![256, 2816]⟩
abbrev S2x256x2816 : Shape := ⟨3, ![2, 256, 2816]⟩
abbrev S256 : Shape := ⟨1, ![256]⟩
abbrev S256x1 : Shape := ⟨2, ![256, 1]⟩
abbrev S1x1x1024 : Shape := ⟨3, ![1, 1, 1024]⟩
abbrev S1x1024 : Shape := ⟨2, ![1, 1024]⟩
abbrev S1408x1024 : Shape := ⟨2, ![1408, 1024]⟩
abbrev S256x1408 : Shape := ⟨2, ![256, 1408]⟩
abbrev S1x256x1408 : Shape := ⟨3, ![1, 256, 1408]⟩
abbrev S1x1024x1408 : Shape := ⟨3, ![1, 1024, 1408]⟩
abbrev S1024x1408 : Shape := ⟨2, ![1024, 1408]⟩

abbrev nBuf : Space → Nat
  | .hbm => 87
  | .vmem => 27
  | .smem => 0
  | _ => 0

abbrev bufTy : (tb : Table) → Fin (tcTables nBuf tb) → BufTy
  | .hbm, ⟨0, _⟩ => ⟨S2x4096x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S2x4096x1024, .f32⟩
  | .hbm, ⟨8, _⟩ => ⟨S2x4096x1024, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x1024, .f32⟩
  | .hbm, ⟨20, _⟩ => ⟨S2x4096x1024, .f32⟩
  | .hbm, ⟨21, _⟩ => ⟨S2x1024, .f32⟩
  | .hbm, ⟨22, _⟩ => ⟨S2x1x1024, .f32⟩
  | .hbm, ⟨23, _⟩ => ⟨S2x4096x1024, .f32⟩
  | .hbm, ⟨24, _⟩ => ⟨S2x4096x1024, .f32⟩
  | .hbm, ⟨25, _⟩ => ⟨S_, .f32⟩
  | .hbm, ⟨26, _⟩ => ⟨S2x1024, .f32⟩
  | .hbm, ⟨27, _⟩ => ⟨S2x1024, .f32⟩
  | .hbm, ⟨28, _⟩ => ⟨S2x1x1024, .f32⟩
  | .hbm, ⟨29, _⟩ => ⟨S2x4096x1024, .f32⟩
  | .hbm, ⟨30, _⟩ => ⟨S2x4096x1024, .f32⟩
  | .hbm, ⟨31, _⟩ => ⟨S2x1x1024, .f32⟩
  | .hbm, ⟨32, _⟩ => ⟨S2x4096x1024, .f32⟩
  | .hbm, ⟨33, _⟩ => ⟨S2x4096x1024, .f32⟩
  | .hbm, ⟨34, _⟩ => ⟨S2x4096x5632, .f32⟩
  | .hbm, ⟨35, _⟩ => ⟨S2x4096x2816, .f32⟩
  | .hbm, ⟨36, _⟩ => ⟨S2x4096x2816, .f32⟩
  | .hbm, ⟨37, _⟩ => ⟨S2x4096x2816, .f32⟩
  | .hbm, ⟨38, _⟩ => ⟨S2x4096x2816, .f32⟩
  | .hbm, ⟨39, _⟩ => ⟨S2x4096x2816, .f32⟩
  | .hbm, ⟨40, _⟩ => ⟨S2x4096x2816, .f32⟩
  | .hbm, ⟨41, _⟩ => ⟨S_, .f32⟩
  | .hbm, ⟨42, _⟩ => ⟨S2x4096x2816, .f32⟩
  | .hbm, ⟨43, _⟩ => ⟨S2x4096x2816, .f32⟩
  | .hbm, ⟨44, _⟩ => ⟨S_, .f32⟩
  | .hbm, ⟨45, _⟩ => ⟨S2x4096x2816, .f32⟩
  | .hbm, ⟨46, _⟩ => ⟨S2x4096x2816, .f32⟩
  | .hbm, ⟨47, _⟩ => ⟨S2x4096x2816, .f32⟩
  | .hbm, ⟨48, _⟩ => ⟨S2x4096x2816, .f32⟩
  | .hbm, ⟨49, _⟩ => ⟨S2x4096x1024, .f32⟩
  | .hbm, ⟨50, _⟩ => ⟨S_, .f32⟩
  | .hbm, ⟨51, _⟩ => ⟨S2x1024, .f32⟩
  | .hbm, ⟨52, _⟩ => ⟨S_, .f32⟩
  | .hbm, ⟨53, _⟩ => ⟨S2x1024, .f32⟩
  | .hbm, ⟨54, _⟩ => ⟨S2x1024, .f32⟩
  | .hbm, ⟨55, _⟩ => ⟨S_, .f32⟩
  | .hbm, ⟨56, _⟩ => ⟨S2x1024, .f32⟩
  | .hbm, ⟨57, _⟩ => ⟨S2x1024, .f32⟩
  | .hbm, ⟨58, _⟩ => ⟨S2x1024, .f32⟩
  | .hbm, ⟨59, _⟩ => ⟨S2x1x1024, .f32⟩
  | .hbm, ⟨60, _⟩ => ⟨S2x1x1024, .f32⟩
  | .hbm, ⟨61, _⟩ => ⟨S2x1x1024, .f32⟩
  | .hbm, ⟨62, _⟩ => ⟨S2x1x1024, .f32⟩
  | .hbm, ⟨63, _⟩ => ⟨S2x1x1024, .f32⟩
  | .hbm, ⟨64, _⟩ => ⟨S2x1x1024, .f32⟩
  | .hbm, ⟨65, _⟩ => ⟨S2x1x1024, .f32⟩
  | .hbm, ⟨66, _⟩ => ⟨S2x1x1024, .f32⟩
  | .hbm, ⟨67, _⟩ => ⟨S2x8x1024, .f32⟩
  | .hbm, ⟨68, _⟩ => ⟨S1024x5632, .bf16⟩
  | .hbm, ⟨69, _⟩ => ⟨S1024x4x1408, .bf16⟩
  | .hbm, ⟨70, _⟩ => ⟨S4x1024x1408, .bf16⟩
  | .hbm, ⟨71, _⟩ => ⟨S2816x1024, .bf16⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .bf16⟩
  | .hbm, ⟨76, _⟩ => ⟨S8192x2816, .f32⟩
  | .hbm, ⟨77, _⟩ => ⟨S8192x2816, .bf16⟩
  | .hbm, ⟨78, _⟩ => ⟨S8192x2816, .f32⟩
  | .hbm, ⟨79, _⟩ => ⟨S8192x2816, .bf16⟩
  | .hbm, ⟨80, _⟩ => ⟨S8192x1024, .f32⟩
  | .hbm, ⟨81, _⟩ => ⟨S2x8x1024, .f32⟩
  | .hbm, ⟨82, _⟩ => ⟨S8x1024, .f32⟩
  | .hbm, ⟨83, _⟩ => ⟨S8192x1024, .bf16⟩
  | .hbm, ⟨84, _⟩ => ⟨S8192x1024, .bf16⟩
  | .hbm, ⟨85, _⟩ => ⟨S8192x2816, .bf16⟩
  | .hbm, ⟨86, _⟩ => ⟨S2x8192x2816, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x8x1024, .f32⟩
  | .local _ .vmem, ⟨5, _⟩ => ⟨S1x8x1024, .f32⟩
  | .local _ .vmem, ⟨6, _⟩ => ⟨S256x1024, .bf16⟩
  | .local _ .vmem, ⟨7, _⟩ => ⟨S256x1024, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S4x1024x1408, .bf16⟩
  | .local _ .vmem, ⟨13, _⟩ => ⟨S2816x1024, .bf16⟩
  | .local _ .vmem, ⟨14, _⟩ => ⟨S256x1024, .f32⟩
  | .local _ .vmem, ⟨15, _⟩ => ⟨S256x1024, .f32⟩
  | .local _ .vmem, ⟨16, _⟩ => ⟨S1x8x1024, .f32⟩
  | .local _ .vmem, ⟨17, _⟩ => ⟨S1x8x1024, .f32⟩
  | .local _ .vmem, ⟨18, _⟩ => ⟨S8x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x2816, .bf16⟩
  | .local _ .vmem, ⟨24, _⟩ => ⟨S256x2816, .bf16⟩
  | .local _ .vmem, ⟨25, _⟩ => ⟨S2x256x2816, .bf16⟩
  | .local _ .vmem, ⟨26, _⟩ => ⟨S2x256x2816, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57_0 : Ref sig .tc := ⟨.hbm, 80, rfl⟩
abbrev main_v57_1 : Ref sig .tc := ⟨.hbm, 81, rfl⟩
abbrev main_v57_2 : Ref sig .tc := ⟨.hbm, 82, rfl⟩
abbrev main_v57_3 : Ref sig .tc := ⟨.hbm, 83, rfl⟩
abbrev main_v57_4 : Ref sig .tc := ⟨.hbm, 84, rfl⟩
abbrev main_v57_5 : Ref sig .tc := ⟨.hbm, 85, rfl⟩
abbrev main_v57_6 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x1408 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S2x4096x1024 : Shape := ⟨3, ![2, 4096, 1024]⟩
abbrev S2x1024 : Shape := ⟨2, ![2, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S2x4096x5632 : Shape := ⟨3, ![2, 4096, 5632]⟩
abbrev S2x4096x2816 : Shape := ⟨3, ![2, 4096, 2816]⟩
abbrev S2x8x1024 : Shape := ⟨3, ![2, 8, 1024]⟩
abbrev S8x1024 : Shape := ⟨2, ![8, 1024]⟩
abbrev S1x1024 : Shape := ⟨2, ![1, 1024]⟩
abbrev S8192x1024 : Shape := ⟨2, ![8192, 1024]⟩
abbrev S8192x2816 : Shape := ⟨2, ![8192, 2816]⟩
abbrev S8192x2x2816 : Shape := ⟨3, ![8192, 2, 2816]⟩
abbrev S2x8192x2816 : Shape := ⟨3, ![2, 8192, 2816]⟩

abbrev nBuf : Space → Nat
  | .hbm => 170
  | .vmem => 0
  | .smem => 0
  | _ => 0

abbrev hbmTy0_0 (i : Nat) : BufTy := match i % 128 with
  | 0 => ⟨S2x4096x1024, .f32⟩
  | 1 => ⟨S2x1024, .f32⟩
  | 2 => ⟨S2x1024, .f32⟩
  | 3 => ⟨S2x1024, .f32⟩
  | 4 => ⟨S1024, .f32⟩
  | 5 => ⟨S1024x5632, .f32⟩
  | 6 => ⟨S2816x1024, .f32⟩
  | 7 => ⟨S2x4096x1024, .f32⟩
  | 8 => ⟨S2x4096x1024, .f32⟩
  | 9 => ⟨S_, .f32⟩
  | 10 => ⟨S2x4096, .f32⟩
  | 11 => ⟨S2x4096x1, .f32⟩
  | 12 => ⟨S_, .f32⟩
  | 13 => ⟨S2x4096x1, .f32⟩
  | 14 => ⟨S2x4096x1, .f32⟩
  | 15 => ⟨S_, .f32⟩
  | 16 => ⟨S2x4096x1, .f32⟩
  | 17 => ⟨S2x4096x1, .f32⟩
  | 18 => ⟨S2x4096x1, .f32⟩
  | 19 => ⟨S2x4096x1, .f32⟩
  | 20 => ⟨S_, .f32⟩
  | 21 => ⟨S2x4096x1, .f32⟩
  | 22 => ⟨S2x4096x1, .f32⟩
  | 23 => ⟨S2x4096x1024, .f32⟩
  | 24 => ⟨S2x4096x1024, .f32⟩
  | 25 => ⟨S2x1024, .f32⟩
  | 26 => ⟨S2x1x1024, .f32⟩
  | 27 => ⟨S2x4096x1024, .f32⟩
  | 28 => ⟨S2x4096x1024, .f32⟩
  | 29 => ⟨S_, .f32⟩
  | 30 => ⟨S2x1024, .f32⟩
  | 31 => ⟨S2x1024, .f32⟩
  | 32 => ⟨S2x1x1024, .f32⟩
  | 33 => ⟨S2x4096x1024, .f32⟩
  | 34 => ⟨S2x4096x1024, .f32⟩
  | 35 => ⟨S2x1x1024, .f32⟩
  | 36 => ⟨S2x4096x1024, .f32⟩
  | 37 => ⟨S2x4096x1024, .f32⟩
  | 38 => ⟨S2x4096x5632, .f32⟩
  | 39 => ⟨S2x4096x2816, .f32⟩
  | 40 => ⟨S2x4096x2816, .f32⟩
  | 41 => ⟨S2x4096x2816, .f32⟩
  | 42 => ⟨S2x4096x2816, .f32⟩
  | 43 => ⟨S_, .f32⟩
  | 44 => ⟨S2x4096x2816, .f32⟩
  | 45 => ⟨S2x4096x2816, .f32⟩
  | 46 => ⟨S_, .f32⟩
  | 47 => ⟨S2x4096x2816, .f32⟩
  | 48 => ⟨S2x4096x2816, .f32⟩
  | 49 => ⟨S_, .f32⟩
  | 50 => ⟨S2x4096x2816, .f32⟩
  | 51 => ⟨S2x4096x2816, .f32⟩
  | 52 => ⟨S2x4096x2816, .f32⟩
  | 53 => ⟨S2x4096x2816, .f32⟩
  | 54 => ⟨S2x4096x2816, .f32⟩
  | 55 => ⟨S2x4096x1024, .f32⟩
  | 56 => ⟨S_, .f32⟩
  | 57 => ⟨S2x1024, .f32⟩
  | 58 => ⟨S2x1024, .f32⟩
  | 59 => ⟨S2x1x1024, .f32⟩
  | 60 => ⟨S_, .f32⟩
  | 61 => ⟨S2x1x1024, .f32⟩
  | 62 => ⟨S2x1x1024, .f32⟩
  | 63 => ⟨S2x4096x1024, .f32⟩
  | 64 => ⟨S2x4096x1024, .f32⟩
  | 65 => ⟨S2x4096x1024, .f32⟩
  | 66 => ⟨S2x4096x1024, .f32⟩
  | 67 => ⟨S2x4096x1024, .f32⟩
  | 68 => ⟨S2x4096x1024, .f32⟩
  | 69 => ⟨S2x4096x1024, .f32⟩
  | 70 => ⟨S_, .f32⟩
  | 71 => ⟨S2x1024, .f32⟩
  | 72 => ⟨S2x1x1024, .f32⟩
  | 73 => ⟨S_, .f32⟩
  | 74 => ⟨S2x1x1024, .f32⟩
  | 75 => ⟨S2x1x1024, .f32⟩
  | 76 => ⟨S_, .f32⟩
  | 77 => ⟨S2x1024, .f32⟩
  | 78 => ⟨S2x4096x2816, .f32⟩
  | 79 => ⟨S2x4096x2816, .f32⟩
  | 80 => ⟨S2x4096x2816, .f32⟩
  | 81 => ⟨S2x4096x2816, .f32⟩
  | 82 => ⟨S2x4096x2816, .f32⟩
  | 83 => ⟨S2x4096x2816, .f32⟩
  | 84 => ⟨S2x4096x2816, .f32⟩
  | 85 => ⟨S2x4096x5632, .f32⟩
  | 86 => ⟨S2x4096x1024, .f32⟩
  | 87 => ⟨S_, .f32⟩
  | 88 => ⟨S2x1024, .f32⟩
  | 89 => ⟨S2x1x1024, .f32⟩
  | 90 => ⟨S_, .f32⟩
  | 91 => ⟨S2x1024, .f32⟩
  | 92 => ⟨S2x4096x1024, .f32⟩
  | 93 => ⟨S_, .f32⟩
  | 94 => ⟨S2x1024, .f32⟩
  | 95 => ⟨S2x1x1024, .f32⟩
  | 96 => ⟨S2x4096x1024, .f32⟩
  | 97 => ⟨S2x4096x1024, .f32⟩
  | 98 => ⟨S_, .f32⟩
  | 99 => ⟨S2x1024, .f32⟩
  | 100 => ⟨S2x4096x1024, .f32⟩
  | 101 => ⟨S_, .f32⟩
  | 102 => ⟨S2x1024, .f32⟩
  | 103 => ⟨S2x1x1024, .f32⟩
  | 104 => ⟨S2x4096x1024, .f32⟩
  | 105 => ⟨S2x4096x1024, .f32⟩
  | 106 => ⟨S_, .f32⟩
  | 107 => ⟨S2x1024, .f32⟩
  | 108 => ⟨S_, .f32⟩
  | 109 => ⟨S1024, .f32⟩
  | 110 => ⟨S2x4096x1024, .f32⟩
  | 111 => ⟨S_, .f32⟩
  | 112 => ⟨S2x4096, .f32⟩
  | 113 => ⟨S2x4096x1, .f32⟩
  | 114 => ⟨S2x4096x1024, .f32⟩
  | 115 => ⟨S2x4096x1024, .f32⟩
  | 116 => ⟨S2x4096x1, .f32⟩
  | 117 => ⟨S_, .f32⟩
  | 118 => ⟨S2x4096x1, .f32⟩
  | 119 => ⟨S2x4096x1, .f32⟩
  | 120 => ⟨S_, .f32⟩
  | 121 => ⟨S2x4096, .f32⟩
  | 122 => ⟨S2x4096x1024, .f32⟩
  | 123 => ⟨S2x4096x1024, .f32⟩
  | 124 => ⟨S2x4096x1024, .f32⟩
  | 125 => ⟨S2x4096x1024, .f32⟩
  | 126 => ⟨S2x4096x1024, .f32⟩
  | 127 => ⟨S2x8x1024, .i32⟩
  | _ => ⟨S2x4096x1024, .f32⟩

abbrev hbmTy0_1 (i : Nat) : BufTy := match i % 128 with
  | 0 => ⟨S_, .i32⟩
  | 1 => ⟨S2x8x1024, .i32⟩
  | 2 => ⟨S2x8x1024, .i1⟩
  | 3 => ⟨S2x1x1024, .f32⟩
  | 4 => ⟨S_, .i32⟩
  | 5 => ⟨S2x8x1024, .i32⟩
  | 6 => ⟨S2x8x1024, .i1⟩
  | 7 => ⟨S2x1x1024, .f32⟩
  | 8 => ⟨S_, .i32⟩
  | 9 => ⟨S2x8x1024, .i32⟩
  | 10 => ⟨S2x8x1024, .i1⟩
  | 11 => ⟨S2x1x1024, .f32⟩
  | 12 => ⟨S_, .f32⟩
  | 13 => ⟨S_, .f32⟩
  | 14 => ⟨S2x8x1024, .f32⟩
  | 15 => ⟨S2x8x1024, .f32⟩
  | 16 => ⟨S2x8x1024, .f32⟩
  | 17 => ⟨S2x8x1024, .f32⟩
  | 18 => ⟨S2x8x1024, .f32⟩
  | 19 => ⟨S2x8x1024, .f32⟩
  | 20 => ⟨S2x8x1024, .f32⟩
  | 21 => ⟨S8x1024, .i32⟩
  | 22 => ⟨S_, .i32⟩
  | 23 => ⟨S8x1024, .i32⟩
  | 24 => ⟨S8x1024, .i1⟩
  | 25 => ⟨S1x1024, .f32⟩
  | 26 => ⟨S_, .f32⟩
  | 27 => ⟨S_, .f32⟩
  | 28 => ⟨S8x1024, .f32⟩
  | 29 => ⟨S8x1024, .f32⟩
  | 30 => ⟨S8x1024, .f32⟩
  | 31 => ⟨S2x4096x1024, .f32⟩
  | 32 => ⟨S8192x1024, .f32⟩
  | 33 => ⟨S8192x1024, .f32⟩
  | 34 => ⟨S8192x1024, .bf16⟩
  | 35 => ⟨S8192x1024, .f32⟩
  | 36 => ⟨S8192x1024, .bf16⟩
  | 37 => ⟨S8192x2816, .f32⟩
  | 38 => ⟨S8192x2816, .bf16⟩
  | 39 => ⟨S8192x2x2816, .f32⟩
  | 40 => ⟨S2x8192x2816, .f32⟩
  | 41 => ⟨S2x8192x2816, .bf16⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v28_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v28_1 : Ref sig .tc := ⟨.hbm, 52, rfl⟩
abbrev main_v28_0 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_9 : Ref sig .tc := ⟨.hbm, 87, rfl⟩
abbrev main_v54 : Ref sig .tc := ⟨.hbm, 88, rfl⟩
abbrev main_v55 : Ref sig .tc := ⟨.hbm, 89, rfl⟩
abbrev main_cst_10 : Ref sig .tc := ⟨.hbm, 90, rfl⟩
abbrev main_v56 : Ref sig .tc := ⟨.hbm, 91, rfl⟩
abbrev main_v57 : Ref sig .tc := ⟨.hbm, 92, rfl⟩
abbrev main_cst_11 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_12 : Ref sig .tc := ⟨.hbm, 98, rfl⟩
abbrev main_v62 : Ref sig .tc := ⟨.hbm, 99, rfl⟩
abbrev main_v63 : Ref sig .tc := ⟨.hbm, 100, rfl⟩
abbrev main_cst_13 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_14 : Ref sig .tc := ⟨.hbm, 106, rfl⟩
abbrev main_v68 : Ref sig .tc := ⟨.hbm, 107, rfl⟩
abbrev main_cst_15 : Ref sig .tc := ⟨.hbm, 108, rfl⟩
abbrev main_v69 : Ref sig .tc := ⟨.hbm, 109, rfl⟩
abbrev main_v70 : Ref sig .tc := ⟨.hbm, 110, rfl⟩
abbrev main_cst_16 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_17 : Ref sig .tc := ⟨.hbm, 117, rfl⟩
abbrev main_v76 : Ref sig .tc := ⟨.hbm, 118, rfl⟩
abbrev main_v77 : Ref sig .tc := ⟨.hbm, 119, rfl⟩
abbrev main_cst_18 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_c : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_c_19 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_c_20 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_21 : Ref sig .tc := ⟨.hbm, 140, rfl⟩
abbrev main_call2_v0 : Ref sig .tc := ⟨.hbm, 141, rfl⟩
abbrev main_call2_v1 : Ref sig .tc := ⟨.hbm, 142, rfl⟩
abbrev main_call2_v2 : Ref sig .tc := ⟨.hbm, 143, rfl⟩
abbrev main_v94 : Ref sig .tc := ⟨.hbm, 144, rfl⟩
abbrev main_call3_v0 : Ref sig .tc := ⟨.hbm, 145, rfl⟩
abbrev main_v95 : Ref sig .tc := ⟨.hbm, 146, rfl⟩
abbrev main_call4_v0 : Ref sig .tc := ⟨.hbm, 147, rfl⟩
abbrev main_v96 : Ref sig .tc := ⟨.hbm, 148, rfl⟩
abbrev main_v97 : Ref sig .tc := ⟨.hbm, 149, rfl⟩
abbrev main_c_22 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_cst_23 : Ref sig .tc := ⟨.hbm, 154, rfl⟩
abbrev main_call5_v0 : Ref sig .tc := ⟨.hbm, 155, rfl⟩
abbrev main_call5_v1 : Ref sig .tc := ⟨.hbm, 156, rfl⟩
abbrev main_call5_v2 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩

abbrev nD : Nat := 1
abbrev τ : Topo := Topo.v7x

variable {F : FTy → Type} [FloatOps F]
-- ==== KernelUp.lean ====
abbrev S2x4096x1024 : Shape := ⟨3, ![2, 4096, 1024]⟩
abbrev S2x4096x5632 : Shape := ⟨3, ![2, 4096, 5632]⟩
abbrev S8192x1024 : Shape := ⟨2, ![8192, 1024]⟩
abbrev S8192x2x2816 : Shape := ⟨3, ![8192, 2, 2816]⟩
abbrev S2x8192x2816 : Shape := ⟨3, ![2, 8192, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 9
  | .vmem => 8
  | .smem => 0
  | _ => 0

abbrev bufTy : (tb : Table) → Fin (tcTables nBuf tb) → BufTy
  | .hbm, ⟨0, _⟩ => ⟨S2x4096x1024, .f32⟩
  | .hbm, ⟨1, _⟩ => ⟨S2x4096x5632, .f32⟩
  | .hbm, ⟨2, _⟩ => ⟨S8192x1024, .f32⟩
  | .hbm, ⟨3, _⟩ => ⟨S8192x1024, .bf16⟩
  | .hbm, ⟨4, _⟩ => ⟨S8192x2x2816, .f32⟩
  | .hbm, ⟨5, _⟩ => ⟨S2x8192x2816, .f32⟩
  | .hbm, ⟨6, _⟩ => ⟨S2x8192x2816, .bf16⟩
  | .hbm, ⟨7, _⟩ => ⟨S4x1024x1408, .f32⟩
  | .hbm, ⟨8, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1x1024x1408, .bf16⟩
  | .local _ .vmem, ⟨7, _⟩ => ⟨S1x1024x1408, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_11 : BitVec 32 := 0#32
  let v16 : BitVec 1 := Scalar.cmpi .ne v15 c0_i32_11
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceUpIdeal.lean ====
abbrev S2x4096x1024 : Shape := ⟨3, ![2, 4096, 1024]⟩
abbrev S2x4096x5632 : Shape := ⟨3, ![2, 4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x5632, .f32⟩
  | .hbm, ⟨2, _⟩ => ⟨S_, .f32⟩
  | .hbm, ⟨3, _⟩ => ⟨S1024x5632, .f32⟩
  | .hbm, ⟨4, _⟩ => ⟨S2x4096x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDown.lean ====
abbrev S2x4096x2816 : Shape := ⟨3, ![2, 4096, 2816]⟩
abbrev S2x4096x1024 : Shape := ⟨3, ![2, 4096, 1024]⟩
abbrev S8192x2816 : Shape := ⟨2, ![8192, 2816]⟩
abbrev S8192x1024 : Shape := ⟨2, ![8192, 1024]⟩
abbrev S1x8192x1024 : Shape := ⟨3, ![1, 8192, 1024]⟩
abbrev S2816x1024 : Shape := ⟨2, ![2816, 1024]⟩
abbrev S1024x1408 : Shape := ⟨2, ![1024, 1408]⟩
abbrev S1x1024x1024 : Shape := ⟨3, ![1, 1024, 1024]⟩
abbrev S1408x1024 : Shape := ⟨2, ![1408, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S2x4096x2816, .f32⟩
  | .hbm, ⟨1, _⟩ => ⟨S2x4096x1024, .f32⟩
  | .hbm, ⟨2, _⟩ => ⟨S8192x2816, .f32⟩
  | .hbm, ⟨3, _⟩ => ⟨S8192x2816, .bf16⟩
  | .hbm, ⟨4, _⟩ => ⟨S8192x1024, .f32⟩
  | .hbm, ⟨5, _⟩ => ⟨S8192x1024, .bf16⟩
  | .hbm, ⟨6, _⟩ => ⟨S1x8192x1024, .bf16⟩
  | .hbm, ⟨7, _⟩ => ⟨S2816x1024, .f32⟩
  | .hbm, ⟨8, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S2x4096x2816 : Shape := ⟨3, ![2, 4096, 2816]⟩
abbrev S2x4096x1024 : Shape := ⟨3, ![2, 4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S2x4096x1024, .f32⟩
  | .hbm, ⟨2, _⟩ => ⟨S_, .f32⟩
  | .hbm, ⟨3, _⟩ => ⟨S2816x1024, .f32⟩
  | .hbm, ⟨4, _⟩ => ⟨S2x4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOut.lean ====
abbrev S2x4096x1024 : Shape := ⟨3, ![2, 4096, 1024]⟩
abbrev S8192x1024 : Shape := ⟨2, ![8192, 1024]⟩
abbrev S1x8192x1024 : Shape := ⟨3, ![1, 8192, 1024]⟩
abbrev S1024x1024 : Shape := ⟨2, ![1024, 1024]⟩
abbrev S1x1024x1024 : Shape := ⟨3, ![1, 1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S1x8192x1024, .bf16⟩
  | .hbm, ⟨7, _⟩ => ⟨S1024x1024, .f32⟩
  | .hbm, ⟨8, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== ReferenceOutIdeal.lean ====
abbrev S2x4096x1024 : Shape := ⟨3, ![2, 4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S_, .f32⟩
  | .hbm, ⟨3, _⟩ => ⟨S1024x1024, .f32⟩
  | .hbm, ⟨4, _⟩ => ⟨S2x4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelIn.lean ====
abbrev S2x4096x1024 : Shape := ⟨3, ![2, 4096, 1024]⟩
abbrev S2x4096x2564 : Shape := ⟨3, ![2, 4096, 2564]⟩
abbrev S8192x1024 : Shape := ⟨2, ![8192, 1024]⟩
abbrev S8192x2564 : Shape := ⟨2, ![8192, 2564]⟩
abbrev S_ : Shape := ⟨0, ![]⟩
abbrev S8192x2688 : Shape := ⟨2, ![8192, 2688]⟩
abbrev S1x8192x2688 : Shape := ⟨3, ![1, 8192, 2688]⟩
abbrev S1024x2688 : Shape := ⟨2, ![1024, 2688]⟩
abbrev S1024x1024 : Shape := ⟨2, ![1024, 1024]⟩
abbrev S1x1024x896 : Shape := ⟨3, ![1, 1024, 896]⟩
abbrev S1024x896 : Shape := ⟨2, ![1024, 896]⟩

abbrev nBuf : Space → Nat
  | .hbm => 11
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x4096x2564, .f32⟩
  | .hbm, ⟨2, _⟩ => ⟨S8192x1024, .f32⟩
  | .hbm, ⟨3, _⟩ => ⟨S8192x1024, .bf16⟩
  | .hbm, ⟨4, _⟩ => ⟨S8192x2564, .f32⟩
  | .hbm, ⟨5, _⟩ => ⟨S_, .i32⟩
  | .hbm, ⟨6, _⟩ => ⟨S_, .f32⟩
  | .hbm, ⟨7, _⟩ => ⟨S8192x2688, .f32⟩
  | .hbm, ⟨8, _⟩ => ⟨S8192x2688, .bf16⟩
  | .hbm, ⟨9, _⟩ => ⟨S1x8192x2688, .bf16⟩
  | .hbm, ⟨10, _⟩ => ⟨S1024x2688, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x896, .bf16⟩
  | .local _ .vmem, ⟨3, _⟩ => ⟨S1x1024x896, .bf16⟩
  | .local _ .vmem, ⟨4, _⟩ => ⟨S1024x896, .f32⟩
  | .local _ .vmem, ⟨5, _⟩ => ⟨S1024x896, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S2x4096x1024 : Shape := ⟨3, ![2, 4096, 1024]⟩
abbrev S2x4096x2564 : Shape := ⟨3, ![2, 4096, 2564]⟩
abbrev S_ : Shape := ⟨0, ![]⟩
abbrev S1024x2564 : Shape := ⟨2, ![1024, 2564]⟩
abbrev S2564x1024 : Shape := ⟨2, ![2564, 1024]⟩
abbrev S1024x2688 : Shape := ⟨2, ![1024, 2688]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x2564, .f32⟩
  | .hbm, ⟨2, _⟩ => ⟨S_, .f32⟩
  | .hbm, ⟨3, _⟩ => ⟨S1024x2564, .f32⟩
  | .hbm, ⟨4, _⟩ => ⟨S2x4096x2564, .f32⟩
  | .hbm, ⟨5, _⟩ => ⟨S2564x1024, .f32⟩
  | .hbm, ⟨6, _⟩ => ⟨S1024x2564, .f32⟩
  | .hbm, ⟨7, _⟩ => ⟨S_, .i32⟩
  | .hbm, ⟨8, _⟩ => ⟨S_, .f32⟩
  | .hbm, ⟨9, _⟩ => ⟨S1024x2688, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== KernelFwd.lean ====
abbrev S2x4096x1024 : Shape := ⟨3, ![2, 4096, 1024]⟩
abbrev S2x1024 : Shape := ⟨2, ![2, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x1x1024 : Shape := ⟨3, ![2, 1, 1024]⟩
abbrev S2x8x1024 : Shape := ⟨3, ![2, 8, 1024]⟩
abbrev S1024x4x1408 : Shape := ⟨3, ![1024, 4, 1408]⟩
abbrev S4x1024x1408 : Shape := ⟨3, ![4, 1024, 1408]⟩
abbrev S8192x1024 : Shape := ⟨2, ![8192, 1024]⟩
abbrev S8192x2816 : Shape := ⟨2, ![8192, 2816]⟩
abbrev S512x1024 : Shape := ⟨2, ![512, 1024]⟩
abbrev S1x8x1024 : Shape := ⟨3, ![1, 8, 1024]⟩
abbrev S1x1024x1408 : Shape := ⟨3, ![1, 1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩
abbrev S1x1x1024 : Shape := ⟨3, ![1, 1, 1024]⟩
abbrev S1x1024 : Shape := ⟨2, ![1, 1024]⟩
abbrev S1024x1408 : Shape := ⟨2, ![1024, 1408]⟩

abbrev nBuf : Space → Nat
  | .hbm => 34
  | .vmem => 20
  | .smem => 0
  | _ => 0

abbrev bufTy : (tb : Table) → Fin (tcTables nBuf tb) → BufTy
  | .hbm, ⟨0, _⟩ => ⟨S2x4096x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S_, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S_, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x8x1024, .f32⟩
  | .hbm, ⟨25, _⟩ => ⟨S1024x5632, .bf16⟩
  | .hbm, ⟨26, _⟩ => ⟨S1024x4x1408, .bf16⟩
  | .hbm, ⟨27, _⟩ => ⟨S4x1024x1408, .bf16⟩
  | .hbm, ⟨28, _⟩ => ⟨S2816x1024, .bf16⟩
  | .hbm, ⟨29, _⟩ => ⟨S8192x1024, .f32⟩
  | .hbm, ⟨30, _⟩ => ⟨S8192x1024, .f32⟩
  | .hbm, ⟨31, _⟩ => ⟨S8192x2816, .bf16⟩
  | .hbm, ⟨32, _⟩ => ⟨S8192x2816, .bf16⟩
  | .hbm, ⟨33, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S512x1024, .f32⟩
  | .local _ .vmem, ⟨11, _⟩ => ⟨S512x1024, .f32⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v32 : BitVec 1 := Scalar.cmpi .eq arg1 c1_i32
  let v33 : BitVec 32 := Scalar.extui v32
  let c0_i32_23 : BitVec 32 := 0#32
  let v34 : BitVec 1 := Scalar.cmpi .ne v33 c0_i32_23
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceFwdIdeal.lean ====
abbrev S2x4096x1024 : Shape := ⟨3, ![2, 4096, 1024]⟩
abbrev S2x1024 : Shape := ⟨2, ![2, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S2x4096x5632 : Shape := ⟨3, ![2, 4096, 5632]⟩
abbrev S2x4096x2816 : Shape := ⟨3, ![2, 4096, 2816]⟩
abbrev S8192x1024 : Shape := ⟨2, ![8192, 1024]⟩
abbrev S8192x2816 : Shape := ⟨2, ![8192, 2816]⟩

abbrev nBuf : Space → Nat
  | .hbm => 66
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S2x4096x1024, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x1024, .f32⟩
  | .hbm, ⟨19, _⟩ => ⟨S2x4096x1024, .f32⟩
  | .hbm, ⟨20, _⟩ => ⟨S2x1024, .f32⟩
  | .hbm, ⟨21, _⟩ => ⟨S2x1x1024, .f32⟩
  | .hbm, ⟨22, _⟩ => ⟨S2x4096x1024, .f32⟩
  | .hbm, ⟨23, _⟩ => ⟨S2x4096x1024, .f32⟩
  | .hbm, ⟨24, _⟩ => ⟨S_, .f32⟩
  | .hbm, ⟨25, _⟩ => ⟨S2x1024, .f32⟩
  | .hbm, ⟨26, _⟩ => ⟨S2x1024, .f32⟩
  | .hbm, ⟨27, _⟩ => ⟨S2x1x1024, .f32⟩
  | .hbm, ⟨28, _⟩ => ⟨S2x4096x1024, .f32⟩
  | .hbm, ⟨29, _⟩ => ⟨S2x4096x1024, .f32⟩
  | .hbm, ⟨30, _⟩ => ⟨S2x1x1024, .f32⟩
  | .hbm, ⟨31, _⟩ => ⟨S2x4096x1024, .f32⟩
  | .hbm, ⟨32, _⟩ => ⟨S2x4096x1024, .f32⟩
  | .hbm, ⟨33, _⟩ => ⟨S2x4096x5632, .f32⟩
  | .hbm, ⟨34, _⟩ => ⟨S2x4096x2816, .f32⟩
  | .hbm, ⟨35, _⟩ => ⟨S2x4096x2816, .f32⟩
  | .hbm, ⟨36, _⟩ => ⟨S2x4096x2816, .f32⟩
  | .hbm, ⟨37, _⟩ => ⟨S2x4096x2816, .f32⟩
  | .hbm, ⟨38, _⟩ => ⟨S2x4096x2816, .f32⟩
  | .hbm, ⟨39, _⟩ => ⟨S2x4096x2816, .f32⟩
  | .hbm, ⟨40, _⟩ => ⟨S_, .f32⟩
  | .hbm, ⟨41, _⟩ => ⟨S2x4096x2816, .f32⟩
  | .hbm, ⟨42, _⟩ => ⟨S2x4096x2816, .f32⟩
  | .hbm, ⟨43, _⟩ => ⟨S_, .f32⟩
  | .hbm, ⟨44, _⟩ => ⟨S2x4096x2816, .f32⟩
  | .hbm, ⟨45, _⟩ => ⟨S2x4096x2816, .f32⟩
  | .hbm, ⟨46, _⟩ => ⟨S2x4096x2816, .f32⟩
  | .hbm, ⟨47, _⟩ => ⟨S2x4096x2816, .f32⟩
  | .hbm, ⟨48, _⟩ => ⟨S2x4096x1024, .f32⟩
  | .hbm, ⟨49, _⟩ => ⟨S_, .f32⟩
  | .hbm, ⟨50, _⟩ => ⟨S2x1024, .f32⟩
  | .hbm, ⟨51, _⟩ => ⟨S2x1024, .f32⟩
  | .hbm, ⟨52, _⟩ => ⟨S2x1x1024, .f32⟩
  | .hbm, ⟨53, _⟩ => ⟨S_, .f32⟩
  | .hbm, ⟨54, _⟩ => ⟨S2x1x1024, .f32⟩
  | .hbm, ⟨55, _⟩ => ⟨S2x1x1024, .f32⟩
  | .hbm, ⟨56, _⟩ => ⟨S2x4096x1024, .f32⟩
  | .hbm, ⟨57, _⟩ => ⟨S2x4096x1024, .f32⟩
  | .hbm, ⟨58, _⟩ => ⟨S2x4096x1024, .f32⟩
  | .hbm, ⟨59, _⟩ => ⟨S8192x1024, .f32⟩
  | .hbm, ⟨60, _⟩ => ⟨S8192x2816, .f32⟩
  | .hbm, ⟨61, _⟩ => ⟨S8192x2816, .bf16⟩
  | .hbm, ⟨62, _⟩ => ⟨S8192x2816, .f32⟩
  | .hbm, ⟨63, _⟩ => ⟨S8192x2816, .bf16⟩
  | .hbm, ⟨64, _⟩ => ⟨S8192x1024, .f32⟩
  | .hbm, ⟨65, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== KernelMixIn.lean ====
abbrev S2x4096x1024 : Shape := ⟨3, ![2, 4096, 1024]⟩
abbrev S2x1024 : Shape := ⟨2, ![2, 1024]⟩
abbrev S1024 : Shape := ⟨1, ![1024]⟩
abbrev S1024x2564 : Shape := ⟨2, ![1024, 2564]⟩
abbrev S_ : Shape := ⟨0, ![]⟩
abbrev S2x1x1024 : Shape := ⟨3, ![2, 1, 1024]⟩
abbrev S2x8x1024 : Shape := ⟨3, ![2, 8, 1024]⟩
abbrev S1024x2688 : Shape := ⟨2, ![1024, 2688]⟩
abbrev S8192x1024 : Shape := ⟨2, ![8192, 1024]⟩
abbrev S8192x2688 : Shape := ⟨2, ![8192, 2688]⟩
abbrev S512x1024 : Shape := ⟨2, ![512, 1024]⟩
abbrev S1x8x1024 : Shape := ⟨3, ![1, 8, 1024]⟩
abbrev S512x2688 : Shape := ⟨2, ![512, 2688]⟩
abbrev S512 : Shape := ⟨1, ![512]⟩
abbrev S512x1 : Shape := ⟨2, ![512, 1]⟩
abbrev S1x1x1024 : Shape := ⟨3, ![1, 1, 1024]⟩
abbrev S1x1024 : Shape := ⟨2, ![1, 1024]⟩

abbrev nBuf : Space → Nat
  | .hbm => 27
  | .vmem => 9
  | .smem => 0
  | _ => 0

abbrev bufTy : (tb : Table) → Fin (tcTables nBuf tb) → BufTy
  | .hbm, ⟨0, _⟩ => ⟨S2x4096x1024, .f32⟩
  | .hbm, ⟨1, _⟩ => ⟨S2x1024, .f32⟩
  | .hbm, ⟨2, _⟩ => ⟨S2x1024, .f32⟩
  | .hbm, ⟨3, _⟩ => ⟨S1024, .f32⟩
  | .hbm, ⟨4, _⟩ => ⟨S1024x2564, .f32⟩
  | .hbm, ⟨5, _⟩ => ⟨S_, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x8x1024, .f32⟩
  | .hbm, ⟨20, _⟩ => ⟨S_, .i32⟩
  | .hbm, ⟨21, _⟩ => ⟨S_, .f32⟩
  | .hbm, ⟨22, _⟩ => ⟨S1024x2688, .f32⟩
  | .hbm, ⟨23, _⟩ => ⟨S1024x2688, .bf16⟩
  | .hbm, ⟨24, _⟩ => ⟨S8192x1024, .f32⟩
  | .hbm, ⟨25, _⟩ => ⟨S8192x1024, .bf16⟩
  | .hbm, ⟨26, _⟩ => ⟨S8192x2688, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x2688, .bf16⟩
  | .local _ .vmem, ⟨5, _⟩ => ⟨S512x1024, .bf16⟩
  | .local _ .vmem, ⟨6, _⟩ => ⟨S512x1024, .bf16⟩
  | .local _ .vmem, ⟨7, _⟩ => ⟨S512x2688, .f32⟩
  | .local _ .vmem, ⟨8, _⟩ => ⟨S512x2688, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceMixInIdeal.lean ====
abbrev S2x4096x1024 : Shape := ⟨3, ![2, 4096, 1024]⟩
abbrev S2x1024 : Shape := ⟨2, ![2, 1024]⟩
abbrev S1024 : Shape := ⟨1, ![1024]⟩
abbrev S1024x2564 : Shape := ⟨2, ![1024, 2564]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S2x4096x2564 : Shape := ⟨3, ![2, 4096, 2564]⟩
abbrev S8192x1024 : Shape := ⟨2, ![8192, 1024]⟩
abbrev S8192x2564 : Shape := ⟨2, ![8192, 2564]⟩
abbrev S8192x2688 : Shape := ⟨2, ![8192, 2688]⟩

abbrev nBuf : Space → Nat
  | .hbm => 38
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x1024, .f32⟩
  | .hbm, ⟨2, _⟩ => ⟨S2x1024, .f32⟩
  | .hbm, ⟨3, _⟩ => ⟨S1024, .f32⟩
  | .hbm, ⟨4, _⟩ => ⟨S1024x2564, .f32⟩
  | .hbm, ⟨5, _⟩ => ⟨S2x4096x1024, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x1024, .f32⟩
  | .hbm, ⟨17, _⟩ => ⟨S2x4096x1024, .f32⟩
  | .hbm, ⟨18, _⟩ => ⟨S2x1024, .f32⟩
  | .hbm, ⟨19, _⟩ => ⟨S2x1x1024, .f32⟩
  | .hbm, ⟨20, _⟩ => ⟨S2x4096x1024, .f32⟩
  | .hbm, ⟨21, _⟩ => ⟨S2x4096x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1x1024, .f32⟩
  | .hbm, ⟨26, _⟩ => ⟨S2x4096x1024, .f32⟩
  | .hbm, ⟨27, _⟩ => ⟨S2x4096x1024, .f32⟩
  | .hbm, ⟨28, _⟩ => ⟨S2x1x1024, .f32⟩
  | .hbm, ⟨29, _⟩ => ⟨S2x4096x1024, .f32⟩
  | .hbm, ⟨30, _⟩ => ⟨S2x4096x1024, .f32⟩
  | .hbm, ⟨31, _⟩ => ⟨S2x4096x2564, .f32⟩
  | .hbm, ⟨32, _⟩ => ⟨S8192x1024, .f32⟩
  | .hbm, ⟨33, _⟩ => ⟨S8192x1024, .bf16⟩
  | .hbm, ⟨34, _⟩ => ⟨S8192x2564, .f32⟩
  | .hbm, ⟨35, _⟩ => ⟨S_, .i32⟩
  | .hbm, ⟨36, _⟩ => ⟨S_, .f32⟩
  | .hbm, ⟨37, _⟩ => ⟨S8192x2688, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_call0_v0 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== KernelMixOut.lean ====
abbrev S2x4096x1024 : Shape := ⟨3, ![2, 4096, 1024]⟩
abbrev S2x4096x512 : Shape := ⟨3, ![2, 4096, 512]⟩
abbrev S2x4096x256 : Shape := ⟨3, ![2, 4096, 256]⟩
abbrev S2x1024 : Shape := ⟨2, ![2, 1024]⟩
abbrev S1024x1024 : Shape := ⟨2, ![1024, 1024]⟩
abbrev S_ : Shape := ⟨0, ![]⟩
abbrev S2x1x1024 : Shape := ⟨3, ![2, 1, 1024]⟩
abbrev S2x8x1024 : Shape := ⟨3, ![2, 8, 1024]⟩
abbrev S8192x1024 : Shape := ⟨2, ![8192, 1024]⟩
abbrev S8192x512 : Shape := ⟨2, ![8192, 512]⟩
abbrev S8192x256 : Shape := ⟨2, ![8192, 256]⟩
abbrev S512x1024 : Shape := ⟨2, ![512, 1024]⟩
abbrev S512x512 : Shape := ⟨2, ![512, 512]⟩
abbrev S512x256 : Shape := ⟨2, ![512, 256]⟩
abbrev S1x8x1024 : Shape := ⟨3, ![1, 8, 1024]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S1x1x256 : Shape := ⟨3, ![1, 1, 256]⟩
abbrev S1x256 : Shape := ⟨2, ![1, 256]⟩
abbrev S1x1x1024 : Shape := ⟨3, ![1, 1, 1024]⟩
abbrev S1x1024 : Shape := ⟨2, ![1, 1024]⟩

abbrev nBuf : Space → Nat
  | .hbm => 33
  | .vmem => 18
  | .smem => 0
  | _ => 0

abbrev bufTy : (tb : Table) → Fin (tcTables nBuf tb) → BufTy
  | .hbm, ⟨0, _⟩ => ⟨S2x4096x1024, .f32⟩
  | .hbm, ⟨1, _⟩ => ⟨S2x4096x512, .f32⟩
  | .hbm, ⟨2, _⟩ => ⟨S2x4096x256, .f32⟩
  | .hbm, ⟨3, _⟩ => ⟨S2x4096x256, .f32⟩
  | .hbm, ⟨4, _⟩ => ⟨S2x1024, .f32⟩
  | .hbm, ⟨5, _⟩ => ⟨S2x1024, .f32⟩
  | .hbm, ⟨6, _⟩ => ⟨S1024x1024, .f32⟩
  | .hbm, ⟨7, _⟩ => ⟨S_, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x8x1024, .f32⟩
  | .hbm, ⟨21, _⟩ => ⟨S2x1x1024, .f32⟩
  | .hbm, ⟨22, _⟩ => ⟨S_, .i32⟩
  | .hbm, ⟨23, _⟩ => ⟨S_, .f32⟩
  | .hbm, ⟨24, _⟩ => ⟨S2x8x1024, .f32⟩
  | .hbm, ⟨25, _⟩ => ⟨S8192x1024, .f32⟩
  | .hbm, ⟨26, _⟩ => ⟨S8192x512, .f32⟩
  | .hbm, ⟨27, _⟩ => ⟨S8192x256, .f32⟩
  | .hbm, ⟨28, _⟩ => ⟨S8192x256, .f32⟩
  | .hbm, ⟨29, _⟩ => ⟨S1024x1024, .bf16⟩
  | .hbm, ⟨30, _⟩ => ⟨S8192x1024, .f32⟩
  | .hbm, ⟨31, _⟩ => ⟨S8192x1024, .bf16⟩
  | .hbm, ⟨32, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceMixOutIdeal.lean ====
abbrev S2x4096x1024 : Shape := ⟨3, ![2, 4096, 1024]⟩
abbrev S2x4096x512 : Shape := ⟨3, ![2, 4096, 512]⟩
abbrev S2x4096x256 : Shape := ⟨3, ![2, 4096, 256]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x1x1024 : Shape := ⟨3, ![2, 1, 1024]⟩
abbrev S8192x1024 : Shape := ⟨2, ![8192, 1024]⟩

abbrev nBuf : Space → Nat
  | .hbm => 65
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x512, .f32⟩
  | .hbm, ⟨2, _⟩ => ⟨S2x4096x256, .f32⟩
  | .hbm, ⟨3, _⟩ => ⟨S2x4096x256, .f32⟩
  | .hbm, ⟨4, _⟩ => ⟨S2x1024, .f32⟩
  | .hbm, ⟨5, _⟩ => ⟨S2x1024, .f32⟩
  | .hbm, ⟨6, _⟩ => ⟨S1024x1024, .f32⟩
  | .hbm, ⟨7, _⟩ => ⟨S1x1024, .f32⟩
  | .hbm, ⟨8, _⟩ => ⟨S1024, .f32⟩
  | .hbm, ⟨9, _⟩ => ⟨S2x4096x512, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x512, .f32⟩
  | .hbm, ⟨21, _⟩ => ⟨S2x4096x512, .f32⟩
  | .hbm, ⟨22, _⟩ => ⟨S2x4096x256, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x1, .f32⟩
  | .hbm, ⟨33, _⟩ => ⟨S2x4096x256, .f32⟩
  | .hbm, ⟨34, _⟩ => ⟨S2x4096x256, .f32⟩
  | .hbm, ⟨35, _⟩ => ⟨S2x4096x256, .f32⟩
  | .hbm, ⟨36, _⟩ => ⟨S_, .f32⟩
  | .hbm, ⟨37, _⟩ => ⟨S2x4096, .f32⟩
  | .hbm, ⟨38, _⟩ => ⟨S2x4096x1, .f32⟩
  | .hbm, ⟨39, _⟩ => ⟨S_, .f32⟩
  | .hbm, ⟨40, _⟩ => ⟨S2x4096x1, .f32⟩
  | .hbm, ⟨41, _⟩ => ⟨S2x4096x1, .f32⟩
  | .hbm, ⟨42, _⟩ => ⟨S_, .f32⟩
  | .hbm, ⟨43, _⟩ => ⟨S2x4096x1, .f32⟩
  | .hbm, ⟨44, _⟩ => ⟨S2x4096x1, .f32⟩
  | .hbm, ⟨45, _⟩ => ⟨S2x4096x1, .f32⟩
  | .hbm, ⟨46, _⟩ => ⟨S2x4096x256, .f32⟩
  | .hbm, ⟨47, _⟩ => ⟨S2x4096x256, .f32⟩
  | .hbm, ⟨48, _⟩ => ⟨S2x4096x1024, .f32⟩
  | .hbm, ⟨49, _⟩ => ⟨S1x1x1024, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S_, .f32⟩
  | .hbm, ⟨54, _⟩ => ⟨S2x1024, .f32⟩
  | .hbm, ⟨55, _⟩ => ⟨S2x1024, .f32⟩
  | .hbm, ⟨56, _⟩ => ⟨S2x1x1024, .f32⟩
  | .hbm, ⟨57, _⟩ => ⟨S2x4096x1024, .f32⟩
  | .hbm, ⟨58, _⟩ => ⟨S2x4096x1024, .f32⟩
  | .hbm, ⟨59, _⟩ => ⟨S2x4096x1024, .f32⟩
  | .hbm, ⟨60, _⟩ => ⟨S8192x1024, .f32⟩
  | .hbm, ⟨61, _⟩ => ⟨S8192x1024, .f32⟩
  | .hbm, ⟨62, _⟩ => ⟨S8192x1024, .bf16⟩
  | .hbm, ⟨63, _⟩ => ⟨S8192x1024, .f32⟩
  | .hbm, ⟨64, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== KernelMixInBwd.lean ====
abbrev S2x4096x1024 : Shape := ⟨3, ![2, 4096, 1024]⟩
abbrev S2x1024 : Shape := ⟨2, ![2, 1024]⟩
abbrev S1024 : Shape := ⟨1, ![1024]⟩
abbrev S1024x2564 : Shape := ⟨2, ![1024, 2564]⟩
abbrev S2x4096x2564 : Shape := ⟨3, ![2, 4096, 2564]⟩
abbrev S_ : Shape := ⟨0, ![]⟩
abbrev S2x1x1024 : Shape := ⟨3, ![2, 1, 1024]⟩
abbrev S2x8x1024 : Shape := ⟨3, ![2, 8, 1024]⟩
abbrev S1024x2688 : Shape := ⟨2, ![1024, 2688]⟩
abbrev S8192x2564 : Shape := ⟨2, ![8192, 2564]⟩
abbrev S8192x2688 : Shape := ⟨2, ![8192, 2688]⟩
abbrev S8192x1024 : Shape := ⟨2, ![8192, 1024]⟩
abbrev S8x1024 : Shape := ⟨2, ![8, 1024]⟩
abbrev S512x1024 : Shape := ⟨2, ![512, 1024]⟩
abbrev S1x8x1024 : Shape := ⟨3, ![1, 8, 1024]⟩
abbrev S512x2688 : Shape := ⟨2, ![512, 2688]⟩
abbrev S512 : Shape := ⟨1, ![512]⟩
abbrev S512x1 : Shape := ⟨2, ![512, 1]⟩
abbrev S1x1x1024 : Shape := ⟨3, ![1, 1, 1024]⟩
abbrev S1x1024 : Shape := ⟨2, ![1, 1024]⟩

abbrev nBuf : Space → Nat
  | .hbm => 36
  | .vmem => 14
  | .smem => 0
  | _ => 0

abbrev bufTy : (tb : Table) → Fin (tcTables nBuf tb) → BufTy
  | .hbm, ⟨0, _⟩ => ⟨S2x4096x1024, .f32⟩
  | .hbm, ⟨1, _⟩ => ⟨S2x1024, .f32⟩
  | .hbm, ⟨2, _⟩ => ⟨S2x1024, .f32⟩
  | .hbm, ⟨3, _⟩ => ⟨S1024, .f32⟩
  | .hbm, ⟨4, _⟩ => ⟨S1024x2564, .f32⟩
  | .hbm, ⟨5, _⟩ => ⟨S2x4096x1024, .f32⟩
  | .hbm, ⟨6, _⟩ => ⟨S2x4096x2564, .f32⟩
  | .hbm, ⟨7, _⟩ => ⟨S_, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x8x1024, .f32⟩
  | .hbm, ⟨22, _⟩ => ⟨S_, .i32⟩
  | .hbm, ⟨23, _⟩ => ⟨S_, .f32⟩
  | .hbm, ⟨24, _⟩ => ⟨S1024x2688, .f32⟩
  | .hbm, ⟨25, _⟩ => ⟨S1024x2688, .bf16⟩
  | .hbm, ⟨26, _⟩ => ⟨S8192x2564, .f32⟩
  | .hbm, ⟨27, _⟩ => ⟨S_, .i32⟩
  | .hbm, ⟨28, _⟩ => ⟨S_, .f32⟩
  | .hbm, ⟨29, _⟩ => ⟨S8192x2688, .f32⟩
  | .hbm, ⟨30, _⟩ => ⟨S8192x2688, .bf16⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S2x8x1024, .f32⟩
  | .hbm, ⟨35, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x8x1024, .f32⟩
  | .local _ .vmem, ⟨5, _⟩ => ⟨S1x8x1024, .f32⟩
  | .local _ .vmem, ⟨6, _⟩ => ⟨S512x2688, .bf16⟩
  | .local _ .vmem, ⟨7, _⟩ => ⟨S512x2688, .bf16⟩
  | .local _ .vmem, ⟨8, _⟩ => ⟨S1024x2688, .bf16⟩
  | .local _ .vmem, ⟨9, _⟩ => ⟨S512x1024, .f32⟩
  | .local _ .vmem, ⟨10, _⟩ => ⟨S512x1024, .f32⟩
  | .local _ .vmem, ⟨11, _⟩ => ⟨S1x8x1024, .f32⟩
  | .local _ .vmem, ⟨12, _⟩ => ⟨S1x8x1024, .f32⟩
  | .local _ .vmem, ⟨13, _⟩ => ⟨S8x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2688 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceMixInBwdIdeal.lean ====
abbrev S2x4096x1024 : Shape := ⟨3, ![2, 4096, 1024]⟩
abbrev S2x1024 : Shape := ⟨2, ![2, 1024]⟩
abbrev S1024 : Shape := ⟨1, ![1024]⟩
abbrev S1024x2564 : Shape := ⟨2, ![1024, 2564]⟩
abbrev S2x4096x2564 : Shape := ⟨3, ![2, 4096, 2564]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S2x8x1024 : Shape := ⟨3, ![2, 8, 1024]⟩
abbrev S8x1024 : Shape := ⟨2, ![8, 1024]⟩
abbrev S1x1024 : Shape := ⟨2, ![1, 1024]⟩
abbrev S8192x1024 : Shape := ⟨2, ![8192, 1024]⟩

abbrev nBuf : Space → Nat
  | .hbm => 107
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x1024, .f32⟩
  | .hbm, ⟨2, _⟩ => ⟨S2x1024, .f32⟩
  | .hbm, ⟨3, _⟩ => ⟨S1024, .f32⟩
  | .hbm, ⟨4, _⟩ => ⟨S1024x2564, .f32⟩
  | .hbm, ⟨5, _⟩ => ⟨S2x4096x1024, .f32⟩
  | .hbm, ⟨6, _⟩ => ⟨S2x4096x2564, .f32⟩
  | .hbm, ⟨7, _⟩ => ⟨S2x4096x1024, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S2x4096x1024, .f32⟩
  | .hbm, ⟨23, _⟩ => ⟨S2x4096x1024, .f32⟩
  | .hbm, ⟨24, _⟩ => ⟨S2x1024, .f32⟩
  | .hbm, ⟨25, _⟩ => ⟨S2x1x1024, .f32⟩
  | .hbm, ⟨26, _⟩ => ⟨S2x4096x1024, .f32⟩
  | .hbm, ⟨27, _⟩ => ⟨S2x4096x1024, .f32⟩
  | .hbm, ⟨28, _⟩ => ⟨S_, .f32⟩
  | .hbm, ⟨29, _⟩ => ⟨S2x1024, .f32⟩
  | .hbm, ⟨30, _⟩ => ⟨S2x1024, .f32⟩
  | .hbm, ⟨31, _⟩ => ⟨S2x1x1024, .f32⟩
  | .hbm, ⟨32, _⟩ => ⟨S2x4096x1024, .f32⟩
  | .hbm, ⟨33, _⟩ => ⟨S2x4096x1024, .f32⟩
  | .hbm, ⟨34, _⟩ => ⟨S2x1x1024, .f32⟩
  | .hbm, ⟨35, _⟩ => ⟨S2x4096x1024, .f32⟩
  | .hbm, ⟨36, _⟩ => ⟨S2x4096x1024, .f32⟩
  | .hbm, ⟨37, _⟩ => ⟨S2x4096x2564, .f32⟩
  | .hbm, ⟨38, _⟩ => ⟨S2x4096x1024, .f32⟩
  | .hbm, ⟨39, _⟩ => ⟨S_, .f32⟩
  | .hbm, ⟨40, _⟩ => ⟨S2x1024, .f32⟩
  | .hbm, ⟨41, _⟩ => ⟨S2x1x1024, .f32⟩
  | .hbm, ⟨42, _⟩ => ⟨S_, .f32⟩
  | .hbm, ⟨43, _⟩ => ⟨S2x1024, .f32⟩
  | .hbm, ⟨44, _⟩ => ⟨S2x4096x1024, .f32⟩
  | .hbm, ⟨45, _⟩ => ⟨S_, .f32⟩
  | .hbm, ⟨46, _⟩ => ⟨S2x1024, .f32⟩
  | .hbm, ⟨47, _⟩ => ⟨S2x1x1024, .f32⟩
  | .hbm, ⟨48, _⟩ => ⟨S2x4096x1024, .f32⟩
  | .hbm, ⟨49, _⟩ => ⟨S2x4096x1024, .f32⟩
  | .hbm, ⟨50, _⟩ => ⟨S_, .f32⟩
  | .hbm, ⟨51, _⟩ => ⟨S2x1024, .f32⟩
  | .hbm, ⟨52, _⟩ => ⟨S2x4096x1024, .f32⟩
  | .hbm, ⟨53, _⟩ => ⟨S_, .f32⟩
  | .hbm, ⟨54, _⟩ => ⟨S2x1024, .f32⟩
  | .hbm, ⟨55, _⟩ => ⟨S2x1x1024, .f32⟩
  | .hbm, ⟨56, _⟩ => ⟨S2x4096x1024, .f32⟩
  | .hbm, ⟨57, _⟩ => ⟨S2x4096x1024, .f32⟩
  | .hbm, ⟨58, _⟩ => ⟨S_, .f32⟩
  | .hbm, ⟨59, _⟩ => ⟨S2x1024, .f32⟩
  | .hbm, ⟨60, _⟩ => ⟨S_, .f32⟩
  | .hbm, ⟨61, _⟩ => ⟨S1024, .f32⟩
  | .hbm, ⟨62, _⟩ => ⟨S2x4096x1024, .f32⟩
  | .hbm, ⟨63, _⟩ => ⟨S_, .f32⟩
  | .hbm, ⟨64, _⟩ => ⟨S2x4096, .f32⟩
  | .hbm, ⟨65, _⟩ => ⟨S2x4096x1, .f32⟩
  | .hbm, ⟨66, _⟩ => ⟨S2x4096x1024, .f32⟩
  | .hbm, ⟨67, _⟩ => ⟨S2x4096x1024, .f32⟩
  | .hbm, ⟨68, _⟩ => ⟨S2x4096x1, .f32⟩
  | .hbm, ⟨69, _⟩ => ⟨S_, .f32⟩
  | .hbm, ⟨70, _⟩ => ⟨S2x4096x1, .f32⟩
  | .hbm, ⟨71, _⟩ => ⟨S2x4096x1, .f32⟩
  | .hbm, ⟨72, _⟩ => ⟨S_, .f32⟩
  | .hbm, ⟨73, _⟩ => ⟨S2x4096, .f32⟩
  | .hbm, ⟨74, _⟩ => ⟨S2x4096x1024, .f32⟩
  | .hbm, ⟨75, _⟩ => ⟨S2x4096x1024, .f32⟩
  | .hbm, ⟨76, _⟩ => ⟨S2x4096x1024, .f32⟩
  | .hbm, ⟨77, _⟩ => ⟨S2x4096x1024, .f32⟩
  | .hbm, ⟨78, _⟩ => ⟨S2x4096x1024, .f32⟩
  | .hbm, ⟨79, _⟩ => ⟨S2x8x1024, .i32⟩
  | .hbm, ⟨80, _⟩ => ⟨S_, .i32⟩
  | .hbm, ⟨81, _⟩ => ⟨S2x8x1024, .i32⟩
  | .hbm, ⟨82, _⟩ => ⟨S2x8x1024, .i1⟩
  | .hbm, ⟨83, _⟩ => ⟨S2x1x1024, .f32⟩
  | .hbm, ⟨84, _⟩ => ⟨S_, .i32⟩
  | .hbm, ⟨85, _⟩ => ⟨S2x8x1024, .i32⟩
  | .hbm, ⟨86, _⟩ => ⟨S2x8x1024, .i1⟩
  | .hbm, ⟨87, _⟩ => ⟨S2x1x1024, .f32⟩
  | .hbm, ⟨88, _⟩ => ⟨S_, .f32⟩
  | .hbm, ⟨89, _⟩ => ⟨S_, .f32⟩
  | .hbm, ⟨90, _⟩ => ⟨S2x8x1024, .f32⟩
  | .hbm, ⟨91, _⟩ => ⟨S2x8x1024, .f32⟩
  | .hbm, ⟨92, _⟩ => ⟨S2x8x1024, .f32⟩
  | .hbm, ⟨93, _⟩ => ⟨S2x8x1024, .f32⟩
  | .hbm, ⟨94, _⟩ => ⟨S2x8x1024, .f32⟩
  | .hbm, ⟨95, _⟩ => ⟨S8x1024, .i32⟩
  | .hbm, ⟨96, _⟩ => ⟨S_, .i32⟩
  | .hbm, ⟨97, _⟩ => ⟨S8x1024, .i32⟩
  | .hbm, ⟨98, _⟩ => ⟨S8x1024, .i1⟩
  | .hbm, ⟨99, _⟩ => ⟨S1x1024, .f32⟩
  | .hbm, ⟨100, _⟩ => ⟨S_, .f32⟩
  | .hbm, ⟨101, _⟩ => ⟨S_, .f32⟩
  | .hbm, ⟨102, _⟩ => ⟨S8x1024, .f32⟩
  | .hbm, ⟨103, _⟩ => ⟨S8x1024, .f32⟩
  | .hbm, ⟨104, _⟩ => ⟨S8x1024, .f32⟩
  | .hbm, ⟨105, _⟩ => ⟨S2x4096x1024, .f32⟩
  | .hbm, ⟨106, _⟩ => ⟨S8192x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_14 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_15 : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_v64 : Ref sig .tc := ⟨.hbm, 92, rfl⟩
abbrev main_call1_v0 : Ref sig .tc := ⟨.hbm, 93, rfl⟩
abbrev main_v65 : Ref sig .tc := ⟨.hbm, 94, rfl⟩
abbrev main_v66 : Ref sig .tc := ⟨.hbm, 95, rfl⟩
abbrev main_c_16 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_17 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩

abbrev nD : Nat := 1
abbrev τ : Topo := Topo.v7x

variable {F : FTy → Type} [FloatOps F]
-- ==== KernelAdamUp.lean ====
abbrev S2x2x1024x1408 : Shape := ⟨4, ![2, 2, 1024, 1408]⟩
abbrev S4096x1408 : Shape := ⟨2, ![4096, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x2x1024x1408, .f32⟩
  | .hbm, ⟨1, _⟩ => ⟨S2x2x1024x1408, .f32⟩
  | .hbm, ⟨2, _⟩ => ⟨S2x2x1024x1408, .f32⟩
  | .hbm, ⟨3, _⟩ => ⟨S2x2x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2x2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamUpIdeal.lean ====
abbrev S2x2x1024x1408 : Shape := ⟨4, ![2, 2, 1024, 1408]⟩
abbrev S4096x1408 : Shape := ⟨2, ![4096, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x2x1024x1408, .f32⟩
  | .hbm, ⟨1, _⟩ => ⟨S2x2x1024x1408, .f32⟩
  | .hbm, ⟨2, _⟩ => ⟨S2x2x1024x1408, .f32⟩
  | .hbm, ⟨3, _⟩ => ⟨S2x2x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2x2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamUpIdeal.lean ====
abbrev S2x2x1024x1408 : Shape := ⟨4, ![2, 2, 1024, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x2x1024x1408, .f32⟩
  | .hbm, ⟨1, _⟩ => ⟨S2x2x1024x1408, .f32⟩
  | .hbm, ⟨2, _⟩ => ⟨S2x2x1024x1408, .f32⟩
  | .hbm, ⟨3, _⟩ => ⟨S2x2x1024x1408, .f32⟩
  | .hbm, ⟨4, _⟩ => ⟨S_, .f32⟩
  | .hbm, ⟨5, _⟩ => ⟨S2x2x1024x1408, .f32⟩
  | .hbm, ⟨6, _⟩ => ⟨S2x2x1024x1408, .f32⟩
  | .hbm, ⟨7, _⟩ => ⟨S_, .f32⟩
  | .hbm, ⟨8, _⟩ => ⟨S2x2x1024x1408, .f32⟩
  | .hbm, ⟨9, _⟩ => ⟨S2x2x1024x1408, .f32⟩
  | .hbm, ⟨10, _⟩ => ⟨S2x2x1024x1408, .f32⟩
  | .hbm, ⟨11, _⟩ => ⟨S_, .f32⟩
  | .hbm, ⟨12, _⟩ => ⟨S2x2x1024x1408, .f32⟩
  | .hbm, ⟨13, _⟩ => ⟨S2x2x1024x1408, .f32⟩
  | .hbm, ⟨14, _⟩ => ⟨S2x2x1024x1408, .f32⟩
  | .hbm, ⟨15, _⟩ => ⟨S_, .f32⟩
  | .hbm, ⟨16, _⟩ => ⟨S2x2x1024x1408, .f32⟩
  | .hbm, ⟨17, _⟩ => ⟨S2x2x1024x1408, .f32⟩
  | .hbm, ⟨18, _⟩ => ⟨S2x2x1024x1408, .f32⟩
  | .hbm, ⟨19, _⟩ => ⟨S_, .f32⟩
  | .hbm, ⟨20, _⟩ => ⟨S2x2x1024x1408, .f32⟩
  | .hbm, ⟨21, _⟩ => ⟨S2x2x1024x1408, .f32⟩
  | .hbm, ⟨22, _⟩ => ⟨S_, .f32⟩
  | .hbm, ⟨23, _⟩ => ⟨S2x2x1024x1408, .f32⟩
  | .hbm, ⟨24, _⟩ => ⟨S2x2x1024x1408, .f32⟩
  | .hbm, ⟨25, _⟩ => ⟨S2x2x1024x1408, .f32⟩
  | .hbm, ⟨26, _⟩ => ⟨S_, .f32⟩
  | .hbm, ⟨27, _⟩ => ⟨S2x2x1024x1408, .f32⟩
  | .hbm, ⟨28, _⟩ => ⟨S2x2x1024x1408, .f32⟩
  | .hbm, ⟨29, _⟩ => ⟨S2x2x1024x1408, .f32⟩
  | .hbm, ⟨30, _⟩ => ⟨S_, .f32⟩
  | .hbm, ⟨31, _⟩ => ⟨S2x2x1024x1408, .f32⟩
  | .hbm, ⟨32, _⟩ => ⟨S2x2x1024x1408, .f32⟩
  | .hbm, ⟨33, _⟩ => ⟨S2x2x1024x1408, .f32⟩
  | .hbm, ⟨34, _⟩ => ⟨S_, .f32⟩
  | .hbm, ⟨35, _⟩ => ⟨S2x2x1024x1408, .f32⟩
  | .hbm, ⟨36, _⟩ => ⟨S2x2x1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S2x2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KernelAdamDown.lean ====
abbrev S2x2x704x1024 : Shape := ⟨4, ![2, 2, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x2x704x1024, .f32⟩
  | .hbm, ⟨1, _⟩ => ⟨S2x2x704x1024, .f32⟩
  | .hbm, ⟨2, _⟩ => ⟨S2x2x704x1024, .f32⟩
  | .hbm, ⟨3, _⟩ => ⟨S2x2x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamDownIdeal.lean ====
abbrev S2x2x704x1024 : Shape := ⟨4, ![2, 2, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x2x704x1024, .f32⟩
  | .hbm, ⟨1, _⟩ => ⟨S2x2x704x1024, .f32⟩
  | .hbm, ⟨2, _⟩ => ⟨S2x2x704x1024, .f32⟩
  | .hbm, ⟨3, _⟩ => ⟨S2x2x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamDownIdeal.lean ====
abbrev S2x2x704x1024 : Shape := ⟨4, ![2, 2, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x2x704x1024, .f32⟩
  | .hbm, ⟨1, _⟩ => ⟨S2x2x704x1024, .f32⟩
  | .hbm, ⟨2, _⟩ => ⟨S2x2x704x1024, .f32⟩
  | .hbm, ⟨3, _⟩ => ⟨S2x2x704x1024, .f32⟩
  | .hbm, ⟨4, _⟩ => ⟨S_, .f32⟩
  | .hbm, ⟨5, _⟩ => ⟨S2x2x704x1024, .f32⟩
  | .hbm, ⟨6, _⟩ => ⟨S2x2x704x1024, .f32⟩
  | .hbm, ⟨7, _⟩ => ⟨S_, .f32⟩
  | .hbm, ⟨8, _⟩ => ⟨S2x2x704x1024, .f32⟩
  | .hbm, ⟨9, _⟩ => ⟨S2x2x704x1024, .f32⟩
  | .hbm, ⟨10, _⟩ => ⟨S2x2x704x1024, .f32⟩
  | .hbm, ⟨11, _⟩ => ⟨S_, .f32⟩
  | .hbm, ⟨12, _⟩ => ⟨S2x2x704x1024, .f32⟩
  | .hbm, ⟨13, _⟩ => ⟨S2x2x704x1024, .f32⟩
  | .hbm, ⟨14, _⟩ => ⟨S2x2x704x1024, .f32⟩
  | .hbm, ⟨15, _⟩ => ⟨S_, .f32⟩
  | .hbm, ⟨16, _⟩ => ⟨S2x2x704x1024, .f32⟩
  | .hbm, ⟨17, _⟩ => ⟨S2x2x704x1024, .f32⟩
  | .hbm, ⟨18, _⟩ => ⟨S2x2x704x1024, .f32⟩
  | .hbm, ⟨19, _⟩ => ⟨S_, .f32⟩
  | .hbm, ⟨20, _⟩ => ⟨S2x2x704x1024, .f32⟩
  | .hbm, ⟨21, _⟩ => ⟨S2x2x704x1024, .f32⟩
  | .hbm, ⟨22, _⟩ => ⟨S_, .f32⟩
  | .hbm, ⟨23, _⟩ => ⟨S2x2x704x1024, .f32⟩
  | .hbm, ⟨24, _⟩ => ⟨S2x2x704x1024, .f32⟩
  | .hbm, ⟨25, _⟩ => ⟨S2x2x704x1024, .f32⟩
  | .hbm, ⟨26, _⟩ => ⟨S_, .f32⟩
  | .hbm, ⟨27, _⟩ => ⟨S2x2x704x1024, .f32⟩
  | .hbm, ⟨28, _⟩ => ⟨S2x2x704x1024, .f32⟩
  | .hbm, ⟨29, _⟩ => ⟨S2x2x704x1024, .f32⟩
  | .hbm, ⟨30, _⟩ => ⟨S_, .f32⟩
  | .hbm, ⟨31, _⟩ => ⟨S2x2x704x1024, .f32⟩
  | .hbm, ⟨32, _⟩ => ⟨S2x2x704x1024, .f32⟩
  | .hbm, ⟨33, _⟩ => ⟨S2x2x704x1024, .f32⟩
  | .hbm, ⟨34, _⟩ => ⟨S_, .f32⟩
  | .hbm, ⟨35, _⟩ => ⟨S2x2x704x1024, .f32⟩
  | .hbm, ⟨36, _⟩ => ⟨S2x2x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S2x2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KernelAdamIn.lean ====
abbrev S2x1024x641 : Shape := ⟨3, ![2, 1024, 641]⟩
abbrev S2048x641 : Shape := ⟨2, ![2048, 641]⟩
abbrev S256x641 : Shape := ⟨2, ![256, 641]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x641, .f32⟩
  | .hbm, ⟨1, _⟩ => ⟨S2x1024x641, .f32⟩
  | .hbm, ⟨2, _⟩ => ⟨S2x1024x641, .f32⟩
  | .hbm, ⟨3, _⟩ => ⟨S2x1024x641, .f32⟩
  | .hbm, ⟨4, _⟩ => ⟨S2048x641, .f32⟩
  | .hbm, ⟨5, _⟩ => ⟨S2048x641, .f32⟩
  | .hbm, ⟨6, _⟩ => ⟨S2048x641, .f32⟩
  | .hbm, ⟨7, _⟩ => ⟨S2048x641, .f32⟩
  | .hbm, ⟨8, _⟩ => ⟨S2048x641, .f32⟩
  | .hbm, ⟨9, _⟩ => ⟨S2048x641, .f32⟩
  | .hbm, ⟨10, _⟩ => ⟨S2048x641, .f32⟩
  | .local _ .vmem, ⟨0, _⟩ => ⟨S256x641, .f32⟩
  | .local _ .vmem, ⟨1, _⟩ => ⟨S256x641, .f32⟩
  | .local _ .vmem, ⟨2, _⟩ => ⟨S256x641, .f32⟩
  | .local _ .vmem, ⟨3, _⟩ => ⟨S256x641, .f32⟩
  | .local _ .vmem, ⟨4, _⟩ => ⟨S256x641, .f32⟩
  | .local _ .vmem, ⟨5, _⟩ => ⟨S256x641, .f32⟩
  | .local _ .vmem, ⟨6, _⟩ => ⟨S256x641, .f32⟩
  | .local _ .vmem, ⟨7, _⟩ => ⟨S256x641, .f32⟩
  | .local _ .vmem, ⟨8, _⟩ => ⟨S256x641, .f32⟩
  | .local _ .vmem, ⟨9, _⟩ => ⟨S256x641, .f32⟩
  | .local _ .vmem, ⟨10, _⟩ => ⟨S256x641, .f32⟩
  | .local _ .vmem, ⟨11, _⟩ => ⟨S256x641, .f32⟩
  | .local _ .vmem, ⟨12, _⟩ => ⟨S256x641, .f32⟩
  | .local _ .vmem, ⟨13, _⟩ => ⟨S256x641, .f32⟩
  | _, _ => ⟨S2x1024x641, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x641 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x641 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x641 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x641 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x641 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x641 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x641 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamInIdeal.lean ====
abbrev S2x1024x641 : Shape := ⟨3, ![2, 1024, 641]⟩
abbrev S2048x641 : Shape := ⟨2, ![2048, 641]⟩
abbrev S256x641 : Shape := ⟨2, ![256, 641]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x641, .f32⟩
  | .hbm, ⟨1, _⟩ => ⟨S2x1024x641, .f32⟩
  | .hbm, ⟨2, _⟩ => ⟨S2x1024x641, .f32⟩
  | .hbm, ⟨3, _⟩ => ⟨S2x1024x641, .f32⟩
  | .hbm, ⟨4, _⟩ => ⟨S2048x641, .f32⟩
  | .hbm, ⟨5, _⟩ => ⟨S2048x641, .f32⟩
  | .hbm, ⟨6, _⟩ => ⟨S2048x641, .f32⟩
  | .hbm, ⟨7, _⟩ => ⟨S2048x641, .f32⟩
  | .hbm, ⟨8, _⟩ => ⟨S2048x641, .f32⟩
  | .hbm, ⟨9, _⟩ => ⟨S2048x641, .f32⟩
  | .hbm, ⟨10, _⟩ => ⟨S2048x641, .f32⟩
  | .local _ .vmem, ⟨0, _⟩ => ⟨S256x641, .f32⟩
  | .local _ .vmem, ⟨1, _⟩ => ⟨S256x641, .f32⟩
  | .local _ .vmem, ⟨2, _⟩ => ⟨S256x641, .f32⟩
  | .local _ .vmem, ⟨3, _⟩ => ⟨S256x641, .f32⟩
  | .local _ .vmem, ⟨4, _⟩ => ⟨S256x641, .f32⟩
  | .local _ .vmem, ⟨5, _⟩ => ⟨S256x641, .f32⟩
  | .local _ .vmem, ⟨6, _⟩ => ⟨S256x641, .f32⟩
  | .local _ .vmem, ⟨7, _⟩ => ⟨S256x641, .f32⟩
  | .local _ .vmem, ⟨8, _⟩ => ⟨S256x641, .f32⟩
  | .local _ .vmem, ⟨9, _⟩ => ⟨S256x641, .f32⟩
  | .local _ .vmem, ⟨10, _⟩ => ⟨S256x641, .f32⟩
  | .local _ .vmem, ⟨11, _⟩ => ⟨S256x641, .f32⟩
  | .local _ .vmem, ⟨12, _⟩ => ⟨S256x641, .f32⟩
  | .local _ .vmem, ⟨13, _⟩ => ⟨S256x641, .f32⟩
  | _, _ => ⟨S2x1024x641, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x641 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x641 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x641 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x641 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x641 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x641 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x641 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamInIdeal.lean ====
abbrev S2x1024x641 : Shape := ⟨3, ![2, 1024, 641]⟩
abbrev S_ : Shape := ⟨0, ![]⟩
abbrev S2048x641 : Shape := ⟨2, ![2048, 641]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x641, .f32⟩
  | .hbm, ⟨1, _⟩ => ⟨S2x1024x641, .f32⟩
  | .hbm, ⟨2, _⟩ => ⟨S2x1024x641, .f32⟩
  | .hbm, ⟨3, _⟩ => ⟨S2x1024x641, .f32⟩
  | .hbm, ⟨4, _⟩ => ⟨S_, .f32⟩
  | .hbm, ⟨5, _⟩ => ⟨S2x1024x641, .f32⟩
  | .hbm, ⟨6, _⟩ => ⟨S2x1024x641, .f32⟩
  | .hbm, ⟨7, _⟩ => ⟨S_, .f32⟩
  | .hbm, ⟨8, _⟩ => ⟨S2x1024x641, .f32⟩
  | .hbm, ⟨9, _⟩ => ⟨S2x1024x641, .f32⟩
  | .hbm, ⟨10, _⟩ => ⟨S2x1024x641, .f32⟩
  | .hbm, ⟨11, _⟩ => ⟨S_, .f32⟩
  | .hbm, ⟨12, _⟩ => ⟨S2x1024x641, .f32⟩
  | .hbm, ⟨13, _⟩ => ⟨S2x1024x641, .f32⟩
  | .hbm, ⟨14, _⟩ => ⟨S2x1024x641, .f32⟩
  | .hbm, ⟨15, _⟩ => ⟨S_, .f32⟩
  | .hbm, ⟨16, _⟩ => ⟨S2x1024x641, .f32⟩
  | .hbm, ⟨17, _⟩ => ⟨S2x1024x641, .f32⟩
  | .hbm, ⟨18, _⟩ => ⟨S2x1024x641, .f32⟩
  | .hbm, ⟨19, _⟩ => ⟨S_, .f32⟩
  | .hbm, ⟨20, _⟩ => ⟨S2x1024x641, .f32⟩
  | .hbm, ⟨21, _⟩ => ⟨S2x1024x641, .f32⟩
  | .hbm, ⟨22, _⟩ => ⟨S_, .f32⟩
  | .hbm, ⟨23, _⟩ => ⟨S2x1024x641, .f32⟩
  | .hbm, ⟨24, _⟩ => ⟨S2x1024x641, .f32⟩
  | .hbm, ⟨25, _⟩ => ⟨S2x1024x641, .f32⟩
  | .hbm, ⟨26, _⟩ => ⟨S_, .f32⟩
  | .hbm, ⟨27, _⟩ => ⟨S2x1024x641, .f32⟩
  | .hbm, ⟨28, _⟩ => ⟨S2x1024x641, .f32⟩
  | .hbm, ⟨29, _⟩ => ⟨S2x1024x641, .f32⟩
  | .hbm, ⟨30, _⟩ => ⟨S_, .f32⟩
  | .hbm, ⟨31, _⟩ => ⟨S2x1024x641, .f32⟩
  | .hbm, ⟨32, _⟩ => ⟨S2x1024x641, .f32⟩
  | .hbm, ⟨33, _⟩ => ⟨S2x1024x641, .f32⟩
  | .hbm, ⟨34, _⟩ => ⟨S_, .f32⟩
  | .hbm, ⟨35, _⟩ => ⟨S2x1024x641, .f32⟩
  | .hbm, ⟨36, _⟩ => ⟨S2x1024x641, .f32⟩
  | .hbm, ⟨37, _⟩ => ⟨S2048x641, .f32⟩
  | .hbm, ⟨38, _⟩ => ⟨S2048x641, .f32⟩
  | .hbm, ⟨39, _⟩ => ⟨S2048x641, .f32⟩
  | _, _ => ⟨S2x1024x641, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KernelAdamOut.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamOutIdeal.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamOutIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KernelAdamAda.lean ====
abbrev S2x1024x2304 : Shape := ⟨3, ![2, 1024, 2304]⟩
abbrev S2048x2304 : Shape := ⟨2, ![2048, 2304]⟩
abbrev S64x2304 : Shape := ⟨2, ![64, 2304]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x2304, .f32⟩
  | .hbm, ⟨1, _⟩ => ⟨S2x1024x2304, .f32⟩
  | .hbm, ⟨2, _⟩ => ⟨S2x1024x2304, .f32⟩
  | .hbm, ⟨3, _⟩ => ⟨S2x1024x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .hbm, ⟨7, _⟩ => ⟨S2048x2304, .f32⟩
  | .hbm, ⟨8, _⟩ => ⟨S2048x2304, .f32⟩
  | .hbm, ⟨9, _⟩ => ⟨S2048x2304, .f32⟩
  | .hbm, ⟨10, _⟩ => ⟨S2048x2304, .f32⟩
  | .local _ .vmem, ⟨0, _⟩ => ⟨S64x2304, .f32⟩
  | .local _ .vmem, ⟨1, _⟩ => ⟨S64x2304, .f32⟩
  | .local _ .vmem, ⟨2, _⟩ => ⟨S64x2304, .f32⟩
  | .local _ .vmem, ⟨3, _⟩ => ⟨S64x2304, .f32⟩
  | .local _ .vmem, ⟨4, _⟩ => ⟨S64x2304, .f32⟩
  | .local _ .vmem, ⟨5, _⟩ => ⟨S64x2304, .f32⟩
  | .local _ .vmem, ⟨6, _⟩ => ⟨S64x2304, .f32⟩
  | .local _ .vmem, ⟨7, _⟩ => ⟨S64x2304, .f32⟩
  | .local _ .vmem, ⟨8, _⟩ => ⟨S64x2304, .f32⟩
  | .local _ .vmem, ⟨9, _⟩ => ⟨S64x2304, .f32⟩
  | .local _ .vmem, ⟨10, _⟩ => ⟨S64x2304, .f32⟩
  | .local _ .vmem, ⟨11, _⟩ => ⟨S64x2304, .f32⟩
  | .local _ .vmem, ⟨12, _⟩ => ⟨S64x2304, .f32⟩
  | .local _ .vmem, ⟨13, _⟩ => ⟨S64x2304, .f32⟩
  | _, _ => ⟨S2x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamAdaIdeal.lean ====
abbrev S2x1024x2304 : Shape := ⟨3, ![2, 1024, 2304]⟩
abbrev S2048x2304 : Shape := ⟨2, ![2048, 2304]⟩
abbrev S64x2304 : Shape := ⟨2, ![64, 2304]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x2304, .f32⟩
  | .hbm, ⟨1, _⟩ => ⟨S2x1024x2304, .f32⟩
  | .hbm, ⟨2, _⟩ => ⟨S2x1024x2304, .f32⟩
  | .hbm, ⟨3, _⟩ => ⟨S2x1024x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .hbm, ⟨7, _⟩ => ⟨S2048x2304, .f32⟩
  | .hbm, ⟨8, _⟩ => ⟨S2048x2304, .f32⟩
  | .hbm, ⟨9, _⟩ => ⟨S2048x2304, .f32⟩
  | .hbm, ⟨10, _⟩ => ⟨S2048x2304, .f32⟩
  | .local _ .vmem, ⟨0, _⟩ => ⟨S64x2304, .f32⟩
  | .local _ .vmem, ⟨1, _⟩ => ⟨S64x2304, .f32⟩
  | .local _ .vmem, ⟨2, _⟩ => ⟨S64x2304, .f32⟩
  | .local _ .vmem, ⟨3, _⟩ => ⟨S64x2304, .f32⟩
  | .local _ .vmem, ⟨4, _⟩ => ⟨S64x2304, .f32⟩
  | .local _ .vmem, ⟨5, _⟩ => ⟨S64x2304, .f32⟩
  | .local _ .vmem, ⟨6, _⟩ => ⟨S64x2304, .f32⟩
  | .local _ .vmem, ⟨7, _⟩ => ⟨S64x2304, .f32⟩
  | .local _ .vmem, ⟨8, _⟩ => ⟨S64x2304, .f32⟩
  | .local _ .vmem, ⟨9, _⟩ => ⟨S64x2304, .f32⟩
  | .local _ .vmem, ⟨10, _⟩ => ⟨S64x2304, .f32⟩
  | .local _ .vmem, ⟨11, _⟩ => ⟨S64x2304, .f32⟩
  | .local _ .vmem, ⟨12, _⟩ => ⟨S64x2304, .f32⟩
  | .local _ .vmem, ⟨13, _⟩ => ⟨S64x2304, .f32⟩
  | _, _ => ⟨S2x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_corr1" => some ((8388608 / 5463681 : ℝ) : EReal)
  | "inv_corr2" => some ((268435456 / 2672307 : ℝ) : EReal)
  | _ => none

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamAdaIdeal.lean ====
abbrev S2x1024x2304 : Shape := ⟨3, ![2, 1024, 2304]⟩
abbrev S_ : Shape := ⟨0, ![]⟩
abbrev S2048x2304 : Shape := ⟨2, ![2048, 2304]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x2304, .f32⟩
  | .hbm, ⟨1, _⟩ => ⟨S2x1024x2304, .f32⟩
  | .hbm, ⟨2, _⟩ => ⟨S2x1024x2304, .f32⟩
  | .hbm, ⟨3, _⟩ => ⟨S2x1024x2304, .f32⟩
  | .hbm, ⟨4, _⟩ => ⟨S_, .f32⟩
  | .hbm, ⟨5, _⟩ => ⟨S2x1024x2304, .f32⟩
  | .hbm, ⟨6, _⟩ => ⟨S2x1024x2304, .f32⟩
  | .hbm, ⟨7, _⟩ => ⟨S_, .f32⟩
  | .hbm, ⟨8, _⟩ => ⟨S2x1024x2304, .f32⟩
  | .hbm, ⟨9, _⟩ => ⟨S2x1024x2304, .f32⟩
  | .hbm, ⟨10, _⟩ => ⟨S2x1024x2304, .f32⟩
  | .hbm, ⟨11, _⟩ => ⟨S_, .f32⟩
  | .hbm, ⟨12, _⟩ => ⟨S2x1024x2304, .f32⟩
  | .hbm, ⟨13, _⟩ => ⟨S2x1024x2304, .f32⟩
  | .hbm, ⟨14, _⟩ => ⟨S2x1024x2304, .f32⟩
  | .hbm, ⟨15, _⟩ => ⟨S_, .f32⟩
  | .hbm, ⟨16, _⟩ => ⟨S2x1024x2304, .f32⟩
  | .hbm, ⟨17, _⟩ => ⟨S2x1024x2304, .f32⟩
  | .hbm, ⟨18, _⟩ => ⟨S2x1024x2304, .f32⟩
  | .hbm, ⟨19, _⟩ => ⟨S_, .f32⟩
  | .hbm, ⟨20, _⟩ => ⟨S2x1024x2304, .f32⟩
  | .hbm, ⟨21, _⟩ => ⟨S2x1024x2304, .f32⟩
  | .hbm, ⟨22, _⟩ => ⟨S_, .f32⟩
  | .hbm, ⟨23, _⟩ => ⟨S2x1024x2304, .f32⟩
  | .hbm, ⟨24, _⟩ => ⟨S2x1024x2304, .f32⟩
  | .hbm, ⟨25, _⟩ => ⟨S2x1024x2304, .f32⟩
  | .hbm, ⟨26, _⟩ => ⟨S_, .f32⟩
  | .hbm, ⟨27, _⟩ => ⟨S2x1024x2304, .f32⟩
  | .hbm, ⟨28, _⟩ => ⟨S2x1024x2304, .f32⟩
  | .hbm, ⟨29, _⟩ => ⟨S2x1024x2304, .f32⟩
  | .hbm, ⟨30, _⟩ => ⟨S_, .f32⟩
  | .hbm, ⟨31, _⟩ => ⟨S2x1024x2304, .f32⟩
  | .hbm, ⟨32, _⟩ => ⟨S2x1024x2304, .f32⟩
  | .hbm, ⟨33, _⟩ => ⟨S2x1024x2304, .f32⟩
  | .hbm, ⟨34, _⟩ => ⟨S_, .f32⟩
  | .hbm, ⟨35, _⟩ => ⟨S2x1024x2304, .f32⟩
  | .hbm, ⟨36, _⟩ => ⟨S2x1024x2304, .f32⟩
  | .hbm, ⟨37, _⟩ => ⟨S2048x2304, .f32⟩
  | .hbm, ⟨38, _⟩ => ⟨S2048x2304, .f32⟩
  | .hbm, ⟨39, _⟩ => ⟨S2048x2304, .f32⟩
  | _, _ => ⟨S2x1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KernelAdamSmall.lean ====
abbrev S160x1024 : Shape := ⟨2, ![160, 1024]⟩

abbrev nBuf : Space → Nat
  | .hbm => 7
  | .vmem => 7
  | .smem => 0
  | _ => 0

abbrev bufTy : (tb : Table) → Fin (tcTables nBuf tb) → BufTy
  | .hbm, ⟨0, _⟩ => ⟨S160x1024, .f32⟩
  | .hbm, ⟨1, _⟩ => ⟨S160x1024, .f32⟩
  | .hbm, ⟨2, _⟩ => ⟨S160x1024, .f32⟩
  | .hbm, ⟨3, _⟩ => ⟨S160x1024, .f32⟩
  | .hbm, ⟨4, _⟩ => ⟨S160x1024, .f32⟩
  | .hbm, ⟨5, _⟩ => ⟨S160x1024, .f32⟩
  | .hbm, ⟨6, _⟩ => ⟨S160x1024, .f32⟩
  | .local _ .vmem, ⟨0, _⟩ => ⟨S160x1024, .f32⟩
  | .local _ .vmem, ⟨1, _⟩ => ⟨S160x1024, .f32⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | _, _ => ⟨S160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S160x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S160x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S160x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S160x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S160x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S160x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamSmallIdeal.lean ====
variable {F : FTy → Type} [FloatOps F] [Named F]
def κ : String → Option EReal := fun
  | "inv_corr1" => some ((8388608 / 5463681 : ℝ) : EReal)
  | "inv_corr2" => some ((268435456 / 2672307 : ℝ) : EReal)
  | _ => none
-- ==== ReferenceAdamSmallIdeal.lean ====
abbrev S160x1024 : Shape := ⟨2, ![160, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S160x1024, .f32⟩
  | .hbm, ⟨1, _⟩ => ⟨S160x1024, .f32⟩
  | .hbm, ⟨2, _⟩ => ⟨S160x1024, .f32⟩
  | .hbm, ⟨3, _⟩ => ⟨S160x1024, .f32⟩
  | .hbm, ⟨4, _⟩ => ⟨S_, .f32⟩
  | .hbm, ⟨5, _⟩ => ⟨S160x1024, .f32⟩
  | .hbm, ⟨6, _⟩ => ⟨S160x1024, .f32⟩
  | .hbm, ⟨7, _⟩ => ⟨S_, .f32⟩
  | .hbm, ⟨8, _⟩ => ⟨S160x1024, .f32⟩
  | .hbm, ⟨9, _⟩ => ⟨S160x1024, .f32⟩
  | .hbm, ⟨10, _⟩ => ⟨S160x1024, .f32⟩
  | .hbm, ⟨11, _⟩ => ⟨S_, .f32⟩
  | .hbm, ⟨12, _⟩ => ⟨S160x1024, .f32⟩
  | .hbm, ⟨13, _⟩ => ⟨S160x1024, .f32⟩
  | .hbm, ⟨14, _⟩ => ⟨S160x1024, .f32⟩
  | .hbm, ⟨15, _⟩ => ⟨S_, .f32⟩
  | .hbm, ⟨16, _⟩ => ⟨S160x1024, .f32⟩
  | .hbm, ⟨17, _⟩ => ⟨S160x1024, .f32⟩
  | .hbm, ⟨18, _⟩ => ⟨S160x1024, .f32⟩
  | .hbm, ⟨19, _⟩ => ⟨S_, .f32⟩
  | .hbm, ⟨20, _⟩ => ⟨S160x1024, .f32⟩
  | .hbm, ⟨21, _⟩ => ⟨S160x1024, .f32⟩
  | .hbm, ⟨22, _⟩ => ⟨S_, .f32⟩
  | .hbm, ⟨23, _⟩ => ⟨S160x1024, .f32⟩
  | .hbm, ⟨24, _⟩ => ⟨S160x1024, .f32⟩
  | .hbm, ⟨25, _⟩ => ⟨S160x1024, .f32⟩
  | .hbm, ⟨26, _⟩ => ⟨S_, .f32⟩
  | .hbm, ⟨27, _⟩ => ⟨S160x1024, .f32⟩
  | .hbm, ⟨28, _⟩ => ⟨S160x1024, .f32⟩
  | .hbm, ⟨29, _⟩ => ⟨S160x1024, .f32⟩
  | .hbm, ⟨30, _⟩ => ⟨S_, .f32⟩
  | .hbm, ⟨31, _⟩ => ⟨S160x1024, .f32⟩
  | .hbm, ⟨32, _⟩ => ⟨S160x1024, .f32⟩
  | .hbm, ⟨33, _⟩ => ⟨S160x1024, .f32⟩
  | .hbm, ⟨34, _⟩ => ⟨S_, .f32⟩
  | .hbm, ⟨35, _⟩ => ⟨S160x1024, .f32⟩
  | .hbm, ⟨36, _⟩ => ⟨S160x1024, .f32⟩
  | _, _ => ⟨S160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelLoss.lean ====
abbrev S2x4096x1024 : Shape := ⟨3, ![2, 4096, 1024]⟩
abbrev S8192x1024 : Shape := ⟨2, ![8192, 1024]⟩
abbrev S8x128 : Shape := ⟨2, ![8, 128]⟩
abbrev S512x1024 : Shape := ⟨2, ![512, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceLossIdeal.lean ====
abbrev S2x4096x1024 : Shape := ⟨3, ![2, 4096, 1024]⟩
abbrev S_ : Shape := ⟨0, ![]⟩
abbrev S2x4096 : Shape := ⟨2, ![2, 4096]⟩
abbrev S8192x1024 : Shape := ⟨2, ![8192, 1024]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x4096x1024, .f32⟩
  | .hbm, ⟨4, _⟩ => ⟨S_, .f32⟩
  | .hbm, ⟨5, _⟩ => ⟨S2x4096x1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S_, .f32⟩
  | .hbm, ⟨10, _⟩ => ⟨S2x4096, .f32⟩
  | .hbm, ⟨11, _⟩ => ⟨S2x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x4096, .f32⟩
  | .hbm, ⟨20, _⟩ => ⟨S_, .f32⟩
  | .hbm, ⟨21, _⟩ => ⟨S2x4096, .f32⟩
  | .hbm, ⟨22, _⟩ => ⟨S2x4096, .f32⟩
  | .hbm, ⟨23, _⟩ => ⟨S2x4096x1024, .f32⟩
  | .hbm, ⟨24, _⟩ => ⟨S2x4096x1024, .f32⟩
  | .hbm, ⟨25, _⟩ => ⟨S8192x1024, .f32⟩
  | .hbm, ⟨26, _⟩ => ⟨S8x128, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== KernelAda.lean ====
abbrev S16x1024 : Shape := ⟨2, ![16, 1024]⟩
abbrev S2x16x2304 : Shape := ⟨3, ![2, 16, 2304]⟩
abbrev S2x1024x2304 : Shape := ⟨3, ![2, 1024, 2304]⟩
abbrev S1x16x768 : Shape := ⟨3, ![1, 16, 768]⟩
abbrev S1x1024x768 : Shape := ⟨3, ![1, 1024, 768]⟩
abbrev S16x768 : Shape := ⟨2, ![16, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S2x16x2304, .f32⟩
  | .hbm, ⟨2, _⟩ => ⟨S2x1024x2304, .f32⟩
  | .local _ .vmem, ⟨0, _⟩ => ⟨S16x1024, .f32⟩
  | .local _ .vmem, ⟨1, _⟩ => ⟨S1x16x768, .f32⟩
  | .local _ .vmem, ⟨2, _⟩ => ⟨S1x16x768, .f32⟩
  | .local _ .vmem, ⟨3, _⟩ => ⟨S1x1024x768, .f32⟩
  | .local _ .vmem, ⟨4, _⟩ => ⟨S1x1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceAdaIdeal.lean ====
abbrev S16x1024 : Shape := ⟨2, ![16, 1024]⟩
abbrev S2x16x2304 : Shape := ⟨3, ![2, 16, 2304]⟩
abbrev S1x16x2304 : Shape := ⟨3, ![1, 16, 2304]⟩
abbrev S16x2304 : Shape := ⟨2, ![16, 2304]⟩
abbrev S_ : Shape := ⟨0, ![]⟩
abbrev S1024x2304 : Shape := ⟨2, ![1024, 2304]⟩
abbrev S2304 : Shape := ⟨1, ![2304]⟩
abbrev S1x2304 : Shape := ⟨2, ![1, 2304]⟩
abbrev S2304x1024 : Shape := ⟨2, ![2304, 1024]⟩
abbrev S1x1024x2304 : Shape := ⟨3, ![1, 1024, 2304]⟩
abbrev S2x1024x2304 : Shape := ⟨3, ![2, 1024, 2304]⟩

abbrev nBuf : Space → Nat
  | .hbm => 47
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x16x2304, .f32⟩
  | .hbm, ⟨2, _⟩ => ⟨S1x16x2304, .f32⟩
  | .hbm, ⟨3, _⟩ => ⟨S16x2304, .f32⟩
  | .hbm, ⟨4, _⟩ => ⟨S_, .f32⟩
  | .hbm, ⟨5, _⟩ => ⟨S1024x2304, .f32⟩
  | .hbm, ⟨6, _⟩ => ⟨S_, .f32⟩
  | .hbm, ⟨7, _⟩ => ⟨S2304, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S16x2304, .f32⟩
  | .hbm, ⟨18, _⟩ => ⟨S1x2304, .f32⟩
  | .hbm, ⟨19, _⟩ => ⟨S16x2304, .f32⟩
  | .hbm, ⟨20, _⟩ => ⟨S16x2304, .f32⟩
  | .hbm, ⟨21, _⟩ => ⟨S2304x1024, .f32⟩
  | .hbm, ⟨22, _⟩ => ⟨S1024x2304, .f32⟩
  | .hbm, ⟨23, _⟩ => ⟨S1x16x2304, .f32⟩
  | .hbm, ⟨24, _⟩ => ⟨S16x2304, .f32⟩
  | .hbm, ⟨25, _⟩ => ⟨S_, .f32⟩
  | .hbm, ⟨26, _⟩ => ⟨S1024x2304, .f32⟩
  | .hbm, ⟨27, _⟩ => ⟨S_, .f32⟩
  | .hbm, ⟨28, _⟩ => ⟨S2304, .f32⟩
  | .hbm, ⟨29, _⟩ => ⟨S16x1024, .f32⟩
  | .hbm, ⟨30, _⟩ => ⟨S16x1024, .f32⟩
  | .hbm, ⟨31, _⟩ => ⟨S_, .f32⟩
  | .hbm, ⟨32, _⟩ => ⟨S16x1024, .f32⟩
  | .hbm, ⟨33, _⟩ => ⟨S16x1024, .f32⟩
  | .hbm, ⟨34, _⟩ => ⟨S_, .f32⟩
  | .hbm, ⟨35, _⟩ => ⟨S16x1024, .f32⟩
  | .hbm, ⟨36, _⟩ => ⟨S16x1024, .f32⟩
  | .hbm, ⟨37, _⟩ => ⟨S16x1024, .f32⟩
  | .hbm, ⟨38, _⟩ => ⟨S16x2304, .f32⟩
  | .hbm, ⟨39, _⟩ => ⟨S1x2304, .f32⟩
  | .hbm, ⟨40, _⟩ => ⟨S16x2304, .f32⟩
  | .hbm, ⟨41, _⟩ => ⟨S16x2304, .f32⟩
  | .hbm, ⟨42, _⟩ => ⟨S2304x1024, .f32⟩
  | .hbm, ⟨43, _⟩ => ⟨S1024x2304, .f32⟩
  | .hbm, ⟨44, _⟩ => ⟨S1x1024x2304, .f32⟩
  | .hbm, ⟨45, _⟩ => ⟨S1x1024x2304, .f32⟩
  | .hbm, ⟨46, _⟩ => ⟨S2x1024x2304, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩

abbrev nD : Nat := 1
abbrev τ : Topo := Topo.v7x

variable {F : FTy → Type} [FloatOps F]
-- ==== KernelBias.lean ====
abbrev S2x16x9216 : Shape := ⟨3, ![2, 16, 9216]⟩
abbrev S16x2x9216 : Shape := ⟨3, ![16, 2, 9216]⟩
abbrev S16x18x1024 : Shape := ⟨3, ![16, 18, 1024]⟩
abbrev S_ : Shape := ⟨0, ![]⟩
abbrev S16x24x1024 : Shape := ⟨3, ![16, 24, 1024]⟩
abbrev S24x1024 : Shape := ⟨2, ![24, 1024]⟩
abbrev S1x24x1024 : Shape := ⟨3, ![1, 24, 1024]⟩

abbrev nBuf : Space → Nat
  | .hbm => 7
  | .vmem => 2
  | .smem => 0
  | _ => 0

abbrev bufTy : (tb : Table) → Fin (tcTables nBuf tb) → BufTy
  | .hbm, ⟨0, _⟩ => ⟨S2x16x9216, .f32⟩
  | .hbm, ⟨1, _⟩ => ⟨S16x2x9216, .f32⟩
  | .hbm, ⟨2, _⟩ => ⟨S16x18x1024, .f32⟩
  | .hbm, ⟨3, _⟩ => ⟨S_, .i32⟩
  | .hbm, ⟨4, _⟩ => ⟨S_, .f32⟩
  | .hbm, ⟨5, _⟩ => ⟨S16x24x1024, .f32⟩
  | .hbm, ⟨6, _⟩ => ⟨S24x1024, .f32⟩
  | .local _ .vmem, ⟨0, _⟩ => ⟨S16x24x1024, .f32⟩
  | .local _ .vmem, ⟨1, _⟩ => ⟨S24x1024, .f32⟩
  | _, _ => ⟨S2x16x9216, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceBiasIdeal.lean ====
abbrev S2x16x9216 : Shape := ⟨3, ![2, 16, 9216]⟩
abbrev S_ : Shape := ⟨0, ![]⟩
abbrev S2x9216 : Shape := ⟨2, ![2, 9216]⟩
abbrev S2x1x9216 : Shape := ⟨3, ![2, 1, 9216]⟩
abbrev S18x1024 : Shape := ⟨2, ![18, 1024]⟩
abbrev S24x1024 : Shape := ⟨2, ![24, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2x16x9216, .f32⟩
  | .hbm, ⟨1, _⟩ => ⟨S_, .f32⟩
  | .hbm, ⟨2, _⟩ => ⟨S2x9216, .f32⟩
  | .hbm, ⟨3, _⟩ => ⟨S_, .f32⟩
  | .hbm, ⟨4, _⟩ => ⟨S2x16x9216, .f32⟩
  | .hbm, ⟨5, _⟩ => ⟨S2x1x9216, .f32⟩
  | .hbm, ⟨6, _⟩ => ⟨S2x16x9216, .f32⟩
  | .hbm, ⟨7, _⟩ => ⟨S2x16x9216, .f32⟩
  | .hbm, ⟨8, _⟩ => ⟨S_, .f32⟩
  | .hbm, ⟨9, _⟩ => ⟨S2x9216, .f32⟩
  | .hbm, ⟨10, _⟩ => ⟨S2x1x9216, .f32⟩
  | .hbm, ⟨11, _⟩ => ⟨S_, .f32⟩
  | .hbm, ⟨12, _⟩ => ⟨S2x9216, .f32⟩
  | .hbm, ⟨13, _⟩ => ⟨S18x1024, .f32⟩
  | .hbm, ⟨14, _⟩ => ⟨S_, .i32⟩
  | .hbm, ⟨15, _⟩ => ⟨S_, .f32⟩
  | .hbm, ⟨16, _⟩ => ⟨S24x1024, .f32⟩
  | _, _ => ⟨S2x16x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== KernelParts.lean ====
abbrev S8x152x1024 : Shape := ⟨3, ![8, 152, 1024]⟩
abbrev S152x1024 : Shape := ⟨2, ![152, 1024]⟩
abbrev S1x152x1024 : Shape := ⟨3, ![1, 152, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x152x1024, .f32⟩
  | .hbm, ⟨1, _⟩ => ⟨S152x1024, .f32⟩
  | .local _ .vmem, ⟨0, _⟩ => ⟨S8x152x1024, .f32⟩
  | .local _ .vmem, ⟨1, _⟩ => ⟨S152x1024, .f32⟩
  | _, _ => ⟨S8x152x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x152x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S152x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferencePartsIdeal.lean ====
abbrev S8x152x1024 : Shape := ⟨3, ![8, 152, 1024]⟩
abbrev S_ : Shape := ⟨0, ![]⟩
abbrev S152x1024 : Shape := ⟨2, ![152, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x152x1024, .f32⟩
  | .hbm, ⟨1, _⟩ => ⟨S_, .f32⟩
  | .hbm, ⟨2, _⟩ => ⟨S152x1024, .f32⟩
  | _, _ => ⟨S8x152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelMod.lean ====
abbrev S16x1024 : Shape := ⟨2, ![16, 1024]⟩
abbrev S2x1024x2304 : Shape := ⟨3, ![2, 1024, 2304]⟩
abbrev S2x2304 : Shape := ⟨2, ![2, 2304]⟩
abbrev S2x1x2304 : Shape := ⟨3, ![2, 1, 2304]⟩
abbrev S2x16x2304 : Shape := ⟨3, ![2, 16, 2304]⟩
abbrev S1x1024x768 : Shape := ⟨3, ![1, 1024, 768]⟩
abbrev S1x1x768 : Shape := ⟨3, ![1, 1, 768]⟩
abbrev S1x16x768 : Shape := ⟨3, ![1, 16, 768]⟩
abbrev S1024x768 : Shape := ⟨2, ![1024, 768]⟩
abbrev S16x768 : Shape := ⟨2, ![16, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x2304, .f32⟩
  | .hbm, ⟨2, _⟩ => ⟨S2x2304, .f32⟩
  | .hbm, ⟨3, _⟩ => ⟨S2x1x2304, .f32⟩
  | .hbm, ⟨4, _⟩ => ⟨S2x16x2304, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x16x768, .f32⟩
  | .local _ .vmem, ⟨6, _⟩ => ⟨S1x16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceModIdeal.lean ====
abbrev S16x1024 : Shape := ⟨2, ![16, 1024]⟩
abbrev S2x1024x2304 : Shape := ⟨3, ![2, 1024, 2304]⟩
abbrev S2x2304 : Shape := ⟨2, ![2, 2304]⟩
abbrev S1x1024x2304 : Shape := ⟨3, ![1, 1024, 2304]⟩
abbrev S1024x2304 : Shape := ⟨2, ![1024, 2304]⟩
abbrev S1x2304 : Shape := ⟨2, ![1, 2304]⟩
abbrev S2304 : Shape := ⟨1, ![2304]⟩
abbrev S_ : Shape := ⟨0, ![]⟩
abbrev S16x2304 : Shape := ⟨2, ![16, 2304]⟩
abbrev S1x16x2304 : Shape := ⟨3, ![1, 16, 2304]⟩
abbrev S2x16x2304 : Shape := ⟨3, ![2, 16, 2304]⟩

abbrev nBuf : Space → Nat
  | .hbm => 40
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x2304, .f32⟩
  | .hbm, ⟨2, _⟩ => ⟨S2x2304, .f32⟩
  | .hbm, ⟨3, _⟩ => ⟨S1x1024x2304, .f32⟩
  | .hbm, ⟨4, _⟩ => ⟨S1024x2304, .f32⟩
  | .hbm, ⟨5, _⟩ => ⟨S1x2304, .f32⟩
  | .hbm, ⟨6, _⟩ => ⟨S2304, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S_, .f32⟩
  | .hbm, ⟨13, _⟩ => ⟨S16x1024, .f32⟩
  | .hbm, ⟨14, _⟩ => ⟨S16x1024, .f32⟩
  | .hbm, ⟨15, _⟩ => ⟨S16x1024, .f32⟩
  | .hbm, ⟨16, _⟩ => ⟨S16x2304, .f32⟩
  | .hbm, ⟨17, _⟩ => ⟨S1x2304, .f32⟩
  | .hbm, ⟨18, _⟩ => ⟨S16x2304, .f32⟩
  | .hbm, ⟨19, _⟩ => ⟨S16x2304, .f32⟩
  | .hbm, ⟨20, _⟩ => ⟨S1x1024x2304, .f32⟩
  | .hbm, ⟨21, _⟩ => ⟨S1024x2304, .f32⟩
  | .hbm, ⟨22, _⟩ => ⟨S1x2304, .f32⟩
  | .hbm, ⟨23, _⟩ => ⟨S2304, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S_, .f32⟩
  | .hbm, ⟨30, _⟩ => ⟨S16x1024, .f32⟩
  | .hbm, ⟨31, _⟩ => ⟨S16x1024, .f32⟩
  | .hbm, ⟨32, _⟩ => ⟨S16x1024, .f32⟩
  | .hbm, ⟨33, _⟩ => ⟨S16x2304, .f32⟩
  | .hbm, ⟨34, _⟩ => ⟨S1x2304, .f32⟩
  | .hbm, ⟨35, _⟩ => ⟨S16x2304, .f32⟩
  | .hbm, ⟨36, _⟩ => ⟨S16x2304, .f32⟩
  | .hbm, ⟨37, _⟩ => ⟨S1x16x2304, .f32⟩
  | .hbm, ⟨38, _⟩ => ⟨S1x16x2304, .f32⟩
  | .hbm, ⟨39, _⟩ => ⟨S2x16x2304, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== KernelGate.lean ====
abbrev S2x4096x4 : Shape := ⟨3, ![2, 4096, 4]⟩
abbrev S2x4096x2564 : Shape := ⟨3, ![2, 4096, 2564]⟩
abbrev S2x4 : Shape := ⟨2, ![2, 4]⟩
abbrev S8192x4 : Shape := ⟨2, ![8192, 4]⟩
abbrev S_ : Shape := ⟨0, ![]⟩
abbrev S8192x128 : Shape := ⟨2, ![8192, 128]⟩
abbrev S8192x2564 : Shape := ⟨2, ![8192, 2564]⟩
abbrev S8192x2688 : Shape := ⟨2, ![8192, 2688]⟩
abbrev S2x128 : Shape := ⟨2, ![2, 128]⟩
abbrev S2x1x128 : Shape := ⟨3, ![2, 1, 128]⟩
abbrev S1x8x1 : Shape := ⟨3, ![1, 8, 1]⟩
abbrev S2x8x128 : Shape := ⟨3, ![2, 8, 128]⟩
abbrev S8x128 : Shape := ⟨2, ![8, 128]⟩
abbrev S4096x128 : Shape := ⟨2, ![4096, 128]⟩
abbrev S1x8x128 : Shape := ⟨3, ![1, 8, 128]⟩
abbrev S1x1x128 : Shape := ⟨3, ![1, 1, 128]⟩
abbrev S1x128 : Shape := ⟨2, ![1, 128]⟩
abbrev S128 : Shape := ⟨1, ![128]⟩

abbrev nBuf : Space → Nat
  | .hbm => 22
  | .vmem => 8
  | .smem => 0
  | _ => 0

abbrev bufTy : (tb : Table) → Fin (tcTables nBuf tb) → BufTy
  | .hbm, ⟨0, _⟩ => ⟨S2x4096x4, .f32⟩
  | .hbm, ⟨1, _⟩ => ⟨S2x4096x2564, .f32⟩
  | .hbm, ⟨2, _⟩ => ⟨S2x4, .f32⟩
  | .hbm, ⟨3, _⟩ => ⟨S8192x4, .f32⟩
  | .hbm, ⟨4, _⟩ => ⟨S_, .i32⟩
  | .hbm, ⟨5, _⟩ => ⟨S_, .f32⟩
  | .hbm, ⟨6, _⟩ => ⟨S8192x128, .f32⟩
  | .hbm, ⟨7, _⟩ => ⟨S8192x2564, .f32⟩
  | .hbm, ⟨8, _⟩ => ⟨S_, .i32⟩
  | .hbm, ⟨9, _⟩ => ⟨S_, .f32⟩
  | .hbm, ⟨10, _⟩ => ⟨S8192x2688, .f32⟩
  | .hbm, ⟨11, _⟩ => ⟨S_, .i32⟩
  | .hbm, ⟨12, _⟩ => ⟨S_, .f32⟩
  | .hbm, ⟨13, _⟩ => ⟨S2x128, .f32⟩
  | .hbm, ⟨14, _⟩ => ⟨S2x1x128, .f32⟩
  | .hbm, ⟨15, _⟩ => ⟨S_, .f32⟩
  | .hbm, ⟨16, _⟩ => ⟨S1x8x1, .f32⟩
  | .hbm, ⟨17, _⟩ => ⟨S2x8x128, .f32⟩
  | .hbm, ⟨18, _⟩ => ⟨S2x8x128, .f32⟩
  | .hbm, ⟨19, _⟩ => ⟨S2x8x128, .f32⟩
  | .hbm, ⟨20, _⟩ => ⟨S8192x128, .bf16⟩
  | .hbm, ⟨21, _⟩ => ⟨S8x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x8x128, .f32⟩
  | .local _ .vmem, ⟨5, _⟩ => ⟨S4096x128, .bf16⟩
  | .local _ .vmem, ⟨6, _⟩ => ⟨S4096x128, .bf16⟩
  | .local _ .vmem, ⟨7, _⟩ => ⟨S8x128, .f32⟩
  | _, _ => ⟨S2x4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceGateIdeal.lean ====
abbrev S2x4096x4 : Shape := ⟨3, ![2, 4096, 4]⟩
abbrev S2x4096x2564 : Shape := ⟨3, ![2, 4096, 2564]⟩
abbrev S2x4 : Shape := ⟨2, ![2, 4]⟩
abbrev S1x4 : Shape := ⟨2, ![1, 4]⟩
abbrev S4 : Shape := ⟨1, ![4]⟩
abbrev S1x1x4 : Shape := ⟨3, ![1, 1, 4]⟩
abbrev S_ : Shape := ⟨0, ![]⟩
abbrev S2x4x4096 : Shape := ⟨3, ![2, 4, 4096]⟩
abbrev S8192x4 : Shape := ⟨2, ![8192, 4]⟩
abbrev S8192x128 : Shape := ⟨2, ![8192, 128]⟩
abbrev S8x128 : Shape := ⟨2, ![8, 128]⟩

abbrev nBuf : Space → Nat
  | .hbm => 83
  | .vmem => 0
  | .smem => 0
  | _ => 0

abbrev bufTy : (tb : Table) → Fin (tcTables nBuf tb) → BufTy
  | .hbm, ⟨0, _⟩ => ⟨S2x4096x4, .f32⟩
  | .hbm, ⟨1, _⟩ => ⟨S2x4096x2564, .f32⟩
  | .hbm, ⟨2, _⟩ => ⟨S2x4, .f32⟩
  | .hbm, ⟨3, _⟩ => ⟨S2x4096x4, .f32⟩
  | .hbm, ⟨4, _⟩ => ⟨S1x4, .f32⟩
  | .hbm, ⟨5, _⟩ => ⟨S4, .f32⟩
  | .hbm, ⟨6, _⟩ => ⟨S1x1x4, .f32⟩
  | .hbm, ⟨7, _⟩ => ⟨S2x4096x4, .f32⟩
  | .hbm, ⟨8, _⟩ => ⟨S2x4096x4, .f32⟩
  | .hbm, ⟨9, _⟩ => ⟨S2x4096x4, .f32⟩
  | .hbm, ⟨10, _⟩ => ⟨S_, .f32⟩
  | .hbm, ⟨11, _⟩ => ⟨S2x4096x4, .f32⟩
  | .hbm, ⟨12, _⟩ => ⟨S2x4096x4, .f32⟩
  | .hbm, ⟨13, _⟩ => ⟨S2x4096x4, .f32⟩
  | .hbm, ⟨14, _⟩ => ⟨S2x4096x4, .f32⟩
  | .hbm, ⟨15, _⟩ => ⟨S2x4096x4, .i1⟩
  | .hbm, ⟨16, _⟩ => ⟨S2x4096x4, .f32⟩
  | .hbm, ⟨17, _⟩ => ⟨S2x4096x4, .f32⟩
  | .hbm, ⟨18, _⟩ => ⟨S2x4096x4, .f32⟩
  | .hbm, ⟨19, _⟩ => ⟨S2x4096x4, .f32⟩
  | .hbm, ⟨20, _⟩ => ⟨S2x4096x4, .f32⟩
  | .hbm, ⟨21, _⟩ => ⟨S2x4096x4, .f32⟩
  | .hbm, ⟨22, _⟩ => ⟨S2x4096x4, .f32⟩
  | .hbm, ⟨23, _⟩ => ⟨S2x4096x4, .f32⟩
  | .hbm, ⟨24, _⟩ => ⟨S_, .f32⟩
  | .hbm, ⟨25, _⟩ => ⟨S2x4096x4, .f32⟩
  | .hbm, ⟨26, _⟩ => ⟨S2x4096x4, .i1⟩
  | .hbm, ⟨27, _⟩ => ⟨S_, .f32⟩
  | .hbm, ⟨28, _⟩ => ⟨S2x4096x4, .f32⟩
  | .hbm, ⟨29, _⟩ => ⟨S2x4096x4, .f32⟩
  | .hbm, ⟨30, _⟩ => ⟨S_, .f32⟩
  | .hbm, ⟨31, _⟩ => ⟨S2x4096x4, .f32⟩
  | .hbm, ⟨32, _⟩ => ⟨S2x4096x4, .i1⟩
  | .hbm, ⟨33, _⟩ => ⟨S_, .f32⟩
  | .hbm, ⟨34, _⟩ => ⟨S2x4096x4, .f32⟩
  | .hbm, ⟨35, _⟩ => ⟨S2x4096x4, .f32⟩
  | .hbm, ⟨36, _⟩ => ⟨S2x4096x4, .f32⟩
  | .hbm, ⟨37, _⟩ => ⟨S2x4096x4, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2x4096x4, .f32⟩
  | .hbm, ⟨46, _⟩ => ⟨S2x4096x4, .i1⟩
  | .hbm, ⟨47, _⟩ => ⟨S_, .f32⟩
  | .hbm, ⟨48, _⟩ => ⟨S2x4096x4, .f32⟩
  | .hbm, ⟨49, _⟩ => ⟨S2x4096x4, .f32⟩
  | .hbm, ⟨50, _⟩ => ⟨S2x4096x4, .f32⟩
  | .hbm, ⟨51, _⟩ => ⟨S2x4096x4, .f32⟩
  | .hbm, ⟨52, _⟩ => ⟨S2x4096x4, .f32⟩
  | .hbm, ⟨53, _⟩ => ⟨S_, .f32⟩
  | .hbm, ⟨54, _⟩ => ⟨S2x4096x4, .f32⟩
  | .hbm, ⟨55, _⟩ => ⟨S2x4096x4, .f32⟩
  | .hbm, ⟨56, _⟩ => ⟨S2x4096x4, .f32⟩
  | .hbm, ⟨57, _⟩ => ⟨S2x4x4096, .f32⟩
  | .hbm, ⟨58, _⟩ => ⟨S_, .f32⟩
  | .hbm, ⟨59, _⟩ => ⟨S_, .f32⟩
  | .hbm, ⟨60, _⟩ => ⟨S2x4x4096, .f32⟩
  | .hbm, ⟨61, _⟩ => ⟨S2x4x4096, .f32⟩
  | .hbm, ⟨62, _⟩ => ⟨S_, .f32⟩
  | .hbm, ⟨63, _⟩ => ⟨S_, .f32⟩
  | .hbm, ⟨64, _⟩ => ⟨S2x4x4096, .f32⟩
  | .hbm, ⟨65, _⟩ => ⟨S2x4096x4, .f32⟩
  | .hbm, ⟨66, _⟩ => ⟨S2x4096x4, .f32⟩
  | .hbm, ⟨67, _⟩ => ⟨S2x4096x4, .f32⟩
  | .hbm, ⟨68, _⟩ => ⟨S2x4096x4, .f32⟩
  | .hbm, ⟨69, _⟩ => ⟨S_, .f32⟩
  | .hbm, ⟨70, _⟩ => ⟨S4, .f32⟩
  | .hbm, ⟨71, _⟩ => ⟨S1x1x4, .f32⟩
  | .hbm, ⟨72, _⟩ => ⟨S_, .f32⟩
  | .hbm, ⟨73, _⟩ => ⟨S4, .f32⟩
  | .hbm, ⟨74, _⟩ => ⟨S8192x4, .f32⟩
  | .hbm, ⟨75, _⟩ => ⟨S_, .i32⟩
  | .hbm, ⟨76, _⟩ => ⟨S_, .f32⟩
  | .hbm, ⟨77, _⟩ => ⟨S8192x128, .f32⟩
  | .hbm, ⟨78, _⟩ => ⟨S8192x128, .bf16⟩
  | .hbm, ⟨79, _⟩ => ⟨S1x4, .f32⟩
  | .hbm, ⟨80, _⟩ => ⟨S_, .i32⟩
  | .hbm, ⟨81, _⟩ => ⟨S_, .f32⟩
  | .hbm, ⟨82, _⟩ => ⟨S8x128, .f32⟩
  | _, _ => ⟨S2x4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1_0 : Ref sig .tc := ⟨.hbm, 23, rfl⟩
abbrev main_call0_call0_cst_0 : Ref sig .tc := ⟨.hbm, 24, rfl⟩
abbrev main_call0_call0_v13 : Ref sig .tc := ⟨.hbm, 25, rfl⟩
abbrev main_call0_call0_v14 : Ref sig .tc := ⟨.hbm, 26, rfl⟩
abbrev main_call0_call0_cst_1 : Ref sig .tc := ⟨.hbm, 27, rfl⟩
abbrev main_call0_call0_v15 : Ref sig .tc := ⟨.hbm, 28, rfl⟩
abbrev main_call0_call0_v16 : Ref sig .tc := ⟨.hbm, 29, rfl⟩
abbrev main_call0_call0_cst_2 : Ref sig .tc := ⟨.hbm, 30, rfl⟩
abbrev main_call0_call0_v17 : Ref sig .tc := ⟨.hbm, 31, rfl⟩
abbrev main_call0_call0_v18 : Ref sig .tc := ⟨.hbm, 32, rfl⟩
abbrev main_call0_call0_cst_3 : Ref sig .tc := ⟨.hbm, 33, rfl⟩
abbrev main_call0_call0_v19 : Ref sig .tc := ⟨.hbm, 34, rfl⟩
abbrev main_call0_call0_v20 : Ref sig .tc := ⟨.hbm, 35, rfl⟩
abbrev main_call0_call0_v21 : Ref sig .tc := ⟨.hbm, 36, rfl⟩
abbrev main_v6_1 : Ref sig .tc := ⟨.hbm, 37, rfl⟩
abbrev main_call0_call0_cst_4 : Ref sig .tc := ⟨.hbm, 38, rfl⟩
abbrev main_call0_call0_cst_5 : Ref sig .tc := ⟨.hbm, 39, rfl⟩
abbrev main_call0_call0_v23 : Ref sig .tc := ⟨.hbm, 40, rfl⟩
abbrev main_call0_call0_cst_6 : Ref sig .tc := ⟨.hbm, 41, rfl⟩
abbrev main_call0_call0_cst_7 : Ref sig .tc := ⟨.hbm, 42, rfl⟩
abbrev main_call0_call0_v24 : Ref sig .tc := ⟨.hbm, 43, rfl⟩
abbrev main_call0_call0_cst_8 : Ref sig .tc := ⟨.hbm, 44, rfl⟩
abbrev main_call0_call0_v25 : Ref sig .tc := ⟨.hbm, 45, rfl⟩
abbrev main_call0_call0_v26 : Ref sig .tc := ⟨.hbm, 46, rfl⟩
abbrev main_call0_call0_cst_9 : Ref sig .tc := ⟨.hbm, 47, rfl⟩
abbrev main_call0_call0_v27 : Ref sig .tc := ⟨.hbm, 48, rfl⟩
abbrev main_call0_call0_v28 : Ref sig .tc := ⟨.hbm, 49, rfl⟩
abbrev main_call0_call0_v29 : Ref sig .tc := ⟨.hbm, 50, rfl⟩
abbrev main_call0_call0_v30 : Ref sig .tc := ⟨.hbm, 51, rfl⟩
abbrev main_call0_call0_v31 : Ref sig .tc := ⟨.hbm, 52, rfl⟩
abbrev main_call0_call0_cst_10 : Ref sig .tc := ⟨.hbm, 53, rfl⟩
abbrev main_call0_call0_v32 : Ref sig .tc := ⟨.hbm, 54, rfl⟩
abbrev main_v6_2 : Ref sig .tc := ⟨.hbm, 55, rfl⟩
abbrev main_v6_0 : Ref sig .tc := ⟨.hbm, 56, rfl⟩
abbrev main_v7 : Ref sig .tc := ⟨.hbm, 57, rfl⟩
abbrev main_call1_call0_cst : Ref sig .tc := ⟨.hbm, 58, rfl⟩
abbrev main_call1_call0_v0 : Ref sig .tc := ⟨.hbm, 59, rfl⟩
abbrev main_v8 : Ref sig .tc := ⟨.hbm, 60, rfl⟩
abbrev main_v9 : Ref sig .tc := ⟨.hbm, 61, rfl⟩
abbrev main_call2_call0_cst : Ref sig .tc := ⟨.hbm, 62, rfl⟩
abbrev main_call2_call0_v0 : Ref sig .tc := ⟨.hbm, 63, rfl⟩
abbrev main_v10 : Ref sig .tc := ⟨.hbm, 64, rfl⟩
abbrev main_v11 : Ref sig .tc := ⟨.hbm, 65, rfl⟩
abbrev main_call3_v0 : Ref sig .tc := ⟨.hbm, 66, rfl⟩
abbrev main_call3_v1 : Ref sig .tc := ⟨.hbm, 67, rfl⟩
abbrev main_v12 : Ref sig .tc := ⟨.hbm, 68, rfl⟩
abbrev main_cst : Ref sig .tc := ⟨.hbm, 69, rfl⟩
abbrev main_v13 : Ref sig .tc := ⟨.hbm, 70, rfl⟩
abbrev main_v14 : Ref sig .tc := ⟨.hbm, 71, rfl⟩
abbrev main_cst_0 : Ref sig .tc := ⟨.hbm, 72, rfl⟩
abbrev main_v15 : Ref sig .tc := ⟨.hbm, 73, rfl⟩
abbrev main_v16 : Ref sig .tc := ⟨.hbm, 74, rfl⟩
abbrev main_c : Ref sig .tc := ⟨.hbm, 75, rfl⟩
abbrev main_call4_v0 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_c_1 : Ref sig .tc := ⟨.hbm, 80, rfl⟩
abbrev main_call5_v0 : Ref sig .tc := ⟨.hbm, 81, rfl⟩
abbrev main_v20 : Ref sig .tc := ⟨.hbm, 82, rfl⟩

abbrev nD : Nat := 1
abbrev τ : Topo := Topo.v7x

variable {F : FTy → Type} [FloatOps F]
-- ==== Proof.Spec.lean ====
/-
  The gradient of the macaron feed-forward half-step, as formulas over the real numbers.

  The forward step of one row `x` of batch element `b` is

      h = x · rms(x) · gn · (1 + scale_b) + shift_b,   [g | u] = h · Wu,
      f = (g · σ(g) · u) · Wd,                          y = x + ½ (1 + gate_b) · f,

  and the functions below are the quantities its backward pass produces from the cotangent `dy` of `y`. Each side of
  the certificate is shown to compute these numbers.
-/
module

public import Idealize.ShloMosaic.PureOps.Ideal.Laws
public import Mathlib.Analysis.SpecialFunctions.Exp

@[expose] public section

noncomputable section

namespace Cert.Ffn

open Finset

/-- The arguments of the step, all real numbers. -/
structure Args where
  x : Fin 2 → Fin 4096 → Fin 1024 → ℝ
  sh : Fin 2 → Fin 1024 → ℝ
  sc : Fin 2 → Fin 1024 → ℝ
  ga : Fin 2 → Fin 1024 → ℝ
  gn : Fin 1024 → ℝ
  wu : Fin 1024 → Fin 5632 → ℝ
  wd : Fin 2816 → Fin 1024 → ℝ
  dy : Fin 2 → Fin 4096 → Fin 1024 → ℝ

/-- The constant under the root of the norm: the number the single-precision word of 1e-6 stands for. -/
def eps : ℝ := 8796093 / 8796093022208

theorem eps_pos : 0 < eps := by unfold eps; norm_num

namespace Args

variable (A : Args)

/-- Column `j` of the left half of a row of 5632. -/
abbrev lo (j : Fin 2816) : Fin 5632 := ⟨j.val, by omega⟩

/-- Column `j` of the right half of a row of 5632. -/
abbrev hi (j : Fin 2816) : Fin 5632 := ⟨2816 + j.val, by omega⟩

/-- The mean square of a row, plus the constant. -/
def ms (b : Fin 2) (s : Fin 4096) : ℝ := (∑ d, A.x b s d * A.x b s d) / 1024 + eps

theorem ms_pos (b : Fin 2) (s : Fin 4096) : 0 < A.ms b s :=
  add_pos_of_nonneg_of_pos (div_nonneg (sum_nonneg fun _ _ => mul_self_nonneg _) (by norm_num)) eps_pos

/-- The reciprocal root mean square of a row. -/
def rst (b : Fin 2) (s : Fin 4096) : ℝ := (Real.sqrt (A.ms b s))⁻¹

/-- The square of the reciprocal root is the reciprocal. -/
theorem rst_mul_self (b : Fin 2) (s : Fin 4096) : A.rst b s * A.rst b s = 1 / A.ms b s := by
  unfold rst
  rw [← mul_inv, Real.mul_self_sqrt (A.ms_pos b s).le, one_div]

/-- The normalised row. -/
def xn (b : Fin 2) (s : Fin 4096) (d : Fin 1024) : ℝ := A.x b s d * A.rst b s

/-- The modulated normalised row. -/
def h (b : Fin 2) (s : Fin 4096) (d : Fin 1024) : ℝ := A.xn b s d * A.gn d * (1 + A.sc b d) + A.sh b d

/-- The projection up, both halves. -/
def gu (b : Fin 2) (s : Fin 4096) (c : Fin 5632) : ℝ := ∑ d, A.h b s d * A.wu d c

/-- The gate half of the projection. -/
def g (b : Fin 2) (s : Fin 4096) (j : Fin 2816) : ℝ := A.gu b s (lo j)

/-- The value half of the projection. -/
def u (b : Fin 2) (s : Fin 4096) (j : Fin 2816) : ℝ := A.gu b s (hi j)

/-- The logistic function of the gate half. -/
def sg (b : Fin 2) (s : Fin 4096) (j : Fin 2816) : ℝ := 1 / (1 + Real.exp (-A.g b s j))

/-- The hidden activation. -/
def act (b : Fin 2) (s : Fin 4096) (j : Fin 2816) : ℝ := A.g b s j * A.sg b s j * A.u b s j

/-- The projection down: the branch before its gate. -/
def f (b : Fin 2) (s : Fin 4096) (d : Fin 1024) : ℝ := ∑ j, A.act b s j * A.wd j d

/-- The cotangent of the branch. -/
def df (b : Fin 2) (s : Fin 4096) (d : Fin 1024) : ℝ := (1 / 2) * (1 + A.ga b d) * A.dy b s d

/-- The cotangent of the hidden activation. -/
def da (b : Fin 2) (s : Fin 4096) (j : Fin 2816) : ℝ := ∑ d, A.df b s d * A.wd j d

/-- The cotangent of the value half. -/
def du (b : Fin 2) (s : Fin 4096) (j : Fin 2816) : ℝ := A.da b s j * (A.g b s j * A.sg b s j)

/-- The cotangent of the gate half. -/
def dg (b : Fin 2) (s : Fin 4096) (j : Fin 2816) : ℝ :=
  A.da b s j * A.u b s j * (A.sg b s j * (1 + A.g b s j * (1 - A.sg b s j)))

/-- The cotangent of the modulated normalised row: both halves taken back through the projection up. -/
def dh (b : Fin 2) (s : Fin 4096) (d : Fin 1024) : ℝ :=
  ∑ j, A.dg b s j * A.wu d (lo j) + ∑ j, A.du b s j * A.wu d (hi j)

/-- The cotangents of both halves, side by side. -/
def dgu (b : Fin 2) (s : Fin 4096) (c : Fin 5632) : ℝ :=
  if h : c.val < 2816 then A.dg b s ⟨c.val, h⟩ else A.du b s ⟨c.val - 2816, by omega⟩

/-- The two halves of the pair of cotangents. -/
theorem dgu_half (b : Fin 2) (s : Fin 4096) (p : Fin 2) (j : Fin 2816) :
    A.dgu b s ⟨2816 * p.val + j.val, by omega⟩ = if p.val = 0 then A.dg b s j else A.du b s j := by
  unfold dgu
  by_cases h : p.val = 0
  · rw [dif_pos (show 2816 * p.val + j.val < 2816 by omega), if_pos h]
    exact congrArg (A.dg b s) (Fin.ext (by show 2816 * p.val + j.val = j.val; omega))
  · rw [dif_neg (show ¬ 2816 * p.val + j.val < 2816 by omega), if_neg h]
    exact congrArg (A.du b s) (Fin.ext (by show 2816 * p.val + j.val - 2816 = j.val; omega))

/-- Taken back through the projection up side by side or half by half. -/
theorem sum_dgu (b : Fin 2) (s : Fin 4096) (d : Fin 1024) : ∑ c, A.dgu b s c * A.wu d c = A.dh b s d := by
  unfold dh
  rw [Fin.sum_univ_add (a := 2816) (b := 2816)]
  refine congrArg₂ _ (sum_congr rfl fun j _ => ?_) (sum_congr rfl fun j _ => ?_)
  · have h : (Fin.castAdd 2816 j).val < 2816 := j.isLt
    unfold dgu
    rw [dif_pos h]
    rfl
  · have h : ¬ (Fin.natAdd 2816 j).val < 2816 := by simp
    unfold dgu
    rw [dif_neg h]
    have e : (⟨(Fin.natAdd 2816 j).val - 2816, by omega⟩ : Fin 2816) = j := Fin.ext (by simp)
    rw [e]
    rfl

/-- The cotangent of the normalised row. -/
def dyn (b : Fin 2) (s : Fin 4096) (d : Fin 1024) : ℝ := A.dh b s d * (A.gn d * (1 + A.sc b d))

/-- The gradient of the input row: through the residual and through the norm. -/
def dx (b : Fin 2) (s : Fin 4096) (d : Fin 1024) : ℝ :=
  A.dy b s d + A.rst b s * (A.dyn b s d - A.xn b s d * ((∑ e, A.dyn b s e * A.xn b s e) / 1024))

/-- The gradient through the norm, with the derivative of the reciprocal root written out. -/
theorem norm_back (b : Fin 2) (s : Fin 4096) (d : Fin 1024) :
    A.dyn b s d * A.rst b s
        + A.x b s d * ((∑ e, A.x b s e * A.dyn b s e) * (A.rst b s / A.ms b s * -(1 / 2)) / 1024)
        + (∑ e, A.x b s e * A.dyn b s e) * (A.rst b s / A.ms b s * -(1 / 2)) / 1024 * A.x b s d
      = A.rst b s * (A.dyn b s d - A.xn b s d * ((∑ e, A.dyn b s e * A.xn b s e) / 1024)) := by
  have h : ∑ e, A.dyn b s e * A.xn b s e = (∑ e, A.x b s e * A.dyn b s e) * A.rst b s := by
    rw [sum_mul]
    exact sum_congr rfl fun e _ => by unfold xn; ring
  rw [h]
  unfold xn
  rw [div_eq_mul_one_div (A.rst b s), ← A.rst_mul_self]
  ring

/-- The gradient of the shift. -/
def dsh (b : Fin 2) (d : Fin 1024) : ℝ := ∑ s, A.dh b s d

/-- The sum the gradient of the scale and that of the norm's weight share. -/
def dhx (b : Fin 2) (d : Fin 1024) : ℝ := ∑ s, A.dh b s d * A.xn b s d

/-- The gradient of the scale. -/
def dsc (b : Fin 2) (d : Fin 1024) : ℝ := A.dhx b d * A.gn d

/-- The gradient of the gate. -/
def dga (b : Fin 2) (d : Fin 1024) : ℝ := ∑ s, (1 / 2) * A.f b s d * A.dy b s d

/-- The gradient of the norm's weight. -/
def dgn (d : Fin 1024) : ℝ := ∑ b, A.dhx b d * (1 + A.sc b d)

/-- The batch element token `t` belongs to. -/
abbrev bt (t : Fin 8192) : Fin 2 := ⟨t.val / 4096, by omega⟩

/-- The place of token `t` in its sequence. -/
abbrev ps (t : Fin 8192) : Fin 4096 := ⟨t.val % 4096, by omega⟩

/-- The gradients of shift, scale and gate, one a row; the rest of the eight rows is zero. -/
def dmod (b : Fin 2) (r : Fin 8) (d : Fin 1024) : ℝ :=
  if r.val = 0 then A.dsh b d else if r.val = 1 then A.dsc b d else if r.val = 2 then A.dga b d else 0

/-- The gradient of the norm's weight in the first of eight rows. -/
def dgn8 (r : Fin 8) (d : Fin 1024) : ℝ := if r.val = 0 then A.dgn d else 0

/-- The cotangents of the gate half, then those of the value half. -/
def dgus (p : Fin 2) (t : Fin 8192) (j : Fin 2816) : ℝ :=
  if p.val = 0 then A.dg (bt t) (ps t) j else A.du (bt t) (ps t) j

/-- A sum of finitely many real numbers, taken among the extended reals. -/
theorem _root_.Cert.Ffn.coe_sum {ι : Type} [Fintype ι] (v : ι → ℝ) :
    ∑ i, ((v i : ℝ) : EReal) = ((∑ i, v i : ℝ) : EReal) := by
  classical
  induction (Finset.univ : Finset ι) using Finset.induction_on with
  | empty => simp
  | insert a t ha ih => rw [Finset.sum_insert ha, Finset.sum_insert ha, ih, EReal.coe_add]

/-- A quotient of real numbers, taken among the extended reals. -/
theorem _root_.Cert.Ffn.div_real (x : ℝ) {y : ℝ} (h : y ≠ 0) :
    Idealize.ShloMosaic.Ideal.div (x : EReal) (y : EReal) = ((x / y : ℝ) : EReal) := by
  rw [Idealize.ShloMosaic.Ideal.div_coe h, ← EReal.coe_mul, mul_one_div]

end Args

open Idealize.ShloMosaic in
/-- A vector of real numbers as an array of the ideal semantics. -/
abbrev lift1 {n : Nat} (v : Fin n → ℝ) : (⟨(⟨1, ![n]⟩ : Shape), .f32⟩ : BufTy).Contents (Elt Ideal) :=
  fun i => ((v (i 0) : ℝ) : EReal)

open Idealize.ShloMosaic in
/-- A matrix of real numbers as an array of the ideal semantics. -/
abbrev lift2 {n k : Nat} (v : Fin n → Fin k → ℝ) : (⟨(⟨2, ![n, k]⟩ : Shape), .f32⟩ : BufTy).Contents (Elt Ideal) :=
  fun i => ((v (i 0) (i 1) : ℝ) : EReal)

open Idealize.ShloMosaic in
/-- A stack of matrices of real numbers as an array of the ideal semantics. -/
abbrev lift3 {n k p : Nat} (v : Fin n → Fin k → Fin p → ℝ) :
    (⟨(⟨3, ![n, k, p]⟩ : Shape), .f32⟩ : BufTy).Contents (Elt Ideal) :=
  fun i => ((v (i 0) (i 1) (i 2) : ℝ) : EReal)

/-- The words of the constants the step uses, as real numbers. -/
theorem w_one : Idealize.ShloMosaic.Ideal.ofBits .f32 0x3F800000#32 = ((1 : ℝ) : EReal) := by
  simp [Idealize.ShloMosaic.Ideal.ofBits, Idealize.ShloMosaic.Ideal.ieee, -EReal.coe_mul]; norm_num

theorem w_half : Idealize.ShloMosaic.Ideal.ofBits .f32 0x3F000000#32 = ((1 / 2 : ℝ) : EReal) := by
  simp [Idealize.ShloMosaic.Ideal.ofBits, Idealize.ShloMosaic.Ideal.ieee, -EReal.coe_mul]; norm_num

theorem w_neg_half : Idealize.ShloMosaic.Ideal.ofBits .f32 0xBF000000#32 = ((-(1 / 2) : ℝ) : EReal) := by
  simp [Idealize.ShloMosaic.Ideal.ofBits, Idealize.ShloMosaic.Ideal.ieee, -EReal.coe_mul]; norm_num

theorem w_width : Idealize.ShloMosaic.Ideal.ofBits .f32 0x44800000#32 = ((1024 : ℝ) : EReal) := by
  simp [Idealize.ShloMosaic.Ideal.ofBits, Idealize.ShloMosaic.Ideal.ieee, -EReal.coe_mul]; norm_num

theorem w_eps : Idealize.ShloMosaic.Ideal.ofBits .f32 0x358637BD#32 = ((eps : ℝ) : EReal) := by
  simp [Idealize.ShloMosaic.Ideal.ofBits, Idealize.ShloMosaic.Ideal.ieee, -EReal.coe_mul, eps]; norm_num

theorem w_zero : Idealize.ShloMosaic.Ideal.ofBits .f32 0x00000000#32 = ((0 : ℝ) : EReal) := by
  simp [Idealize.ShloMosaic.Ideal.ofBits, Idealize.ShloMosaic.Ideal.ieee]

end Cert.Ffn

end
-- ==== Proof.RefFwd.lean ====
/-
  The forward stages of the reference program, read as real numbers: the norm, the modulation, the projections and the
  gate of the feed-forward half-step.
-/
module

public import proofs.«01_k».proof.Proof.Gen.ReferenceIdeal.Read
public import proofs.«01_k».proof.Proof.Spec

@[expose] public section

set_option maxRecDepth 16384

noncomputable section

namespace Cert.Ffn.Ref

open Idealize.ShloMosaic Cert.ReferenceIdeal Cert.ReferenceIdeal.Read

variable (A : Args)

/-- The mean square plus the constant. -/
theorem r6 (i : S2x4096x1.Idx) : val_main_v6 (F := Ideal) (lift3 A.x) i = ((A.ms (i 0) (i 1) : ℝ) : EReal) := by
  rw [val_main_v6_apply, val_main_v4_apply, val_main_v2_apply, val_main_v1_apply, val_main_v3_apply, val_main_v5_apply,
    val_main_cst_0_apply, val_main_cst_1_apply, val_main_cst_apply]
  simp only [val_main_v0_apply, Ideal.mulf_def, Ideal.addf_def, Ideal.ofBits_def, Ideal.hostDivf_def, Ideal.divf_def, w_zero, w_width, w_eps, ← EReal.coe_mul,
    coe_sum, ← EReal.coe_add, div_real _ (show (1024 : ℝ) ≠ 0 by norm_num), zero_add]
  rfl

/-- The reciprocal root. -/
theorem r7 (i : S2x4096x1.Idx) : val_main_v7 (F := Ideal) (lift3 A.x) i = ((A.rst (i 0) (i 1) : ℝ) : EReal) := by
  have h := A.ms_pos (i 0) (i 1)
  rw [val_main_v7_apply, r6]
  simp only [Ideal.hostUnary_rsqrt_def, Ideal.rsqrt_coe, if_neg h.le.not_gt, if_neg h.ne']
  rfl

/-- The normalised row. -/
theorem r12 (i : S2x4096x1024.Idx) :
    val_main_v12 (F := Ideal) (lift3 A.x) i = ((A.xn (i 0) (i 1) (i 2) : ℝ) : EReal) := by
  rw [val_main_v12_apply, val_main_v11_apply, r7, Ideal.mulf_def, ← EReal.coe_mul]
  rfl

/-- The norm's weight, along every row. -/
theorem r15 (i : S2x4096x1024.Idx) : val_main_v15 (F := Ideal) (lift1 A.gn) i = ((A.gn (i 2) : ℝ) : EReal) := by
  rw [val_main_v15_apply, val_main_v14_apply, val_main_v13_apply]
  rfl

/-- One plus the scale. -/
theorem r18 (i : S2x1024.Idx) : val_main_v18 (F := Ideal) (lift2 A.sc) i = ((1 + A.sc (i 0) (i 1) : ℝ) : EReal) := by
  rw [val_main_v18_apply, val_main_v17_apply, val_main_cst_3_apply, Ideal.addf_def, Ideal.ofBits_def, w_one,
    ← EReal.coe_add]

/-- The weighted normalised row. -/
theorem r16 (i : S2x4096x1024.Idx) : val_main_v16 (F := Ideal) (lift3 A.x) (lift1 A.gn) i
    = ((A.xn (i 0) (i 1) (i 2) * A.gn (i 2) : ℝ) : EReal) := by
  rw [val_main_v16_apply, r12, r15, Ideal.mulf_def, ← EReal.coe_mul]

/-- The modulated normalised row. -/
theorem r24 (i : S2x4096x1024.Idx) : val_main_v24 (F := Ideal) (lift3 A.x) (lift2 A.sh) (lift2 A.sc) (lift1 A.gn) i
    = ((A.h (i 0) (i 1) (i 2) : ℝ) : EReal) := by
  rw [val_main_v24_apply, val_main_v21_apply, r16, val_main_v20_apply, val_main_v19_apply, r18, val_main_v23_apply,
    val_main_v22_apply, Ideal.mulf_def, ← EReal.coe_mul, Ideal.addf_def]
  unfold Args.h
  rw [EReal.coe_add]
  rfl

/-- The projection up. -/
theorem r25 (i : S2x4096x5632.Idx) :
    val_main_v25 (F := Ideal) (lift3 A.x) (lift2 A.sh) (lift2 A.sc) (lift1 A.gn) (lift2 A.wu) i
      = ((A.gu (i 0) (i 1) (i 2) : ℝ) : EReal) := by
  rw [val_main_v25_apply]
  simp only [r24, ← EReal.coe_mul, coe_sum]
  rfl

/-- The gate half of the projection. -/
theorem r26 (i : S2x4096x2816.Idx) :
    val_main_v26 (F := Ideal) (lift3 A.x) (lift2 A.sh) (lift2 A.sc) (lift1 A.gn) (lift2 A.wu) i
      = ((A.g (i 0) (i 1) (i 2) : ℝ) : EReal) := by
  rw [val_main_v26_apply, r25]
  rfl

/-- The value half of the projection. -/
theorem r27 (i : S2x4096x2816.Idx) :
    val_main_v27 (F := Ideal) (lift3 A.x) (lift2 A.sh) (lift2 A.sc) (lift1 A.gn) (lift2 A.wu) i
      = ((A.u (i 0) (i 1) (i 2) : ℝ) : EReal) := by
  rw [val_main_v27_apply, r25]
  rfl

/-- The logistic function of the gate half. -/
theorem rsg (i : S2x4096x2816.Idx) :
    val_main_v28_2 (F := Ideal) (lift3 A.x) (lift2 A.sh) (lift2 A.sc) (lift1 A.gn) (lift2 A.wu) i
      = ((A.sg (i 0) (i 1) (i 2) : ℝ) : EReal) := by
  rw [val_main_v28_2_apply, val_main_call0_v3_apply, val_main_call0_v1_apply, val_main_call0_v0_apply, r26,
    val_main_call0_v4_apply, val_main_call0_v2_apply, val_main_call0_cst_apply, val_main_call0_cst_0_apply]
  have h : (1 + Real.exp (-A.g (i 0) (i 1) (i 2)) : ℝ) ≠ 0 := by positivity
  simp only [Ideal.hostNegf_def, Ideal.negf_def, Ideal.hostUnary_exp_def, Ideal.ofBits_def, w_one, Ideal.addf_def, Ideal.hostDivf_def,
    Ideal.divf_def, ← EReal.coe_neg, Ideal.exp_coe, ← EReal.coe_add, div_real _ h]
  rfl

/-- The gated half: the gate times its logistic function. -/
theorem r28 (i : S2x4096x2816.Idx) :
    val_main_v28_0 (F := Ideal) (lift3 A.x) (lift2 A.sh) (lift2 A.sc) (lift1 A.gn) (lift2 A.wu) i
      = ((A.g (i 0) (i 1) (i 2) * A.sg (i 0) (i 1) (i 2) : ℝ) : EReal) := by
  rw [val_main_v28_0_apply, r26, rsg, Ideal.mulf_def, ← EReal.coe_mul]

/-- The hidden activation. -/
theorem r29 (i : S2x4096x2816.Idx) :
    val_main_v29 (F := Ideal) (lift3 A.x) (lift2 A.sh) (lift2 A.sc) (lift1 A.gn) (lift2 A.wu) i
      = ((A.act (i 0) (i 1) (i 2) : ℝ) : EReal) := by
  rw [val_main_v29_apply, r28, r27, Ideal.mulf_def, ← EReal.coe_mul]
  rfl

/-- The projection down. -/
theorem r30 (i : S2x4096x1024.Idx) :
    val_main_v30 (F := Ideal) (lift3 A.x) (lift2 A.sh) (lift2 A.sc) (lift1 A.gn) (lift2 A.wu) (lift2 A.wd) i
      = ((A.f (i 0) (i 1) (i 2) : ℝ) : EReal) := by
  rw [val_main_v30_apply]
  simp only [r29, ← EReal.coe_mul, coe_sum]
  rfl

end Cert.Ffn.Ref

end
-- ==== Proof.KerBlock.lean ====
/-
  What the kernel's body computes of one block of 256 rows, as real numbers: each of its vector expressions, applied to
  blocks of real numbers, is the block of the corresponding quantity of the step.
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.Ffn.Ker

open Idealize.ShloMosaic Cert.KernelIdeal Cert.KernelIdeal.Gen
open Finset

/-- A matrix of real numbers as a block, of either width of float. -/
abbrev blk2 {n k : Nat} (v : Fin n → Fin k → ℝ) : (⟨2, ![n, k]⟩ : Shape).Idx → EReal :=
  fun i => ((v (i 0) (i 1) : ℝ) : EReal)

/-- A stack of matrices of real numbers as a block. -/
abbrev blk3 {n k p : Nat} (v : Fin n → Fin k → Fin p → ℝ) : (⟨3, ![n, k, p]⟩ : Shape).Idx → EReal :=
  fun i => ((v (i 0) (i 1) (i 2) : ℝ) : EReal)

/-- One row of real numbers as a block of one row. -/
abbrev row2 {n : Nat} (v : Fin n → ℝ) : (⟨2, ![1, n]⟩ : Shape).Idx → EReal := fun i => ((v (i 1) : ℝ) : EReal)

/-- One row of real numbers as a block of one row under one unit axis. -/
abbrev row3 {n : Nat} (v : Fin n → ℝ) : (⟨3, ![1, 1, n]⟩ : Shape).Idx → EReal := fun i => ((v (i 2) : ℝ) : EReal)

/-- The logistic function. -/
def sgm (x : ℝ) : ℝ := 1 / (1 + Real.exp (-x))

theorem sgm_den (x : ℝ) : (1 + Real.exp (-x)) ≠ 0 := (add_pos one_pos (Real.exp_pos _)).ne'

/-- One over one plus the exponential of a negated real number, over the extended reals. -/
theorem sgm_word (x : ℝ) :
    Ideal.div (1 : EReal) (1 + Ideal.exp ((0 : EReal) - ((x : ℝ) : EReal))) = ((sgm x : ℝ) : EReal) := by
  rw [← EReal.coe_one, ← EReal.coe_zero, ← EReal.coe_sub, zero_sub, Ideal.exp_coe, ← EReal.coe_add, div_real _ (sgm_den x)]
  rfl

section Forward

variable (A : Args) (b : Fin 2) (tk : Fin 256 → Fin 4096)

/-- The block of rows of `x`. -/
abbrev bx : Fin 256 → Fin 1024 → ℝ := fun r d => A.x b (tk r) d

/-- The block of rows of `dy`. -/
abbrev bdy : Fin 256 → Fin 1024 → ℝ := fun r d => A.dy b (tk r) d

theorem p6 (v : Fin 256 → Fin 1024 → ℝ) : k0_pay6 (F := Ideal) (blk2 v) = blk2 v := by
  funext i
  pointwise [k0_pay6]

theorem p7 (v : Fin 256 → Fin 1024 → ℝ) : k0_pay7 (F := Ideal) (blk2 v) = blk2 v := by
  funext i
  pointwise [k0_pay7]

/-- The reciprocal root mean square of each row. -/
theorem p8 : k0_pay8 (F := Ideal) (blk2 (bx A b tk)) = blk2 fun r (_ : Fin 1) => A.rst b (tk r) := by
  funext i
  have h := A.ms_pos b (tk (i 0))
  have e : (∑ x, blk2 (bx A b tk) (ix2 (i 0) x) * blk2 (bx A b tk) (ix2 (i 0) x))
      = ((∑ d, A.x b (tk (i 0)) d * A.x b (tk (i 0)) d : ℝ) : EReal) := by
    rw [← coe_sum]
    exact sum_congr rfl fun d _ => (EReal.coe_mul _ _).symm
  pointwise [k0_pay8, k0_pay7]
  rw [e, w_width, w_eps, div_real _ (show (1024 : ℝ) ≠ 0 by norm_num), ← EReal.coe_add]
  show Ideal.rsqrt ((A.ms b (tk (i 0)) : ℝ) : EReal) = _
  rw [Ideal.rsqrt_coe, if_neg h.le.not_gt, if_neg h.ne']
  rfl

/-- The normalised rows. -/
theorem p9 : k0_pay9 (F := Ideal) (blk2 (bx A b tk)) = blk2 fun r d => A.xn b (tk r) d := by
  funext i
  pointwise [k0_pay9]
  rw [p7, p8, ← EReal.coe_mul]
  rfl

theorem p10 (g : Fin 1024 → ℝ) :
    k0_pay10 (F := Ideal) (blk2 (bx A b tk)) (row3 g) = blk2 fun r d => A.xn b (tk r) d * g d := by
  funext i
  pointwise [k0_pay10]
  rw [p9, ← EReal.coe_mul]
  rfl

/-- A row-scaled, row-shifted block. -/
theorem p11 (v : Fin 256 → Fin 1024 → ℝ) (s t : Fin 1024 → ℝ) :
    k0_pay11 (F := Ideal) (blk2 v) (row3 s) (row3 t) = blk2 fun r d => v r d * s d + t d := by
  funext i
  pointwise [k0_pay11]
  rw [← EReal.coe_mul, ← EReal.coe_add]
  rfl

/-- The cotangent of the branch. -/
theorem p12 (dy : Fin 256 → Fin 1024 → ℝ) (s : Fin 1024 → ℝ) :
    k0_pay12 (F := Ideal) (blk2 dy) (row3 s) = blk2 fun r d => (1 / 2) * s d * dy r d := by
  funext i
  pointwise [k0_pay12]
  rw [w_half, ← EReal.coe_mul, ← EReal.coe_mul]
  rfl

/-- The gate's row: what was there, plus the block's column sums. -/
theorem p13 (dy f : Fin 256 → Fin 1024 → ℝ) (o : Fin 1024 → ℝ) :
    k0_pay13 (F := Ideal) (blk2 dy) (row3 o) (blk2 f) = row3 fun d => o d + ∑ r, (1 / 2) * f r d * dy r d := by
  funext i
  pointwise [k0_pay13]
  simp only [w_half, ← EReal.coe_mul, coe_sum, ← EReal.coe_add]
  rfl

end Forward

section Chunk

/-- The cotangent of the hidden activation, over one half of its columns. -/
theorem p15 (v : Fin 256 → Fin 1024 → ℝ) (w : Fin 1408 → Fin 1024 → ℝ) :
    k0_pay15 (F := Ideal) (blk2 v) (blk2 w) = blk2 fun r j => ∑ d, v r d * w j d := by
  funext i
  pointwise [k0_pay15]
  simp only [← EReal.coe_mul, coe_sum]
  rfl

theorem p14 (w : Fin 1408 → Fin 1024 → ℝ) : k0_pay14 (F := Ideal) (blk2 w) = blk2 w := by
  funext i
  pointwise [k0_pay14]

theorem p26 (v : Fin 256 → Fin 1024 → ℝ) (w : Fin 1408 → Fin 1024 → ℝ) :
    k0_pay26 (F := Ideal) (blk2 v) (blk2 w) = blk2 fun r j => ∑ d, v r d * w j d := by
  funext i
  pointwise [k0_pay26]
  simp only [← EReal.coe_mul, coe_sum]
  rfl

theorem p16 (w : Fin 256 → Fin 1408 → ℝ) : k0_pay16 (F := Ideal) (blk2 w) = blk2 w := by
  funext i
  pointwise [k0_pay16]

theorem p17 (w : Fin 256 → Fin 1408 → ℝ) : k0_pay17 (F := Ideal) (blk2 w) = blk2 w := by
  funext i
  pointwise [k0_pay17]

theorem p27 (w : Fin 256 → Fin 1408 → ℝ) : k0_pay27 (F := Ideal) (blk2 w) = blk2 w := by
  funext i
  pointwise [k0_pay27]

theorem p28 (w : Fin 256 → Fin 1408 → ℝ) : k0_pay28 (F := Ideal) (blk2 w) = blk2 w := by
  funext i
  pointwise [k0_pay28]

/-- The logistic function of the gate half. -/
theorem p18 (g : Fin 256 → Fin 1408 → ℝ) : k0_pay18 (F := Ideal) (blk2 g) = blk2 fun r j => sgm (g r j) := by
  funext i
  pointwise [k0_pay18]
  rw [p16]
  exact sgm_word _

theorem p29 (g : Fin 256 → Fin 1408 → ℝ) : k0_pay29 (F := Ideal) (blk2 g) = blk2 fun r j => sgm (g r j) := by
  funext i
  pointwise [k0_pay29]
  rw [p27]
  exact sgm_word _

theorem p19 (g : Fin 256 → Fin 1408 → ℝ) : k0_pay19 (F := Ideal) (blk2 g) = blk2 fun r j => g r j * sgm (g r j) := by
  funext i
  pointwise [k0_pay19]
  rw [p16, p18, ← EReal.coe_mul]

theorem p30 (g : Fin 256 → Fin 1408 → ℝ) : k0_pay30 (F := Ideal) (blk2 g) = blk2 fun r j => g r j * sgm (g r j) := by
  funext i
  pointwise [k0_pay30]
  rw [p27, p29, ← EReal.coe_mul]

/-- The hidden activation, over one half of its columns. -/
theorem p20 (g u : Fin 256 → Fin 1408 → ℝ) :
    k0_pay20 (F := Ideal) (blk2 g) (blk2 u) = blk2 fun r j => g r j * sgm (g r j) * u r j := by
  funext i
  pointwise [k0_pay20]
  rw [p19, p17, ← EReal.coe_mul]

theorem p31 (g u : Fin 256 → Fin 1408 → ℝ) :
    k0_pay31 (F := Ideal) (blk2 g) (blk2 u) = blk2 fun r j => g r j * sgm (g r j) * u r j := by
  funext i
  pointwise [k0_pay31]
  rw [p30, p28, ← EReal.coe_mul]

/-- The cotangent of the value half, over one half of its columns. -/
theorem p21 (v : Fin 256 → Fin 1024 → ℝ) (w : Fin 1408 → Fin 1024 → ℝ) (g : Fin 256 → Fin 1408 → ℝ) :
    k0_pay21 (F := Ideal) (blk2 v) (blk2 w) (blk2 g)
      = blk2 fun r j => (∑ d, v r d * w j d) * (g r j * sgm (g r j)) := by
  funext i
  pointwise [k0_pay21]
  rw [p15, p19, ← EReal.coe_mul]

theorem p32 (v : Fin 256 → Fin 1024 → ℝ) (w : Fin 1408 → Fin 1024 → ℝ) (g : Fin 256 → Fin 1408 → ℝ) :
    k0_pay32 (F := Ideal) (blk2 v) (blk2 w) (blk2 g)
      = blk2 fun r j => (∑ d, v r d * w j d) * (g r j * sgm (g r j)) := by
  funext i
  pointwise [k0_pay32]
  rw [p26, p30, ← EReal.coe_mul]

/-- The cotangent of the gate half, over one half of its columns. -/
theorem p22 (v : Fin 256 → Fin 1024 → ℝ) (w : Fin 1408 → Fin 1024 → ℝ) (g u : Fin 256 → Fin 1408 → ℝ) :
    k0_pay22 (F := Ideal) (blk2 v) (blk2 w) (blk2 g) (blk2 u)
      = blk2 fun r j => (∑ d, v r d * w j d) * u r j * (sgm (g r j) * (1 + g r j * (1 - sgm (g r j)))) := by
  funext i
  pointwise [k0_pay22]
  rw [p15, p17, p18, p16, ← EReal.coe_one, ← EReal.coe_sub, ← EReal.coe_mul, ← EReal.coe_mul, ← EReal.coe_add,
    ← EReal.coe_mul, ← EReal.coe_mul]

theorem p33 (v : Fin 256 → Fin 1024 → ℝ) (w : Fin 1408 → Fin 1024 → ℝ) (g u : Fin 256 → Fin 1408 → ℝ) :
    k0_pay33 (F := Ideal) (blk2 v) (blk2 w) (blk2 g) (blk2 u)
      = blk2 fun r j => (∑ d, v r d * w j d) * u r j * (sgm (g r j) * (1 + g r j * (1 - sgm (g r j)))) := by
  funext i
  pointwise [k0_pay33]
  rw [p26, p28, p29, p27, ← EReal.coe_one, ← EReal.coe_sub, ← EReal.coe_mul, ← EReal.coe_mul, ← EReal.coe_add,
    ← EReal.coe_mul, ← EReal.coe_mul]

/-- A block under one unit axis. -/
theorem p34 (v : Fin 256 → Fin 1408 → ℝ) : k0_pay34 (F := Ideal) (blk2 v) = blk3 fun (_ : Fin 1) r j => v r j := by
  funext i
  pointwise [k0_pay34]
  rfl

theorem p35 (v : Fin 256 → Fin 1408 → ℝ) : k0_pay35 (F := Ideal) (blk2 v) = blk3 fun (_ : Fin 1) r j => v r j := by
  funext i
  pointwise [k0_pay35]
  rfl

theorem p23 (v : Fin 256 → Fin 1024 → ℝ) (w : Fin 1408 → Fin 1024 → ℝ) (g u : Fin 256 → Fin 1408 → ℝ) :
    k0_pay23 (F := Ideal) (blk2 v) (blk2 w) (blk2 g) (blk2 u) = blk3 fun (_ : Fin 1) r j =>
      (∑ d, v r d * w j d) * u r j * (sgm (g r j) * (1 + g r j * (1 - sgm (g r j)))) := by
  funext i
  pointwise [k0_pay23]
  rw [p22]
  rfl

theorem p24 (v : Fin 256 → Fin 1024 → ℝ) (w : Fin 1408 → Fin 1024 → ℝ) (g : Fin 256 → Fin 1408 → ℝ) :
    k0_pay24 (F := Ideal) (blk2 v) (blk2 w) (blk2 g) = blk3 fun (_ : Fin 1) r j =>
      (∑ d, v r d * w j d) * (g r j * sgm (g r j)) := by
  funext i
  pointwise [k0_pay24]
  rw [p21]
  rfl

/-- Both cotangents of one half of the columns, taken back through the projection up. -/
theorem p25 (du dg : Fin 256 → Fin 1408 → ℝ) (wa wb : Fin 1024 → Fin 1408 → ℝ) :
    k0_pay25 (F := Ideal) (blk2 du) (blk2 dg) (blk3 fun (_ : Fin 1) => wa) (blk3 fun (_ : Fin 1) => wb)
      = blk2 fun r d => ∑ j, dg r j * wa d j + ∑ j, du r j * wb d j := by
  funext i
  pointwise [k0_pay25]
  simp only [← EReal.coe_mul, coe_sum, ← EReal.coe_add]
  rfl

theorem p36 (h : Fin 256 → Fin 1024 → ℝ) (du dg : Fin 256 → Fin 1408 → ℝ) (wa wb : Fin 1024 → Fin 1408 → ℝ) :
    k0_pay36 (F := Ideal) (blk2 h) (blk2 du) (blk2 dg) (blk3 fun (_ : Fin 1) => wa) (blk3 fun (_ : Fin 1) => wb)
      = blk2 fun r d => h r d + (∑ j, dg r j * wa d j + ∑ j, du r j * wb d j) := by
  funext i
  pointwise [k0_pay36]
  simp only [← EReal.coe_mul, coe_sum, ← EReal.coe_add]
  rfl

theorem p37 (v : Fin 1024 → ℝ) : k0_pay37 (F := Ideal) (row3 v) = row2 v := by
  funext i
  pointwise [k0_pay37]
  rfl

theorem p38 (v : Fin 1024 → ℝ) : k0_pay38 (F := Ideal) (row3 v) = row2 v := by
  funext i
  pointwise [k0_pay38]
  rfl

variable (h : Fin 256 → Fin 1024 → ℝ) (du dg : Fin 256 → Fin 1408 → ℝ) (wa wb : Fin 1024 → Fin 1408 → ℝ)

/-- The shift's row: what was there, plus the block's column sums. -/
theorem p39 (o : Fin 1024 → ℝ) :
    k0_pay39 (F := Ideal) (blk2 h) (blk2 du) (blk2 dg) (blk3 fun (_ : Fin 1) => wa) (blk3 fun (_ : Fin 1) => wb) (row3 o)
      = row3 fun d => o d + ∑ r, (h r d + (∑ j, dg r j * wa d j + ∑ j, du r j * wb d j)) := by
  funext i
  pointwise [k0_pay39]
  simp only [p36, coe_sum, ← EReal.coe_add]
  rfl

/-- The column sums against the normalised rows. -/
theorem p40 (xn : Fin 256 → Fin 1024 → ℝ) :
    k0_pay40 (F := Ideal) (blk2 xn) (blk2 h) (blk2 du) (blk2 dg) (blk3 fun (_ : Fin 1) => wa) (blk3 fun (_ : Fin 1) => wb)
      = row2 fun d => ∑ r, (h r d + (∑ j, dg r j * wa d j + ∑ j, du r j * wb d j)) * xn r d := by
  funext i
  pointwise [k0_pay40]
  simp only [p36, coe_sum, ← EReal.coe_mul]
  rfl

end Chunk

/-- The scale's row: what was there, plus the column sums times the gain of the norm. -/
theorem p1 (g t o : Fin 1024 → ℝ) :
    k0_pay1 (F := Ideal) (row2 g) (row2 t) (row3 o) = row3 fun d => o d + t d * g d := by
  funext i
  pointwise [k0_pay1]
  rw [← EReal.coe_mul, ← EReal.coe_add]
  rfl

/-- The gain's row: what was there, plus the column sums times the scale. -/
theorem p2 (s t o : Fin 1024 → ℝ) :
    k0_pay2 (F := Ideal) (row2 s) (row2 t) (row2 o) = row2 fun d => o d + t d * s d := by
  funext i
  pointwise [k0_pay2]
  rw [← EReal.coe_mul, ← EReal.coe_add]

/-- The gradient of the rows: through the residual and through the norm. -/
theorem p3 (dy xn dh : Fin 256 → Fin 1024 → ℝ) (rs : Fin 256 → ℝ) (g s : Fin 1024 → ℝ) :
    k0_pay3 (F := Ideal) (blk2 dy) (blk2 fun r (_ : Fin 1) => rs r) (blk2 xn) (blk2 dh) (row2 g) (row2 s)
      = blk2 fun r d => dy r d + rs r * (dh r d * (g d * s d)
          - xn r d * ((∑ e, dh r e * (g e * s e) * xn r e) / 1024)) := by
  funext i
  pointwise [k0_pay3]
  simp only [w_width, coe_sum, ← EReal.coe_mul, div_real _ (show (1024 : ℝ) ≠ 0 by norm_num), ← EReal.coe_sub,
    ← EReal.coe_add]
  rfl

/-- The zero blocks. -/
theorem p4 : k0_pay4 (F := Ideal) = blk2 fun _ _ => 0 := by
  funext i
  pointwise [k0_pay4]
  exact EReal.coe_zero.symm

theorem p5 : k0_pay5 (F := Ideal) = blk3 fun (_ : Fin 1) _ _ => 0 := by
  funext i
  pointwise [k0_pay5]
  exact EReal.coe_zero.symm

end Cert.Ffn.Ker

end
-- ==== Proof.KerParts.lean ====
/-
  What one grid point of the kernel leaves in its output blocks, as real numbers: on blocks of real inputs, the seven
  blocks of outputs, in each of the three cases of the body (both accumulators fresh, the per-batch one fresh, none).
-/
module

public import proofs.«01_k».proof.Proof.Gen.KernelIdeal.Value
public import proofs.«01_k».proof.Proof.KerBlock
public import Idealize.ShloMosaic.Lib.WritesUnit
public import Idealize.ShloMosaic.Lib.Pipeline.ReadBack

@[expose] public section

set_option maxRecDepth 16384

noncomputable section

namespace Cert.Ffn.Ker

open Idealize.ShloMosaic Cert.KernelIdeal Cert.KernelIdeal.Gen
open Finset

/-! ## Reading and writing parts of blocks of real numbers -/

theorem hz2 : (![0, 0] : Fin 2 → Nat) = fun _ => 0 := by funext a; fin_cases a <;> rfl

/-- Some columns of a matrix. -/
theorem ld_cols {n k c s : Nat} (v : Fin n → Fin k → ℝ)
    (inb : ∀ a, (![0, c] : Fin 2 → Nat) a + (![n, s] : Fin 2 → Nat) a ≤ (⟨2, ![n, k]⟩ : Shape).size a) :
    View.ld (Val := Elt Ideal) (e' := EltTy.bf16) (blk2 v) (Rect.unit (s := ⟨2, ![n, k]⟩) ![0, c] ![n, s] inb)
      = blk2 fun (r : Fin n) (j : Fin s) => v r ⟨c + j.val, lt_of_lt_of_le (Nat.add_lt_add_left j.isLt c) (inb 1)⟩ := by
  funext x
  refine congrArg Real.toEReal (congrArg₂ v (Fin.ext ?_) (Fin.ext ?_))
  · exact (congrArg (0 + ·) (Nat.one_mul _)).trans (Nat.zero_add _)
  · exact congrArg (c + ·) (Nat.one_mul _)

/-- Some rows of a matrix. -/
theorem ld_rows {n k c s : Nat} (v : Fin n → Fin k → ℝ)
    (inb : ∀ a, (![c, 0] : Fin 2 → Nat) a + (![s, k] : Fin 2 → Nat) a ≤ (⟨2, ![n, k]⟩ : Shape).size a) :
    View.ld (Val := Elt Ideal) (e' := EltTy.bf16) (blk2 v) (Rect.unit (s := ⟨2, ![n, k]⟩) ![c, 0] ![s, k] inb)
      = blk2 fun (j : Fin s) (r : Fin k) => v ⟨c + j.val, lt_of_lt_of_le (Nat.add_lt_add_left j.isLt c) (inb 0)⟩ r := by
  funext x
  refine congrArg Real.toEReal (congrArg₂ v (Fin.ext ?_) (Fin.ext ?_))
  · exact congrArg (c + ·) (Nat.one_mul _)
  · exact (congrArg (0 + ·) (Nat.one_mul _)).trans (Nat.zero_add _)

/-- One matrix of a stack. -/
theorem ld_slice {n k p c : Nat} (v : Fin n → Fin k → Fin p → ℝ)
    (inb : ∀ a, (![c, 0, 0] : Fin 3 → Nat) a + (![1, k, p] : Fin 3 → Nat) a ≤ (⟨3, ![n, k, p]⟩ : Shape).size a) :
    View.ld (Val := Elt Ideal) (e' := EltTy.bf16) (blk3 v) (Rect.unit (s := ⟨3, ![n, k, p]⟩) ![c, 0, 0] ![1, k, p] inb)
      = blk3 fun (_ : Fin 1) => v ⟨c, inb 0⟩ := by
  funext x
  have h0 : (x 0 : Nat) = 0 := Nat.lt_one_iff.mp (x 0).isLt
  refine congrArg Real.toEReal ?_
  refine congr (congrArg₂ v (Fin.ext ?_) (Fin.ext ?_)) (Fin.ext ?_)
  · show c + 1 * (x 0 : Nat) = c
    rw [h0, Nat.mul_zero, Nat.add_zero]
  · exact (congrArg (0 + ·) (Nat.one_mul _)).trans (Nat.zero_add _)
  · exact (congrArg (0 + ·) (Nat.one_mul _)).trans (Nat.zero_add _)

/-- One row of the single matrix of a stack. -/
theorem ld_row3 {k p c : Nat} (v : Fin 1 → Fin k → Fin p → ℝ)
    (inb : ∀ a, (![0, c, 0] : Fin 3 → Nat) a + (![1, 1, p] : Fin 3 → Nat) a ≤ (⟨3, ![1, k, p]⟩ : Shape).size a) :
    View.ld (Val := Elt Ideal) (e' := EltTy.f32) (blk3 v) (Rect.unit (s := ⟨3, ![1, k, p]⟩) ![0, c, 0] ![1, 1, p] inb)
      = row3 fun d => v 0 ⟨c, inb 1⟩ d := by
  funext x
  have h1 : (x 1 : Nat) = 0 := Nat.lt_one_iff.mp (x 1).isLt
  refine congrArg Real.toEReal ?_
  refine congr (congrArg₂ v (Subsingleton.elim _ _) (Fin.ext ?_)) (Fin.ext ?_)
  · show c + 1 * (x 1 : Nat) = c
    rw [h1, Nat.mul_zero, Nat.add_zero]
  · exact (congrArg (0 + ·) (Nat.one_mul _)).trans (Nat.zero_add _)

/-- The first row of a matrix. -/
theorem ld_row2 {k p : Nat} (v : Fin k → Fin p → ℝ)
    (inb : ∀ a, (![0, 0] : Fin 2 → Nat) a + (![1, p] : Fin 2 → Nat) a ≤ (⟨2, ![k, p]⟩ : Shape).size a) :
    View.ld (Val := Elt Ideal) (e' := EltTy.f32) (blk2 v) (Rect.unit (s := ⟨2, ![k, p]⟩) ![0, 0] ![1, p] inb)
      = row2 fun d => v ⟨0, inb 0⟩ d := by
  funext x
  have h1 : (x 0 : Nat) = 0 := Nat.lt_one_iff.mp (x 0).isLt
  refine congrArg Real.toEReal (congrArg₂ v (Fin.ext ?_) (Fin.ext ?_))
  · show 0 + 1 * (x 0 : Nat) = 0
    rw [h1]
  · exact (congrArg (0 + ·) (Nat.one_mul _)).trans (Nat.zero_add _)

section Writes

variable {sig' : RefSig} {κ : Kind} {sp : Space}

/-- A row stored into the single matrix of a stack. -/
theorem write_row3 {k p c : Nat} (v : View sig' κ sp (⟨3, ![1, k, p]⟩ : Shape) .f32) (f : v.ty.Contents (Elt Ideal))
    (inb : ∀ a, (![0, c, 0] : Fin 3 → Nat) a + (![1, 1, p] : Fin 3 → Nat) a ≤ (⟨3, ![1, k, p]⟩ : Shape).size a)
    (w : Fin p → ℝ) (L : List (View.Piece (Elt Ideal) (⟨3, ![1, k, p]⟩ : Shape) .f32)) (o : Fin 1 → Fin k → Fin p → ℝ)
    (ho : v.read (Elt Ideal) (v.writes (Elt Ideal) f L) = blk3 o) :
    v.read (Elt Ideal) (v.writes (Elt Ideal) f (⟨Rect.unit (s := ⟨3, ![1, k, p]⟩) ![0, c, 0] ![1, 1, p] inb, row3 w⟩ :: L))
      = blk3 fun b r d => if r.val = c then w d else o b r d := by
  funext y
  by_cases h : (y 1 : Fin k).val = c
  · refine (View.read_writes_cons_unit_of_mem v f inb (row3 w) L y (ix3 (n0 := 1) (n1 := 1) (n2 := p) 0 0 (y 2)) rfl fun a => ?_).trans ?_
    · match a with
      | 0 => exact Nat.lt_one_iff.mp (y 0).isLt
      | 1 => show (y 1 : Fin k).val = c + 0; omega
      | 2 => show (y 2 : Fin p).val = 0 + (y 2 : Fin p).val; omega
    · show ((w (y 2) : ℝ) : EReal) = ((if (y 1 : Fin k).val = c then w (y 2) else o (y 0) (y 1) (y 2) : ℝ) : EReal)
      rw [if_pos h]
  · refine (View.read_writes_cons_unit_of_not_mem v f inb (row3 w) L y rfl 1 ?_).trans ?_
    · show (y 1 : Fin k).val < c ∨ c + 1 ≤ (y 1 : Fin k).val
      omega
    · rw [ho]
      show ((o (y 0) (y 1) (y 2) : ℝ) : EReal) = ((if (y 1 : Fin k).val = c then w (y 2) else o (y 0) (y 1) (y 2) : ℝ) : EReal)
      rw [if_neg h]

/-- The first row of a matrix stored. -/
theorem write_row2 {k p : Nat} (v : View sig' κ sp (⟨2, ![k, p]⟩ : Shape) .f32) (f : v.ty.Contents (Elt Ideal))
    (inb : ∀ a, (![0, 0] : Fin 2 → Nat) a + (![1, p] : Fin 2 → Nat) a ≤ (⟨2, ![k, p]⟩ : Shape).size a)
    (w : Fin p → ℝ) (L : List (View.Piece (Elt Ideal) (⟨2, ![k, p]⟩ : Shape) .f32)) (o : Fin k → Fin p → ℝ)
    (ho : v.read (Elt Ideal) (v.writes (Elt Ideal) f L) = blk2 o) :
    v.read (Elt Ideal) (v.writes (Elt Ideal) f (⟨Rect.unit (s := ⟨2, ![k, p]⟩) ![0, 0] ![1, p] inb, row2 w⟩ :: L))
      = blk2 fun r d => if r.val = 0 then w d else o r d := by
  funext y
  by_cases h : (y 0 : Fin k).val = 0
  · refine (View.read_writes_cons_unit_of_mem v f inb (row2 w) L y (ix2 (n0 := 1) (n1 := p) 0 (y 1)) rfl fun a => ?_).trans ?_
    · match a with
      | 0 => show (y 0 : Fin k).val = 0 + 0; omega
      | 1 => show (y 1 : Fin p).val = 0 + (y 1 : Fin p).val; omega
    · show ((w (y 1) : ℝ) : EReal) = ((if (y 0 : Fin k).val = 0 then w (y 1) else o (y 0) (y 1) : ℝ) : EReal)
      rw [if_pos h]
  · refine (View.read_writes_cons_unit_of_not_mem v f inb (row2 w) L y rfl 0 ?_).trans ?_
    · show (y 0 : Fin k).val < 0 ∨ 0 + 1 ≤ (y 0 : Fin k).val
      omega
    · rw [ho]
      show ((o (y 0) (y 1) : ℝ) : EReal) = ((if (y 0 : Fin k).val = 0 then w (y 1) else o (y 0) (y 1) : ℝ) : EReal)
      rw [if_neg h]

/-- Two halves of the columns of a matrix stored, the right one last. -/
theorem write_cols {n s : Nat} (v : View sig' κ sp (⟨2, ![n, 2 * s]⟩ : Shape) .bf16) (f : v.ty.Contents (Elt Ideal))
    (inb : ∀ a, (![0, s] : Fin 2 → Nat) a + (![n, s] : Fin 2 → Nat) a ≤ (⟨2, ![n, 2 * s]⟩ : Shape).size a)
    (inb' : ∀ a, (![0, 0] : Fin 2 → Nat) a + (![n, s] : Fin 2 → Nat) a ≤ (⟨2, ![n, 2 * s]⟩ : Shape).size a)
    (w : Fin n → Fin (2 * s) → ℝ) :
    v.read (Elt Ideal) (v.writes (Elt Ideal) f
      [⟨Rect.unit (s := ⟨2, ![n, 2 * s]⟩) ![0, s] ![n, s] inb, blk2 fun (r : Fin n) (j : Fin s) => w r ⟨s + j.val, by omega⟩⟩,
        ⟨Rect.unit (s := ⟨2, ![n, 2 * s]⟩) ![0, 0] ![n, s] inb', blk2 fun (r : Fin n) (j : Fin s) => w r ⟨0 + j.val, by omega⟩⟩])
      = blk2 w := by
  funext y
  have hy : (y 1 : Fin (2 * s)).val < 2 * s := (y 1).isLt
  by_cases h : s ≤ (y 1 : Fin (2 * s)).val
  · refine (View.read_writes_cons_unit_of_mem v f inb _ _ y
      (ix2 (n0 := n) (n1 := s) (y 0) ⟨(y 1 : Fin (2 * s)).val - s, by omega⟩) rfl fun a => ?_).trans ?_
    · match a with
      | 0 => show (y 0 : Fin n).val = 0 + (y 0 : Fin n).val; omega
      | 1 => show (y 1 : Fin (2 * s)).val = s + ((y 1 : Fin (2 * s)).val - s); omega
    · refine congrArg Real.toEReal (congrArg (w (y 0)) (Fin.ext ?_))
      show s + ((y 1 : Fin (2 * s)).val - s) = (y 1 : Fin (2 * s)).val
      omega
  · refine (View.read_writes_cons_unit_of_not_mem v f inb _ _ y rfl 1 ?_).trans ?_
    · left
      exact Nat.lt_of_not_le h
    refine (View.read_writes_cons_unit_of_mem v f inb' _ _ y
      (ix2 (n0 := n) (n1 := s) (y 0) ⟨(y 1 : Fin (2 * s)).val, Nat.lt_of_not_le h⟩) rfl fun a => ?_).trans ?_
    · match a with
      | 0 => show (y 0 : Fin n).val = 0 + (y 0 : Fin n).val; omega
      | 1 => show (y 1 : Fin (2 * s)).val = 0 + (y 1 : Fin (2 * s)).val; omega
    · refine congrArg Real.toEReal (congrArg (w (y 0)) (Fin.ext ?_))
      show 0 + (y 1 : Fin (2 * s)).val = (y 1 : Fin (2 * s)).val
      omega

/-- One tile of a pair of matrices stored, where the stores before it left the rest. -/
theorem write_tile {n k s c p : Nat} (v : View sig' κ sp (⟨3, ![2, n, k]⟩ : Shape) .bf16) (f : v.ty.Contents (Elt Ideal))
    (inb : ∀ a, (![p, 0, c] : Fin 3 → Nat) a + (![1, n, s] : Fin 3 → Nat) a ≤ (⟨3, ![2, n, k]⟩ : Shape).size a)
    (w : Fin 1 → Fin n → Fin s → ℝ) (L : List (View.Piece (Elt Ideal) (⟨3, ![2, n, k]⟩ : Shape) .bf16))
    (y : (⟨3, ![2, n, k]⟩ : Shape).Idx) (z : ℝ)
    (hw : ∀ h : c ≤ (y 2 : Fin k).val ∧ (y 2 : Fin k).val < c + s, (y 0 : Fin 2).val = p →
      w 0 (y 1) ⟨(y 2 : Fin k).val - c, by omega⟩ = z)
    (hL : ¬ (((y 0 : Fin 2).val = p) ∧ c ≤ (y 2 : Fin k).val ∧ (y 2 : Fin k).val < c + s) →
      v.read (Elt Ideal) (v.writes (Elt Ideal) f L) y = (z : EReal)) :
    v.read (Elt Ideal) (v.writes (Elt Ideal) f (⟨Rect.unit (s := ⟨3, ![2, n, k]⟩) ![p, 0, c] ![1, n, s] inb, blk3 w⟩ :: L)) y
      = (z : EReal) := by
  by_cases h0 : (y 0 : Fin 2).val = p
  · by_cases h2 : c ≤ (y 2 : Fin k).val ∧ (y 2 : Fin k).val < c + s
    · refine (View.read_writes_cons_unit_of_mem v f inb (blk3 w) L y
        (ix3 (n0 := 1) (n1 := n) (n2 := s) 0 (y 1) ⟨(y 2 : Fin k).val - c, by omega⟩) rfl fun a => ?_).trans ?_
      · match a with
        | 0 => show (y 0 : Fin 2).val = p + 0; omega
        | 1 => show (y 1 : Fin n).val = 0 + (y 1 : Fin n).val; omega
        | 2 => show (y 2 : Fin k).val = c + ((y 2 : Fin k).val - c); omega
      · exact congrArg Real.toEReal (hw h2 h0)
    · refine (View.read_writes_cons_unit_of_not_mem v f inb (blk3 w) L y rfl 2 ?_).trans (hL fun h => h2 h.2)
      show (y 2 : Fin k).val < c ∨ c + s ≤ (y 2 : Fin k).val
      omega
  · refine (View.read_writes_cons_unit_of_not_mem v f inb (blk3 w) L y rfl 0 ?_).trans (hL fun h => h0 h.1)
    show (y 0 : Fin 2).val < p ∨ p + 1 ≤ (y 0 : Fin 2).val
    omega

end Writes

/-! ## The point -/

/-- The rows the modulation block holds. -/
def mod (A : Args) (b : Fin 2) (k : Fin 8) (d : Fin 1024) : ℝ :=
  if k.val = 0 then A.sh b d else if k.val = 1 then 1 + A.sc b d else if k.val = 2 then 1 + A.ga b d
  else if k.val = 3 then A.gn d else 0

/-- What one block of rows adds to the per-batch sums. -/
def inc (A : Args) (b : Fin 2) (tk : Fin 256 → Fin 4096) (k : Fin 8) (d : Fin 1024) : ℝ :=
  if k.val = 1 then (∑ r, A.dh b (tk r) d * A.xn b (tk r) d) * A.gn d
  else if k.val = 0 then ∑ r, A.dh b (tk r) d
  else if k.val = 2 then ∑ r, (1 / 2) * A.f b (tk r) d * A.dy b (tk r) d else 0

/-- What one block of rows adds to the sums over all rows. -/
def incw (A : Args) (b : Fin 2) (tk : Fin 256 → Fin 4096) (k : Fin 8) (d : Fin 1024) : ℝ :=
  if k.val = 0 then (∑ r, A.dh b (tk r) d * A.xn b (tk r) d) * (1 + A.sc b d) else 0

/-- A sum over the hidden columns, half by half. -/
theorem sum_halves (F : Fin 2816 → ℝ) :
    ∑ j, F j = ∑ j : Fin 1408, F ⟨0 + j.val, by omega⟩ + ∑ j : Fin 1408, F ⟨1408 + j.val, by omega⟩ := by
  rw [Fin.sum_univ_add (a := 1408) (b := 1408)]
  refine congrArg₂ _ (sum_congr rfl fun j _ => congrArg F (Fin.ext ?_)) (sum_congr rfl fun j _ => congrArg F (Fin.ext ?_))
  · exact (Nat.zero_add _).symm
  · rfl

/-- Tile `k` of the projection up: matrices 0 and 1 the gate half, 2 and 3 the value half. -/
abbrev wuT (A : Args) (k : Fin 4) (d : Fin 1024) (j : Fin 1408) : ℝ := A.wu d ⟨1408 * k.val + j.val, by omega⟩

/-- The cotangent of the modulated rows, in the kernel's order: half by half, the gate's part before the value's. -/
theorem dh_halves (A : Args) (b : Fin 2) (s : Fin 4096) (d : Fin 1024) :
    (∑ j : Fin 1408, A.dg b s ⟨0 + j.val, by omega⟩ * wuT A 0 d j
        + ∑ j : Fin 1408, A.du b s ⟨0 + j.val, by omega⟩ * wuT A 2 d j)
      + (∑ j : Fin 1408, A.dg b s ⟨1408 + j.val, by omega⟩ * wuT A 1 d j
        + ∑ j : Fin 1408, A.du b s ⟨1408 + j.val, by omega⟩ * wuT A 3 d j) = A.dh b s d := by
  unfold Args.dh
  rw [sum_halves, sum_halves]
  have e0 : ∀ j : Fin 1408, wuT A 0 d j = A.wu d (Args.lo ⟨0 + j.val, by omega⟩) := fun j => congrArg (A.wu d) (Fin.ext (by show 1408 * 0 + j.val = 0 + j.val; omega))
  have e1 : ∀ j : Fin 1408, wuT A 1 d j = A.wu d (Args.lo ⟨1408 + j.val, by omega⟩) := fun j => congrArg (A.wu d) (Fin.ext (by show 1408 * 1 + j.val = 1408 + j.val; omega))
  have e2 : ∀ j : Fin 1408, wuT A 2 d j = A.wu d (Args.hi ⟨0 + j.val, by omega⟩) := fun j => congrArg (A.wu d) (Fin.ext (by show 1408 * 2 + j.val = 2816 + (0 + j.val); omega))
  have e3 : ∀ j : Fin 1408, wuT A 3 d j = A.wu d (Args.hi ⟨1408 + j.val, by omega⟩) := fun j => congrArg (A.wu d) (Fin.ext (by show 1408 * 3 + j.val = 2816 + (1408 + j.val); omega))
  simp only [e0, e1, e2, e3]
  ring

end Cert.Ffn.Ker

end
-- ==== Proof.KerHost.lean ====
/-
  The arrays the kernel's call is given, when the program's arguments hold real numbers: the host code before the call
  computes the forward pass of the half-step, stacks the modulation rows and cuts the weight of the projection up.
-/
module

public import proofs.«01_k».proof.Proof.RefFwd
public import proofs.«01_k».proof.Proof.KerParts
public import Idealize.ShloMosaic.Lib.StableHlo.ReadAt

@[expose] public section

set_option maxRecDepth 16384

noncomputable section

namespace Cert.Ffn.Ker

open Idealize.ShloMosaic Cert.KernelIdeal Cert.KernelIdeal.Gen

/-- The program's arguments hold the real numbers `A`. -/
structure Holds (m : (ℓ : Loc nD τ sig) → Buf (Elt Ideal) ℓ) (c : Dev nD) (A : Args) : Prop where
  x : m ((c.tc : Thread nD τ).loc main_arg0) = lift3 A.x
  sh : m ((c.tc : Thread nD τ).loc main_arg1) = lift2 A.sh
  sc : m ((c.tc : Thread nD τ).loc main_arg2) = lift2 A.sc
  ga : m ((c.tc : Thread nD τ).loc main_arg3) = lift2 A.ga
  gn : m ((c.tc : Thread nD τ).loc main_arg4) = lift1 A.gn
  wu : m ((c.tc : Thread nD τ).loc main_arg5) = lift2 A.wu
  wd : m ((c.tc : Thread nD τ).loc main_arg6) = lift2 A.wd
  dy : m ((c.tc : Thread nD τ).loc main_arg7) = lift3 A.dy

section

variable (m : (ℓ : Loc nD τ sig) → Buf (Elt Ideal) ℓ) (c : Dev nD)

/-- The gate half and the value half of the projection up are the reference's. -/
theorem host_g : V m c main_v23 = Cert.ReferenceIdeal.Read.val_main_v26 (F := Ideal)
    (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) := by
  unfold V
  simp only [List.flatten_cons, List.flatten_nil, List.append_nil, List.cons_append, List.nil_append]
  after_reads_simp
  rfl

theorem host_u : V m c main_v24 = Cert.ReferenceIdeal.Read.val_main_v27 (F := Ideal)
    (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) := by
  unfold V
  simp only [List.flatten_cons, List.flatten_nil, List.append_nil, List.cons_append, List.nil_append]
  after_reads_simp
  rfl

/-- So is the projection down. -/
theorem host_f : V m c main_v29 = Cert.ReferenceIdeal.Read.val_main_v30 (F := Ideal)
    (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6)) := by
  unfold V
  simp only [List.flatten_cons, List.flatten_nil, List.append_nil, List.cons_append, List.nil_append]
  after_reads_simp
  rfl

/-- Flattened, token by token, and rounded. -/
def flat_h (v : Vec Ideal S2x4096x2816 .f32) : Vec Ideal S8192x2816 .bf16 :=
  truncf (F := Ideal) .bf16 (shapeCast S8192x2816 v shapeCasts_S2x4096x2816_S8192x2816) bitsLt_bf16_f32

theorem flat_h_at (v : Vec Ideal S2x4096x2816 .f32) (i : S8192x2816.Idx) :
    flat_h v i = v (ix3 (n0 := 2) (n1 := 4096) (n2 := 2816) (Args.bt (i 0)) (Args.ps (i 0)) (i 1)) := by
  pointwise [flat_h]

/-- Flattened, token by token, and rounded. -/
def flat_d (v : Vec Ideal S2x4096x1024 .f32) : Vec Ideal S8192x1024 .bf16 :=
  truncf (F := Ideal) .bf16 (shapeCast S8192x1024 v shapeCasts_S2x4096x1024_S8192x1024) bitsLt_bf16_f32

theorem flat_d_at (v : Vec Ideal S2x4096x1024 .f32) (i : S8192x1024.Idx) :
    flat_d v i = v (ix3 (n0 := 2) (n1 := 4096) (n2 := 1024) (Args.bt (i 0)) (Args.ps (i 0)) (i 1)) := by
  pointwise [flat_d]

theorem host_v54 : V m c main_v54
    = flat_h (V m c main_v23) := by
  unfold V
  simp only [List.flatten_cons, List.flatten_nil, List.append_nil, List.cons_append, List.nil_append]
  after_reads_simp
  rfl

theorem host_v56 : V m c main_v56
    = flat_h (V m c main_v24) := by
  unfold V
  simp only [List.flatten_cons, List.flatten_nil, List.append_nil, List.cons_append, List.nil_append]
  after_reads_simp
  rfl

theorem host_v52 : V m c main_v52
    = flat_d (V m c main_v29) := by
  unfold V
  simp only [List.flatten_cons, List.flatten_nil, List.append_nil, List.cons_append, List.nil_append]
  after_reads_simp
  rfl

end

variable (A : Args) {m : (ℓ : Loc nD τ sig) → Buf (Elt Ideal) ℓ} {c : Dev nD} (hm : Holds m c A)
include hm

/-- The weight of the projection up, cut in four. -/
theorem V_v47 : V m c main_v47 = blk3 (wuT A) := by
  funext i
  unfold V
  simp only [List.flatten_cons, List.flatten_nil, List.append_nil, List.cons_append, List.nil_append]
  after_reads_at
  refine (congrFun hm.wu _).trans (congrArg Real.toEReal (congrArg₂ A.wu rfl (Fin.ext ?_)))
  show (i 0).val * 1408 + (i 2).val = 1408 * (i 0).val + (i 2).val
  omega

theorem V_v48 : V m c main_v48 = blk2 A.wd := by
  funext i
  unfold V
  simp only [List.flatten_cons, List.flatten_nil, List.append_nil, List.cons_append, List.nil_append]
  after_reads_at
  exact congrFun hm.wd _

theorem V_v49 (i : S8192x1024.Idx) : V m c main_v49 i = ((A.x (Args.bt (i 0)) (Args.ps (i 0)) (i 1) : ℝ) : EReal) := by
  unfold V
  simp only [List.flatten_cons, List.flatten_nil, List.append_nil, List.cons_append, List.nil_append]
  after_reads_at
  exact congrFun hm.x _

theorem V_v50 (i : S8192x1024.Idx) : V m c main_v50 i = ((A.dy (Args.bt (i 0)) (Args.ps (i 0)) (i 1) : ℝ) : EReal) := by
  unfold V
  simp only [List.flatten_cons, List.flatten_nil, List.append_nil, List.cons_append, List.nil_append]
  after_reads_at
  exact congrFun hm.dy _

theorem V_v44 : V m c main_v44 = blk3 (mod A) := by
  funext i
  unfold V
  simp only [List.flatten_cons, List.flatten_nil, List.append_nil, List.cons_append, List.nil_append]
  after_reads_simp
  simp only [Matrix.cons_val]
  after_reads_simp
  pointwise
  show _ = ((mod A (i 0) (i 1) (i 2) : ℝ) : EReal)
  have e1 : m (c, Proc.tc.devRef main_arg1) (ix2 (i 0) (i 2)) = ((A.sh (i 0) (i 2) : ℝ) : EReal) := congrFun hm.sh _
  have e2 : m (c, Proc.tc.devRef main_arg2) (ix2 (i 0) (i 2)) = ((A.sc (i 0) (i 2) : ℝ) : EReal) := congrFun hm.sc _
  have e3 : m (c, Proc.tc.devRef main_arg3) (ix2 (i 0) (i 2)) = ((A.ga (i 0) (i 2) : ℝ) : EReal) := congrFun hm.ga _
  have e4 : m (c, Proc.tc.devRef main_arg4) (ix1 (i 2)) = ((A.gn (i 2) : ℝ) : EReal) := congrFun hm.gn _
  rw [e1, e2, e3, e4]
  have h8 : (i 1 : Fin 8).val < 8 := (i 1).isLt
  unfold mod
  split_ifs <;> first | omega | rfl

theorem V_v54 (i : S8192x2816.Idx) : V m c main_v54 i = ((A.g (Args.bt (i 0)) (Args.ps (i 0)) (i 1) : ℝ) : EReal) := by
  rw [host_v54]
  refine (flat_h_at _ i).trans ?_
  rw [host_g, hm.x, hm.sh, hm.sc, hm.gn, hm.wu]
  exact Ref.r26 A _

theorem V_v56 (i : S8192x2816.Idx) : V m c main_v56 i = ((A.u (Args.bt (i 0)) (Args.ps (i 0)) (i 1) : ℝ) : EReal) := by
  rw [host_v56]
  refine (flat_h_at _ i).trans ?_
  rw [host_u, hm.x, hm.sh, hm.sc, hm.gn, hm.wu]
  exact Ref.r27 A _

theorem V_v52 (i : S8192x1024.Idx) : V m c main_v52 i = ((A.f (Args.bt (i 0)) (Args.ps (i 0)) (i 1) : ℝ) : EReal) := by
  rw [host_v52]
  refine (flat_d_at _ i).trans ?_
  rw [host_f, hm.x, hm.sh, hm.sc, hm.gn, hm.wu, hm.wd]
  exact Ref.r30 A _

end Cert.Ffn.Ker

end
-- ==== Proof.Finite.lean ====
/-
  What the precondition says: every argument of the kernel's program holds real numbers.
-/
module

public import proofs.«01_k».proof.Defs
public import proofs.«01_k».proof.Proof.KerHost
public import Idealize.ShloMosaic.Lib.Pointwise.Select

@[expose] public section

set_option maxRecDepth 16384

noncomputable section

namespace Cert.Ffn

open Idealize.ShloMosaic Cert.KernelIdeal

/-- The shapes the precondition's function broadcasts its bound to. -/
theorem preFacts : Cert.Pre_finite.Facts where
  bcast_S_S2x4096x1024 := by decide
  bcast_S_S2x1024 := by decide
  bcast_S_S1024 := by decide
  bcast_S_S1024x5632 := by decide
  bcast_S_S2816x1024 := by decide

/-- A magnitude below infinity is the magnitude of a real number. -/
theorem eq_coe_of_abs_lt (a : EReal) (h : max a (-a) < ⊤) : a = ((a.toReal : ℝ) : EReal) := by
  refine (EReal.coe_toReal ?_ ?_).symm
  · rintro rfl
    exact absurd h (by simp)
  · rintro rfl
    exact absurd h (by simp)

/-- The bound's bits stand for infinity. -/
theorem ofBits_inf : (FloatOps.ofBits (F := Ideal) .f32 0x7F800000#32 : EReal) = ⊤ := by
  rw [Ideal.ofBits_def]
  simp [Idealize.ShloMosaic.Ideal.ofBits, Idealize.ShloMosaic.Ideal.ieee]

/-- One component of the precondition, at one index. -/
theorem entry_finite {s : Shape} (h : (⟨0, ![]⟩ : Shape).BroadcastsInDim s (![] : Fin 0 → Fin s.rank)) (x : FVec Ideal s .f32)
    (hx : cmpf .olt (Host.absf x) (broadcastInDim s ![] h (constant (F := Ideal) ⟨0, ![]⟩ .f32 0x7F800000#32)) = fun _ => 1#1) (i : s.Idx) :
    x i = (((x i : EReal).toReal : ℝ) : EReal) := by
  have e : Ideal.cmp .olt (max (x i : EReal) (-(x i : EReal))) (FloatOps.ofBits (F := Ideal) .f32 0x7F800000#32 : EReal) = 1 := congrFun hx i
  rw [Ideal.cmp_olt_eq_one, ofBits_inf] at e
  exact eq_coe_of_abs_lt _ e

/-- The real numbers the arguments hold. -/
def argsOf (m : (ℓ : Loc nD τ sig) → Buf (Elt Ideal) ℓ) (c : Dev nD) : Args where
  x := fun b p d => (m ((c.tc : Thread nD τ).loc main_arg0) (ix3 b p d) : EReal).toReal
  sh := fun b d => (m ((c.tc : Thread nD τ).loc main_arg1) (ix2 b d) : EReal).toReal
  sc := fun b d => (m ((c.tc : Thread nD τ).loc main_arg2) (ix2 b d) : EReal).toReal
  ga := fun b d => (m ((c.tc : Thread nD τ).loc main_arg3) (ix2 b d) : EReal).toReal
  gn := fun d => (m ((c.tc : Thread nD τ).loc main_arg4) (ix1 d) : EReal).toReal
  wu := fun d j => (m ((c.tc : Thread nD τ).loc main_arg5) (ix2 d j) : EReal).toReal
  wd := fun j d => (m ((c.tc : Thread nD τ).loc main_arg6) (ix2 j d) : EReal).toReal
  dy := fun b p d => (m ((c.tc : Thread nD τ).loc main_arg7) (ix3 b p d) : EReal).toReal

/-- The arguments of a memory the precondition admits hold those real numbers. -/
theorem holds_of_pre (m : (ℓ : Loc nD τ sig) → Buf (Elt Ideal) ℓ) (h : Cert.Pre_KernelIdeal_finite (hPre_finite := preFacts) m) (c : Dev nD) :
    Ker.Holds m c (argsOf m c) := by
  obtain ⟨h0, h1, h2, h3, h4, h5, h6, h7⟩ := h c
  constructor
  · funext i; exact (entry_finite _ _ h0 i).trans (congrArg (fun j => (((m ((c.tc : Thread nD τ).loc main_arg0) j : EReal).toReal : ℝ) : EReal)) (ix3_eta i).symm)
  · funext i; exact (entry_finite _ _ h1 i).trans (congrArg (fun j => (((m ((c.tc : Thread nD τ).loc main_arg1) j : EReal).toReal : ℝ) : EReal)) (ix2_eta i).symm)
  · funext i; exact (entry_finite _ _ h2 i).trans (congrArg (fun j => (((m ((c.tc : Thread nD τ).loc main_arg2) j : EReal).toReal : ℝ) : EReal)) (ix2_eta i).symm)
  · funext i; exact (entry_finite _ _ h3 i).trans (congrArg (fun j => (((m ((c.tc : Thread nD τ).loc main_arg3) j : EReal).toReal : ℝ) : EReal)) (ix2_eta i).symm)
  · funext i; exact (entry_finite _ _ h4 i).trans (congrArg (fun j => (((m ((c.tc : Thread nD τ).loc main_arg4) j : EReal).toReal : ℝ) : EReal)) (ix1_eta i).symm)
  · funext i; exact (entry_finite _ _ h5 i).trans (congrArg (fun j => (((m ((c.tc : Thread nD τ).loc main_arg5) j : EReal).toReal : ℝ) : EReal)) (ix2_eta i).symm)
  · funext i; exact (entry_finite _ _ h6 i).trans (congrArg (fun j => (((m ((c.tc : Thread nD τ).loc main_arg6) j : EReal).toReal : ℝ) : EReal)) (ix2_eta i).symm)
  · funext i; exact (entry_finite _ _ h7 i).trans (congrArg (fun j => (((m ((c.tc : Thread nD τ).loc main_arg7) j : EReal).toReal : ℝ) : EReal)) (ix3_eta i).symm)

end Cert.Ffn

end
-- ==== Proof.KerStage.lean ====
/-
  The kernel's vector expressions on the blocks of one grid point, each the block of the step's quantity of that name.
-/
module

public import proofs.«01_k».proof.Proof.KerParts

@[expose] public section

set_option maxRecDepth 16384

noncomputable section

namespace Cert.Ffn.Ker

open Idealize.ShloMosaic Cert.KernelIdeal Cert.KernelIdeal.Gen
open Finset

variable (A : Args) (b : Fin 2) (tk : Fin 256 → Fin 4096)

/-- The modulation rows. -/
theorem mod0 : (fun d => mod A b ⟨0, by decide⟩ d) = fun d => A.sh b d := rfl
theorem mod1 : (fun d => mod A b ⟨1, by decide⟩ d) = fun d => 1 + A.sc b d := rfl
theorem mod2 : (fun d => mod A b ⟨2, by decide⟩ d) = fun d => 1 + A.ga b d := rfl
theorem mod3 : (fun d => mod A b ⟨3, by decide⟩ d) = fun d => A.gn d := rfl

/-- The two halves of a block over the hidden columns. -/
abbrev lft (v : Fin 2 → Fin 4096 → Fin 2816 → ℝ) (r : Fin 256) (j : Fin 1408) : ℝ := v b (tk r) ⟨0 + j.val, by omega⟩
abbrev rgt (v : Fin 2 → Fin 4096 → Fin 2816 → ℝ) (r : Fin 256) (j : Fin 1408) : ℝ := v b (tk r) ⟨1408 + j.val, by omega⟩

/-- The two halves of the rows of the projection down. -/
abbrev wdL (j : Fin 1408) (d : Fin 1024) : ℝ := A.wd ⟨0 + j.val, by omega⟩ d
abbrev wdR (j : Fin 1408) (d : Fin 1024) : ℝ := A.wd ⟨1408 + j.val, by omega⟩ d

abbrev bdf (r : Fin 256) (d : Fin 1024) : ℝ := A.df b (tk r) d
abbrev bxn (r : Fin 256) (d : Fin 1024) : ℝ := A.xn b (tk r) d
abbrev bdh (r : Fin 256) (d : Fin 1024) : ℝ := A.dh b (tk r) d

theorem e9 : k0_pay9 (F := Ideal) (blk2 (bx A b tk)) = blk2 (bxn A b tk) := p9 A b tk

theorem e11 : k0_pay11 (F := Ideal) (k0_pay10 (F := Ideal) (blk2 (bx A b tk)) (row3 fun d => A.gn d))
    (row3 fun d => 1 + A.sc b d) (row3 fun d => A.sh b d) = blk2 fun r d => A.h b (tk r) d := by
  rw [p10, p11]; rfl

theorem e12 : k0_pay12 (F := Ideal) (blk2 (bdy A b tk)) (row3 fun d => 1 + A.ga b d) = blk2 (bdf A b tk) := by
  rw [p12]; rfl

theorem e21 : k0_pay21 (F := Ideal) (blk2 (bdf A b tk)) (blk2 (wdL A)) (blk2 (lft b tk A.g)) = blk2 (lft b tk A.du) := by
  rw [p21]; rfl

theorem e22 : k0_pay22 (F := Ideal) (blk2 (bdf A b tk)) (blk2 (wdL A)) (blk2 (lft b tk A.g)) (blk2 (lft b tk A.u))
    = blk2 (lft b tk A.dg) := by
  rw [p22]; rfl

theorem e23 : k0_pay23 (F := Ideal) (blk2 (bdf A b tk)) (blk2 (wdL A)) (blk2 (lft b tk A.g)) (blk2 (lft b tk A.u))
    = blk3 fun (_ : Fin 1) r j => lft b tk A.dg r j := by
  rw [p23]; rfl

theorem e24 : k0_pay24 (F := Ideal) (blk2 (bdf A b tk)) (blk2 (wdL A)) (blk2 (lft b tk A.g))
    = blk3 fun (_ : Fin 1) r j => lft b tk A.du r j := by
  rw [p24]; rfl

theorem e20 : k0_pay20 (F := Ideal) (blk2 (lft b tk A.g)) (blk2 (lft b tk A.u)) = blk2 (lft b tk A.act) := by
  rw [p20]; rfl

theorem e31 : k0_pay31 (F := Ideal) (blk2 (rgt b tk A.g)) (blk2 (rgt b tk A.u)) = blk2 (rgt b tk A.act) := by
  rw [p31]; rfl

theorem e32 : k0_pay32 (F := Ideal) (blk2 (bdf A b tk)) (blk2 (wdR A)) (blk2 (rgt b tk A.g)) = blk2 (rgt b tk A.du) := by
  rw [p32]; rfl

theorem e33 : k0_pay33 (F := Ideal) (blk2 (bdf A b tk)) (blk2 (wdR A)) (blk2 (rgt b tk A.g)) (blk2 (rgt b tk A.u))
    = blk2 (rgt b tk A.dg) := by
  rw [p33]; rfl

/-- The left half's part of the cotangent of the modulated rows. -/
abbrev dhL (r : Fin 256) (d : Fin 1024) : ℝ :=
  ∑ j, lft b tk A.dg r j * wuT A ⟨0, by decide⟩ d j + ∑ j, lft b tk A.du r j * wuT A ⟨2, by decide⟩ d j

theorem e25 : k0_pay25 (F := Ideal) (blk2 (lft b tk A.du)) (blk2 (lft b tk A.dg))
    (blk3 fun (_ : Fin 1) => wuT A ⟨0, by decide⟩) (blk3 fun (_ : Fin 1) => wuT A ⟨2, by decide⟩)
    = blk2 (dhL A b tk) := by
  rw [p25]

theorem e36 : k0_pay36 (F := Ideal) (blk2 (dhL A b tk)) (blk2 (rgt b tk A.du)) (blk2 (rgt b tk A.dg))
    (blk3 fun (_ : Fin 1) => wuT A ⟨1, by decide⟩) (blk3 fun (_ : Fin 1) => wuT A ⟨3, by decide⟩)
    = blk2 (bdh A b tk) := by
  rw [p36]
  exact congrArg blk2 (funext fun r => funext fun d => dh_halves A b (tk r) d)

theorem e39 (o : Fin 1024 → ℝ) : k0_pay39 (F := Ideal) (blk2 (dhL A b tk)) (blk2 (rgt b tk A.du)) (blk2 (rgt b tk A.dg))
    (blk3 fun (_ : Fin 1) => wuT A ⟨1, by decide⟩) (blk3 fun (_ : Fin 1) => wuT A ⟨3, by decide⟩) (row3 o)
    = row3 fun d => o d + ∑ r, bdh A b tk r d := by
  rw [p39]
  exact congrArg row3 (funext fun d => congrArg (o d + ·) (sum_congr rfl fun r _ => dh_halves A b (tk r) d))

theorem e40 : k0_pay40 (F := Ideal) (blk2 (bxn A b tk)) (blk2 (dhL A b tk)) (blk2 (rgt b tk A.du)) (blk2 (rgt b tk A.dg))
    (blk3 fun (_ : Fin 1) => wuT A ⟨1, by decide⟩) (blk3 fun (_ : Fin 1) => wuT A ⟨3, by decide⟩)
    = row2 fun d => ∑ r, bdh A b tk r d * bxn A b tk r d := by
  rw [p40]
  exact congrArg row2 (funext fun d => sum_congr rfl fun r _ => congrArg (· * A.xn b (tk r) d) (dh_halves A b (tk r) d))

theorem e3 : k0_pay3 (F := Ideal) (blk2 (bdy A b tk)) (blk2 fun r (_ : Fin 1) => A.rst b (tk r)) (blk2 (bxn A b tk))
    (blk2 (bdh A b tk)) (row2 fun d => A.gn d) (row2 fun d => 1 + A.sc b d) = blk2 fun r d => A.dx b (tk r) d := by
  rw [p3]; rfl

theorem e13 (o : Fin 1024 → ℝ) : k0_pay13 (F := Ideal) (blk2 (bdy A b tk)) (row3 o) (blk2 fun r d => A.f b (tk r) d)
    = row3 fun d => o d + ∑ r, (1 / 2) * A.f b (tk r) d * A.dy b (tk r) d := p13 _ _ _

section Writes

variable {sig' : RefSig} {κ : Kind} {sp : Space}

/-- The four tiles of the projected pair: gate part on top, value part below, two halves of columns each. -/
theorem write_four (v : View sig' κ sp S2x256x2816 .bf16) (f : v.ty.Contents (Elt Ideal)) (G U : Fin 256 → Fin 2816 → ℝ)
    (i3 : ∀ a, (![1, 0, 1408] : Fin 3 → Nat) a + (![1, 256, 1408] : Fin 3 → Nat) a ≤ S2x256x2816.size a)
    (i2 : ∀ a, (![0, 0, 1408] : Fin 3 → Nat) a + (![1, 256, 1408] : Fin 3 → Nat) a ≤ S2x256x2816.size a)
    (i1 : ∀ a, (![1, 0, 0] : Fin 3 → Nat) a + (![1, 256, 1408] : Fin 3 → Nat) a ≤ S2x256x2816.size a)
    (i0 : ∀ a, (![0, 0, 0] : Fin 3 → Nat) a + (![1, 256, 1408] : Fin 3 → Nat) a ≤ S2x256x2816.size a) :
    v.read (Elt Ideal) (v.writes (Elt Ideal) f
      [⟨Rect.unit (s := S2x256x2816) ![1, 0, 1408] ![1, 256, 1408] i3, blk3 fun (_ : Fin 1) (r : Fin 256) (j : Fin 1408) => U r ⟨1408 + j.val, by omega⟩⟩,
        ⟨Rect.unit (s := S2x256x2816) ![0, 0, 1408] ![1, 256, 1408] i2, blk3 fun (_ : Fin 1) (r : Fin 256) (j : Fin 1408) => G r ⟨1408 + j.val, by omega⟩⟩,
        ⟨Rect.unit (s := S2x256x2816) ![1, 0, 0] ![1, 256, 1408] i1, blk3 fun (_ : Fin 1) (r : Fin 256) (j : Fin 1408) => U r ⟨0 + j.val, by omega⟩⟩,
        ⟨Rect.unit (s := S2x256x2816) ![0, 0, 0] ![1, 256, 1408] i0, blk3 fun (_ : Fin 1) (r : Fin 256) (j : Fin 1408) => G r ⟨0 + j.val, by omega⟩⟩])
      = blk3 fun (p : Fin 2) r j => if p.val = 0 then G r j else U r j := by
  funext y
  have hy0 : (y 0 : Fin 2).val < 2 := (y 0).isLt
  have hy2 : (y 2 : Fin 2816).val < 2816 := (y 2).isLt
  have hU : ∀ (j : Fin 2816), j.val = (y 2 : Fin 2816).val → (y 0 : Fin 2).val = 1 →
      U (y 1) j = if (y 0 : Fin 2).val = 0 then G (y 1) (y 2) else U (y 1) (y 2) := fun j hj h => by
    rw [if_neg (by omega)]; exact congrArg (U (y 1)) (Fin.ext hj)
  have hG : ∀ (j : Fin 2816), j.val = (y 2 : Fin 2816).val → (y 0 : Fin 2).val = 0 →
      G (y 1) j = if (y 0 : Fin 2).val = 0 then G (y 1) (y 2) else U (y 1) (y 2) := fun j hj h => by
    rw [if_pos h]; exact congrArg (G (y 1)) (Fin.ext hj)
  refine write_tile v f i3 _ _ y _ (fun h h0 => hU _ (by show 1408 + ((y 2 : Fin 2816).val - 1408) = _; omega) h0) fun n3 => ?_
  refine write_tile v f i2 _ _ y _ (fun h h0 => hG _ (by show 1408 + ((y 2 : Fin 2816).val - 1408) = _; omega) h0) fun n2 => ?_
  refine write_tile v f i1 _ _ y _ (fun h h0 => hU _ (by show 0 + ((y 2 : Fin 2816).val - 0) = _; omega) h0) fun n1 => ?_
  refine write_tile v f i0 _ _ y _ (fun h h0 => hG _ (by show 0 + ((y 2 : Fin 2816).val - 0) = _; omega) h0) fun n0 => ?_
  exfalso
  omega

/-- The three rows of the per-batch sums raised by a block's part. -/
theorem write_sums (v : View sig' κ sp S1x8x1024 .f32) (f : v.ty.Contents (Elt Ideal))
    (i1 : ∀ a, (![0, 1, 0] : Fin 3 → Nat) a + (![1, 1, 1024] : Fin 3 → Nat) a ≤ S1x8x1024.size a)
    (i0 : ∀ a, (![0, 0, 0] : Fin 3 → Nat) a + (![1, 1, 1024] : Fin 3 → Nat) a ≤ S1x8x1024.size a)
    (i2 : ∀ a, (![0, 2, 0] : Fin 3 → Nat) a + (![1, 1, 1024] : Fin 3 → Nat) a ≤ S1x8x1024.size a)
    (L : List (View.Piece (Elt Ideal) S1x8x1024 .f32)) (o : Fin 8 → Fin 1024 → ℝ)
    (ho : v.read (Elt Ideal) (v.writes (Elt Ideal) f L) = blk3 fun (_ : Fin 1) => o) :
    v.read (Elt Ideal) (v.writes (Elt Ideal) f
      (⟨Rect.unit (s := S1x8x1024) ![0, 1, 0] ![1, 1, 1024] i1,
          row3 fun d => o ⟨1, by decide⟩ d + (∑ r, bdh A b tk r d * bxn A b tk r d) * A.gn d⟩ ::
        ⟨Rect.unit (s := S1x8x1024) ![0, 0, 0] ![1, 1, 1024] i0, row3 fun d => o ⟨0, by decide⟩ d + ∑ r, bdh A b tk r d⟩ ::
        ⟨Rect.unit (s := S1x8x1024) ![0, 2, 0] ![1, 1, 1024] i2,
          row3 fun d => o ⟨2, by decide⟩ d + ∑ r, (1 / 2) * A.f b (tk r) d * A.dy b (tk r) d⟩ :: L))
      = blk3 fun (_ : Fin 1) k d => o k d + inc A b tk k d := by
  refine (write_row3 v f i1 _ _ _ (write_row3 v f i0 _ _ _ (write_row3 v f i2 _ _ _ ho))).trans ?_
  refine congrArg blk3 (funext fun _ => funext fun k => funext fun d => ?_)
  unfold inc
  by_cases h1 : k.val = 1
  · rw [if_pos h1, if_pos h1]
    exact congrArg (· + _) (congrArg (o · d) (Fin.ext h1.symm))
  · rw [if_neg h1, if_neg h1]
    by_cases h0 : k.val = 0
    · rw [if_pos h0, if_pos h0]
      exact congrArg (· + _) (congrArg (o · d) (Fin.ext h0.symm))
    · rw [if_neg h0, if_neg h0]
      by_cases h2 : k.val = 2
      · rw [if_pos h2, if_pos h2]
        exact congrArg (· + _) (congrArg (o · d) (Fin.ext h2.symm))
      · rw [if_neg h2, if_neg h2, add_zero]

/-- The row of the overall sums raised by a block's part. -/
theorem write_sum (v : View sig' κ sp S8x1024 .f32) (f : v.ty.Contents (Elt Ideal))
    (i0 : ∀ a, (![0, 0] : Fin 2 → Nat) a + (![1, 1024] : Fin 2 → Nat) a ≤ S8x1024.size a)
    (L : List (View.Piece (Elt Ideal) S8x1024 .f32)) (o : Fin 8 → Fin 1024 → ℝ)
    (ho : v.read (Elt Ideal) (v.writes (Elt Ideal) f L) = blk2 o) :
    v.read (Elt Ideal) (v.writes (Elt Ideal) f
      (⟨Rect.unit (s := S8x1024) ![0, 0] ![1, 1024] i0,
          row2 fun d => o ⟨0, by decide⟩ d + (∑ r, bdh A b tk r d * bxn A b tk r d) * (1 + A.sc b d)⟩ :: L))
      = blk2 fun k d => o k d + incw A b tk k d := by
  refine (write_row2 v f i0 _ _ _ ho).trans ?_
  refine congrArg blk2 (funext fun k => funext fun d => ?_)
  unfold incw
  by_cases h0 : k.val = 0
  · rw [if_pos h0, if_pos h0]
    exact congrArg (· + _) (congrArg (o · d) (Fin.ext h0.symm))
  · rw [if_neg h0, if_neg h0, add_zero]

end Writes

end Cert.Ffn.Ker

end
-- ==== Proof.KerPoint.lean ====
/-
  What one grid point of the kernel leaves in its output blocks when the input blocks hold real numbers: the step's
  quantities of the point's rows, and the per-batch and overall sums raised by the rows' part. The body has three cases:
  both sums fresh, the per-batch sum fresh, none fresh.
-/
module

public import proofs.«01_k».proof.Proof.KerStage
public import Idealize.ShloMosaic.Lib.VecWindow

@[expose] public section

set_option maxRecDepth 16384

noncomputable section

namespace Cert.Ffn.Ker

open Idealize.ShloMosaic Cert.KernelIdeal Cert.KernelIdeal.Gen
open Finset

theorem hz2a : ∀ a, (![0, 0] : Fin 2 → Nat) a = 0 := fun a => congrFun hz2 a
theorem hz3a : ∀ a, (![0, 0, 0] : Fin 3 → Nat) a = 0 := by intro a; fin_cases a <;> rfl
theorem hz3 : (![0, 0, 0] : Fin 3 → Nat) = fun _ => 0 := by funext a; fin_cases a <;> rfl

/-- A row stored to one place is not read at another. -/
theorem skip_rows {sig' : RefSig} {κ : Kind} {sp : Space} (v : View sig' κ sp S1x8x1024 .f32)
    (w : S1x1x1024.Idx → Elt Ideal .f32) (L : List (View.Piece (Elt Ideal) S1x8x1024 .f32)) (p q : Nat) (h : p ≠ q)
    (hp : ∀ a, (![0, p, 0] : Fin 3 → Nat) a + (![1, 1, 1024] : Fin 3 → Nat) a ≤ S1x8x1024.size a)
    (hq : ∀ a, (![0, q, 0] : Fin 3 → Nat) a + (![1, 1, 1024] : Fin 3 → Nat) a ≤ S1x8x1024.size a) :
    v.readCov (⟨Rect.unit (s := S1x8x1024) ![0, p, 0] ![1, 1, 1024] hp, w⟩ :: L)
        (Rect.unit (s := S1x8x1024) ![0, q, 0] ![1, 1, 1024] hq).toLoadRect
      = v.readCov L (Rect.unit (s := S1x8x1024) ![0, q, 0] ![1, 1, 1024] hq).toLoadRect := by
  refine View.readCov_skip _ _ _ _ _ (decide_eq_true ⟨1, Or.inr (Or.inr ?_)⟩)
  show p + 1 * (1 - 1) < q ∨ q + 1 * (1 - 1) < p
  omega

variable (A : Args) (b : Fin 2) (tk : Fin 256 → Fin 4096)
  (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S1x8x1024 .f32) (harg3 : arg3.IsWhole) (arg4 : Memref sig .tc .vmem S256x1024 .bf16) (harg4 : arg4.IsWhole)
  (arg5 : Memref sig .tc .vmem S256x2816 .bf16) (harg5 : arg5.IsWhole) (arg6 : Memref sig .tc .vmem S256x2816 .bf16) (harg6 : arg6.IsWhole)
  (arg7 : Memref sig .tc .vmem S4x1024x1408 .bf16) (harg7 : arg7.IsWhole) (arg8 : Memref sig .tc .vmem S2816x1024 .bf16) (harg8 : arg8.IsWhole)
  (arg9 : Memref sig .tc .vmem S256x1024 .f32) (harg9 : arg9.IsWhole) (arg10 : Memref sig .tc .vmem S1x8x1024 .f32) (harg10 : arg10.IsWhole)
  (arg11 : Memref sig .tc .vmem S8x1024 .f32) (harg11 : arg11.IsWhole) (arg12 : Memref sig .tc .vmem S256x1024 .bf16) (harg12 : arg12.IsWhole)
  (arg13 : Memref sig .tc .vmem S256x1024 .bf16) (harg13 : arg13.IsWhole) (arg14 : Memref sig .tc .vmem S256x2816 .bf16) (harg14 : arg14.IsWhole)
  (arg15 : Memref sig .tc .vmem S2x256x2816 .bf16) (harg15 : arg15.IsWhole)

theorem outA8 (hc0 : cond0_0 i) (hc1 : cond0_1 i) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) = blk2 fun r d => A.dx b (tk r) d := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd))]
  unfold kernelRun0_A
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg10.read_unread, harg11.read_unread]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]
  simp only [e20 A b tk, e21 A b tk, e22 A b tk, e23 A b tk, e24 A b tk, e25 A b tk,
    e31 A b tk, e32 A b tk, e33 A b tk, e36 A b tk, e39 A b tk, e40 A b tk, e3 A b tk, e13 A b tk]

theorem outA11 (hc0 : cond0_0 i) (hc1 : cond0_1 i) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) = blk2 fun r d => A.h b (tk r) d := by
  unfold out0_A_11
  rw [View.read_writes_eq_canon _ _ _ (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd))]
  unfold kernelRun0_A
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg10.read_unread, harg11.read_unread]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]

theorem outA12 (hc0 : cond0_0 i) (hc1 : cond0_1 i) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) = blk2 fun r d => A.df b (tk r) d := by
  unfold out0_A_12
  rw [View.read_writes_eq_canon _ _ _ (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd))]
  unfold kernelRun0_A
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg10.read_unread, harg11.read_unread]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]

theorem outA13 (hc0 : cond0_0 i) (hc1 : cond0_1 i) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) = blk2 fun r j => A.act b (tk r) j := by
  unfold out0_A_13
  unfold kernelRun0_A
  dsimp only
  sl_unfold_words
  simp only [View.readAt_eq_ld, harg1.read_unread, harg2.read_unread, harg3.read_unread, harg4.read_unread, harg5.read_unread, harg6.read_unread, harg7.read_unread, harg8.read_unread, harg10.read_unread, harg11.read_unread]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]
  simp only [e20 A b tk, e21 A b tk, e22 A b tk, e23 A b tk, e24 A b tk, e25 A b tk,
    e31 A b tk, e32 A b tk, e33 A b tk, e36 A b tk, e39 A b tk, e40 A b tk, e3 A b tk, e13 A b tk]
  exact write_cols (n := 256) (s := 1408) _ _ _ _ fun (r : Fin 256) (j : Fin 2816) => A.act b (tk r) j

theorem outA14 (hc0 : cond0_0 i) (hc1 : cond0_1 i) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) = blk3 fun p r j => if p.val = 0 then A.dg b (tk r) j else A.du b (tk r) j := by
  unfold out0_A_14
  unfold kernelRun0_A
  dsimp only
  sl_unfold_words
  simp only [View.readAt_eq_ld, harg1.read_unread, harg2.read_unread, harg3.read_unread, harg4.read_unread, harg5.read_unread, harg6.read_unread, harg7.read_unread, harg8.read_unread, harg10.read_unread, harg11.read_unread]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]
  simp only [e20 A b tk, e21 A b tk, e22 A b tk, e23 A b tk, e24 A b tk, e25 A b tk,
    e31 A b tk, e32 A b tk, e33 A b tk, e36 A b tk, e39 A b tk, e40 A b tk, e3 A b tk, e13 A b tk]
  simp only [p34, p35]
  exact write_four _ _ (fun r j => A.dg b (tk r) j) (fun r j => A.du b (tk r) j) _ _ _ _

theorem outA9 (hc0 : cond0_0 i) (hc1 : cond0_1 i) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) = blk3 fun (_ : Fin 1) k d => 0 + inc A b tk k d := by
  unfold out0_A_9
  unfold kernelRun0_A
  dsimp only
  sl_unfold_words
  simp only [skip_rows _ _ _ 2 1 (by decide), skip_rows _ _ _ 2 0 (by decide), skip_rows _ _ _ 0 1 (by decide)]
  simp only [View.readCov_fill (s := S1x8x1024) _ _ _ _ _ hz3a, p5]
  simp only [View.readAt_eq_ld, harg1.read_unread, harg2.read_unread, harg3.read_unread, harg4.read_unread, harg5.read_unread, harg6.read_unread, harg7.read_unread, harg8.read_unread, harg10.read_unread, harg11.read_unread]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]
  simp only [e20 A b tk, e21 A b tk, e22 A b tk, e23 A b tk, e24 A b tk, e25 A b tk,
    e31 A b tk, e32 A b tk, e33 A b tk, e36 A b tk, e39 A b tk, e40 A b tk, e3 A b tk, e13 A b tk]
  simp only [p1]
  exact write_sums A b tk _ _ _ _ _ _ (fun _ _ => 0) (View.read_writes_full (s := S1x8x1024) _ _ _ _ _)

theorem outA10 (hc0 : cond0_0 i) (hc1 : cond0_1 i) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) = blk2 fun k d => 0 + incw A b tk k d := by
  unfold out0_A_10
  unfold kernelRun0_A
  dsimp only
  sl_unfold_words
  simp only [View.readCov_fill (s := S8x1024) _ _ _ _ _ hz2a, p4]
  simp only [View.readAt_eq_ld, harg1.read_unread, harg2.read_unread, harg3.read_unread, harg4.read_unread, harg5.read_unread, harg6.read_unread, harg7.read_unread, harg8.read_unread, harg10.read_unread, harg11.read_unread]
  simp only [ld_row2]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]
  simp only [e20 A b tk, e21 A b tk, e22 A b tk, e23 A b tk, e24 A b tk, e25 A b tk,
    e31 A b tk, e32 A b tk, e33 A b tk, e36 A b tk, e39 A b tk, e40 A b tk, e3 A b tk, e13 A b tk]
  simp only [p2]
  exact write_sum A b tk _ _ _ _ (fun _ _ => 0) (View.read_writes_full (s := S8x1024) _ _ _ _ _)

theorem outB8 (hc0 : ¬cond0_0 i) (hc1 : ¬cond0_1 i) (o ow : Fin 8 → Fin 1024 → ℝ) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk3 fun (_ : Fin 1) => o) (blk2 ow) = blk2 fun r d => A.dx b (tk r) d := by
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk3 fun (_ : Fin 1) => o) (blk2 ow))]
  unfold kernelRun0_B
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg10.read_unread, harg11.read_unread]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]
  simp only [e20 A b tk, e21 A b tk, e22 A b tk, e23 A b tk, e24 A b tk, e25 A b tk,
    e31 A b tk, e32 A b tk, e33 A b tk, e36 A b tk, e39 A b tk, e40 A b tk, e3 A b tk, e13 A b tk]

theorem outB11 (hc0 : ¬cond0_0 i) (hc1 : ¬cond0_1 i) (o ow : Fin 8 → Fin 1024 → ℝ) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk3 fun (_ : Fin 1) => o) (blk2 ow) = blk2 fun r d => A.h b (tk r) d := by
  unfold out0_B_11
  rw [View.read_writes_eq_canon _ _ _ (cover0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk3 fun (_ : Fin 1) => o) (blk2 ow))]
  unfold kernelRun0_B
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg10.read_unread, harg11.read_unread]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]

theorem outB12 (hc0 : ¬cond0_0 i) (hc1 : ¬cond0_1 i) (o ow : Fin 8 → Fin 1024 → ℝ) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk3 fun (_ : Fin 1) => o) (blk2 ow) = blk2 fun r d => A.df b (tk r) d := by
  unfold out0_B_12
  rw [View.read_writes_eq_canon _ _ _ (cover0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk3 fun (_ : Fin 1) => o) (blk2 ow))]
  unfold kernelRun0_B
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg10.read_unread, harg11.read_unread]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]

theorem outB13 (hc0 : ¬cond0_0 i) (hc1 : ¬cond0_1 i) (o ow : Fin 8 → Fin 1024 → ℝ) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk3 fun (_ : Fin 1) => o) (blk2 ow) = blk2 fun r j => A.act b (tk r) j := by
  unfold out0_B_13
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg11.read_unread]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]
  simp only [e20 A b tk, e21 A b tk, e22 A b tk, e23 A b tk, e24 A b tk, e25 A b tk,
    e31 A b tk, e32 A b tk, e33 A b tk, e36 A b tk, e39 A b tk, e40 A b tk, e3 A b tk, e13 A b tk]
  exact write_cols (n := 256) (s := 1408) _ _ _ _ fun (r : Fin 256) (j : Fin 2816) => A.act b (tk r) j

theorem outB14 (hc0 : ¬cond0_0 i) (hc1 : ¬cond0_1 i) (o ow : Fin 8 → Fin 1024 → ℝ) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk3 fun (_ : Fin 1) => o) (blk2 ow) = blk3 fun p r j => if p.val = 0 then A.dg b (tk r) j else A.du b (tk r) j := by
  unfold out0_B_14
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg11.read_unread]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]
  simp only [e20 A b tk, e21 A b tk, e22 A b tk, e23 A b tk, e24 A b tk, e25 A b tk,
    e31 A b tk, e32 A b tk, e33 A b tk, e36 A b tk, e39 A b tk, e40 A b tk, e3 A b tk, e13 A b tk]
  simp only [p34, p35]
  exact write_four _ _ (fun r j => A.dg b (tk r) j) (fun r j => A.du b (tk r) j) _ _ _ _

theorem outB9 (hc0 : ¬cond0_0 i) (hc1 : ¬cond0_1 i) (o ow : Fin 8 → Fin 1024 → ℝ) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk3 fun (_ : Fin 1) => o) (blk2 ow) = blk3 fun (_ : Fin 1) k d => o k d + inc A b tk k d := by
  unfold out0_B_9
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg11.read_unread]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]
  simp only [e20 A b tk, e21 A b tk, e22 A b tk, e23 A b tk, e24 A b tk, e25 A b tk,
    e31 A b tk, e32 A b tk, e33 A b tk, e36 A b tk, e39 A b tk, e40 A b tk, e3 A b tk, e13 A b tk]
  simp only [p1]
  exact write_sums A b tk _ _ _ _ _ [] o (harg10.read_unread _)

theorem outB10 (hc0 : ¬cond0_0 i) (hc1 : ¬cond0_1 i) (o ow : Fin 8 → Fin 1024 → ℝ) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk3 fun (_ : Fin 1) => o) (blk2 ow) = blk2 fun k d => ow k d + incw A b tk k d := by
  unfold out0_B_10
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg11.read_unread]
  simp only [ld_row2]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]
  simp only [e20 A b tk, e21 A b tk, e22 A b tk, e23 A b tk, e24 A b tk, e25 A b tk,
    e31 A b tk, e32 A b tk, e33 A b tk, e36 A b tk, e39 A b tk, e40 A b tk, e3 A b tk, e13 A b tk]
  simp only [p2]
  exact write_sum A b tk _ _ _ [] ow (harg11.read_unread _)

theorem outC8 (hc0 : ¬cond0_0 i) (hc1 : cond0_1 i) (ow : Fin 8 → Fin 1024 → ℝ) :
    out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk2 ow) = blk2 fun r d => A.dx b (tk r) d := by
  unfold out0_C_8
  rw [View.read_writes_eq_canon _ _ _ (cover0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk2 ow))]
  unfold kernelRun0_C
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg10.read_unread, harg11.read_unread]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]
  simp only [e20 A b tk, e21 A b tk, e22 A b tk, e23 A b tk, e24 A b tk, e25 A b tk,
    e31 A b tk, e32 A b tk, e33 A b tk, e36 A b tk, e39 A b tk, e40 A b tk, e3 A b tk, e13 A b tk]

theorem outC11 (hc0 : ¬cond0_0 i) (hc1 : cond0_1 i) (ow : Fin 8 → Fin 1024 → ℝ) :
    out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk2 ow) = blk2 fun r d => A.h b (tk r) d := by
  unfold out0_C_11
  rw [View.read_writes_eq_canon _ _ _ (cover0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk2 ow))]
  unfold kernelRun0_C
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg10.read_unread, harg11.read_unread]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]

theorem outC12 (hc0 : ¬cond0_0 i) (hc1 : cond0_1 i) (ow : Fin 8 → Fin 1024 → ℝ) :
    out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk2 ow) = blk2 fun r d => A.df b (tk r) d := by
  unfold out0_C_12
  rw [View.read_writes_eq_canon _ _ _ (cover0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk2 ow))]
  unfold kernelRun0_C
  dsimp only
  sl_unfold_words
  rw [View.canon_unit_zero (S := S256x1024) hz2]
  simp only [View.readAt_eq_ld, harg1.read_unread, harg2.read_unread, harg3.read_unread, harg4.read_unread, harg5.read_unread, harg6.read_unread, harg7.read_unread, harg8.read_unread, harg10.read_unread, harg11.read_unread]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]

theorem outC13 (hc0 : ¬cond0_0 i) (hc1 : cond0_1 i) (ow : Fin 8 → Fin 1024 → ℝ) :
    out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk2 ow) = blk2 fun r j => A.act b (tk r) j := by
  unfold out0_C_13
  unfold kernelRun0_C
  dsimp only
  sl_unfold_words
  simp only [View.readAt_eq_ld, harg1.read_unread, harg2.read_unread, harg3.read_unread, harg4.read_unread, harg5.read_unread, harg6.read_unread, harg7.read_unread, harg8.read_unread, harg10.read_unread, harg11.read_unread]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]
  simp only [e20 A b tk, e21 A b tk, e22 A b tk, e23 A b tk, e24 A b tk, e25 A b tk,
    e31 A b tk, e32 A b tk, e33 A b tk, e36 A b tk, e39 A b tk, e40 A b tk, e3 A b tk, e13 A b tk]
  exact write_cols (n := 256) (s := 1408) _ _ _ _ fun (r : Fin 256) (j : Fin 2816) => A.act b (tk r) j

theorem outC14 (hc0 : ¬cond0_0 i) (hc1 : cond0_1 i) (ow : Fin 8 → Fin 1024 → ℝ) :
    out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk2 ow) = blk3 fun p r j => if p.val = 0 then A.dg b (tk r) j else A.du b (tk r) j := by
  unfold out0_C_14
  unfold kernelRun0_C
  dsimp only
  sl_unfold_words
  simp only [View.readAt_eq_ld, harg1.read_unread, harg2.read_unread, harg3.read_unread, harg4.read_unread, harg5.read_unread, harg6.read_unread, harg7.read_unread, harg8.read_unread, harg10.read_unread, harg11.read_unread]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]
  simp only [e20 A b tk, e21 A b tk, e22 A b tk, e23 A b tk, e24 A b tk, e25 A b tk,
    e31 A b tk, e32 A b tk, e33 A b tk, e36 A b tk, e39 A b tk, e40 A b tk, e3 A b tk, e13 A b tk]
  simp only [p34, p35]
  exact write_four _ _ (fun r j => A.dg b (tk r) j) (fun r j => A.du b (tk r) j) _ _ _ _

theorem outC9 (hc0 : ¬cond0_0 i) (hc1 : cond0_1 i) (ow : Fin 8 → Fin 1024 → ℝ) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk2 ow) = blk3 fun (_ : Fin 1) k d => 0 + inc A b tk k d := by
  unfold out0_C_9
  unfold kernelRun0_C
  dsimp only
  sl_unfold_words
  simp only [skip_rows _ _ _ 2 1 (by decide), skip_rows _ _ _ 2 0 (by decide), skip_rows _ _ _ 0 1 (by decide)]
  simp only [View.readCov_fill (s := S1x8x1024) _ _ _ _ _ hz3a, p5]
  simp only [View.readAt_eq_ld, harg1.read_unread, harg2.read_unread, harg3.read_unread, harg4.read_unread, harg5.read_unread, harg6.read_unread, harg7.read_unread, harg8.read_unread, harg10.read_unread, harg11.read_unread]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]
  simp only [e20 A b tk, e21 A b tk, e22 A b tk, e23 A b tk, e24 A b tk, e25 A b tk,
    e31 A b tk, e32 A b tk, e33 A b tk, e36 A b tk, e39 A b tk, e40 A b tk, e3 A b tk, e13 A b tk]
  simp only [p1]
  exact write_sums A b tk _ _ _ _ _ _ (fun _ _ => 0) (View.read_writes_full (s := S1x8x1024) _ _ _ _ _)

theorem outC10 (hc0 : ¬cond0_0 i) (hc1 : cond0_1 i) (ow : Fin 8 → Fin 1024 → ℝ) :
    out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1
      (blk2 (bx A b tk)) (blk2 (bdy A b tk)) (blk3 fun (_ : Fin 1) => mod A b)
      (blk2 fun r d => A.f b (tk r) d) (blk2 fun r j => A.g b (tk r) j) (blk2 fun r j => A.u b (tk r) j)
      (blk3 (wuT A)) (blk2 A.wd) (blk2 ow) = blk2 fun k d => ow k d + incw A b tk k d := by
  unfold out0_C_10
  unfold kernelRun0_C
  dsimp only
  sl_unfold_words
  simp only [View.readAt_eq_ld, harg1.read_unread, harg2.read_unread, harg3.read_unread, harg4.read_unread, harg5.read_unread, harg6.read_unread, harg7.read_unread, harg8.read_unread, harg10.read_unread, harg11.read_unread]
  simp only [ld_row2]
  simp only [View.ld_unit_zero (S := S256x1024) hz2, ld_cols, ld_rows, ld_slice, ld_row3, mod0 A b, mod1 A b, mod2 A b,
    mod3 A b, p6, p7, p8, p37, p38, p14, p34, p35, e9 A b tk, e11 A b tk, e12 A b tk]
  simp only [e20 A b tk, e21 A b tk, e22 A b tk, e23 A b tk, e24 A b tk, e25 A b tk,
    e31 A b tk, e32 A b tk, e33 A b tk, e36 A b tk, e39 A b tk, e40 A b tk, e3 A b tk, e13 A b tk]
  simp only [p2]
  exact write_sum A b tk _ _ _ [] ow (harg11.read_unread _)

end Cert.Ffn.Ker

end
-- ==== Proof.KerGrid.lean ====
/-
  The kernel's blocks, point by point: what each input window holds at a grid point, and, by induction on the point,
  what the body leaves in every output window.
-/
module

public import proofs.«01_k».proof.Proof.KerPoint
public import proofs.«01_k».proof.Proof.KerHost

@[expose] public section

set_option maxRecDepth 16384

noncomputable section

namespace Cert.Ffn.Ker

open Idealize.ShloMosaic Cert.KernelIdeal Cert.KernelIdeal.Gen
open Finset

/-- The batch element of the rows of point `n`. -/
abbrev pb (n : ℕ) : Fin 2 := ⟨n / 16 % 2, by omega⟩

/-- The place, in its sequence, of row `r` of point `n`. -/
abbrev pt (n : ℕ) (r : Fin 256) : Fin 4096 := ⟨256 * (n % 16) + r.val, by omega⟩

theorem tok_bt (t : Fin cfg0.N) (r : Fin 256) {i : Fin 8192} (h : i.val = t.val * 256 + r.val) : Args.bt i = pb t.val := by
  have ht : t.val < 32 := lt_of_lt_of_eq t.isLt N_0
  apply Fin.ext
  show i.val / 4096 = t.val / 16 % 2
  omega

theorem tok_ps (t : Fin cfg0.N) (r : Fin 256) {i : Fin 8192} (h : i.val = t.val * 256 + r.val) : Args.ps i = pt t.val r := by
  have ht : t.val < 32 := lt_of_lt_of_eq t.isLt N_0
  apply Fin.ext
  show i.val % 4096 = 256 * (t.val % 16) + r.val
  omega

/-! ## Where each window's block sits -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx11 : ∀ t : Fin cfg0.N, win0_11.index t 0 = t.val ∧ win0_11.index t 1 = 0 :=
  (by decide +kernel : ∀ t : Fin grid0.N, win0_11.index t 0 = t.val ∧ win0_11.index t 1 = 0)
theorem idx12 : ∀ t : Fin cfg0.N, win0_12.index t 0 = t.val ∧ win0_12.index t 1 = 0 :=
  (by decide +kernel : ∀ t : Fin grid0.N, win0_12.index t 0 = t.val ∧ win0_12.index t 1 = 0)
theorem idx13 : ∀ t : Fin cfg0.N, win0_13.index t 0 = t.val ∧ win0_13.index t 1 = 0 :=
  (by decide +kernel : ∀ t : Fin grid0.N, win0_13.index t 0 = t.val ∧ win0_13.index t 1 = 0)
theorem idx2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem idx6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx9 : ∀ t : Fin cfg0.N, win0_9.index t 0 = t.val / 16 ∧ win0_9.index t 1 = 0 ∧ win0_9.index t 2 = 0 :=
  (by decide +kernel : ∀ t : Fin grid0.N, win0_9.index t 0 = t.val / 16 ∧ win0_9.index t 1 = 0 ∧ win0_9.index t 2 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx14 : ∀ t : Fin cfg0.N, win0_14.index t 0 = 0 ∧ win0_14.index t 1 = t.val ∧ win0_14.index t 2 = 0 :=
  (by decide +kernel : ∀ t : Fin grid0.N, win0_14.index t 0 = 0 ∧ win0_14.index t 1 = t.val ∧ win0_14.index t 2 = 0)

/-! ## The input blocks -/

section

variable (A : Args) {m : (ℓ : Loc nD τ sig) → Buf (Elt Ideal) ℓ} {c : Dev nD} (hm : Holds m c A)
include hm

theorem iblk0 (t : Fin cfg0.N) : iblk m c 0 t = blk2 fun r d => bx A (pb t.val) (pt t.val) r d := by
  funext j
  unfold iblk
  rw [View.read_apply]
  have hj : (j 0 : Fin 256).val < 256 := (j 0).isLt
  refine (V_v49 A hm _).trans (congrArg Real.toEReal ?_)
  refine congr (congrArg₂ A.x (tok_bt t (j 0) ?_) (tok_ps t (j 0) ?_)) (Fin.ext ?_)
  · show win0_0.index t 0 * 256 + 1 * (j 0).val = _
    rw [(idx0 t).1, Nat.one_mul]
  · show win0_0.index t 0 * 256 + 1 * (j 0).val = _
    rw [(idx0 t).1, Nat.one_mul]
  · show win0_0.index t 1 * 1024 + 1 * (j 1).val = (j 1).val
    rw [(idx0 t).2, Nat.one_mul, Nat.zero_mul, Nat.zero_add]

theorem iblk1 (t : Fin cfg0.N) : iblk m c 1 t = blk2 fun r d => bdy A (pb t.val) (pt t.val) r d := by
  funext j
  unfold iblk
  rw [View.read_apply]
  have hj : (j 0 : Fin 256).val < 256 := (j 0).isLt
  refine (V_v50 A hm _).trans (congrArg Real.toEReal ?_)
  refine congr (congrArg₂ A.dy (tok_bt t (j 0) ?_) (tok_ps t (j 0) ?_)) (Fin.ext ?_)
  · show win0_1.index t 0 * 256 + 1 * (j 0).val = _
    rw [(idx1 t).1, Nat.one_mul]
  · show win0_1.index t 0 * 256 + 1 * (j 0).val = _
    rw [(idx1 t).1, Nat.one_mul]
  · show win0_1.index t 1 * 1024 + 1 * (j 1).val = (j 1).val
    rw [(idx1 t).2, Nat.one_mul, Nat.zero_mul, Nat.zero_add]

theorem iblk3 (t : Fin cfg0.N) : iblk m c 3 t = blk2 fun r d => A.f (pb t.val) (pt t.val r) d := by
  funext j
  unfold iblk
  rw [View.read_apply]
  have hj : (j 0 : Fin 256).val < 256 := (j 0).isLt
  refine (V_v52 A hm _).trans (congrArg Real.toEReal ?_)
  refine congr (congrArg₂ A.f (tok_bt t (j 0) ?_) (tok_ps t (j 0) ?_)) (Fin.ext ?_)
  · show win0_3.index t 0 * 256 + 1 * (j 0).val = _
    rw [(idx3 t).1, Nat.one_mul]
  · show win0_3.index t 0 * 256 + 1 * (j 0).val = _
    rw [(idx3 t).1, Nat.one_mul]
  · show win0_3.index t 1 * 1024 + 1 * (j 1).val = (j 1).val
    rw [(idx3 t).2, Nat.one_mul, Nat.zero_mul, Nat.zero_add]

theorem iblk4 (t : Fin cfg0.N) : iblk m c 4 t = blk2 fun r d => A.g (pb t.val) (pt t.val r) d := by
  funext j
  unfold iblk
  rw [View.read_apply]
  have hj : (j 0 : Fin 256).val < 256 := (j 0).isLt
  refine (V_v54 A hm _).trans (congrArg Real.toEReal ?_)
  refine congr (congrArg₂ A.g (tok_bt t (j 0) ?_) (tok_ps t (j 0) ?_)) (Fin.ext ?_)
  · show win0_4.index t 0 * 256 + 1 * (j 0).val = _
    rw [(idx4 t).1, Nat.one_mul]
  · show win0_4.index t 0 * 256 + 1 * (j 0).val = _
    rw [(idx4 t).1, Nat.one_mul]
  · show win0_4.index t 1 * 2816 + 1 * (j 1).val = (j 1).val
    rw [(idx4 t).2, Nat.one_mul, Nat.zero_mul, Nat.zero_add]

theorem iblk5 (t : Fin cfg0.N) : iblk m c 5 t = blk2 fun r d => A.u (pb t.val) (pt t.val r) d := by
  funext j
  unfold iblk
  rw [View.read_apply]
  have hj : (j 0 : Fin 256).val < 256 := (j 0).isLt
  refine (V_v56 A hm _).trans (congrArg Real.toEReal ?_)
  refine congr (congrArg₂ A.u (tok_bt t (j 0) ?_) (tok_ps t (j 0) ?_)) (Fin.ext ?_)
  · show win0_5.index t 0 * 256 + 1 * (j 0).val = _
    rw [(idx5 t).1, Nat.one_mul]
  · show win0_5.index t 0 * 256 + 1 * (j 0).val = _
    rw [(idx5 t).1, Nat.one_mul]
  · show win0_5.index t 1 * 2816 + 1 * (j 1).val = (j 1).val
    rw [(idx5 t).2, Nat.one_mul, Nat.zero_mul, Nat.zero_add]

theorem iblk2 (t : Fin cfg0.N) : iblk m c 2 t = blk3 fun (_ : Fin 1) => mod A (pb t.val) := by
  have ht : t.val < 32 := lt_of_lt_of_eq t.isLt N_0
  funext j
  unfold iblk
  rw [View.read_apply]
  have h0 : (j 0).val = 0 := Nat.lt_one_iff.mp (j 0).isLt
  refine (congrFun (V_v44 A hm) _).trans (congrArg Real.toEReal ?_)
  refine congr (congrArg₂ (mod A) (Fin.ext ?_) (Fin.ext ?_)) (Fin.ext ?_)
  · show win0_2.index t 0 * 1 + 1 * (j 0).val = t.val / 16 % 2
    rw [(idx2 t).1, h0]; omega
  · show win0_2.index t 1 * 8 + 1 * (j 1).val = (j 1).val
    rw [(idx2 t).2.1, Nat.one_mul, Nat.zero_mul, Nat.zero_add]
  · show win0_2.index t 2 * 1024 + 1 * (j 2).val = (j 2).val
    rw [(idx2 t).2.2, Nat.one_mul, Nat.zero_mul, Nat.zero_add]

theorem iblk6 (t : Fin cfg0.N) : iblk m c 6 t = blk3 (wuT A) := by
  funext j
  unfold iblk
  rw [View.read_apply]
  refine (congrFun (V_v47 A hm) _).trans (congrArg (blk3 (wuT A)) (funext fun a => Fin.ext ?_))
  match a with
  | ⟨0, _⟩ => show win0_6.index t 0 * 4 + 1 * (j 0).val = (j 0).val; rw [(idx6 t).1, Nat.one_mul, Nat.zero_mul, Nat.zero_add]
  | ⟨1, _⟩ => show win0_6.index t 1 * 1024 + 1 * (j 1).val = (j 1).val; rw [(idx6 t).2.1, Nat.one_mul, Nat.zero_mul, Nat.zero_add]
  | ⟨2, _⟩ => show win0_6.index t 2 * 1408 + 1 * (j 2).val = (j 2).val; rw [(idx6 t).2.2, Nat.one_mul, Nat.zero_mul, Nat.zero_add]

theorem iblk7 (t : Fin cfg0.N) : iblk m c 7 t = blk2 A.wd := by
  funext j
  unfold iblk
  rw [View.read_apply]
  refine (congrFun (V_v48 A hm) _).trans (congrArg (blk2 A.wd) (funext fun a => Fin.ext ?_))
  match a with
  | ⟨0, _⟩ => show win0_7.index t 0 * 2816 + 1 * (j 0).val = (j 0).val; rw [(idx7 t).1, Nat.one_mul, Nat.zero_mul, Nat.zero_add]
  | ⟨1, _⟩ => show win0_7.index t 1 * 1024 + 1 * (j 1).val = (j 1).val; rw [(idx7 t).2, Nat.one_mul, Nat.zero_mul, Nat.zero_add]

end

/-! ## The output blocks -/

/-- The per-batch sums after point `n`: started afresh at the first block of a batch element. -/
def acc9 (A : Args) : ℕ → Fin 8 → Fin 1024 → ℝ
  | 0, k, d => 0 + inc A (pb 0) (pt 0) k d
  | n + 1, k, d => (if (n + 1) % 16 = 0 then 0 else acc9 A n k d) + inc A (pb (n + 1)) (pt (n + 1)) k d

/-- The sums over all rows after point `n`. -/
def acc10 (A : Args) : ℕ → Fin 8 → Fin 1024 → ℝ
  | 0, k, d => 0 + incw A (pb 0) (pt 0) k d
  | n + 1, k, d => acc10 A n k d + incw A (pb (n + 1)) (pt (n + 1)) k d

variable (A : Args) {m : (ℓ : Loc nD τ sig) → Buf (Elt Ideal) ℓ} {c : Dev nD} (hm : Holds m c A)

include hm in
/-- What the body leaves after point `n`. -/
theorem outs_eq : ∀ (n : ℕ) (h : n < cfg0.N), outsAt0 m c n h
    = (blk2 fun r d => A.dx (pb n) (pt n r) d, blk3 fun (_ : Fin 1) => acc9 A n, blk2 (acc10 A n),
      blk2 fun r d => A.h (pb n) (pt n r) d, blk2 fun r d => A.df (pb n) (pt n r) d, blk2 fun r j => A.act (pb n) (pt n r) j,
      blk3 fun (p : Fin 2) r j => if p.val = 0 then A.dg (pb n) (pt n r) j else A.du (pb n) (pt n r) j)
  | 0, h => by
    rw [outsAt0_A m c ⟨0, h⟩ rfl rfl, iblk0 A hm, iblk1 A hm, iblk2 A hm, iblk3 A hm, iblk4 A hm, iblk5 A hm, iblk6 A hm,
      iblk7 A hm]
    refine congrArg₂ Prod.mk (outA8 A (pb 0) (pt 0) ..) (congrArg₂ Prod.mk (outA9 A (pb 0) (pt 0) ..)
      (congrArg₂ Prod.mk (outA10 A (pb 0) (pt 0) ..) (congrArg₂ Prod.mk (outA11 A (pb 0) (pt 0) ..)
      (congrArg₂ Prod.mk (outA12 A (pb 0) (pt 0) ..) (congrArg₂ Prod.mk (outA13 A (pb 0) (pt 0) ..)
      (outA14 A (pb 0) (pt 0) ..))))))
  | n + 1, h => by
    have hN : cfg0.N = 32 := N_0
    have h0 : ¬(⟨n + 1, h⟩ : Fin cfg0.N).val % 32 = 0 := by dsimp only; omega
    have ih := outs_eq n (Nat.lt_of_succ_lt h)
    by_cases h1 : (n + 1) % 16 = 0
    · rw [outsAt0_C m c ⟨n + 1, h⟩ h0 h1, iblk0 A hm, iblk1 A hm, iblk2 A hm, iblk3 A hm, iblk4 A hm, iblk5 A hm,
        iblk6 A hm, iblk7 A hm]
      simp only [Nat.add_sub_cancel, ih]
      refine congrArg₂ Prod.mk (outC8 A (pb (n + 1)) (pt (n + 1)) ..) (congrArg₂ Prod.mk ((outC9 A (pb (n + 1)) (pt (n + 1)) ..).trans ?_)
        (congrArg₂ Prod.mk (outC10 A (pb (n + 1)) (pt (n + 1)) ..) (congrArg₂ Prod.mk (outC11 A (pb (n + 1)) (pt (n + 1)) ..)
        (congrArg₂ Prod.mk (outC12 A (pb (n + 1)) (pt (n + 1)) ..) (congrArg₂ Prod.mk (outC13 A (pb (n + 1)) (pt (n + 1)) ..)
        (outC14 A (pb (n + 1)) (pt (n + 1)) ..))))))
      exact congrArg blk3 (funext fun _ => funext fun k => funext fun d => by rw [acc9, if_pos h1])
    · rw [outsAt0_B m c ⟨n + 1, h⟩ h0 h1, iblk0 A hm, iblk1 A hm, iblk2 A hm, iblk3 A hm, iblk4 A hm, iblk5 A hm,
        iblk6 A hm, iblk7 A hm]
      simp only [Nat.add_sub_cancel, ih]
      refine congrArg₂ Prod.mk (outB8 A (pb (n + 1)) (pt (n + 1)) ..) (congrArg₂ Prod.mk ((outB9 A (pb (n + 1)) (pt (n + 1)) ..).trans ?_)
        (congrArg₂ Prod.mk (outB10 A (pb (n + 1)) (pt (n + 1)) ..) (congrArg₂ Prod.mk (outB11 A (pb (n + 1)) (pt (n + 1)) ..)
        (congrArg₂ Prod.mk (outB12 A (pb (n + 1)) (pt (n + 1)) ..) (congrArg₂ Prod.mk (outB13 A (pb (n + 1)) (pt (n + 1)) ..)
        (outB14 A (pb (n + 1)) (pt (n + 1)) ..))))))
      exact congrArg blk3 (funext fun _ => funext fun k => funext fun d => by rw [acc9, if_neg h1])

end Cert.Ffn.Ker

end
-- ==== Proof.KerSums.lean ====
/-
  The sums the kernel gathers over the grid are the step's sums over the tokens: sixteen blocks of 256 rows make a
  sequence, and two sequences make the batch.
-/
module

public import proofs.«01_k».proof.Proof.KerGrid

@[expose] public section

noncomputable section

namespace Cert.Ffn.Ker

open Finset

variable (A : Args)

/-- A sum over a sequence, block by block. -/
theorem sum_seq (F : Fin 4096 → ℝ) : ∑ q ∈ range 16, ∑ r : Fin 256, F (pt q r) = ∑ s, F s := by
  rw [Finset.sum_range, ← Equiv.sum_comp (finProdFinEquiv (m := 16) (n := 256)) F, Fintype.sum_prod_type]
  refine sum_congr rfl fun q _ => sum_congr rfl fun r _ => congrArg F (Fin.ext ?_)
  show 256 * (q.val % 16) + r.val = r.val + 256 * q.val
  omega

theorem acc9_eq (k : Fin 8) (d : Fin 1024) : ∀ n, acc9 A n k d = ∑ q ∈ range (n % 16 + 1), inc A (pb n) (pt q) k d
  | 0 => by rw [acc9, zero_add, Nat.zero_mod, zero_add, Finset.sum_range_one]
  | n + 1 => by
    rw [acc9]
    by_cases h : (n + 1) % 16 = 0
    · have e : pt (n + 1) = pt 0 := funext fun r => Fin.ext (by show 256 * ((n + 1) % 16) + r.val = 256 * (0 % 16) + r.val; rw [h])
      rw [if_pos h, h, zero_add, zero_add, Finset.sum_range_one, e]
    · have e : pt (n + 1) = pt (n % 16 + 1) := funext fun r => Fin.ext (by
        show 256 * ((n + 1) % 16) + r.val = 256 * ((n % 16 + 1) % 16) + r.val; omega)
      have eb : pb (n + 1) = pb n := Fin.ext (by show (n + 1) / 16 % 2 = n / 16 % 2; omega)
      have en : (n + 1) % 16 = n % 16 + 1 := by omega
      rw [if_neg h, acc9_eq k d n, en, Finset.sum_range_succ _ (n % 16 + 1), e, eb]

theorem acc10_eq (k : Fin 8) (d : Fin 1024) : ∀ n, acc10 A n k d = ∑ q ∈ range (n + 1), incw A (pb q) (pt q) k d
  | 0 => by rw [acc10, zero_add, zero_add, Finset.sum_range_one]
  | n + 1 => by rw [acc10, acc10_eq k d n, Finset.sum_range_succ _ (n + 1)]

/-- The sixteen blocks of a batch element add up to its gradients of shift, scale and gate. -/
theorem inc_sum (b : Fin 2) (k : Fin 8) (d : Fin 1024) : ∑ q ∈ range 16, inc A b (pt q) k d = A.dmod b k d := by
  unfold inc Args.dmod
  by_cases h1 : k.val = 1
  · have h0 : ¬ k.val = 0 := by omega
    simp only [if_pos h1, if_neg h0]
    rw [← Finset.sum_mul, sum_seq fun s => A.dh b s d * A.xn b s d]
    rfl
  · simp only [if_neg h1]
    by_cases h0 : k.val = 0
    · simp only [if_pos h0]
      exact sum_seq fun s => A.dh b s d
    · simp only [if_neg h0]
      by_cases h2 : k.val = 2
      · simp only [if_pos h2]
        exact sum_seq fun s => (1 / 2) * A.f b s d * A.dy b s d
      · simp only [if_neg h2]
        exact Finset.sum_const_zero

theorem acc9_last (n : ℕ) (h : n % 16 = 15) (k : Fin 8) (d : Fin 1024) : acc9 A n k d = A.dmod (pb n) k d := by
  rw [acc9_eq, h, inc_sum]

theorem incw_sum (b : Fin 2) (d : Fin 1024) (k : Fin 8) (h : k.val = 0) :
    ∑ q ∈ range 16, incw A b (pt q) k d = A.dhx b d * (1 + A.sc b d) := by
  unfold incw
  simp only [if_pos h]
  rw [← Finset.sum_mul, sum_seq fun s => A.dh b s d * A.xn b s d]
  rfl

/-- The blocks of both batch elements add up to the gradient of the norm's weight. -/
theorem acc10_last (k : Fin 8) (d : Fin 1024) : acc10 A 31 k d = A.dgn8 k d := by
  rw [acc10_eq]
  unfold Args.dgn8
  by_cases h : k.val = 0
  · rw [if_pos h, show (31 + 1 : ℕ) = 16 + 16 from rfl, Finset.sum_range_add]
    have e0 : ∑ q ∈ range 16, incw A (pb q) (pt q) k d = A.dhx 0 d * (1 + A.sc 0 d) := by
      rw [← incw_sum A 0 d k h]
      refine sum_congr rfl fun q hq => ?_
      have hq := mem_range.mp hq
      rw [show pb q = 0 from Fin.ext (by show q / 16 % 2 = 0; omega)]
    have e1 : ∑ q ∈ range 16, incw A (pb (16 + q)) (pt (16 + q)) k d = A.dhx 1 d * (1 + A.sc 1 d) := by
      rw [← incw_sum A 1 d k h]
      refine sum_congr rfl fun q hq => ?_
      have hq := mem_range.mp hq
      rw [show pb (16 + q) = 1 from Fin.ext (by show (16 + q) / 16 % 2 = 1; omega),
        show pt (16 + q) = pt q from funext fun r => Fin.ext (by
          show 256 * ((16 + q) % 16) + r.val = 256 * (q % 16) + r.val; omega)]
    rw [e0, e1]
    unfold Args.dgn
    rw [Fin.sum_univ_two]
  · rw [if_neg h]
    unfold incw
    simp only [if_neg h]
    exact Finset.sum_const_zero

end Cert.Ffn.Ker

end
-- ==== Proof.KerFinal.lean ====
/-
  The arrays the kernel's call ends with, when the program's arguments hold real numbers: the step's quantities.
-/
module

public import proofs.«01_k».proof.Proof.KerSums

@[expose] public section

set_option maxRecDepth 16384

noncomputable section

namespace Cert.Ffn.Ker

open Idealize.ShloMosaic Cert.KernelIdeal Cert.KernelIdeal.Gen
open Idealize.ShloMosaic.Pipeline (Dat)

/-- A token lies in its block of 256. -/
theorem in_block (n : ℕ) : n / 256 * 256 ≤ n ∧ n < n / 256 * 256 + 256 := by omega

variable (A : Args) {m : (ℓ : Loc nD τ sig) → Buf (Elt Ideal) ℓ} {c : Dev nD} (hm : Holds m c A)
include hm

/-- Window 8. -/
theorem final8 : (dats m 0 c).arrAt 8 cfg0.N
    = (fun i : S8192x1024.Idx => ((A.dx (Args.bt (i 0)) (Args.ps (i 0)) (i 1) : ℝ) : EReal)) := by
  refine (dats m 0 c).arrAt_eq_of_cover 8 (fun i : S8192x1024.Idx => ((A.dx (Args.bt (i 0)) (Args.ps (i 0)) (i 1) : ℝ) : EReal))
    (fun t _ => ?_) fun i => ?_
  · have ht : t.val < 32 := lt_of_lt_of_eq t.isLt N_0
    rw [Value.flushed8, outs_eq A hm]
    funext y
    rw [View.read_apply]
    refine congrArg Real.toEReal ?_
    refine congr (congrArg₂ A.dx (tok_bt t (y 0) ?_).symm (tok_ps t (y 0) ?_).symm) (Fin.ext ?_)
    · show win0_8.index t 0 * 256 + 1 * (y 0).val = _
      rw [(idx8 t).1, Nat.one_mul]
    · show win0_8.index t 0 * 256 + 1 * (y 0).val = _
      rw [(idx8 t).1, Nat.one_mul]
    · show (y 1).val = win0_8.index t 1 * 1024 + 1 * (y 1).val
      rw [(idx8 t).2, Nat.one_mul, Nat.zero_mul, Nat.zero_add]
  · have h0 : (i 0 : Fin 8192).val < 8192 := (i 0).isLt
    have h1 : (i 1 : Fin 1024).val < 1024 := (i 1).isLt
    have ht : (i 0 : Fin 8192).val / 256 < cfg0.N := by rw [show cfg0.N = 32 from N_0]; omega
    refine ⟨⟨(i 0 : Fin 8192).val / 256, ht⟩, flush0_8 _, ?_⟩
    show i ∈ ((View.whole main_v57_0).slice (win0_8.rect ⟨(i 0 : Fin 8192).val / 256, ht⟩)).set
    rw [View.set_slice_whole, Rect.mem_set_unit]
    have hi := idx8 ⟨(i 0 : Fin 8192).val / 256, ht⟩
    intro a
    match a with
    | ⟨0, _⟩ =>
      show win0_8.index _ 0 * 256 ≤ (i 0 : Fin 8192).val ∧ (i 0 : Fin 8192).val < win0_8.index _ 0 * 256 + 256
      rw [hi.1]; exact in_block _
    | ⟨1, _⟩ =>
      show win0_8.index _ 1 * 1024 ≤ (i 1 : Fin 1024).val ∧ (i 1 : Fin 1024).val < win0_8.index _ 1 * 1024 + 1024
      rw [hi.2]; omega

/-- Window 11. -/
theorem final11 : (dats m 0 c).arrAt 11 cfg0.N
    = (fun i : S8192x1024.Idx => ((A.h (Args.bt (i 0)) (Args.ps (i 0)) (i 1) : ℝ) : EReal)) := by
  refine (dats m 0 c).arrAt_eq_of_cover 11 (fun i : S8192x1024.Idx => ((A.h (Args.bt (i 0)) (Args.ps (i 0)) (i 1) : ℝ) : EReal))
    (fun t _ => ?_) fun i => ?_
  · have ht : t.val < 32 := lt_of_lt_of_eq t.isLt N_0
    rw [Value.flushed11, outs_eq A hm]
    funext y
    rw [View.read_apply]
    refine congrArg Real.toEReal ?_
    refine congr (congrArg₂ A.h (tok_bt t (y 0) ?_).symm (tok_ps t (y 0) ?_).symm) (Fin.ext ?_)
    · show win0_11.index t 0 * 256 + 1 * (y 0).val = _
      rw [(idx11 t).1, Nat.one_mul]
    · show win0_11.index t 0 * 256 + 1 * (y 0).val = _
      rw [(idx11 t).1, Nat.one_mul]
    · show (y 1).val = win0_11.index t 1 * 1024 + 1 * (y 1).val
      rw [(idx11 t).2, Nat.one_mul, Nat.zero_mul, Nat.zero_add]
  · have h0 : (i 0 : Fin 8192).val < 8192 := (i 0).isLt
    have h1 : (i 1 : Fin 1024).val < 1024 := (i 1).isLt
    have ht : (i 0 : Fin 8192).val / 256 < cfg0.N := by rw [show cfg0.N = 32 from N_0]; omega
    refine ⟨⟨(i 0 : Fin 8192).val / 256, ht⟩, flush0_11 _, ?_⟩
    show i ∈ ((View.whole main_v57_3).slice (win0_11.rect ⟨(i 0 : Fin 8192).val / 256, ht⟩)).set
    rw [View.set_slice_whole, Rect.mem_set_unit]
    have hi := idx11 ⟨(i 0 : Fin 8192).val / 256, ht⟩
    intro a
    match a with
    | ⟨0, _⟩ =>
      show win0_11.index _ 0 * 256 ≤ (i 0 : Fin 8192).val ∧ (i 0 : Fin 8192).val < win0_11.index _ 0 * 256 + 256
      rw [hi.1]; exact in_block _
    | ⟨1, _⟩ =>
      show win0_11.index _ 1 * 1024 ≤ (i 1 : Fin 1024).val ∧ (i 1 : Fin 1024).val < win0_11.index _ 1 * 1024 + 1024
      rw [hi.2]; omega

/-- Window 12. -/
theorem final12 : (dats m 0 c).arrAt 12 cfg0.N
    = (fun i : S8192x1024.Idx => ((A.df (Args.bt (i 0)) (Args.ps (i 0)) (i 1) : ℝ) : EReal)) := by
  refine (dats m 0 c).arrAt_eq_of_cover 12 (fun i : S8192x1024.Idx => ((A.df (Args.bt (i 0)) (Args.ps (i 0)) (i 1) : ℝ) : EReal))
    (fun t _ => ?_) fun i => ?_
  · have ht : t.val < 32 := lt_of_lt_of_eq t.isLt N_0
    rw [Value.flushed12, outs_eq A hm]
    funext y
    rw [View.read_apply]
    refine congrArg Real.toEReal ?_
    refine congr (congrArg₂ A.df (tok_bt t (y 0) ?_).symm (tok_ps t (y 0) ?_).symm) (Fin.ext ?_)
    · show win0_12.index t 0 * 256 + 1 * (y 0).val = _
      rw [(idx12 t).1, Nat.one_mul]
    · show win0_12.index t 0 * 256 + 1 * (y 0).val = _
      rw [(idx12 t).1, Nat.one_mul]
    · show (y 1).val = win0_12.index t 1 * 1024 + 1 * (y 1).val
      rw [(idx12 t).2, Nat.one_mul, Nat.zero_mul, Nat.zero_add]
  · have h0 : (i 0 : Fin 8192).val < 8192 := (i 0).isLt
    have h1 : (i 1 : Fin 1024).val < 1024 := (i 1).isLt
    have ht : (i 0 : Fin 8192).val / 256 < cfg0.N := by rw [show cfg0.N = 32 from N_0]; omega
    refine ⟨⟨(i 0 : Fin 8192).val / 256, ht⟩, flush0_12 _, ?_⟩
    show i ∈ ((View.whole main_v57_4).slice (win0_12.rect ⟨(i 0 : Fin 8192).val / 256, ht⟩)).set
    rw [View.set_slice_whole, Rect.mem_set_unit]
    have hi := idx12 ⟨(i 0 : Fin 8192).val / 256, ht⟩
    intro a
    match a with
    | ⟨0, _⟩ =>
      show win0_12.index _ 0 * 256 ≤ (i 0 : Fin 8192).val ∧ (i 0 : Fin 8192).val < win0_12.index _ 0 * 256 + 256
      rw [hi.1]; exact in_block _
    | ⟨1, _⟩ =>
      show win0_12.index _ 1 * 1024 ≤ (i 1 : Fin 1024).val ∧ (i 1 : Fin 1024).val < win0_12.index _ 1 * 1024 + 1024
      rw [hi.2]; omega

/-- Window 13. -/
theorem final13 : (dats m 0 c).arrAt 13 cfg0.N
    = (fun i : S8192x2816.Idx => ((A.act (Args.bt (i 0)) (Args.ps (i 0)) (i 1) : ℝ) : EReal)) := by
  refine (dats m 0 c).arrAt_eq_of_cover 13 (fun i : S8192x2816.Idx => ((A.act (Args.bt (i 0)) (Args.ps (i 0)) (i 1) : ℝ) : EReal))
    (fun t _ => ?_) fun i => ?_
  · have ht : t.val < 32 := lt_of_lt_of_eq t.isLt N_0
    rw [Value.flushed13, outs_eq A hm]
    funext y
    rw [View.read_apply]
    refine congrArg Real.toEReal ?_
    refine congr (congrArg₂ A.act (tok_bt t (y 0) ?_).symm (tok_ps t (y 0) ?_).symm) (Fin.ext ?_)
    · show win0_13.index t 0 * 256 + 1 * (y 0).val = _
      rw [(idx13 t).1, Nat.one_mul]
    · show win0_13.index t 0 * 256 + 1 * (y 0).val = _
      rw [(idx13 t).1, Nat.one_mul]
    · show (y 1).val = win0_13.index t 1 * 2816 + 1 * (y 1).val
      rw [(idx13 t).2, Nat.one_mul, Nat.zero_mul, Nat.zero_add]
  · have h0 : (i 0 : Fin 8192).val < 8192 := (i 0).isLt
    have h1 : (i 1 : Fin 2816).val < 2816 := (i 1).isLt
    have ht : (i 0 : Fin 8192).val / 256 < cfg0.N := by rw [show cfg0.N = 32 from N_0]; omega
    refine ⟨⟨(i 0 : Fin 8192).val / 256, ht⟩, flush0_13 _, ?_⟩
    show i ∈ ((View.whole main_v57_5).slice (win0_13.rect ⟨(i 0 : Fin 8192).val / 256, ht⟩)).set
    rw [View.set_slice_whole, Rect.mem_set_unit]
    have hi := idx13 ⟨(i 0 : Fin 8192).val / 256, ht⟩
    intro a
    match a with
    | ⟨0, _⟩ =>
      show win0_13.index _ 0 * 256 ≤ (i 0 : Fin 8192).val ∧ (i 0 : Fin 8192).val < win0_13.index _ 0 * 256 + 256
      rw [hi.1]; exact in_block _
    | ⟨1, _⟩ =>
      show win0_13.index _ 1 * 2816 ≤ (i 1 : Fin 2816).val ∧ (i 1 : Fin 2816).val < win0_13.index _ 1 * 2816 + 2816
      rw [hi.2]; omega

/-- Window 14. -/
theorem final14 : (dats m 0 c).arrAt 14 cfg0.N
    = (fun i : S2x8192x2816.Idx => ((A.dgus (i 0) (i 1) (i 2) : ℝ) : EReal)) := by
  refine (dats m 0 c).arrAt_eq_of_cover 14 (fun i : S2x8192x2816.Idx => ((A.dgus (i 0) (i 1) (i 2) : ℝ) : EReal))
    (fun t _ => ?_) fun i => ?_
  · rw [Value.flushed14, outs_eq A hm]
    funext y
    rw [View.read_apply]
    let j : S2x8192x2816.Idx := ((cfg0.win 14).blk t).view.emb y
    have e0 : (j 0).val = (y 0).val := by
      show win0_14.index t 0 * 2 + 1 * (y 0).val = _
      rw [(idx14 t).1, Nat.one_mul, Nat.zero_mul, Nat.zero_add]
    have e1 : (j 1).val = t.val * 256 + (y 1).val := by
      show win0_14.index t 1 * 256 + 1 * (y 1).val = _
      rw [(idx14 t).2.1, Nat.one_mul]
    have e2 : j 2 = y 2 := Fin.ext (by
      show win0_14.index t 2 * 2816 + 1 * (y 2).val = _
      rw [(idx14 t).2.2, Nat.one_mul, Nat.zero_mul, Nat.zero_add])
    show ((if (y 0).val = 0 then A.dg (pb t.val) (pt t.val (y 1)) (y 2) else A.du (pb t.val) (pt t.val (y 1)) (y 2) : ℝ) : EReal)
      = ((A.dgus (j 0) (j 1) (j 2) : ℝ) : EReal)
    unfold Args.dgus
    rw [tok_bt t (y 1) e1, tok_ps t (y 1) e1, e2, e0]
  · have h0 : (i 0 : Fin 2).val < 2 := (i 0).isLt
    have h1 : (i 1 : Fin 8192).val < 8192 := (i 1).isLt
    have h2 : (i 2 : Fin 2816).val < 2816 := (i 2).isLt
    have ht : (i 1 : Fin 8192).val / 256 < cfg0.N := by rw [show cfg0.N = 32 from N_0]; omega
    refine ⟨⟨(i 1 : Fin 8192).val / 256, ht⟩, flush0_14 _, ?_⟩
    show i ∈ ((View.whole main_v57_6).slice (win0_14.rect ⟨(i 1 : Fin 8192).val / 256, ht⟩)).set
    rw [View.set_slice_whole, Rect.mem_set_unit]
    have hi := idx14 ⟨(i 1 : Fin 8192).val / 256, ht⟩
    intro a
    match a with
    | ⟨0, _⟩ =>
      show win0_14.index _ 0 * 2 ≤ (i 0 : Fin 2).val ∧ (i 0 : Fin 2).val < win0_14.index _ 0 * 2 + 2
      rw [hi.1]; omega
    | ⟨1, _⟩ =>
      show win0_14.index _ 1 * 256 ≤ (i 1 : Fin 8192).val ∧ (i 1 : Fin 8192).val < win0_14.index _ 1 * 256 + 256
      rw [hi.2.1]; exact in_block _
    | ⟨2, _⟩ =>
      show win0_14.index _ 2 * 2816 ≤ (i 2 : Fin 2816).val ∧ (i 2 : Fin 2816).val < win0_14.index _ 2 * 2816 + 2816
      rw [hi.2.2]; omega

/-- Window 9, written back after the last block of each batch element. -/
theorem final9 : (dats m 0 c).arrAt 9 cfg0.N = (fun i : S2x8x1024.Idx => ((A.dmod (i 0) (i 1) (i 2) : ℝ) : EReal)) := by
  refine (dats m 0 c).arrAt_eq_of_cover 9 (fun i : S2x8x1024.Idx => ((A.dmod (i 0) (i 1) (i 2) : ℝ) : EReal))
    (fun t hf => ?_) fun i => ?_
  · have ht : t.val < 32 := lt_of_lt_of_eq t.isLt N_0
    rw [Value.flushed9, outs_eq A hm]
    funext y
    rw [View.read_apply]
    let j : S2x8x1024.Idx := ((cfg0.win 9).blk t).view.emb y
    have y0 : (y 0).val = 0 := Nat.lt_one_iff.mp (y 0).isLt
    have e0 : j 0 = pb t.val := Fin.ext (by
      show win0_9.index t 0 * 1 + 1 * (y 0).val = t.val / 16 % 2
      rw [(idx9 t).1, y0]; omega)
    have e1 : j 1 = y 1 := Fin.ext (by
      show win0_9.index t 1 * 8 + 1 * (y 1).val = _
      rw [(idx9 t).2.1, Nat.one_mul, Nat.zero_mul, Nat.zero_add])
    have e2 : j 2 = y 2 := Fin.ext (by
      show win0_9.index t 2 * 1024 + 1 * (y 2).val = _
      rw [(idx9 t).2.2, Nat.one_mul, Nat.zero_mul, Nat.zero_add])
    show ((acc9 A t.val (y 1) (y 2) : ℝ) : EReal) = ((A.dmod (j 0) (j 1) (j 2) : ℝ) : EReal)
    rw [e0, e1, e2]
    exact congrArg Real.toEReal (acc9_last A t.val ((flush0_9 t).mp hf) _ _)
  · have h0 : (i 0 : Fin 2).val < 2 := (i 0).isLt
    have h1 : (i 1 : Fin 8).val < 8 := (i 1).isLt
    have h2 : (i 2 : Fin 1024).val < 1024 := (i 2).isLt
    have ht : 16 * (i 0 : Fin 2).val + 15 < cfg0.N := by rw [show cfg0.N = 32 from N_0]; omega
    refine ⟨⟨16 * (i 0 : Fin 2).val + 15, ht⟩, (flush0_9 _).mpr (by show (16 * (i 0 : Fin 2).val + 15) % 16 = 15; omega), ?_⟩
    show i ∈ ((View.whole main_v57_1).slice (win0_9.rect ⟨16 * (i 0 : Fin 2).val + 15, ht⟩)).set
    rw [View.set_slice_whole, Rect.mem_set_unit]
    have hi := idx9 ⟨16 * (i 0 : Fin 2).val + 15, ht⟩
    intro a
    match a with
    | ⟨0, _⟩ =>
      show win0_9.index _ 0 * 1 ≤ (i 0 : Fin 2).val ∧ (i 0 : Fin 2).val < win0_9.index _ 0 * 1 + 1
      rw [hi.1]; show (16 * (i 0 : Fin 2).val + 15) / 16 * 1 ≤ _ ∧ _ < (16 * (i 0 : Fin 2).val + 15) / 16 * 1 + 1; omega
    | ⟨1, _⟩ =>
      show win0_9.index _ 1 * 8 ≤ (i 1 : Fin 8).val ∧ (i 1 : Fin 8).val < win0_9.index _ 1 * 8 + 8
      rw [hi.2.1]; omega
    | ⟨2, _⟩ =>
      show win0_9.index _ 2 * 1024 ≤ (i 2 : Fin 1024).val ∧ (i 2 : Fin 1024).val < win0_9.index _ 2 * 1024 + 1024
      rw [hi.2.2]; omega

/-- Window 10, written back after the last block. -/
theorem final10 : (dats m 0 c).arrAt 10 cfg0.N = (fun i : S8x1024.Idx => ((A.dgn8 (i 0) (i 1) : ℝ) : EReal)) := by
  refine (dats m 0 c).arrAt_eq_of_cover 10 (fun i : S8x1024.Idx => ((A.dgn8 (i 0) (i 1) : ℝ) : EReal))
    (fun t hf => ?_) fun i => ?_
  · have ht : t.val < 32 := lt_of_lt_of_eq t.isLt N_0
    have h31 : t.val = 31 := by have := (flush0_10 t).mp hf; omega
    rw [Value.flushed10, outs_eq A hm]
    funext y
    rw [View.read_apply]
    let j : S8x1024.Idx := ((cfg0.win 10).blk t).view.emb y
    have e1 : j 0 = y 0 := Fin.ext (by
      show win0_10.index t 0 * 8 + 1 * (y 0).val = _
      rw [(idx10 t).1, Nat.one_mul, Nat.zero_mul, Nat.zero_add])
    have e2 : j 1 = y 1 := Fin.ext (by
      show win0_10.index t 1 * 1024 + 1 * (y 1).val = _
      rw [(idx10 t).2, Nat.one_mul, Nat.zero_mul, Nat.zero_add])
    show ((acc10 A t.val (y 0) (y 1) : ℝ) : EReal) = ((A.dgn8 (j 0) (j 1) : ℝ) : EReal)
    rw [h31, e1, e2]
    exact congrArg Real.toEReal (acc10_last A _ _)
  · have h1 : (i 0 : Fin 8).val < 8 := (i 0).isLt
    have h2 : (i 1 : Fin 1024).val < 1024 := (i 1).isLt
    have ht : 31 < cfg0.N := by rw [show cfg0.N = 32 from N_0]; omega
    refine ⟨⟨31, ht⟩, (flush0_10 _).mpr rfl, ?_⟩
    show i ∈ ((View.whole main_v57_2).slice (win0_10.rect ⟨31, ht⟩)).set
    rw [View.set_slice_whole, Rect.mem_set_unit]
    have hi := idx10 ⟨31, ht⟩
    intro a
    match a with
    | ⟨0, _⟩ =>
      show win0_10.index _ 0 * 8 ≤ (i 0 : Fin 8).val ∧ (i 0 : Fin 8).val < win0_10.index _ 0 * 8 + 8
      rw [hi.1]; omega
    | ⟨1, _⟩ =>
      show win0_10.index _ 1 * 1024 ≤ (i 1 : Fin 1024).val ∧ (i 1 : Fin 1024).val < win0_10.index _ 1 * 1024 + 1024
      rw [hi.2]; omega

end Cert.Ffn.Ker

end
-- ==== Proof.RefBwd.lean ====
/-
  The backward stages of the reference program, read as real numbers: the cotangents of the branch, the activation, the
  two halves of the projection, the modulated row, and the gradients of the input and of the modulation.
-/
module

public import proofs.«01_k».proof.Proof.RefFwd
public import Idealize.ShloMosaic.Lib.Pointwise

@[expose] public section

set_option maxRecDepth 16384

noncomputable section

namespace Cert.Ffn.Ref

open Idealize.ShloMosaic Cert.ReferenceIdeal Cert.ReferenceIdeal.Read

variable (A : Args)

/-! A reshape that only adds or drops an axis of size one keeps the other coordinates. -/

theorem e44 (i : S2x1x1024.Idx) : idx_main_v44 i = ix2 (n0 := 2) (n1 := 1024) (i 0) (i 2) := by
  have h0 : (i 0).val < 2 := (i 0).isLt
  have h1 : (i 1).val < 1 := (i 1).isLt
  have h2 : (i 2).val < 1024 := (i 2).isLt
  refine funext fun a => Fin.ext ?_
  match a with
  | ⟨0, _⟩ => simp; omega
  | ⟨1, _⟩ => simp; omega

theorem e55 (i : S2x1x1024.Idx) : idx_main_v55 i = ix2 (n0 := 2) (n1 := 1024) (i 0) (i 2) := by
  have h0 : (i 0).val < 2 := (i 0).isLt
  have h1 : (i 1).val < 1 := (i 1).isLt
  have h2 : (i 2).val < 1024 := (i 2).isLt
  refine funext fun a => Fin.ext ?_
  match a with
  | ⟨0, _⟩ => simp; omega
  | ⟨1, _⟩ => simp; omega

theorem e59 (i : S2x1x1024.Idx) : idx_main_v59 i = ix2 (n0 := 2) (n1 := 1024) (i 0) (i 2) := by
  have h0 : (i 0).val < 2 := (i 0).isLt
  have h1 : (i 1).val < 1 := (i 1).isLt
  have h2 : (i 2).val < 1024 := (i 2).isLt
  refine funext fun a => Fin.ext ?_
  match a with
  | ⟨0, _⟩ => simp; omega
  | ⟨1, _⟩ => simp; omega

theorem e65 (i : S2x1x1024.Idx) : idx_main_v65 i = ix2 (n0 := 2) (n1 := 1024) (i 0) (i 2) := by
  have h0 : (i 0).val < 2 := (i 0).isLt
  have h1 : (i 1).val < 1 := (i 1).isLt
  have h2 : (i 2).val < 1024 := (i 2).isLt
  refine funext fun a => Fin.ext ?_
  match a with
  | ⟨0, _⟩ => simp; omega
  | ⟨1, _⟩ => simp; omega

theorem e72 (i : S2x4096x1.Idx) : idx_main_v72 i = ix2 (n0 := 2) (n1 := 4096) (i 0) (i 1) := by
  have h0 : (i 0).val < 2 := (i 0).isLt
  have h1 : (i 1).val < 4096 := (i 1).isLt
  have h2 : (i 2).val < 1 := (i 2).isLt
  refine funext fun a => Fin.ext ?_
  match a with
  | ⟨0, _⟩ => simp; omega
  | ⟨1, _⟩ => simp; omega

/-- Half of one plus the gate. -/
theorem r35 (i : S2x1x1024.Idx) : val_main_v35 (F := Ideal) (lift2 A.ga) i
    = (((1 / 2) * (1 + A.ga (i 0) (i 2)) : ℝ) : EReal) := by
  rw [val_main_v35_apply, val_main_v34_apply, val_main_v33_apply, val_main_v32_apply, val_main_v31_apply,
    val_main_cst_4_apply, val_main_cst_5_apply, Ideal.mulf_def, Ideal.addf_def, Ideal.ofBits_def, Ideal.ofBits_def,
    w_one, w_half, ← EReal.coe_add, ← EReal.coe_mul]
  rfl

/-- The cotangent of the output, as it is given. -/
theorem r39 (i : S2x4096x1024.Idx) : val_main_v39 (F := Ideal) (lift3 A.dy) i
    = ((A.dy (i 0) (i 1) (i 2) : ℝ) : EReal) := by
  rw [val_main_v39_apply]
  refine congrArg (lift3 A.dy) (funext fun a => Fin.ext ?_)
  have h0 : (i 0).val < 2 := (i 0).isLt
  have h1 : (i 1).val < 4096 := (i 1).isLt
  have h2 : (i 2).val < 1024 := (i 2).isLt
  match a with
  | ⟨0, _⟩ => simp; omega
  | ⟨1, _⟩ => simp; omega
  | ⟨2, _⟩ => simp; omega

/-- The cotangent of the branch. -/
theorem r41 (i : S2x4096x1024.Idx) : val_main_v41 (F := Ideal) (lift2 A.ga) (lift3 A.dy) i
    = ((A.df (i 0) (i 1) (i 2) : ℝ) : EReal) := by
  rw [val_main_v41_apply, val_main_v40_apply, r35, r39, Ideal.mulf_def, ← EReal.coe_mul]
  rfl

/-- The output's cotangent times the branch, summed over the sequence. -/
theorem r43 (i : S2x1024.Idx) : val_main_v43 (F := Ideal) (lift3 A.x) (lift2 A.sh) (lift2 A.sc) (lift1 A.gn) (lift2 A.wu) (lift2 A.wd) (lift3 A.dy) i = ((∑ s, A.dy (i 0) s (i 1) * A.f (i 0) s (i 1) : ℝ) : EReal) := by
  rw [val_main_v43_apply]
  simp only [val_main_v42_apply, r30, r39, val_main_cst_6_apply, Ideal.ofBits_def, w_zero, Ideal.mulf_def, ← EReal.coe_mul, coe_sum, ← EReal.coe_add, zero_add]
  rfl

/-- The same with an axis of size one. -/
theorem r44 (i : S2x1x1024.Idx) : val_main_v44 (F := Ideal) (lift3 A.x) (lift2 A.sh) (lift2 A.sc) (lift1 A.gn) (lift2 A.wu) (lift2 A.wd) (lift3 A.dy) i = ((∑ s, A.dy (i 0) s (i 2) * A.f (i 0) s (i 2) : ℝ) : EReal) := by
  rw [val_main_v44_apply, e44, r43]
  rfl

/-- The gradient of the gate. -/
theorem r47 (i : S2x1024.Idx) : val_main_v47 (F := Ideal) (lift3 A.x) (lift2 A.sh) (lift2 A.sc) (lift1 A.gn) (lift2 A.wu) (lift2 A.wd) (lift3 A.dy) i
    = ((A.dga (i 0) (i 1) : ℝ) : EReal) := by
  rw [val_main_v47_apply]
  simp only [val_main_v46_apply, val_main_v45_apply, r44, val_main_cst_8_apply, val_main_cst_7_apply, Ideal.mulf_def, Ideal.ofBits_def, w_half,
    w_zero, ← EReal.coe_mul, coe_sum, ← EReal.coe_add, zero_add]
  simp only [Finset.mul_sum, Fin.sum_univ_one]
  unfold Args.dga
  refine congrArg Real.toEReal (Finset.sum_congr rfl fun s _ => ?_)
  show 1 / 2 * (A.dy (i 0) s (i 1) * A.f (i 0) s (i 1)) = 1 / 2 * A.f (i 0) s (i 1) * A.dy (i 0) s (i 1)
  ring

/-- The cotangent of the activation. -/
theorem r48 (i : S2x4096x2816.Idx) : val_main_v48 (F := Ideal) (lift2 A.ga) (lift2 A.wd) (lift3 A.dy) i
    = ((A.da (i 0) (i 1) (i 2) : ℝ) : EReal) := by
  rw [val_main_v48_apply]
  simp only [r41, ← EReal.coe_mul, coe_sum]
  rfl

/-- The cotangent of the value half. -/
theorem r49 (i : S2x4096x2816.Idx) : val_main_v49 (F := Ideal) (lift3 A.x) (lift2 A.sh) (lift2 A.sc) (lift2 A.ga) (lift1 A.gn) (lift2 A.wu) (lift2 A.wd) (lift3 A.dy) i
    = ((A.du (i 0) (i 1) (i 2) : ℝ) : EReal) := by
  rw [val_main_v49_apply, r28, r48, Ideal.mulf_def, ← EReal.coe_mul, mul_comm]
  rfl

/-- The cotangent of the gate half. -/
theorem r51 (i : S2x4096x2816.Idx) : val_main_v51 (F := Ideal) (lift3 A.x) (lift2 A.sh) (lift2 A.sc) (lift2 A.ga) (lift1 A.gn) (lift2 A.wu) (lift2 A.wd) (lift3 A.dy) i
    = ((A.dg (i 0) (i 1) (i 2) : ℝ) : EReal) := by
  rw [val_main_v51_apply, val_main_call1_v2_apply, val_main_call1_v1_apply, val_main_call1_v0_apply, val_main_v50_apply,
    r48, r27, r26, rsg, val_main_v28_1_apply, val_main_call0_v7_apply, val_main_call0_v6_apply, rsg,
    val_main_call0_cst_1_apply]
  simp only [Ideal.mulf_def, Ideal.addf_def, Ideal.subf_def, Ideal.ofBits_def, w_one, ← EReal.coe_mul,
    ← EReal.coe_add, ← EReal.coe_sub]
  unfold Args.dg
  congr 1
  ring

/-- The cotangents of both halves, side by side. -/
theorem r52 (i : S2x4096x5632.Idx) : val_main_v52 (F := Ideal) (lift3 A.x) (lift2 A.sh) (lift2 A.sc) (lift2 A.ga) (lift1 A.gn) (lift2 A.wu) (lift2 A.wd) (lift3 A.dy) i
    = ((A.dgu (i 0) (i 1) (i 2) : ℝ) : EReal) := by
  unfold val_main_v52 Args.dgu
  by_cases h : (i 2).val < 2816
  · rw [dif_pos h, concatenate_pair_apply_left (t := S2x4096x5632) (s₁ := S2x4096x2816) (s₂ := S2x4096x2816) 2 _ _ _ i rfl (ix3 (n0 := 2) (n1 := 4096) (n2 := 2816) (i 0) (i 1) ⟨(i 2).val, h⟩)
      (by intro a; match a with | ⟨0, _⟩ => rfl | ⟨1, _⟩ => rfl | ⟨2, _⟩ => rfl), r51]
    rfl
  · have h2 : (i 2).val < 5632 := (i 2).isLt
    rw [dif_neg h, concatenate_pair_apply_right (t := S2x4096x5632) (s₁ := S2x4096x2816) (s₂ := S2x4096x2816) 2 _ _ _ i rfl rfl (ix3 (n0 := 2) (n1 := 4096) (n2 := 2816) (i 0) (i 1) ⟨(i 2).val - 2816, by omega⟩)
      (by intro a ha; match a with | ⟨0, _⟩ => rfl | ⟨1, _⟩ => rfl | ⟨2, _⟩ => exact absurd rfl ha)
      (by show (i 2).val - 2816 + 2816 = (i 2).val; omega), r49]
    rfl

/-- The cotangent of the modulated row. -/
theorem r53 (i : S2x4096x1024.Idx) : val_main_v53 (F := Ideal) (lift3 A.x) (lift2 A.sh) (lift2 A.sc) (lift2 A.ga) (lift1 A.gn) (lift2 A.wu) (lift2 A.wd) (lift3 A.dy) i
    = ((A.dh (i 0) (i 1) (i 2) : ℝ) : EReal) := by
  rw [val_main_v53_apply]
  simp only [r52, ← EReal.coe_mul, coe_sum]
  exact congrArg Real.toEReal (A.sum_dgu (i 0) (i 1) (i 2))

/-- The modulated row's cotangent, summed over the sequence. -/
theorem r54 (i : S2x1024.Idx) : val_main_v54 (F := Ideal) (lift3 A.x) (lift2 A.sh) (lift2 A.sc) (lift2 A.ga) (lift1 A.gn) (lift2 A.wu) (lift2 A.wd) (lift3 A.dy) i = ((∑ s, A.dh (i 0) s (i 1) : ℝ) : EReal) := by
  rw [val_main_v54_apply]
  simp only [r53, val_main_cst_9_apply, Ideal.ofBits_def, w_zero, Ideal.mulf_def, ← EReal.coe_mul, coe_sum, ← EReal.coe_add, zero_add]
  rfl

/-- The same with an axis of size one. -/
theorem r55 (i : S2x1x1024.Idx) : val_main_v55 (F := Ideal) (lift3 A.x) (lift2 A.sh) (lift2 A.sc) (lift2 A.ga) (lift1 A.gn) (lift2 A.wu) (lift2 A.wd) (lift3 A.dy) i = ((∑ s, A.dh (i 0) s (i 2) : ℝ) : EReal) := by
  rw [val_main_v55_apply, e55, r54]
  rfl

/-- The gradient of the shift. -/
theorem r56 (i : S2x1024.Idx) : val_main_v56 (F := Ideal) (lift3 A.x) (lift2 A.sh) (lift2 A.sc) (lift2 A.ga) (lift1 A.gn) (lift2 A.wu) (lift2 A.wd) (lift3 A.dy) i
    = ((A.dsh (i 0) (i 1) : ℝ) : EReal) := by
  rw [val_main_v56_apply]
  simp only [r55, val_main_cst_10_apply, Ideal.ofBits_def,
    w_zero, coe_sum, ← EReal.coe_add, zero_add, Fin.sum_univ_one]
  rfl

/-- The cotangent of the modulated row, scaled back. -/
theorem r61 (i : S2x4096x1024.Idx) : val_main_v61 (F := Ideal) (lift3 A.x) (lift2 A.sh) (lift2 A.sc) (lift2 A.ga) (lift1 A.gn) (lift2 A.wu) (lift2 A.wd) (lift3 A.dy) i
    = ((A.dh (i 0) (i 1) (i 2) * (1 + A.sc (i 0) (i 2)) : ℝ) : EReal) := by
  rw [val_main_v61_apply, r53, val_main_v60_apply, val_main_v19_apply, r18, Ideal.mulf_def, ← EReal.coe_mul]
  rfl

/-- The weighted row times its cotangent, summed over the sequence. -/
theorem r58 (i : S2x1024.Idx) : val_main_v58 (F := Ideal) (lift3 A.x) (lift2 A.sh) (lift2 A.sc) (lift2 A.ga) (lift1 A.gn) (lift2 A.wu) (lift2 A.wd) (lift3 A.dy) i = ((∑ s, A.xn (i 0) s (i 1) * A.gn (i 1) * A.dh (i 0) s (i 1) : ℝ) : EReal) := by
  rw [val_main_v58_apply]
  simp only [val_main_v57_apply, r16, r53, val_main_cst_11_apply, Ideal.ofBits_def, w_zero, Ideal.mulf_def, ← EReal.coe_mul, coe_sum, ← EReal.coe_add, zero_add]
  rfl

/-- The same with an axis of size one. -/
theorem r59 (i : S2x1x1024.Idx) : val_main_v59 (F := Ideal) (lift3 A.x) (lift2 A.sh) (lift2 A.sc) (lift2 A.ga) (lift1 A.gn) (lift2 A.wu) (lift2 A.wd) (lift3 A.dy) i = ((∑ s, A.xn (i 0) s (i 2) * A.gn (i 2) * A.dh (i 0) s (i 2) : ℝ) : EReal) := by
  rw [val_main_v59_apply, e59, r58]
  rfl

/-- The gradient of the scale. -/
theorem r62 (i : S2x1024.Idx) : val_main_v62 (F := Ideal) (lift3 A.x) (lift2 A.sh) (lift2 A.sc) (lift2 A.ga) (lift1 A.gn) (lift2 A.wu) (lift2 A.wd) (lift3 A.dy) i
    = ((A.dsc (i 0) (i 1) : ℝ) : EReal) := by
  rw [val_main_v62_apply]
  simp only [r59,
    val_main_cst_12_apply, Ideal.ofBits_def, w_zero, Ideal.mulf_def, ← EReal.coe_mul, coe_sum, ← EReal.coe_add,
    zero_add, Fin.sum_univ_one]
  unfold Args.dsc Args.dhx
  rw [Finset.sum_mul]
  refine congrArg Real.toEReal (Finset.sum_congr rfl fun s _ => ?_)
  show A.xn (i 0) s (i 1) * A.gn (i 1) * A.dh (i 0) s (i 1) = A.dh (i 0) s (i 1) * A.xn (i 0) s (i 1) * A.gn (i 1)
  ring

/-- The normalised row times its scaled cotangent, summed over the sequence. -/
theorem r64 (i : S2x1024.Idx) : val_main_v64 (F := Ideal) (lift3 A.x) (lift2 A.sh) (lift2 A.sc) (lift2 A.ga) (lift1 A.gn) (lift2 A.wu) (lift2 A.wd) (lift3 A.dy) i = ((∑ s, A.xn (i 0) s (i 1) * (A.dh (i 0) s (i 1) * (1 + A.sc (i 0) (i 1))) : ℝ) : EReal) := by
  rw [val_main_v64_apply]
  simp only [val_main_v63_apply, r12, r61, val_main_cst_13_apply, Ideal.ofBits_def, w_zero, Ideal.mulf_def, ← EReal.coe_mul, coe_sum, ← EReal.coe_add, zero_add]
  rfl

/-- The same with an axis of size one. -/
theorem r65 (i : S2x1x1024.Idx) : val_main_v65 (F := Ideal) (lift3 A.x) (lift2 A.sh) (lift2 A.sc) (lift2 A.ga) (lift1 A.gn) (lift2 A.wu) (lift2 A.wd) (lift3 A.dy) i = ((∑ s, A.xn (i 0) s (i 2) * (A.dh (i 0) s (i 2) * (1 + A.sc (i 0) (i 2))) : ℝ) : EReal) := by
  rw [val_main_v65_apply, e65, r64]
  rfl

/-- The gradient of the weight of the norm. -/
theorem r69 (i : S1024.Idx) : val_main_v69 (F := Ideal) (lift3 A.x) (lift2 A.sh) (lift2 A.sc) (lift2 A.ga) (lift1 A.gn) (lift2 A.wu) (lift2 A.wd) (lift3 A.dy) i
    = ((A.dgn (i 0) : ℝ) : EReal) := by
  rw [val_main_v69_apply]
  simp only [val_main_v68_apply, r65, val_main_cst_14_apply, val_main_cst_15_apply, Ideal.ofBits_def, w_zero, Ideal.mulf_def,
    ← EReal.coe_mul, coe_sum, ← EReal.coe_add, zero_add, Fin.sum_univ_one]
  unfold Args.dgn Args.dhx
  refine congrArg Real.toEReal (Finset.sum_congr rfl fun b _ => ?_)
  rw [Finset.sum_mul]
  refine Finset.sum_congr rfl fun s _ => ?_
  show A.xn b s (i 0) * (A.dh b s (i 0) * (1 + A.sc b (i 0))) = A.dh b s (i 0) * A.xn b s (i 0) * (1 + A.sc b (i 0))
  ring

/-- The cotangent of the normalised row. -/
theorem r67 (i : S2x4096x1024.Idx) : val_main_v67 (F := Ideal) (lift3 A.x) (lift2 A.sh) (lift2 A.sc) (lift2 A.ga) (lift1 A.gn) (lift2 A.wu) (lift2 A.wd) (lift3 A.dy) i
    = ((A.dyn (i 0) (i 1) (i 2) : ℝ) : EReal) := by
  rw [val_main_v67_apply, r61, val_main_v66_apply, val_main_v14_apply, val_main_v13_apply, Ideal.mulf_def]
  unfold Args.dyn
  rw [← EReal.coe_mul]
  refine congrArg Real.toEReal ?_
  show A.dh (i 0) (i 1) (i 2) * (1 + A.sc (i 0) (i 2)) * A.gn (i 2)
    = A.dh (i 0) (i 1) (i 2) * (A.gn (i 2) * (1 + A.sc (i 0) (i 2)))
  ring

/-- The derivative of the reciprocal root. -/
theorem r10 (i : S2x4096x1.Idx) : val_main_v10 (F := Ideal) (lift3 A.x) i
    = ((A.rst (i 0) (i 1) / A.ms (i 0) (i 1) * -(1 / 2) : ℝ) : EReal) := by
  rw [val_main_v10_apply, val_main_v9_apply, val_main_v8_apply, r7, r6, val_main_cst_2_apply, Ideal.hostDivf_def,
    div_real _ (show A.ms (i 0) (i 1) ≠ 0 from (A.ms_pos (i 0) (i 1)).ne'), Ideal.mulf_def, mul_comm]
  simp only [Ideal.ofBits_def, w_neg_half, ← EReal.coe_mul]

/-- The row against the cotangent of its normalised form. -/
theorem r71 (i : S2x4096.Idx) : val_main_v71 (F := Ideal) (lift3 A.x) (lift2 A.sh) (lift2 A.sc) (lift2 A.ga) (lift1 A.gn) (lift2 A.wu) (lift2 A.wd) (lift3 A.dy) i = ((∑ d, A.x (i 0) (i 1) d * A.dyn (i 0) (i 1) d : ℝ) : EReal) := by
  rw [val_main_v71_apply]
  simp only [val_main_v70_apply, r67, val_main_cst_16_apply, Ideal.ofBits_def, w_zero, Ideal.mulf_def, ← EReal.coe_mul, coe_sum, ← EReal.coe_add, zero_add]
  rfl

/-- The same with an axis of size one. -/
theorem r72 (i : S2x4096x1.Idx) : val_main_v72 (F := Ideal) (lift3 A.x) (lift2 A.sh) (lift2 A.sc) (lift2 A.ga) (lift1 A.gn) (lift2 A.wu) (lift2 A.wd) (lift3 A.dy) i = ((∑ d, A.x (i 0) (i 1) d * A.dyn (i 0) (i 1) d : ℝ) : EReal) := by
  rw [val_main_v72_apply, e72, r71]
  rfl

/-- The cotangent of the mean square, over the width. -/
theorem r79 (i : S2x4096x1024.Idx) : val_main_v79 (F := Ideal) (lift3 A.x) (lift2 A.sh) (lift2 A.sc) (lift2 A.ga) (lift1 A.gn) (lift2 A.wu) (lift2 A.wd) (lift3 A.dy) i
    = (((∑ d, A.x (i 0) (i 1) d * A.dyn (i 0) (i 1) d) * (A.rst (i 0) (i 1) / A.ms (i 0) (i 1) * -(1 / 2)) / 1024 : ℝ) : EReal) := by
  rw [val_main_v79_apply, val_main_v78_apply]
  simp only [val_main_v77_apply, val_main_v76_apply, val_main_v75_apply, r72, r10, val_main_cst_17_apply, val_main_cst_18_apply, Ideal.ofBits_def,
    w_zero, w_width, Ideal.mulf_def, Ideal.hostDivf_def, Ideal.divf_def, ← EReal.coe_mul, coe_sum, ← EReal.coe_add, zero_add,
    div_real _ (show (1024 : ℝ) ≠ 0 by norm_num), Fin.sum_univ_one]
  rfl

/-- The gradient of the input. -/
theorem r102 (i : S2x4096x1024.Idx) : val_main_v102 (F := Ideal) (lift3 A.x) (lift2 A.sh) (lift2 A.sc) (lift2 A.ga) (lift1 A.gn) (lift2 A.wu) (lift2 A.wd) (lift3 A.dy) i
    = ((A.dx (i 0) (i 1) (i 2) : ℝ) : EReal) := by
  rw [val_main_v102_apply, val_main_v83_apply, val_main_v82_apply, val_main_v81_apply, val_main_v80_apply,
    val_main_v74_apply, val_main_v73_apply, r79, r67, r7]
  simp only [Ideal.mulf_def, Ideal.addf_def, ← EReal.coe_mul, ← EReal.coe_add]
  unfold Args.dx
  refine congrArg Real.toEReal (congrArg (A.dy (i 0) (i 1) (i 2) + ·) ?_)
  exact A.norm_back (i 0) (i 1) (i 2)

end Cert.Ffn.Ref

end
-- ==== Proof.RefOut.lean ====
/-
  The results of the reference program, read as real numbers.
-/
module

public import proofs.«01_k».proof.Proof.RefBwd

@[expose] public section

set_option maxRecDepth 16384

noncomputable section

namespace Cert.Ffn.Ref

open Idealize.ShloMosaic Cert.ReferenceIdeal Cert.ReferenceIdeal.Read

variable (A : Args)

/-- Which of the two batch elements and which place a flattened index names. -/
theorem split_tok (t k : Nat) (n : Nat) (hn : 0 < n) (hk : k < n) :
    (t * n + k) / (4096 * n) = t / 4096 ∧ (t * n + k) / n % 4096 = t % 4096 ∧ (t * n + k) % n = k := by
  have h : (t * n + k) / n = t := by
    rw [mul_comm, Nat.mul_add_div hn, Nat.div_eq_of_lt hk, add_zero]
  refine ⟨by rw [mul_comm 4096 n, ← Nat.div_div_eq_div_mul, h], by rw [h], ?_⟩
  rw [mul_comm, Nat.mul_add_mod, Nat.mod_eq_of_lt hk]

theorem e103 (i : S8192x1024.Idx) : idx_main_v103 i = ix3 (n0 := 2) (n1 := 4096) (n2 := 1024) (Args.bt (i 0)) (Args.ps (i 0)) (i 1) := by
  have h1 : (i 1).val < 1024 := (i 1).isLt
  obtain ⟨a, b, c⟩ := split_tok (i 0).val (i 1).val 1024 (by norm_num) h1
  refine funext fun k => Fin.ext ?_
  match k with
  | ⟨0, _⟩ => exact a
  | ⟨1, _⟩ => exact b
  | ⟨2, _⟩ => exact c

theorem e104 (i : S8192x1024.Idx) : idx_main_v104 i = ix3 (n0 := 2) (n1 := 4096) (n2 := 1024) (Args.bt (i 0)) (Args.ps (i 0)) (i 1) := by
  have h1 : (i 1).val < 1024 := (i 1).isLt
  obtain ⟨a, b, c⟩ := split_tok (i 0).val (i 1).val 1024 (by norm_num) h1
  refine funext fun k => Fin.ext ?_
  match k with
  | ⟨0, _⟩ => exact a
  | ⟨1, _⟩ => exact b
  | ⟨2, _⟩ => exact c

theorem e106 (i : S8192x1024.Idx) : idx_main_v106 i = ix3 (n0 := 2) (n1 := 4096) (n2 := 1024) (Args.bt (i 0)) (Args.ps (i 0)) (i 1) := by
  have h1 : (i 1).val < 1024 := (i 1).isLt
  obtain ⟨a, b, c⟩ := split_tok (i 0).val (i 1).val 1024 (by norm_num) h1
  refine funext fun k => Fin.ext ?_
  match k with
  | ⟨0, _⟩ => exact a
  | ⟨1, _⟩ => exact b
  | ⟨2, _⟩ => exact c

theorem e108 (i : S8192x2816.Idx) : idx_main_v108 i = ix3 (n0 := 2) (n1 := 4096) (n2 := 2816) (Args.bt (i 0)) (Args.ps (i 0)) (i 1) := by
  have h1 : (i 1).val < 2816 := (i 1).isLt
  obtain ⟨a, b, c⟩ := split_tok (i 0).val (i 1).val 2816 (by norm_num) h1
  refine funext fun k => Fin.ext ?_
  match k with
  | ⟨0, _⟩ => exact a
  | ⟨1, _⟩ => exact b
  | ⟨2, _⟩ => exact c

/-- The gradient of the input. -/
theorem out0 (i : S8192x1024.Idx) : val_main_v103 (F := Ideal) (lift3 A.x) (lift2 A.sh) (lift2 A.sc) (lift2 A.ga) (lift1 A.gn) (lift2 A.wu) (lift2 A.wd) (lift3 A.dy) i
    = ((A.dx (Args.bt (i 0)) (Args.ps (i 0)) (i 1) : ℝ) : EReal) := by
  rw [val_main_v103_apply, e103, r102]
  rfl

/-- The modulated row. -/
theorem out3 (i : S8192x1024.Idx) : val_main_v105 (F := Ideal) (lift3 A.x) (lift2 A.sh) (lift2 A.sc) (lift1 A.gn) i
    = ((A.h (Args.bt (i 0)) (Args.ps (i 0)) (i 1) : ℝ) : EReal) := by
  rw [val_main_v105_apply, val_main_v104_apply, e104, r24]
  rfl

/-- The cotangent of the branch. -/
theorem out4 (i : S8192x1024.Idx) : val_main_v107 (F := Ideal) (lift2 A.ga) (lift3 A.dy) i
    = ((A.df (Args.bt (i 0)) (Args.ps (i 0)) (i 1) : ℝ) : EReal) := by
  rw [val_main_v107_apply, val_main_v106_apply, e106, r41]
  rfl

/-- The hidden activation. -/
theorem out5 (i : S8192x2816.Idx) : val_main_v109 (F := Ideal) (lift3 A.x) (lift2 A.sh) (lift2 A.sc) (lift1 A.gn) (lift2 A.wu) i
    = ((A.act (Args.bt (i 0)) (Args.ps (i 0)) (i 1) : ℝ) : EReal) := by
  rw [val_main_v109_apply, val_main_v108_apply, e108, r29]
  rfl

theorem e110 (i : S8192x2x2816.Idx) : idx_main_v110 i
    = ix3 (n0 := 2) (n1 := 4096) (n2 := 5632) (Args.bt (i 0)) (Args.ps (i 0)) ⟨2816 * (i 1).val + (i 2).val, by
        have h1 : (i 1).val < 2 := (i 1).isLt
        have h2 : (i 2).val < 2816 := (i 2).isLt
        omega⟩ := by
  have h1 : (i 1).val < 2 := (i 1).isLt
  have h2 : (i 2).val < 2816 := (i 2).isLt
  have e : ((i 0).val * 2 + (i 1).val) * 2816 + (i 2).val = (i 0).val * 5632 + (2816 * (i 1).val + (i 2).val) := by
    ring
  obtain ⟨a, b, c⟩ := split_tok (i 0).val (2816 * (i 1).val + (i 2).val) 5632 (by norm_num) (by omega)
  refine funext fun k => Fin.ext ?_
  match k with
  | ⟨0, _⟩ => exact (congrArg (· / 23068672) e).trans a
  | ⟨1, _⟩ => exact (congrArg (· / 5632 % 4096) e).trans b
  | ⟨2, _⟩ => exact (congrArg (· % 5632) e).trans c

/-- The cotangents of the two halves of the projection. -/
theorem out6 (i : S2x8192x2816.Idx) : val_main_v112 (F := Ideal) (lift3 A.x) (lift2 A.sh) (lift2 A.sc) (lift2 A.ga) (lift1 A.gn) (lift2 A.wu) (lift2 A.wd) (lift3 A.dy) i
    = ((A.dgus (i 0) (i 1) (i 2) : ℝ) : EReal) := by
  rw [val_main_v112_apply, val_main_v111_apply, val_main_v110_apply, e110, r52]
  exact congrArg Real.toEReal (A.dgu_half (Args.bt (i 1)) (Args.ps (i 1)) (i 0) (i 2))

/-- Comparing a row number below eight with a small number. -/
theorem row_eq (r k : Nat) (hr : r < 8) (hk : k < 8) :
    (IntOp.cmpi .eq (BitVec.ofNat 32 r) (BitVec.ofNat 32 k) = 1) ↔ r = k := by
  have e : (BitVec.ofNat 32 r == BitVec.ofNat 32 k) = decide (r = k) := by
    interval_cases r <;> interval_cases k <;> rfl
  show (BitVec.ofBool (BitVec.ofNat 32 r == BitVec.ofNat 32 k) = 1#1) ↔ r = k
  rw [e]
  by_cases h : r = k <;> simp [h]

/-- Choosing by a comparison of a row number with a small number. -/
theorem select_row {α : Type} (r k : Nat) (hr : r < 8) (hk : k < 8) (a b : α) :
    Scalar.select (IntOp.cmpi .eq (BitVec.ofNat 32 r) (BitVec.ofNat 32 k)) a b = if r = k then a else b := by
  unfold Scalar.select
  by_cases h : r = k
  · rw [if_pos ((row_eq r k hr hk).mpr h), if_pos h]
  · rw [if_neg fun e => h ((row_eq r k hr hk).mp e), if_neg h]

/-- The gradient of the weight of the norm, in the first row. -/
theorem out2 (i : S8x1024.Idx) : val_main_v101 (F := Ideal) (lift3 A.x) (lift2 A.sh) (lift2 A.sc) (lift2 A.ga) (lift1 A.gn) (lift2 A.wu) (lift2 A.wd) (lift3 A.dy) i
    = ((A.dgn8 (i 0) (i 1) : ℝ) : EReal) := by
  rw [val_main_v101_apply, val_main_v99_apply, val_main_v98_apply, val_main_v97_apply, val_main_c_22_apply,
    val_main_call5_v2_apply, val_main_call5_v1_apply, val_main_call5_v0_apply, val_main_v100_apply, r69, val_main_cst_23_apply]
  have h := select_row (i 0).val 0 (i 0).isLt (by norm_num)
    ((A.dgn (i 1) : ℝ) : EReal) ((0 : ℝ) : EReal)
  rw [Ideal.ofBits_def, w_zero]
  refine h.trans ?_
  unfold Args.dgn8
  exact (apply_ite Real.toEReal _ _ _).symm

/-- The gradients of shift, scale and gate, one a row. -/
theorem out1 (i : S2x8x1024.Idx) : val_main_v96 (F := Ideal) (lift3 A.x) (lift2 A.sh) (lift2 A.sc) (lift2 A.ga) (lift1 A.gn) (lift2 A.wu) (lift2 A.wd) (lift3 A.dy) i
    = ((A.dmod (i 0) (i 1) (i 2) : ℝ) : EReal) := by
  rw [val_main_v96_apply, val_main_v95_apply, val_main_v94_apply, val_main_v86_apply, val_main_v89_apply,
    val_main_v92_apply, val_main_v84_apply, val_main_v85_apply, val_main_v88_apply, val_main_v91_apply]
  rw [val_main_call4_v0_apply, val_main_call3_v0_apply, val_main_call2_v1_apply, val_main_call2_v2_apply,
    val_main_call2_v0_apply, val_main_v87_apply, val_main_v90_apply, val_main_v93_apply, r56, r62, r47,
    val_main_cst_21_apply, Ideal.ofBits_def, w_zero, val_main_c_apply, val_main_c_19_apply, val_main_c_20_apply]
  have hi : (i 1).val < 8 := (i 1).isLt
  refine (select_row (i 1).val 0 hi (by norm_num) _ _).trans ?_
  rw [select_row (i 1).val 1 hi (by norm_num), select_row (i 1).val 2 hi (by norm_num)]
  unfold Args.dmod
  by_cases h0 : (i 1).val = 0
  · rw [if_pos h0, if_pos h0]; rfl
  rw [if_neg h0, if_neg h0]
  by_cases h1 : (i 1).val = 1
  · rw [if_pos h1, if_pos h1]; rfl
  rw [if_neg h1, if_neg h1]
  by_cases h2 : (i 1).val = 2
  · rw [if_pos h2, if_pos h2]; rfl
  rw [if_neg h2, if_neg h2]

end Cert.Ffn.Ref

end
-- ==== Proof.FfnClaims.lean ====
/-
  The claims about the gradient of the gated feed-forward branch: the two frames of the kernel's program, the frame of
  the reference, and that both programs end with equal results.
-/
module

public import proofs.«01_k».proof.Defs
public import proofs.«01_k».proof.Proof.Gen.Kernel.Frame
public import proofs.«01_k».proof.Proof.Finite
public import proofs.«01_k».proof.Proof.KerFinal
public import proofs.«01_k».proof.Proof.RefOut

@[expose] public section

set_option maxRecDepth 16384

noncomputable section

namespace Cert.Ffn

open Idealize.ShloMosaic Idealize.SL.Sem

/-- The reference terminates and leaves its arguments as they were. -/
theorem frame_ref : Cert.quiescent_ReferenceIdeal := fun m ρ _ =>
  (θ_run Cert.ReferenceIdeal.defs _ _).mono (fun r h => ⟨fun c => (h c).2.2.2.2.2.2.2,
      Idealize.ShloMosaic.sem_eq_zero_of_no_sems (by decide) r.2⟩)
    (Cert.ReferenceIdeal.Value.run (F := Ideal) m ρ)

section

open Cert.ReferenceIdeal Cert.ReferenceIdeal.Gen Cert.ReferenceIdeal.Read

/-- Result `v103` of the reference, of arguments that hold the real numbers `A`. -/
theorem ref_v103 (A : Args) : val_main_v103 (F := Ideal) (lift3 A.x) (lift2 A.sh) (lift2 A.sc) (lift2 A.ga) (lift1 A.gn) (lift2 A.wu) (lift2 A.wd) (lift3 A.dy)
    = (fun i : S8192x1024.Idx => ((A.dx (Args.bt (i 0)) (Args.ps (i 0)) (i 1) : ℝ) : EReal)) := funext fun i => Ref.out0 A i

/-- Result `v96` of the reference, of arguments that hold the real numbers `A`. -/
theorem ref_v96 (A : Args) : val_main_v96 (F := Ideal) (lift3 A.x) (lift2 A.sh) (lift2 A.sc) (lift2 A.ga) (lift1 A.gn) (lift2 A.wu) (lift2 A.wd) (lift3 A.dy)
    = (fun i : S2x8x1024.Idx => ((A.dmod (i 0) (i 1) (i 2) : ℝ) : EReal)) := funext fun i => Ref.out1 A i

/-- Result `v101` of the reference, of arguments that hold the real numbers `A`. -/
theorem ref_v101 (A : Args) : val_main_v101 (F := Ideal) (lift3 A.x) (lift2 A.sh) (lift2 A.sc) (lift2 A.ga) (lift1 A.gn) (lift2 A.wu) (lift2 A.wd) (lift3 A.dy)
    = (fun i : S8x1024.Idx => ((A.dgn8 (i 0) (i 1) : ℝ) : EReal)) := funext fun i => Ref.out2 A i

/-- Result `v105` of the reference, of arguments that hold the real numbers `A`. -/
theorem ref_v105 (A : Args) : val_main_v105 (F := Ideal) (lift3 A.x) (lift2 A.sh) (lift2 A.sc) (lift1 A.gn)
    = (fun i : S8192x1024.Idx => ((A.h (Args.bt (i 0)) (Args.ps (i 0)) (i 1) : ℝ) : EReal)) := funext fun i => Ref.out3 A i

/-- Result `v107` of the reference, of arguments that hold the real numbers `A`. -/
theorem ref_v107 (A : Args) : val_main_v107 (F := Ideal) (lift2 A.ga) (lift3 A.dy)
    = (fun i : S8192x1024.Idx => ((A.df (Args.bt (i 0)) (Args.ps (i 0)) (i 1) : ℝ) : EReal)) := funext fun i => Ref.out4 A i

/-- Result `v109` of the reference, of arguments that hold the real numbers `A`. -/
theorem ref_v109 (A : Args) : val_main_v109 (F := Ideal) (lift3 A.x) (lift2 A.sh) (lift2 A.sc) (lift1 A.gn) (lift2 A.wu)
    = (fun i : S8192x2816.Idx => ((A.act (Args.bt (i 0)) (Args.ps (i 0)) (i 1) : ℝ) : EReal)) := funext fun i => Ref.out5 A i

/-- Result `v112` of the reference, of arguments that hold the real numbers `A`. -/
theorem ref_v112 (A : Args) : val_main_v112 (F := Ideal) (lift3 A.x) (lift2 A.sh) (lift2 A.sc) (lift2 A.ga) (lift1 A.gn) (lift2 A.wu) (lift2 A.wd) (lift3 A.dy)
    = (fun i : S2x8192x2816.Idx => ((A.dgus (i 0) (i 1) (i 2) : ℝ) : EReal)) := funext fun i => Ref.out6 A i

end

/-- From memories that agree on finite arguments, the kernel's program and the reference end with equal results. -/
theorem algebraic : Cert.algebraic_KernelIdeal_ReferenceIdeal_pre_finite (hPre_finite := preFacts) := by
  intro m ρ m' ρ' hpre hagree
  refine ⟨fun c => (fun i : Cert.KernelIdeal.S8192x1024.Idx => (((argsOf m c).dx (Args.bt (i 0)) (Args.ps (i 0)) (i 1) : ℝ) : EReal)),
    fun c => (fun i : Cert.KernelIdeal.S2x8x1024.Idx => (((argsOf m c).dmod (i 0) (i 1) (i 2) : ℝ) : EReal)),
    fun c => (fun i : Cert.KernelIdeal.S8x1024.Idx => (((argsOf m c).dgn8 (i 0) (i 1) : ℝ) : EReal)),
    fun c => (fun i : Cert.KernelIdeal.S8192x1024.Idx => (((argsOf m c).h (Args.bt (i 0)) (Args.ps (i 0)) (i 1) : ℝ) : EReal)),
    fun c => (fun i : Cert.KernelIdeal.S8192x1024.Idx => (((argsOf m c).df (Args.bt (i 0)) (Args.ps (i 0)) (i 1) : ℝ) : EReal)),
    fun c => (fun i : Cert.KernelIdeal.S8192x2816.Idx => (((argsOf m c).act (Args.bt (i 0)) (Args.ps (i 0)) (i 1) : ℝ) : EReal)),
    fun c => (fun i : Cert.KernelIdeal.S2x8192x2816.Idx => (((argsOf m c).dgus (i 0) (i 1) (i 2) : ℝ) : EReal)),
    ?_, ?_⟩
  · refine (θ_run Cert.KernelIdeal.defs _ _).mono (fun r h c => ?_) (Cert.KernelIdeal.Value.run_blocks (F := Ideal) m ρ)
    have hm := holds_of_pre m hpre c
    obtain ⟨h0, h1, h2, h3, h4, h5, h6, hargs⟩ := h c
    exact ⟨h0.trans (Ker.final8 _ hm), h1.trans (Ker.final9 _ hm), h2.trans (Ker.final10 _ hm), h3.trans (Ker.final11 _ hm),
      h4.trans (Ker.final12 _ hm), h5.trans (Ker.final13 _ hm), h6.trans (Ker.final14 _ hm), hargs⟩
  · refine (θ_run Cert.ReferenceIdeal.defs _ _).mono (fun r h c => ?_) (Cert.ReferenceIdeal.Value.run (F := Ideal) m' ρ')
    have hm := holds_of_pre m hpre c
    obtain ⟨h0, h1, h2, h3, h4, h5, h6, hargs⟩ := h c
    obtain ⟨a0, a1, a2, a3, a4, a5, a6, a7⟩ := hagree c
    have b0 := a0.trans hm.x
    have b1 := a1.trans hm.sh
    have b2 := a2.trans hm.sc
    have b3 := a3.trans hm.ga
    have b4 := a4.trans hm.gn
    have b5 := a5.trans hm.wu
    have b6 := a6.trans hm.wd
    have b7 := a7.trans hm.dy
    refine ⟨h0.trans ?_, h1.trans ?_, h2.trans ?_, h3.trans ?_, h4.trans ?_, h5.trans ?_, h6.trans ?_, hargs⟩
    · rw [Cert.ReferenceIdeal.Read.val_main_v103_eq, b0, b1, b2, b3, b4, b5, b6, b7]; exact ref_v103 (argsOf m c)
    · rw [Cert.ReferenceIdeal.Read.val_main_v96_eq, b0, b1, b2, b3, b4, b5, b6, b7]; exact ref_v96 (argsOf m c)
    · rw [Cert.ReferenceIdeal.Read.val_main_v101_eq, b0, b1, b2, b3, b4, b5, b6, b7]; exact ref_v101 (argsOf m c)
    · rw [Cert.ReferenceIdeal.Read.val_main_v105_eq, b0, b1, b2, b4]; exact ref_v105 (argsOf m c)
    · rw [Cert.ReferenceIdeal.Read.val_main_v107_eq, b3, b7]; exact ref_v107 (argsOf m c)
    · rw [Cert.ReferenceIdeal.Read.val_main_v109_eq, b0, b1, b2, b4, b5]; exact ref_v109 (argsOf m c)
    · rw [Cert.ReferenceIdeal.Read.val_main_v112_eq, b0, b1, b2, b3, b4, b5, b6, b7]; exact ref_v112 (argsOf m c)

end Cert.Ffn

end
-- ==== Proof.WgtSums.lean ====
/-
  The sum over the tokens, as the weight-gradient kernels gather it: eight blocks of 1024 rows, each block's product added
  to what the blocks before it left.
-/
module

public import Idealize.ShloMosaic.Lib.ValueIdxCore
public import Idealize.ShloMosaic.Lib.Pointwise.Contract

@[expose] public section

noncomputable section

namespace Cert.Weight

open Finset

/-- The sequence a token of the flattened batch lies in, and its place there. -/
def bt (t : Fin 8192) : Fin 2 := ⟨t.val / 4096, by omega⟩
def ps (t : Fin 8192) : Fin 4096 := ⟨t.val % 4096, by omega⟩

/-- Token `r` of block `q`. -/
def tok (q : ℕ) (r : Fin 1024) : Fin 8192 := ⟨1024 * (q % 8) + r.val, by omega⟩

/-- What the output block holds after point `n`: the first of eight points starts from zero, the others add to what is there. -/
def acc {ι : Type} (B : ℕ → ι → EReal) : ℕ → ι → EReal
  | 0, i => 0 + B 0 i
  | n + 1, i => (if (n + 1) % 8 = 0 then 0 else acc B n i) + B (n + 1) i

variable {ι : Type} (B : ℕ → ι → EReal)

theorem acc_first (n : ℕ) (h : n % 8 = 0) (i : ι) : acc B n i = 0 + B n i := by
  cases n with
  | zero => rfl
  | succ n => rw [acc, if_pos h]

theorem acc_next (n : ℕ) (h : ¬n % 8 = 0) (i : ι) : acc B n i = acc B (n - 1) i + B n i := by
  cases n with
  | zero => exact absurd (Nat.zero_mod 8) h
  | succ n => rw [acc, if_neg h, Nat.add_sub_cancel]

theorem acc_eq (i : ι) : ∀ n, acc B n i = ∑ q ∈ range (n % 8 + 1), B (n / 8 * 8 + q) i
  | 0 => by rw [acc, Nat.zero_mod, zero_add, zero_add, Finset.sum_range_one]
  | n + 1 => by
    rw [acc]
    by_cases h : (n + 1) % 8 = 0
    · rw [if_pos h, h, zero_add, zero_add, Finset.sum_range_one]
      exact congrArg (B · i) (by omega)
    · have en : (n + 1) % 8 = n % 8 + 1 := by omega
      have ed : (n + 1) / 8 = n / 8 := by omega
      rw [if_neg h, acc_eq i n, en, ed, Finset.sum_range_succ _ (n % 8 + 1)]
      exact congrArg (fun z => _ + B z i) (by omega)

/-- The last of eight points holds the sum of the eight. -/
theorem acc_last (n : ℕ) (h : n % 8 = 7) (i : ι) : acc B n i = ∑ q ∈ range 8, B (n / 8 * 8 + q) i := by
  rw [acc_eq, h]

/-- Eight blocks of 1024 tokens are the two sequences. -/
theorem sum_tokens (F : Fin 2 → Fin 4096 → EReal) :
    ∑ q ∈ range 8, ∑ r : Fin 1024, F (bt (tok q r)) (ps (tok q r)) = ∑ b, ∑ s, F b s := by
  have e1 : ∑ q ∈ range 8, ∑ r : Fin 1024, F (bt (tok q r)) (ps (tok q r)) = ∑ t : Fin 8192, F (bt t) (ps t) := by
    rw [Finset.sum_range, ← Equiv.sum_comp (finProdFinEquiv (m := 8) (n := 1024)) fun t : Fin 8192 => F (bt t) (ps t),
      Fintype.sum_prod_type]
    refine sum_congr rfl fun q _ => sum_congr rfl fun r _ => ?_
    have e : tok q.val r = finProdFinEquiv (m := 8) (n := 1024) (q, r) := Fin.ext (by
      show 1024 * (q.val % 8) + r.val = r.val + 1024 * q.val
      omega)
    rw [e]
  rw [e1, ← Equiv.sum_comp (finProdFinEquiv (m := 2) (n := 4096)) fun t : Fin 8192 => F (bt t) (ps t), Fintype.sum_prod_type]
  refine sum_congr rfl fun b _ => sum_congr rfl fun s _ => ?_
  have h : (finProdFinEquiv (m := 2) (n := 4096) (b, s)).val = s.val + 4096 * b.val := rfl
  refine congrArg₂ F (Fin.ext ?_) (Fin.ext ?_)
  · show (finProdFinEquiv (m := 2) (n := 4096) (b, s)).val / 4096 = b.val
    omega
  · show (finProdFinEquiv (m := 2) (n := 4096) (b, s)).val % 4096 = s.val
    omega

end Cert.Weight

end
-- ==== Proof.UpPoint.lean ====
/-
  Gradient of the projection up: what one grid point leaves in its output blocks.
-/
module

public import proofs.«01_k».proof.Proof.WgtSums
public import proofs.«01_k».proof.Proof.Gen.KernelUpIdeal.Value
public import Idealize.ShloMosaic.Lib.VecWindow
public import Idealize.ShloMosaic.Lib.Pointwise
public import Idealize.ShloMosaic.Lib.StableHlo.ReadAt

@[expose] public section

set_option maxRecDepth 16384

noncomputable section

namespace Cert.Weight.Up

open Idealize.ShloMosaic Cert.KernelUpIdeal Cert.KernelUpIdeal.Gen
open Finset

/-- The product of one block of rows: entry `y` of the output block. -/
def prod (x : S1024x1024.Idx → EReal) (g : S1x1024x1408.Idx → EReal) (y : S1x1024x1408.Idx) : EReal :=
  ∑ r : Fin 1024, x (ix2 r (y 1)) * g (ix3 0 r (y 2))

theorem p1 : k0_pay1 (F := Ideal) = fun _ => (0 : EReal) := by
  funext y
  pointwise [k0_pay1]

theorem p2 (v : S1x1024x1408.Idx → EReal) (x : S1024x1024.Idx → EReal) (g : S1x1024x1408.Idx → EReal) :
    k0_pay2 (F := Ideal) v x g = fun y => v y + prod x g y := by
  funext y
  pointwise [k0_pay2]
  rfl

theorem p3 (v : S1x1024x1408.Idx → EReal) : k0_pay3 (F := Ideal) v = v := by
  funext y
  pointwise [k0_pay3]

theorem hz2 : (![0, 0] : Fin 2 → Nat) = fun _ => 0 := by funext a; fin_cases a <;> rfl
theorem hz3 : (![0, 0, 0] : Fin 3 → Nat) = fun _ => 0 := by funext a; fin_cases a <;> rfl
theorem hz3a : ∀ a, (![0, 0, 0] : Fin 3 → Nat) a = 0 := by intro a; fin_cases a <;> rfl

variable (c : Dev nD) (i : grid0.Coords) (arg3 : Memref sig .tc .vmem S1024x1024 .bf16) (harg3 : arg3.IsWhole)
  (arg4 : Memref sig .tc .vmem S1x1024x1408 .bf16) (harg4 : arg4.IsWhole) (arg5 : Memref sig .tc .vmem S1x1024x1408 .f32)
  (harg5 : arg5.IsWhole) (arg6 : Memref sig .tc .vmem S1x1024x1408 .bf16) (harg6 : arg6.IsWhole)
  (x0 : S1024x1024.Idx → EReal) (x1 : S1x1024x1408.Idx → EReal) (xo : S1x1024x1408.Idx → EReal)

/-- The first point of an output block: the block's product, added to zero. -/
theorem outA2 (hc0 : cond0_0 i) (hc1 : ¬cond0_1 i) :
    out0_A_2 (F := Ideal) c i arg3 harg3 arg4 harg4 arg5 harg5 arg6 harg6 hc0 hc1 x0 x1 = fun y => 0 + prod x0 x1 y := by
  unfold out0_A_2
  unfold kernelRun0_A
  dsimp only
  sl_unfold_words
  refine (View.read_writes_full (s := S1x1024x1408) _ _ _ _ _).trans ?_
  rw [View.readCov_full (s := S1x1024x1408)]
  simp only [View.readAt_eq_ld, harg3.read_unread, harg4.read_unread]
  simp only [View.ld_unit_zero (S := S1024x1024) hz2, View.ld_unit_zero (S := S1x1024x1408) hz3, p2, p1]

/-- A point between: the block's product, added to what the point before left. -/
theorem outB2 (hc0 : ¬cond0_0 i) (hc1 : ¬cond0_1 i) :
    out0_B_2 (F := Ideal) c i arg3 harg3 arg4 harg4 arg5 harg5 arg6 harg6 hc0 hc1 x0 x1 xo = fun y => xo y + prod x0 x1 y := by
  unfold out0_B_2
  rw [View.read_writes_eq_canon _ _ _ (cover0_B_2 (F := Ideal) c i arg3 harg3 arg4 harg4 arg5 harg5 arg6 harg6 hc0 hc1 x0 x1 xo)]
  unfold kernelRun0_B
  dsimp only
  sl_unfold_words
  rw [View.canon_unit_zero (S := S1x1024x1408) hz3]
  simp only [View.readAt_eq_ld, harg3.read_unread, harg4.read_unread, harg5.read_unread]
  simp only [View.ld_unit_zero (S := S1024x1024) hz2, View.ld_unit_zero (S := S1x1024x1408) hz3, p2]

/-- The last point does the same. -/
theorem outC2 (hc0 : ¬cond0_0 i) (hc1 : cond0_1 i) :
    out0_C_2 (F := Ideal) c i arg3 harg3 arg4 harg4 arg5 harg5 arg6 harg6 hc0 hc1 x0 x1 xo = fun y => xo y + prod x0 x1 y := by
  unfold out0_C_2
  rw [View.read_writes_eq_canon _ _ _ (cover0_C_2 (F := Ideal) c i arg3 harg3 arg4 harg4 arg5 harg5 arg6 harg6 hc0 hc1 x0 x1 xo)]
  unfold kernelRun0_C
  dsimp only
  sl_unfold_words
  rw [View.canon_unit_zero (S := S1x1024x1408) hz3]
  simp only [View.readAt_eq_ld, harg3.read_unread, harg4.read_unread, harg5.read_unread]
  simp only [View.ld_unit_zero (S := S1024x1024) hz2, View.ld_unit_zero (S := S1x1024x1408) hz3, p2]

/-- And copies the sum to the second output. -/
theorem outC3 (hc0 : ¬cond0_0 i) (hc1 : cond0_1 i) :
    out0_C_3 (F := Ideal) c i arg3 harg3 arg4 harg4 arg5 harg5 arg6 harg6 hc0 hc1 x0 x1 xo = fun y => xo y + prod x0 x1 y := by
  unfold out0_C_3
  rw [View.read_writes_eq_canon _ _ _ (cover0_C_3 (F := Ideal) c i arg3 harg3 arg4 harg4 arg5 harg5 arg6 harg6 hc0 hc1 x0 x1 xo)]
  unfold kernelRun0_C
  dsimp only
  sl_unfold_words
  rw [View.canon_unit_zero (S := S1x1024x1408) hz3]
  rw [View.readCov_full (s := S1x1024x1408)]
  simp only [View.readAt_eq_ld, harg3.read_unread, harg4.read_unread, harg5.read_unread]
  simp only [View.ld_unit_zero (S := S1024x1024) hz2, View.ld_unit_zero (S := S1x1024x1408) hz3, p2, p3]

end Cert.Weight.Up

end
-- ==== Proof.UpFinal.lean ====
/-
  Gradient of the projection up: the arrays the kernel's call ends with hold the sum over the tokens.
-/
module

public import proofs.«01_k».proof.Proof.UpPoint

@[expose] public section

set_option maxRecDepth 16384

noncomputable section

namespace Cert.Weight.Up

open Idealize.ShloMosaic Cert.KernelUpIdeal Cert.KernelUpIdeal.Gen
open Idealize.ShloMosaic.Pipeline (Dat)
open Finset

/-- The gradient of the weight: row `d` of the operand against column `k` of the cotangent, over all tokens. -/
def grad (h : S2x4096x1024.Idx → EReal) (g : S2x4096x5632.Idx → EReal) (d : Fin 1024) (k : Fin 5632) : EReal :=
  ∑ b : Fin 2, ∑ s : Fin 4096, h (ix3 b s d) * g (ix3 b s k)

/-- Column `j` of part `n` of the four parts the columns are cut in. -/
def col (n : ℕ) (j : Fin 1408) : Fin 5632 := ⟨1408 * (n % 4) + j.val, by omega⟩

variable (h : S2x4096x1024.Idx → EReal) (g : S2x4096x5632.Idx → EReal)

/-- The blocks point `n` is given, and their product. -/
def xb (n : ℕ) (y : S1024x1024.Idx) : EReal := h (ix3 (bt (tok n (y 0))) (ps (tok n (y 0))) (y 1))
def gb (n : ℕ) (y : S1x1024x1408.Idx) : EReal := g (ix3 (bt (tok n (y 1))) (ps (tok n (y 1))) (col (n / 8) (y 2)))
def step (n : ℕ) (y : S1x1024x1408.Idx) : EReal := prod (xb h n) (gb g n) y

/-- After the last of its eight points an output block holds the gradient. -/
theorem acc_grad (n : ℕ) (hn : n % 8 = 7) (y : S1x1024x1408.Idx) :
    acc (step h g) n y = grad h g (y 1) (col (n / 8) (y 2)) := by
  rw [acc_last _ n hn]
  unfold grad
  rw [← sum_tokens fun b s => h (ix3 b s (y 1)) * g (ix3 b s (col (n / 8) (y 2)))]
  refine sum_congr rfl fun q hq => ?_
  unfold step prod
  refine sum_congr rfl fun r _ => ?_
  have hq : q < 8 := mem_range.1 hq
  have e1 : tok (n / 8 * 8 + q) r = tok q r := Fin.ext (by
    show 1024 * ((n / 8 * 8 + q) % 8) + r.val = 1024 * (q % 8) + r.val
    omega)
  have e2 : (n / 8 * 8 + q) / 8 = n / 8 := by omega
  show h (ix3 (bt (tok (n / 8 * 8 + q) r)) (ps (tok (n / 8 * 8 + q) r)) (y 1))
    * g (ix3 (bt (tok (n / 8 * 8 + q) r)) (ps (tok (n / 8 * 8 + q) r)) (col ((n / 8 * 8 + q) / 8) (y 2))) = _
  rw [e1, e2]

/-- The program's arguments hold `h` and `g`. -/
structure Holds (m : (ℓ : Loc nD τ sig) → Buf (Elt Ideal) ℓ) (c : Dev nD) : Prop where
  h : m ((c.tc : Thread nD τ).loc main_arg0) = h
  g : m ((c.tc : Thread nD τ).loc main_arg1) = g

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = t.val / 16 ∧ win0_1.index t 1 = t.val % 8 ∧ win0_1.index t 2 = t.val / 8 % 2 :=
  (by decide +kernel : ∀ t : Fin grid0.N, win0_1.index t 0 = t.val / 16 ∧ win0_1.index t 1 = t.val % 8 ∧ win0_1.index t 2 = t.val / 8 % 2)
theorem idx2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)
theorem idx3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

variable {h g} {m : (ℓ : Loc nD τ sig) → Buf (Elt Ideal) ℓ} {c : Dev nD} (hm : Holds h g m c)
include hm

/-- The operand, its tokens in one row after the other. -/
theorem V_v1 (i : S8192x1024.Idx) : V m c main_v1 i = h (ix3 (bt (i 0)) (ps (i 0)) (i 1)) := by
  generalize hR : h (ix3 (bt (i 0)) (ps (i 0)) (i 1)) = R
  unfold V
  after_reads_at
  rw [hm.h, ← hR]
  rfl

/-- The cotangent, its columns in two halves. -/
theorem V_v4 (i : S2x8192x2816.Idx) :
    V m c main_v4 i = g (ix3 (bt (i 1)) (ps (i 1)) ⟨(i 0 : Fin 2).val * 2816 + (i 2 : Fin 2816).val, by
      have h0 : (i 0 : Fin 2).val < 2 := (i 0).isLt
      have h2 : (i 2 : Fin 2816).val < 2816 := (i 2).isLt
      omega⟩) := by
  unfold V
  simp only [List.flatten_cons, List.flatten_nil, List.append_nil, List.cons_append, List.nil_append]
  after_reads_at
  rw [hm.g]
  rfl

theorem iblk0 (t : Fin cfg0.N) : iblk m c 0 t = xb h t.val := by
  funext y
  unfold iblk
  rw [View.read_apply]
  refine (V_v1 hm _).trans ?_
  have e0 : (((cfg0.win 0).blk t).view.emb y 0 : Fin 8192) = tok t.val (y 0) := Fin.ext (by
    show win0_0.index t 0 * 1024 + 1 * (y 0).val = 1024 * (t.val % 8) + (y 0).val
    rw [(idx0 t).1]; omega)
  have e1 : (((cfg0.win 0).blk t).view.emb y 1 : Fin 1024) = y 1 := Fin.ext (by
    show win0_0.index t 1 * 1024 + 1 * (y 1).val = (y 1).val
    rw [(idx0 t).2]; omega)
  exact congrArg₂ (fun (a : Fin 8192) (d : Fin 1024) => h (ix3 (bt a) (ps a) d)) e0 e1

theorem iblk1 (t : Fin cfg0.N) : iblk m c 1 t = gb g t.val := by
  funext y
  unfold iblk
  rw [View.read_apply]
  have ht : t.val < 32 := lt_of_lt_of_eq t.isLt N_0
  refine (V_v4 hm _).trans ?_
  have e1 : (((cfg0.win 1).blk t).view.emb y 1 : Fin 8192) = tok t.val (y 1) := Fin.ext (by
    show win0_1.index t 1 * 1024 + 1 * (y 1).val = 1024 * (t.val % 8) + (y 1).val
    rw [(idx1 t).2.1]; omega)
  refine congrArg₂ (fun (a : Fin 8192) (k : Fin 5632) => g (ix3 (bt a) (ps a) k)) e1 (Fin.ext ?_)
  show (win0_1.index t 0 * 1 + 1 * (y 0).val) * 2816 + (win0_1.index t 2 * 1408 + 1 * (y 2).val) = 1408 * (t.val / 8 % 4) + (y 2).val
  have hy : (y 0 : Fin 1).val < 1 := (y 0).isLt
  rw [(idx1 t).1, (idx1 t).2.2]; omega

/-- The first output block after each point. -/
theorem outs_fst : ∀ (n : ℕ) (hn : n < cfg0.N), (outsAt0 m c n hn).1 = acc (step h g) n
  | 0, hn => by
    rw [outsAt0_A m c ⟨0, hn⟩ rfl (by dsimp only; omega), iblk0 hm, iblk1 hm]
    dsimp only
    rw [outA2]
    exact funext fun y => (acc_first (step h g) 0 rfl y).symm
  | n + 1, hn => by
    have ih := outs_fst n (Nat.lt_of_succ_lt hn)
    by_cases h0 : (n + 1) % 8 = 0
    · rw [outsAt0_A m c ⟨n + 1, hn⟩ h0 (by dsimp only; omega), iblk0 hm, iblk1 hm]
      dsimp only
      rw [outA2]
      exact funext fun y => (acc_first (step h g) (n + 1) h0 y).symm
    · by_cases h1 : (n + 1) % 8 = 7
      · rw [outsAt0_C m c ⟨n + 1, hn⟩ h0 h1, iblk0 hm, iblk1 hm]
        dsimp only
        rw [outC2]
        simp only [Nat.add_sub_cancel, ih]
        exact funext fun y => (acc_next (step h g) (n + 1) h0 y).symm
      · rw [outsAt0_B m c ⟨n + 1, hn⟩ h0 h1, iblk0 hm, iblk1 hm]
        dsimp only
        rw [outB2]
        simp only [Nat.add_sub_cancel, ih]
        exact funext fun y => (acc_next (step h g) (n + 1) h0 y).symm

/-- The second output block after the last of eight points. -/
theorem outs_snd (t : Fin cfg0.N) (h1 : t.val % 8 = 7) : (outsAt0 m c t.val t.isLt).2 = acc (step h g) t.val := by
  have h0 : ¬t.val % 8 = 0 := by omega
  rw [outsAt0_C m c t h0 h1, iblk0 hm, iblk1 hm, outs_fst hm]
  dsimp only
  rw [outC3]
  exact funext fun y => (acc_next (step h g) t.val h0 y).symm

/-- The first result. -/
theorem final2 : (dats m 0 c).arrAt 2 cfg0.N = (fun i : S4x1024x1408.Idx => grad h g (i 1) (col (i 0).val (i 2))) := by
  refine (dats m 0 c).arrAt_eq_of_cover 2 (fun i : S4x1024x1408.Idx => grad h g (i 1) (col (i 0).val (i 2)))
    (fun t hf => ?_) fun i => ?_
  · have ht : t.val < 32 := lt_of_lt_of_eq t.isLt N_0
    have h7 : t.val % 8 = 7 := (flush0_2 t).1 hf
    rw [Value.flushed2, outs_fst hm]
    funext y
    rw [View.read_apply]
    refine (acc_grad h g t.val h7 y).trans ?_
    refine congrArg₂ (grad h g) (Fin.ext ?_) (Fin.ext ?_)
    · show (y 1).val = win0_2.index t 1 * 1024 + 1 * (y 1).val
      rw [(idx2 t).2.1]; omega
    · show 1408 * (t.val / 8 % 4) + (y 2).val = 1408 * ((win0_2.index t 0 * 1 + 1 * (y 0).val) % 4) + (win0_2.index t 2 * 1408 + 1 * (y 2).val)
      have hy : (y 0 : Fin 1).val < 1 := (y 0).isLt
      rw [(idx2 t).1, (idx2 t).2.2]; omega
  · have h0 : (i 0 : Fin 4).val < 4 := (i 0).isLt
    have h1 : (i 1 : Fin 1024).val < 1024 := (i 1).isLt
    have h2 : (i 2 : Fin 1408).val < 1408 := (i 2).isLt
    have ht : (i 0 : Fin 4).val * 8 + 7 < cfg0.N := by rw [show cfg0.N = 32 from N_0]; omega
    refine ⟨⟨(i 0 : Fin 4).val * 8 + 7, ht⟩, (flush0_2 _).2 (by dsimp only; omega), ?_⟩
    show i ∈ ((View.whole main_v5_0).slice (win0_2.rect ⟨(i 0 : Fin 4).val * 8 + 7, ht⟩)).set
    rw [View.set_slice_whole, Rect.mem_set_unit]
    have hi := idx2 ⟨(i 0 : Fin 4).val * 8 + 7, ht⟩
    have hd : ((i 0 : Fin 4).val * 8 + 7) / 8 = (i 0 : Fin 4).val := by omega
    intro a
    match a with
    | ⟨0, _⟩ =>
      show win0_2.index _ 0 * 1 ≤ (i 0 : Fin 4).val ∧ (i 0 : Fin 4).val < win0_2.index _ 0 * 1 + 1
      rw [hi.1, hd]; omega
    | ⟨1, _⟩ =>
      show win0_2.index _ 1 * 1024 ≤ (i 1 : Fin 1024).val ∧ (i 1 : Fin 1024).val < win0_2.index _ 1 * 1024 + 1024
      rw [hi.2.1]; omega
    | ⟨2, _⟩ =>
      show win0_2.index _ 2 * 1408 ≤ (i 2 : Fin 1408).val ∧ (i 2 : Fin 1408).val < win0_2.index _ 2 * 1408 + 1408
      rw [hi.2.2]; omega

/-- The second result. -/
theorem final3 : (dats m 0 c).arrAt 3 cfg0.N = (fun i : S4x1024x1408.Idx => grad h g (i 1) (col (i 0).val (i 2))) := by
  refine (dats m 0 c).arrAt_eq_of_cover 3 (fun i : S4x1024x1408.Idx => grad h g (i 1) (col (i 0).val (i 2)))
    (fun t hf => ?_) fun i => ?_
  · have ht : t.val < 32 := lt_of_lt_of_eq t.isLt N_0
    have h7 : t.val % 8 = 7 := (flush0_3 t).1 hf
    rw [Value.flushed3, outs_snd hm t h7]
    funext y
    rw [View.read_apply]
    refine (acc_grad h g t.val h7 y).trans ?_
    refine congrArg₂ (grad h g) (Fin.ext ?_) (Fin.ext ?_)
    · show (y 1).val = win0_3.index t 1 * 1024 + 1 * (y 1).val
      rw [(idx3 t).2.1]; omega
    · show 1408 * (t.val / 8 % 4) + (y 2).val = 1408 * ((win0_3.index t 0 * 1 + 1 * (y 0).val) % 4) + (win0_3.index t 2 * 1408 + 1 * (y 2).val)
      have hy : (y 0 : Fin 1).val < 1 := (y 0).isLt
      rw [(idx3 t).1, (idx3 t).2.2]; omega
  · have h0 : (i 0 : Fin 4).val < 4 := (i 0).isLt
    have h1 : (i 1 : Fin 1024).val < 1024 := (i 1).isLt
    have h2 : (i 2 : Fin 1408).val < 1408 := (i 2).isLt
    have ht : (i 0 : Fin 4).val * 8 + 7 < cfg0.N := by rw [show cfg0.N = 32 from N_0]; omega
    refine ⟨⟨(i 0 : Fin 4).val * 8 + 7, ht⟩, (flush0_3 _).2 (by dsimp only; omega), ?_⟩
    show i ∈ ((View.whole main_v5_1).slice (win0_3.rect ⟨(i 0 : Fin 4).val * 8 + 7, ht⟩)).set
    rw [View.set_slice_whole, Rect.mem_set_unit]
    have hi := idx3 ⟨(i 0 : Fin 4).val * 8 + 7, ht⟩
    have hd : ((i 0 : Fin 4).val * 8 + 7) / 8 = (i 0 : Fin 4).val := by omega
    intro a
    match a with
    | ⟨0, _⟩ =>
      show win0_3.index _ 0 * 1 ≤ (i 0 : Fin 4).val ∧ (i 0 : Fin 4).val < win0_3.index _ 0 * 1 + 1
      rw [hi.1, hd]; omega
    | ⟨1, _⟩ =>
      show win0_3.index _ 1 * 1024 ≤ (i 1 : Fin 1024).val ∧ (i 1 : Fin 1024).val < win0_3.index _ 1 * 1024 + 1024
      rw [hi.2.1]; omega
    | ⟨2, _⟩ =>
      show win0_3.index _ 2 * 1408 ≤ (i 2 : Fin 1408).val ∧ (i 2 : Fin 1408).val < win0_3.index _ 2 * 1408 + 1408
      rw [hi.2.2]; omega

end Cert.Weight.Up

end
-- ==== Proof.UpClaims.lean ====
/-
  The claims about the gradient of the projection up.
-/
module

public import proofs.«01_k».proof.Defs
public import proofs.«01_k».proof.Proof.UpFinal
public import proofs.«01_k».proof.Proof.Gen.ReferenceUpIdeal.Read

@[expose] public section

set_option maxRecDepth 16384

noncomputable section

namespace Cert.Weight.Up

open Idealize.ShloMosaic Idealize.SL.Sem

/-- The reference terminates and leaves its arguments as they were. -/
theorem frame_ref : Cert.quiescent_ReferenceUpIdeal := fun m ρ _ =>
  (θ_run Cert.ReferenceUpIdeal.defs _ _).mono (fun r h => ⟨fun c => (h c).2.2,
      Idealize.ShloMosaic.sem_eq_zero_of_no_sems (by decide) r.2⟩)
    (Cert.ReferenceUpIdeal.Value.run (F := Ideal) m ρ)

section

open Cert.ReferenceUpIdeal Cert.ReferenceUpIdeal.Gen Cert.ReferenceUpIdeal.Read
open Finset

variable (h : S2x4096x1024.Idx → EReal) (g : S2x4096x5632.Idx → EReal)

/-- The reference's product: the sum over both token axes. -/
theorem ref_v2 (i : S5632x1024.Idx) : val_main_v2 (F := Ideal) h g i = grad h g (i 1) (i 0) := by
  unfold val_main_v2 grad
  simp only [Host.dotGeneral]
  rw [Ideal.dotGeneral_apply, DotDims.sum_contr₂ _ (a := 0) (b := 1) rfl (K₁ := 2) (K₂ := 4096) rfl rfl]
  refine sum_congr rfl fun b _ => sum_congr rfl fun s _ => ?_
  refine (mul_comm _ _).trans (congrArg₂ (· * ·) (congrArg h ?_) (congrArg g ?_))
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

/-- The reference's first result. -/
theorem ref_v5 : val_main_v5 (F := Ideal) h g = fun i : S4x1024x1408.Idx => grad h g (i 1) (col (i 0).val (i 2)) := by
  funext i
  have h0 : (i 0 : Fin 4).val < 4 := (i 0).isLt
  have h1 : (i 1 : Fin 1024).val < 1024 := (i 1).isLt
  have h2 : (i 2 : Fin 1408).val < 1408 := (i 2).isLt
  rw [val_main_v5_apply, val_main_v4_apply, val_main_v3_apply, ref_v2]
  refine congrArg₂ (grad h g) (Fin.ext ?_) (Fin.ext ?_)
  · show (((i 1 : Fin 1024).val * 4 + (i 0 : Fin 4).val) * 1408 + (i 2 : Fin 1408).val) / 5632 = (i 1 : Fin 1024).val
    omega
  · show (((i 1 : Fin 1024).val * 4 + (i 0 : Fin 4).val) * 1408 + (i 2 : Fin 1408).val) % 5632 = 1408 * ((i 0 : Fin 4).val % 4) + (i 2 : Fin 1408).val
    omega

/-- The second result is the same array, rounded: the same numbers here. -/
theorem ref_v6 : val_main_v6 (F := Ideal) h g = fun i : S4x1024x1408.Idx => grad h g (i 1) (col (i 0).val (i 2)) :=
  (show val_main_v6 (F := Ideal) h g = val_main_v5 (F := Ideal) h g from rfl).trans (ref_v5 h g)

end

/-- From memories that agree on the arguments, the kernel's program and the reference end with equal results. -/
theorem algebraic : Cert.algebraic_KernelUpIdeal_ReferenceUpIdeal := by
  intro m ρ m' ρ' _ hagree
  refine ⟨fun c => fun i : Cert.KernelUpIdeal.S4x1024x1408.Idx => grad (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (i 1) (col (i 0).val (i 2)),
    fun c => fun i : Cert.KernelUpIdeal.S4x1024x1408.Idx => grad (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (i 1) (col (i 0).val (i 2)), ?_, ?_⟩
  · refine (θ_run Cert.KernelUpIdeal.defs _ _).mono (fun r h c => ?_) (Cert.KernelUpIdeal.Value.run_blocks (F := Ideal) m ρ)
    obtain ⟨h0, h1, hargs⟩ := h c
    exact ⟨h0.trans (final2 ⟨rfl, rfl⟩), h1.trans (final3 ⟨rfl, rfl⟩), hargs⟩
  · refine (θ_run Cert.ReferenceUpIdeal.defs _ _).mono (fun r h c => ?_) (Cert.ReferenceUpIdeal.Value.run (F := Ideal) m' ρ')
    obtain ⟨h0, h1, hargs⟩ := h c
    obtain ⟨a0, a1⟩ := hagree c
    refine ⟨h0.trans ?_, h1.trans ?_, hargs⟩
    · rw [Cert.ReferenceUpIdeal.Read.val_main_v5_eq, a0, a1]; exact ref_v5 _ _
    · rw [Cert.ReferenceUpIdeal.Read.val_main_v6_eq, a0, a1]; exact ref_v6 _ _

end Cert.Weight.Up

end
-- ==== Proof.DownPoint.lean ====
/-
  Gradient of the projection down: what one grid point leaves in its output blocks.
-/
module

public import proofs.«01_k».proof.Proof.WgtSums
public import proofs.«01_k».proof.Proof.Gen.KernelDownIdeal.Value
public import Idealize.ShloMosaic.Lib.VecWindow
public import Idealize.ShloMosaic.Lib.Pointwise
public import Idealize.ShloMosaic.Lib.StableHlo.ReadAt

@[expose] public section

set_option maxRecDepth 16384

noncomputable section

namespace Cert.Weight.Down

open Idealize.ShloMosaic Cert.KernelDownIdeal Cert.KernelDownIdeal.Gen
open Finset

/-- The product of one block of rows: entry `y` of the output block. -/
def prod (x : S1024x1408.Idx → EReal) (g : S1x1024x1024.Idx → EReal) (y : S1408x1024.Idx) : EReal :=
  ∑ r : Fin 1024, x (ix2 r (y 0)) * g (ix3 0 r (y 1))

theorem p1 : k0_pay1 (F := Ideal) = fun _ => (0 : EReal) := by
  funext y
  pointwise [k0_pay1]

theorem p2 (v : S1408x1024.Idx → EReal) (x : S1024x1408.Idx → EReal) (g : S1x1024x1024.Idx → EReal) :
    k0_pay2 (F := Ideal) v x g = fun y => v y + prod x g y := by
  funext y
  pointwise [k0_pay2]
  rfl

theorem p3 (v : S1408x1024.Idx → EReal) : k0_pay3 (F := Ideal) v = v := by
  funext y
  pointwise [k0_pay3]

theorem hz2 : (![0, 0] : Fin 2 → Nat) = fun _ => 0 := by funext a; fin_cases a <;> rfl
theorem hz3 : (![0, 0, 0] : Fin 3 → Nat) = fun _ => 0 := by funext a; fin_cases a <;> rfl
theorem hz3a : ∀ a, (![0, 0, 0] : Fin 3 → Nat) a = 0 := by intro a; fin_cases a <;> rfl

variable (c : Dev nD) (i : grid0.Coords) (arg3 : Memref sig .tc .vmem S1024x1408 .bf16) (harg3 : arg3.IsWhole)
  (arg4 : Memref sig .tc .vmem S1x1024x1024 .bf16) (harg4 : arg4.IsWhole) (arg5 : Memref sig .tc .vmem S1408x1024 .f32)
  (harg5 : arg5.IsWhole) (arg6 : Memref sig .tc .vmem S1408x1024 .bf16) (harg6 : arg6.IsWhole)
  (x0 : S1024x1408.Idx → EReal) (x1 : S1x1024x1024.Idx → EReal) (xo : S1408x1024.Idx → EReal)

/-- The first point of an output block: the block's product, added to zero. -/
theorem outA2 (hc0 : cond0_0 i) (hc1 : ¬cond0_1 i) :
    out0_A_2 (F := Ideal) c i arg3 harg3 arg4 harg4 arg5 harg5 arg6 harg6 hc0 hc1 x0 x1 = fun y => 0 + prod x0 x1 y := by
  unfold out0_A_2
  unfold kernelRun0_A
  dsimp only
  sl_unfold_words
  refine (View.read_writes_full (s := S1408x1024) _ _ _ _ _).trans ?_
  rw [View.readCov_full (s := S1408x1024)]
  simp only [View.readAt_eq_ld, harg3.read_unread, harg4.read_unread]
  simp only [View.ld_unit_zero (S := S1024x1408) hz2, View.ld_unit_zero (S := S1x1024x1024) hz3, View.ld_unit_zero (S := S1408x1024) hz2, p2, p1]

/-- A point between: the block's product, added to what the point before left. -/
theorem outB2 (hc0 : ¬cond0_0 i) (hc1 : ¬cond0_1 i) :
    out0_B_2 (F := Ideal) c i arg3 harg3 arg4 harg4 arg5 harg5 arg6 harg6 hc0 hc1 x0 x1 xo = fun y => xo y + prod x0 x1 y := by
  unfold out0_B_2
  rw [View.read_writes_eq_canon _ _ _ (cover0_B_2 (F := Ideal) c i arg3 harg3 arg4 harg4 arg5 harg5 arg6 harg6 hc0 hc1 x0 x1 xo)]
  unfold kernelRun0_B
  dsimp only
  sl_unfold_words
  rw [View.canon_unit_zero (S := S1408x1024) hz2]
  simp only [View.readAt_eq_ld, harg3.read_unread, harg4.read_unread, harg5.read_unread]
  simp only [View.ld_unit_zero (S := S1024x1408) hz2, View.ld_unit_zero (S := S1x1024x1024) hz3, View.ld_unit_zero (S := S1408x1024) hz2, p2]

/-- The last point does the same. -/
theorem outC2 (hc0 : ¬cond0_0 i) (hc1 : cond0_1 i) :
    out0_C_2 (F := Ideal) c i arg3 harg3 arg4 harg4 arg5 harg5 arg6 harg6 hc0 hc1 x0 x1 xo = fun y => xo y + prod x0 x1 y := by
  unfold out0_C_2
  rw [View.read_writes_eq_canon _ _ _ (cover0_C_2 (F := Ideal) c i arg3 harg3 arg4 harg4 arg5 harg5 arg6 harg6 hc0 hc1 x0 x1 xo)]
  unfold kernelRun0_C
  dsimp only
  sl_unfold_words
  rw [View.canon_unit_zero (S := S1408x1024) hz2]
  simp only [View.readAt_eq_ld, harg3.read_unread, harg4.read_unread, harg5.read_unread]
  simp only [View.ld_unit_zero (S := S1024x1408) hz2, View.ld_unit_zero (S := S1x1024x1024) hz3, View.ld_unit_zero (S := S1408x1024) hz2, p2]

/-- And copies the sum to the second output. -/
theorem outC3 (hc0 : ¬cond0_0 i) (hc1 : cond0_1 i) :
    out0_C_3 (F := Ideal) c i arg3 harg3 arg4 harg4 arg5 harg5 arg6 harg6 hc0 hc1 x0 x1 xo = fun y => xo y + prod x0 x1 y := by
  unfold out0_C_3
  rw [View.read_writes_eq_canon _ _ _ (cover0_C_3 (F := Ideal) c i arg3 harg3 arg4 harg4 arg5 harg5 arg6 harg6 hc0 hc1 x0 x1 xo)]
  unfold kernelRun0_C
  dsimp only
  sl_unfold_words
  rw [View.canon_unit_zero (S := S1408x1024) hz2]
  rw [View.readCov_full (s := S1408x1024)]
  simp only [View.readAt_eq_ld, harg3.read_unread, harg4.read_unread, harg5.read_unread]
  simp only [View.ld_unit_zero (S := S1024x1408) hz2, View.ld_unit_zero (S := S1x1024x1024) hz3, View.ld_unit_zero (S := S1408x1024) hz2, p2, p3]

end Cert.Weight.Down

end
-- ==== Proof.DownFinal.lean ====
/-
  Gradient of the projection down: the arrays the kernel's call ends with hold the sum over the tokens.
-/
module

public import proofs.«01_k».proof.Proof.DownPoint

@[expose] public section

set_option maxRecDepth 16384

noncomputable section

namespace Cert.Weight.Down

open Idealize.ShloMosaic Cert.KernelDownIdeal Cert.KernelDownIdeal.Gen
open Idealize.ShloMosaic.Pipeline (Dat)
open Finset

/-- The gradient of the weight: column `k` of the operand against column `d` of the cotangent, over all tokens. -/
def grad (h : S2x4096x2816.Idx → EReal) (g : S2x4096x1024.Idx → EReal) (k : Fin 2816) (d : Fin 1024) : EReal :=
  ∑ b : Fin 2, ∑ s : Fin 4096, h (ix3 b s k) * g (ix3 b s d)

/-- Column `j` of part `n` of the two parts the operand's columns are cut in. -/
def col (n : ℕ) (j : Fin 1408) : Fin 2816 := ⟨1408 * (n % 2) + j.val, by omega⟩

variable (h : S2x4096x2816.Idx → EReal) (g : S2x4096x1024.Idx → EReal)

/-- The blocks point `n` is given, and their product. -/
def xb (n : ℕ) (y : S1024x1408.Idx) : EReal := h (ix3 (bt (tok n (y 0))) (ps (tok n (y 0))) (col (n / 8) (y 1)))
def gb (n : ℕ) (y : S1x1024x1024.Idx) : EReal := g (ix3 (bt (tok n (y 1))) (ps (tok n (y 1))) (y 2))
def step (n : ℕ) (y : S1408x1024.Idx) : EReal := prod (xb h n) (gb g n) y

/-- After the last of its eight points an output block holds the gradient. -/
theorem acc_grad (n : ℕ) (hn : n % 8 = 7) (y : S1408x1024.Idx) :
    acc (step h g) n y = grad h g (col (n / 8) (y 0)) (y 1) := by
  rw [acc_last _ n hn]
  unfold grad
  rw [← sum_tokens fun b s => h (ix3 b s (col (n / 8) (y 0))) * g (ix3 b s (y 1))]
  refine sum_congr rfl fun q hq => ?_
  unfold step prod
  refine sum_congr rfl fun r _ => ?_
  have hq : q < 8 := mem_range.1 hq
  have e1 : tok (n / 8 * 8 + q) r = tok q r := Fin.ext (by
    show 1024 * ((n / 8 * 8 + q) % 8) + r.val = 1024 * (q % 8) + r.val
    omega)
  have e2 : (n / 8 * 8 + q) / 8 = n / 8 := by omega
  show h (ix3 (bt (tok (n / 8 * 8 + q) r)) (ps (tok (n / 8 * 8 + q) r)) (col ((n / 8 * 8 + q) / 8) (y 0)))
    * g (ix3 (bt (tok (n / 8 * 8 + q) r)) (ps (tok (n / 8 * 8 + q) r)) (y 1)) = _
  rw [e1, e2]

/-- The program's arguments hold `h` and `g`. -/
structure Holds (m : (ℓ : Loc nD τ sig) → Buf (Elt Ideal) ℓ) (c : Dev nD) : Prop where
  h : m ((c.tc : Thread nD τ).loc main_arg0) = h
  g : m ((c.tc : Thread nD τ).loc main_arg1) = g

theorem idx0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem idx1 : ∀ t : Fin cfg0.N, win0_1.index t 0 = 0 ∧ win0_1.index t 1 = t.val % 8 ∧ win0_1.index t 2 = 0 :=
  (by decide +kernel : ∀ t : Fin grid0.N, win0_1.index t 0 = 0 ∧ win0_1.index t 1 = t.val % 8 ∧ win0_1.index t 2 = 0)
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx3 : ∀ t : Fin cfg0.N, win0_3.index t 0 = t.val / 8 ∧ win0_3.index t 1 = 0 :=
  (by decide +kernel : ∀ t : Fin grid0.N, win0_3.index t 0 = t.val / 8 ∧ win0_3.index t 1 = 0)

/-- A row lies in its block of 1408. -/
theorem in_block (n : ℕ) : n / 1408 * 1408 ≤ n ∧ n < n / 1408 * 1408 + 1408 := by omega

variable {h g} {m : (ℓ : Loc nD τ sig) → Buf (Elt Ideal) ℓ} {c : Dev nD} (hm : Holds h g m c)
include hm

/-- The operand, its tokens in one row after the other. -/
theorem V_v1 (i : S8192x2816.Idx) : V m c main_v1 i = h (ix3 (bt (i 0)) (ps (i 0)) (i 1)) := by
  generalize hR : h (ix3 (bt (i 0)) (ps (i 0)) (i 1)) = R
  unfold V
  after_reads_at
  rw [hm.h, ← hR]
  rfl

/-- The cotangent, its tokens in one row after the other, under one unit axis. -/
theorem V_v4 (i : S1x8192x1024.Idx) : V m c main_v4 i = g (ix3 (bt (i 1)) (ps (i 1)) (i 2)) := by
  generalize hR : g (ix3 (bt (i 1)) (ps (i 1)) (i 2)) = R
  unfold V
  after_reads_at
  rw [hm.g, ← hR]
  rfl

theorem iblk0 (t : Fin cfg0.N) : iblk m c 0 t = xb h t.val := by
  funext y
  unfold iblk
  rw [View.read_apply]
  have ht : t.val < 16 := lt_of_lt_of_eq t.isLt N_0
  refine (V_v1 hm _).trans ?_
  have e0 : (((cfg0.win 0).blk t).view.emb y 0 : Fin 8192) = tok t.val (y 0) := Fin.ext (by
    show win0_0.index t 0 * 1024 + 1 * (y 0).val = 1024 * (t.val % 8) + (y 0).val
    rw [(idx0 t).1]; omega)
  have e1 : (((cfg0.win 0).blk t).view.emb y 1 : Fin 2816) = col (t.val / 8) (y 1) := Fin.ext (by
    show win0_0.index t 1 * 1408 + 1 * (y 1).val = 1408 * (t.val / 8 % 2) + (y 1).val
    rw [(idx0 t).2]; omega)
  exact congrArg₂ (fun (a : Fin 8192) (d : Fin 2816) => h (ix3 (bt a) (ps a) d)) e0 e1

theorem iblk1 (t : Fin cfg0.N) : iblk m c 1 t = gb g t.val := by
  funext y
  unfold iblk
  rw [View.read_apply]
  refine (V_v4 hm _).trans ?_
  have e1 : (((cfg0.win 1).blk t).view.emb y 1 : Fin 8192) = tok t.val (y 1) := Fin.ext (by
    show win0_1.index t 1 * 1024 + 1 * (y 1).val = 1024 * (t.val % 8) + (y 1).val
    rw [(idx1 t).2.1]; omega)
  have e2 : (((cfg0.win 1).blk t).view.emb y 2 : Fin 1024) = y 2 := Fin.ext (by
    show win0_1.index t 2 * 1024 + 1 * (y 2).val = (y 2).val
    rw [(idx1 t).2.2]; omega)
  exact congrArg₂ (fun (a : Fin 8192) (k : Fin 1024) => g (ix3 (bt a) (ps a) k)) e1 e2

/-- The first output block after each point. -/
theorem outs_fst : ∀ (n : ℕ) (hn : n < cfg0.N), (outsAt0 m c n hn).1 = acc (step h g) n
  | 0, hn => by
    rw [outsAt0_A m c ⟨0, hn⟩ rfl (by dsimp only; omega), iblk0 hm, iblk1 hm]
    dsimp only
    rw [outA2]
    exact funext fun y => (acc_first (step h g) 0 rfl y).symm
  | n + 1, hn => by
    have ih := outs_fst n (Nat.lt_of_succ_lt hn)
    by_cases h0 : (n + 1) % 8 = 0
    · rw [outsAt0_A m c ⟨n + 1, hn⟩ h0 (by dsimp only; omega), iblk0 hm, iblk1 hm]
      dsimp only
      rw [outA2]
      exact funext fun y => (acc_first (step h g) (n + 1) h0 y).symm
    · by_cases h1 : (n + 1) % 8 = 7
      · rw [outsAt0_C m c ⟨n + 1, hn⟩ h0 h1, iblk0 hm, iblk1 hm]
        dsimp only
        rw [outC2]
        simp only [Nat.add_sub_cancel, ih]
        exact funext fun y => (acc_next (step h g) (n + 1) h0 y).symm
      · rw [outsAt0_B m c ⟨n + 1, hn⟩ h0 h1, iblk0 hm, iblk1 hm]
        dsimp only
        rw [outB2]
        simp only [Nat.add_sub_cancel, ih]
        exact funext fun y => (acc_next (step h g) (n + 1) h0 y).symm

/-- The second output block after the last of eight points. -/
theorem outs_snd (t : Fin cfg0.N) (h1 : t.val % 8 = 7) : (outsAt0 m c t.val t.isLt).2 = acc (step h g) t.val := by
  have h0 : ¬t.val % 8 = 0 := by omega
  rw [outsAt0_C m c t h0 h1, iblk0 hm, iblk1 hm, outs_fst hm]
  dsimp only
  rw [outC3]
  exact funext fun y => (acc_next (step h g) t.val h0 y).symm

/-- The first result. -/
theorem final2 : (dats m 0 c).arrAt 2 cfg0.N = (fun i : S2816x1024.Idx => grad h g (i 0) (i 1)) := by
  refine (dats m 0 c).arrAt_eq_of_cover 2 (fun i : S2816x1024.Idx => grad h g (i 0) (i 1))
    (fun t hf => ?_) fun i => ?_
  · have ht : t.val < 16 := lt_of_lt_of_eq t.isLt N_0
    have h7 : t.val % 8 = 7 := (flush0_2 t).1 hf
    rw [Value.flushed2, outs_fst hm]
    funext y
    rw [View.read_apply]
    refine (acc_grad h g t.val h7 y).trans ?_
    refine congrArg₂ (grad h g) (Fin.ext ?_) (Fin.ext ?_)
    · show 1408 * (t.val / 8 % 2) + (y 0).val = win0_2.index t 0 * 1408 + 1 * (y 0).val
      rw [(idx2 t).1]; omega
    · show (y 1).val = win0_2.index t 1 * 1024 + 1 * (y 1).val
      rw [(idx2 t).2]; omega
  · have h0 : (i 0 : Fin 2816).val < 2816 := (i 0).isLt
    have h1 : (i 1 : Fin 1024).val < 1024 := (i 1).isLt
    have ht : (i 0 : Fin 2816).val / 1408 * 8 + 7 < cfg0.N := by rw [show cfg0.N = 16 from N_0]; omega
    refine ⟨⟨(i 0 : Fin 2816).val / 1408 * 8 + 7, ht⟩, (flush0_2 _).2 (by dsimp only; omega), ?_⟩
    show i ∈ ((View.whole main_v5_0).slice (win0_2.rect ⟨(i 0 : Fin 2816).val / 1408 * 8 + 7, ht⟩)).set
    rw [View.set_slice_whole, Rect.mem_set_unit]
    have hi := idx2 ⟨(i 0 : Fin 2816).val / 1408 * 8 + 7, ht⟩
    have hd : ((i 0 : Fin 2816).val / 1408 * 8 + 7) / 8 = (i 0 : Fin 2816).val / 1408 := by omega
    intro a
    match a with
    | ⟨0, _⟩ =>
      show win0_2.index _ 0 * 1408 ≤ (i 0 : Fin 2816).val ∧ (i 0 : Fin 2816).val < win0_2.index _ 0 * 1408 + 1408
      rw [hi.1, hd]; exact in_block _
    | ⟨1, _⟩ =>
      show win0_2.index _ 1 * 1024 ≤ (i 1 : Fin 1024).val ∧ (i 1 : Fin 1024).val < win0_2.index _ 1 * 1024 + 1024
      rw [hi.2]; omega

/-- The second result. -/
theorem final3 : (dats m 0 c).arrAt 3 cfg0.N = (fun i : S2816x1024.Idx => grad h g (i 0) (i 1)) := by
  refine (dats m 0 c).arrAt_eq_of_cover 3 (fun i : S2816x1024.Idx => grad h g (i 0) (i 1))
    (fun t hf => ?_) fun i => ?_
  · have ht : t.val < 16 := lt_of_lt_of_eq t.isLt N_0
    have h7 : t.val % 8 = 7 := (flush0_3 t).1 hf
    rw [Value.flushed3, outs_snd hm t h7]
    funext y
    rw [View.read_apply]
    refine (acc_grad h g t.val h7 y).trans ?_
    refine congrArg₂ (grad h g) (Fin.ext ?_) (Fin.ext ?_)
    · show 1408 * (t.val / 8 % 2) + (y 0).val = win0_3.index t 0 * 1408 + 1 * (y 0).val
      rw [(idx3 t).1]; omega
    · show (y 1).val = win0_3.index t 1 * 1024 + 1 * (y 1).val
      rw [(idx3 t).2]; omega
  · have h0 : (i 0 : Fin 2816).val < 2816 := (i 0).isLt
    have h1 : (i 1 : Fin 1024).val < 1024 := (i 1).isLt
    have ht : (i 0 : Fin 2816).val / 1408 * 8 + 7 < cfg0.N := by rw [show cfg0.N = 16 from N_0]; omega
    refine ⟨⟨(i 0 : Fin 2816).val / 1408 * 8 + 7, ht⟩, (flush0_3 _).2 (by dsimp only; omega), ?_⟩
    show i ∈ ((View.whole main_v5_1).slice (win0_3.rect ⟨(i 0 : Fin 2816).val / 1408 * 8 + 7, ht⟩)).set
    rw [View.set_slice_whole, Rect.mem_set_unit]
    have hi := idx3 ⟨(i 0 : Fin 2816).val / 1408 * 8 + 7, ht⟩
    have hd : ((i 0 : Fin 2816).val / 1408 * 8 + 7) / 8 = (i 0 : Fin 2816).val / 1408 := by omega
    intro a
    match a with
    | ⟨0, _⟩ =>
      show win0_3.index _ 0 * 1408 ≤ (i 0 : Fin 2816).val ∧ (i 0 : Fin 2816).val < win0_3.index _ 0 * 1408 + 1408
      rw [hi.1, hd]; exact in_block _
    | ⟨1, _⟩ =>
      show win0_3.index _ 1 * 1024 ≤ (i 1 : Fin 1024).val ∧ (i 1 : Fin 1024).val < win0_3.index _ 1 * 1024 + 1024
      rw [hi.2]; omega

end Cert.Weight.Down

end
-- ==== Proof.DownClaims.lean ====
/-
  The claims about the gradient of the projection down.
-/
module

public import proofs.«01_k».proof.Defs
public import proofs.«01_k».proof.Proof.DownFinal
public import proofs.«01_k».proof.Proof.Gen.ReferenceDownIdeal.Read

@[expose] public section

set_option maxRecDepth 16384

noncomputable section

namespace Cert.Weight.Down

open Idealize.ShloMosaic Idealize.SL.Sem

/-- The reference terminates and leaves its arguments as they were. -/
theorem frame_ref : Cert.quiescent_ReferenceDownIdeal := fun m ρ _ =>
  (θ_run Cert.ReferenceDownIdeal.defs _ _).mono (fun r h => ⟨fun c => (h c).2.2,
      Idealize.ShloMosaic.sem_eq_zero_of_no_sems (by decide) r.2⟩)
    (Cert.ReferenceDownIdeal.Value.run (F := Ideal) m ρ)

section

open Cert.ReferenceDownIdeal Cert.ReferenceDownIdeal.Gen Cert.ReferenceDownIdeal.Read
open Finset

variable (h : S2x4096x2816.Idx → EReal) (g : S2x4096x1024.Idx → EReal)

/-- The reference's product: the sum over both token axes. -/
theorem ref_v2 (i : S1024x2816.Idx) : val_main_v2 (F := Ideal) h g i = grad h g (i 1) (i 0) := by
  unfold val_main_v2 grad
  simp only [Host.dotGeneral]
  rw [Ideal.dotGeneral_apply, DotDims.sum_contr₂ _ (a := 0) (b := 1) rfl (K₁ := 2) (K₂ := 4096) rfl rfl]
  refine sum_congr rfl fun b _ => sum_congr rfl fun s _ => ?_
  refine (mul_comm _ _).trans (congrArg₂ (· * ·) (congrArg h ?_) (congrArg g ?_))
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

/-- The reference's first result. -/
theorem ref_v3 : val_main_v3 (F := Ideal) h g = fun i : S2816x1024.Idx => grad h g (i 0) (i 1) := by
  funext i
  rw [val_main_v3_apply, ref_v2]
  rfl

/-- The second result is the same array, rounded: the same numbers here. -/
theorem ref_v4 : val_main_v4 (F := Ideal) h g = fun i : S2816x1024.Idx => grad h g (i 0) (i 1) :=
  (show val_main_v4 (F := Ideal) h g = val_main_v3 (F := Ideal) h g from rfl).trans (ref_v3 h g)

end

/-- From memories that agree on the arguments, the kernel's program and the reference end with equal results. -/
theorem algebraic : Cert.algebraic_KernelDownIdeal_ReferenceDownIdeal := by
  intro m ρ m' ρ' _ hagree
  refine ⟨fun c => fun i : Cert.KernelDownIdeal.S2816x1024.Idx => grad (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (i 0) (i 1),
    fun c => fun i : Cert.KernelDownIdeal.S2816x1024.Idx => grad (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (i 0) (i 1), ?_, ?_⟩
  · refine (θ_run Cert.KernelDownIdeal.defs _ _).mono (fun r h c => ?_) (Cert.KernelDownIdeal.Value.run_blocks (F := Ideal) m ρ)
    obtain ⟨h0, h1, hargs⟩ := h c
    exact ⟨h0.trans (final2 ⟨rfl, rfl⟩), h1.trans (final3 ⟨rfl, rfl⟩), hargs⟩
  · refine (θ_run Cert.ReferenceDownIdeal.defs _ _).mono (fun r h c => ?_) (Cert.ReferenceDownIdeal.Value.run (F := Ideal) m' ρ')
    obtain ⟨h0, h1, hargs⟩ := h c
    obtain ⟨a0, a1⟩ := hagree c
    refine ⟨h0.trans ?_, h1.trans ?_, hargs⟩
    · rw [Cert.ReferenceDownIdeal.Read.val_main_v3_eq, a0, a1]; exact ref_v3 _ _
    · rw [Cert.ReferenceDownIdeal.Read.val_main_v4_eq, a0, a1]; exact ref_v4 _ _

end Cert.Weight.Down

end
-- ==== Proof.OutPoint.lean ====
/-
  Gradient of the mixer's projection out: what one grid point leaves in its output blocks.
-/
module

public import proofs.«01_k».proof.Proof.WgtSums
public import proofs.«01_k».proof.Proof.Gen.KernelOutIdeal.Value
public import Idealize.ShloMosaic.Lib.VecWindow
public import Idealize.ShloMosaic.Lib.Pointwise
public import Idealize.ShloMosaic.Lib.StableHlo.ReadAt

@[expose] public section

set_option maxRecDepth 16384

noncomputable section

namespace Cert.Weight.Out

open Idealize.ShloMosaic Cert.KernelOutIdeal Cert.KernelOutIdeal.Gen
open Finset

/-- The product of one block of rows: entry `y` of the output block. -/
def prod (x : S1024x1024.Idx → EReal) (g : S1x1024x1024.Idx → EReal) (y : S1024x1024.Idx) : EReal :=
  ∑ r : Fin 1024, x (ix2 r (y 0)) * g (ix3 0 r (y 1))

theorem p1 : k0_pay1 (F := Ideal) = fun _ => (0 : EReal) := by
  funext y
  pointwise [k0_pay1]

theorem p2 (v : S1024x1024.Idx → EReal) (x : S1024x1024.Idx → EReal) (g : S1x1024x1024.Idx → EReal) :
    k0_pay2 (F := Ideal) v x g = fun y => v y + prod x g y := by
  funext y
  pointwise [k0_pay2]
  rfl

theorem p3 (v : S1024x1024.Idx → EReal) : k0_pay3 (F := Ideal) v = v := by
  funext y
  pointwise [k0_pay3]

theorem hz2 : (![0, 0] : Fin 2 → Nat) = fun _ => 0 := by funext a; fin_cases a <;> rfl
theorem hz3 : (![0, 0, 0] : Fin 3 → Nat) = fun _ => 0 := by funext a; fin_cases a <;> rfl
theorem hz3a : ∀ a, (![0, 0, 0] : Fin 3 → Nat) a = 0 := by intro a; fin_cases a <;> rfl

variable (c : Dev nD) (i : grid0.Coords) (arg3 : Memref sig .tc .vmem S1024x1024 .bf16) (harg3 : arg3.IsWhole)
  (arg4 : Memref sig .tc .vmem S1x1024x1024 .bf16) (harg4 : arg4.IsWhole) (arg5 : Memref sig .tc .vmem S1024x1024 .f32)
  (harg5 : arg5.IsWhole) (arg6 : Memref sig .tc .vmem S1024x1024 .bf16) (harg6 : arg6.IsWhole)
  (x0 : S1024x1024.Idx → EReal) (x1 : S1x1024x1024.Idx → EReal) (xo : S1024x1024.Idx → EReal)

/-- The first point of an output block: the block's product, added to zero. -/
theorem outA2 (hc0 : cond0_0 i) (hc1 : ¬cond0_1 i) :
    out0_A_2 (F := Ideal) c i arg3 harg3 arg4 harg4 arg5 harg5 arg6 harg6 hc0 hc1 x0 x1 = fun y => 0 + prod x0 x1 y := by
  unfold out0_A_2
  unfold kernelRun0_A
  dsimp only
  sl_unfold_words
  refine (View.read_writes_full (s := S1024x1024) _ _ _ _ _).trans ?_
  rw [View.readCov_full (s := S1024x1024)]
  simp only [View.readAt_eq_ld, harg3.read_unread, harg4.read_unread]
  simp only [View.ld_unit_zero (S := S1024x1024) hz2, View.ld_unit_zero (S := S1x1024x1024) hz3, View.ld_unit_zero (S := S1024x1024) hz2, p2, p1]

/-- A point between: the block's product, added to what the point before left. -/
theorem outB2 (hc0 : ¬cond0_0 i) (hc1 : ¬cond0_1 i) :
    out0_B_2 (F := Ideal) c i arg3 harg3 arg4 harg4 arg5 harg5 arg6 harg6 hc0 hc1 x0 x1 xo = fun y => xo y + prod x0 x1 y := by
  unfold out0_B_2
  rw [View.read_writes_eq_canon _ _ _ (cover0_B_2 (F := Ideal) c i arg3 harg3 arg4 harg4 arg5 harg5 arg6 harg6 hc0 hc1 x0 x1 xo)]
  unfold kernelRun0_B
  dsimp only
  sl_unfold_words
  rw [View.canon_unit_zero (S := S1024x1024) hz2]
  simp only [View.readAt_eq_ld, harg3.read_unread, harg4.read_unread, harg5.read_unread]
  simp only [View.ld_unit_zero (S := S1024x1024) hz2, View.ld_unit_zero (S := S1x1024x1024) hz3, View.ld_unit_zero (S := S1024x1024) hz2, p2]

/-- The last point does the same. -/
theorem outC2 (hc0 : ¬cond0_0 i) (hc1 : cond0_1 i) :
    out0_C_2 (F := Ideal) c i arg3 harg3 arg4 harg4 arg5 harg5 arg6 harg6 hc0 hc1 x0 x1 xo = fun y => xo y + prod x0 x1 y := by
  unfold out0_C_2
  rw [View.read_writes_eq_canon _ _ _ (cover0_C_2 (F := Ideal) c i arg3 harg3 arg4 harg4 arg5 harg5 arg6 harg6 hc0 hc1 x0 x1 xo)]
  unfold kernelRun0_C
  dsimp only
  sl_unfold_words
  rw [View.canon_unit_zero (S := S1024x1024) hz2]
  simp only [View.readAt_eq_ld, harg3.read_unread, harg4.read_unread, harg5.read_unread]
  simp only [View.ld_unit_zero (S := S1024x1024) hz2, View.ld_unit_zero (S := S1x1024x1024) hz3, View.ld_unit_zero (S := S1024x1024) hz2, p2]

/-- And copies the sum to the second output. -/
theorem outC3 (hc0 : ¬cond0_0 i) (hc1 : cond0_1 i) :
    out0_C_3 (F := Ideal) c i arg3 harg3 arg4 harg4 arg5 harg5 arg6 harg6 hc0 hc1 x0 x1 xo = fun y => xo y + prod x0 x1 y := by
  unfold out0_C_3
  rw [View.read_writes_eq_canon _ _ _ (cover0_C_3 (F := Ideal) c i arg3 harg3 arg4 harg4 arg5 harg5 arg6 harg6 hc0 hc1 x0 x1 xo)]
  unfold kernelRun0_C
  dsimp only
  sl_unfold_words
  rw [View.canon_unit_zero (S := S1024x1024) hz2]
  rw [View.readCov_full (s := S1024x1024)]
  simp only [View.readAt_eq_ld, harg3.read_unread, harg4.read_unread, harg5.read_unread]
  simp only [View.ld_unit_zero (S := S1024x1024) hz2, View.ld_unit_zero (S := S1x1024x1024) hz3, View.ld_unit_zero (S := S1024x1024) hz2, p2, p3]

end Cert.Weight.Out

end
-- ==== Proof.OutFinal.lean ====
/-
  Gradient of the mixer's projection out: the arrays the kernel's call ends with hold the sum over the tokens.
-/
module

public import proofs.«01_k».proof.Proof.OutPoint

@[expose] public section

set_option maxRecDepth 16384

noncomputable section

namespace Cert.Weight.Out

open Idealize.ShloMosaic Cert.KernelOutIdeal Cert.KernelOutIdeal.Gen
open Idealize.ShloMosaic.Pipeline (Dat)
open Finset

/-- The gradient of the weight: column `k` of the operand against column `d` of the cotangent, over all tokens. -/
def grad (h : S2x4096x1024.Idx → EReal) (g : S2x4096x1024.Idx → EReal) (k : Fin 1024) (d : Fin 1024) : EReal :=
  ∑ b : Fin 2, ∑ s : Fin 4096, h (ix3 b s k) * g (ix3 b s d)

variable (h : S2x4096x1024.Idx → EReal) (g : S2x4096x1024.Idx → EReal)

/-- The blocks point `n` is given, and their product. -/
def xb (n : ℕ) (y : S1024x1024.Idx) : EReal := h (ix3 (bt (tok n (y 0))) (ps (tok n (y 0))) (y 1))
def gb (n : ℕ) (y : S1x1024x1024.Idx) : EReal := g (ix3 (bt (tok n (y 1))) (ps (tok n (y 1))) (y 2))
def step (n : ℕ) (y : S1024x1024.Idx) : EReal := prod (xb h n) (gb g n) y

/-- After the last of its eight points an output block holds the gradient. -/
theorem acc_grad (n : ℕ) (hn : n % 8 = 7) (y : S1024x1024.Idx) :
    acc (step h g) n y = grad h g (y 0) (y 1) := by
  rw [acc_last _ n hn]
  unfold grad
  rw [← sum_tokens fun b s => h (ix3 b s (y 0)) * g (ix3 b s (y 1))]
  refine sum_congr rfl fun q hq => ?_
  unfold step prod
  refine sum_congr rfl fun r _ => ?_
  have hq : q < 8 := mem_range.1 hq
  have e1 : tok (n / 8 * 8 + q) r = tok q r := Fin.ext (by
    show 1024 * ((n / 8 * 8 + q) % 8) + r.val = 1024 * (q % 8) + r.val
    omega)
  show h (ix3 (bt (tok (n / 8 * 8 + q) r)) (ps (tok (n / 8 * 8 + q) r)) (y 0))
    * g (ix3 (bt (tok (n / 8 * 8 + q) r)) (ps (tok (n / 8 * 8 + q) r)) (y 1)) = _
  rw [e1]

/-- The program's arguments hold `h` and `g`. -/
structure Holds (m : (ℓ : Loc nD τ sig) → Buf (Elt Ideal) ℓ) (c : Dev nD) : Prop where
  h : m ((c.tc : Thread nD τ).loc main_arg0) = h
  g : m ((c.tc : Thread nD τ).loc main_arg1) = g

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = 0 ∧ win0_1.index t 1 = t.val % 8 ∧ win0_1.index t 2 = 0 :=
  (by decide +kernel : ∀ t : Fin grid0.N, win0_1.index t 0 = 0 ∧ win0_1.index t 1 = t.val % 8 ∧ win0_1.index t 2 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)

variable {h g} {m : (ℓ : Loc nD τ sig) → Buf (Elt Ideal) ℓ} {c : Dev nD} (hm : Holds h g m c)
include hm

/-- The operand, its tokens in one row after the other. -/
theorem V_v1 (i : S8192x1024.Idx) : V m c main_v1 i = h (ix3 (bt (i 0)) (ps (i 0)) (i 1)) := by
  generalize hR : h (ix3 (bt (i 0)) (ps (i 0)) (i 1)) = R
  unfold V
  after_reads_at
  rw [hm.h, ← hR]
  rfl

/-- The cotangent, its tokens in one row after the other, under one unit axis. -/
theorem V_v4 (i : S1x8192x1024.Idx) : V m c main_v4 i = g (ix3 (bt (i 1)) (ps (i 1)) (i 2)) := by
  generalize hR : g (ix3 (bt (i 1)) (ps (i 1)) (i 2)) = R
  unfold V
  after_reads_at
  rw [hm.g, ← hR]
  rfl

theorem iblk0 (t : Fin cfg0.N) : iblk m c 0 t = xb h t.val := by
  funext y
  unfold iblk
  rw [View.read_apply]
  refine (V_v1 hm _).trans ?_
  have e0 : (((cfg0.win 0).blk t).view.emb y 0 : Fin 8192) = tok t.val (y 0) := Fin.ext (by
    show win0_0.index t 0 * 1024 + 1 * (y 0).val = 1024 * (t.val % 8) + (y 0).val
    rw [(idx0 t).1]; omega)
  have e1 : (((cfg0.win 0).blk t).view.emb y 1 : Fin 1024) = y 1 := Fin.ext (by
    show win0_0.index t 1 * 1024 + 1 * (y 1).val = (y 1).val
    rw [(idx0 t).2]; omega)
  exact congrArg₂ (fun (a : Fin 8192) (d : Fin 1024) => h (ix3 (bt a) (ps a) d)) e0 e1

theorem iblk1 (t : Fin cfg0.N) : iblk m c 1 t = gb g t.val := by
  funext y
  unfold iblk
  rw [View.read_apply]
  refine (V_v4 hm _).trans ?_
  have e1 : (((cfg0.win 1).blk t).view.emb y 1 : Fin 8192) = tok t.val (y 1) := Fin.ext (by
    show win0_1.index t 1 * 1024 + 1 * (y 1).val = 1024 * (t.val % 8) + (y 1).val
    rw [(idx1 t).2.1]; omega)
  have e2 : (((cfg0.win 1).blk t).view.emb y 2 : Fin 1024) = y 2 := Fin.ext (by
    show win0_1.index t 2 * 1024 + 1 * (y 2).val = (y 2).val
    rw [(idx1 t).2.2]; omega)
  exact congrArg₂ (fun (a : Fin 8192) (k : Fin 1024) => g (ix3 (bt a) (ps a) k)) e1 e2

/-- The first output block after each point. -/
theorem outs_fst : ∀ (n : ℕ) (hn : n < cfg0.N), (outsAt0 m c n hn).1 = acc (step h g) n
  | 0, hn => by
    rw [outsAt0_A m c ⟨0, hn⟩ rfl (by dsimp only; omega), iblk0 hm, iblk1 hm]
    dsimp only
    rw [outA2]
    exact funext fun y => (acc_first (step h g) 0 rfl y).symm
  | n + 1, hn => by
    have ih := outs_fst n (Nat.lt_of_succ_lt hn)
    by_cases h0 : (n + 1) % 8 = 0
    · rw [outsAt0_A m c ⟨n + 1, hn⟩ h0 (by dsimp only; omega), iblk0 hm, iblk1 hm]
      dsimp only
      rw [outA2]
      exact funext fun y => (acc_first (step h g) (n + 1) h0 y).symm
    · by_cases h1 : (n + 1) % 8 = 7
      · rw [outsAt0_C m c ⟨n + 1, hn⟩ h0 h1, iblk0 hm, iblk1 hm]
        dsimp only
        rw [outC2]
        simp only [Nat.add_sub_cancel, ih]
        exact funext fun y => (acc_next (step h g) (n + 1) h0 y).symm
      · rw [outsAt0_B m c ⟨n + 1, hn⟩ h0 h1, iblk0 hm, iblk1 hm]
        dsimp only
        rw [outB2]
        simp only [Nat.add_sub_cancel, ih]
        exact funext fun y => (acc_next (step h g) (n + 1) h0 y).symm

/-- The second output block after the last of eight points. -/
theorem outs_snd (t : Fin cfg0.N) (h1 : t.val % 8 = 7) : (outsAt0 m c t.val t.isLt).2 = acc (step h g) t.val := by
  have h0 : ¬t.val % 8 = 0 := by omega
  rw [outsAt0_C m c t h0 h1, iblk0 hm, iblk1 hm, outs_fst hm]
  dsimp only
  rw [outC3]
  exact funext fun y => (acc_next (step h g) t.val h0 y).symm

/-- The first result. -/
theorem final2 : (dats m 0 c).arrAt 2 cfg0.N = (fun i : S1024x1024.Idx => grad h g (i 0) (i 1)) := by
  refine (dats m 0 c).arrAt_eq_of_cover 2 (fun i : S1024x1024.Idx => grad h g (i 0) (i 1))
    (fun t hf => ?_) fun i => ?_
  · have h7 : t.val % 8 = 7 := (flush0_2 t).1 hf
    rw [Value.flushed2, outs_fst hm]
    funext y
    rw [View.read_apply]
    refine (acc_grad h g t.val h7 y).trans ?_
    refine congrArg₂ (grad h g) (Fin.ext ?_) (Fin.ext ?_)
    · show (y 0).val = win0_2.index t 0 * 1024 + 1 * (y 0).val
      rw [(idx2 t).1]; omega
    · show (y 1).val = win0_2.index t 1 * 1024 + 1 * (y 1).val
      rw [(idx2 t).2]; omega
  · have h0 : (i 0 : Fin 1024).val < 1024 := (i 0).isLt
    have h1 : (i 1 : Fin 1024).val < 1024 := (i 1).isLt
    have ht : 7 < cfg0.N := lt_of_lt_of_eq (by decide : 7 < 8) N_0.symm
    refine ⟨⟨7, ht⟩, (flush0_2 _).2 (by dsimp only), ?_⟩
    show i ∈ ((View.whole main_v5_0).slice (win0_2.rect ⟨7, ht⟩)).set
    rw [View.set_slice_whole, Rect.mem_set_unit]
    have hi := idx2 ⟨7, ht⟩
    intro a
    match a with
    | ⟨0, _⟩ =>
      show win0_2.index _ 0 * 1024 ≤ (i 0 : Fin 1024).val ∧ (i 0 : Fin 1024).val < win0_2.index _ 0 * 1024 + 1024
      rw [hi.1]; omega
    | ⟨1, _⟩ =>
      show win0_2.index _ 1 * 1024 ≤ (i 1 : Fin 1024).val ∧ (i 1 : Fin 1024).val < win0_2.index _ 1 * 1024 + 1024
      rw [hi.2]; omega

/-- The second result. -/
theorem final3 : (dats m 0 c).arrAt 3 cfg0.N = (fun i : S1024x1024.Idx => grad h g (i 0) (i 1)) := by
  refine (dats m 0 c).arrAt_eq_of_cover 3 (fun i : S1024x1024.Idx => grad h g (i 0) (i 1))
    (fun t hf => ?_) fun i => ?_
  · have h7 : t.val % 8 = 7 := (flush0_3 t).1 hf
    rw [Value.flushed3, outs_snd hm t h7]
    funext y
    rw [View.read_apply]
    refine (acc_grad h g t.val h7 y).trans ?_
    refine congrArg₂ (grad h g) (Fin.ext ?_) (Fin.ext ?_)
    · show (y 0).val = win0_3.index t 0 * 1024 + 1 * (y 0).val
      rw [(idx3 t).1]; omega
    · show (y 1).val = win0_3.index t 1 * 1024 + 1 * (y 1).val
      rw [(idx3 t).2]; omega
  · have h0 : (i 0 : Fin 1024).val < 1024 := (i 0).isLt
    have h1 : (i 1 : Fin 1024).val < 1024 := (i 1).isLt
    have ht : 7 < cfg0.N := lt_of_lt_of_eq (by decide : 7 < 8) N_0.symm
    refine ⟨⟨7, ht⟩, (flush0_3 _).2 (by dsimp only), ?_⟩
    show i ∈ ((View.whole main_v5_1).slice (win0_3.rect ⟨7, ht⟩)).set
    rw [View.set_slice_whole, Rect.mem_set_unit]
    have hi := idx3 ⟨7, ht⟩
    intro a
    match a with
    | ⟨0, _⟩ =>
      show win0_3.index _ 0 * 1024 ≤ (i 0 : Fin 1024).val ∧ (i 0 : Fin 1024).val < win0_3.index _ 0 * 1024 + 1024
      rw [hi.1]; omega
    | ⟨1, _⟩ =>
      show win0_3.index _ 1 * 1024 ≤ (i 1 : Fin 1024).val ∧ (i 1 : Fin 1024).val < win0_3.index _ 1 * 1024 + 1024
      rw [hi.2]; omega

end Cert.Weight.Out

end
-- ==== Proof.OutClaims.lean ====
/-
  The claims about the gradient of the mixer's projection out.
-/
module

public import proofs.«01_k».proof.Defs
public import proofs.«01_k».proof.Proof.OutFinal
public import proofs.«01_k».proof.Proof.Gen.ReferenceOutIdeal.Read

@[expose] public section

set_option maxRecDepth 16384

noncomputable section

namespace Cert.Weight.Out

open Idealize.ShloMosaic Idealize.SL.Sem

/-- The reference terminates and leaves its arguments as they were. -/
theorem frame_ref : Cert.quiescent_ReferenceOutIdeal := fun m ρ _ =>
  (θ_run Cert.ReferenceOutIdeal.defs _ _).mono (fun r h => ⟨fun c => (h c).2.2,
      Idealize.ShloMosaic.sem_eq_zero_of_no_sems (by decide) r.2⟩)
    (Cert.ReferenceOutIdeal.Value.run (F := Ideal) m ρ)

section

open Cert.ReferenceOutIdeal Cert.ReferenceOutIdeal.Gen Cert.ReferenceOutIdeal.Read
open Finset

variable (h : S2x4096x1024.Idx → EReal) (g : S2x4096x1024.Idx → EReal)

/-- The reference's product: the sum over both token axes. -/
theorem ref_v2 (i : S1024x1024.Idx) : val_main_v2 (F := Ideal) h g i = grad h g (i 1) (i 0) := by
  unfold val_main_v2 grad
  simp only [Host.dotGeneral]
  rw [Ideal.dotGeneral_apply, DotDims.sum_contr₂ _ (a := 0) (b := 1) rfl (K₁ := 2) (K₂ := 4096) rfl rfl]
  refine sum_congr rfl fun b _ => sum_congr rfl fun s _ => ?_
  refine (mul_comm _ _).trans (congrArg₂ (· * ·) (congrArg h ?_) (congrArg g ?_))
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

/-- The reference's first result. -/
theorem ref_v3 : val_main_v3 (F := Ideal) h g = fun i : S1024x1024.Idx => grad h g (i 0) (i 1) := by
  funext i
  rw [val_main_v3_apply, ref_v2]
  rfl

/-- The second result is the same array, rounded: the same numbers here. -/
theorem ref_v4 : val_main_v4 (F := Ideal) h g = fun i : S1024x1024.Idx => grad h g (i 0) (i 1) :=
  (show val_main_v4 (F := Ideal) h g = val_main_v3 (F := Ideal) h g from rfl).trans (ref_v3 h g)

end

/-- From memories that agree on the arguments, the kernel's program and the reference end with equal results. -/
theorem algebraic : Cert.algebraic_KernelOutIdeal_ReferenceOutIdeal := by
  intro m ρ m' ρ' _ hagree
  refine ⟨fun c => fun i : Cert.KernelOutIdeal.S1024x1024.Idx => grad (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (i 0) (i 1),
    fun c => fun i : Cert.KernelOutIdeal.S1024x1024.Idx => grad (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (i 0) (i 1), ?_, ?_⟩
  · refine (θ_run Cert.KernelOutIdeal.defs _ _).mono (fun r h c => ?_) (Cert.KernelOutIdeal.Value.run_blocks (F := Ideal) m ρ)
    obtain ⟨h0, h1, hargs⟩ := h c
    exact ⟨h0.trans (final2 ⟨rfl, rfl⟩), h1.trans (final3 ⟨rfl, rfl⟩), hargs⟩
  · refine (θ_run Cert.ReferenceOutIdeal.defs _ _).mono (fun r h c => ?_) (Cert.ReferenceOutIdeal.Value.run (F := Ideal) m' ρ')
    obtain ⟨h0, h1, hargs⟩ := h c
    obtain ⟨a0, a1⟩ := hagree c
    refine ⟨h0.trans ?_, h1.trans ?_, hargs⟩
    · rw [Cert.ReferenceOutIdeal.Read.val_main_v3_eq, a0, a1]; exact ref_v3 _ _
    · rw [Cert.ReferenceOutIdeal.Read.val_main_v4_eq, a0, a1]; exact ref_v4 _ _

end Cert.Weight.Out

end
-- ==== Proof.InPoint.lean ====
/-
  Gradient of the mixer's projection in: what one grid point leaves in its output blocks.
-/
module

public import proofs.«01_k».proof.Proof.WgtSums
public import proofs.«01_k».proof.Proof.Gen.KernelInIdeal.Value
public import Idealize.ShloMosaic.Lib.VecWindow
public import Idealize.ShloMosaic.Lib.Pointwise
public import Idealize.ShloMosaic.Lib.StableHlo.ReadAt

@[expose] public section

set_option maxRecDepth 16384

noncomputable section

namespace Cert.Weight.In

open Idealize.ShloMosaic Cert.KernelInIdeal Cert.KernelInIdeal.Gen
open Finset

/-- The product of one block of rows: entry `y` of the output block. -/
def prod (x : S1024x1024.Idx → EReal) (g : S1x1024x896.Idx → EReal) (y : S1024x896.Idx) : EReal :=
  ∑ r : Fin 1024, x (ix2 r (y 0)) * g (ix3 0 r (y 1))

theorem p1 : k0_pay1 (F := Ideal) = fun _ => (0 : EReal) := by
  funext y
  pointwise [k0_pay1]

theorem p2 (v : S1024x896.Idx → EReal) (x : S1024x1024.Idx → EReal) (g : S1x1024x896.Idx → EReal) :
    k0_pay2 (F := Ideal) v x g = fun y => v y + prod x g y := by
  funext y
  pointwise [k0_pay2]
  rfl

theorem hz2 : (![0, 0] : Fin 2 → Nat) = fun _ => 0 := by funext a; fin_cases a <;> rfl
theorem hz3 : (![0, 0, 0] : Fin 3 → Nat) = fun _ => 0 := by funext a; fin_cases a <;> rfl
theorem hz3a : ∀ a, (![0, 0, 0] : Fin 3 → Nat) a = 0 := by intro a; fin_cases a <;> rfl

variable (c : Dev nD) (i : grid0.Coords) (arg3 : Memref sig .tc .vmem S1024x1024 .bf16) (harg3 : arg3.IsWhole)
  (arg4 : Memref sig .tc .vmem S1x1024x896 .bf16) (harg4 : arg4.IsWhole) (arg5 : Memref sig .tc .vmem S1024x896 .f32)
  (harg5 : arg5.IsWhole)
  (x0 : S1024x1024.Idx → EReal) (x1 : S1x1024x896.Idx → EReal) (xo : S1024x896.Idx → EReal)

/-- The first point of an output block: the block's product, added to zero. -/
theorem outA2 (hc0 : cond0_0 i) :
    out0_A_2 (F := Ideal) c i arg3 harg3 arg4 harg4 arg5 harg5 hc0 x0 x1 = fun y => 0 + prod x0 x1 y := by
  unfold out0_A_2
  unfold kernelRun0_A
  dsimp only
  sl_unfold_words
  refine (View.read_writes_full (s := S1024x896) _ _ _ _ _).trans ?_
  rw [View.readCov_full (s := S1024x896)]
  simp only [View.readAt_eq_ld, harg3.read_unread, harg4.read_unread]
  simp only [View.ld_unit_zero (S := S1024x1024) hz2, View.ld_unit_zero (S := S1x1024x896) hz3, View.ld_unit_zero (S := S1024x896) hz2, p2, p1]

/-- Any other point: the block's product, added to what the point before left. -/
theorem outB2 (hc0 : ¬cond0_0 i) :
    out0_B_2 (F := Ideal) c i arg3 harg3 arg4 harg4 arg5 harg5 hc0 x0 x1 xo = fun y => xo y + prod x0 x1 y := by
  unfold out0_B_2
  rw [View.read_writes_eq_canon _ _ _ (cover0_B_2 (F := Ideal) c i arg3 harg3 arg4 harg4 arg5 harg5 hc0 x0 x1 xo)]
  unfold kernelRun0_B
  dsimp only
  sl_unfold_words
  rw [View.canon_unit_zero (S := S1024x896) hz2]
  simp only [View.readAt_eq_ld, harg3.read_unread, harg4.read_unread, harg5.read_unread]
  simp only [View.ld_unit_zero (S := S1024x1024) hz2, View.ld_unit_zero (S := S1x1024x896) hz3, View.ld_unit_zero (S := S1024x896) hz2, p2]

end Cert.Weight.In

end
-- ==== Proof.InFinal.lean ====
/-
  Gradient of the mixer's projection in: the array the kernel's call ends with holds the sum over the tokens.
-/
module

public import proofs.«01_k».proof.Proof.InPoint

@[expose] public section

set_option maxRecDepth 16384

noncomputable section

namespace Cert.Weight.In

open Idealize.ShloMosaic Cert.KernelInIdeal Cert.KernelInIdeal.Gen
open Idealize.ShloMosaic.Pipeline (Dat)
open Finset

/-- The cotangent with 124 columns of zeros after its own 2564. -/
def wide (g : S2x4096x2564.Idx → EReal) (b : Fin 2) (s : Fin 4096) (d : Fin 2688) : EReal :=
  if hd : d.val < 2564 then g (ix3 b s ⟨d.val, hd⟩) else 0

/-- The gradient of the weight: column `k` of the operand against column `d` of the widened cotangent, over all tokens. -/
def grad (h : S2x4096x1024.Idx → EReal) (g : S2x4096x2564.Idx → EReal) (k : Fin 1024) (d : Fin 2688) : EReal :=
  ∑ b : Fin 2, ∑ s : Fin 4096, h (ix3 b s k) * wide g b s d

/-- Column `j` of part `n` of the three parts the cotangent's columns are cut in. -/
def col (n : ℕ) (j : Fin 896) : Fin 2688 := ⟨896 * (n % 3) + j.val, by omega⟩

variable (h : S2x4096x1024.Idx → EReal) (g : S2x4096x2564.Idx → EReal)

/-- The blocks point `n` is given, and their product. -/
def xb (n : ℕ) (y : S1024x1024.Idx) : EReal := h (ix3 (bt (tok n (y 0))) (ps (tok n (y 0))) (y 1))
def gb (n : ℕ) (y : S1x1024x896.Idx) : EReal := wide g (bt (tok n (y 1))) (ps (tok n (y 1))) (col (n / 8) (y 2))
def step (n : ℕ) (y : S1024x896.Idx) : EReal := prod (xb h n) (gb g n) y

/-- After the last of its eight points an output block holds the gradient. -/
theorem acc_grad (n : ℕ) (hn : n % 8 = 7) (y : S1024x896.Idx) :
    acc (step h g) n y = grad h g (y 0) (col (n / 8) (y 1)) := by
  rw [acc_last _ n hn]
  unfold grad
  rw [← sum_tokens fun b s => h (ix3 b s (y 0)) * wide g b s (col (n / 8) (y 1))]
  refine sum_congr rfl fun q hq => ?_
  unfold step prod
  refine sum_congr rfl fun r _ => ?_
  have hq : q < 8 := mem_range.1 hq
  have e1 : tok (n / 8 * 8 + q) r = tok q r := Fin.ext (by
    show 1024 * ((n / 8 * 8 + q) % 8) + r.val = 1024 * (q % 8) + r.val
    omega)
  have e2 : (n / 8 * 8 + q) / 8 = n / 8 := by omega
  show h (ix3 (bt (tok (n / 8 * 8 + q) r)) (ps (tok (n / 8 * 8 + q) r)) (y 0))
    * wide g (bt (tok (n / 8 * 8 + q) r)) (ps (tok (n / 8 * 8 + q) r)) (col ((n / 8 * 8 + q) / 8) (y 1)) = _
  rw [e1, e2]

/-- The program's arguments hold `h` and `g`. -/
structure Holds (m : (ℓ : Loc nD τ sig) → Buf (Elt Ideal) ℓ) (c : Dev nD) : Prop where
  h : m ((c.tc : Thread nD τ).loc main_arg0) = h
  g : m ((c.tc : Thread nD τ).loc main_arg1) = g

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = 0 ∧ win0_1.index t 1 = t.val % 8 ∧ win0_1.index t 2 = t.val / 8 :=
  (by decide +kernel : ∀ t : Fin grid0.N, win0_1.index t 0 = 0 ∧ win0_1.index t 1 = t.val % 8 ∧ win0_1.index t 2 = t.val / 8)
theorem idx2 : ∀ t : Fin cfg0.N, win0_2.index t 0 = 0 ∧ win0_2.index t 1 = t.val / 8 :=
  (by decide +kernel : ∀ t : Fin grid0.N, win0_2.index t 0 = 0 ∧ win0_2.index t 1 = t.val / 8)
/-- A column lies in its block of 896. -/
theorem in_block (n : ℕ) : n / 896 * 896 ≤ n ∧ n < n / 896 * 896 + 896 := by omega

variable {h g} {m : (ℓ : Loc nD τ sig) → Buf (Elt Ideal) ℓ} {c : Dev nD} (hm : Holds h g m c)
include hm

/-- The operand, its tokens in one row after the other. -/
theorem V_v1 (i : S8192x1024.Idx) : V m c main_v1 i = h (ix3 (bt (i 0)) (ps (i 0)) (i 1)) := by
  generalize hR : h (ix3 (bt (i 0)) (ps (i 0)) (i 1)) = R
  unfold V
  after_reads_at
  rw [hm.h, ← hR]
  rfl

/-- The cotangent, its tokens in one row after the other, widened, under one unit axis. -/
theorem V_v5 (i : S1x8192x2688.Idx) : V m c main_v5 i = wide g (bt (i 1)) (ps (i 1)) (i 2) := by
  generalize hR : wide g (bt (i 1)) (ps (i 1)) (i 2) = R
  unfold V
  after_reads_at
  rw [hm.g, ← hR]
  unfold wide
  by_cases hd : (i 2 : Fin 2688).val < 2564
  · rw [dif_pos hd, dif_pos hd]
    rfl
  · rw [dif_neg hd, dif_neg hd]
    show ((((0#32 : BitVec 32).toInt : ℝ)) : EReal) = 0
    simp

theorem iblk0 (t : Fin cfg0.N) : iblk m c 0 t = xb h t.val := by
  funext y
  unfold iblk
  rw [View.read_apply]
  have ht : t.val < 24 := lt_of_lt_of_eq t.isLt N_0
  refine (V_v1 hm _).trans ?_
  have e0 : (((cfg0.win 0).blk t).view.emb y 0 : Fin 8192) = tok t.val (y 0) := Fin.ext (by
    show win0_0.index t 0 * 1024 + 1 * (y 0).val = 1024 * (t.val % 8) + (y 0).val
    rw [(idx0 t).1]; omega)
  have e1 : (((cfg0.win 0).blk t).view.emb y 1 : Fin 1024) = y 1 := Fin.ext (by
    show win0_0.index t 1 * 1024 + 1 * (y 1).val = (y 1).val
    rw [(idx0 t).2]; omega)
  exact congrArg₂ (fun (a : Fin 8192) (d : Fin 1024) => h (ix3 (bt a) (ps a) d)) e0 e1

theorem iblk1 (t : Fin cfg0.N) : iblk m c 1 t = gb g t.val := by
  funext y
  unfold iblk
  rw [View.read_apply]
  refine (V_v5 hm _).trans ?_
  have e1 : (((cfg0.win 1).blk t).view.emb y 1 : Fin 8192) = tok t.val (y 1) := Fin.ext (by
    show win0_1.index t 1 * 1024 + 1 * (y 1).val = 1024 * (t.val % 8) + (y 1).val
    rw [(idx1 t).2.1]; omega)
  have ht : t.val < 24 := lt_of_lt_of_eq t.isLt N_0
  have e2 : (((cfg0.win 1).blk t).view.emb y 2 : Fin 2688) = col (t.val / 8) (y 2) := Fin.ext (by
    show win0_1.index t 2 * 896 + 1 * (y 2).val = 896 * (t.val / 8 % 3) + (y 2).val
    rw [(idx1 t).2.2]; omega)
  exact congrArg₂ (fun (a : Fin 8192) (k : Fin 2688) => wide g (bt a) (ps a) k) e1 e2

/-- The output block after each point. -/
theorem outs : ∀ (n : ℕ) (hn : n < cfg0.N), outsAt0 m c n hn = acc (step h g) n
  | 0, hn => by
    rw [outsAt0_A m c ⟨0, hn⟩ rfl, iblk0 hm, iblk1 hm]
    dsimp only
    rw [outA2]
    exact funext fun y => (acc_first (step h g) 0 rfl y).symm
  | n + 1, hn => by
    have ih := outs n (Nat.lt_of_succ_lt hn)
    by_cases h0 : (n + 1) % 8 = 0
    · rw [outsAt0_A m c ⟨n + 1, hn⟩ h0, iblk0 hm, iblk1 hm]
      dsimp only
      rw [outA2]
      exact funext fun y => (acc_first (step h g) (n + 1) h0 y).symm
    · rw [outsAt0_B m c ⟨n + 1, hn⟩ h0, iblk0 hm, iblk1 hm]
      dsimp only
      rw [outB2]
      simp only [Nat.add_sub_cancel, ih]
      exact funext fun y => (acc_next (step h g) (n + 1) h0 y).symm

/-- The result. -/
theorem final2 : (dats m 0 c).arrAt 2 cfg0.N = (fun i : S1024x2688.Idx => grad h g (i 0) (i 1)) := by
  refine (dats m 0 c).arrAt_eq_of_cover 2 (fun i : S1024x2688.Idx => grad h g (i 0) (i 1))
    (fun t hf => ?_) fun i => ?_
  · have ht : t.val < 24 := lt_of_lt_of_eq t.isLt N_0
    have h7 : t.val % 8 = 7 := (flush0_2 t).1 hf
    rw [Value.flushed2, outs hm]
    funext y
    rw [View.read_apply]
    refine (acc_grad h g t.val h7 y).trans ?_
    refine congrArg₂ (grad h g) (Fin.ext ?_) (Fin.ext ?_)
    · show (y 0).val = win0_2.index t 0 * 1024 + 1 * (y 0).val
      rw [(idx2 t).1]; omega
    · show 896 * (t.val / 8 % 3) + (y 1).val = win0_2.index t 1 * 896 + 1 * (y 1).val
      rw [(idx2 t).2]; omega
  · have h0 : (i 0 : Fin 1024).val < 1024 := (i 0).isLt
    have h1 : (i 1 : Fin 2688).val < 2688 := (i 1).isLt
    have ht : (i 1 : Fin 2688).val / 896 * 8 + 7 < cfg0.N := by rw [show cfg0.N = 24 from N_0]; omega
    refine ⟨⟨(i 1 : Fin 2688).val / 896 * 8 + 7, ht⟩, (flush0_2 _).2 (by dsimp only; omega), ?_⟩
    show i ∈ ((View.whole main_v6).slice (win0_2.rect ⟨(i 1 : Fin 2688).val / 896 * 8 + 7, ht⟩)).set
    rw [View.set_slice_whole, Rect.mem_set_unit]
    have hi := idx2 ⟨(i 1 : Fin 2688).val / 896 * 8 + 7, ht⟩
    have hd : ((i 1 : Fin 2688).val / 896 * 8 + 7) / 8 = (i 1 : Fin 2688).val / 896 := by omega
    intro a
    match a with
    | ⟨0, _⟩ =>
      show win0_2.index _ 0 * 1024 ≤ (i 0 : Fin 1024).val ∧ (i 0 : Fin 1024).val < win0_2.index _ 0 * 1024 + 1024
      rw [hi.1]; omega
    | ⟨1, _⟩ =>
      show win0_2.index _ 1 * 896 ≤ (i 1 : Fin 2688).val ∧ (i 1 : Fin 2688).val < win0_2.index _ 1 * 896 + 896
      rw [hi.2, hd]; exact in_block _

end Cert.Weight.In

end
-- ==== Proof.InClaims.lean ====
/-
  The claims about the gradient of the mixer's projection in.
-/
module

public import proofs.«01_k».proof.Defs
public import proofs.«01_k».proof.Proof.InFinal
public import Idealize.ShloMosaic.Lib.KernelVsHost
public import proofs.«01_k».proof.Proof.Gen.ReferenceInIdeal.Read

@[expose] public section

set_option maxRecDepth 16384

noncomputable section

namespace Cert.Weight.In

open Idealize.ShloMosaic Idealize.SL.Sem

/-- The reference terminates and leaves its arguments as they were. -/
theorem frame_ref : Cert.quiescent_ReferenceInIdeal := fun m ρ _ =>
  (θ_run Cert.ReferenceInIdeal.defs _ _).mono (fun r h => ⟨fun c => (h c).2,
      Idealize.ShloMosaic.sem_eq_zero_of_no_sems (by decide) r.2⟩)
    (Cert.ReferenceInIdeal.Value.run (F := Ideal) m ρ)

section

open Cert.ReferenceInIdeal Cert.ReferenceInIdeal.Gen Cert.ReferenceInIdeal.Read
open Finset

variable (h : S2x4096x1024.Idx → EReal) (g : S2x4096x2564.Idx → EReal)

/-- The reference's product: the sum over both token axes. -/
theorem ref_v2 (i : S2564x1024.Idx) : val_main_v2 (F := Ideal) h g i
    = ∑ b : Fin 2, ∑ s : Fin 4096, h (ix3 b s (i 1)) * g (ix3 b s (i 0)) := by
  unfold val_main_v2
  simp only [Host.dotGeneral]
  rw [Ideal.dotGeneral_apply, DotDims.sum_contr₂ _ (a := 0) (b := 1) rfl (K₁ := 2) (K₂ := 4096) rfl rfl]
  refine sum_congr rfl fun b _ => sum_congr rfl fun s _ => ?_
  refine (mul_comm _ _).trans (congrArg₂ (· * ·) (congrArg h ?_) (congrArg g ?_))
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

/-- The reference's result: the product's transpose, with columns of zeros after its own. -/
theorem ref_v4 : val_main_v4 (F := Ideal) h g = fun i : S1024x2688.Idx => grad h g (i 0) (i 1) := by
  funext i
  unfold val_main_v4 grad
  have hz : val_main_call0_v0 (F := Ideal) (Shape.Idx.first h_S_) = (0 : EReal) := by
    rw [val_main_call0_v0_apply, val_main_c_apply]
    show ((((0#32 : BitVec 32).toInt : ℝ)) : EReal) = 0
    simp
  by_cases hd : (i 1 : Fin 2688).val < 2564
  · rw [pad_apply_of_inside _ _ _ _ _ _ _ i (ix2 (i 0) ⟨(i 1).val, hd⟩ : S1024x2564.Idx) (fun a => by
      match a with
      | ⟨0, _⟩ => show (i 0).val = 0 + (i 0).val * (0 + 1); omega
      | ⟨1, _⟩ => show (i 1).val = 0 + (i 1).val * (0 + 1); omega), val_main_v3_apply, ref_v2]
    refine sum_congr rfl fun b _ => sum_congr rfl fun s _ => ?_
    unfold wide
    rw [dif_pos hd]
    rfl
  · rw [pad_apply_of_not_inside _ _ _ _ _ _ _ i 1 (fun hh => hd (by
      have := hh.2.2
      have e : ((i 1).val - 0) / (0 + 1) < 2564 := this
      omega)), hz]
    refine (sum_eq_zero fun b _ => sum_eq_zero fun s _ => ?_).symm
    unfold wide
    rw [dif_neg hd, mul_zero]

end

/-- From memories that agree on the arguments, the kernel's program and the reference end with equal results. -/
theorem algebraic : Cert.algebraic_KernelInIdeal_ReferenceInIdeal := by
  intro m ρ m' ρ' _ hagree
  refine ⟨fun c => fun i : Cert.KernelInIdeal.S1024x2688.Idx => grad (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (i 0) (i 1), ?_, ?_⟩
  · refine (θ_run Cert.KernelInIdeal.defs _ _).mono (fun r h c => ?_) (Cert.KernelInIdeal.Value.run_blocks (F := Ideal) m ρ)
    obtain ⟨h0, hargs⟩ := h c
    exact ⟨h0.trans (final2 ⟨rfl, rfl⟩), hargs⟩
  · refine (θ_run Cert.ReferenceInIdeal.defs _ _).mono (fun r h c => ?_) (Cert.ReferenceInIdeal.Value.run (F := Ideal) m' ρ')
    obtain ⟨h0, hargs⟩ := h c
    obtain ⟨a0, a1⟩ := hagree c
    refine ⟨h0.trans ?_, hargs⟩
    rw [Cert.ReferenceInIdeal.Read.val_main_v4_eq, a0, a1]; exact ref_v4 _ _

end Cert.Weight.In

end
-- ==== Proof.FwdSpec.lean ====
/-
  The forward half-step over the extended reals, entry by entry: the norm, the modulation, the two projections, the gate
  and the residual; and the parts of a stack of rows a kernel's block is made of.
-/
module

public import proofs.«01_k».proof.Proof.Spec
public import Idealize.ShloMosaic.Lib.Pointwise
public import Idealize.ShloMosaic.Lib.WritesUnit
public import Idealize.ShloMosaic.Lib.Pipeline.ReadBack

@[expose] public section

noncomputable section

namespace Cert.Ffn.Fwd

open Idealize.ShloMosaic
open Finset

/-- The index of a matrix, of a stack of matrices. -/
abbrev Mat (n k : ℕ) := (⟨2, ![n, k]⟩ : Shape).Idx → EReal
abbrev Stk (n k p : ℕ) := (⟨3, ![n, k, p]⟩ : Shape).Idx → EReal
abbrev Row (n : ℕ) := (⟨1, ![n]⟩ : Shape).Idx → EReal

/-- The reciprocal root mean square of a row. -/
def rsq {n : ℕ} (x : Fin n → EReal) (w : ℝ) : EReal :=
  Ideal.rsqrt (Ideal.div (∑ k, x k * x k) ((w : ℝ) : EReal) + ((eps : ℝ) : EReal))

/-- The logistic function. -/
def lgs (x : EReal) : EReal := Ideal.div ((1 : ℝ) : EReal) (((1 : ℝ) : EReal) + Ideal.exp (-x))

/-- One entry of a row normalised, weighted, scaled and shifted. -/
def nm {n : ℕ} (x : Fin n → EReal) (w : ℝ) (g s t : EReal) (d : Fin n) : EReal := x d * rsq x w * g * s + t

theorem hz2 : (![0, 0] : Fin 2 → Nat) = fun _ => 0 := by funext a; fin_cases a <;> rfl
theorem hz3 : (![0, 0, 0] : Fin 3 → Nat) = fun _ => 0 := by funext a; fin_cases a <;> rfl

/-- One row of the single matrix of a stack. -/
theorem ld_row {k p c : ℕ} (v : Stk 1 k p)
    (inb : ∀ a, (![0, c, 0] : Fin 3 → Nat) a + (![1, 1, p] : Fin 3 → Nat) a ≤ (⟨3, ![1, k, p]⟩ : Shape).size a) :
    View.ld (Val := Elt Ideal) (e' := EltTy.f32) v (Rect.unit (s := ⟨3, ![1, k, p]⟩) ![0, c, 0] ![1, 1, p] inb)
      = fun y : (⟨3, ![1, 1, p]⟩ : Shape).Idx => v (ix3 (n0 := 1) (n1 := k) (n2 := p) 0 ⟨c, inb 1⟩ (y 2)) := by
  funext y
  have h0 : (y 0 : Nat) = 0 := Nat.lt_one_iff.mp (y 0).isLt
  have h1 : (y 1 : Nat) = 0 := Nat.lt_one_iff.mp (y 1).isLt
  refine congrArg v (funext fun a => ?_)
  match a with
  | ⟨0, _⟩ => exact Fin.ext (by show 0 + 1 * (y 0 : Nat) = 0; rw [h0])
  | ⟨1, _⟩ => exact Fin.ext (by show c + 1 * (y 1 : Nat) = c; rw [h1, Nat.mul_zero, Nat.add_zero])
  | ⟨2, _⟩ => exact Fin.ext (by show 0 + 1 * (y 2 : Nat) = (y 2 : Nat); rw [Nat.one_mul, Nat.zero_add])

/-- The arguments of the half-step. -/
structure Arr where
  x : Stk 2 4096 1024
  sh : Mat 2 1024
  sc : Mat 2 1024
  ga : Mat 2 1024
  gn : Row 1024
  wu : Mat 1024 5632
  wd : Mat 2816 1024

namespace Arr

variable (A : Arr) (b : Fin 2) (s : Fin 4096)

/-- The modulated normalised row. -/
def h (d : Fin 1024) : EReal :=
  nm (fun k => A.x (ix3 b s k)) 1024 (A.gn (ix1 d)) (((1 : ℝ) : EReal) + A.sc (ix2 b d)) (A.sh (ix2 b d)) d

/-- The projection up, its gate half and its value half. -/
def gu (c : Fin 5632) : EReal := ∑ d, A.h b s d * A.wu (ix2 d c)
def g (j : Fin 2816) : EReal := A.gu b s (Args.lo j)
def u (j : Fin 2816) : EReal := A.gu b s (Args.hi j)

/-- The hidden activation. -/
def act (j : Fin 2816) : EReal := A.g b s j * lgs (A.g b s j) * A.u b s j

/-- The projection down, and the half-step's result. -/
def f (d : Fin 1024) : EReal := ∑ j, A.act b s j * A.wd (ix2 j d)
def y (d : Fin 1024) : EReal :=
  A.x (ix3 b s d) + ((1 / 2 : ℝ) : EReal) * (((1 : ℝ) : EReal) + A.ga (ix2 b d)) * A.f b s d

/-- The row the modulation's stack holds at `k`. -/
def mod (b : Fin 2) (k : Fin 8) (d : Fin 1024) : EReal :=
  if k.val = 0 then A.sh (ix2 b d) else if k.val = 1 then ((1 : ℝ) : EReal) + A.sc (ix2 b d)
  else if k.val = 2 then ((1 : ℝ) : EReal) + A.ga (ix2 b d) else if k.val = 3 then A.gn (ix1 d) else 0

end Arr

/-- A sum over the hidden columns, half by half. -/
theorem sum_halves (F : Fin 2816 → EReal) :
    ∑ j, F j = ∑ j : Fin 1408, F ⟨1408 * 0 + j.val, by omega⟩ + ∑ j : Fin 1408, F ⟨1408 * 1 + j.val, by omega⟩ := by
  rw [Fin.sum_univ_add (a := 1408) (b := 1408)]
  refine congrArg₂ _ (sum_congr rfl fun j _ => congrArg F (Fin.ext ?_)) (sum_congr rfl fun j _ => congrArg F (Fin.ext ?_))
  · show j.val = 1408 * 0 + j.val
    omega
  · rfl

/-- The place of an entry of a flattened array among the tokens. -/
theorem split_tok (t : Fin 8192) {n : ℕ} (d : Fin n) :
    (t.val * n + d.val) / (4096 * n) = t.val / 4096 ∧ (t.val * n + d.val) / n % 4096 = t.val % 4096
      ∧ (t.val * n + d.val) % n = d.val := by
  have hn : 0 < n := Nat.lt_of_le_of_lt (Nat.zero_le _) d.isLt
  have e : (t.val * n + d.val) / n = t.val := by
    rw [Nat.add_comm, Nat.add_mul_div_right _ _ hn, Nat.div_eq_of_lt d.isLt, Nat.zero_add]
  refine ⟨?_, ?_, ?_⟩
  · rw [Nat.mul_comm 4096 n, ← Nat.div_div_eq_div_mul, e]
  · rw [e]
  · rw [Nat.add_comm, Nat.add_mul_mod_self_right, Nat.mod_eq_of_lt d.isLt]

end Cert.Ffn.Fwd

end
-- ==== Proof.FwdPoint.lean ====
/-
  The forward half-step: what one grid point of the kernel leaves in its output blocks and in the two arrays it carries
  from point to point.
-/
module

public import proofs.«01_k».proof.Proof.FwdSpec
public import proofs.«01_k».proof.Proof.Gen.KernelFwdIdeal.Value
public import Idealize.ShloMosaic.Lib.Pointwise
public import Idealize.ShloMosaic.Lib.VecWindow

@[expose] public section

set_option maxRecDepth 16384

noncomputable section

namespace Cert.Ffn.Fwd

open Idealize.ShloMosaic Cert.KernelFwdIdeal Cert.KernelFwdIdeal.Gen
open Finset

/-- The block of modulated normalised rows. -/
def hblk (x : S512x1024.Idx → EReal) (mo : S1x8x1024.Idx → EReal) (y : S512x1024.Idx) : EReal :=
  nm (fun k => x (ix2 (y 0) k)) 1024 (mo (ix3 0 3 (y 1))) (mo (ix3 0 1 (y 1))) (mo (ix3 0 0 (y 1))) (y 1)

/-- One half of the columns of the projection up, gate or value. -/
def pblk (h : S512x1024.Idx → EReal) (w : S1x1024x1408.Idx → EReal) (y : S512x1408.Idx) : EReal :=
  ∑ d : Fin 1024, h (ix2 (y 0) d) * w (ix3 0 d (y 1))

/-- The hidden activation on them. -/
def ablk (h : S512x1024.Idx → EReal) (wg wu : S1x1024x1408.Idx → EReal) (y : S512x1408.Idx) : EReal :=
  pblk h wg y * lgs (pblk h wg y) * pblk h wu y

/-- Their part of the projection down. -/
def fblk (h : S512x1024.Idx → EReal) (wg wu : S1x1024x1408.Idx → EReal) (wd : S1408x1024.Idx → EReal)
    (y : S512x1024.Idx) : EReal :=
  ∑ j : Fin 1408, ablk h wg wu (ix2 (y 0) j) * wd (ix2 j (y 1))

theorem p1 (v : S512x1024.Idx → EReal) : k0_pay1 (F := Ideal) v = v := by
  funext y
  pointwise [k0_pay1]

theorem p2 (v : S512x1024.Idx → EReal) : k0_pay2 (F := Ideal) v = v := by
  funext y
  pointwise [k0_pay2]

theorem p3 (f x : S512x1024.Idx → EReal) (g : S1x1x1024.Idx → EReal) :
    k0_pay3 (F := Ideal) f x g = fun y => x y + ((1 / 2 : ℝ) : EReal) * g (ix3 0 0 (y 1)) * f y := by
  funext y
  pointwise [k0_pay3]
  rw [w_half]

theorem p4 (x : S512x1024.Idx → EReal) (g s t : S1x1x1024.Idx → EReal) :
    k0_pay4 (F := Ideal) x g s t
      = fun y => nm (fun k => x (ix2 (y 0) k)) 1024 (g (ix3 0 0 (y 1))) (s (ix3 0 0 (y 1))) (t (ix3 0 0 (y 1))) (y 1) := by
  funext y
  pointwise [k0_pay4]
  rw [w_width, w_eps]
  unfold nm rsq
  refine congrArg (fun z => z * _ * _ * _ + _) (congrArg x (funext fun a => ?_))
  match a with
  | ⟨0, _⟩ => rfl
  | ⟨1, _⟩ => rfl

theorem p5 : k0_pay5 (F := Ideal) = fun _ => (0 : EReal) := by
  funext y
  pointwise [k0_pay5]

theorem p6 (h : S512x1024.Idx → EReal) (w : S1x1024x1408.Idx → EReal) : k0_pay6 (F := Ideal) h w = pblk h w := by
  funext y
  pointwise [k0_pay6]
  rfl

theorem p7 (h : S512x1024.Idx → EReal) (w : S1x1024x1408.Idx → EReal) : k0_pay7 (F := Ideal) h w = pblk h w := by
  funext y
  pointwise [k0_pay7]
  rfl

theorem p8 (h : S512x1024.Idx → EReal) (w : S1x1024x1408.Idx → EReal) : k0_pay8 (F := Ideal) h w = pblk h w := by
  funext y
  pointwise [k0_pay8]
  rw [p6]

theorem p9 (h : S512x1024.Idx → EReal) (w : S1x1024x1408.Idx → EReal) : k0_pay9 (F := Ideal) h w = pblk h w := by
  funext y
  pointwise [k0_pay9]
  rw [p7]

theorem p10 (h : S512x1024.Idx → EReal) (wg wu : S1x1024x1408.Idx → EReal) (v : S512x1024.Idx → EReal)
    (wd : S1408x1024.Idx → EReal) :
    k0_pay10 (F := Ideal) h wg wu v wd = fun y => v y + fblk h wg wu wd y := by
  funext y
  pointwise [k0_pay10]
  simp only [p6, p7, zero_sub]
  unfold fblk ablk lgs
  rfl

variable (c : Dev nD) (i : grid0.Coords) (arg2 : Memref sig .tc .vmem S512x1024 .f32) (harg2 : arg2.IsWhole)
  (arg3 : Memref sig .tc .vmem S1x8x1024 .f32) (harg3 : arg3.IsWhole)
  (arg4 : Memref sig .tc .vmem S1x1024x1408 .bf16) (harg4 : arg4.IsWhole)
  (arg5 : Memref sig .tc .vmem S1x1024x1408 .bf16) (harg5 : arg5.IsWhole)
  (arg6 : Memref sig .tc .vmem S1408x1024 .bf16) (harg6 : arg6.IsWhole)
  (arg7 : Memref sig .tc .vmem S512x1024 .f32) (harg7 : arg7.IsWhole)
  (arg8 : Memref sig .tc .vmem S512x1408 .bf16) (harg8 : arg8.IsWhole)
  (arg9 : Memref sig .tc .vmem S512x1408 .bf16) (harg9 : arg9.IsWhole)
  (arg10 : Memref sig .tc .vmem S512x1024 .bf16) (harg10 : arg10.IsWhole)
  (arg11 : Memref sig .tc .vmem S512x1024 .bf16) (harg11 : arg11.IsWhole)
  (arg12 : Memref sig .tc .vmem S512x1024 .f32) (harg12 : arg12.IsWhole)
  (x0 : S512x1024.Idx → EReal) (x1 : S1x8x1024.Idx → EReal) (x2 x3 : S1x1024x1408.Idx → EReal)
  (x4 : S1408x1024.Idx → EReal) (xh xa : S512x1024.Idx → EReal)

/-- The first of two points: the gate half of the projection. -/
theorem outA6 (hc0 : cond0_0 i) (hc1 : ¬cond0_1 i) :
    out0_A_6 (F := Ideal) c i arg2 harg2 arg3 harg3 arg4 harg4 arg5 harg5 arg6 harg6 arg7 harg7 arg8 harg8 arg9 harg9 arg10 harg10 arg11 harg11 arg12 harg12 hc0 hc1 x0 x1 x2 x3 x4 = pblk (hblk x0 x1) x2 := by
  unfold out0_A_6
  rw [View.read_writes_eq_canon _ _ _ (cover0_A_6 (F := Ideal) c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  rw [View.canon_unit_zero (S := S512x1408) hz2]
  rw [View.readCov_full (s := S512x1024)]
  simp only [View.readAt_eq_ld, harg2.read_unread, harg3.read_unread, harg4.read_unread, harg5.read_unread, harg6.read_unread, harg11.read_unread, harg12.read_unread]
  simp only [View.ld_unit_zero (S := S512x1024) hz2, View.ld_unit_zero (S := S1408x1024) hz2, View.ld_unit_zero (S := S1x1024x1408) hz3, ld_row, p1, p2, p3, p4, p5, p8, p9, p10]
  try rfl

/-- And its value half. -/
theorem outA7 (hc0 : cond0_0 i) (hc1 : ¬cond0_1 i) :
    out0_A_7 (F := Ideal) c i arg2 harg2 arg3 harg3 arg4 harg4 arg5 harg5 arg6 harg6 arg7 harg7 arg8 harg8 arg9 harg9 arg10 harg10 arg11 harg11 arg12 harg12 hc0 hc1 x0 x1 x2 x3 x4 = pblk (hblk x0 x1) x3 := by
  unfold out0_A_7
  rw [View.read_writes_eq_canon _ _ _ (cover0_A_7 (F := Ideal) c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  rw [View.canon_unit_zero (S := S512x1408) hz2]
  rw [View.readCov_full (s := S512x1024)]
  simp only [View.readAt_eq_ld, harg2.read_unread, harg3.read_unread, harg4.read_unread, harg5.read_unread, harg6.read_unread, harg11.read_unread, harg12.read_unread]
  simp only [View.ld_unit_zero (S := S512x1024) hz2, View.ld_unit_zero (S := S1408x1024) hz2, View.ld_unit_zero (S := S1x1024x1408) hz3, ld_row, p1, p2, p3, p4, p5, p8, p9, p10]
  try rfl

/-- The second point: the gate half. -/
theorem outB6 (hc0 : ¬cond0_0 i) (hc1 : cond0_1 i) :
    out0_B_6 (F := Ideal) c i arg2 harg2 arg3 harg3 arg4 harg4 arg5 harg5 arg6 harg6 arg7 harg7 arg8 harg8 arg9 harg9 arg10 harg10 arg11 harg11 arg12 harg12 hc0 hc1 x0 x1 x2 x3 x4 xh xa = pblk xh x2 := by
  unfold out0_B_6
  rw [View.read_writes_eq_canon _ _ _ (cover0_B_6 (F := Ideal) c i arg2 harg2 arg3 harg3 arg4 harg4 arg5 harg5 arg6 harg6 arg7 harg7 arg8 harg8 arg9 harg9 arg10 harg10 arg11 harg11 arg12 harg12 hc0 hc1 x0 x1 x2 x3 x4 xh xa)]
  unfold kernelRun0_B
  dsimp only
  sl_unfold_words
  rw [View.canon_unit_zero (S := S512x1408) hz2]
  simp only [View.readAt_eq_ld, harg2.read_unread, harg3.read_unread, harg4.read_unread, harg5.read_unread, harg6.read_unread, harg11.read_unread, harg12.read_unread]
  simp only [View.ld_unit_zero (S := S512x1024) hz2, View.ld_unit_zero (S := S1408x1024) hz2, View.ld_unit_zero (S := S1x1024x1408) hz3, ld_row, p1, p2, p3, p4, p5, p8, p9, p10]
  try rfl

/-- And the value half. -/
theorem outB7 (hc0 : ¬cond0_0 i) (hc1 : cond0_1 i) :
    out0_B_7 (F := Ideal) c i arg2 harg2 arg3 harg3 arg4 harg4 arg5 harg5 arg6 harg6 arg7 harg7 arg8 harg8 arg9 harg9 arg10 harg10 arg11 harg11 arg12 harg12 hc0 hc1 x0 x1 x2 x3 x4 xh xa = pblk xh x3 := by
  unfold out0_B_7
  rw [View.read_writes_eq_canon _ _ _ (cover0_B_7 (F := Ideal) c i arg2 harg2 arg3 harg3 arg4 harg4 arg5 harg5 arg6 harg6 arg7 harg7 arg8 harg8 arg9 harg9 arg10 harg10 arg11 harg11 arg12 harg12 hc0 hc1 x0 x1 x2 x3 x4 xh xa)]
  unfold kernelRun0_B
  dsimp only
  sl_unfold_words
  rw [View.canon_unit_zero (S := S512x1408) hz2]
  simp only [View.readAt_eq_ld, harg2.read_unread, harg3.read_unread, harg4.read_unread, harg5.read_unread, harg6.read_unread, harg11.read_unread, harg12.read_unread]
  simp only [View.ld_unit_zero (S := S512x1024) hz2, View.ld_unit_zero (S := S1408x1024) hz2, View.ld_unit_zero (S := S1x1024x1408) hz3, ld_row, p1, p2, p3, p4, p5, p8, p9, p10]
  try rfl

/-- The projection down. -/
theorem outB8 (hc0 : ¬cond0_0 i) (hc1 : cond0_1 i) :
    out0_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 xh xa = fun y => xa y + fblk xh x2 x3 x4 y := by
  unfold out0_B_8
  rw [View.read_writes_eq_canon _ _ _ (cover0_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 xh xa)]
  unfold kernelRun0_B
  dsimp only
  sl_unfold_words
  rw [View.canon_unit_zero (S := S512x1024) hz2]
  rw [View.readCov_full (s := S512x1024)]
  simp only [View.readAt_eq_ld, harg2.read_unread, harg3.read_unread, harg4.read_unread, harg5.read_unread, harg6.read_unread, harg11.read_unread, harg12.read_unread]
  simp only [View.ld_unit_zero (S := S512x1024) hz2, View.ld_unit_zero (S := S1408x1024) hz2, View.ld_unit_zero (S := S1x1024x1408) hz3, ld_row, p1, p2, p3, p4, p5, p8, p9, p10]
  try rfl

/-- The residual. -/
theorem outB5 (hc0 : ¬cond0_0 i) (hc1 : cond0_1 i) :
    out0_B_5 (F := Ideal) c i arg2 harg2 arg3 harg3 arg4 harg4 arg5 harg5 arg6 harg6 arg7 harg7 arg8 harg8 arg9 harg9 arg10 harg10 arg11 harg11 arg12 harg12 hc0 hc1 x0 x1 x2 x3 x4 xh xa = fun y => x0 y + ((1 / 2 : ℝ) : EReal) * x1 (ix3 0 2 (y 1)) * (xa y + fblk xh x2 x3 x4 y) := by
  unfold out0_B_5
  rw [View.read_writes_eq_canon _ _ _ (cover0_B_5 (F := Ideal) c i arg2 harg2 arg3 harg3 arg4 harg4 arg5 harg5 arg6 harg6 arg7 harg7 arg8 harg8 arg9 harg9 arg10 harg10 arg11 harg11 arg12 harg12 hc0 hc1 x0 x1 x2 x3 x4 xh xa)]
  unfold kernelRun0_B
  dsimp only
  sl_unfold_words
  rw [View.canon_unit_zero (S := S512x1024) hz2]
  rw [View.readCov_full (s := S512x1024)]
  simp only [View.readAt_eq_ld, harg2.read_unread, harg3.read_unread, harg4.read_unread, harg5.read_unread, harg6.read_unread, harg11.read_unread, harg12.read_unread]
  simp only [View.ld_unit_zero (S := S512x1024) hz2, View.ld_unit_zero (S := S1408x1024) hz2, View.ld_unit_zero (S := S1x1024x1408) hz3, ld_row, p1, p2, p3, p4, p5, p8, p9, p10]
  try rfl

/-- The rows carried to the second point. -/
theorem soutA0 (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 arg12 harg12 hc0 hc1 x0 x1 x2 x3 x4 = hblk x0 x1 := by
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  rw [View.canon_unit_zero (S := S512x1024) hz2]
  simp only [View.readAt_eq_ld, harg2.read_unread, harg3.read_unread, harg4.read_unread, harg5.read_unread, harg6.read_unread, harg11.read_unread, harg12.read_unread]
  simp only [View.ld_unit_zero (S := S512x1024) hz2, View.ld_unit_zero (S := S1408x1024) hz2, View.ld_unit_zero (S := S1x1024x1408) hz3, ld_row, p1, p2, p3, p4, p5, p8, p9, p10]
  try rfl

/-- The part of the projection down carried to the second point. -/
theorem soutA1 (hc0 : cond0_0 i) (hc1 : ¬cond0_1 i) :
    sout0_A_1 (F := Ideal) c i arg2 harg2 arg3 harg3 arg4 harg4 arg5 harg5 arg6 harg6 arg7 harg7 arg8 harg8 arg9 harg9 arg10 harg10 arg11 harg11 arg12 harg12 hc0 hc1 x0 x1 x2 x3 x4 = fun y => 0 + fblk (hblk x0 x1) x2 x3 x4 y := by
  unfold sout0_A_1
  unfold kernelRun0_A
  dsimp only
  sl_unfold_words
  refine (View.read_writes_full (s := S512x1024) _ _ _ _ _).trans ?_
  rw [View.readCov_full (s := S512x1024)]
  rw [View.readCov_full (s := S512x1024)]
  simp only [View.readAt_eq_ld, harg2.read_unread, harg3.read_unread, harg4.read_unread, harg5.read_unread, harg6.read_unread, harg11.read_unread, harg12.read_unread]
  simp only [View.ld_unit_zero (S := S512x1024) hz2, View.ld_unit_zero (S := S1408x1024) hz2, View.ld_unit_zero (S := S1x1024x1408) hz3, ld_row, p1, p2, p3, p4, p5, p8, p9, p10]
  try rfl

end Cert.Ffn.Fwd

end
-- ==== Proof.FwdFinal.lean ====
/-
  The forward half-step: the blocks the kernel is given at each grid point, and the arrays its call ends with.
-/
module

public import proofs.«01_k».proof.Proof.FwdPoint
public import Idealize.ShloMosaic.Lib.StableHlo.ReadAt

@[expose] public section

set_option maxRecDepth 16384

noncomputable section

namespace Cert.Ffn.Fwd

open Idealize.ShloMosaic Cert.KernelFwdIdeal Cert.KernelFwdIdeal.Gen
open Idealize.ShloMosaic.Pipeline (Dat)
open Finset

/-- The batch element of the rows of point `n`, and the place of row `r` in its sequence. -/
def pb (n : ℕ) : Fin 2 := ⟨n / 16 % 2, by omega⟩
def pt (n : ℕ) (r : Fin 512) : Fin 4096 := ⟨512 * (n / 2 % 8) + r.val, by omega⟩

/-- Hidden column `j` of the half point `n` works on. -/
def hc (n : ℕ) (j : Fin 1408) : Fin 2816 := ⟨1408 * (n % 2) + j.val, by omega⟩

section

variable (A : Arr)

/-- The blocks point `n` is given. -/
def xb (n : ℕ) (y : S512x1024.Idx) : EReal := A.x (ix3 (pb n) (pt n (y 0)) (y 1))
def mb (n : ℕ) (y : S1x8x1024.Idx) : EReal := A.mod (pb n) (y 1) (y 2)
def gw (n : ℕ) (y : S1x1024x1408.Idx) : EReal := A.wu (ix2 (y 1) (Args.lo (hc n (y 2))))
def uw (n : ℕ) (y : S1x1024x1408.Idx) : EReal := A.wu (ix2 (y 1) (Args.hi (hc n (y 2))))
def dw (n : ℕ) (y : S1408x1024.Idx) : EReal := A.wd (ix2 (hc n (y 0)) (y 1))

/-- The blocks of the results at point `n`. -/
def hb (n : ℕ) (y : S512x1024.Idx) : EReal := A.h (pb n) (pt n (y 0)) (y 1)
def gb (n : ℕ) (y : S512x1408.Idx) : EReal := A.g (pb n) (pt n (y 0)) (hc n (y 1))
def ub (n : ℕ) (y : S512x1408.Idx) : EReal := A.u (pb n) (pt n (y 0)) (hc n (y 1))
def part (n : ℕ) (y : S512x1024.Idx) : EReal :=
  ∑ j : Fin 1408, A.act (pb n) (pt n (y 0)) (hc n j) * A.wd (ix2 (hc n j) (y 1))

theorem hblk_eq (n : ℕ) : hblk (xb A n) (mb A n) = hb A n := rfl
theorem pblk_g (n : ℕ) : pblk (hb A n) (gw A n) = gb A n := rfl
theorem pblk_u (n : ℕ) : pblk (hb A n) (uw A n) = ub A n := rfl
theorem fblk_eq (n : ℕ) : fblk (hb A n) (gw A n) (uw A n) (dw A n) = part A n := by
  unfold fblk ablk
  rw [pblk_g, pblk_u]
  rfl

/-- The two points of a block of rows share it. -/
theorem pb_pred (n : ℕ) (h : n % 2 = 1) : pb (n - 1) = pb n := Fin.ext (by
  show (n - 1) / 16 % 2 = n / 16 % 2
  omega)
theorem pt_pred (n : ℕ) (h : n % 2 = 1) : pt (n - 1) = pt n := funext fun r => Fin.ext (by
  show 512 * ((n - 1) / 2 % 8) + r.val = 512 * (n / 2 % 8) + r.val
  omega)
theorem hb_pred (n : ℕ) (h : n % 2 = 1) : hb A (n - 1) = hb A n := by
  funext y
  unfold hb
  rw [pb_pred n h, pt_pred n h]

/-- The two halves of the projection down add up to it. -/
theorem part_sum (n : ℕ) (h : n % 2 = 1) (y : S512x1024.Idx) :
    0 + part A (n - 1) y + part A n y = A.f (pb n) (pt n (y 0)) (y 1) := by
  have h' : (n - 1) % 2 = 0 := by omega
  unfold part Arr.f
  rw [sum_halves, pb_pred n h, pt_pred n h, zero_add]
  refine congrArg₂ (· + ·) (sum_congr rfl fun j _ => ?_) (sum_congr rfl fun j _ => ?_)
  · have e : hc (n - 1) j = ⟨1408 * 0 + j.val, by omega⟩ := Fin.ext (by
      show 1408 * ((n - 1) % 2) + j.val = 1408 * 0 + j.val
      rw [h'])
    rw [e]
  · have e : hc n j = ⟨1408 * 1 + j.val, by omega⟩ := Fin.ext (by
      show 1408 * (n % 2) + j.val = 1408 * 1 + j.val
      rw [h])
    rw [e]

end

/-- The arrays the program's arguments hold. -/
def arr (m : (ℓ : Loc nD τ sig) → Buf (Elt Ideal) ℓ) (c : Dev nD) : Arr where
  x := m ((c.tc : Thread nD τ).loc main_arg0)
  sh := m ((c.tc : Thread nD τ).loc main_arg1)
  sc := m ((c.tc : Thread nD τ).loc main_arg2)
  ga := m ((c.tc : Thread nD τ).loc main_arg3)
  gn := m ((c.tc : Thread nD τ).loc main_arg4)
  wu := m ((c.tc : Thread nD τ).loc main_arg5)
  wd := m ((c.tc : Thread nD τ).loc main_arg6)

theorem idx0 : ∀ t : Fin cfg0.N, win0_0.index t 0 = t.val / 2 ∧ win0_0.index t 1 = 0 :=
  (by decide +kernel : ∀ t : Fin grid0.N, win0_0.index t 0 = t.val / 2 ∧ win0_0.index t 1 = 0)
theorem idx1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)
theorem idx2 : ∀ t : Fin cfg0.N, win0_2.index t 0 = t.val % 2 ∧ win0_2.index t 1 = 0 ∧ win0_2.index t 2 = 0 :=
  (by decide +kernel : ∀ t : Fin grid0.N, win0_2.index t 0 = t.val % 2 ∧ win0_2.index t 1 = 0 ∧ win0_2.index t 2 = 0)
theorem idx3 : ∀ t : Fin cfg0.N, win0_3.index t 0 = 2 + t.val % 2 ∧ win0_3.index t 1 = 0 ∧ win0_3.index t 2 = 0 :=
  (by decide +kernel : ∀ t : Fin grid0.N, win0_3.index t 0 = 2 + t.val % 2 ∧ win0_3.index t 1 = 0 ∧ win0_3.index t 2 = 0)
theorem idx4 : ∀ t : Fin cfg0.N, win0_4.index t 0 = t.val % 2 ∧ win0_4.index t 1 = 0 :=
  (by decide +kernel : ∀ t : Fin grid0.N, win0_4.index t 0 = t.val % 2 ∧ win0_4.index t 1 = 0)
theorem idx5 : ∀ t : Fin cfg0.N, win0_5.index t 0 = t.val / 2 ∧ win0_5.index t 1 = 0 :=
  (by decide +kernel : ∀ t : Fin grid0.N, win0_5.index t 0 = t.val / 2 ∧ win0_5.index t 1 = 0)
theorem idx6 : ∀ t : Fin cfg0.N, win0_6.index t 0 = t.val / 2 ∧ win0_6.index t 1 = t.val % 2 :=
  (by decide +kernel : ∀ t : Fin grid0.N, win0_6.index t 0 = t.val / 2 ∧ win0_6.index t 1 = t.val % 2)
theorem idx7 : ∀ t : Fin cfg0.N, win0_7.index t 0 = t.val / 2 ∧ win0_7.index t 1 = t.val % 2 :=
  (by decide +kernel : ∀ t : Fin grid0.N, win0_7.index t 0 = t.val / 2 ∧ win0_7.index t 1 = t.val % 2)
theorem idx8 : ∀ t : Fin cfg0.N, win0_8.index t 0 = t.val / 2 ∧ win0_8.index t 1 = 0 :=
  (by decide +kernel : ∀ t : Fin grid0.N, win0_8.index t 0 = t.val / 2 ∧ win0_8.index t 1 = 0)

variable (m : (ℓ : Loc nD τ sig) → Buf (Elt Ideal) ℓ) (c : Dev nD)

/-! ## The arrays the call is given -/

theorem V_v19 (i : S8192x1024.Idx) : V m c main_v19 i = (arr m c).x (ix3 (Args.bt (i 0)) (Args.ps (i 0)) (i 1)) := by
  generalize hR : (arr m c).x (ix3 (Args.bt (i 0)) (Args.ps (i 0)) (i 1)) = R
  unfold V
  after_reads_at
  rw [← hR]
  rfl

theorem V_v14 (i : S2x8x1024.Idx) : V m c main_v14 i = (arr m c).mod (i 0) (i 1) (i 2) := by
  generalize hR : (arr m c).mod (i 0) (i 1) (i 2) = R
  unfold V
  after_reads_simp
  simp only [Matrix.cons_val]
  after_reads_simp
  pointwise
  rw [← hR]
  have h8 : (i 1 : Fin 8).val < 8 := (i 1).isLt
  unfold Arr.mod arr
  simp only [w_one]
  split_ifs <;> first | omega | rfl

theorem V_v17 (i : S4x1024x1408.Idx) :
    V m c main_v17 i = (arr m c).wu (ix2 (i 1) ⟨1408 * (i 0 : Fin 4).val + (i 2 : Fin 1408).val, by
      have h0 : (i 0 : Fin 4).val < 4 := (i 0).isLt
      have h2 : (i 2 : Fin 1408).val < 1408 := (i 2).isLt
      omega⟩) := by
  generalize hR : (arr m c).wu (ix2 (i 1) _) = R
  unfold V
  after_reads_at
  rw [← hR]
  refine congrArg (arr m c).wu (congrArg (ix2 (n0 := 1024) (n1 := 5632) (i 1)) (Fin.ext ?_))
  show (i 0).val * 1408 + (i 2).val = 1408 * (i 0).val + (i 2).val
  omega

theorem V_v18 (i : S2816x1024.Idx) : V m c main_v18 i = (arr m c).wd (ix2 (i 0) (i 1)) := by
  generalize hR : (arr m c).wd (ix2 (i 0) (i 1)) = R
  unfold V
  after_reads_at
  rw [← hR]
  refine congrArg (arr m c).wd (funext fun a => ?_)
  match a with
  | ⟨0, _⟩ => rfl
  | ⟨1, _⟩ => rfl

/-! ## The blocks -/

theorem iblk0 (t : Fin cfg0.N) : iblk m c 0 t = xb (arr m c) t.val := by
  funext y
  unfold iblk
  rw [View.read_apply]
  have ht : t.val < 32 := lt_of_lt_of_eq t.isLt N_0
  have hy : (y 0 : Fin 512).val < 512 := (y 0).isLt
  refine (V_v19 m c _).trans ?_
  have e0 : (((cfg0.win 0).blk t).view.emb y 0 : Fin 8192).val = 512 * (t.val / 2) + (y 0 : Fin 512).val := by
    show win0_0.index t 0 * 512 + 1 * (y 0).val = _
    rw [(idx0 t).1]; omega
  have e1 : (((cfg0.win 0).blk t).view.emb y 1 : Fin 1024) = y 1 := Fin.ext (by
    show win0_0.index t 1 * 1024 + 1 * (y 1).val = (y 1).val
    rw [(idx0 t).2]; omega)
  have eb : Args.bt (((cfg0.win 0).blk t).view.emb y 0) = pb t.val := Fin.ext (by
    show (((cfg0.win 0).blk t).view.emb y 0 : Fin 8192).val / 4096 = t.val / 16 % 2
    rw [e0]; omega)
  have es : Args.ps (((cfg0.win 0).blk t).view.emb y 0) = pt t.val (y 0) := Fin.ext (by
    show (((cfg0.win 0).blk t).view.emb y 0 : Fin 8192).val % 4096 = 512 * (t.val / 2 % 8) + (y 0).val
    rw [e0]; omega)
  unfold xb
  rw [← eb, ← es]
  exact congrArg (fun d : Fin 1024 => (arr m c).x (ix3 _ _ d)) e1

theorem iblk1 (t : Fin cfg0.N) : iblk m c 1 t = mb (arr m c) t.val := by
  funext y
  unfold iblk
  rw [View.read_apply]
  have ht : t.val < 32 := lt_of_lt_of_eq t.isLt N_0
  have hy : (y 0 : Fin 1).val < 1 := (y 0).isLt
  refine (V_v14 m c _).trans ?_
  unfold mb
  refine congr (congrArg₂ (arr m c).mod (Fin.ext ?_) (Fin.ext ?_)) (Fin.ext ?_)
  · show win0_1.index t 0 * 1 + 1 * (y 0).val = t.val / 16 % 2
    rw [(idx1 t).1]; omega
  · show win0_1.index t 1 * 8 + 1 * (y 1).val = (y 1).val
    rw [(idx1 t).2.1]; omega
  · show win0_1.index t 2 * 1024 + 1 * (y 2).val = (y 2).val
    rw [(idx1 t).2.2]; omega

theorem iblk2 (t : Fin cfg0.N) : iblk m c 2 t = gw (arr m c) t.val := by
  funext y
  unfold iblk
  rw [View.read_apply]
  have hy : (y 0 : Fin 1).val < 1 := (y 0).isLt
  refine (V_v17 m c _).trans ?_
  unfold gw
  refine congrArg₂ (fun (d : Fin 1024) (k : Fin 5632) => (arr m c).wu (ix2 d k)) (Fin.ext ?_) (Fin.ext ?_)
  · show win0_2.index t 1 * 1024 + 1 * (y 1).val = (y 1).val
    rw [(idx2 t).2.1]; omega
  · show 1408 * (win0_2.index t 0 * 1 + 1 * (y 0).val) + (win0_2.index t 2 * 1408 + 1 * (y 2).val) = 1408 * (t.val % 2) + (y 2).val
    rw [(idx2 t).1, (idx2 t).2.2]; omega

theorem iblk3 (t : Fin cfg0.N) : iblk m c 3 t = uw (arr m c) t.val := by
  funext y
  unfold iblk
  rw [View.read_apply]
  have hy : (y 0 : Fin 1).val < 1 := (y 0).isLt
  refine (V_v17 m c _).trans ?_
  unfold uw
  refine congrArg₂ (fun (d : Fin 1024) (k : Fin 5632) => (arr m c).wu (ix2 d k)) (Fin.ext ?_) (Fin.ext ?_)
  · show win0_3.index t 1 * 1024 + 1 * (y 1).val = (y 1).val
    rw [(idx3 t).2.1]; omega
  · show 1408 * (win0_3.index t 0 * 1 + 1 * (y 0).val) + (win0_3.index t 2 * 1408 + 1 * (y 2).val) = 2816 + (1408 * (t.val % 2) + (y 2).val)
    rw [(idx3 t).1, (idx3 t).2.2]; omega

theorem iblk4 (t : Fin cfg0.N) : iblk m c 4 t = dw (arr m c) t.val := by
  funext y
  unfold iblk
  rw [View.read_apply]
  refine (V_v18 m c _).trans ?_
  unfold dw
  refine congrArg₂ (fun (j : Fin 2816) (d : Fin 1024) => (arr m c).wd (ix2 j d)) (Fin.ext ?_) (Fin.ext ?_)
  · show win0_4.index t 0 * 1408 + 1 * (y 0).val = 1408 * (t.val % 2) + (y 0).val
    rw [(idx4 t).1]; omega
  · show win0_4.index t 1 * 1024 + 1 * (y 1).val = (y 1).val
    rw [(idx4 t).2]; omega

/-! ## What each point leaves -/

/-- The first of two points. -/
theorem at_fst (t : Fin cfg0.N) (h0 : t.val % 2 = 0) :
    (outsAt0 m c t.val t.isLt).2.1 = gb (arr m c) t.val ∧ (outsAt0 m c t.val t.isLt).2.2.1 = ub (arr m c) t.val
      ∧ (outsAt0 m c t.val t.isLt).2.2.2.2.1 = hb (arr m c) t.val
      ∧ (outsAt0 m c t.val t.isLt).2.2.2.2.2 = fun y => 0 + part (arr m c) t.val y := by
  rw [outsAt0_A m c t h0 (by omega), iblk0, iblk1, iblk2, iblk3, iblk4]
  dsimp only
  rw [outA6, outA7, soutA0, soutA1, hblk_eq, pblk_g, pblk_u, fblk_eq]
  exact ⟨rfl, rfl, rfl, rfl⟩

/-- The second. -/
theorem at_snd (t : Fin cfg0.N) (h1 : t.val % 2 = 1) :
    (outsAt0 m c t.val t.isLt).1 = (fun y : S512x1024.Idx => (arr m c).y (pb t.val) (pt t.val (y 0)) (y 1))
      ∧ (outsAt0 m c t.val t.isLt).2.1 = gb (arr m c) t.val ∧ (outsAt0 m c t.val t.isLt).2.2.1 = ub (arr m c) t.val
      ∧ (outsAt0 m c t.val t.isLt).2.2.2.1 = fun y => (arr m c).f (pb t.val) (pt t.val (y 0)) (y 1) := by
  have ht : t.val < cfg0.N := t.isLt
  obtain ⟨-, -, eh, ea⟩ := at_fst m c ⟨t.val - 1, by omega⟩ (by dsimp only; omega)
  dsimp only at eh ea
  rw [outsAt0_B m c t (by omega) h1, iblk0, iblk1, iblk2, iblk3, iblk4, eh, ea]
  dsimp only
  rw [outB5, outB6, outB7, outB8, hb_pred _ _ h1, pblk_g, pblk_u, fblk_eq]
  have e : ∀ y, 0 + part (arr m c) (t.val - 1) y + part (arr m c) t.val y = _ := part_sum (arr m c) t.val h1
  refine ⟨funext fun y => ?_, rfl, rfl, funext fun y => e y⟩
  rw [e]
  rfl

/-! ## The arrays the call ends with -/

/-- The half-step. -/
theorem final5 : (dats m 0 c).arrAt 5 cfg0.N
    = (fun i : S8192x1024.Idx => (arr m c).y (Args.bt (i 0)) (Args.ps (i 0)) (i 1)) := by
  refine (dats m 0 c).arrAt_eq_of_cover 5 (fun i : S8192x1024.Idx => (arr m c).y (Args.bt (i 0)) (Args.ps (i 0)) (i 1))
    (fun t hf => ?_) fun i => ?_
  · have ht : t.val < 32 := lt_of_lt_of_eq t.isLt N_0
    rw [Value.flushed5, (at_snd m c t ((flush0_5 t).1 hf)).1]
    funext y
    rw [View.read_apply]
    have hy : (y 0 : Fin 512).val < 512 := (y 0).isLt
    refine congr (congrArg₂ (arr m c).y (Fin.ext ?_) (Fin.ext ?_)) (Fin.ext ?_)
    · show t.val / 16 % 2 = (win0_5.index t 0 * 512 + 1 * (y 0).val) / 4096
      rw [(idx5 t).1]; omega
    · show 512 * (t.val / 2 % 8) + (y 0).val = (win0_5.index t 0 * 512 + 1 * (y 0).val) % 4096
      rw [(idx5 t).1]; omega
    · show (y 1).val = win0_5.index t 1 * 1024 + 1 * (y 1).val
      rw [(idx5 t).2]; omega
  · have h0 : (i 0 : Fin 8192).val < 8192 := (i 0).isLt
    have h1 : (i 1 : Fin 1024).val < 1024 := (i 1).isLt
    have ht : (i 0 : Fin 8192).val / 512 * 2 + 1 < cfg0.N := by rw [show cfg0.N = 32 from N_0]; omega
    refine ⟨⟨(i 0 : Fin 8192).val / 512 * 2 + 1, ht⟩, (flush0_5 _).2 (by dsimp only; omega), ?_⟩
    show i ∈ ((View.whole main_v20_0).slice (win0_5.rect ⟨(i 0 : Fin 8192).val / 512 * 2 + 1, ht⟩)).set
    rw [View.set_slice_whole, Rect.mem_set_unit]
    have hi := idx5 ⟨(i 0 : Fin 8192).val / 512 * 2 + 1, ht⟩
    have hd : ((i 0 : Fin 8192).val / 512 * 2 + 1) / 2 = (i 0 : Fin 8192).val / 512 := by omega
    intro a
    match a with
    | ⟨0, _⟩ =>
      show win0_5.index _ 0 * 512 ≤ (i 0 : Fin 8192).val ∧ (i 0 : Fin 8192).val < win0_5.index _ 0 * 512 + 512
      rw [hi.1, hd]; omega
    | ⟨1, _⟩ =>
      show win0_5.index _ 1 * 1024 ≤ (i 1 : Fin 1024).val ∧ (i 1 : Fin 1024).val < win0_5.index _ 1 * 1024 + 1024
      rw [hi.2]; omega

/-- The projection down. -/
theorem final8 : (dats m 0 c).arrAt 8 cfg0.N
    = (fun i : S8192x1024.Idx => (arr m c).f (Args.bt (i 0)) (Args.ps (i 0)) (i 1)) := by
  refine (dats m 0 c).arrAt_eq_of_cover 8 (fun i : S8192x1024.Idx => (arr m c).f (Args.bt (i 0)) (Args.ps (i 0)) (i 1))
    (fun t hf => ?_) fun i => ?_
  · have ht : t.val < 32 := lt_of_lt_of_eq t.isLt N_0
    rw [Value.flushed8, (at_snd m c t ((flush0_8 t).1 hf)).2.2.2]
    funext y
    rw [View.read_apply]
    have hy : (y 0 : Fin 512).val < 512 := (y 0).isLt
    refine congr (congrArg₂ (arr m c).f (Fin.ext ?_) (Fin.ext ?_)) (Fin.ext ?_)
    · show t.val / 16 % 2 = (win0_8.index t 0 * 512 + 1 * (y 0).val) / 4096
      rw [(idx8 t).1]; omega
    · show 512 * (t.val / 2 % 8) + (y 0).val = (win0_8.index t 0 * 512 + 1 * (y 0).val) % 4096
      rw [(idx8 t).1]; omega
    · show (y 1).val = win0_8.index t 1 * 1024 + 1 * (y 1).val
      rw [(idx8 t).2]; omega
  · have h0 : (i 0 : Fin 8192).val < 8192 := (i 0).isLt
    have h1 : (i 1 : Fin 1024).val < 1024 := (i 1).isLt
    have ht : (i 0 : Fin 8192).val / 512 * 2 + 1 < cfg0.N := by rw [show cfg0.N = 32 from N_0]; omega
    refine ⟨⟨(i 0 : Fin 8192).val / 512 * 2 + 1, ht⟩, (flush0_8 _).2 (by dsimp only; omega), ?_⟩
    show i ∈ ((View.whole main_v20_3).slice (win0_8.rect ⟨(i 0 : Fin 8192).val / 512 * 2 + 1, ht⟩)).set
    rw [View.set_slice_whole, Rect.mem_set_unit]
    have hi := idx8 ⟨(i 0 : Fin 8192).val / 512 * 2 + 1, ht⟩
    have hd : ((i 0 : Fin 8192).val / 512 * 2 + 1) / 2 = (i 0 : Fin 8192).val / 512 := by omega
    intro a
    match a with
    | ⟨0, _⟩ =>
      show win0_8.index _ 0 * 512 ≤ (i 0 : Fin 8192).val ∧ (i 0 : Fin 8192).val < win0_8.index _ 0 * 512 + 512
      rw [hi.1, hd]; omega
    | ⟨1, _⟩ =>
      show win0_8.index _ 1 * 1024 ≤ (i 1 : Fin 1024).val ∧ (i 1 : Fin 1024).val < win0_8.index _ 1 * 1024 + 1024
      rw [hi.2]; omega

theorem at_g (t : Fin cfg0.N) : (outsAt0 m c t.val t.isLt).2.1 = gb (arr m c) t.val := by
  by_cases h0 : t.val % 2 = 0
  · exact (at_fst m c t h0).1
  · exact (at_snd m c t (by omega)).2.1

/-- The gate half of the projection up. -/
theorem final6 : (dats m 0 c).arrAt 6 cfg0.N
    = (fun i : S8192x2816.Idx => (arr m c).g (Args.bt (i 0)) (Args.ps (i 0)) (i 1)) := by
  refine (dats m 0 c).arrAt_eq_of_cover 6 (fun i : S8192x2816.Idx => (arr m c).g (Args.bt (i 0)) (Args.ps (i 0)) (i 1))
    (fun t hf => ?_) fun i => ?_
  · have ht : t.val < 32 := lt_of_lt_of_eq t.isLt N_0
    rw [Value.flushed6, at_g]
    funext y
    rw [View.read_apply]
    have hy : (y 0 : Fin 512).val < 512 := (y 0).isLt
    refine congr (congrArg₂ (arr m c).g (Fin.ext ?_) (Fin.ext ?_)) (Fin.ext ?_)
    · show t.val / 16 % 2 = (win0_6.index t 0 * 512 + 1 * (y 0).val) / 4096
      rw [(idx6 t).1]; omega
    · show 512 * (t.val / 2 % 8) + (y 0).val = (win0_6.index t 0 * 512 + 1 * (y 0).val) % 4096
      rw [(idx6 t).1]; omega
    · show 1408 * (t.val % 2) + (y 1).val = win0_6.index t 1 * 1408 + 1 * (y 1).val
      rw [(idx6 t).2]; omega
  · have h0 : (i 0 : Fin 8192).val < 8192 := (i 0).isLt
    have h1 : (i 1 : Fin 2816).val < 2816 := (i 1).isLt
    have ht : (i 0 : Fin 8192).val / 512 * 2 + (i 1 : Fin 2816).val / 1408 < cfg0.N := by rw [show cfg0.N = 32 from N_0]; omega
    refine ⟨⟨(i 0 : Fin 8192).val / 512 * 2 + (i 1 : Fin 2816).val / 1408, ht⟩, flush0_6 _, ?_⟩
    show i ∈ ((View.whole main_v20_1).slice (win0_6.rect ⟨(i 0 : Fin 8192).val / 512 * 2 + (i 1 : Fin 2816).val / 1408, ht⟩)).set
    rw [View.set_slice_whole, Rect.mem_set_unit]
    have hi := idx6 ⟨(i 0 : Fin 8192).val / 512 * 2 + (i 1 : Fin 2816).val / 1408, ht⟩
    have hd : ((i 0 : Fin 8192).val / 512 * 2 + (i 1 : Fin 2816).val / 1408) / 2 = (i 0 : Fin 8192).val / 512 := by omega
    have hm : ((i 0 : Fin 8192).val / 512 * 2 + (i 1 : Fin 2816).val / 1408) % 2 = (i 1 : Fin 2816).val / 1408 := by omega
    intro a
    match a with
    | ⟨0, _⟩ =>
      show win0_6.index _ 0 * 512 ≤ (i 0 : Fin 8192).val ∧ (i 0 : Fin 8192).val < win0_6.index _ 0 * 512 + 512
      rw [hi.1, hd]; omega
    | ⟨1, _⟩ =>
      show win0_6.index _ 1 * 1408 ≤ (i 1 : Fin 2816).val ∧ (i 1 : Fin 2816).val < win0_6.index _ 1 * 1408 + 1408
      rw [hi.2, hm]; omega

theorem at_u (t : Fin cfg0.N) : (outsAt0 m c t.val t.isLt).2.2.1 = ub (arr m c) t.val := by
  by_cases h0 : t.val % 2 = 0
  · exact (at_fst m c t h0).2.1
  · exact (at_snd m c t (by omega)).2.2.1

/-- Its value half. -/
theorem final7 : (dats m 0 c).arrAt 7 cfg0.N
    = (fun i : S8192x2816.Idx => (arr m c).u (Args.bt (i 0)) (Args.ps (i 0)) (i 1)) := by
  refine (dats m 0 c).arrAt_eq_of_cover 7 (fun i : S8192x2816.Idx => (arr m c).u (Args.bt (i 0)) (Args.ps (i 0)) (i 1))
    (fun t hf => ?_) fun i => ?_
  · have ht : t.val < 32 := lt_of_lt_of_eq t.isLt N_0
    rw [Value.flushed7, at_u]
    funext y
    rw [View.read_apply]
    have hy : (y 0 : Fin 512).val < 512 := (y 0).isLt
    refine congr (congrArg₂ (arr m c).u (Fin.ext ?_) (Fin.ext ?_)) (Fin.ext ?_)
    · show t.val / 16 % 2 = (win0_7.index t 0 * 512 + 1 * (y 0).val) / 4096
      rw [(idx7 t).1]; omega
    · show 512 * (t.val / 2 % 8) + (y 0).val = (win0_7.index t 0 * 512 + 1 * (y 0).val) % 4096
      rw [(idx7 t).1]; omega
    · show 1408 * (t.val % 2) + (y 1).val = win0_7.index t 1 * 1408 + 1 * (y 1).val
      rw [(idx7 t).2]; omega
  · have h0 : (i 0 : Fin 8192).val < 8192 := (i 0).isLt
    have h1 : (i 1 : Fin 2816).val < 2816 := (i 1).isLt
    have ht : (i 0 : Fin 8192).val / 512 * 2 + (i 1 : Fin 2816).val / 1408 < cfg0.N := by rw [show cfg0.N = 32 from N_0]; omega
    refine ⟨⟨(i 0 : Fin 8192).val / 512 * 2 + (i 1 : Fin 2816).val / 1408, ht⟩, flush0_7 _, ?_⟩
    show i ∈ ((View.whole main_v20_2).slice (win0_7.rect ⟨(i 0 : Fin 8192).val / 512 * 2 + (i 1 : Fin 2816).val / 1408, ht⟩)).set
    rw [View.set_slice_whole, Rect.mem_set_unit]
    have hi := idx7 ⟨(i 0 : Fin 8192).val / 512 * 2 + (i 1 : Fin 2816).val / 1408, ht⟩
    have hd : ((i 0 : Fin 8192).val / 512 * 2 + (i 1 : Fin 2816).val / 1408) / 2 = (i 0 : Fin 8192).val / 512 := by omega
    have hm : ((i 0 : Fin 8192).val / 512 * 2 + (i 1 : Fin 2816).val / 1408) % 2 = (i 1 : Fin 2816).val / 1408 := by omega
    intro a
    match a with
    | ⟨0, _⟩ =>
      show win0_7.index _ 0 * 512 ≤ (i 0 : Fin 8192).val ∧ (i 0 : Fin 8192).val < win0_7.index _ 0 * 512 + 512
      rw [hi.1, hd]; omega
    | ⟨1, _⟩ =>
      show win0_7.index _ 1 * 1408 ≤ (i 1 : Fin 2816).val ∧ (i 1 : Fin 2816).val < win0_7.index _ 1 * 1408 + 1408
      rw [hi.2, hm]; omega

end Cert.Ffn.Fwd

end
-- ==== Proof.FwdClaims.lean ====
/-
  The claims about the forward half-step.
-/
module

public import proofs.«01_k».proof.Defs
public import proofs.«01_k».proof.Proof.FwdFinal
public import proofs.«01_k».proof.Proof.Gen.ReferenceFwdIdeal.Read

@[expose] public section

set_option maxRecDepth 16384

noncomputable section

namespace Cert.Ffn.Fwd

open Idealize.ShloMosaic Idealize.SL.Sem

/-- The reference terminates and leaves its arguments as they were. -/
theorem frame_ref : Cert.quiescent_ReferenceFwdIdeal := fun m ρ _ =>
  (θ_run Cert.ReferenceFwdIdeal.defs _ _).mono (fun r h => ⟨fun c => (h c).2.2.2.2,
      Idealize.ShloMosaic.sem_eq_zero_of_no_sems (by decide) r.2⟩)
    (Cert.ReferenceFwdIdeal.Value.run (F := Ideal) m ρ)

section

open Cert.ReferenceFwdIdeal Cert.ReferenceFwdIdeal.Gen Cert.ReferenceFwdIdeal.Read
open Finset

variable (A : Arr)

/-- The normalised row. -/
theorem ref_rsq (i : S2x4096x1.Idx) :
    val_main_v7 (F := Ideal) A.x i = rsq (fun k : Fin 1024 => A.x (ix3 (i 0) (i 1) k)) 1024 := by
  rw [val_main_v7_apply, val_main_v6_apply, val_main_v4_apply, val_main_v2_apply, val_main_v1_apply, val_main_v3_apply,
    val_main_v5_apply, val_main_cst_0_apply, val_main_cst_1_apply, val_main_cst_apply]
  simp only [val_main_v0_apply, Ideal.mulf_def, Ideal.addf_def, Ideal.ofBits_def, Ideal.hostDivf_def, Ideal.divf_def,
    Ideal.hostUnary_rsqrt_def, w_zero, w_width, w_eps, EReal.coe_zero, zero_add]
  unfold rsq
  have e : ∀ k : Fin 1024, (idx_main_v1 (idx_main_v2 i) k : S2x4096x1024.Idx) = ix3 (i 0) (i 1) k := fun k => by
    funext a
    match a with
    | ⟨0, _⟩ => rfl
    | ⟨1, _⟩ => rfl
    | ⟨2, _⟩ => rfl
  simp only [e]
  rfl

/-- The modulated normalised row. -/
theorem ref_h (i : S2x4096x1024.Idx) :
    val_main_v21 (F := Ideal) A.x A.sh A.sc A.gn i = A.h (i 0) (i 1) (i 2) := by
  rw [val_main_v21_apply, val_main_v18_apply, val_main_v13_apply, val_main_v9_apply, val_main_v8_apply, ref_rsq,
    val_main_v12_apply, val_main_v11_apply, val_main_v10_apply, val_main_v17_apply, val_main_v16_apply, val_main_v15_apply,
    val_main_v14_apply, val_main_cst_2_apply, val_main_v20_apply, val_main_v19_apply]
  simp only [Ideal.mulf_def, Ideal.addf_def, Ideal.ofBits_def, w_one]
  unfold Arr.h nm
  refine congrArg₂ (· + ·) (congrArg₂ (· * ·) (congrArg₂ (· * ·) (congrArg₂ (· * ·) (congrArg A.x ?_) rfl) (congrArg A.gn ?_))
    (congrArg (((1 : ℝ) : EReal) + ·) (congrArg A.sc ?_))) (congrArg A.sh ?_)
  · funext a
    match a with
    | ⟨0, _⟩ => rfl
    | ⟨1, _⟩ => rfl
    | ⟨2, _⟩ => rfl
  · funext a
    match a with
    | ⟨0, _⟩ => rfl
  · funext a
    match a with
    | ⟨0, _⟩ => rfl
    | ⟨1, _⟩ => rfl
  · funext a
    match a with
    | ⟨0, _⟩ => rfl
    | ⟨1, _⟩ => rfl

/-- The projection up. -/
theorem ref_gu (i : S2x4096x5632.Idx) :
    val_main_v22 (F := Ideal) A.x A.sh A.sc A.gn A.wu i = A.gu (i 0) (i 1) (i 2) := by
  rw [val_main_v22_apply]
  simp only [ref_h]
  unfold Arr.gu
  refine sum_congr rfl fun d _ => congrArg₂ (· * ·) rfl (congrArg A.wu ?_)
  funext a
  match a with
  | ⟨0, _⟩ => rfl
  | ⟨1, _⟩ => rfl

/-- The gate half and the value half, in each of the two places the reference takes them. -/
theorem ref_g (i : S2x4096x2816.Idx) :
    val_main_v25 (F := Ideal) A.x A.sh A.sc A.gn A.wu i = A.g (i 0) (i 1) (i 2) := by
  rw [val_main_v25_apply, ref_gu]
  rfl

theorem ref_g' (i : S2x4096x2816.Idx) :
    val_main_v23 (F := Ideal) A.x A.sh A.sc A.gn A.wu i = A.g (i 0) (i 1) (i 2) := by
  rw [val_main_v23_apply, ref_gu]
  rfl

theorem ref_u (i : S2x4096x2816.Idx) :
    val_main_v26 (F := Ideal) A.x A.sh A.sc A.gn A.wu i = A.u (i 0) (i 1) (i 2) := by
  rw [val_main_v26_apply, ref_gu]
  rfl

theorem ref_u' (i : S2x4096x2816.Idx) :
    val_main_v24 (F := Ideal) A.x A.sh A.sc A.gn A.wu i = A.u (i 0) (i 1) (i 2) := by
  rw [val_main_v24_apply, ref_gu]
  rfl

/-- The hidden activation. -/
theorem ref_act (i : S2x4096x2816.Idx) :
    val_main_v28 (F := Ideal) A.x A.sh A.sc A.gn A.wu i = A.act (i 0) (i 1) (i 2) := by
  rw [val_main_v28_apply, val_main_v27_apply, val_main_call0_v5_apply, val_main_call0_v3_apply, val_main_call0_v1_apply,
    val_main_call0_v0_apply, val_main_call0_v4_apply, val_main_call0_v2_apply, val_main_call0_cst_apply,
    val_main_call0_cst_0_apply, ref_g, ref_u]
  simp only [Ideal.mulf_def, Ideal.addf_def, Ideal.ofBits_def, Ideal.hostDivf_def, Ideal.divf_def, Ideal.hostNegf_def,
    Ideal.negf_def, Ideal.hostUnary_exp_def, w_one]
  rfl

/-- The projection down. -/
theorem ref_f (i : S2x4096x1024.Idx) :
    val_main_v29 (F := Ideal) A.x A.sh A.sc A.gn A.wu A.wd i = A.f (i 0) (i 1) (i 2) := by
  rw [val_main_v29_apply]
  simp only [ref_act]
  unfold Arr.f
  refine sum_congr rfl fun j _ => congrArg₂ (· * ·) rfl (congrArg A.wd ?_)
  funext a
  match a with
  | ⟨0, _⟩ => rfl
  | ⟨1, _⟩ => rfl

/-- The residual. -/
theorem ref_y (i : S2x4096x1024.Idx) :
    val_main_v37 (F := Ideal) A.x A.sh A.sc A.ga A.gn A.wu A.wd i = A.y (i 0) (i 1) (i 2) := by
  rw [val_main_v37_apply, val_main_v36_apply, ref_f, val_main_v35_apply, val_main_v34_apply, val_main_v33_apply,
    val_main_cst_4_apply, val_main_v32_apply, val_main_v31_apply, val_main_v30_apply, val_main_cst_3_apply]
  simp only [Ideal.mulf_def, Ideal.addf_def, Ideal.ofBits_def, w_one, w_half]
  unfold Arr.y
  refine congrArg₂ (· + ·) (congrArg A.x ?_) (congrArg₂ (· * ·) (congrArg (((1 / 2 : ℝ) : EReal) * ·)
    (congrArg (((1 : ℝ) : EReal) + ·) (congrArg A.ga ?_))) rfl)
  · funext a
    match a with
    | ⟨0, _⟩ => rfl
    | ⟨1, _⟩ => rfl
    | ⟨2, _⟩ => rfl
  · funext a
    match a with
    | ⟨0, _⟩ => rfl
    | ⟨1, _⟩ => rfl

/-- The reference's four results. -/
theorem out_y : val_main_v38 (F := Ideal) A.x A.sh A.sc A.ga A.gn A.wu A.wd
    = fun i : S8192x1024.Idx => A.y (Args.bt (i 0)) (Args.ps (i 0)) (i 1) := by
  funext i
  obtain ⟨e0, e1, e2⟩ := split_tok (i 0) (n := 1024) (i 1)
  rw [val_main_v38_apply, ref_y]
  exact congr (congrArg₂ A.y (Fin.ext e0) (Fin.ext e1)) (Fin.ext e2)

theorem out_g : val_main_v40 (F := Ideal) A.x A.sh A.sc A.gn A.wu
    = fun i : S8192x2816.Idx => A.g (Args.bt (i 0)) (Args.ps (i 0)) (i 1) := by
  funext i
  obtain ⟨e0, e1, e2⟩ := split_tok (i 0) (n := 2816) (i 1)
  rw [val_main_v40_apply, val_main_v39_apply, ref_g']
  exact congr (congrArg₂ A.g (Fin.ext e0) (Fin.ext e1)) (Fin.ext e2)

theorem out_u : val_main_v42 (F := Ideal) A.x A.sh A.sc A.gn A.wu
    = fun i : S8192x2816.Idx => A.u (Args.bt (i 0)) (Args.ps (i 0)) (i 1) := by
  funext i
  obtain ⟨e0, e1, e2⟩ := split_tok (i 0) (n := 2816) (i 1)
  rw [val_main_v42_apply, val_main_v41_apply, ref_u']
  exact congr (congrArg₂ A.u (Fin.ext e0) (Fin.ext e1)) (Fin.ext e2)

theorem out_f : val_main_v44 (F := Ideal) A.x A.sh A.sc A.gn A.wu A.wd
    = fun i : S8192x1024.Idx => A.f (Args.bt (i 0)) (Args.ps (i 0)) (i 1) := by
  funext i
  obtain ⟨e0, e1, e2⟩ := split_tok (i 0) (n := 1024) (i 1)
  rw [val_main_v44_apply, val_main_v43_apply, ref_f]
  exact congr (congrArg₂ A.f (Fin.ext e0) (Fin.ext e1)) (Fin.ext e2)

end

/-- From memories that agree on the arguments, the kernel's program and the reference end with equal results. -/
theorem algebraic : Cert.algebraic_KernelFwdIdeal_ReferenceFwdIdeal := by
  intro m ρ m' ρ' _ hagree
  refine ⟨fun c => fun i : Cert.KernelFwdIdeal.S8192x1024.Idx => (arr m c).y (Args.bt (i 0)) (Args.ps (i 0)) (i 1),
    fun c => fun i : Cert.KernelFwdIdeal.S8192x2816.Idx => (arr m c).g (Args.bt (i 0)) (Args.ps (i 0)) (i 1),
    fun c => fun i : Cert.KernelFwdIdeal.S8192x2816.Idx => (arr m c).u (Args.bt (i 0)) (Args.ps (i 0)) (i 1),
    fun c => fun i : Cert.KernelFwdIdeal.S8192x1024.Idx => (arr m c).f (Args.bt (i 0)) (Args.ps (i 0)) (i 1), ?_, ?_⟩
  · refine (θ_run Cert.KernelFwdIdeal.defs _ _).mono (fun r h c => ?_) (Cert.KernelFwdIdeal.Value.run_blocks (F := Ideal) m ρ)
    obtain ⟨h0, h1, h2, h3, hargs⟩ := h c
    exact ⟨h0.trans (final5 m c), h1.trans (final6 m c), h2.trans (final7 m c), h3.trans (final8 m c), hargs⟩
  · refine (θ_run Cert.ReferenceFwdIdeal.defs _ _).mono (fun r h c => ?_) (Cert.ReferenceFwdIdeal.Value.run (F := Ideal) m' ρ')
    obtain ⟨h0, h1, h2, h3, hargs⟩ := h c
    obtain ⟨a0, a1, a2, a3, a4, a5, a6⟩ := hagree c
    refine ⟨h0.trans ?_, h1.trans ?_, h2.trans ?_, h3.trans ?_, hargs⟩
    · rw [Cert.ReferenceFwdIdeal.Read.val_main_v38_eq, a0, a1, a2, a3, a4, a5, a6]; exact out_y (arr m c)
    · rw [Cert.ReferenceFwdIdeal.Read.val_main_v40_eq, a0, a1, a2, a4, a5]; exact out_g (arr m c)
    · rw [Cert.ReferenceFwdIdeal.Read.val_main_v42_eq, a0, a1, a2, a4, a5]; exact out_u (arr m c)
    · rw [Cert.ReferenceFwdIdeal.Read.val_main_v44_eq, a0, a1, a2, a4, a5, a6]; exact out_f (arr m c)

end Cert.Ffn.Fwd

end
-- ==== Proof.MixSpec.lean ====
/-
  The mixer's two projections over the extended reals: where the rows of a grid point lie among the tokens, and the
  projection in, entry by entry.
-/
module

public import proofs.«01_k».proof.Proof.FwdSpec

@[expose] public section

noncomputable section

namespace Cert.Mixer

open Idealize.ShloMosaic Cert.Ffn Cert.Ffn.Fwd
open Finset

/-- The batch element of the rows of point `n`, and the place of row `r` in its sequence: eight blocks of 512 rows. -/
def pb (n : ℕ) : Fin 2 := ⟨n / 8 % 2, by omega⟩
def pt (n : ℕ) (r : Fin 512) : Fin 4096 := ⟨512 * (n % 8) + r.val, by omega⟩

/-- A matrix of 2564 columns followed by columns of zeros. -/
def wide {n : ℕ} (w : Mat n 2564) (d : Fin n) (k : Fin 2688) : EReal :=
  if hk : k.val < 2564 then w (ix2 d ⟨k.val, hk⟩) else 0

namespace In

/-- The arguments of the projection in. -/
structure Arr where
  x : Stk 2 4096 1024
  sh : Mat 2 1024
  sc : Mat 2 1024
  gn : Row 1024
  w : Mat 1024 2564

namespace Arr

variable (A : Arr) (b : Fin 2) (s : Fin 4096)

/-- The modulated normalised row. -/
def h (d : Fin 1024) : EReal :=
  nm (fun k => A.x (ix3 b s k)) 1024 (A.gn (ix1 d)) (((1 : ℝ) : EReal) + A.sc (ix2 b d)) (A.sh (ix2 b d)) d

/-- Its projection, with columns of zeros after it. -/
def p (k : Fin 2688) : EReal := ∑ d, A.h b s d * wide A.w d k

/-- The row the modulation's stack holds at `k`. -/
def mod (b : Fin 2) (k : Fin 8) (d : Fin 1024) : EReal :=
  if k.val = 0 then A.sh (ix2 b d) else if k.val = 1 then ((1 : ℝ) : EReal) + A.sc (ix2 b d)
  else if k.val = 3 then A.gn (ix1 d) else 0

end Arr

end In

end Cert.Mixer

end
-- ==== Proof.MixInFinal.lean ====
/-
  The mixer's projection in: what a grid point of the kernel computes, the blocks it is given, and the arrays the call
  ends with.
-/
module

public import proofs.«01_k».proof.Proof.MixSpec
public import proofs.«01_k».proof.Proof.Gen.KernelMixInIdeal.Value
public import Idealize.ShloMosaic.Lib.StableHlo.ReadAt

@[expose] public section

set_option maxRecDepth 16384

noncomputable section

namespace Cert.Mixer.In

open Idealize.ShloMosaic Cert.KernelMixInIdeal Cert.KernelMixInIdeal.Gen Cert.Ffn Cert.Ffn.Fwd
open Idealize.ShloMosaic.Pipeline (Dat)
open Finset

/-! ## One point -/

/-- The block of modulated normalised rows. -/
def hblk (x : S512x1024.Idx → EReal) (mo : S1x8x1024.Idx → EReal) (y : S512x1024.Idx) : EReal :=
  nm (fun k => x (ix2 (y 0) k)) 1024 (mo (ix3 0 3 (y 1))) (mo (ix3 0 1 (y 1))) (mo (ix3 0 0 (y 1))) (y 1)

theorem p1 (x : S512x1024.Idx → EReal) (g s t : S1x1x1024.Idx → EReal) :
    k0_pay1 (F := Ideal) x g s t
      = fun y => nm (fun k => x (ix2 (y 0) k)) 1024 (g (ix3 0 0 (y 1))) (s (ix3 0 0 (y 1))) (t (ix3 0 0 (y 1))) (y 1) := by
  funext y
  pointwise [k0_pay1]
  rw [w_width, w_eps]
  unfold nm rsq
  refine congrArg (fun z => z * _ * _ * _ + _) (congrArg x (funext fun a => ?_))
  match a with
  | ⟨0, _⟩ => rfl
  | ⟨1, _⟩ => rfl

theorem p2 (x : S512x1024.Idx → EReal) (g s t : S1x1x1024.Idx → EReal) (w : S1024x2688.Idx → EReal) :
    k0_pay2 (F := Ideal) x g s t w
      = fun y => ∑ d : Fin 1024, k0_pay1 (F := Ideal) x g s t (ix2 (y 0) d) * w (ix2 d (y 1)) := by
  funext y
  pointwise [k0_pay2]

/-- The three rows of the modulation a point reads. -/
theorem row_3 (v : S1x8x1024.Idx → EReal) : View.ld (Val := Elt Ideal) (e' := EltTy.f32) v r0_1 = fun y => v (ix3 0 3 (y 2)) :=
  ld_row v inb_S1x8x1024_S1x1x1024_0_3_0
theorem row_1 (v : S1x8x1024.Idx → EReal) : View.ld (Val := Elt Ideal) (e' := EltTy.f32) v r0_2 = fun y => v (ix3 0 1 (y 2)) :=
  ld_row v inb_S1x8x1024_S1x1x1024_0_1_0
theorem row_0 (v : S1x8x1024.Idx → EReal) : View.ld (Val := Elt Ideal) (e' := EltTy.f32) v r0_3 = fun y => v (ix3 0 0 (y 2)) :=
  ld_row v inb_S1x8x1024_S1x1x1024_0_0_0

theorem out3 (x0 : S512x1024.Idx → EReal) (x1 : S1x8x1024.Idx → EReal) (x2 : S1024x2688.Idx → EReal) :
    out0_3 (F := Ideal) x0 x1 x2 = hblk x0 x1 := by
  unfold out0_3
  rw [View.canon_unit_zero (S := S512x1024) hz2]
  simp only [View.ld_unit_zero (S := S512x1024) hz2, row_3, row_1, row_0, p1]
  rfl

theorem out4 (x0 : S512x1024.Idx → EReal) (x1 : S1x8x1024.Idx → EReal) (x2 : S1024x2688.Idx → EReal) :
    out0_4 (F := Ideal) x0 x1 x2 = fun y => ∑ d : Fin 1024, hblk x0 x1 (ix2 (y 0) d) * x2 (ix2 d (y 1)) := by
  unfold out0_4
  rw [View.canon_unit_zero (S := S512x2688) hz2]
  simp only [View.ld_unit_zero (S := S512x1024) hz2, View.ld_unit_zero (S := S1024x2688) hz2, row_3, row_1, row_0, p2, p1]
  rfl

/-! ## The arrays the call is given, and their blocks -/

/-- The arrays the program's arguments hold. -/
def arr (m : (ℓ : Loc nD τ sig) → Buf (Elt Ideal) ℓ) (c : Dev nD) : Arr where
  x := m ((c.tc : Thread nD τ).loc main_arg0)
  sh := m ((c.tc : Thread nD τ).loc main_arg1)
  sc := m ((c.tc : Thread nD τ).loc main_arg2)
  gn := m ((c.tc : Thread nD τ).loc main_arg3)
  w := m ((c.tc : Thread nD τ).loc main_arg4)

/-- The blocks point `n` is given. -/
def xb (A : Arr) (n : ℕ) (y : S512x1024.Idx) : EReal := A.x (ix3 (pb n) (pt n (y 0)) (y 1))
def mb (A : Arr) (n : ℕ) (y : S1x8x1024.Idx) : EReal := A.mod (pb n) (y 1) (y 2)
def wb (A : Arr) (y : S1024x2688.Idx) : EReal := wide A.w (y 0) (y 1)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)

variable (m : (ℓ : Loc nD τ sig) → Buf (Elt Ideal) ℓ) (c : Dev nD)

theorem V_v15 (i : S8192x1024.Idx) : V m c main_v15 i = (arr m c).x (ix3 (Args.bt (i 0)) (Args.ps (i 0)) (i 1)) := by
  generalize hR : (arr m c).x (ix3 (Args.bt (i 0)) (Args.ps (i 0)) (i 1)) = R
  unfold V
  after_reads_at
  rw [← hR]
  rfl

theorem V_v12 (i : S2x8x1024.Idx) : V m c main_v12 i = (arr m c).mod (i 0) (i 1) (i 2) := by
  generalize hR : (arr m c).mod (i 0) (i 1) (i 2) = R
  unfold V
  after_reads_simp
  simp only [Matrix.cons_val]
  after_reads_simp
  pointwise
  rw [← hR]
  have h8 : (i 1 : Fin 8).val < 8 := (i 1).isLt
  unfold Arr.mod arr
  simp only [w_one]
  split_ifs <;> first | omega | rfl

theorem V_v14 (i : S1024x2688.Idx) : V m c main_v14 i = wide (arr m c).w (i 0) (i 1) := by
  generalize hR : wide (arr m c).w (i 0) (i 1) = R
  unfold V
  after_reads_at
  rw [← hR]
  unfold wide
  by_cases hd : (i 1 : Fin 2688).val < 2564
  · rw [dif_pos hd, dif_pos hd]
    rfl
  · rw [dif_neg hd, dif_neg hd]
    show ((((0#32 : BitVec 32).toInt : ℝ)) : EReal) = 0
    simp

theorem iblk0 (t : Fin cfg0.N) : iblk m c 0 t = xb (arr m c) t.val := by
  funext y
  unfold iblk
  rw [View.read_apply]
  have ht : t.val < 16 := lt_of_lt_of_eq t.isLt N_0
  have hy : (y 0 : Fin 512).val < 512 := (y 0).isLt
  refine (V_v15 m c _).trans ?_
  have e0 : (((cfg0.win 0).blk t).view.emb y 0 : Fin 8192).val = 512 * t.val + (y 0 : Fin 512).val := by
    show win0_0.index t 0 * 512 + 1 * (y 0).val = _
    rw [(idx0 t).1]; omega
  have e1 : (((cfg0.win 0).blk t).view.emb y 1 : Fin 1024) = y 1 := Fin.ext (by
    show win0_0.index t 1 * 1024 + 1 * (y 1).val = (y 1).val
    rw [(idx0 t).2]; omega)
  have eb : Args.bt (((cfg0.win 0).blk t).view.emb y 0) = pb t.val := Fin.ext (by
    show (((cfg0.win 0).blk t).view.emb y 0 : Fin 8192).val / 4096 = t.val / 8 % 2
    rw [e0]; omega)
  have es : Args.ps (((cfg0.win 0).blk t).view.emb y 0) = pt t.val (y 0) := Fin.ext (by
    show (((cfg0.win 0).blk t).view.emb y 0 : Fin 8192).val % 4096 = 512 * (t.val % 8) + (y 0).val
    rw [e0]; omega)
  unfold xb
  rw [← eb, ← es]
  exact congrArg (fun d : Fin 1024 => (arr m c).x (ix3 _ _ d)) e1

theorem iblk1 (t : Fin cfg0.N) : iblk m c 1 t = mb (arr m c) t.val := by
  funext y
  unfold iblk
  rw [View.read_apply]
  have ht : t.val < 16 := lt_of_lt_of_eq t.isLt N_0
  have hy : (y 0 : Fin 1).val < 1 := (y 0).isLt
  refine (V_v12 m c _).trans ?_
  unfold mb
  refine congr (congrArg₂ (arr m c).mod (Fin.ext ?_) (Fin.ext ?_)) (Fin.ext ?_)
  · show win0_1.index t 0 * 1 + 1 * (y 0).val = t.val / 8 % 2
    rw [(idx1 t).1]; omega
  · show win0_1.index t 1 * 8 + 1 * (y 1).val = (y 1).val
    rw [(idx1 t).2.1]; omega
  · show win0_1.index t 2 * 1024 + 1 * (y 2).val = (y 2).val
    rw [(idx1 t).2.2]; omega

theorem iblk2 (t : Fin cfg0.N) : iblk m c 2 t = wb (arr m c) := by
  funext y
  unfold iblk
  rw [View.read_apply]
  refine (V_v14 m c _).trans ?_
  unfold wb
  refine congrArg₂ (wide (arr m c).w) (Fin.ext ?_) (Fin.ext ?_)
  · show win0_2.index t 0 * 1024 + 1 * (y 0).val = (y 0).val
    rw [(idx2 t).1]; omega
  · show win0_2.index t 1 * 2688 + 1 * (y 1).val = (y 1).val
    rw [(idx2 t).2]; omega

/-! ## The arrays the call ends with -/

/-- The modulated normalised input. -/
theorem final3 : (dats m 0 c).arrAt 3 cfg0.N
    = (fun i : S8192x1024.Idx => (arr m c).h (Args.bt (i 0)) (Args.ps (i 0)) (i 1)) := by
  refine (dats m 0 c).arrAt_eq_of_cover 3 (fun i : S8192x1024.Idx => (arr m c).h (Args.bt (i 0)) (Args.ps (i 0)) (i 1))
    (fun t _ => ?_) fun i => ?_
  · have ht : t.val < 16 := lt_of_lt_of_eq t.isLt N_0
    rw [Value.flushed3, iblk0, iblk1, iblk2, out3]
    funext y
    rw [View.read_apply]
    have hy : (y 0 : Fin 512).val < 512 := (y 0).isLt
    show (arr m c).h (pb t.val) (pt t.val (y 0)) (y 1) = _
    refine congr (congrArg₂ (arr m c).h (Fin.ext ?_) (Fin.ext ?_)) (Fin.ext ?_)
    · show t.val / 8 % 2 = (win0_3.index t 0 * 512 + 1 * (y 0).val) / 4096
      rw [(idx3 t).1]; omega
    · show 512 * (t.val % 8) + (y 0).val = (win0_3.index t 0 * 512 + 1 * (y 0).val) % 4096
      rw [(idx3 t).1]; omega
    · show (y 1).val = win0_3.index t 1 * 1024 + 1 * (y 1).val
      rw [(idx3 t).2]; omega
  · have h0 : (i 0 : Fin 8192).val < 8192 := (i 0).isLt
    have h1 : (i 1 : Fin 1024).val < 1024 := (i 1).isLt
    have ht : (i 0 : Fin 8192).val / 512 < cfg0.N := by rw [show cfg0.N = 16 from N_0]; omega
    refine ⟨⟨(i 0 : Fin 8192).val / 512, ht⟩, flush0_3 _, ?_⟩
    show i ∈ ((View.whole main_v16_0).slice (win0_3.rect ⟨(i 0 : Fin 8192).val / 512, ht⟩)).set
    rw [View.set_slice_whole, Rect.mem_set_unit]
    have hi := idx3 ⟨(i 0 : Fin 8192).val / 512, ht⟩
    intro a
    match a with
    | ⟨0, _⟩ =>
      show win0_3.index _ 0 * 512 ≤ (i 0 : Fin 8192).val ∧ (i 0 : Fin 8192).val < win0_3.index _ 0 * 512 + 512
      rw [hi.1]; dsimp only; omega
    | ⟨1, _⟩ =>
      show win0_3.index _ 1 * 1024 ≤ (i 1 : Fin 1024).val ∧ (i 1 : Fin 1024).val < win0_3.index _ 1 * 1024 + 1024
      rw [hi.2]; omega

/-- Its projection. -/
theorem final4 : (dats m 0 c).arrAt 4 cfg0.N
    = (fun i : S8192x2688.Idx => (arr m c).p (Args.bt (i 0)) (Args.ps (i 0)) (i 1)) := by
  refine (dats m 0 c).arrAt_eq_of_cover 4 (fun i : S8192x2688.Idx => (arr m c).p (Args.bt (i 0)) (Args.ps (i 0)) (i 1))
    (fun t _ => ?_) fun i => ?_
  · have ht : t.val < 16 := lt_of_lt_of_eq t.isLt N_0
    rw [Value.flushed4, iblk0, iblk1, iblk2, out4]
    funext y
    rw [View.read_apply]
    have hy : (y 0 : Fin 512).val < 512 := (y 0).isLt
    show (arr m c).p (pb t.val) (pt t.val (y 0)) (y 1) = _
    refine congr (congrArg₂ (arr m c).p (Fin.ext ?_) (Fin.ext ?_)) (Fin.ext ?_)
    · show t.val / 8 % 2 = (win0_4.index t 0 * 512 + 1 * (y 0).val) / 4096
      rw [(idx4 t).1]; omega
    · show 512 * (t.val % 8) + (y 0).val = (win0_4.index t 0 * 512 + 1 * (y 0).val) % 4096
      rw [(idx4 t).1]; omega
    · show (y 1).val = win0_4.index t 1 * 2688 + 1 * (y 1).val
      rw [(idx4 t).2]; omega
  · have h0 : (i 0 : Fin 8192).val < 8192 := (i 0).isLt
    have h1 : (i 1 : Fin 2688).val < 2688 := (i 1).isLt
    have ht : (i 0 : Fin 8192).val / 512 < cfg0.N := by rw [show cfg0.N = 16 from N_0]; omega
    refine ⟨⟨(i 0 : Fin 8192).val / 512, ht⟩, flush0_4 _, ?_⟩
    show i ∈ ((View.whole main_v16_1).slice (win0_4.rect ⟨(i 0 : Fin 8192).val / 512, ht⟩)).set
    rw [View.set_slice_whole, Rect.mem_set_unit]
    have hi := idx4 ⟨(i 0 : Fin 8192).val / 512, ht⟩
    intro a
    match a with
    | ⟨0, _⟩ =>
      show win0_4.index _ 0 * 512 ≤ (i 0 : Fin 8192).val ∧ (i 0 : Fin 8192).val < win0_4.index _ 0 * 512 + 512
      rw [hi.1]; dsimp only; omega
    | ⟨1, _⟩ =>
      show win0_4.index _ 1 * 2688 ≤ (i 1 : Fin 2688).val ∧ (i 1 : Fin 2688).val < win0_4.index _ 1 * 2688 + 2688
      rw [hi.2]; omega

end Cert.Mixer.In

end
-- ==== Proof.MixInClaims.lean ====
/-
  The claims about the mixer's projection in.
-/
module

public import proofs.«01_k».proof.Defs
public import proofs.«01_k».proof.Proof.MixInFinal
public import proofs.«01_k».proof.Proof.Gen.ReferenceMixInIdeal.Read
public import Idealize.ShloMosaic.Lib.KernelVsHost

@[expose] public section

set_option maxRecDepth 16384

noncomputable section

namespace Cert.Mixer.In

open Idealize.ShloMosaic Idealize.SL.Sem Cert.Ffn Cert.Ffn.Fwd

/-- The reference terminates and leaves its arguments as they were. -/
theorem frame_ref : Cert.quiescent_ReferenceMixInIdeal := fun m ρ _ =>
  (θ_run Cert.ReferenceMixInIdeal.defs _ _).mono (fun r h => ⟨fun c => (h c).2.2,
      Idealize.ShloMosaic.sem_eq_zero_of_no_sems (by decide) r.2⟩)
    (Cert.ReferenceMixInIdeal.Value.run (F := Ideal) m ρ)

section

open Cert.ReferenceMixInIdeal Cert.ReferenceMixInIdeal.Gen Cert.ReferenceMixInIdeal.Read
open Finset

variable (A : Arr)

/-- The normalised row. -/
theorem ref_rsq (i : S2x4096x1.Idx) :
    val_main_v7 (F := Ideal) A.x i = rsq (fun k : Fin 1024 => A.x (ix3 (i 0) (i 1) k)) 1024 := by
  rw [val_main_v7_apply, val_main_v6_apply, val_main_v4_apply, val_main_v2_apply, val_main_v1_apply, val_main_v3_apply,
    val_main_v5_apply, val_main_cst_0_apply, val_main_cst_1_apply, val_main_cst_apply]
  simp only [val_main_v0_apply, Ideal.mulf_def, Ideal.addf_def, Ideal.ofBits_def, Ideal.hostDivf_def, Ideal.divf_def,
    Ideal.hostUnary_rsqrt_def, w_zero, w_width, w_eps, EReal.coe_zero, zero_add]
  unfold rsq
  have e : ∀ k : Fin 1024, (idx_main_v1 (idx_main_v2 i) k : S2x4096x1024.Idx) = ix3 (i 0) (i 1) k := fun k => by
    funext a
    match a with
    | ⟨0, _⟩ => rfl
    | ⟨1, _⟩ => rfl
    | ⟨2, _⟩ => rfl
  simp only [e]
  rfl

/-- The modulated normalised row. -/
theorem ref_h (i : S2x4096x1024.Idx) :
    val_main_v21 (F := Ideal) A.x A.sh A.sc A.gn i = A.h (i 0) (i 1) (i 2) := by
  rw [val_main_v21_apply, val_main_v18_apply, val_main_v13_apply, val_main_v9_apply, val_main_v8_apply, ref_rsq,
    val_main_v12_apply, val_main_v11_apply, val_main_v10_apply, val_main_v17_apply, val_main_v16_apply, val_main_v15_apply,
    val_main_v14_apply, val_main_cst_2_apply, val_main_v20_apply, val_main_v19_apply]
  simp only [Ideal.mulf_def, Ideal.addf_def, Ideal.ofBits_def, w_one]
  unfold Arr.h nm
  refine congrArg₂ (· + ·) (congrArg₂ (· * ·) (congrArg₂ (· * ·) (congrArg₂ (· * ·) (congrArg A.x ?_) rfl) (congrArg A.gn ?_))
    (congrArg (((1 : ℝ) : EReal) + ·) (congrArg A.sc ?_))) (congrArg A.sh ?_)
  · funext a
    match a with
    | ⟨0, _⟩ => rfl
    | ⟨1, _⟩ => rfl
    | ⟨2, _⟩ => rfl
  · funext a
    match a with
    | ⟨0, _⟩ => rfl
  · funext a
    match a with
    | ⟨0, _⟩ => rfl
    | ⟨1, _⟩ => rfl
  · funext a
    match a with
    | ⟨0, _⟩ => rfl
    | ⟨1, _⟩ => rfl

/-- Its projection. -/
theorem ref_p (i : S2x4096x2564.Idx) :
    val_main_v22 (F := Ideal) A.x A.sh A.sc A.gn A.w i = ∑ d, A.h (i 0) (i 1) d * A.w (ix2 d (i 2)) := by
  rw [val_main_v22_apply]
  simp only [ref_h]
  refine sum_congr rfl fun d _ => congrArg₂ (· * ·) rfl (congrArg A.w ?_)
  funext a
  match a with
  | ⟨0, _⟩ => rfl
  | ⟨1, _⟩ => rfl

/-- The reference's two results. -/
theorem out_h : val_main_v24 (F := Ideal) A.x A.sh A.sc A.gn
    = fun i : S8192x1024.Idx => A.h (Args.bt (i 0)) (Args.ps (i 0)) (i 1) := by
  funext i
  obtain ⟨e0, e1, e2⟩ := split_tok (i 0) (n := 1024) (i 1)
  rw [val_main_v24_apply, val_main_v23_apply, ref_h]
  show A.h (idx_main_v23 i 0) (idx_main_v23 i 1) (idx_main_v23 i 2) = _
  exact congr (congrArg₂ A.h (Fin.ext e0) (Fin.ext e1)) (Fin.ext e2)

theorem out_p : val_main_v26 (F := Ideal) A.x A.sh A.sc A.gn A.w
    = fun i : S8192x2688.Idx => A.p (Args.bt (i 0)) (Args.ps (i 0)) (i 1) := by
  funext i
  unfold val_main_v26 Arr.p
  have hz : val_main_call0_v0 (F := Ideal) (Shape.Idx.first h_S_) = (0 : EReal) := by
    rw [val_main_call0_v0_apply, val_main_c_apply]
    show ((((0#32 : BitVec 32).toInt : ℝ)) : EReal) = 0
    simp
  by_cases hd : (i 1 : Fin 2688).val < 2564
  · obtain ⟨e0, e1, e2⟩ := split_tok (i 0) (n := 2564) ⟨(i 1).val, hd⟩
    rw [pad_apply_of_inside _ _ _ _ _ _ _ i (ix2 (i 0) ⟨(i 1).val, hd⟩ : S8192x2564.Idx) (fun a => by
      match a with
      | ⟨0, _⟩ => show (i 0).val = 0 + (i 0).val * (0 + 1); omega
      | ⟨1, _⟩ => show (i 1).val = 0 + (i 1).val * (0 + 1); omega), val_main_v25_apply, ref_p]
    refine sum_congr rfl fun d _ => congrArg₂ (· * ·) (congrArg₂ (fun b s => A.h b s d) (Fin.ext e0) (Fin.ext e1)) ?_
    unfold wide
    rw [dif_pos hd]
    exact congrArg (fun k => A.w (ix2 d k)) (Fin.ext e2)
  · rw [pad_apply_of_not_inside _ _ _ _ _ _ _ i 1 (fun hh => hd (by
      have := hh.2.2
      have e : ((i 1).val - 0) / (0 + 1) < 2564 := this
      omega)), hz]
    refine (sum_eq_zero fun d _ => ?_).symm
    unfold wide
    rw [dif_neg hd, mul_zero]

end

/-- From memories that agree on the arguments, the kernel's program and the reference end with equal results. -/
theorem algebraic : Cert.algebraic_KernelMixInIdeal_ReferenceMixInIdeal := by
  intro m ρ m' ρ' _ hagree
  refine ⟨fun c => fun i : Cert.KernelMixInIdeal.S8192x1024.Idx => (arr m c).h (Args.bt (i 0)) (Args.ps (i 0)) (i 1),
    fun c => fun i : Cert.KernelMixInIdeal.S8192x2688.Idx => (arr m c).p (Args.bt (i 0)) (Args.ps (i 0)) (i 1), ?_, ?_⟩
  · refine (θ_run Cert.KernelMixInIdeal.defs _ _).mono (fun r h c => ?_) (Cert.KernelMixInIdeal.Value.run_blocks (F := Ideal) m ρ)
    obtain ⟨h0, h1, hargs⟩ := h c
    exact ⟨h0.trans (final3 m c), h1.trans (final4 m c), hargs⟩
  · refine (θ_run Cert.ReferenceMixInIdeal.defs _ _).mono (fun r h c => ?_) (Cert.ReferenceMixInIdeal.Value.run (F := Ideal) m' ρ')
    obtain ⟨h0, h1, hargs⟩ := h c
    obtain ⟨a0, a1, a2, a3, a4⟩ := hagree c
    refine ⟨h0.trans ?_, h1.trans ?_, hargs⟩
    · rw [Cert.ReferenceMixInIdeal.Read.val_main_v24_eq, a0, a1, a2, a3]; exact out_h (arr m c)
    · rw [Cert.ReferenceMixInIdeal.Read.val_main_v26_eq, a0, a1, a2, a3, a4]; exact out_p (arr m c)

end Cert.Mixer.In

end
-- ==== Proof.MixOutSpec.lean ====
/-
  The mixer's projection out over the extended reals: the three groups' norms, the projection and the gated residual,
  entry by entry.
-/
module

public import proofs.«01_k».proof.Proof.MixSpec

@[expose] public section

noncomputable section

namespace Cert.Mixer

open Idealize.ShloMosaic Cert.Ffn Cert.Ffn.Fwd
open Finset

/-- Three rows side by side, each divided by its own root mean square. -/
def grp (l : Fin 512 → EReal) (s f : Fin 256 → EReal) (d : Fin 1024) : EReal :=
  if h : d.val < 512 then l ⟨d.val, h⟩ * rsq l 512
  else if h' : d.val < 768 then s ⟨d.val - 512, by omega⟩ * rsq s 256
  else f ⟨d.val - 768, by omega⟩ * rsq f 256

theorem w_512 : Idealize.ShloMosaic.Ideal.ofBits .f32 0x44000000#32 = ((512 : ℝ) : EReal) := by
  simp [Idealize.ShloMosaic.Ideal.ofBits, Idealize.ShloMosaic.Ideal.ieee, -EReal.coe_mul]; norm_num

theorem w_256 : Idealize.ShloMosaic.Ideal.ofBits .f32 0x43800000#32 = ((256 : ℝ) : EReal) := by
  simp [Idealize.ShloMosaic.Ideal.ofBits, Idealize.ShloMosaic.Ideal.ieee, -EReal.coe_mul]; norm_num

namespace Out

/-- The arguments of the projection out. -/
structure Arr where
  x : Stk 2 4096 1024
  yl : Stk 2 4096 512
  sb : Stk 2 4096 256
  fx : Stk 2 4096 256
  ga : Mat 2 1024
  gm : Mat 2 1024
  w : Mat 1024 1024

namespace Arr

variable (A : Arr) (b : Fin 2) (s : Fin 4096)

/-- The normalised, weighted row. -/
def y (d : Fin 1024) : EReal :=
  grp (fun k => A.yl (ix3 b s k)) (fun k => A.sb (ix3 b s k)) (fun k => A.fx (ix3 b s k)) d * A.gm (ix2 1 d)

/-- Its projection, and the residual. -/
def mo (d : Fin 1024) : EReal := ∑ k, A.y b s k * A.w (ix2 k d)
def xo (d : Fin 1024) : EReal := A.x (ix3 b s d) + (((1 : ℝ) : EReal) + A.ga (ix2 b d)) * A.mo b s d

/-- The rows the modulation's stack and the weights' stack hold at `k`. -/
def mod (b : Fin 2) (k : Fin 8) (d : Fin 1024) : EReal :=
  if k.val = 2 then ((1 : ℝ) : EReal) + A.ga (ix2 b d) else 0
def gmr (l : Fin 2) (k : Fin 8) (d : Fin 1024) : EReal := if k.val = 0 then A.gm (ix2 l d) else 0

end Arr

end Out

end Cert.Mixer

end
-- ==== Proof.MixOutPoint.lean ====
/-
  The mixer's projection out: what one grid point of the kernel leaves in its output blocks.
-/
module

public import proofs.«01_k».proof.Proof.MixOutSpec
public import proofs.«01_k».proof.Proof.Gen.KernelMixOutIdeal.Value
public import Idealize.ShloMosaic.Lib.Pointwise
public import Idealize.ShloMosaic.Lib.VecWindow

@[expose] public section

set_option maxRecDepth 16384

noncomputable section

namespace Cert.Mixer.Out

open Idealize.ShloMosaic Cert.KernelMixOutIdeal Cert.KernelMixOutIdeal.Gen Cert.Ffn Cert.Ffn.Fwd
open Finset

/-- The block of normalised, weighted rows. -/
def yblk (l : S512x512.Idx → EReal) (s f : S512x256.Idx → EReal) (g : S1x8x1024.Idx → EReal) (y : S512x1024.Idx) : EReal :=
  grp (fun k => l (ix2 (y 0) k)) (fun k => s (ix2 (y 0) k)) (fun k => f (ix2 (y 0) k)) (y 1) * g (ix3 0 0 (y 1))

/-- The block of their projections. -/
def mblk (l : S512x512.Idx → EReal) (s f : S512x256.Idx → EReal) (g : S1x8x1024.Idx → EReal)
    (w : S1024x1024.Idx → EReal) (y : S512x1024.Idx) : EReal :=
  ∑ k : Fin 1024, yblk l s f g (ix2 (y 0) k) * w (ix2 k (y 1))

theorem p1 (l : S512x512.Idx → EReal) (g : S1x1x512.Idx → EReal) :
    k0_pay1 (F := Ideal) l g
      = fun y => l y * rsq (fun k : Fin 512 => l (ix2 (y 0) k)) 512 * g (ix3 0 0 (y 1)) := by
  funext y
  pointwise [k0_pay1]
  rw [w_512, w_eps]
  unfold rsq
  refine congrArg (fun z => z * _ * _) (congrArg l (funext fun a => ?_))
  match a with
  | ⟨0, _⟩ => rfl
  | ⟨1, _⟩ => rfl

theorem p2 (l : S512x256.Idx → EReal) (g : S1x1x256.Idx → EReal) :
    k0_pay2 (F := Ideal) l g
      = fun y => l y * rsq (fun k : Fin 256 => l (ix2 (y 0) k)) 256 * g (ix3 0 0 (y 1)) := by
  funext y
  pointwise [k0_pay2]
  rw [w_256, w_eps]
  unfold rsq
  refine congrArg (fun z => z * _ * _) (congrArg l (funext fun a => ?_))
  match a with
  | ⟨0, _⟩ => rfl
  | ⟨1, _⟩ => rfl

theorem p3 (l : S512x256.Idx → EReal) (g : S1x1x256.Idx → EReal) :
    k0_pay3 (F := Ideal) l g
      = fun y => l y * rsq (fun k : Fin 256 => l (ix2 (y 0) k)) 256 * g (ix3 0 0 (y 1)) := by
  funext y
  pointwise [k0_pay3]
  rw [w_256, w_eps]
  unfold rsq
  refine congrArg (fun z => z * _ * _) (congrArg l (funext fun a => ?_))
  match a with
  | ⟨0, _⟩ => rfl
  | ⟨1, _⟩ => rfl

theorem p4 (y : S512x1024.Idx → EReal) (w : S1024x1024.Idx → EReal) :
    k0_pay4 (F := Ideal) y w = fun i => ∑ k : Fin 1024, y (ix2 (i 0) k) * w (ix2 k (i 1)) := by
  funext i
  pointwise [k0_pay4]

theorem p5 (y : S512x1024.Idx → EReal) (w : S1024x1024.Idx → EReal) :
    k0_pay5 (F := Ideal) y w = fun i => ∑ k : Fin 1024, y (ix2 (i 0) k) * w (ix2 k (i 1)) := by
  rw [← p4]
  rfl

theorem p6 (y : S512x1024.Idx → EReal) (w : S1024x1024.Idx → EReal) (x : S512x1024.Idx → EReal) (g : S1x1x1024.Idx → EReal) :
    k0_pay6 (F := Ideal) y w x g
      = fun i => x i + g (ix3 0 0 (i 1)) * ∑ k : Fin 1024, y (ix2 (i 0) k) * w (ix2 k (i 1)) := by
  funext i
  pointwise [k0_pay6]
  rw [p4]

/-- Part of the weights' first row. -/
theorem ld_part (v : S1x8x1024.Idx → EReal) (lo p : ℕ) (hp : lo + p ≤ 1024)
    (inb : ∀ a, (![0, 0, lo] : Fin 3 → Nat) a + (![1, 1, p] : Fin 3 → Nat) a ≤ S1x8x1024.size a) :
    View.ld (Val := Elt Ideal) (e' := EltTy.f32) v (Rect.unit (s := S1x8x1024) ![0, 0, lo] ![1, 1, p] inb)
      = fun y => v (ix3 0 0 ⟨lo + (y 2 : Fin p).val, by have : (y 2 : Fin p).val < p := (y 2).isLt; omega⟩) := by
  funext y
  refine congrArg v (funext fun a => ?_)
  have h0 : (y 0 : Fin 1).val < 1 := (y 0).isLt
  have h1 : (y 1 : Fin 1).val < 1 := (y 1).isLt
  match a with
  | ⟨0, _⟩ => exact Fin.ext (by show 0 + 1 * (y 0).val = 0; omega)
  | ⟨1, _⟩ => exact Fin.ext (by show 0 + 1 * (y 1).val = 0; omega)
  | ⟨2, _⟩ => exact Fin.ext (by show lo + 1 * (y 2).val = lo + (y 2).val; omega)

/-- The three groups of columns a point stores its normalised rows as, the last stored first. -/
def pieces (x1 : S512x512.Idx → EReal) (x2 x3 : S512x256.Idx → EReal) (x5 : S1x8x1024.Idx → EReal) :
    List (View.Piece (Elt Ideal) S512x1024 .bf16) :=
  [⟨Rect.unit ![0, 768] ![512, 256] inb_S512x1024_S512x256_0_768,
      k0_pay3 (F := Ideal) (View.ld (Val := Elt Ideal) (e' := EltTy.f32) x3 (Rect.unit (s := S512x256) ![0, 0] ![512, 256] inb_S512x256_S512x256_0_0))
        (View.ld (Val := Elt Ideal) (e' := EltTy.f32) x5 (Rect.unit (s := S1x8x1024) ![0, 0, 768] ![1, 1, 256] inb_S1x8x1024_S1x1x256_0_0_768))⟩,
    ⟨Rect.unit ![0, 512] ![512, 256] inb_S512x1024_S512x256_0_512,
      k0_pay2 (F := Ideal) (View.ld (Val := Elt Ideal) (e' := EltTy.f32) x2 (Rect.unit (s := S512x256) ![0, 0] ![512, 256] inb_S512x256_S512x256_0_0))
        (View.ld (Val := Elt Ideal) (e' := EltTy.f32) x5 (Rect.unit (s := S1x8x1024) ![0, 0, 512] ![1, 1, 256] inb_S1x8x1024_S1x1x256_0_0_512))⟩,
    ⟨Rect.unit ![0, 0] ![512, 512] inb_S512x1024_S512x512_0_0,
      k0_pay1 (F := Ideal) (View.ld (Val := Elt Ideal) (e' := EltTy.f32) x1 (Rect.unit (s := S512x512) ![0, 0] ![512, 512] inb_S512x512_S512x512_0_0))
        (View.ld (Val := Elt Ideal) (e' := EltTy.f32) x5 (Rect.unit (s := S1x8x1024) ![0, 0, 0] ![1, 1, 512] inb_S1x8x1024_S1x1x512_0_0_0))⟩]

/-- Together they are the whole block. -/
theorem canon_pieces (x1 : S512x512.Idx → EReal) (x2 x3 : S512x256.Idx → EReal) (x5 : S1x8x1024.Idx → EReal) :
    View.canon (pieces x1 x2 x3 x5) = yblk x1 x2 x3 x5 := by
  funext y
  have hy0 : (y 0 : Fin 512).val < 512 := (y 0).isLt
  have hy1 : (y 1 : Fin 1024).val < 1024 := (y 1).isLt
  refine View.canon_apply_of_pieces (Val := Elt Ideal) (e := .bf16) (yblk x1 x2 x3 x5) _ ?_ y ?_
  · intro p hp x
    unfold pieces at hp
    simp only [List.mem_cons, List.not_mem_nil, or_false] at hp
    have e0 : ∀ z : Fin 512, (⟨0 + 1 * z.val, by omega⟩ : Fin 512) = z := fun z => Fin.ext (by dsimp only; omega)
    rcases hp with rfl | rfl | rfl
    · have hx : (x 1 : Fin 256).val < 256 := (x 1).isLt
      dsimp only
      rw [View.ld_unit_zero (S := S512x256) hz2, ld_part x5 768 256 (by omega), p3]
      have e : (Rect.unit (s := S512x1024) ![0, 768] ![512, 256] inb_S512x1024_S512x256_0_768).emb x
          = ix2 (x 0) ⟨768 + (x 1 : Fin 256).val, by omega⟩ := by
        funext a
        match a with
        | ⟨0, _⟩ => exact Fin.ext (by show 0 + 1 * (x 0).val = (x 0).val; omega)
        | ⟨1, _⟩ => exact Fin.ext (by show 768 + 1 * (x 1).val = 768 + (x 1).val; omega)
      rw [e]
      unfold yblk grp
      rw [dif_neg (by show ¬ 768 + (x 1 : Fin 256).val < 512; omega), dif_neg (by show ¬ 768 + (x 1 : Fin 256).val < 768; omega)]
      refine congrArg (fun z => z * _ * _) (congrArg x3 (funext fun a => ?_))
      match a with
      | ⟨0, _⟩ => rfl
      | ⟨1, _⟩ => exact Fin.ext (by show (x 1).val = 768 + (x 1).val - 768; omega)
    · have hx : (x 1 : Fin 256).val < 256 := (x 1).isLt
      dsimp only
      rw [View.ld_unit_zero (S := S512x256) hz2, ld_part x5 512 256 (by omega), p2]
      have e : (Rect.unit (s := S512x1024) ![0, 512] ![512, 256] inb_S512x1024_S512x256_0_512).emb x
          = ix2 (x 0) ⟨512 + (x 1 : Fin 256).val, by omega⟩ := by
        funext a
        match a with
        | ⟨0, _⟩ => exact Fin.ext (by show 0 + 1 * (x 0).val = (x 0).val; omega)
        | ⟨1, _⟩ => exact Fin.ext (by show 512 + 1 * (x 1).val = 512 + (x 1).val; omega)
      rw [e]
      unfold yblk grp
      rw [dif_neg (by show ¬ 512 + (x 1 : Fin 256).val < 512; omega), dif_pos (by show 512 + (x 1 : Fin 256).val < 768; omega)]
      refine congrArg (fun z => z * _ * _) (congrArg x2 (funext fun a => ?_))
      match a with
      | ⟨0, _⟩ => rfl
      | ⟨1, _⟩ => exact Fin.ext (by show (x 1).val = 512 + (x 1).val - 512; omega)
    · have hx : (x 1 : Fin 512).val < 512 := (x 1).isLt
      dsimp only
      rw [View.ld_unit_zero (S := S512x512) hz2, ld_part x5 0 512 (by omega), p1]
      have e : (Rect.unit (s := S512x1024) ![0, 0] ![512, 512] inb_S512x1024_S512x512_0_0).emb x
          = ix2 (x 0) ⟨0 + (x 1 : Fin 512).val, by omega⟩ := by
        funext a
        match a with
        | ⟨0, _⟩ => exact Fin.ext (by show 0 + 1 * (x 0).val = (x 0).val; omega)
        | ⟨1, _⟩ => exact Fin.ext (by show 0 + 1 * (x 1).val = 0 + (x 1).val; omega)
      rw [e]
      unfold yblk grp
      rw [dif_pos (by show 0 + (x 1 : Fin 512).val < 512; omega)]
      refine congrArg (fun z => z * _ * _) (congrArg x1 (funext fun a => ?_))
      match a with
      | ⟨0, _⟩ => rfl
      | ⟨1, _⟩ => exact Fin.ext (by show (x 1).val = 0 + (x 1).val; omega)
  · by_cases h1 : (y 1 : Fin 1024).val < 512
    · refine ⟨_, List.mem_cons_of_mem _ (List.mem_cons_of_mem _ (List.mem_singleton.2 rfl)), ?_⟩
      rw [Rect.mem_set_unit]
      intro a
      match a with
      | ⟨0, _⟩ => show 0 ≤ (y 0 : Fin 512).val ∧ (y 0 : Fin 512).val < 0 + 512; omega
      | ⟨1, _⟩ => show 0 ≤ (y 1 : Fin 1024).val ∧ (y 1 : Fin 1024).val < 0 + 512; omega
    · by_cases h2 : (y 1 : Fin 1024).val < 768
      · refine ⟨_, List.mem_cons_of_mem _ List.mem_cons_self, ?_⟩
        rw [Rect.mem_set_unit]
        intro a
        match a with
        | ⟨0, _⟩ => show 0 ≤ (y 0 : Fin 512).val ∧ (y 0 : Fin 512).val < 0 + 512; omega
        | ⟨1, _⟩ => show 512 ≤ (y 1 : Fin 1024).val ∧ (y 1 : Fin 1024).val < 512 + 256; omega
      · refine ⟨_, List.mem_cons_self, ?_⟩
        rw [Rect.mem_set_unit]
        intro a
        match a with
        | ⟨0, _⟩ => show 0 ≤ (y 0 : Fin 512).val ∧ (y 0 : Fin 512).val < 0 + 512; omega
        | ⟨1, _⟩ => show 768 ≤ (y 1 : Fin 1024).val ∧ (y 1 : Fin 1024).val < 768 + 256; omega

/-- Reading them back gives the whole block. -/
theorem read_pieces (arg9 : Memref sig .tc .vmem S512x1024 .bf16) (x1 : S512x512.Idx → EReal) (x2 x3 : S512x256.Idx → EReal)
    (x5 : S1x8x1024.Idx → EReal) :
    arg9.view.readCov (pieces x1 x2 x3 x5) (Rect.unit (s := S512x1024) ![0, 0] ![512, 1024] inb_S512x1024_S512x1024_0_0).toLoadRect
      = yblk x1 x2 x3 x5 := by
  rw [View.readCov_eq_canon', canon_pieces]
  funext y
  refine congrArg (yblk x1 x2 x3 x5) (funext fun a => ?_)
  match a with
  | ⟨0, _⟩ => exact Fin.ext (by show 0 + 1 * (y 0).val = (y 0).val; omega)
  | ⟨1, _⟩ => exact Fin.ext (by show 0 + 1 * (y 1).val = (y 1).val; omega)

theorem row_2 (v : S1x8x1024.Idx → EReal) : View.ld (Val := Elt Ideal) (e' := EltTy.f32) v (Rect.unit (s := S1x8x1024) ![0, 2, 0] ![1, 1, 1024] inb_S1x8x1024_S1x1x1024_0_2_0) = fun y => v (ix3 0 2 (y 2)) :=
  ld_row v inb_S1x8x1024_S1x1x1024_0_2_0

section

variable (c : Dev nD) (i : grid0.Coords)
  (arg1 : Memref sig .tc .vmem S512x1024 .f32) (harg1 : arg1.IsWhole) (arg2 : Memref sig .tc .vmem S512x512 .f32)
  (harg2 : arg2.IsWhole) (arg3 : Memref sig .tc .vmem S512x256 .f32) (harg3 : arg3.IsWhole)
  (arg4 : Memref sig .tc .vmem S512x256 .f32) (harg4 : arg4.IsWhole) (arg5 : Memref sig .tc .vmem S1x8x1024 .f32)
  (harg5 : arg5.IsWhole) (arg6 : Memref sig .tc .vmem S1x8x1024 .f32) (harg6 : arg6.IsWhole)
  (arg7 : Memref sig .tc .vmem S1024x1024 .bf16) (harg7 : arg7.IsWhole) (arg8 : Memref sig .tc .vmem S512x1024 .f32)
  (harg8 : arg8.IsWhole) (arg9 : Memref sig .tc .vmem S512x1024 .bf16) (harg9 : arg9.IsWhole)
  (arg10 : Memref sig .tc .vmem S512x1024 .bf16) (harg10 : arg10.IsWhole)
  (x0 : S512x1024.Idx → EReal) (x1 : S512x512.Idx → EReal) (x2 x3 : S512x256.Idx → EReal)
  (x4 x5 : S1x8x1024.Idx → EReal) (x6 : S1024x1024.Idx → EReal)

/-- The normalised, weighted rows. -/
theorem outA8 :
    out0_A_8 (F := Ideal) c i arg1 harg1 arg2 harg2 arg3 harg3 arg4 harg4 arg5 harg5 arg6 harg6 arg7 harg7 arg8 harg8 arg9 harg9 arg10 harg10 x0 x1 x2 x3 x4 x5 x6 = yblk x1 x2 x3 x5 := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread]
  exact canon_pieces x1 x2 x3 x5

/-- Their projections. -/
theorem outA9 :
    out0_A_9 (F := Ideal) c i arg1 harg1 arg2 harg2 arg3 harg3 arg4 harg4 arg5 harg5 arg6 harg6 arg7 harg7 arg8 harg8 arg9 harg9 arg10 harg10 x0 x1 x2 x3 x4 x5 x6 = mblk x1 x2 x3 x5 x6 := by
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  rw [View.canon_unit_zero (S := S512x1024) hz2]
  simp only [View.readAt_eq_ld, harg1.read_unread, harg2.read_unread, harg3.read_unread, harg4.read_unread, harg5.read_unread, harg6.read_unread, harg7.read_unread]
  refine (congrArg (fun z => k0_pay5 (F := Ideal) z _) (read_pieces arg9 x1 x2 x3 x5)).trans ?_
  rw [p5, View.ld_unit_zero (S := S1024x1024) hz2]
  rfl

/-- And the gated residual. -/
theorem outA7 :
    out0_A_7 (F := Ideal) c i arg1 harg1 arg2 harg2 arg3 harg3 arg4 harg4 arg5 harg5 arg6 harg6 arg7 harg7 arg8 harg8 arg9 harg9 arg10 harg10 x0 x1 x2 x3 x4 x5 x6 = fun y => x0 y + x4 (ix3 0 2 (y 1)) * mblk x1 x2 x3 x5 x6 y := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  rw [View.canon_unit_zero (S := S512x1024) hz2]
  simp only [View.readAt_eq_ld, harg1.read_unread, harg2.read_unread, harg3.read_unread, harg4.read_unread, harg5.read_unread, harg6.read_unread, harg7.read_unread]
  refine (congrArg (fun z => k0_pay6 (F := Ideal) z _ _ _) (read_pieces arg9 x1 x2 x3 x5)).trans ?_
  rw [p6, View.ld_unit_zero (S := S1024x1024) hz2, View.ld_unit_zero (S := S512x1024) hz2]
  funext y
  refine congrArg (fun z => x0 y + z * mblk x1 x2 x3 x5 x6 y) (congrFun (row_2 x4) _)

end

end Cert.Mixer.Out

end
-- ==== Proof.MixOutFinal.lean ====
/-
  The mixer's projection out: the blocks a grid point of the kernel is given, and the arrays the call ends with.
-/
module

public import proofs.«01_k».proof.Proof.MixOutPoint
public import Idealize.ShloMosaic.Lib.StableHlo.ReadAt

@[expose] public section

set_option maxRecDepth 16384

noncomputable section

namespace Cert.Mixer.Out

open Idealize.ShloMosaic Cert.KernelMixOutIdeal Cert.KernelMixOutIdeal.Gen Cert.Ffn Cert.Ffn.Fwd
open Idealize.ShloMosaic.Pipeline (Dat)
open Finset

/-! ## The arrays the call is given, and their blocks -/

/-- The arrays the program's arguments hold. -/
def arr (m : (ℓ : Loc nD τ sig) → Buf (Elt Ideal) ℓ) (c : Dev nD) : Arr where
  x := m ((c.tc : Thread nD τ).loc main_arg0)
  yl := m ((c.tc : Thread nD τ).loc main_arg1)
  sb := m ((c.tc : Thread nD τ).loc main_arg2)
  fx := m ((c.tc : Thread nD τ).loc main_arg3)
  ga := m ((c.tc : Thread nD τ).loc main_arg4)
  gm := m ((c.tc : Thread nD τ).loc main_arg5)
  w := m ((c.tc : Thread nD τ).loc main_arg6)

/-- The rows of a stack that point `n` is given, and its blocks of the modulation and of the weights. -/
def rows {p : ℕ} (v : Stk 2 4096 p) (n : ℕ) (y : (⟨2, ![512, p]⟩ : Shape).Idx) : EReal :=
  v (ix3 (pb n) (pt n (y 0)) (y 1))
def mb (A : Arr) (n : ℕ) (y : S1x8x1024.Idx) : EReal := A.mod (pb n) (y 1) (y 2)
def gb (A : Arr) (y : S1x8x1024.Idx) : EReal := A.gmr 1 (y 1) (y 2)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)
theorem idx5 : ∀ t : Fin cfg0.N, win0_5.index t 0 = 1 ∧ win0_5.index t 1 = 0 ∧ win0_5.index t 2 = 0 :=
  (by decide +kernel : ∀ t : Fin grid0.N, win0_5.index t 0 = 1 ∧ win0_5.index t 1 = 0 ∧ win0_5.index t 2 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)

variable (m : (ℓ : Loc nD τ sig) → Buf (Elt Ideal) ℓ) (c : Dev nD)

theorem V_v14 (i : S8192x1024.Idx) : V m c main_v14 i = (arr m c).x (ix3 (Args.bt (i 0)) (Args.ps (i 0)) (i 1)) := by
  generalize hR : (arr m c).x (ix3 (Args.bt (i 0)) (Args.ps (i 0)) (i 1)) = R
  unfold V
  after_reads_at
  rw [← hR]
  rfl

theorem V_v15 (i : S8192x512.Idx) : V m c main_v15 i = (arr m c).yl (ix3 (Args.bt (i 0)) (Args.ps (i 0)) (i 1)) := by
  generalize hR : (arr m c).yl (ix3 (Args.bt (i 0)) (Args.ps (i 0)) (i 1)) = R
  unfold V
  after_reads_at
  rw [← hR]
  rfl

theorem V_v16 (i : S8192x256.Idx) : V m c main_v16 i = (arr m c).sb (ix3 (Args.bt (i 0)) (Args.ps (i 0)) (i 1)) := by
  generalize hR : (arr m c).sb (ix3 (Args.bt (i 0)) (Args.ps (i 0)) (i 1)) = R
  unfold V
  after_reads_at
  rw [← hR]
  rfl

theorem V_v17 (i : S8192x256.Idx) : V m c main_v17 i = (arr m c).fx (ix3 (Args.bt (i 0)) (Args.ps (i 0)) (i 1)) := by
  generalize hR : (arr m c).fx (ix3 (Args.bt (i 0)) (Args.ps (i 0)) (i 1)) = R
  unfold V
  after_reads_at
  rw [← hR]
  rfl

theorem V_v18 (i : S1024x1024.Idx) : V m c main_v18 i = (arr m c).w i := by
  generalize hR : (arr m c).w i = R
  unfold V
  after_reads_at
  rw [← hR]
  rfl

theorem V_v11 (i : S2x8x1024.Idx) : V m c main_v11 i = (arr m c).mod (i 0) (i 1) (i 2) := by
  generalize hR : (arr m c).mod (i 0) (i 1) (i 2) = R
  unfold V
  after_reads_simp
  simp only [Matrix.cons_val]
  after_reads_simp
  pointwise
  rw [← hR]
  have h8 : (i 1 : Fin 8).val < 8 := (i 1).isLt
  unfold Arr.mod arr
  simp only [w_one]
  split_ifs <;> first | omega | rfl

theorem V_v13 (i : S2x8x1024.Idx) : V m c main_v13 i = (arr m c).gmr (i 0) (i 1) (i 2) := by
  generalize hR : (arr m c).gmr (i 0) (i 1) (i 2) = R
  unfold V
  after_reads_at
  rw [← hR]
  unfold Arr.gmr
  by_cases hd : (i 1 : Fin 8).val < 1
  · rw [dif_pos hd, if_pos (by omega)]
    rfl
  · rw [dif_neg hd, if_neg (by omega)]
    show ((((0#32 : BitVec 32).toInt : ℝ)) : EReal) = 0
    simp

theorem iblk0 (t : Fin cfg0.N) : iblk m c 0 t = rows (arr m c).x t.val := by
  funext y
  unfold iblk
  rw [View.read_apply]
  have ht : t.val < 16 := lt_of_lt_of_eq t.isLt N_0
  have hy : (y 0 : Fin 512).val < 512 := (y 0).isLt
  refine (V_v14 m c _).trans ?_
  have e0 : (((cfg0.win 0).blk t).view.emb y 0 : Fin 8192).val = 512 * t.val + (y 0 : Fin 512).val := by
    show win0_0.index t 0 * 512 + 1 * (y 0).val = _
    rw [(idx0 t).1]; omega
  have e1 : (((cfg0.win 0).blk t).view.emb y 1 : Fin 1024) = y 1 := Fin.ext (by
    show win0_0.index t 1 * 1024 + 1 * (y 1).val = (y 1).val
    rw [(idx0 t).2]; omega)
  have eb : Args.bt (((cfg0.win 0).blk t).view.emb y 0) = pb t.val := Fin.ext (by
    show (((cfg0.win 0).blk t).view.emb y 0 : Fin 8192).val / 4096 = t.val / 8 % 2
    rw [e0]; omega)
  have es : Args.ps (((cfg0.win 0).blk t).view.emb y 0) = pt t.val (y 0) := Fin.ext (by
    show (((cfg0.win 0).blk t).view.emb y 0 : Fin 8192).val % 4096 = 512 * (t.val % 8) + (y 0).val
    rw [e0]; omega)
  unfold rows
  rw [← eb, ← es]
  exact congrArg (fun d : Fin 1024 => (arr m c).x (ix3 _ _ d)) e1

theorem iblk1 (t : Fin cfg0.N) : iblk m c 1 t = rows (arr m c).yl t.val := by
  funext y
  unfold iblk
  rw [View.read_apply]
  have ht : t.val < 16 := lt_of_lt_of_eq t.isLt N_0
  have hy : (y 0 : Fin 512).val < 512 := (y 0).isLt
  refine (V_v15 m c _).trans ?_
  have e0 : (((cfg0.win 1).blk t).view.emb y 0 : Fin 8192).val = 512 * t.val + (y 0 : Fin 512).val := by
    show win0_1.index t 0 * 512 + 1 * (y 0).val = _
    rw [(idx1 t).1]; omega
  have e1 : (((cfg0.win 1).blk t).view.emb y 1 : Fin 512) = y 1 := Fin.ext (by
    show win0_1.index t 1 * 512 + 1 * (y 1).val = (y 1).val
    rw [(idx1 t).2]; omega)
  have eb : Args.bt (((cfg0.win 1).blk t).view.emb y 0) = pb t.val := Fin.ext (by
    show (((cfg0.win 1).blk t).view.emb y 0 : Fin 8192).val / 4096 = t.val / 8 % 2
    rw [e0]; omega)
  have es : Args.ps (((cfg0.win 1).blk t).view.emb y 0) = pt t.val (y 0) := Fin.ext (by
    show (((cfg0.win 1).blk t).view.emb y 0 : Fin 8192).val % 4096 = 512 * (t.val % 8) + (y 0).val
    rw [e0]; omega)
  unfold rows
  rw [← eb, ← es]
  exact congrArg (fun d : Fin 512 => (arr m c).yl (ix3 _ _ d)) e1

theorem iblk2 (t : Fin cfg0.N) : iblk m c 2 t = rows (arr m c).sb t.val := by
  funext y
  unfold iblk
  rw [View.read_apply]
  have ht : t.val < 16 := lt_of_lt_of_eq t.isLt N_0
  have hy : (y 0 : Fin 512).val < 512 := (y 0).isLt
  refine (V_v16 m c _).trans ?_
  have e0 : (((cfg0.win 2).blk t).view.emb y 0 : Fin 8192).val = 512 * t.val + (y 0 : Fin 512).val := by
    show win0_2.index t 0 * 512 + 1 * (y 0).val = _
    rw [(idx2 t).1]; omega
  have e1 : (((cfg0.win 2).blk t).view.emb y 1 : Fin 256) = y 1 := Fin.ext (by
    show win0_2.index t 1 * 256 + 1 * (y 1).val = (y 1).val
    rw [(idx2 t).2]; omega)
  have eb : Args.bt (((cfg0.win 2).blk t).view.emb y 0) = pb t.val := Fin.ext (by
    show (((cfg0.win 2).blk t).view.emb y 0 : Fin 8192).val / 4096 = t.val / 8 % 2
    rw [e0]; omega)
  have es : Args.ps (((cfg0.win 2).blk t).view.emb y 0) = pt t.val (y 0) := Fin.ext (by
    show (((cfg0.win 2).blk t).view.emb y 0 : Fin 8192).val % 4096 = 512 * (t.val % 8) + (y 0).val
    rw [e0]; omega)
  unfold rows
  rw [← eb, ← es]
  exact congrArg (fun d : Fin 256 => (arr m c).sb (ix3 _ _ d)) e1

theorem iblk3 (t : Fin cfg0.N) : iblk m c 3 t = rows (arr m c).fx t.val := by
  funext y
  unfold iblk
  rw [View.read_apply]
  have ht : t.val < 16 := lt_of_lt_of_eq t.isLt N_0
  have hy : (y 0 : Fin 512).val < 512 := (y 0).isLt
  refine (V_v17 m c _).trans ?_
  have e0 : (((cfg0.win 3).blk t).view.emb y 0 : Fin 8192).val = 512 * t.val + (y 0 : Fin 512).val := by
    show win0_3.index t 0 * 512 + 1 * (y 0).val = _
    rw [(idx3 t).1]; omega
  have e1 : (((cfg0.win 3).blk t).view.emb y 1 : Fin 256) = y 1 := Fin.ext (by
    show win0_3.index t 1 * 256 + 1 * (y 1).val = (y 1).val
    rw [(idx3 t).2]; omega)
  have eb : Args.bt (((cfg0.win 3).blk t).view.emb y 0) = pb t.val := Fin.ext (by
    show (((cfg0.win 3).blk t).view.emb y 0 : Fin 8192).val / 4096 = t.val / 8 % 2
    rw [e0]; omega)
  have es : Args.ps (((cfg0.win 3).blk t).view.emb y 0) = pt t.val (y 0) := Fin.ext (by
    show (((cfg0.win 3).blk t).view.emb y 0 : Fin 8192).val % 4096 = 512 * (t.val % 8) + (y 0).val
    rw [e0]; omega)
  unfold rows
  rw [← eb, ← es]
  exact congrArg (fun d : Fin 256 => (arr m c).fx (ix3 _ _ d)) e1

theorem iblk4 (t : Fin cfg0.N) : iblk m c 4 t = mb (arr m c) t.val := by
  funext y
  unfold iblk
  rw [View.read_apply]
  have ht : t.val < 16 := lt_of_lt_of_eq t.isLt N_0
  have hy : (y 0 : Fin 1).val < 1 := (y 0).isLt
  refine (V_v11 m c _).trans ?_
  unfold mb
  refine congr (congrArg₂ (arr m c).mod (Fin.ext ?_) (Fin.ext ?_)) (Fin.ext ?_)
  · show win0_4.index t 0 * 1 + 1 * (y 0).val = t.val / 8 % 2
    rw [(idx4 t).1]; omega
  · show win0_4.index t 1 * 8 + 1 * (y 1).val = (y 1).val
    rw [(idx4 t).2.1]; omega
  · show win0_4.index t 2 * 1024 + 1 * (y 2).val = (y 2).val
    rw [(idx4 t).2.2]; omega

theorem iblk5 (t : Fin cfg0.N) : iblk m c 5 t = gb (arr m c) := by
  funext y
  unfold iblk
  rw [View.read_apply]
  have ht : t.val < 16 := lt_of_lt_of_eq t.isLt N_0
  have hy : (y 0 : Fin 1).val < 1 := (y 0).isLt
  refine (V_v13 m c _).trans ?_
  unfold gb
  refine congr (congrArg₂ (arr m c).gmr (Fin.ext ?_) (Fin.ext ?_)) (Fin.ext ?_)
  · show win0_5.index t 0 * 1 + 1 * (y 0).val = 1
    rw [(idx5 t).1]; omega
  · show win0_5.index t 1 * 8 + 1 * (y 1).val = (y 1).val
    rw [(idx5 t).2.1]; omega
  · show win0_5.index t 2 * 1024 + 1 * (y 2).val = (y 2).val
    rw [(idx5 t).2.2]; omega

theorem iblk6 (t : Fin cfg0.N) : iblk m c 6 t = (arr m c).w := by
  funext y
  unfold iblk
  rw [View.read_apply]
  refine (V_v18 m c _).trans (congrArg (arr m c).w (funext fun a => ?_))
  match a with
  | ⟨0, _⟩ => exact Fin.ext (by
      show win0_6.index t 0 * 1024 + 1 * (y 0).val = (y 0).val
      rw [(idx6 t).1]; omega)
  | ⟨1, _⟩ => exact Fin.ext (by
      show win0_6.index t 1 * 1024 + 1 * (y 1).val = (y 1).val
      rw [(idx6 t).2]; omega)

/-! ## What a point leaves, in the arguments -/

theorem at_y (A : Arr) (n : ℕ) (y : S512x1024.Idx) :
    yblk (rows A.yl n) (rows A.sb n) (rows A.fx n) (gb A) y = A.y (pb n) (pt n (y 0)) (y 1) := rfl

theorem at_mo (A : Arr) (n : ℕ) (y : S512x1024.Idx) :
    mblk (rows A.yl n) (rows A.sb n) (rows A.fx n) (gb A) A.w y = A.mo (pb n) (pt n (y 0)) (y 1) := rfl

/-! ## The arrays the call ends with -/

/-- The residual. -/
theorem final7 : (dats m 0 c).arrAt 7 cfg0.N
    = (fun i : S8192x1024.Idx => (arr m c).xo (Args.bt (i 0)) (Args.ps (i 0)) (i 1)) := by
  refine (dats m 0 c).arrAt_eq_of_cover 7 (fun i : S8192x1024.Idx => (arr m c).xo (Args.bt (i 0)) (Args.ps (i 0)) (i 1))
    (fun t _ => ?_) fun i => ?_
  · have ht : t.val < 16 := lt_of_lt_of_eq t.isLt N_0
    rw [Value.flushed7_A, iblk0, iblk1, iblk2, iblk3, iblk4, iblk5, iblk6, outA7]
    funext y
    rw [View.read_apply]
    have hy : (y 0 : Fin 512).val < 512 := (y 0).isLt
    show (arr m c).xo (pb t.val) (pt t.val (y 0)) (y 1) = _
    refine congr (congrArg₂ (arr m c).xo (Fin.ext ?_) (Fin.ext ?_)) (Fin.ext ?_)
    · show t.val / 8 % 2 = (win0_7.index t 0 * 512 + 1 * (y 0).val) / 4096
      rw [(idx7 t).1]; omega
    · show 512 * (t.val % 8) + (y 0).val = (win0_7.index t 0 * 512 + 1 * (y 0).val) % 4096
      rw [(idx7 t).1]; omega
    · show (y 1).val = win0_7.index t 1 * 1024 + 1 * (y 1).val
      rw [(idx7 t).2]; omega
  · have h0 : (i 0 : Fin 8192).val < 8192 := (i 0).isLt
    have h1 : (i 1 : Fin 1024).val < 1024 := (i 1).isLt
    have ht : (i 0 : Fin 8192).val / 512 < cfg0.N := by rw [show cfg0.N = 16 from N_0]; omega
    refine ⟨⟨(i 0 : Fin 8192).val / 512, ht⟩, flush0_7 _, ?_⟩
    show i ∈ ((View.whole main_v19_0).slice (win0_7.rect ⟨(i 0 : Fin 8192).val / 512, ht⟩)).set
    rw [View.set_slice_whole, Rect.mem_set_unit]
    have hi := idx7 ⟨(i 0 : Fin 8192).val / 512, ht⟩
    intro a
    match a with
    | ⟨0, _⟩ =>
      show win0_7.index _ 0 * 512 ≤ (i 0 : Fin 8192).val ∧ (i 0 : Fin 8192).val < win0_7.index _ 0 * 512 + 512
      rw [hi.1]; dsimp only; omega
    | ⟨1, _⟩ =>
      show win0_7.index _ 1 * 1024 ≤ (i 1 : Fin 1024).val ∧ (i 1 : Fin 1024).val < win0_7.index _ 1 * 1024 + 1024
      rw [hi.2]; omega

/-- The normalised, weighted rows. -/
theorem final8 : (dats m 0 c).arrAt 8 cfg0.N
    = (fun i : S8192x1024.Idx => (arr m c).y (Args.bt (i 0)) (Args.ps (i 0)) (i 1)) := by
  refine (dats m 0 c).arrAt_eq_of_cover 8 (fun i : S8192x1024.Idx => (arr m c).y (Args.bt (i 0)) (Args.ps (i 0)) (i 1))
    (fun t _ => ?_) fun i => ?_
  · have ht : t.val < 16 := lt_of_lt_of_eq t.isLt N_0
    rw [Value.flushed8_A, iblk0, iblk1, iblk2, iblk3, iblk4, iblk5, iblk6, outA8]
    funext y
    rw [View.read_apply]
    have hy : (y 0 : Fin 512).val < 512 := (y 0).isLt
    show (arr m c).y (pb t.val) (pt t.val (y 0)) (y 1) = _
    refine congr (congrArg₂ (arr m c).y (Fin.ext ?_) (Fin.ext ?_)) (Fin.ext ?_)
    · show t.val / 8 % 2 = (win0_8.index t 0 * 512 + 1 * (y 0).val) / 4096
      rw [(idx8 t).1]; omega
    · show 512 * (t.val % 8) + (y 0).val = (win0_8.index t 0 * 512 + 1 * (y 0).val) % 4096
      rw [(idx8 t).1]; omega
    · show (y 1).val = win0_8.index t 1 * 1024 + 1 * (y 1).val
      rw [(idx8 t).2]; omega
  · have h0 : (i 0 : Fin 8192).val < 8192 := (i 0).isLt
    have h1 : (i 1 : Fin 1024).val < 1024 := (i 1).isLt
    have ht : (i 0 : Fin 8192).val / 512 < cfg0.N := by rw [show cfg0.N = 16 from N_0]; omega
    refine ⟨⟨(i 0 : Fin 8192).val / 512, ht⟩, flush0_8 _, ?_⟩
    show i ∈ ((View.whole main_v19_1).slice (win0_8.rect ⟨(i 0 : Fin 8192).val / 512, ht⟩)).set
    rw [View.set_slice_whole, Rect.mem_set_unit]
    have hi := idx8 ⟨(i 0 : Fin 8192).val / 512, ht⟩
    intro a
    match a with
    | ⟨0, _⟩ =>
      show win0_8.index _ 0 * 512 ≤ (i 0 : Fin 8192).val ∧ (i 0 : Fin 8192).val < win0_8.index _ 0 * 512 + 512
      rw [hi.1]; dsimp only; omega
    | ⟨1, _⟩ =>
      show win0_8.index _ 1 * 1024 ≤ (i 1 : Fin 1024).val ∧ (i 1 : Fin 1024).val < win0_8.index _ 1 * 1024 + 1024
      rw [hi.2]; omega

/-- Their projections. -/
theorem final9 : (dats m 0 c).arrAt 9 cfg0.N
    = (fun i : S8192x1024.Idx => (arr m c).mo (Args.bt (i 0)) (Args.ps (i 0)) (i 1)) := by
  refine (dats m 0 c).arrAt_eq_of_cover 9 (fun i : S8192x1024.Idx => (arr m c).mo (Args.bt (i 0)) (Args.ps (i 0)) (i 1))
    (fun t _ => ?_) fun i => ?_
  · have ht : t.val < 16 := lt_of_lt_of_eq t.isLt N_0
    rw [Value.flushed9_A, iblk0, iblk1, iblk2, iblk3, iblk4, iblk5, iblk6, outA9]
    funext y
    rw [View.read_apply]
    have hy : (y 0 : Fin 512).val < 512 := (y 0).isLt
    show (arr m c).mo (pb t.val) (pt t.val (y 0)) (y 1) = _
    refine congr (congrArg₂ (arr m c).mo (Fin.ext ?_) (Fin.ext ?_)) (Fin.ext ?_)
    · show t.val / 8 % 2 = (win0_9.index t 0 * 512 + 1 * (y 0).val) / 4096
      rw [(idx9 t).1]; omega
    · show 512 * (t.val % 8) + (y 0).val = (win0_9.index t 0 * 512 + 1 * (y 0).val) % 4096
      rw [(idx9 t).1]; omega
    · show (y 1).val = win0_9.index t 1 * 1024 + 1 * (y 1).val
      rw [(idx9 t).2]; omega
  · have h0 : (i 0 : Fin 8192).val < 8192 := (i 0).isLt
    have h1 : (i 1 : Fin 1024).val < 1024 := (i 1).isLt
    have ht : (i 0 : Fin 8192).val / 512 < cfg0.N := by rw [show cfg0.N = 16 from N_0]; omega
    refine ⟨⟨(i 0 : Fin 8192).val / 512, ht⟩, flush0_9 _, ?_⟩
    show i ∈ ((View.whole main_v19_2).slice (win0_9.rect ⟨(i 0 : Fin 8192).val / 512, ht⟩)).set
    rw [View.set_slice_whole, Rect.mem_set_unit]
    have hi := idx9 ⟨(i 0 : Fin 8192).val / 512, ht⟩
    intro a
    match a with
    | ⟨0, _⟩ =>
      show win0_9.index _ 0 * 512 ≤ (i 0 : Fin 8192).val ∧ (i 0 : Fin 8192).val < win0_9.index _ 0 * 512 + 512
      rw [hi.1]; dsimp only; omega
    | ⟨1, _⟩ =>
      show win0_9.index _ 1 * 1024 ≤ (i 1 : Fin 1024).val ∧ (i 1 : Fin 1024).val < win0_9.index _ 1 * 1024 + 1024
      rw [hi.2]; omega

end Cert.Mixer.Out

end
-- ==== Proof.MixOutClaims.lean ====
/-
  The claims about the mixer's projection out.
-/
module

public import proofs.«01_k».proof.Defs
public import proofs.«01_k».proof.Proof.MixOutFinal
public import proofs.«01_k».proof.Proof.Gen.ReferenceMixOutIdeal.Read
public import Idealize.ShloMosaic.Lib.KernelVsHost

@[expose] public section

set_option maxRecDepth 16384

noncomputable section

namespace Cert.Mixer.Out

open Idealize.ShloMosaic Idealize.SL.Sem Cert.Ffn Cert.Ffn.Fwd

/-- The reference terminates and leaves its arguments as they were. -/
theorem frame_ref : Cert.quiescent_ReferenceMixOutIdeal := fun m ρ _ =>
  (θ_run Cert.ReferenceMixOutIdeal.defs _ _).mono (fun r h => ⟨fun c => (h c).2.2.2,
      Idealize.ShloMosaic.sem_eq_zero_of_no_sems (by decide) r.2⟩)
    (Cert.ReferenceMixOutIdeal.Value.run (F := Ideal) m ρ)

section

open Cert.ReferenceMixOutIdeal Cert.ReferenceMixOutIdeal.Gen Cert.ReferenceMixOutIdeal.Read
open Finset

variable (A : Arr)

/-- The root mean square of the first group. -/
theorem rsq_yl (i : S2x4096x1.Idx) :
    val_main_v9 (F := Ideal) A.yl i = rsq (fun k : Fin 512 => A.yl (ix3 (i 0) (i 1) k)) 512 := by
  rw [val_main_v9_apply, val_main_v8_apply, val_main_v6_apply, val_main_v4_apply, val_main_v3_apply,
    val_main_v5_apply, val_main_v7_apply, val_main_cst_0_apply, val_main_cst_1_apply, val_main_cst_apply]
  simp only [val_main_v2_apply, Ideal.mulf_def, Ideal.addf_def, Ideal.ofBits_def, Ideal.hostDivf_def, Ideal.divf_def,
    Ideal.hostUnary_rsqrt_def, w_zero, w_512, w_eps, EReal.coe_zero, zero_add]
  unfold rsq
  have e : ∀ k : Fin 512, (idx_main_v3 (idx_main_v4 i) k : S2x4096x512.Idx) = ix3 (i 0) (i 1) k := fun k => by
    funext a
    match a with
    | ⟨0, _⟩ => rfl
    | ⟨1, _⟩ => rfl
    | ⟨2, _⟩ => rfl
  simp only [e]
  rfl

/-- Its normalised rows. -/
theorem nrm_yl (i : S2x4096x512.Idx) :
    val_main_v11 (F := Ideal) A.yl i = A.yl i * rsq (fun k : Fin 512 => A.yl (ix3 (i 0) (i 1) k)) 512 := by
  rw [val_main_v11_apply, val_main_v10_apply, rsq_yl]
  rfl

/-- The root mean square of the second group. -/
theorem rsq_sb (i : S2x4096x1.Idx) :
    val_main_v19 (F := Ideal) A.sb i = rsq (fun k : Fin 256 => A.sb (ix3 (i 0) (i 1) k)) 256 := by
  rw [val_main_v19_apply, val_main_v18_apply, val_main_v16_apply, val_main_v14_apply, val_main_v13_apply,
    val_main_v15_apply, val_main_v17_apply, val_main_cst_3_apply, val_main_cst_4_apply, val_main_cst_2_apply]
  simp only [val_main_v12_apply, Ideal.mulf_def, Ideal.addf_def, Ideal.ofBits_def, Ideal.hostDivf_def, Ideal.divf_def,
    Ideal.hostUnary_rsqrt_def, w_zero, w_256, w_eps, EReal.coe_zero, zero_add]
  unfold rsq
  have e : ∀ k : Fin 256, (idx_main_v13 (idx_main_v14 i) k : S2x4096x256.Idx) = ix3 (i 0) (i 1) k := fun k => by
    funext a
    match a with
    | ⟨0, _⟩ => rfl
    | ⟨1, _⟩ => rfl
    | ⟨2, _⟩ => rfl
  simp only [e]
  rfl

/-- Its normalised rows. -/
theorem nrm_sb (i : S2x4096x256.Idx) :
    val_main_v21 (F := Ideal) A.sb i = A.sb i * rsq (fun k : Fin 256 => A.sb (ix3 (i 0) (i 1) k)) 256 := by
  rw [val_main_v21_apply, val_main_v20_apply, rsq_sb]
  rfl

/-- The root mean square of the third group. -/
theorem rsq_fx (i : S2x4096x1.Idx) :
    val_main_v29 (F := Ideal) A.fx i = rsq (fun k : Fin 256 => A.fx (ix3 (i 0) (i 1) k)) 256 := by
  rw [val_main_v29_apply, val_main_v28_apply, val_main_v26_apply, val_main_v24_apply, val_main_v23_apply,
    val_main_v25_apply, val_main_v27_apply, val_main_cst_6_apply, val_main_cst_7_apply, val_main_cst_5_apply]
  simp only [val_main_v22_apply, Ideal.mulf_def, Ideal.addf_def, Ideal.ofBits_def, Ideal.hostDivf_def, Ideal.divf_def,
    Ideal.hostUnary_rsqrt_def, w_zero, w_256, w_eps, EReal.coe_zero, zero_add]
  unfold rsq
  have e : ∀ k : Fin 256, (idx_main_v23 (idx_main_v24 i) k : S2x4096x256.Idx) = ix3 (i 0) (i 1) k := fun k => by
    funext a
    match a with
    | ⟨0, _⟩ => rfl
    | ⟨1, _⟩ => rfl
    | ⟨2, _⟩ => rfl
  simp only [e]
  rfl

/-- Its normalised rows. -/
theorem nrm_fx (i : S2x4096x256.Idx) :
    val_main_v31 (F := Ideal) A.fx i = A.fx i * rsq (fun k : Fin 256 => A.fx (ix3 (i 0) (i 1) k)) 256 := by
  rw [val_main_v31_apply, val_main_v30_apply, rsq_fx]
  rfl

/-- The three groups side by side. -/
theorem ref_grp (i : S2x4096x1024.Idx) :
    val_main_v32 (F := Ideal) A.yl A.sb A.fx i
      = grp (fun k => A.yl (ix3 (i 0) (i 1) k)) (fun k => A.sb (ix3 (i 0) (i 1) k)) (fun k => A.fx (ix3 (i 0) (i 1) k)) (i 2) := by
  unfold val_main_v32
  pointwise
  simp only [nrm_yl, nrm_sb, nrm_fx]
  unfold grp
  by_cases h1 : (i 2 : Fin 1024).val < 512
  · rw [dif_pos h1, dif_pos h1]
    rfl
  · rw [dif_neg h1, dif_neg h1]
    by_cases h2 : (i 2 : Fin 1024).val < 768
    · rw [dif_pos (show (i 2 : Fin 1024).val - 512 < 256 by omega), dif_pos h2]
      rfl
    · rw [dif_neg (show ¬ (i 2 : Fin 1024).val - 512 < 256 by omega), dif_neg h2]
      refine congrArg (· * rsq (fun k : Fin 256 => A.fx (ix3 (i 0) (i 1) k)) 256) (congrArg A.fx (funext fun a => ?_))
      match a with
      | ⟨0, _⟩ => rfl
      | ⟨1, _⟩ => rfl
      | ⟨2, _⟩ => exact Fin.ext (by show (i 2 : Fin 1024).val - 512 - 256 = (i 2 : Fin 1024).val - 768; omega)

/-- The normalised, weighted rows. -/
theorem ref_y (i : S2x4096x1024.Idx) :
    val_main_v35 (F := Ideal) A.yl A.sb A.fx A.gm i = A.y (i 0) (i 1) (i 2) := by
  rw [val_main_v35_apply, ref_grp, val_main_v34_apply, val_main_v33_apply, val_main_v1_apply, val_main_v0_apply]
  unfold Arr.y
  refine congrArg (grp _ _ _ _ * ·) (congrArg A.gm (funext fun a => ?_))
  match a with
  | ⟨0, _⟩ => rfl
  | ⟨1, _⟩ => exact Fin.ext (by show (i 2).val % 1024 = (i 2).val; have : (i 2 : Fin 1024).val < 1024 := (i 2).isLt; omega)

/-- Their projections. -/
theorem ref_mo (i : S2x4096x1024.Idx) :
    val_main_v36 (F := Ideal) A.yl A.sb A.fx A.gm A.w i = A.mo (i 0) (i 1) (i 2) := by
  rw [val_main_v36_apply]
  simp only [ref_y]
  refine sum_congr rfl fun k _ => congrArg₂ (· * ·) rfl (congrArg A.w (funext fun a => ?_))
  match a with
  | ⟨0, _⟩ => rfl
  | ⟨1, _⟩ => rfl

/-- The residual. -/
theorem ref_xo (i : S2x4096x1024.Idx) :
    val_main_v42 (F := Ideal) A.x A.yl A.sb A.fx A.ga A.gm A.w i = A.xo (i 0) (i 1) (i 2) := by
  rw [val_main_v42_apply, val_main_v41_apply, ref_mo, val_main_v40_apply, val_main_v39_apply, val_main_v38_apply,
    val_main_v37_apply, val_main_cst_8_apply]
  simp only [Ideal.mulf_def, Ideal.addf_def, Ideal.ofBits_def, w_one]
  unfold Arr.xo
  refine congrArg₂ (· + ·) (congrArg A.x (funext fun a => ?_))
    (congrArg (· * A.mo (i 0) (i 1) (i 2)) (congrArg (((1 : ℝ) : EReal) + ·) (congrArg A.ga (funext fun a => ?_))))
  · match a with
    | ⟨0, _⟩ => rfl
    | ⟨1, _⟩ => rfl
    | ⟨2, _⟩ => rfl
  · match a with
    | ⟨0, _⟩ => rfl
    | ⟨1, _⟩ => rfl

/-- The reference's three results. -/
theorem out_xo : val_main_v43 (F := Ideal) A.x A.yl A.sb A.fx A.ga A.gm A.w
    = fun i : S8192x1024.Idx => A.xo (Args.bt (i 0)) (Args.ps (i 0)) (i 1) := by
  funext i
  obtain ⟨e0, e1, e2⟩ := split_tok (i 0) (n := 1024) (i 1)
  rw [val_main_v43_apply, ref_xo]
  show A.xo (idx_main_v43 i 0) (idx_main_v43 i 1) (idx_main_v43 i 2) = _
  exact congr (congrArg₂ A.xo (Fin.ext e0) (Fin.ext e1)) (Fin.ext e2)

theorem out_y : val_main_v45 (F := Ideal) A.yl A.sb A.fx A.gm
    = fun i : S8192x1024.Idx => A.y (Args.bt (i 0)) (Args.ps (i 0)) (i 1) := by
  funext i
  obtain ⟨e0, e1, e2⟩ := split_tok (i 0) (n := 1024) (i 1)
  rw [val_main_v45_apply, val_main_v44_apply, ref_y]
  show A.y (idx_main_v44 i 0) (idx_main_v44 i 1) (idx_main_v44 i 2) = _
  exact congr (congrArg₂ A.y (Fin.ext e0) (Fin.ext e1)) (Fin.ext e2)

theorem out_mo : val_main_v47 (F := Ideal) A.yl A.sb A.fx A.gm A.w
    = fun i : S8192x1024.Idx => A.mo (Args.bt (i 0)) (Args.ps (i 0)) (i 1) := by
  funext i
  obtain ⟨e0, e1, e2⟩ := split_tok (i 0) (n := 1024) (i 1)
  rw [val_main_v47_apply, val_main_v46_apply, ref_mo]
  show A.mo (idx_main_v46 i 0) (idx_main_v46 i 1) (idx_main_v46 i 2) = _
  exact congr (congrArg₂ A.mo (Fin.ext e0) (Fin.ext e1)) (Fin.ext e2)

end

/-- From memories that agree on the arguments, the kernel's program and the reference end with equal results. -/
theorem algebraic : Cert.algebraic_KernelMixOutIdeal_ReferenceMixOutIdeal := by
  intro m ρ m' ρ' _ hagree
  refine ⟨fun c => fun i : Cert.KernelMixOutIdeal.S8192x1024.Idx => (arr m c).xo (Args.bt (i 0)) (Args.ps (i 0)) (i 1),
    fun c => fun i : Cert.KernelMixOutIdeal.S8192x1024.Idx => (arr m c).y (Args.bt (i 0)) (Args.ps (i 0)) (i 1),
    fun c => fun i : Cert.KernelMixOutIdeal.S8192x1024.Idx => (arr m c).mo (Args.bt (i 0)) (Args.ps (i 0)) (i 1), ?_, ?_⟩
  · refine (θ_run Cert.KernelMixOutIdeal.defs _ _).mono (fun r h c => ?_) (Cert.KernelMixOutIdeal.Value.run_blocks (F := Ideal) m ρ)
    obtain ⟨h0, h1, h2, hargs⟩ := h c
    exact ⟨h0.trans (final7 m c), h1.trans (final8 m c), h2.trans (final9 m c), hargs⟩
  · refine (θ_run Cert.ReferenceMixOutIdeal.defs _ _).mono (fun r h c => ?_) (Cert.ReferenceMixOutIdeal.Value.run (F := Ideal) m' ρ')
    obtain ⟨h0, h1, h2, hargs⟩ := h c
    obtain ⟨a0, a1, a2, a3, a4, a5, a6⟩ := hagree c
    refine ⟨h0.trans ?_, h1.trans ?_, h2.trans ?_, hargs⟩
    · rw [Cert.ReferenceMixOutIdeal.Read.val_main_v43_eq, a0, a1, a2, a3, a4, a5, a6]; exact out_xo (arr m c)
    · rw [Cert.ReferenceMixOutIdeal.Read.val_main_v45_eq, a1, a2, a3, a5]; exact out_y (arr m c)
    · rw [Cert.ReferenceMixOutIdeal.Read.val_main_v47_eq, a1, a2, a3, a5, a6]; exact out_mo (arr m c)

end Cert.Mixer.Out

end
-- ==== Proof.MixInBwdSpec.lean ====
/-
  The gradient of the mixer's projection in, as formulas over the real numbers.

  The forward step of one row `x` of batch element `b` is

      h = x · rms(x) · gn · (1 + scale_b) + shift_b,   p = h · W,

  and the functions below are the quantities its backward pass produces from the cotangent `dp` of `p`. Each side of the
  certificate is shown to compute these numbers.
-/
module

public import proofs.«01_k».proof.Proof.Spec
public import proofs.«01_k».proof.Proof.MixSpec

@[expose] public section

noncomputable section

namespace Cert.Mixer.InBwd

open Finset Cert.Ffn

/-- The arguments of the gradient that enter as real numbers. -/
structure Args where
  x : Fin 2 → Fin 4096 → Fin 1024 → ℝ
  sc : Fin 2 → Fin 1024 → ℝ
  gn : Fin 1024 → ℝ
  w : Fin 1024 → Fin 2564 → ℝ
  dp : Fin 2 → Fin 4096 → Fin 2564 → ℝ

namespace Args

variable (A : Args)

/-- The mean square of a row, plus the constant. -/
def ms (b : Fin 2) (s : Fin 4096) : ℝ := (∑ d, A.x b s d * A.x b s d) / 1024 + eps

theorem ms_pos (b : Fin 2) (s : Fin 4096) : 0 < A.ms b s :=
  add_pos_of_nonneg_of_pos (div_nonneg (sum_nonneg fun _ _ => mul_self_nonneg _) (by norm_num)) eps_pos

/-- The reciprocal root mean square of a row. -/
def rst (b : Fin 2) (s : Fin 4096) : ℝ := (Real.sqrt (A.ms b s))⁻¹

/-- The square of the reciprocal root is the reciprocal. -/
theorem rst_mul_self (b : Fin 2) (s : Fin 4096) : A.rst b s * A.rst b s = 1 / A.ms b s := by
  unfold rst
  rw [← mul_inv, Real.mul_self_sqrt (A.ms_pos b s).le, one_div]

/-- The normalised row. -/
def xn (b : Fin 2) (s : Fin 4096) (d : Fin 1024) : ℝ := A.x b s d * A.rst b s

/-- The cotangent of the modulated normalised row: taken back through the projection. -/
def dh (b : Fin 2) (s : Fin 4096) (d : Fin 1024) : ℝ := ∑ k, A.dp b s k * A.w d k

/-- The cotangent of the normalised row. -/
def dyn (b : Fin 2) (s : Fin 4096) (d : Fin 1024) : ℝ := A.dh b s d * (A.gn d * (1 + A.sc b d))

/-- The gradient of the input row, through the norm. -/
def dn (b : Fin 2) (s : Fin 4096) (d : Fin 1024) : ℝ :=
  A.rst b s * (A.dyn b s d - A.xn b s d * ((∑ e, A.dyn b s e * A.xn b s e) / 1024))

/-- The gradient through the norm, with the derivative of the reciprocal root written out. -/
theorem norm_back (b : Fin 2) (s : Fin 4096) (d : Fin 1024) :
    A.dyn b s d * A.rst b s
        + A.x b s d * ((∑ e, A.x b s e * A.dyn b s e) * (A.rst b s / A.ms b s * -(1 / 2)) / 1024)
        + (∑ e, A.x b s e * A.dyn b s e) * (A.rst b s / A.ms b s * -(1 / 2)) / 1024 * A.x b s d
      = A.dn b s d := by
  have h : ∑ e, A.dyn b s e * A.xn b s e = (∑ e, A.x b s e * A.dyn b s e) * A.rst b s := by
    rw [sum_mul]
    exact sum_congr rfl fun e _ => by unfold xn; ring
  unfold dn
  rw [h]
  unfold xn
  rw [div_eq_mul_one_div (A.rst b s), ← A.rst_mul_self]
  ring

/-- The gradient of the shift. -/
def dsh (b : Fin 2) (d : Fin 1024) : ℝ := ∑ s, A.dh b s d

/-- The sum the gradient of the scale and that of the norm's weight share. -/
def dhx (b : Fin 2) (d : Fin 1024) : ℝ := ∑ s, A.dh b s d * A.xn b s d

/-- The gradient of the scale. -/
def dsc (b : Fin 2) (d : Fin 1024) : ℝ := A.dhx b d * A.gn d

/-- The gradient of the norm's weight. -/
def dgn (d : Fin 1024) : ℝ := ∑ b, A.dhx b d * (1 + A.sc b d)

/-- The gradients of shift and scale, one a row; the rest of the eight rows is zero. -/
def dmod (b : Fin 2) (r : Fin 8) (d : Fin 1024) : ℝ :=
  if r.val = 0 then A.dsh b d else if r.val = 1 then A.dsc b d else 0

/-- The gradient of the norm's weight in the first of eight rows. -/
def dgn8 (r : Fin 8) (d : Fin 1024) : ℝ := if r.val = 0 then A.dgn d else 0

end Args

/-- A row of 2564 numbers followed by zeros. -/
def pad (v : Fin 2564 → ℝ) (k : Fin 2688) : ℝ := if h : k.val < 2564 then v ⟨k.val, h⟩ else 0

/-- The zeros after the rows do not change the product of two of them. -/
theorem sum_pad (v w : Fin 2564 → ℝ) : ∑ k, pad v k * pad w k = ∑ k, v k * w k := by
  rw [Fin.sum_univ_add (a := 2564) (b := 124)]
  have e1 : ∀ k : Fin 2564, pad v (Fin.castAdd 124 k) * pad w (Fin.castAdd 124 k) = v k * w k := fun k => by
    have h : (Fin.castAdd 124 k).val < 2564 := k.isLt
    unfold pad
    rw [dif_pos h, dif_pos h]
    rfl
  have e2 : ∀ k : Fin 124, pad v (Fin.natAdd 2564 k) * pad w (Fin.natAdd 2564 k) = 0 := fun k => by
    have h : ¬ (Fin.natAdd 2564 k).val < 2564 := by simp
    unfold pad
    rw [dif_neg h, zero_mul]
  rw [sum_congr rfl fun k _ => e1 k, sum_congr rfl fun k _ => e2 k, sum_const_zero, add_zero]

end Cert.Mixer.InBwd

end
-- ==== Proof.MixInBwdBlock.lean ====
/-
  What the body of the mixer's projection-in gradient computes of one block of 512 rows: each of its vector expressions,
  applied to blocks of real numbers, is the block of the corresponding quantity of the gradient. The cotangent that comes
  past the projection is only added, and stays an arbitrary block of extended reals.
-/
module

public import proofs.«01_k».proof.Proof.Gen.KernelMixInBwdIdeal.Value
public import proofs.«01_k».proof.Proof.MixInBwdSpec
public import proofs.«01_k».proof.Proof.KerPoint

@[expose] public section

set_option maxRecDepth 16384

noncomputable section

namespace Cert.Mixer.InBwd

open Idealize.ShloMosaic Cert.KernelMixInBwdIdeal Cert.KernelMixInBwdIdeal.Gen
open Cert.Ffn hiding Args
open Cert.Ffn.Ker (blk2 blk3 row2 row3 write_row2 write_row3)
open Finset

variable (A : Args) (b : Fin 2) (tk : Fin 512 → Fin 4096)

/-- The blocks a point works on: rows of `x`, of the padded cotangent, of the padded weight. -/
abbrev bx (r : Fin 512) (d : Fin 1024) : ℝ := A.x b (tk r) d
abbrev bp (r : Fin 512) (k : Fin 2688) : ℝ := pad (A.dp b (tk r)) k
abbrev wp (d : Fin 1024) (k : Fin 2688) : ℝ := pad (A.w d) k

/-- The blocks it computes. -/
abbrev bxn (r : Fin 512) (d : Fin 1024) : ℝ := A.xn b (tk r) d
abbrev bdh (r : Fin 512) (d : Fin 1024) : ℝ := A.dh b (tk r) d

/-! ## The vector expressions -/

theorem p2 : k0_pay2 (F := Ideal) = blk2 fun _ _ => 0 := by
  funext i
  pointwise [k0_pay2]
  exact EReal.coe_zero.symm

theorem p3 : k0_pay3 (F := Ideal) = blk3 fun (_ : Fin 1) _ _ => 0 := by
  funext i
  pointwise [k0_pay3]
  exact EReal.coe_zero.symm

/-- The cotangent taken back through the projection. -/
theorem p4 (v : Fin 512 → Fin 2688 → ℝ) (w : Fin 1024 → Fin 2688 → ℝ) :
    k0_pay4 (F := Ideal) (blk2 v) (blk2 w) = blk2 fun r d => ∑ k, v r k * w d k := by
  funext i
  pointwise [k0_pay4]
  simp only [← EReal.coe_mul, coe_sum]
  rfl

theorem e4 : k0_pay4 (F := Ideal) (blk2 (bp A b tk)) (blk2 (wp A)) = blk2 (bdh A b tk) := by
  rw [p4]
  exact congrArg blk2 (funext fun r => funext fun d => sum_pad _ _)

theorem p5 (v : Fin 512 → Fin 1024 → ℝ) : k0_pay5 (F := Ideal) (blk2 v) = blk2 v := by
  funext i
  pointwise [k0_pay5]

/-- The reciprocal root mean square of each row. -/
theorem p6 : k0_pay6 (F := Ideal) (blk2 (bx A b tk)) = blk2 fun r (_ : Fin 1) => A.rst b (tk r) := by
  funext i
  have h := A.ms_pos b (tk (i 0))
  have e : (∑ x, blk2 (bx A b tk) (ix2 (i 0) x) * blk2 (bx A b tk) (ix2 (i 0) x))
      = ((∑ d, A.x b (tk (i 0)) d * A.x b (tk (i 0)) d : ℝ) : EReal) := by
    rw [← coe_sum]
    exact sum_congr rfl fun d _ => (EReal.coe_mul _ _).symm
  pointwise [k0_pay6, k0_pay5]
  rw [e, w_width, w_eps, div_real _ (show (1024 : ℝ) ≠ 0 by norm_num), ← EReal.coe_add]
  show Ideal.rsqrt ((A.ms b (tk (i 0)) : ℝ) : EReal) = _
  rw [Ideal.rsqrt_coe, if_neg h.le.not_gt, if_neg h.ne']
  rfl

/-- The normalised rows. -/
theorem p7 : k0_pay7 (F := Ideal) (blk2 (bx A b tk)) = blk2 (bxn A b tk) := by
  funext i
  pointwise [k0_pay7]
  rw [p5, p6, ← EReal.coe_mul]
  rfl

theorem p8 (v : S512x1024.Idx → EReal) : k0_pay8 (F := Ideal) v = v := by
  funext i
  pointwise [k0_pay8]

theorem p9 (v : Fin 1024 → ℝ) : k0_pay9 (F := Ideal) (row3 v) = row2 v := by
  funext i
  pointwise [k0_pay9]
  rfl

theorem p10 (v : Fin 1024 → ℝ) : k0_pay10 (F := Ideal) (row3 v) = row2 v := by
  funext i
  pointwise [k0_pay10]
  rfl

variable (h x : Fin 512 → Fin 1024 → ℝ) (g s o : Fin 1024 → ℝ)

/-- The shift's row: what was there, plus the block's column sums. -/
theorem p11 : k0_pay11 (F := Ideal) (blk2 h) (row3 o) = row3 fun d => o d + ∑ r, h r d := by
  funext i
  pointwise [k0_pay11]
  simp only [coe_sum, ← EReal.coe_add]
  rfl

/-- The column sums against the normalised rows. -/
theorem p12 : k0_pay12 (F := Ideal) (blk2 h) (blk2 x) = row2 fun d => ∑ r, h r d * x r d := by
  funext i
  pointwise [k0_pay12]
  simp only [← EReal.coe_mul, coe_sum]
  rfl

/-- The scale's row: what was there, plus the column sums times the gain of the norm. -/
theorem p13 : k0_pay13 (F := Ideal) (blk2 h) (blk2 x) (row3 g) (row3 o)
    = row3 fun d => o d + (∑ r, h r d * x r d) * g d := by
  funext i
  pointwise [k0_pay13]
  rw [p12, p9, ← EReal.coe_mul, ← EReal.coe_add]
  rfl

/-- The gain's row: what was there, plus the column sums times the scale. -/
theorem p14 : k0_pay14 (F := Ideal) (blk2 h) (blk2 x) (row3 s) (row2 o)
    = row2 fun d => o d + (∑ r, h r d * x r d) * s d := by
  funext i
  pointwise [k0_pay14]
  rw [p12, p10, ← EReal.coe_mul, ← EReal.coe_add]

/-- The cotangent of the normalised rows. -/
theorem p15 : k0_pay15 (F := Ideal) (blk2 h) (row3 g) (row3 s) = blk2 fun r d => h r d * (g d * s d) := by
  funext i
  pointwise [k0_pay15]
  rw [p9, p10, ← EReal.coe_mul, ← EReal.coe_mul]
  rfl

/-- Its product with the normalised rows, row by row. -/
theorem p16 : k0_pay16 (F := Ideal) (blk2 h) (blk2 x) (row3 g) (row3 s)
    = fun i : S512.Idx => ((∑ e, h (i 0) e * (g e * s e) * x (i 0) e : ℝ) : EReal) := by
  funext i
  pointwise [k0_pay16]
  simp only [p15, ← EReal.coe_mul, coe_sum]
  rfl

/-- The gradient of the rows: what came past the projection, and what came through the norm. -/
theorem p1 (rs t : Fin 512 → ℝ) (R : S512x1024.Idx → EReal) (v : Fin 512 → Fin 1024 → ℝ) :
    k0_pay1 (F := Ideal) (blk2 fun r (_ : Fin 1) => rs r) (blk2 x) R (blk2 v) (fun i : S512.Idx => ((t (i 0) : ℝ) : EReal))
      = fun y => R y + ((rs (y 0) * (v (y 0) (y 1) - x (y 0) (y 1) * (t (y 0) / 1024)) : ℝ) : EReal) := by
  funext i
  pointwise [k0_pay1]
  simp only [w_width, ← EReal.coe_mul, div_real _ (show (1024 : ℝ) ≠ 0 by norm_num), ← EReal.coe_sub]
  rfl

/-! ## The modulation's block, of which the shift's row is not read -/

/-- The rows of the modulation's stack. -/
def mdl (t : Fin 1024 → EReal) (k : Fin 8) (d : Fin 1024) : EReal :=
  if k.val = 0 then t d else if k.val = 1 then ((1 + A.sc b d : ℝ) : EReal)
  else if k.val = 3 then ((A.gn d : ℝ) : EReal) else 0

abbrev mblk (t : Fin 1024 → EReal) (y : S1x8x1024.Idx) : EReal := mdl A b t (y 1) (y 2)

theorem mrow1 (t : Fin 1024 → EReal)
    (inb : ∀ a, (![0, 1, 0] : Fin 3 → Nat) a + (![1, 1, 1024] : Fin 3 → Nat) a ≤ S1x8x1024.size a) :
    View.ld (Val := Elt Ideal) (e' := EltTy.f32) (mblk A b t) (Rect.unit (s := S1x8x1024) ![0, 1, 0] ![1, 1, 1024] inb)
      = row3 fun d => 1 + A.sc b d := (Fwd.ld_row _ inb).trans rfl

theorem mrow3 (t : Fin 1024 → EReal)
    (inb : ∀ a, (![0, 3, 0] : Fin 3 → Nat) a + (![1, 1, 1024] : Fin 3 → Nat) a ≤ S1x8x1024.size a) :
    View.ld (Val := Elt Ideal) (e' := EltTy.f32) (mblk A b t) (Rect.unit (s := S1x8x1024) ![0, 3, 0] ![1, 1, 1024] inb)
      = row3 fun d => A.gn d := (Fwd.ld_row _ inb).trans rfl

/-! ## What a point adds to the sums -/

/-- Its part of the per-batch sums. -/
def inc (k : Fin 8) (d : Fin 1024) : ℝ :=
  if k.val = 0 then ∑ r, bdh A b tk r d
  else if k.val = 1 then (∑ r, bdh A b tk r d * bxn A b tk r d) * A.gn d else 0

/-- Its part of the overall sums. -/
def incw (k : Fin 8) (d : Fin 1024) : ℝ :=
  if k.val = 0 then (∑ r, bdh A b tk r d * bxn A b tk r d) * (1 + A.sc b d) else 0

section Writes

variable {sig' : RefSig} {κ : Kind} {sp : Space}

/-- The two rows of the per-batch sums raised by a block's part. -/
theorem write_sums (v : View sig' κ sp S1x8x1024 .f32) (f : v.ty.Contents (Elt Ideal))
    (i1 : ∀ a, (![0, 1, 0] : Fin 3 → Nat) a + (![1, 1, 1024] : Fin 3 → Nat) a ≤ S1x8x1024.size a)
    (i0 : ∀ a, (![0, 0, 0] : Fin 3 → Nat) a + (![1, 1, 1024] : Fin 3 → Nat) a ≤ S1x8x1024.size a)
    (L : List (View.Piece (Elt Ideal) S1x8x1024 .f32)) (o : Fin 8 → Fin 1024 → ℝ)
    (ho : v.read (Elt Ideal) (v.writes (Elt Ideal) f L) = blk3 fun (_ : Fin 1) => o) :
    v.read (Elt Ideal) (v.writes (Elt Ideal) f
      (⟨Rect.unit (s := S1x8x1024) ![0, 1, 0] ![1, 1, 1024] i1,
          row3 fun d => o ⟨1, by decide⟩ d + (∑ r, bdh A b tk r d * bxn A b tk r d) * A.gn d⟩ ::
        ⟨Rect.unit (s := S1x8x1024) ![0, 0, 0] ![1, 1, 1024] i0, row3 fun d => o ⟨0, by decide⟩ d + ∑ r, bdh A b tk r d⟩ :: L))
      = blk3 fun (_ : Fin 1) k d => o k d + inc A b tk k d := by
  refine (write_row3 v f i1 _ _ _ (write_row3 v f i0 _ _ _ ho)).trans ?_
  refine congrArg blk3 (funext fun _ => funext fun k => funext fun d => ?_)
  unfold inc
  by_cases h0 : k.val = 0
  · rw [if_neg (by omega), if_pos h0, if_pos h0]
    exact congrArg (· + _) (congrArg (o · d) (Fin.ext h0.symm))
  · rw [if_neg h0, if_neg h0]
    by_cases h1 : k.val = 1
    · rw [if_pos h1, if_pos h1]
      exact congrArg (· + _) (congrArg (o · d) (Fin.ext h1.symm))
    · rw [if_neg h1, if_neg h1, add_zero]

/-- The row of the overall sums raised by a block's part. -/
theorem write_sum (v : View sig' κ sp S8x1024 .f32) (f : v.ty.Contents (Elt Ideal))
    (i0 : ∀ a, (![0, 0] : Fin 2 → Nat) a + (![1, 1024] : Fin 2 → Nat) a ≤ S8x1024.size a)
    (L : List (View.Piece (Elt Ideal) S8x1024 .f32)) (o : Fin 8 → Fin 1024 → ℝ)
    (ho : v.read (Elt Ideal) (v.writes (Elt Ideal) f L) = blk2 o) :
    v.read (Elt Ideal) (v.writes (Elt Ideal) f
      (⟨Rect.unit (s := S8x1024) ![0, 0] ![1, 1024] i0,
          row2 fun d => o ⟨0, by decide⟩ d + (∑ r, bdh A b tk r d * bxn A b tk r d) * (1 + A.sc b d)⟩ :: L))
      = blk2 fun k d => o k d + incw A b tk k d := by
  refine (write_row2 v f i0 _ _ _ ho).trans ?_
  refine congrArg blk2 (funext fun k => funext fun d => ?_)
  unfold incw
  by_cases h0 : k.val = 0
  · rw [if_pos h0, if_pos h0]
    exact congrArg (· + _) (congrArg (o · d) (Fin.ext h0.symm))
  · rw [if_neg h0, if_neg h0, add_zero]

end Writes

end Cert.Mixer.InBwd

end
-- ==== Proof.MixInBwdPoint.lean ====
/-
  What one grid point of the mixer's projection-in gradient leaves in its output blocks: the gradient of the point's rows,
  and the per-batch and overall sums raised by the rows' part. The body has three cases: both sums fresh, the per-batch sum
  fresh, none fresh.
-/
module

public import proofs.«01_k».proof.Proof.MixInBwdBlock

@[expose] public section

set_option maxRecDepth 16384

noncomputable section

namespace Cert.Mixer.InBwd

open Idealize.ShloMosaic Cert.KernelMixInBwdIdeal Cert.KernelMixInBwdIdeal.Gen
open Cert.Ffn hiding Args
open Cert.Ffn.Ker (blk2 blk3 row2 row3 ld_row2 ld_row3 hz2 hz2a hz3a skip_rows)
open Finset

variable (A : Args) (b : Fin 2) (tk : Fin 512 → Fin 4096) (R : S512x1024.Idx → EReal) (T : Fin 1024 → EReal)
  (c : Dev nD) (i : grid0.Coords)
  (arg1 : Memref sig .tc .vmem S512x1024 .f32) (harg1 : arg1.IsWhole) (arg2 : Memref sig .tc .vmem S512x1024 .f32) (harg2 : arg2.IsWhole)
  (arg3 : Memref sig .tc .vmem S1x8x1024 .f32) (harg3 : arg3.IsWhole) (arg4 : Memref sig .tc .vmem S512x2688 .bf16) (harg4 : arg4.IsWhole)
  (arg5 : Memref sig .tc .vmem S1024x2688 .bf16) (harg5 : arg5.IsWhole) (arg6 : Memref sig .tc .vmem S512x1024 .f32) (harg6 : arg6.IsWhole)
  (arg7 : Memref sig .tc .vmem S1x8x1024 .f32) (harg7 : arg7.IsWhole) (arg8 : Memref sig .tc .vmem S8x1024 .f32) (harg8 : arg8.IsWhole)

/-- The gradient of a block of rows. -/
abbrev dxb (y : S512x1024.Idx) : EReal := R y + ((A.dn b (tk (y 0)) (y 1) : ℝ) : EReal)

theorem e1 : k0_pay1 (F := Ideal) (blk2 fun r (_ : Fin 1) => A.rst b (tk r)) (blk2 (bxn A b tk)) R
    (blk2 fun r d => bdh A b tk r d * (A.gn d * (1 + A.sc b d)))
    (fun i : S512.Idx => ((∑ e, bdh A b tk (i 0) e * (A.gn e * (1 + A.sc b e)) * bxn A b tk (i 0) e : ℝ) : EReal))
    = dxb A b tk R :=
  p1 _ (fun r => A.rst b (tk r)) (fun r => ∑ e, bdh A b tk r e * (A.gn e * (1 + A.sc b e)) * bxn A b tk r e) R _

theorem outA5 (hc0 : cond0_0 i) (hc1 : cond0_1 i) :
    out0_A_5 (F := Ideal) c i arg1 harg1 arg2 harg2 arg3 harg3 arg4 harg4 arg5 harg5 arg6 harg6 arg7 harg7 arg8 harg8 hc0 hc1
      (blk2 (bx A b tk)) R (mblk A b T) (blk2 (bp A b tk)) (blk2 (wp A)) = dxb A b tk R := by
  unfold out0_A_5
  rw [View.read_writes_eq_canon _ _ _ (cover0_A_5 (F := Ideal) c i arg1 harg1 arg2 harg2 arg3 harg3 arg4 harg4 arg5 harg5 arg6 harg6 arg7 harg7 arg8 harg8 hc0 hc1
      (blk2 (bx A b tk)) R (mblk A b T) (blk2 (bp A b tk)) (blk2 (wp A)))]
  unfold kernelRun0_A
  dsimp only
  sl_unfold_words
  rw [View.canon_unit_zero (S := S512x1024) hz2]
  simp only [View.readAt_eq_ld, harg1.read_unread, harg2.read_unread, harg3.read_unread, harg4.read_unread, harg5.read_unread, harg7.read_unread, harg8.read_unread]
  simp only [View.ld_unit_zero (S := S512x1024) hz2, View.ld_unit_zero (S := S512x2688) hz2, View.ld_unit_zero (S := S1024x2688) hz2,
    mrow1 A b T, mrow3 A b T, ld_row3, e4 A b tk, p6 A b tk, p7 A b tk, p8, p11, p13, p14, p15, p16, e1 A b tk R]

theorem outA6 (hc0 : cond0_0 i) (hc1 : cond0_1 i) :
    out0_A_6 (F := Ideal) c i arg1 harg1 arg2 harg2 arg3 harg3 arg4 harg4 arg5 harg5 arg6 harg6 arg7 harg7 arg8 harg8 hc0 hc1
      (blk2 (bx A b tk)) R (mblk A b T) (blk2 (bp A b tk)) (blk2 (wp A)) = blk3 fun (_ : Fin 1) k d => 0 + inc A b tk k d := by
  unfold out0_A_6
  unfold kernelRun0_A
  dsimp only
  sl_unfold_words
  simp only [skip_rows _ _ _ 0 1 (by decide)]
  simp only [View.readCov_fill (s := S1x8x1024) _ _ _ _ _ hz3a, p3]
  simp only [View.readAt_eq_ld, harg1.read_unread, harg2.read_unread, harg3.read_unread, harg4.read_unread, harg5.read_unread, harg7.read_unread, harg8.read_unread]
  simp only [View.ld_unit_zero (S := S512x1024) hz2, View.ld_unit_zero (S := S512x2688) hz2, View.ld_unit_zero (S := S1024x2688) hz2,
    mrow1 A b T, mrow3 A b T, ld_row3, e4 A b tk, p6 A b tk, p7 A b tk, p8, p11, p13, p14, p15, p16, e1 A b tk R]
  exact write_sums A b tk _ _ _ _ _ (fun _ _ => 0) (View.read_writes_full (s := S1x8x1024) _ _ _ _ _)

theorem outA7 (hc0 : cond0_0 i) (hc1 : cond0_1 i) :
    out0_A_7 (F := Ideal) c i arg1 harg1 arg2 harg2 arg3 harg3 arg4 harg4 arg5 harg5 arg6 harg6 arg7 harg7 arg8 harg8 hc0 hc1
      (blk2 (bx A b tk)) R (mblk A b T) (blk2 (bp A b tk)) (blk2 (wp A)) = blk2 fun k d => 0 + incw A b tk k d := by
  unfold out0_A_7
  unfold kernelRun0_A
  dsimp only
  sl_unfold_words
  simp only [View.readCov_fill (s := S8x1024) _ _ _ _ _ hz2a, p2]
  simp only [View.readAt_eq_ld, harg1.read_unread, harg2.read_unread, harg3.read_unread, harg4.read_unread, harg5.read_unread, harg7.read_unread, harg8.read_unread]
  simp only [ld_row2]
  simp only [View.ld_unit_zero (S := S512x1024) hz2, View.ld_unit_zero (S := S512x2688) hz2, View.ld_unit_zero (S := S1024x2688) hz2,
    mrow1 A b T, mrow3 A b T, ld_row3, e4 A b tk, p6 A b tk, p7 A b tk, p8, p11, p13, p14, p15, p16, e1 A b tk R]
  exact write_sum A b tk _ _ _ _ (fun _ _ => 0) (View.read_writes_full (s := S8x1024) _ _ _ _ _)

theorem outB5 (hc0 : ¬cond0_0 i) (hc1 : ¬cond0_1 i) (o ow : Fin 8 → Fin 1024 → ℝ) :
    out0_B_5 (F := Ideal) c i arg1 harg1 arg2 harg2 arg3 harg3 arg4 harg4 arg5 harg5 arg6 harg6 arg7 harg7 arg8 harg8 hc0 hc1
      (blk2 (bx A b tk)) R (mblk A b T) (blk2 (bp A b tk)) (blk2 (wp A)) (blk3 fun (_ : Fin 1) => o) (blk2 ow) = dxb A b tk R := by
  unfold out0_B_5
  rw [View.read_writes_eq_canon _ _ _ (cover0_B_5 (F := Ideal) c i arg1 harg1 arg2 harg2 arg3 harg3 arg4 harg4 arg5 harg5 arg6 harg6 arg7 harg7 arg8 harg8 hc0 hc1
      (blk2 (bx A b tk)) R (mblk A b T) (blk2 (bp A b tk)) (blk2 (wp A)) (blk3 fun (_ : Fin 1) => o) (blk2 ow))]
  unfold kernelRun0_B
  dsimp only
  sl_unfold_words
  rw [View.canon_unit_zero (S := S512x1024) hz2]
  simp only [View.readAt_eq_ld, harg1.read_unread, harg2.read_unread, harg3.read_unread, harg4.read_unread, harg5.read_unread, harg7.read_unread, harg8.read_unread]
  simp only [View.ld_unit_zero (S := S512x1024) hz2, View.ld_unit_zero (S := S512x2688) hz2, View.ld_unit_zero (S := S1024x2688) hz2,
    mrow1 A b T, mrow3 A b T, ld_row3, e4 A b tk, p6 A b tk, p7 A b tk, p8, p11, p13, p14, p15, p16, e1 A b tk R]

theorem outB6 (hc0 : ¬cond0_0 i) (hc1 : ¬cond0_1 i) (o ow : Fin 8 → Fin 1024 → ℝ) :
    out0_B_6 (F := Ideal) c i arg1 harg1 arg2 harg2 arg3 harg3 arg4 harg4 arg5 harg5 arg6 harg6 arg7 harg7 arg8 harg8 hc0 hc1
      (blk2 (bx A b tk)) R (mblk A b T) (blk2 (bp A b tk)) (blk2 (wp A)) (blk3 fun (_ : Fin 1) => o) (blk2 ow) = blk3 fun (_ : Fin 1) k d => o k d + inc A b tk k d := by
  unfold out0_B_6
  unfold kernelRun0_B
  dsimp only
  sl_unfold_words
  simp only [View.readAt_eq_ld, harg1.read_unread, harg2.read_unread, harg3.read_unread, harg4.read_unread, harg5.read_unread, harg7.read_unread, harg8.read_unread]
  simp only [View.ld_unit_zero (S := S512x1024) hz2, View.ld_unit_zero (S := S512x2688) hz2, View.ld_unit_zero (S := S1024x2688) hz2,
    mrow1 A b T, mrow3 A b T, ld_row3, e4 A b tk, p6 A b tk, p7 A b tk, p8, p11, p13, p14, p15, p16, e1 A b tk R]
  exact write_sums A b tk _ _ _ _ [] o (harg7.read_unread _)

theorem outB7 (hc0 : ¬cond0_0 i) (hc1 : ¬cond0_1 i) (o ow : Fin 8 → Fin 1024 → ℝ) :
    out0_B_7 (F := Ideal) c i arg1 harg1 arg2 harg2 arg3 harg3 arg4 harg4 arg5 harg5 arg6 harg6 arg7 harg7 arg8 harg8 hc0 hc1
      (blk2 (bx A b tk)) R (mblk A b T) (blk2 (bp A b tk)) (blk2 (wp A)) (blk3 fun (_ : Fin 1) => o) (blk2 ow) = blk2 fun k d => ow k d + incw A b tk k d := by
  unfold out0_B_7
  unfold kernelRun0_B
  dsimp only
  sl_unfold_words
  simp only [View.readAt_eq_ld, harg1.read_unread, harg2.read_unread, harg3.read_unread, harg4.read_unread, harg5.read_unread, harg7.read_unread, harg8.read_unread]
  simp only [ld_row2]
  simp only [View.ld_unit_zero (S := S512x1024) hz2, View.ld_unit_zero (S := S512x2688) hz2, View.ld_unit_zero (S := S1024x2688) hz2,
    mrow1 A b T, mrow3 A b T, ld_row3, e4 A b tk, p6 A b tk, p7 A b tk, p8, p11, p13, p14, p15, p16, e1 A b tk R]
  exact write_sum A b tk _ _ _ [] ow (harg8.read_unread _)

theorem outC5 (hc0 : ¬cond0_0 i) (hc1 : cond0_1 i) (ow : Fin 8 → Fin 1024 → ℝ) :
    out0_C_5 (F := Ideal) c i arg1 harg1 arg2 harg2 arg3 harg3 arg4 harg4 arg5 harg5 arg6 harg6 arg7 harg7 arg8 harg8 hc0 hc1
      (blk2 (bx A b tk)) R (mblk A b T) (blk2 (bp A b tk)) (blk2 (wp A)) (blk2 ow) = dxb A b tk R := by
  unfold out0_C_5
  rw [View.read_writes_eq_canon _ _ _ (cover0_C_5 (F := Ideal) c i arg1 harg1 arg2 harg2 arg3 harg3 arg4 harg4 arg5 harg5 arg6 harg6 arg7 harg7 arg8 harg8 hc0 hc1
      (blk2 (bx A b tk)) R (mblk A b T) (blk2 (bp A b tk)) (blk2 (wp A)) (blk2 ow))]
  unfold kernelRun0_C
  dsimp only
  sl_unfold_words
  rw [View.canon_unit_zero (S := S512x1024) hz2]
  simp only [View.readAt_eq_ld, harg1.read_unread, harg2.read_unread, harg3.read_unread, harg4.read_unread, harg5.read_unread, harg7.read_unread, harg8.read_unread]
  simp only [View.ld_unit_zero (S := S512x1024) hz2, View.ld_unit_zero (S := S512x2688) hz2, View.ld_unit_zero (S := S1024x2688) hz2,
    mrow1 A b T, mrow3 A b T, ld_row3, e4 A b tk, p6 A b tk, p7 A b tk, p8, p11, p13, p14, p15, p16, e1 A b tk R]

theorem outC6 (hc0 : ¬cond0_0 i) (hc1 : cond0_1 i) (ow : Fin 8 → Fin 1024 → ℝ) :
    out0_C_6 (F := Ideal) c i arg1 harg1 arg2 harg2 arg3 harg3 arg4 harg4 arg5 harg5 arg6 harg6 arg7 harg7 arg8 harg8 hc0 hc1
      (blk2 (bx A b tk)) R (mblk A b T) (blk2 (bp A b tk)) (blk2 (wp A)) (blk2 ow) = blk3 fun (_ : Fin 1) k d => 0 + inc A b tk k d := by
  unfold out0_C_6
  unfold kernelRun0_C
  dsimp only
  sl_unfold_words
  simp only [skip_rows _ _ _ 0 1 (by decide)]
  simp only [View.readCov_fill (s := S1x8x1024) _ _ _ _ _ hz3a, p3]
  simp only [View.readAt_eq_ld, harg1.read_unread, harg2.read_unread, harg3.read_unread, harg4.read_unread, harg5.read_unread, harg7.read_unread, harg8.read_unread]
  simp only [View.ld_unit_zero (S := S512x1024) hz2, View.ld_unit_zero (S := S512x2688) hz2, View.ld_unit_zero (S := S1024x2688) hz2,
    mrow1 A b T, mrow3 A b T, ld_row3, e4 A b tk, p6 A b tk, p7 A b tk, p8, p11, p13, p14, p15, p16, e1 A b tk R]
  exact write_sums A b tk _ _ _ _ _ (fun _ _ => 0) (View.read_writes_full (s := S1x8x1024) _ _ _ _ _)

theorem outC7 (hc0 : ¬cond0_0 i) (hc1 : cond0_1 i) (ow : Fin 8 → Fin 1024 → ℝ) :
    out0_C_7 (F := Ideal) c i arg1 harg1 arg2 harg2 arg3 harg3 arg4 harg4 arg5 harg5 arg6 harg6 arg7 harg7 arg8 harg8 hc0 hc1
      (blk2 (bx A b tk)) R (mblk A b T) (blk2 (bp A b tk)) (blk2 (wp A)) (blk2 ow) = blk2 fun k d => ow k d + incw A b tk k d := by
  unfold out0_C_7
  unfold kernelRun0_C
  dsimp only
  sl_unfold_words
  simp only [View.readAt_eq_ld, harg1.read_unread, harg2.read_unread, harg3.read_unread, harg4.read_unread, harg5.read_unread, harg7.read_unread, harg8.read_unread]
  simp only [ld_row2]
  simp only [View.ld_unit_zero (S := S512x1024) hz2, View.ld_unit_zero (S := S512x2688) hz2, View.ld_unit_zero (S := S1024x2688) hz2,
    mrow1 A b T, mrow3 A b T, ld_row3, e4 A b tk, p6 A b tk, p7 A b tk, p8, p11, p13, p14, p15, p16, e1 A b tk R]
  exact write_sum A b tk _ _ _ [] ow (harg8.read_unread _)

end Cert.Mixer.InBwd

end
-- ==== Proof.MixInBwdGrid.lean ====
/-
  The blocks of the mixer's projection-in gradient, point by point: what the host code gives the call when the program's
  arguments hold real numbers, what each input window holds at a grid point, what the body leaves in every output window,
  and that the gathered sums are the sums over the tokens.
-/
module

public import proofs.«01_k».proof.Proof.MixInBwdPoint
public import Idealize.ShloMosaic.Lib.StableHlo.ReadAt

@[expose] public section

set_option maxRecDepth 16384

noncomputable section

namespace Cert.Mixer.InBwd

open Idealize.ShloMosaic Cert.KernelMixInBwdIdeal Cert.KernelMixInBwdIdeal.Gen
open Cert.Ffn hiding Args
open Cert.Ffn.Args (bt ps)
open Cert.Ffn.Ker (blk2 blk3)
open Finset

/-- The program's arguments other than the shift and the cotangent that comes past the projection hold the real numbers
    `A`. -/
structure Holds (m : (ℓ : Loc nD τ sig) → Buf (Elt Ideal) ℓ) (c : Dev nD) (A : Args) : Prop where
  x : m ((c.tc : Thread nD τ).loc main_arg0) = lift3 A.x
  sc : m ((c.tc : Thread nD τ).loc main_arg2) = lift2 A.sc
  gn : m ((c.tc : Thread nD τ).loc main_arg3) = lift1 A.gn
  w : m ((c.tc : Thread nD τ).loc main_arg4) = lift2 A.w
  dp : m ((c.tc : Thread nD τ).loc main_arg6) = lift3 A.dp

/-- The shift's rows. -/
def shf (m : (ℓ : Loc nD τ sig) → Buf (Elt Ideal) ℓ) (c : Dev nD) (b : Fin 2) (d : Fin 1024) : EReal :=
  (m ((c.tc : Thread nD τ).loc main_arg1) : S2x1024.Idx → EReal) (ix2 b d)

/-- The cotangent that comes past the projection. -/
def dre (m : (ℓ : Loc nD τ sig) → Buf (Elt Ideal) ℓ) (c : Dev nD) : S2x4096x1024.Idx → EReal :=
  m ((c.tc : Thread nD τ).loc main_arg5)

/-- Its block at point `n`. -/
def drb (m : (ℓ : Loc nD τ sig) → Buf (Elt Ideal) ℓ) (c : Dev nD) (n : ℕ) (y : S512x1024.Idx) : EReal :=
  dre m c (ix3 (pb n) (pt n (y 0)) (y 1))

theorem tok_bt (t : Fin cfg0.N) (r : Fin 512) {i : Fin 8192} (h : i.val = t.val * 512 + r.val) : bt i = pb t.val := by
  have ht : t.val < 16 := lt_of_lt_of_eq t.isLt N_0
  apply Fin.ext
  show i.val / 4096 = t.val / 8 % 2
  omega

theorem tok_ps (t : Fin cfg0.N) (r : Fin 512) {i : Fin 8192} (h : i.val = t.val * 512 + r.val) : ps i = pt t.val r := by
  have ht : t.val < 16 := lt_of_lt_of_eq t.isLt N_0
  apply Fin.ext
  show i.val % 4096 = 512 * (t.val % 8) + r.val
  omega

/-! ## Where each window's block sits -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)
theorem idx6 : ∀ t : Fin cfg0.N, win0_6.index t 0 = t.val / 8 ∧ win0_6.index t 1 = 0 ∧ win0_6.index t 2 = 0 :=
  (by decide +kernel : ∀ t : Fin grid0.N, win0_6.index t 0 = t.val / 8 ∧ win0_6.index t 1 = 0 ∧ win0_6.index t 2 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)

section

variable (A : Args) {m : (ℓ : Loc nD τ sig) → Buf (Elt Ideal) ℓ} {c : Dev nD}

/-! ## The arrays the call is given -/

theorem V_v19 (i : S8192x1024.Idx) : V m c main_v19 i = dre m c (ix3 (bt (i 0)) (ps (i 0)) (i 1)) := by
  generalize hR : dre m c (ix3 (bt (i 0)) (ps (i 0)) (i 1)) = R
  unfold V
  after_reads_at
  rw [← hR]
  rfl

variable (hm : Holds m c A)
include hm

theorem V_v18 (i : S8192x1024.Idx) : V m c main_v18 i = ((A.x (bt (i 0)) (ps (i 0)) (i 1) : ℝ) : EReal) := by
  have h := hm.x
  generalize hR : ((A.x (bt (i 0)) (ps (i 0)) (i 1) : ℝ) : EReal) = R
  unfold V
  after_reads_at
  rw [← hR]
  exact congrFun h (ix3 (bt (i 0)) (ps (i 0)) (i 1))

theorem V_v12 (i : S2x8x1024.Idx) : V m c main_v12 i = mdl A (i 0) (shf m c (i 0)) (i 1) (i 2) := by
  have hs := congrFun hm.sc (ix2 (i 0) (i 2))
  have hg := congrFun hm.gn (ix1 (i 2))
  generalize hR : mdl A (i 0) (shf m c (i 0)) (i 1) (i 2) = R
  unfold V
  after_reads_simp
  simp only [Matrix.cons_val]
  after_reads_simp
  pointwise
  rw [← hR]
  have h8 : (i 1 : Fin 8).val < 8 := (i 1).isLt
  unfold mdl shf
  split_ifs <;> first | omega | rfl | exact (congrArg (((1 : ℝ) : EReal) + ·) hs).trans (EReal.coe_add _ _).symm | exact hg

theorem V_v14 (i : S1024x2688.Idx) : V m c main_v14 i = ((pad (A.w (i 0)) (i 1) : ℝ) : EReal) := by
  have h := hm.w
  generalize hR : ((pad (A.w (i 0)) (i 1) : ℝ) : EReal) = R
  unfold V
  after_reads_at
  rw [← hR]
  unfold pad
  by_cases hd : (i 1 : Fin 2688).val < 2564
  · rw [dif_pos hd, dif_pos hd]
    exact congrFun h (ix2 (i 0) ⟨(i 1 : Fin 2688).val, hd⟩)
  · rw [dif_neg hd, dif_neg hd]
    show ((((0#32 : BitVec 32).toInt : ℝ)) : EReal) = ((0 : ℝ) : EReal)
    simp

theorem V_v17 (i : S8192x2688.Idx) : V m c main_v17 i = ((pad (A.dp (bt (i 0)) (ps (i 0))) (i 1) : ℝ) : EReal) := by
  have h := hm.dp
  generalize hR : ((pad (A.dp (bt (i 0)) (ps (i 0))) (i 1) : ℝ) : EReal) = R
  unfold V
  after_reads_at
  rw [← hR]
  unfold pad
  by_cases hd : (i 1 : Fin 2688).val < 2564
  · rw [dif_pos hd, dif_pos hd]
    exact congrFun h (ix3 (bt (i 0)) (ps (i 0)) ⟨(i 1 : Fin 2688).val, hd⟩)
  · rw [dif_neg hd, dif_neg hd]
    show ((((0#32 : BitVec 32).toInt : ℝ)) : EReal) = ((0 : ℝ) : EReal)
    simp

/-! ## The input blocks -/

theorem iblk0 (t : Fin cfg0.N) : iblk m c 0 t = blk2 (bx A (pb t.val) (pt t.val)) := by
  funext j
  unfold iblk
  rw [View.read_apply]
  refine (V_v18 A hm _).trans (congrArg Real.toEReal ?_)
  refine congr (congrArg₂ A.x (tok_bt t (j 0) ?_) (tok_ps t (j 0) ?_)) (Fin.ext ?_)
  · show win0_0.index t 0 * 512 + 1 * (j 0).val = _
    rw [(idx0 t).1, Nat.one_mul]
  · show win0_0.index t 0 * 512 + 1 * (j 0).val = _
    rw [(idx0 t).1, Nat.one_mul]
  · show win0_0.index t 1 * 1024 + 1 * (j 1).val = (j 1).val
    rw [(idx0 t).2, Nat.one_mul, Nat.zero_mul, Nat.zero_add]

theorem iblk3 (t : Fin cfg0.N) : iblk m c 3 t = blk2 (bp A (pb t.val) (pt t.val)) := by
  funext j
  unfold iblk
  rw [View.read_apply]
  refine (V_v17 A hm _).trans (congrArg Real.toEReal ?_)
  refine congrArg₂ pad (congrArg₂ A.dp (tok_bt t (j 0) ?_) (tok_ps t (j 0) ?_)) (Fin.ext ?_)
  · show win0_3.index t 0 * 512 + 1 * (j 0).val = _
    rw [(idx3 t).1, Nat.one_mul]
  · show win0_3.index t 0 * 512 + 1 * (j 0).val = _
    rw [(idx3 t).1, Nat.one_mul]
  · show win0_3.index t 1 * 2688 + 1 * (j 1).val = (j 1).val
    rw [(idx3 t).2, Nat.one_mul, Nat.zero_mul, Nat.zero_add]

theorem iblk2 (t : Fin cfg0.N) : iblk m c 2 t = mblk A (pb t.val) (shf m c (pb t.val)) := by
  have ht : t.val < 16 := lt_of_lt_of_eq t.isLt N_0
  funext j
  unfold iblk
  rw [View.read_apply]
  have h0 : (j 0).val = 0 := Nat.lt_one_iff.mp (j 0).isLt
  refine (V_v12 A hm _).trans ?_
  refine congr (congrArg₂ (fun b k => mdl A b (shf m c b) k) (Fin.ext ?_) (Fin.ext ?_)) (Fin.ext ?_)
  · show win0_2.index t 0 * 1 + 1 * (j 0).val = t.val / 8 % 2
    rw [(idx2 t).1, h0]; omega
  · show win0_2.index t 1 * 8 + 1 * (j 1).val = (j 1).val
    rw [(idx2 t).2.1, Nat.one_mul, Nat.zero_mul, Nat.zero_add]
  · show win0_2.index t 2 * 1024 + 1 * (j 2).val = (j 2).val
    rw [(idx2 t).2.2, Nat.one_mul, Nat.zero_mul, Nat.zero_add]

theorem iblk4 (t : Fin cfg0.N) : iblk m c 4 t = blk2 (wp A) := by
  funext j
  unfold iblk
  rw [View.read_apply]
  refine (V_v14 A hm _).trans (congrArg Real.toEReal ?_)
  refine congrArg₂ (fun d k => pad (A.w d) k) (Fin.ext ?_) (Fin.ext ?_)
  · show win0_4.index t 0 * 1024 + 1 * (j 0).val = (j 0).val
    rw [(idx4 t).1, Nat.one_mul, Nat.zero_mul, Nat.zero_add]
  · show win0_4.index t 1 * 2688 + 1 * (j 1).val = (j 1).val
    rw [(idx4 t).2, Nat.one_mul, Nat.zero_mul, Nat.zero_add]

omit hm in
theorem iblk1 (t : Fin cfg0.N) : iblk m c 1 t = drb m c t.val := by
  funext j
  unfold iblk
  rw [View.read_apply]
  refine (V_v19 _).trans (congrArg (dre m c) (?_ : ix3 _ _ _ = ix3 _ _ _))
  refine congr (congrArg₂ ix3 (tok_bt t (j 0) ?_) (tok_ps t (j 0) ?_)) (Fin.ext ?_)
  · show win0_1.index t 0 * 512 + 1 * (j 0).val = _
    rw [(idx1 t).1, Nat.one_mul]
  · show win0_1.index t 0 * 512 + 1 * (j 0).val = _
    rw [(idx1 t).1, Nat.one_mul]
  · show win0_1.index t 1 * 1024 + 1 * (j 1).val = (j 1).val
    rw [(idx1 t).2, Nat.one_mul, Nat.zero_mul, Nat.zero_add]

end

/-! ## The output blocks -/

/-- The per-batch sums after point `n`: started afresh at the first block of a batch element. -/
def acc6 (A : Args) : ℕ → Fin 8 → Fin 1024 → ℝ
  | 0, k, d => 0 + inc A (pb 0) (pt 0) k d
  | n + 1, k, d => (if (n + 1) % 8 = 0 then 0 else acc6 A n k d) + inc A (pb (n + 1)) (pt (n + 1)) k d

/-- The sums over all rows after point `n`. -/
def acc7 (A : Args) : ℕ → Fin 8 → Fin 1024 → ℝ
  | 0, k, d => 0 + incw A (pb 0) (pt 0) k d
  | n + 1, k, d => acc7 A n k d + incw A (pb (n + 1)) (pt (n + 1)) k d

variable (A : Args) {m : (ℓ : Loc nD τ sig) → Buf (Elt Ideal) ℓ} {c : Dev nD} (hm : Holds m c A)

include hm in
/-- What the body leaves after point `n`. -/
theorem outs_eq : ∀ (n : ℕ) (h : n < cfg0.N), outsAt0 m c n h
    = (dxb A (pb n) (pt n) (drb m c n), blk3 fun (_ : Fin 1) => acc6 A n, blk2 (acc7 A n))
  | 0, h => by
    rw [outsAt0_A m c ⟨0, h⟩ rfl rfl, iblk0 A hm, iblk1, iblk2 A hm, iblk3 A hm, iblk4 A hm]
    refine congrArg₂ Prod.mk (outA5 A (pb 0) (pt 0) ..) (congrArg₂ Prod.mk (outA6 A (pb 0) (pt 0) ..)
      (outA7 A (pb 0) (pt 0) ..))
  | n + 1, h => by
    have hN : cfg0.N = 16 := N_0
    have h0 : ¬(⟨n + 1, h⟩ : Fin cfg0.N).val % 16 = 0 := by dsimp only; omega
    have ih := outs_eq n (Nat.lt_of_succ_lt h)
    by_cases h1 : (n + 1) % 8 = 0
    · rw [outsAt0_C m c ⟨n + 1, h⟩ h0 h1, iblk0 A hm, iblk1, iblk2 A hm, iblk3 A hm, iblk4 A hm]
      simp only [Nat.add_sub_cancel, ih]
      refine congrArg₂ Prod.mk (outC5 A (pb (n + 1)) (pt (n + 1)) ..) (congrArg₂ Prod.mk
        ((outC6 A (pb (n + 1)) (pt (n + 1)) ..).trans ?_) (outC7 A (pb (n + 1)) (pt (n + 1)) ..))
      exact congrArg blk3 (funext fun _ => funext fun k => funext fun d => by rw [acc6, if_pos h1])
    · rw [outsAt0_B m c ⟨n + 1, h⟩ h0 h1, iblk0 A hm, iblk1, iblk2 A hm, iblk3 A hm, iblk4 A hm]
      simp only [Nat.add_sub_cancel, ih]
      refine congrArg₂ Prod.mk (outB5 A (pb (n + 1)) (pt (n + 1)) ..) (congrArg₂ Prod.mk
        ((outB6 A (pb (n + 1)) (pt (n + 1)) ..).trans ?_) (outB7 A (pb (n + 1)) (pt (n + 1)) ..))
      exact congrArg blk3 (funext fun _ => funext fun k => funext fun d => by rw [acc6, if_neg h1])

/-! ## The sums over the grid -/

/-- A sum over a sequence, block by block. -/
theorem sum_seq (F : Fin 4096 → ℝ) : ∑ q ∈ range 8, ∑ r : Fin 512, F (pt q r) = ∑ s, F s := by
  rw [Finset.sum_range, ← Equiv.sum_comp (finProdFinEquiv (m := 8) (n := 512)) F, Fintype.sum_prod_type]
  refine sum_congr rfl fun q _ => sum_congr rfl fun r _ => congrArg F (Fin.ext ?_)
  show 512 * (q.val % 8) + r.val = r.val + 512 * q.val
  omega

theorem acc6_eq (k : Fin 8) (d : Fin 1024) : ∀ n, acc6 A n k d = ∑ q ∈ range (n % 8 + 1), inc A (pb n) (pt q) k d
  | 0 => by rw [acc6, zero_add, Nat.zero_mod, zero_add, Finset.sum_range_one]
  | n + 1 => by
    rw [acc6]
    by_cases h : (n + 1) % 8 = 0
    · have e : pt (n + 1) = pt 0 := funext fun r => Fin.ext (by show 512 * ((n + 1) % 8) + r.val = 512 * (0 % 8) + r.val; rw [h])
      rw [if_pos h, h, zero_add, zero_add, Finset.sum_range_one, e]
    · have e : pt (n + 1) = pt (n % 8 + 1) := funext fun r => Fin.ext (by
        show 512 * ((n + 1) % 8) + r.val = 512 * ((n % 8 + 1) % 8) + r.val; omega)
      have eb : pb (n + 1) = pb n := Fin.ext (by show (n + 1) / 8 % 2 = n / 8 % 2; omega)
      have en : (n + 1) % 8 = n % 8 + 1 := by omega
      rw [if_neg h, acc6_eq k d n, en, Finset.sum_range_succ _ (n % 8 + 1), e, eb]

theorem acc7_eq (k : Fin 8) (d : Fin 1024) : ∀ n, acc7 A n k d = ∑ q ∈ range (n + 1), incw A (pb q) (pt q) k d
  | 0 => by rw [acc7, zero_add, zero_add, Finset.sum_range_one]
  | n + 1 => by rw [acc7, acc7_eq k d n, Finset.sum_range_succ _ (n + 1)]

/-- The eight blocks of a batch element add up to its gradients of shift and scale. -/
theorem inc_sum (b : Fin 2) (k : Fin 8) (d : Fin 1024) : ∑ q ∈ range 8, inc A b (pt q) k d = A.dmod b k d := by
  unfold inc Args.dmod
  by_cases h0 : k.val = 0
  · simp only [if_pos h0]
    exact sum_seq fun s => A.dh b s d
  · simp only [if_neg h0]
    by_cases h1 : k.val = 1
    · simp only [if_pos h1]
      rw [← Finset.sum_mul, sum_seq fun s => A.dh b s d * A.xn b s d]
      rfl
    · simp only [if_neg h1]
      exact Finset.sum_const_zero

theorem acc6_last (n : ℕ) (h : n % 8 = 7) (k : Fin 8) (d : Fin 1024) : acc6 A n k d = A.dmod (pb n) k d := by
  rw [acc6_eq, h, inc_sum]

theorem incw_sum (b : Fin 2) (d : Fin 1024) (k : Fin 8) (h : k.val = 0) :
    ∑ q ∈ range 8, incw A b (pt q) k d = A.dhx b d * (1 + A.sc b d) := by
  unfold incw
  simp only [if_pos h]
  rw [← Finset.sum_mul, sum_seq fun s => A.dh b s d * A.xn b s d]
  rfl

/-- The blocks of both batch elements add up to the gradient of the norm's weight. -/
theorem acc7_last (k : Fin 8) (d : Fin 1024) : acc7 A 15 k d = A.dgn8 k d := by
  rw [acc7_eq]
  unfold Args.dgn8
  by_cases h : k.val = 0
  · rw [if_pos h, show (15 + 1 : ℕ) = 8 + 8 from rfl, Finset.sum_range_add]
    have e0 : ∑ q ∈ range 8, incw A (pb q) (pt q) k d = A.dhx 0 d * (1 + A.sc 0 d) := by
      rw [← incw_sum A 0 d k h]
      refine sum_congr rfl fun q hq => ?_
      have hq := mem_range.mp hq
      rw [show pb q = 0 from Fin.ext (by show q / 8 % 2 = 0; omega)]
    have e1 : ∑ q ∈ range 8, incw A (pb (8 + q)) (pt (8 + q)) k d = A.dhx 1 d * (1 + A.sc 1 d) := by
      rw [← incw_sum A 1 d k h]
      refine sum_congr rfl fun q hq => ?_
      have hq := mem_range.mp hq
      rw [show pb (8 + q) = 1 from Fin.ext (by show (8 + q) / 8 % 2 = 1; omega),
        show pt (8 + q) = pt q from funext fun r => Fin.ext (by
          show 512 * ((8 + q) % 8) + r.val = 512 * (q % 8) + r.val; omega)]
    rw [e0, e1]
    unfold Args.dgn
    rw [Fin.sum_univ_two]
  · rw [if_neg h]
    unfold incw
    simp only [if_neg h]
    exact Finset.sum_const_zero

end Cert.Mixer.InBwd

end
-- ==== Proof.MixInBwdFinal.lean ====
/-
  The arrays the gradient of the mixer's projection in ends with, when the program's arguments hold real numbers: the
  step's quantities.
-/
module

public import proofs.«01_k».proof.Proof.MixInBwdGrid

@[expose] public section

set_option maxRecDepth 16384

noncomputable section

namespace Cert.Mixer.InBwd

open Idealize.ShloMosaic Cert.KernelMixInBwdIdeal Cert.KernelMixInBwdIdeal.Gen
open Idealize.ShloMosaic.Pipeline (Dat)
open Cert.Ffn hiding Args
open Cert.Ffn.Args (bt ps)

/-- The first result of the arguments `A` and the cotangent `D` that comes past the projection. -/
def dxs (A : Args) (D : S2x4096x1024.Idx → EReal) (b : Fin 2) (s : Fin 4096) (d : Fin 1024) : EReal :=
  D (ix3 b s d) + ((A.dn b s d : ℝ) : EReal)

variable (A : Args) {m : (ℓ : Loc nD τ sig) → Buf (Elt Ideal) ℓ} {c : Dev nD} (hm : Holds m c A)
include hm

/-- Window 5. -/
theorem final5 : (dats m 0 c).arrAt 5 cfg0.N
    = (fun i : S8192x1024.Idx => dxs A (dre m c) (bt (i 0)) (ps (i 0)) (i 1)) := by
  refine (dats m 0 c).arrAt_eq_of_cover 5 (fun i : S8192x1024.Idx => dxs A (dre m c) (bt (i 0)) (ps (i 0)) (i 1))
    (fun t _ => ?_) fun i => ?_
  · have ht : t.val < 16 := lt_of_lt_of_eq t.isLt N_0
    rw [Value.flushed5, outs_eq A hm]
    funext y
    rw [View.read_apply]
    show dxs A (dre m c) (pb t.val) (pt t.val (y 0)) (y 1) = _
    refine congr (congrArg₂ (dxs A (dre m c)) (tok_bt t (y 0) ?_).symm (tok_ps t (y 0) ?_).symm) (Fin.ext ?_)
    · show win0_5.index t 0 * 512 + 1 * (y 0).val = _
      rw [(idx5 t).1, Nat.one_mul]
    · show win0_5.index t 0 * 512 + 1 * (y 0).val = _
      rw [(idx5 t).1, Nat.one_mul]
    · show (y 1).val = win0_5.index t 1 * 1024 + 1 * (y 1).val
      rw [(idx5 t).2, Nat.one_mul, Nat.zero_mul, Nat.zero_add]
  · have h0 : (i 0 : Fin 8192).val < 8192 := (i 0).isLt
    have h1 : (i 1 : Fin 1024).val < 1024 := (i 1).isLt
    have ht : (i 0 : Fin 8192).val / 512 < cfg0.N := by rw [show cfg0.N = 16 from N_0]; omega
    refine ⟨⟨(i 0 : Fin 8192).val / 512, ht⟩, flush0_5 _, ?_⟩
    show i ∈ ((View.whole main_v20_0).slice (win0_5.rect ⟨(i 0 : Fin 8192).val / 512, ht⟩)).set
    rw [View.set_slice_whole, Rect.mem_set_unit]
    have hi := idx5 ⟨(i 0 : Fin 8192).val / 512, ht⟩
    intro a
    match a with
    | ⟨0, _⟩ =>
      show win0_5.index _ 0 * 512 ≤ (i 0 : Fin 8192).val ∧ (i 0 : Fin 8192).val < win0_5.index _ 0 * 512 + 512
      rw [hi.1]
      show (i 0 : Fin 8192).val / 512 * 512 ≤ _ ∧ _ < (i 0 : Fin 8192).val / 512 * 512 + 512
      omega
    | ⟨1, _⟩ =>
      show win0_5.index _ 1 * 1024 ≤ (i 1 : Fin 1024).val ∧ (i 1 : Fin 1024).val < win0_5.index _ 1 * 1024 + 1024
      rw [hi.2]; omega

/-- Window 6, written back after the last block of each batch element. -/
theorem final6 : (dats m 0 c).arrAt 6 cfg0.N = (fun i : S2x8x1024.Idx => ((A.dmod (i 0) (i 1) (i 2) : ℝ) : EReal)) := by
  refine (dats m 0 c).arrAt_eq_of_cover 6 (fun i : S2x8x1024.Idx => ((A.dmod (i 0) (i 1) (i 2) : ℝ) : EReal))
    (fun t hf => ?_) fun i => ?_
  · have ht : t.val < 16 := lt_of_lt_of_eq t.isLt N_0
    rw [Value.flushed6, outs_eq A hm]
    funext y
    rw [View.read_apply]
    let j : S2x8x1024.Idx := ((cfg0.win 6).blk t).view.emb y
    have y0 : (y 0).val = 0 := Nat.lt_one_iff.mp (y 0).isLt
    have e0 : j 0 = pb t.val := Fin.ext (by
      show win0_6.index t 0 * 1 + 1 * (y 0).val = t.val / 8 % 2
      rw [(idx6 t).1, y0]; omega)
    have e1 : j 1 = y 1 := Fin.ext (by
      show win0_6.index t 1 * 8 + 1 * (y 1).val = _
      rw [(idx6 t).2.1, Nat.one_mul, Nat.zero_mul, Nat.zero_add])
    have e2 : j 2 = y 2 := Fin.ext (by
      show win0_6.index t 2 * 1024 + 1 * (y 2).val = _
      rw [(idx6 t).2.2, Nat.one_mul, Nat.zero_mul, Nat.zero_add])
    show ((acc6 A t.val (y 1) (y 2) : ℝ) : EReal) = ((A.dmod (j 0) (j 1) (j 2) : ℝ) : EReal)
    rw [e0, e1, e2]
    exact congrArg Real.toEReal (acc6_last A t.val ((flush0_6 t).mp hf) _ _)
  · have h0 : (i 0 : Fin 2).val < 2 := (i 0).isLt
    have h1 : (i 1 : Fin 8).val < 8 := (i 1).isLt
    have h2 : (i 2 : Fin 1024).val < 1024 := (i 2).isLt
    have ht : 8 * (i 0 : Fin 2).val + 7 < cfg0.N := by rw [show cfg0.N = 16 from N_0]; omega
    refine ⟨⟨8 * (i 0 : Fin 2).val + 7, ht⟩, (flush0_6 _).mpr (by show (8 * (i 0 : Fin 2).val + 7) % 8 = 7; omega), ?_⟩
    show i ∈ ((View.whole main_v20_1).slice (win0_6.rect ⟨8 * (i 0 : Fin 2).val + 7, ht⟩)).set
    rw [View.set_slice_whole, Rect.mem_set_unit]
    have hi := idx6 ⟨8 * (i 0 : Fin 2).val + 7, ht⟩
    intro a
    match a with
    | ⟨0, _⟩ =>
      show win0_6.index _ 0 * 1 ≤ (i 0 : Fin 2).val ∧ (i 0 : Fin 2).val < win0_6.index _ 0 * 1 + 1
      rw [hi.1]; show (8 * (i 0 : Fin 2).val + 7) / 8 * 1 ≤ _ ∧ _ < (8 * (i 0 : Fin 2).val + 7) / 8 * 1 + 1; omega
    | ⟨1, _⟩ =>
      show win0_6.index _ 1 * 8 ≤ (i 1 : Fin 8).val ∧ (i 1 : Fin 8).val < win0_6.index _ 1 * 8 + 8
      rw [hi.2.1]; omega
    | ⟨2, _⟩ =>
      show win0_6.index _ 2 * 1024 ≤ (i 2 : Fin 1024).val ∧ (i 2 : Fin 1024).val < win0_6.index _ 2 * 1024 + 1024
      rw [hi.2.2]; omega

/-- Window 7, written back after the last block. -/
theorem final7 : (dats m 0 c).arrAt 7 cfg0.N = (fun i : S8x1024.Idx => ((A.dgn8 (i 0) (i 1) : ℝ) : EReal)) := by
  refine (dats m 0 c).arrAt_eq_of_cover 7 (fun i : S8x1024.Idx => ((A.dgn8 (i 0) (i 1) : ℝ) : EReal))
    (fun t hf => ?_) fun i => ?_
  · have ht : t.val < 16 := lt_of_lt_of_eq t.isLt N_0
    have h15 : t.val = 15 := by have := (flush0_7 t).mp hf; omega
    rw [Value.flushed7, outs_eq A hm]
    funext y
    rw [View.read_apply]
    let j : S8x1024.Idx := ((cfg0.win 7).blk t).view.emb y
    have e1 : j 0 = y 0 := Fin.ext (by
      show win0_7.index t 0 * 8 + 1 * (y 0).val = _
      rw [(idx7 t).1, Nat.one_mul, Nat.zero_mul, Nat.zero_add])
    have e2 : j 1 = y 1 := Fin.ext (by
      show win0_7.index t 1 * 1024 + 1 * (y 1).val = _
      rw [(idx7 t).2, Nat.one_mul, Nat.zero_mul, Nat.zero_add])
    show ((acc7 A t.val (y 0) (y 1) : ℝ) : EReal) = ((A.dgn8 (j 0) (j 1) : ℝ) : EReal)
    rw [h15, e1, e2]
    exact congrArg Real.toEReal (acc7_last A _ _)
  · have h1 : (i 0 : Fin 8).val < 8 := (i 0).isLt
    have h2 : (i 1 : Fin 1024).val < 1024 := (i 1).isLt
    have ht : 15 < cfg0.N := by rw [show cfg0.N = 16 from N_0]; omega
    refine ⟨⟨15, ht⟩, (flush0_7 _).mpr rfl, ?_⟩
    show i ∈ ((View.whole main_v20_2).slice (win0_7.rect ⟨15, ht⟩)).set
    rw [View.set_slice_whole, Rect.mem_set_unit]
    have hi := idx7 ⟨15, ht⟩
    intro a
    match a with
    | ⟨0, _⟩ =>
      show win0_7.index _ 0 * 8 ≤ (i 0 : Fin 8).val ∧ (i 0 : Fin 8).val < win0_7.index _ 0 * 8 + 8
      rw [hi.1]; omega
    | ⟨1, _⟩ =>
      show win0_7.index _ 1 * 1024 ≤ (i 1 : Fin 1024).val ∧ (i 1 : Fin 1024).val < win0_7.index _ 1 * 1024 + 1024
      rw [hi.2]; omega

end Cert.Mixer.InBwd

end
-- ==== Proof.MixInBwdRef.lean ====
/-
  The reference program of the gradient of the mixer's projection in, stage by stage and result by result, read as real
  numbers. The cotangent that comes past the projection is an arbitrary array of extended reals.
-/
module

public import proofs.«01_k».proof.Proof.Gen.ReferenceMixInBwdIdeal.Read
public import proofs.«01_k».proof.Proof.MixInBwdSpec
public import proofs.«01_k».proof.Proof.RefOut

@[expose] public section

set_option maxRecDepth 16384

noncomputable section

namespace Cert.Mixer.InBwd.Ref

open Idealize.ShloMosaic Cert.ReferenceMixInBwdIdeal Cert.ReferenceMixInBwdIdeal.Read
open Cert.Ffn hiding Args
open Cert.Ffn.Ref (select_row split_tok)

variable (A : Args)

/-! ## The norm and the modulation -/

/-- The mean square plus the constant. -/
theorem r6 (i : S2x4096x1.Idx) : val_main_v6 (F := Ideal) (lift3 A.x) i = ((A.ms (i 0) (i 1) : ℝ) : EReal) := by
  rw [val_main_v6_apply, val_main_v4_apply, val_main_v2_apply, val_main_v1_apply, val_main_v3_apply, val_main_v5_apply,
    val_main_cst_0_apply, val_main_cst_1_apply, val_main_cst_apply]
  simp only [val_main_v0_apply, Ideal.mulf_def, Ideal.addf_def, Ideal.ofBits_def, Ideal.hostDivf_def, Ideal.divf_def, w_zero, w_width, w_eps, ← EReal.coe_mul,
    coe_sum, ← EReal.coe_add, div_real _ (show (1024 : ℝ) ≠ 0 by norm_num), zero_add]
  rfl

/-- The reciprocal root. -/
theorem r7 (i : S2x4096x1.Idx) : val_main_v7 (F := Ideal) (lift3 A.x) i = ((A.rst (i 0) (i 1) : ℝ) : EReal) := by
  have h := A.ms_pos (i 0) (i 1)
  rw [val_main_v7_apply, r6]
  simp only [Ideal.hostUnary_rsqrt_def, Ideal.rsqrt_coe, if_neg h.le.not_gt, if_neg h.ne']
  rfl

/-- The derivative of the reciprocal root. -/
theorem r10 (i : S2x4096x1.Idx) : val_main_v10 (F := Ideal) (lift3 A.x) i
    = ((A.rst (i 0) (i 1) / A.ms (i 0) (i 1) * -(1 / 2) : ℝ) : EReal) := by
  rw [val_main_v10_apply, val_main_v9_apply, val_main_v8_apply, r7, r6, val_main_cst_2_apply, Ideal.hostDivf_def,
    div_real _ (show A.ms (i 0) (i 1) ≠ 0 from (A.ms_pos (i 0) (i 1)).ne'), Ideal.mulf_def, mul_comm]
  simp only [Ideal.ofBits_def, w_neg_half, ← EReal.coe_mul]

/-- The normalised row. -/
theorem r12 (i : S2x4096x1024.Idx) :
    val_main_v12 (F := Ideal) (lift3 A.x) i = ((A.xn (i 0) (i 1) (i 2) : ℝ) : EReal) := by
  rw [val_main_v12_apply, val_main_v11_apply, r7, Ideal.mulf_def, ← EReal.coe_mul]
  rfl

/-- The norm's weight, along every row. -/
theorem r15 (i : S2x4096x1024.Idx) : val_main_v15 (F := Ideal) (lift1 A.gn) i = ((A.gn (i 2) : ℝ) : EReal) := by
  rw [val_main_v15_apply, val_main_v14_apply, val_main_v13_apply]
  rfl

/-- The weighted normalised row. -/
theorem r16 (i : S2x4096x1024.Idx) : val_main_v16 (F := Ideal) (lift3 A.x) (lift1 A.gn) i
    = ((A.xn (i 0) (i 1) (i 2) * A.gn (i 2) : ℝ) : EReal) := by
  rw [val_main_v16_apply, r12, r15, Ideal.mulf_def, ← EReal.coe_mul]

/-- One plus the scale. -/
theorem r18 (i : S2x1024.Idx) : val_main_v18 (F := Ideal) (lift2 A.sc) i = ((1 + A.sc (i 0) (i 1) : ℝ) : EReal) := by
  rw [val_main_v18_apply, val_main_v17_apply, val_main_cst_3_apply, Ideal.addf_def, Ideal.ofBits_def, w_one,
    ← EReal.coe_add]

/-! ## A reshape that only adds or drops an axis of size one keeps the other coordinates -/

theorem e28 (i : S2x1x1024.Idx) : idx_main_v28 i = ix2 (n0 := 2) (n1 := 1024) (i 0) (i 2) := by
  have h0 : (i 0).val < 2 := (i 0).isLt
  have h1 : (i 1).val < 1 := (i 1).isLt
  have h2 : (i 2).val < 1024 := (i 2).isLt
  refine funext fun a => Fin.ext ?_
  match a with
  | ⟨0, _⟩ => simp; omega
  | ⟨1, _⟩ => simp; omega

theorem e32 (i : S2x1x1024.Idx) : idx_main_v32 i = ix2 (n0 := 2) (n1 := 1024) (i 0) (i 2) := by
  have h0 : (i 0).val < 2 := (i 0).isLt
  have h1 : (i 1).val < 1 := (i 1).isLt
  have h2 : (i 2).val < 1024 := (i 2).isLt
  refine funext fun a => Fin.ext ?_
  match a with
  | ⟨0, _⟩ => simp; omega
  | ⟨1, _⟩ => simp; omega

theorem e38 (i : S2x1x1024.Idx) : idx_main_v38 i = ix2 (n0 := 2) (n1 := 1024) (i 0) (i 2) := by
  have h0 : (i 0).val < 2 := (i 0).isLt
  have h1 : (i 1).val < 1 := (i 1).isLt
  have h2 : (i 2).val < 1024 := (i 2).isLt
  refine funext fun a => Fin.ext ?_
  match a with
  | ⟨0, _⟩ => simp; omega
  | ⟨1, _⟩ => simp; omega

theorem e45 (i : S2x4096x1.Idx) : idx_main_v45 i = ix2 (n0 := 2) (n1 := 4096) (i 0) (i 1) := by
  have h0 : (i 0).val < 2 := (i 0).isLt
  have h1 : (i 1).val < 4096 := (i 1).isLt
  have h2 : (i 2).val < 1 := (i 2).isLt
  refine funext fun a => Fin.ext ?_
  match a with
  | ⟨0, _⟩ => simp; omega
  | ⟨1, _⟩ => simp; omega

theorem e72 (i : S8192x1024.Idx) : idx_main_v72 i
    = ix3 (n0 := 2) (n1 := 4096) (n2 := 1024) (Cert.Ffn.Args.bt (i 0)) (Cert.Ffn.Args.ps (i 0)) (i 1) := by
  have h1 : (i 1).val < 1024 := (i 1).isLt
  obtain ⟨a, b, c⟩ := split_tok (i 0).val (i 1).val 1024 (by norm_num) h1
  refine funext fun k => Fin.ext ?_
  match k with
  | ⟨0, _⟩ => exact a
  | ⟨1, _⟩ => exact b
  | ⟨2, _⟩ => exact c

/-! ## The sums over the sequence -/

/-- The cotangent of the modulated row. -/
theorem r26 (i : S2x4096x1024.Idx) : val_main_v26 (F := Ideal) (lift2 A.w) (lift3 A.dp) i = ((A.dh (i 0) (i 1) (i 2) : ℝ) : EReal) := by
  rw [val_main_v26_apply]
  simp only [← EReal.coe_mul, coe_sum]
  rfl

/-- Its sum over the sequence. -/
theorem r27 (i : S2x1024.Idx) : val_main_v27 (F := Ideal) (lift2 A.w) (lift3 A.dp) i = ((∑ s, A.dh (i 0) s (i 1) : ℝ) : EReal) := by
  rw [val_main_v27_apply]
  simp only [r26, val_main_cst_4_apply, Ideal.ofBits_def, w_zero, coe_sum, ← EReal.coe_add, zero_add]
  rfl

/-- The same with an axis of size one. -/
theorem r28 (i : S2x1x1024.Idx) : val_main_v28 (F := Ideal) (lift2 A.w) (lift3 A.dp) i = ((∑ s, A.dh (i 0) s (i 2) : ℝ) : EReal) := by
  rw [val_main_v28_apply, e28, r27]
  rfl

/-- The gradient of the shift. -/
theorem r29 (i : S2x1024.Idx) : val_main_v29 (F := Ideal) (lift2 A.w) (lift3 A.dp) i = ((A.dsh (i 0) (i 1) : ℝ) : EReal) := by
  rw [val_main_v29_apply]
  simp only [r28, val_main_cst_5_apply, Ideal.ofBits_def, w_zero, coe_sum, ← EReal.coe_add, zero_add, Fin.sum_univ_one]
  rfl

/-- The weighted row times its cotangent, summed over the sequence. -/
theorem r31 (i : S2x1024.Idx) : val_main_v31 (F := Ideal) (lift3 A.x) (lift1 A.gn) (lift2 A.w) (lift3 A.dp) i
    = ((∑ s, A.xn (i 0) s (i 1) * A.gn (i 1) * A.dh (i 0) s (i 1) : ℝ) : EReal) := by
  rw [val_main_v31_apply]
  simp only [val_main_v30_apply, r16, r26, val_main_cst_6_apply, Ideal.ofBits_def, w_zero, Ideal.mulf_def, ← EReal.coe_mul, coe_sum, ← EReal.coe_add, zero_add]
  rfl

/-- The same with an axis of size one. -/
theorem r32 (i : S2x1x1024.Idx) : val_main_v32 (F := Ideal) (lift3 A.x) (lift1 A.gn) (lift2 A.w) (lift3 A.dp) i
    = ((∑ s, A.xn (i 0) s (i 2) * A.gn (i 2) * A.dh (i 0) s (i 2) : ℝ) : EReal) := by
  rw [val_main_v32_apply, e32, r31]
  rfl

/-- The gradient of the scale. -/
theorem r35 (i : S2x1024.Idx) : val_main_v35 (F := Ideal) (lift3 A.x) (lift1 A.gn) (lift2 A.w) (lift3 A.dp) i = ((A.dsc (i 0) (i 1) : ℝ) : EReal) := by
  rw [val_main_v35_apply]
  simp only [r32, val_main_cst_7_apply, Ideal.ofBits_def, w_zero, coe_sum, ← EReal.coe_add, zero_add, Fin.sum_univ_one]
  unfold Args.dsc Args.dhx
  rw [Finset.sum_mul]
  refine congrArg Real.toEReal (Finset.sum_congr rfl fun s _ => ?_)
  show A.xn (i 0) s (i 1) * A.gn (i 1) * A.dh (i 0) s (i 1) = A.dh (i 0) s (i 1) * A.xn (i 0) s (i 1) * A.gn (i 1)
  ring

/-- The cotangent of the modulated row, scaled back. -/
theorem r34 (i : S2x4096x1024.Idx) : val_main_v34 (F := Ideal) (lift2 A.sc) (lift2 A.w) (lift3 A.dp) i
    = ((A.dh (i 0) (i 1) (i 2) * (1 + A.sc (i 0) (i 2)) : ℝ) : EReal) := by
  rw [val_main_v34_apply, r26, val_main_v33_apply, val_main_v19_apply, r18, Ideal.mulf_def, ← EReal.coe_mul]
  rfl

/-- The normalised row times its scaled cotangent, summed over the sequence. -/
theorem r37 (i : S2x1024.Idx) : val_main_v37 (F := Ideal) (lift3 A.x) (lift2 A.sc) (lift2 A.w) (lift3 A.dp) i
    = ((∑ s, A.xn (i 0) s (i 1) * (A.dh (i 0) s (i 1) * (1 + A.sc (i 0) (i 1))) : ℝ) : EReal) := by
  rw [val_main_v37_apply]
  simp only [val_main_v36_apply, r12, r34, val_main_cst_8_apply, Ideal.ofBits_def, w_zero, Ideal.mulf_def, ← EReal.coe_mul, coe_sum, ← EReal.coe_add, zero_add]
  rfl

/-- The same with an axis of size one. -/
theorem r38 (i : S2x1x1024.Idx) : val_main_v38 (F := Ideal) (lift3 A.x) (lift2 A.sc) (lift2 A.w) (lift3 A.dp) i
    = ((∑ s, A.xn (i 0) s (i 2) * (A.dh (i 0) s (i 2) * (1 + A.sc (i 0) (i 2))) : ℝ) : EReal) := by
  rw [val_main_v38_apply, e38, r37]
  rfl

/-- The gradient of the weight of the norm. -/
theorem r42 (i : S1024.Idx) : val_main_v42 (F := Ideal) (lift3 A.x) (lift2 A.sc) (lift2 A.w) (lift3 A.dp) i = ((A.dgn (i 0) : ℝ) : EReal) := by
  rw [val_main_v42_apply]
  simp only [val_main_v41_apply, r38, val_main_cst_9_apply, val_main_cst_10_apply, Ideal.ofBits_def, w_zero,
    coe_sum, ← EReal.coe_add, zero_add, Fin.sum_univ_one]
  unfold Args.dgn Args.dhx
  refine congrArg Real.toEReal (Finset.sum_congr rfl fun b _ => ?_)
  rw [Finset.sum_mul]
  refine Finset.sum_congr rfl fun s _ => ?_
  show A.xn b s (i 0) * (A.dh b s (i 0) * (1 + A.sc b (i 0))) = A.dh b s (i 0) * A.xn b s (i 0) * (1 + A.sc b (i 0))
  ring

/-! ## Back through the norm -/

/-- The cotangent of the normalised row. -/
theorem r40 (i : S2x4096x1024.Idx) : val_main_v40 (F := Ideal) (lift2 A.sc) (lift1 A.gn) (lift2 A.w) (lift3 A.dp) i
    = ((A.dyn (i 0) (i 1) (i 2) : ℝ) : EReal) := by
  rw [val_main_v40_apply, r34, val_main_v39_apply, val_main_v14_apply, val_main_v13_apply, Ideal.mulf_def]
  unfold Args.dyn
  rw [← EReal.coe_mul]
  refine congrArg Real.toEReal ?_
  show A.dh (i 0) (i 1) (i 2) * (1 + A.sc (i 0) (i 2)) * A.gn (i 2)
    = A.dh (i 0) (i 1) (i 2) * (A.gn (i 2) * (1 + A.sc (i 0) (i 2)))
  ring

/-- The row against the cotangent of its normalised form. -/
theorem r44 (i : S2x4096.Idx) : val_main_v44 (F := Ideal) (lift3 A.x) (lift2 A.sc) (lift1 A.gn) (lift2 A.w) (lift3 A.dp) i
    = ((∑ d, A.x (i 0) (i 1) d * A.dyn (i 0) (i 1) d : ℝ) : EReal) := by
  rw [val_main_v44_apply]
  simp only [val_main_v43_apply, r40, val_main_cst_11_apply, Ideal.ofBits_def, w_zero, Ideal.mulf_def, ← EReal.coe_mul, coe_sum, ← EReal.coe_add, zero_add]
  rfl

/-- The same with an axis of size one. -/
theorem r45 (i : S2x4096x1.Idx) : val_main_v45 (F := Ideal) (lift3 A.x) (lift2 A.sc) (lift1 A.gn) (lift2 A.w) (lift3 A.dp) i
    = ((∑ d, A.x (i 0) (i 1) d * A.dyn (i 0) (i 1) d : ℝ) : EReal) := by
  rw [val_main_v45_apply, e45, r44]
  rfl

/-- The cotangent of the mean square, over the width. -/
theorem r52 (i : S2x4096x1024.Idx) : val_main_v52 (F := Ideal) (lift3 A.x) (lift2 A.sc) (lift1 A.gn) (lift2 A.w) (lift3 A.dp) i
    = (((∑ d, A.x (i 0) (i 1) d * A.dyn (i 0) (i 1) d) * (A.rst (i 0) (i 1) / A.ms (i 0) (i 1) * -(1 / 2)) / 1024 : ℝ) : EReal) := by
  rw [val_main_v52_apply, val_main_v51_apply]
  simp only [val_main_v50_apply, val_main_v49_apply, val_main_v48_apply, r45, r10, val_main_cst_12_apply, val_main_cst_13_apply, Ideal.ofBits_def,
    w_zero, w_width, Ideal.mulf_def, Ideal.hostDivf_def, Ideal.divf_def, ← EReal.coe_mul, coe_sum, ← EReal.coe_add, zero_add,
    div_real _ (show (1024 : ℝ) ≠ 0 by norm_num), Fin.sum_univ_one]
  rfl

/-- The gradient of the input, through the norm. -/
theorem r56 (i : S2x4096x1024.Idx) : val_main_v56 (F := Ideal) (lift3 A.x) (lift2 A.sc) (lift1 A.gn) (lift2 A.w) (lift3 A.dp) i
    = ((A.dn (i 0) (i 1) (i 2) : ℝ) : EReal) := by
  rw [val_main_v56_apply, val_main_v55_apply, val_main_v54_apply, val_main_v53_apply, val_main_v47_apply,
    val_main_v46_apply, r52, r40, r7]
  simp only [Ideal.mulf_def, Ideal.addf_def, ← EReal.coe_mul, ← EReal.coe_add]
  exact congrArg Real.toEReal (A.norm_back (i 0) (i 1) (i 2))

/-! ## The results -/

/-- The gradient of the input. -/
theorem out0 (R : S2x4096x1024.Idx → EReal) (i : S8192x1024.Idx) : val_main_v72 (F := Ideal) (lift3 A.x) (lift2 A.sc) (lift1 A.gn) (lift2 A.w) R (lift3 A.dp) i
    = R (ix3 (Cert.Ffn.Args.bt (i 0)) (Cert.Ffn.Args.ps (i 0)) (i 1))
      + ((A.dn (Cert.Ffn.Args.bt (i 0)) (Cert.Ffn.Args.ps (i 0)) (i 1) : ℝ) : EReal) := by
  rw [val_main_v72_apply, e72, val_main_v71_apply, r56]
  rfl

/-- The gradient of the weight of the norm, in the first row. -/
theorem out2 (i : S8x1024.Idx) : val_main_v70 (F := Ideal) (lift3 A.x) (lift2 A.sc) (lift2 A.w) (lift3 A.dp) i
    = ((A.dgn8 (i 0) (i 1) : ℝ) : EReal) := by
  rw [val_main_v70_apply, val_main_v68_apply, val_main_v67_apply, val_main_v66_apply, val_main_c_16_apply,
    val_main_call2_v2_apply, val_main_call2_v1_apply, val_main_call2_v0_apply, val_main_v69_apply, r42, val_main_cst_17_apply]
  have h := select_row (i 0).val 0 (i 0).isLt (by norm_num)
    ((A.dgn (i 1) : ℝ) : EReal) ((0 : ℝ) : EReal)
  rw [Ideal.ofBits_def, w_zero]
  refine h.trans ?_
  unfold Args.dgn8
  exact (apply_ite Real.toEReal _ _ _).symm

/-- The gradients of shift and scale, one a row. -/
theorem out1 (i : S2x8x1024.Idx) : val_main_v65 (F := Ideal) (lift3 A.x) (lift1 A.gn) (lift2 A.w) (lift3 A.dp) i
    = ((A.dmod (i 0) (i 1) (i 2) : ℝ) : EReal) := by
  rw [val_main_v65_apply, val_main_v64_apply, val_main_v59_apply, val_main_v62_apply,
    val_main_v57_apply, val_main_v58_apply, val_main_v61_apply]
  rw [val_main_call1_v0_apply, val_main_call0_v1_apply, val_main_call0_v2_apply,
    val_main_call0_v0_apply, val_main_v60_apply, val_main_v63_apply, r29, r35,
    val_main_cst_15_apply, Ideal.ofBits_def, w_zero, val_main_c_apply, val_main_c_14_apply]
  have hi : (i 1).val < 8 := (i 1).isLt
  refine (select_row (i 1).val 0 hi (by norm_num) _ _).trans ?_
  rw [select_row (i 1).val 1 hi (by norm_num)]
  unfold Args.dmod
  by_cases h0 : (i 1).val = 0
  · rw [if_pos h0, if_pos h0]; rfl
  rw [if_neg h0, if_neg h0]
  by_cases h1 : (i 1).val = 1
  · rw [if_pos h1, if_pos h1]; rfl
  rw [if_neg h1, if_neg h1]

end Cert.Mixer.InBwd.Ref

end
-- ==== Proof.MixInBwdClaims.lean ====
/-
  The claims about the gradient of the mixer's projection in.
-/
module

public import proofs.«01_k».proof.Defs
public import proofs.«01_k».proof.Proof.Finite
public import proofs.«01_k».proof.Proof.MixInBwdFinal
public import proofs.«01_k».proof.Proof.MixInBwdRef
public import proofs.«01_k».proof.Proof.Gen.Pre_finite_in
public import Idealize.ShloMosaic.Lib.KernelVsHost

@[expose] public section

set_option maxRecDepth 16384

noncomputable section

namespace Cert.Mixer.InBwd

open Idealize.ShloMosaic Idealize.SL.Sem
open Cert.Ffn hiding Args argsOf holds_of_pre
open Cert.Ffn.Args (bt ps)

/-- The reference terminates and leaves its arguments as they were. -/
theorem frame_ref : Cert.quiescent_ReferenceMixInBwdIdeal := fun m ρ _ =>
  (θ_run Cert.ReferenceMixInBwdIdeal.defs _ _).mono (fun r h => ⟨fun c => (h c).2.2.2,
      Idealize.ShloMosaic.sem_eq_zero_of_no_sems (by decide) r.2⟩)
    (Cert.ReferenceMixInBwdIdeal.Value.run (F := Ideal) m ρ)

section

open Cert.KernelMixInBwdIdeal

/-- The real numbers the arguments hold. -/
def argsOf (m : (ℓ : Loc nD τ sig) → Buf (Elt Ideal) ℓ) (c : Dev nD) : Args where
  x := fun b p d => (m ((c.tc : Thread nD τ).loc main_arg0) (ix3 b p d) : EReal).toReal
  sc := fun b d => (m ((c.tc : Thread nD τ).loc main_arg2) (ix2 b d) : EReal).toReal
  gn := fun d => (m ((c.tc : Thread nD τ).loc main_arg3) (ix1 d) : EReal).toReal
  w := fun d k => (m ((c.tc : Thread nD τ).loc main_arg4) (ix2 d k) : EReal).toReal
  dp := fun b p k => (m ((c.tc : Thread nD τ).loc main_arg6) (ix3 b p k) : EReal).toReal

/-- The arguments of a memory the precondition admits hold those real numbers. -/
theorem holds_of_pre (m : (ℓ : Loc nD τ sig) → Buf (Elt Ideal) ℓ)
    (h : Cert.Pre_KernelMixInBwdIdeal_finite_in (hPre_finite_in := Cert.Pre_finite_in.Gen.facts) m) (c : Dev nD) :
    Holds m c (argsOf m c) := by
  obtain ⟨h0, h1, h2, h3, h4⟩ := h c
  constructor
  · funext i; exact (entry_finite _ _ h0 i).trans (congrArg (fun j => (((m ((c.tc : Thread nD τ).loc main_arg0) j : EReal).toReal : ℝ) : EReal)) (ix3_eta i).symm)
  · funext i; exact (entry_finite _ _ h1 i).trans (congrArg (fun j => (((m ((c.tc : Thread nD τ).loc main_arg2) j : EReal).toReal : ℝ) : EReal)) (ix2_eta i).symm)
  · funext i; exact (entry_finite _ _ h2 i).trans (congrArg (fun j => (((m ((c.tc : Thread nD τ).loc main_arg3) j : EReal).toReal : ℝ) : EReal)) (ix1_eta i).symm)
  · funext i; exact (entry_finite _ _ h3 i).trans (congrArg (fun j => (((m ((c.tc : Thread nD τ).loc main_arg4) j : EReal).toReal : ℝ) : EReal)) (ix2_eta i).symm)
  · funext i; exact (entry_finite _ _ h4 i).trans (congrArg (fun j => (((m ((c.tc : Thread nD τ).loc main_arg6) j : EReal).toReal : ℝ) : EReal)) (ix3_eta i).symm)

end

/-- From memories that agree on arguments the precondition admits, the kernel's program and the reference end with equal
    results. -/
theorem algebraic : Cert.algebraic_KernelMixInBwdIdeal_ReferenceMixInBwdIdeal_pre_finite_in
    (hPre_finite_in := Cert.Pre_finite_in.Gen.facts) := by
  intro m ρ m' ρ' hpre hagree
  refine ⟨fun c => (fun i : Cert.KernelMixInBwdIdeal.S8192x1024.Idx => dxs (argsOf m c) (dre m c) (bt (i 0)) (ps (i 0)) (i 1)),
    fun c => (fun i : Cert.KernelMixInBwdIdeal.S2x8x1024.Idx => (((argsOf m c).dmod (i 0) (i 1) (i 2) : ℝ) : EReal)),
    fun c => (fun i : Cert.KernelMixInBwdIdeal.S8x1024.Idx => (((argsOf m c).dgn8 (i 0) (i 1) : ℝ) : EReal)), ?_, ?_⟩
  · refine (θ_run Cert.KernelMixInBwdIdeal.defs _ _).mono (fun r h c => ?_)
      (Cert.KernelMixInBwdIdeal.Value.run_blocks (F := Ideal) m ρ)
    have hm := holds_of_pre m hpre c
    obtain ⟨h0, h1, h2, hargs⟩ := h c
    exact ⟨h0.trans (final5 _ hm), h1.trans (final6 _ hm), h2.trans (final7 _ hm), hargs⟩
  · refine (θ_run Cert.ReferenceMixInBwdIdeal.defs _ _).mono (fun r h c => ?_)
      (Cert.ReferenceMixInBwdIdeal.Value.run (F := Ideal) m' ρ')
    have hm := holds_of_pre m hpre c
    obtain ⟨h0, h1, h2, hargs⟩ := h c
    obtain ⟨a0, a1, a2, a3, a4, a5, a6⟩ := hagree c
    have b0 := a0.trans hm.x
    have b2 := a2.trans hm.sc
    have b3 := a3.trans hm.gn
    have b4 := a4.trans hm.w
    have b6 := a6.trans hm.dp
    refine ⟨h0.trans ?_, h1.trans ?_, h2.trans ?_, hargs⟩
    · rw [Cert.ReferenceMixInBwdIdeal.Read.val_main_v72_eq, b0, b2, b3, b4, a5, b6]
      exact funext fun i => Ref.out0 (argsOf m c) (dre m c) i
    · rw [Cert.ReferenceMixInBwdIdeal.Read.val_main_v65_eq, b0, b3, b4, b6]
      exact funext fun i => Ref.out1 (argsOf m c) i
    · rw [Cert.ReferenceMixInBwdIdeal.Read.val_main_v70_eq, b0, b2, b4, b6]
      exact funext fun i => Ref.out2 (argsOf m c) i

end Cert.Mixer.InBwd

end
-- ==== Proof.AdamSpec.lean ====
/-
  The optimiser's update of one entry: of a weight `w`, its gradient `g` and the two running averages `m` and `v`, the new
  averages and the weight's change, as the reference writes them. The launches of the optimiser differ in the shapes alone,
  and their claims rest on what is here.
-/
module

public import Idealize.ShloMosaic.PureOps
public import Idealize.ShloMosaic.PureOps.Ideal
public import Idealize.ShloMosaic.PureOps.IdealRules
public import Mathlib.Tactic.NormNum

@[expose] public section

noncomputable section

namespace Cert.Opt

open Idealize.ShloMosaic

/-- The new average of the gradient: nine tenths of the old, one tenth of the gradient. -/
def newM (g m : EReal) : EReal := Ideal.ofBits .f32 0x3F666666#32 * m + Ideal.ofBits .f32 0x3DCCCCCD#32 * g

/-- The new average of its square. -/
def newV (g v : EReal) : EReal := Ideal.ofBits .f32 0x3F7FBE77#32 * v + Ideal.ofBits .f32 0x3A83126F#32 * (g * g)

/-- The numbers the averages are divided by, to undo that they started from nothing ten steps ago. -/
def corr1 : EReal := Ideal.ofBits .f32 0x3F26BD02#32
def corr2 : EReal := Ideal.ofBits .f32 0x3C231ACC#32

/-- The weight's change. -/
def delta (w g m v : EReal) : EReal :=
  Ideal.ofBits .f32 0xBA83126F#32 * (Ideal.div (Ideal.div (newM g m) corr1)
    (Ideal.sqrt (Ideal.div (newV g v) corr2) + Ideal.ofBits .f32 0x322BCC77#32) + Ideal.ofBits .f32 0x3C23D70A#32 * w)

theorem corr1_eq : corr1 = ((5463681 / 8388608 : ℝ) : EReal) := by
  simp [corr1, Ideal.ofBits, Ideal.ieee, -EReal.coe_mul]; norm_num

theorem corr2_eq : corr2 = ((2672307 / 268435456 : ℝ) : EReal) := by
  simp [corr2, Ideal.ofBits, Ideal.ieee, -EReal.coe_mul]; norm_num

/-- To divide by the first is to multiply with the constant the kernel names, of every extended real. -/
theorem mul_inv_corr1 (a : EReal) : a * ((8388608 / 5463681 : ℝ) : EReal) = Ideal.div a corr1 := by
  rw [corr1_eq, Ideal.div_coe (by norm_num)]; norm_num

/-- And so for the second. -/
theorem mul_inv_corr2 (a : EReal) : a * ((268435456 / 2672307 : ℝ) : EReal) = Ideal.div a corr2 := by
  rw [corr2_eq, Ideal.div_coe (by norm_num)]; norm_num

/-- The weight's change with the kernel's two products in the place of the reference's two quotients. -/
theorem delta_eq (w g m v c1 c2 : EReal) (h1 : c1 = ((8388608 / 5463681 : ℝ) : EReal))
    (h2 : c2 = ((268435456 / 2672307 : ℝ) : EReal)) :
    Ideal.ofBits .f32 0xBA83126F#32 * (Ideal.div (newM g m * c1) (Ideal.sqrt (newV g v * c2)
      + Ideal.ofBits .f32 0x322BCC77#32) + Ideal.ofBits .f32 0x3C23D70A#32 * w) = delta w g m v := by
  rw [h1, h2, mul_inv_corr1, mul_inv_corr2, delta]

/-- A block of `b` rows that starts at a multiple of `b` holds the row it is found for. -/
theorem walk {k n b : ℕ} (hb : 0 < b) (h : k = n / b) : k * b ≤ n ∧ n < k * b + b := by
  subst h
  exact ⟨Nat.div_mul_le_self n b, by rw [← Nat.succ_mul]; exact (Nat.div_lt_iff_lt_mul hb).mp (Nat.lt_succ_self _)⟩

/-- And all the columns. -/
theorem stay {k n b : ℕ} (h : k = 0) (hn : n < b) : k * b ≤ n ∧ n < k * b + b := by
  subst h; omega

end Cert.Opt

end
-- ==== Proof.AdamUpClaims.lean ====
/-
  The optimiser's update of the projection up: what the kernel leaves in its three result arrays, entry by entry of the
  flattened arguments, and the claims about it.
-/
module

public import proofs.«01_k».proof.Proof.AdamSpec
public import proofs.«01_k».proof.Defs
public import proofs.«01_k».proof.Proof.Gen.KernelAdamUpIdeal.Value
public import proofs.«01_k».proof.Proof.Gen.ReferenceAdamUpIdeal.Read
public import proofs.«01_k».proof.Proof.Gen.ReferenceAdamUpIdeal.Run
public import Idealize.ShloMosaic.Lib.KernelVsHost
public import Idealize.ShloMosaic.Lib.Quiescent
public import Idealize.ShloMosaic.Lib.StableHlo.ReadAt

@[expose] public section

set_option maxRecDepth 16384

noncomputable section

namespace Cert.Opt.Up

open Idealize.ShloMosaic Idealize.SL.Sem

section

open Cert.KernelAdamUpIdeal Cert.KernelAdamUpIdeal.Gen

theorem hz : (![0, 0] : Fin S128x1408.rank → Nat) = fun _ => 0 := by funext a; fin_cases a <;> rfl

section
variable (x0 x1 x2 x3 : Vec Ideal S128x1408 .f32)

/-- The body's second store is the new average of the gradient. -/
theorem out5 : out0_5 x0 x1 x2 x3 = fun y => newM (x1 y) (x2 y) := by
  unfold out0_5
  rw [View.canon_unit_zero (S := S128x1408) hz]
  simp only [View.ld_unit_zero (S := S128x1408) hz, k0_pay2, k0_pay1, shapeCast_self]
  rfl

/-- Its third is the new average of the square. -/
theorem out6 : out0_6 x0 x1 x2 x3 = fun y => newV (x1 y) (x3 y) := by
  unfold out0_6
  rw [View.canon_unit_zero (S := S128x1408) hz]
  simp only [View.ld_unit_zero (S := S128x1408) hz, k0_pay3, k0_pay1, shapeCast_self]
  rfl

/-- Its first is the weight's change. -/
theorem out4 : out0_4 x0 x1 x2 x3 = fun y => delta (x0 y) (x1 y) (x2 y) (x3 y) := by
  unfold out0_4
  rw [View.canon_unit_zero (S := S128x1408) hz]
  simp only [View.ld_unit_zero (S := S128x1408) hz, k0_pay4, k0_pay3, k0_pay2, k0_pay1, shapeCast_self]
  funext y
  exact delta_eq (x0 y) (x1 y) (x2 y) (x3 y) (Named.named (F := Ideal) κ "inv_corr1" (φ := .f32) 0x3FC48605#32)
    (Named.named (F := Ideal) κ "inv_corr2" (φ := .f32) 0x42C8E6D3#32)
    (IdealRules.named_const.ideal_named_scalar _ _ _ _ rfl) (IdealRules.named_const.ideal_named_scalar _ _ _ _ rfl)

end

/-- Window 4 walks down the rows. -/
theorem idx4 : ∀ t : Fin cfg0.N, win0_4.index t 0 = t.val ∧ win0_4.index t 1 = 0 :=
  (by decide +kernel : ∀ t : Fin grid0.N, win0_4.index t 0 = t.val ∧ win0_4.index t 1 = 0)

variable (m : (ℓ : Loc nD τ sig) → Buf (Elt Ideal) ℓ) (c : Dev nD)

/-- Every row is written: by the point that walks past it. -/
theorem cover4 (i : S4096x1408.Idx) : ∃ t : Fin cfg0.N, i ∈ ((View.whole main_v4_0).slice (win0_4.rect t)).set := by
  have h0 : (i 0 : Fin 4096).val < 4096 := (i 0).isLt
  have h1 : (i 1 : Fin 1408).val < 1408 := (i 1).isLt
  have ht : (i 0 : Fin 4096).val / 128 < cfg0.N := by rw [show cfg0.N = 32 from N_0]; omega
  refine ⟨⟨(i 0 : Fin 4096).val / 128, ht⟩, ?_⟩
  rw [View.set_slice_whole, Rect.mem_set_unit]
  have hi := idx4 ⟨(i 0 : Fin 4096).val / 128, ht⟩
  intro a
  match a with
  | ⟨0, _⟩ => exact walk (by norm_num) hi.1
  | ⟨1, _⟩ => exact stay hi.2 h1

/-- The three result arrays. -/
theorem final4 : (dats m 0 c).arrAt 4 cfg0.N
    = (fun i : S4096x1408.Idx => delta (V m c main_v0 i) (V m c main_v1 i) (V m c main_v2 i) (V m c main_v3 i)) :=
  (dats m 0 c).arrAt_eq_of_cover 4
    (fun i : S4096x1408.Idx => delta (V m c main_v0 i) (V m c main_v1 i) (V m c main_v2 i) (V m c main_v3 i))
    (fun t _ => by rw [Value.flushed4, out4]; rfl) fun i => (cover4 i).imp fun t h => ⟨flush0_4 t, h⟩

theorem final5 : (dats m 0 c).arrAt 5 cfg0.N = (fun i : S4096x1408.Idx => newM (V m c main_v1 i) (V m c main_v2 i)) :=
  (dats m 0 c).arrAt_eq_of_cover 5 (fun i : S4096x1408.Idx => newM (V m c main_v1 i) (V m c main_v2 i))
    (fun t _ => by rw [Value.flushed5, out5]; rfl) fun i => (cover4 i).imp fun t h => ⟨flush0_5 t, h⟩

theorem final6 : (dats m 0 c).arrAt 6 cfg0.N = (fun i : S4096x1408.Idx => newV (V m c main_v1 i) (V m c main_v3 i)) :=
  (dats m 0 c).arrAt_eq_of_cover 6 (fun i : S4096x1408.Idx => newV (V m c main_v1 i) (V m c main_v3 i))
    (fun t _ => by rw [Value.flushed6, out6]; rfl) fun i => (cover4 i).imp fun t h => ⟨flush0_6 t, h⟩

/-- The arrays the kernel reads are the arguments, flattened to rows. -/
theorem V_v0 : V m c main_v0 = shapeCast S4096x1408 (m ((c.tc : Thread nD τ).loc main_arg0)) shapeCasts_S2x2x1024x1408_S4096x1408 := by
  unfold V
  after_reads_simp
  rfl
theorem V_v1 : V m c main_v1 = shapeCast S4096x1408 (m ((c.tc : Thread nD τ).loc main_arg1)) shapeCasts_S2x2x1024x1408_S4096x1408 := by
  unfold V
  after_reads_simp
  rfl
theorem V_v2 : V m c main_v2 = shapeCast S4096x1408 (m ((c.tc : Thread nD τ).loc main_arg2)) shapeCasts_S2x2x1024x1408_S4096x1408 := by
  unfold V
  after_reads_simp
  rfl
theorem V_v3 : V m c main_v3 = shapeCast S4096x1408 (m ((c.tc : Thread nD τ).loc main_arg3)) shapeCasts_S2x2x1024x1408_S4096x1408 := by
  unfold V
  after_reads_simp
  rfl

end

/-- The two constants the kernel names are the numbers the certificate gives. -/
theorem preserves : Cert.preserves_KernelAdamUp_KernelAdamUpIdeal :=
  ⟨IdealRules.named_const.statement Cert.KernelAdamUpIdeal.κ _ _ _ _ rfl,
    IdealRules.named_const.statement Cert.KernelAdamUpIdeal.κ _ _ _ _ rfl⟩

/-- The reference terminates and leaves its arguments as they were. -/
theorem frame_ref : Cert.quiescent_ReferenceAdamUpIdeal := fun m ρ _ =>
  (θ_run Cert.ReferenceAdamUpIdeal.defs _ _).mono (fun r h => ⟨fun c => (h c).2.2.2,
      Idealize.ShloMosaic.sem_eq_zero_of_no_sems (by decide) r.2⟩)
    (Cert.ReferenceAdamUpIdeal.Value.run (F := Ideal) m ρ)

/-- From memories that agree on the arguments, the kernel's program and the reference end with equal results. -/
theorem algebraic : Cert.algebraic_KernelAdamUpIdeal_ReferenceAdamUpIdeal := by
  intro m ρ m' ρ' _ hagree
  refine ⟨_, _, _, Cert.KernelAdamUpIdeal.Value.run_blocks (F := Ideal) m ρ, ?_⟩
  refine (θ_run Cert.ReferenceAdamUpIdeal.defs _ _).mono (fun r h c => ?_)
    (Cert.ReferenceAdamUpIdeal.Value.run (F := Ideal) m' ρ')
  obtain ⟨h0, h1, h2, hargs⟩ := h c
  obtain ⟨a0, a1, a2, a3⟩ := hagree c
  refine ⟨h0.trans ?_, h1.trans ?_, h2.trans ?_, hargs⟩
  · rw [Cert.ReferenceAdamUpIdeal.Read.val_main_v24_eq, final4, a0, a1, a2, a3, V_v0, V_v1, V_v2, V_v3]; rfl
  · rw [Cert.ReferenceAdamUpIdeal.Read.val_main_v25_eq, final5, a1, a2, V_v1, V_v2]; rfl
  · rw [Cert.ReferenceAdamUpIdeal.Read.val_main_v26_eq, final6, a1, a3, V_v1, V_v3]; rfl

end Cert.Opt.Up

end
-- ==== Proof.AdamDownClaims.lean ====
/-
  The optimiser's update of the projection down: what the kernel leaves in its three result arrays, entry by entry of the
  flattened arguments, and the claims about it.
-/
module

public import proofs.«01_k».proof.Proof.AdamSpec
public import proofs.«01_k».proof.Defs
public import proofs.«01_k».proof.Proof.Gen.KernelAdamDownIdeal.Value
public import proofs.«01_k».proof.Proof.Gen.ReferenceAdamDownIdeal.Read
public import proofs.«01_k».proof.Proof.Gen.ReferenceAdamDownIdeal.Run
public import Idealize.ShloMosaic.Lib.KernelVsHost
public import Idealize.ShloMosaic.Lib.Quiescent
public import Idealize.ShloMosaic.Lib.StableHlo.ReadAt

@[expose] public section

set_option maxRecDepth 16384

noncomputable section

namespace Cert.Opt.Down

open Idealize.ShloMosaic Idealize.SL.Sem

section

open Cert.KernelAdamDownIdeal Cert.KernelAdamDownIdeal.Gen

theorem hz : (![0, 0] : Fin S256x1024.rank → Nat) = fun _ => 0 := by funext a; fin_cases a <;> rfl

section
variable (x0 x1 x2 x3 : Vec Ideal S256x1024 .f32)

/-- The body's second store is the new average of the gradient. -/
theorem out5 : out0_5 x0 x1 x2 x3 = fun y => newM (x1 y) (x2 y) := by
  unfold out0_5
  rw [View.canon_unit_zero (S := S256x1024) hz]
  simp only [View.ld_unit_zero (S := S256x1024) hz, k0_pay2, k0_pay1, shapeCast_self]
  rfl

/-- Its third is the new average of the square. -/
theorem out6 : out0_6 x0 x1 x2 x3 = fun y => newV (x1 y) (x3 y) := by
  unfold out0_6
  rw [View.canon_unit_zero (S := S256x1024) hz]
  simp only [View.ld_unit_zero (S := S256x1024) hz, k0_pay3, k0_pay1, shapeCast_self]
  rfl

/-- Its first is the weight's change. -/
theorem out4 : out0_4 x0 x1 x2 x3 = fun y => delta (x0 y) (x1 y) (x2 y) (x3 y) := by
  unfold out0_4
  rw [View.canon_unit_zero (S := S256x1024) hz]
  simp only [View.ld_unit_zero (S := S256x1024) hz, k0_pay4, k0_pay3, k0_pay2, k0_pay1, shapeCast_self]
  funext y
  exact delta_eq (x0 y) (x1 y) (x2 y) (x3 y) (Named.named (F := Ideal) κ "inv_corr1" (φ := .f32) 0x3FC48605#32)
    (Named.named (F := Ideal) κ "inv_corr2" (φ := .f32) 0x42C8E6D3#32)
    (IdealRules.named_const.ideal_named_scalar _ _ _ _ rfl) (IdealRules.named_const.ideal_named_scalar _ _ _ _ rfl)

end

/-- Window 4 walks down the rows. -/
theorem idx4 : ∀ t : Fin cfg0.N, win0_4.index t 0 = t.val ∧ win0_4.index t 1 = 0 :=
  (by decide +kernel : ∀ t : Fin grid0.N, win0_4.index t 0 = t.val ∧ win0_4.index t 1 = 0)

variable (m : (ℓ : Loc nD τ sig) → Buf (Elt Ideal) ℓ) (c : Dev nD)

/-- Every row is written: by the point that walks past it. -/
theorem cover4 (i : S2816x1024.Idx) : ∃ t : Fin cfg0.N, i ∈ ((View.whole main_v4_0).slice (win0_4.rect t)).set := by
  have h0 : (i 0 : Fin 2816).val < 2816 := (i 0).isLt
  have h1 : (i 1 : Fin 1024).val < 1024 := (i 1).isLt
  have ht : (i 0 : Fin 2816).val / 256 < cfg0.N := by rw [show cfg0.N = 11 from N_0]; omega
  refine ⟨⟨(i 0 : Fin 2816).val / 256, ht⟩, ?_⟩
  rw [View.set_slice_whole, Rect.mem_set_unit]
  have hi := idx4 ⟨(i 0 : Fin 2816).val / 256, ht⟩
  intro a
  match a with
  | ⟨0, _⟩ => exact walk (by norm_num) hi.1
  | ⟨1, _⟩ => exact stay hi.2 h1

/-- The three result arrays. -/
theorem final4 : (dats m 0 c).arrAt 4 cfg0.N
    = (fun i : S2816x1024.Idx => delta (V m c main_v0 i) (V m c main_v1 i) (V m c main_v2 i) (V m c main_v3 i)) :=
  (dats m 0 c).arrAt_eq_of_cover 4
    (fun i : S2816x1024.Idx => delta (V m c main_v0 i) (V m c main_v1 i) (V m c main_v2 i) (V m c main_v3 i))
    (fun t _ => by rw [Value.flushed4, out4]; rfl) fun i => (cover4 i).imp fun t h => ⟨flush0_4 t, h⟩

theorem final5 : (dats m 0 c).arrAt 5 cfg0.N = (fun i : S2816x1024.Idx => newM (V m c main_v1 i) (V m c main_v2 i)) :=
  (dats m 0 c).arrAt_eq_of_cover 5 (fun i : S2816x1024.Idx => newM (V m c main_v1 i) (V m c main_v2 i))
    (fun t _ => by rw [Value.flushed5, out5]; rfl) fun i => (cover4 i).imp fun t h => ⟨flush0_5 t, h⟩

theorem final6 : (dats m 0 c).arrAt 6 cfg0.N = (fun i : S2816x1024.Idx => newV (V m c main_v1 i) (V m c main_v3 i)) :=
  (dats m 0 c).arrAt_eq_of_cover 6 (fun i : S2816x1024.Idx => newV (V m c main_v1 i) (V m c main_v3 i))
    (fun t _ => by rw [Value.flushed6, out6]; rfl) fun i => (cover4 i).imp fun t h => ⟨flush0_6 t, h⟩

/-- The arrays the kernel reads are the arguments, flattened to rows. -/
theorem V_v0 : V m c main_v0 = shapeCast S2816x1024 (m ((c.tc : Thread nD τ).loc main_arg0)) shapeCasts_S2x2x704x1024_S2816x1024 := by
  unfold V
  after_reads_simp
  rfl
theorem V_v1 : V m c main_v1 = shapeCast S2816x1024 (m ((c.tc : Thread nD τ).loc main_arg1)) shapeCasts_S2x2x704x1024_S2816x1024 := by
  unfold V
  after_reads_simp
  rfl
theorem V_v2 : V m c main_v2 = shapeCast S2816x1024 (m ((c.tc : Thread nD τ).loc main_arg2)) shapeCasts_S2x2x704x1024_S2816x1024 := by
  unfold V
  after_reads_simp
  rfl
theorem V_v3 : V m c main_v3 = shapeCast S2816x1024 (m ((c.tc : Thread nD τ).loc main_arg3)) shapeCasts_S2x2x704x1024_S2816x1024 := by
  unfold V
  after_reads_simp
  rfl

end

/-- The two constants the kernel names are the numbers the certificate gives. -/
theorem preserves : Cert.preserves_KernelAdamDown_KernelAdamDownIdeal :=
  ⟨IdealRules.named_const.statement Cert.KernelAdamDownIdeal.κ _ _ _ _ rfl,
    IdealRules.named_const.statement Cert.KernelAdamDownIdeal.κ _ _ _ _ rfl⟩

/-- The reference terminates and leaves its arguments as they were. -/
theorem frame_ref : Cert.quiescent_ReferenceAdamDownIdeal := fun m ρ _ =>
  (θ_run Cert.ReferenceAdamDownIdeal.defs _ _).mono (fun r h => ⟨fun c => (h c).2.2.2,
      Idealize.ShloMosaic.sem_eq_zero_of_no_sems (by decide) r.2⟩)
    (Cert.ReferenceAdamDownIdeal.Value.run (F := Ideal) m ρ)

/-- From memories that agree on the arguments, the kernel's program and the reference end with equal results. -/
theorem algebraic : Cert.algebraic_KernelAdamDownIdeal_ReferenceAdamDownIdeal := by
  intro m ρ m' ρ' _ hagree
  refine ⟨_, _, _, Cert.KernelAdamDownIdeal.Value.run_blocks (F := Ideal) m ρ, ?_⟩
  refine (θ_run Cert.ReferenceAdamDownIdeal.defs _ _).mono (fun r h c => ?_)
    (Cert.ReferenceAdamDownIdeal.Value.run (F := Ideal) m' ρ')
  obtain ⟨h0, h1, h2, hargs⟩ := h c
  obtain ⟨a0, a1, a2, a3⟩ := hagree c
  refine ⟨h0.trans ?_, h1.trans ?_, h2.trans ?_, hargs⟩
  · rw [Cert.ReferenceAdamDownIdeal.Read.val_main_v24_eq, final4, a0, a1, a2, a3, V_v0, V_v1, V_v2, V_v3]; rfl
  · rw [Cert.ReferenceAdamDownIdeal.Read.val_main_v25_eq, final5, a1, a2, V_v1, V_v2]; rfl
  · rw [Cert.ReferenceAdamDownIdeal.Read.val_main_v26_eq, final6, a1, a3, V_v1, V_v3]; rfl

end Cert.Opt.Down

end
-- ==== Proof.AdamInClaims.lean ====
/-
  The optimiser's update of the mixer's projection in: what the kernel leaves in its three result arrays, entry by entry of the
  flattened arguments, and the claims about it.
-/
module

public import proofs.«01_k».proof.Proof.AdamSpec
public import proofs.«01_k».proof.Defs
public import proofs.«01_k».proof.Proof.Gen.KernelAdamInIdeal.Value
public import proofs.«01_k».proof.Proof.Gen.ReferenceAdamInIdeal.Read
public import proofs.«01_k».proof.Proof.Gen.ReferenceAdamInIdeal.Run
public import Idealize.ShloMosaic.Lib.KernelVsHost
public import Idealize.ShloMosaic.Lib.Quiescent
public import Idealize.ShloMosaic.Lib.StableHlo.ReadAt

@[expose] public section

set_option maxRecDepth 16384

noncomputable section

namespace Cert.Opt.In

open Idealize.ShloMosaic Idealize.SL.Sem

section

open Cert.KernelAdamInIdeal Cert.KernelAdamInIdeal.Gen

theorem hz : (![0, 0] : Fin S256x641.rank → Nat) = fun _ => 0 := by funext a; fin_cases a <;> rfl

section
variable (x0 x1 x2 x3 : Vec Ideal S256x641 .f32)

/-- The body's second store is the new average of the gradient. -/
theorem out5 : out0_5 x0 x1 x2 x3 = fun y => newM (x1 y) (x2 y) := by
  unfold out0_5
  rw [View.canon_unit_zero (S := S256x641) hz]
  simp only [View.ld_unit_zero (S := S256x641) hz, k0_pay2, k0_pay1, shapeCast_self]
  rfl

/-- Its third is the new average of the square. -/
theorem out6 : out0_6 x0 x1 x2 x3 = fun y => newV (x1 y) (x3 y) := by
  unfold out0_6
  rw [View.canon_unit_zero (S := S256x641) hz]
  simp only [View.ld_unit_zero (S := S256x641) hz, k0_pay3, k0_pay1, shapeCast_self]
  rfl

/-- Its first is the weight's change. -/
theorem out4 : out0_4 x0 x1 x2 x3 = fun y => delta (x0 y) (x1 y) (x2 y) (x3 y) := by
  unfold out0_4
  rw [View.canon_unit_zero (S := S256x641) hz]
  simp only [View.ld_unit_zero (S := S256x641) hz, k0_pay4, k0_pay3, k0_pay2, k0_pay1, shapeCast_self]
  funext y
  exact delta_eq (x0 y) (x1 y) (x2 y) (x3 y) (Named.named (F := Ideal) κ "inv_corr1" (φ := .f32) 0x3FC48605#32)
    (Named.named (F := Ideal) κ "inv_corr2" (φ := .f32) 0x42C8E6D3#32)
    (IdealRules.named_const.ideal_named_scalar _ _ _ _ rfl) (IdealRules.named_const.ideal_named_scalar _ _ _ _ rfl)

end

/-- Window 4 walks down the rows. -/
theorem idx4 : ∀ t : Fin cfg0.N, win0_4.index t 0 = t.val ∧ win0_4.index t 1 = 0 :=
  (by decide +kernel : ∀ t : Fin grid0.N, win0_4.index t 0 = t.val ∧ win0_4.index t 1 = 0)

variable (m : (ℓ : Loc nD τ sig) → Buf (Elt Ideal) ℓ) (c : Dev nD)

/-- Every row is written: by the point that walks past it. -/
theorem cover4 (i : S2048x641.Idx) : ∃ t : Fin cfg0.N, i ∈ ((View.whole main_v4_0).slice (win0_4.rect t)).set := by
  have h0 : (i 0 : Fin 2048).val < 2048 := (i 0).isLt
  have h1 : (i 1 : Fin 641).val < 641 := (i 1).isLt
  have ht : (i 0 : Fin 2048).val / 256 < cfg0.N := by rw [show cfg0.N = 8 from N_0]; omega
  refine ⟨⟨(i 0 : Fin 2048).val / 256, ht⟩, ?_⟩
  rw [View.set_slice_whole, Rect.mem_set_unit]
  have hi := idx4 ⟨(i 0 : Fin 2048).val / 256, ht⟩
  intro a
  match a with
  | ⟨0, _⟩ => exact walk (by norm_num) hi.1
  | ⟨1, _⟩ => exact stay hi.2 h1

/-- The three result arrays. -/
theorem final4 : (dats m 0 c).arrAt 4 cfg0.N
    = (fun i : S2048x641.Idx => delta (V m c main_v0 i) (V m c main_v1 i) (V m c main_v2 i) (V m c main_v3 i)) :=
  (dats m 0 c).arrAt_eq_of_cover 4
    (fun i : S2048x641.Idx => delta (V m c main_v0 i) (V m c main_v1 i) (V m c main_v2 i) (V m c main_v3 i))
    (fun t _ => by rw [Value.flushed4, out4]; rfl) fun i => (cover4 i).imp fun t h => ⟨flush0_4 t, h⟩

theorem final5 : (dats m 0 c).arrAt 5 cfg0.N = (fun i : S2048x641.Idx => newM (V m c main_v1 i) (V m c main_v2 i)) :=
  (dats m 0 c).arrAt_eq_of_cover 5 (fun i : S2048x641.Idx => newM (V m c main_v1 i) (V m c main_v2 i))
    (fun t _ => by rw [Value.flushed5, out5]; rfl) fun i => (cover4 i).imp fun t h => ⟨flush0_5 t, h⟩

theorem final6 : (dats m 0 c).arrAt 6 cfg0.N = (fun i : S2048x641.Idx => newV (V m c main_v1 i) (V m c main_v3 i)) :=
  (dats m 0 c).arrAt_eq_of_cover 6 (fun i : S2048x641.Idx => newV (V m c main_v1 i) (V m c main_v3 i))
    (fun t _ => by rw [Value.flushed6, out6]; rfl) fun i => (cover4 i).imp fun t h => ⟨flush0_6 t, h⟩

/-- The arrays the kernel reads are the arguments, flattened to rows. -/
theorem V_v0 : V m c main_v0 = shapeCast S2048x641 (m ((c.tc : Thread nD τ).loc main_arg0)) shapeCasts_S2x1024x641_S2048x641 := by
  unfold V
  after_reads_simp
  rfl
theorem V_v1 : V m c main_v1 = shapeCast S2048x641 (m ((c.tc : Thread nD τ).loc main_arg1)) shapeCasts_S2x1024x641_S2048x641 := by
  unfold V
  after_reads_simp
  rfl
theorem V_v2 : V m c main_v2 = shapeCast S2048x641 (m ((c.tc : Thread nD τ).loc main_arg2)) shapeCasts_S2x1024x641_S2048x641 := by
  unfold V
  after_reads_simp
  rfl
theorem V_v3 : V m c main_v3 = shapeCast S2048x641 (m ((c.tc : Thread nD τ).loc main_arg3)) shapeCasts_S2x1024x641_S2048x641 := by
  unfold V
  after_reads_simp
  rfl

end

/-- The two constants the kernel names are the numbers the certificate gives. -/
theorem preserves : Cert.preserves_KernelAdamIn_KernelAdamInIdeal :=
  ⟨IdealRules.named_const.statement Cert.KernelAdamInIdeal.κ _ _ _ _ rfl,
    IdealRules.named_const.statement Cert.KernelAdamInIdeal.κ _ _ _ _ rfl⟩

/-- The reference terminates and leaves its arguments as they were. -/
theorem frame_ref : Cert.quiescent_ReferenceAdamInIdeal := fun m ρ _ =>
  (θ_run Cert.ReferenceAdamInIdeal.defs _ _).mono (fun r h => ⟨fun c => (h c).2.2.2,
      Idealize.ShloMosaic.sem_eq_zero_of_no_sems (by decide) r.2⟩)
    (Cert.ReferenceAdamInIdeal.Value.run (F := Ideal) m ρ)

/-- From memories that agree on the arguments, the kernel's program and the reference end with equal results. -/
theorem algebraic : Cert.algebraic_KernelAdamInIdeal_ReferenceAdamInIdeal := by
  intro m ρ m' ρ' _ hagree
  refine ⟨_, _, _, Cert.KernelAdamInIdeal.Value.run_blocks (F := Ideal) m ρ, ?_⟩
  refine (θ_run Cert.ReferenceAdamInIdeal.defs _ _).mono (fun r h c => ?_)
    (Cert.ReferenceAdamInIdeal.Value.run (F := Ideal) m' ρ')
  obtain ⟨h0, h1, h2, hargs⟩ := h c
  obtain ⟨a0, a1, a2, a3⟩ := hagree c
  refine ⟨h0.trans ?_, h1.trans ?_, h2.trans ?_, hargs⟩
  · rw [Cert.ReferenceAdamInIdeal.Read.val_main_v24_eq, final4, a0, a1, a2, a3, V_v0, V_v1, V_v2, V_v3]; rfl
  · rw [Cert.ReferenceAdamInIdeal.Read.val_main_v25_eq, final5, a1, a2, V_v1, V_v2]; rfl
  · rw [Cert.ReferenceAdamInIdeal.Read.val_main_v26_eq, final6, a1, a3, V_v1, V_v3]; rfl

end Cert.Opt.In

end
-- ==== Proof.AdamOutClaims.lean ====
/-
  The optimiser's update of the mixer's projection out: what the kernel leaves in its three result arrays, entry by entry of the
  flattened arguments, and the claims about it.
-/
module

public import proofs.«01_k».proof.Proof.AdamSpec
public import proofs.«01_k».proof.Defs
public import proofs.«01_k».proof.Proof.Gen.KernelAdamOutIdeal.Value
public import proofs.«01_k».proof.Proof.Gen.ReferenceAdamOutIdeal.Read
public import proofs.«01_k».proof.Proof.Gen.ReferenceAdamOutIdeal.Run
public import Idealize.ShloMosaic.Lib.KernelVsHost
public import Idealize.ShloMosaic.Lib.Quiescent
public import Idealize.ShloMosaic.Lib.StableHlo.ReadAt

@[expose] public section

set_option maxRecDepth 16384

noncomputable section

namespace Cert.Opt.Out

open Idealize.ShloMosaic Idealize.SL.Sem

section

open Cert.KernelAdamOutIdeal Cert.KernelAdamOutIdeal.Gen

theorem hz : (![0, 0] : Fin S256x1024.rank → Nat) = fun _ => 0 := by funext a; fin_cases a <;> rfl

section
variable (x0 x1 x2 x3 : Vec Ideal S256x1024 .f32)

/-- The body's second store is the new average of the gradient. -/
theorem out5 : out0_5 x0 x1 x2 x3 = fun y => newM (x1 y) (x2 y) := by
  unfold out0_5
  rw [View.canon_unit_zero (S := S256x1024) hz]
  simp only [View.ld_unit_zero (S := S256x1024) hz, k0_pay2, k0_pay1, shapeCast_self]
  rfl

/-- Its third is the new average of the square. -/
theorem out6 : out0_6 x0 x1 x2 x3 = fun y => newV (x1 y) (x3 y) := by
  unfold out0_6
  rw [View.canon_unit_zero (S := S256x1024) hz]
  simp only [View.ld_unit_zero (S := S256x1024) hz, k0_pay3, k0_pay1, shapeCast_self]
  rfl

/-- Its first is the weight's change. -/
theorem out4 : out0_4 x0 x1 x2 x3 = fun y => delta (x0 y) (x1 y) (x2 y) (x3 y) := by
  unfold out0_4
  rw [View.canon_unit_zero (S := S256x1024) hz]
  simp only [View.ld_unit_zero (S := S256x1024) hz, k0_pay4, k0_pay3, k0_pay2, k0_pay1, shapeCast_self]
  funext y
  exact delta_eq (x0 y) (x1 y) (x2 y) (x3 y) (Named.named (F := Ideal) κ "inv_corr1" (φ := .f32) 0x3FC48605#32)
    (Named.named (F := Ideal) κ "inv_corr2" (φ := .f32) 0x42C8E6D3#32)
    (IdealRules.named_const.ideal_named_scalar _ _ _ _ rfl) (IdealRules.named_const.ideal_named_scalar _ _ _ _ rfl)

end

/-- Window 4 walks down the rows. -/
theorem idx4 : ∀ t : Fin cfg0.N, win0_4.index t 0 = t.val ∧ win0_4.index t 1 = 0 :=
  (by decide +kernel : ∀ t : Fin grid0.N, win0_4.index t 0 = t.val ∧ win0_4.index t 1 = 0)

variable (m : (ℓ : Loc nD τ sig) → Buf (Elt Ideal) ℓ) (c : Dev nD)

/-- Every row is written: by the point that walks past it. -/
theorem cover4 (i : S512x1024.Idx) : ∃ t : Fin cfg0.N, i ∈ ((View.whole main_v4_0).slice (win0_4.rect t)).set := by
  have h0 : (i 0 : Fin 512).val < 512 := (i 0).isLt
  have h1 : (i 1 : Fin 1024).val < 1024 := (i 1).isLt
  have ht : (i 0 : Fin 512).val / 256 < cfg0.N := by rw [show cfg0.N = 2 from N_0]; omega
  refine ⟨⟨(i 0 : Fin 512).val / 256, ht⟩, ?_⟩
  rw [View.set_slice_whole, Rect.mem_set_unit]
  have hi := idx4 ⟨(i 0 : Fin 512).val / 256, ht⟩
  intro a
  match a with
  | ⟨0, _⟩ => exact walk (by norm_num) hi.1
  | ⟨1, _⟩ => exact stay hi.2 h1

/-- The three result arrays. -/
theorem final4 : (dats m 0 c).arrAt 4 cfg0.N
    = (fun i : S512x1024.Idx => delta (V m c main_v0 i) (V m c main_v1 i) (V m c main_v2 i) (V m c main_v3 i)) :=
  (dats m 0 c).arrAt_eq_of_cover 4
    (fun i : S512x1024.Idx => delta (V m c main_v0 i) (V m c main_v1 i) (V m c main_v2 i) (V m c main_v3 i))
    (fun t _ => by rw [Value.flushed4, out4]; rfl) fun i => (cover4 i).imp fun t h => ⟨flush0_4 t, h⟩

theorem final5 : (dats m 0 c).arrAt 5 cfg0.N = (fun i : S512x1024.Idx => newM (V m c main_v1 i) (V m c main_v2 i)) :=
  (dats m 0 c).arrAt_eq_of_cover 5 (fun i : S512x1024.Idx => newM (V m c main_v1 i) (V m c main_v2 i))
    (fun t _ => by rw [Value.flushed5, out5]; rfl) fun i => (cover4 i).imp fun t h => ⟨flush0_5 t, h⟩

theorem final6 : (dats m 0 c).arrAt 6 cfg0.N = (fun i : S512x1024.Idx => newV (V m c main_v1 i) (V m c main_v3 i)) :=
  (dats m 0 c).arrAt_eq_of_cover 6 (fun i : S512x1024.Idx => newV (V m c main_v1 i) (V m c main_v3 i))
    (fun t _ => by rw [Value.flushed6, out6]; rfl) fun i => (cover4 i).imp fun t h => ⟨flush0_6 t, h⟩

/-- The arrays the kernel reads are the arguments, flattened to rows. -/
theorem V_v0 : V m c main_v0 = shapeCast S512x1024 (m ((c.tc : Thread nD τ).loc main_arg0)) shapeCasts_S2x256x1024_S512x1024 := by
  unfold V
  after_reads_simp
  rfl
theorem V_v1 : V m c main_v1 = shapeCast S512x1024 (m ((c.tc : Thread nD τ).loc main_arg1)) shapeCasts_S2x256x1024_S512x1024 := by
  unfold V
  after_reads_simp
  rfl
theorem V_v2 : V m c main_v2 = shapeCast S512x1024 (m ((c.tc : Thread nD τ).loc main_arg2)) shapeCasts_S2x256x1024_S512x1024 := by
  unfold V
  after_reads_simp
  rfl
theorem V_v3 : V m c main_v3 = shapeCast S512x1024 (m ((c.tc : Thread nD τ).loc main_arg3)) shapeCasts_S2x256x1024_S512x1024 := by
  unfold V
  after_reads_simp
  rfl

end

/-- The two constants the kernel names are the numbers the certificate gives. -/
theorem preserves : Cert.preserves_KernelAdamOut_KernelAdamOutIdeal :=
  ⟨IdealRules.named_const.statement Cert.KernelAdamOutIdeal.κ _ _ _ _ rfl,
    IdealRules.named_const.statement Cert.KernelAdamOutIdeal.κ _ _ _ _ rfl⟩

/-- The reference terminates and leaves its arguments as they were. -/
theorem frame_ref : Cert.quiescent_ReferenceAdamOutIdeal := fun m ρ _ =>
  (θ_run Cert.ReferenceAdamOutIdeal.defs _ _).mono (fun r h => ⟨fun c => (h c).2.2.2,
      Idealize.ShloMosaic.sem_eq_zero_of_no_sems (by decide) r.2⟩)
    (Cert.ReferenceAdamOutIdeal.Value.run (F := Ideal) m ρ)

/-- From memories that agree on the arguments, the kernel's program and the reference end with equal results. -/
theorem algebraic : Cert.algebraic_KernelAdamOutIdeal_ReferenceAdamOutIdeal := by
  intro m ρ m' ρ' _ hagree
  refine ⟨_, _, _, Cert.KernelAdamOutIdeal.Value.run_blocks (F := Ideal) m ρ, ?_⟩
  refine (θ_run Cert.ReferenceAdamOutIdeal.defs _ _).mono (fun r h c => ?_)
    (Cert.ReferenceAdamOutIdeal.Value.run (F := Ideal) m' ρ')
  obtain ⟨h0, h1, h2, hargs⟩ := h c
  obtain ⟨a0, a1, a2, a3⟩ := hagree c
  refine ⟨h0.trans ?_, h1.trans ?_, h2.trans ?_, hargs⟩
  · rw [Cert.ReferenceAdamOutIdeal.Read.val_main_v24_eq, final4, a0, a1, a2, a3, V_v0, V_v1, V_v2, V_v3]; rfl
  · rw [Cert.ReferenceAdamOutIdeal.Read.val_main_v25_eq, final5, a1, a2, V_v1, V_v2]; rfl
  · rw [Cert.ReferenceAdamOutIdeal.Read.val_main_v26_eq, final6, a1, a3, V_v1, V_v3]; rfl

end Cert.Opt.Out

end
-- ==== Proof.AdamAdaClaims.lean ====
/-
  The optimiser's update of the weight that makes the modulation: what the kernel leaves in its three result arrays, entry by entry of the
  flattened arguments, and the claims about it.
-/
module

public import proofs.«01_k».proof.Proof.AdamSpec
public import proofs.«01_k».proof.Defs
public import proofs.«01_k».proof.Proof.Gen.KernelAdamAdaIdeal.Value
public import proofs.«01_k».proof.Proof.Gen.ReferenceAdamAdaIdeal.Read
public import proofs.«01_k».proof.Proof.Gen.ReferenceAdamAdaIdeal.Run
public import Idealize.ShloMosaic.Lib.KernelVsHost
public import Idealize.ShloMosaic.Lib.Quiescent
public import Idealize.ShloMosaic.Lib.StableHlo.ReadAt

@[expose] public section

set_option maxRecDepth 16384

noncomputable section

namespace Cert.Opt.Ada

open Idealize.ShloMosaic Idealize.SL.Sem

section

open Cert.KernelAdamAdaIdeal Cert.KernelAdamAdaIdeal.Gen

theorem hz : (![0, 0] : Fin S64x2304.rank → Nat) = fun _ => 0 := by funext a; fin_cases a <;> rfl

section
variable (x0 x1 x2 x3 : Vec Ideal S64x2304 .f32)

/-- The body's second store is the new average of the gradient. -/
theorem out5 : out0_5 x0 x1 x2 x3 = fun y => newM (x1 y) (x2 y) := by
  unfold out0_5
  rw [View.canon_unit_zero (S := S64x2304) hz]
  simp only [View.ld_unit_zero (S := S64x2304) hz, k0_pay2, k0_pay1, shapeCast_self]
  rfl

/-- Its third is the new average of the square. -/
theorem out6 : out0_6 x0 x1 x2 x3 = fun y => newV (x1 y) (x3 y) := by
  unfold out0_6
  rw [View.canon_unit_zero (S := S64x2304) hz]
  simp only [View.ld_unit_zero (S := S64x2304) hz, k0_pay3, k0_pay1, shapeCast_self]
  rfl

/-- Its first is the weight's change. -/
theorem out4 : out0_4 x0 x1 x2 x3 = fun y => delta (x0 y) (x1 y) (x2 y) (x3 y) := by
  unfold out0_4
  rw [View.canon_unit_zero (S := S64x2304) hz]
  simp only [View.ld_unit_zero (S := S64x2304) hz, k0_pay4, k0_pay3, k0_pay2, k0_pay1, shapeCast_self]
  funext y
  exact delta_eq (x0 y) (x1 y) (x2 y) (x3 y) (Named.named (F := Ideal) κ "inv_corr1" (φ := .f32) 0x3FC48605#32)
    (Named.named (F := Ideal) κ "inv_corr2" (φ := .f32) 0x42C8E6D3#32)
    (IdealRules.named_const.ideal_named_scalar _ _ _ _ rfl) (IdealRules.named_const.ideal_named_scalar _ _ _ _ rfl)

end

/-- Window 4 walks down the rows. -/
theorem idx4 : ∀ t : Fin cfg0.N, win0_4.index t 0 = t.val ∧ win0_4.index t 1 = 0 :=
  (by decide +kernel : ∀ t : Fin grid0.N, win0_4.index t 0 = t.val ∧ win0_4.index t 1 = 0)

variable (m : (ℓ : Loc nD τ sig) → Buf (Elt Ideal) ℓ) (c : Dev nD)

/-- Every row is written: by the point that walks past it. -/
theorem cover4 (i : S2048x2304.Idx) : ∃ t : Fin cfg0.N, i ∈ ((View.whole main_v4_0).slice (win0_4.rect t)).set := by
  have h0 : (i 0 : Fin 2048).val < 2048 := (i 0).isLt
  have h1 : (i 1 : Fin 2304).val < 2304 := (i 1).isLt
  have ht : (i 0 : Fin 2048).val / 64 < cfg0.N := by rw [show cfg0.N = 32 from N_0]; omega
  refine ⟨⟨(i 0 : Fin 2048).val / 64, ht⟩, ?_⟩
  rw [View.set_slice_whole, Rect.mem_set_unit]
  have hi := idx4 ⟨(i 0 : Fin 2048).val / 64, ht⟩
  intro a
  match a with
  | ⟨0, _⟩ => exact walk (by norm_num) hi.1
  | ⟨1, _⟩ => exact stay hi.2 h1

/-- The three result arrays. -/
theorem final4 : (dats m 0 c).arrAt 4 cfg0.N
    = (fun i : S2048x2304.Idx => delta (V m c main_v0 i) (V m c main_v1 i) (V m c main_v2 i) (V m c main_v3 i)) :=
  (dats m 0 c).arrAt_eq_of_cover 4
    (fun i : S2048x2304.Idx => delta (V m c main_v0 i) (V m c main_v1 i) (V m c main_v2 i) (V m c main_v3 i))
    (fun t _ => by rw [Value.flushed4, out4]; rfl) fun i => (cover4 i).imp fun t h => ⟨flush0_4 t, h⟩

theorem final5 : (dats m 0 c).arrAt 5 cfg0.N = (fun i : S2048x2304.Idx => newM (V m c main_v1 i) (V m c main_v2 i)) :=
  (dats m 0 c).arrAt_eq_of_cover 5 (fun i : S2048x2304.Idx => newM (V m c main_v1 i) (V m c main_v2 i))
    (fun t _ => by rw [Value.flushed5, out5]; rfl) fun i => (cover4 i).imp fun t h => ⟨flush0_5 t, h⟩

theorem final6 : (dats m 0 c).arrAt 6 cfg0.N = (fun i : S2048x2304.Idx => newV (V m c main_v1 i) (V m c main_v3 i)) :=
  (dats m 0 c).arrAt_eq_of_cover 6 (fun i : S2048x2304.Idx => newV (V m c main_v1 i) (V m c main_v3 i))
    (fun t _ => by rw [Value.flushed6, out6]; rfl) fun i => (cover4 i).imp fun t h => ⟨flush0_6 t, h⟩

/-- The arrays the kernel reads are the arguments, flattened to rows. -/
theorem V_v0 : V m c main_v0 = shapeCast S2048x2304 (m ((c.tc : Thread nD τ).loc main_arg0)) shapeCasts_S2x1024x2304_S2048x2304 := by
  unfold V
  after_reads_simp
  rfl
theorem V_v1 : V m c main_v1 = shapeCast S2048x2304 (m ((c.tc : Thread nD τ).loc main_arg1)) shapeCasts_S2x1024x2304_S2048x2304 := by
  unfold V
  after_reads_simp
  rfl
theorem V_v2 : V m c main_v2 = shapeCast S2048x2304 (m ((c.tc : Thread nD τ).loc main_arg2)) shapeCasts_S2x1024x2304_S2048x2304 := by
  unfold V
  after_reads_simp
  rfl
theorem V_v3 : V m c main_v3 = shapeCast S2048x2304 (m ((c.tc : Thread nD τ).loc main_arg3)) shapeCasts_S2x1024x2304_S2048x2304 := by
  unfold V
  after_reads_simp
  rfl

end

/-- The two constants the kernel names are the numbers the certificate gives. -/
theorem preserves : Cert.preserves_KernelAdamAda_KernelAdamAdaIdeal :=
  ⟨IdealRules.named_const.statement Cert.KernelAdamAdaIdeal.κ _ _ _ _ rfl,
    IdealRules.named_const.statement Cert.KernelAdamAdaIdeal.κ _ _ _ _ rfl⟩

/-- The reference terminates and leaves its arguments as they were. -/
theorem frame_ref : Cert.quiescent_ReferenceAdamAdaIdeal := fun m ρ _ =>
  (θ_run Cert.ReferenceAdamAdaIdeal.defs _ _).mono (fun r h => ⟨fun c => (h c).2.2.2,
      Idealize.ShloMosaic.sem_eq_zero_of_no_sems (by decide) r.2⟩)
    (Cert.ReferenceAdamAdaIdeal.Value.run (F := Ideal) m ρ)

/-- From memories that agree on the arguments, the kernel's program and the reference end with equal results. -/
theorem algebraic : Cert.algebraic_KernelAdamAdaIdeal_ReferenceAdamAdaIdeal := by
  intro m ρ m' ρ' _ hagree
  refine ⟨_, _, _, Cert.KernelAdamAdaIdeal.Value.run_blocks (F := Ideal) m ρ, ?_⟩
  refine (θ_run Cert.ReferenceAdamAdaIdeal.defs _ _).mono (fun r h c => ?_)
    (Cert.ReferenceAdamAdaIdeal.Value.run (F := Ideal) m' ρ')
  obtain ⟨h0, h1, h2, hargs⟩ := h c
  obtain ⟨a0, a1, a2, a3⟩ := hagree c
  refine ⟨h0.trans ?_, h1.trans ?_, h2.trans ?_, hargs⟩
  · rw [Cert.ReferenceAdamAdaIdeal.Read.val_main_v24_eq, final4, a0, a1, a2, a3, V_v0, V_v1, V_v2, V_v3]; rfl
  · rw [Cert.ReferenceAdamAdaIdeal.Read.val_main_v25_eq, final5, a1, a2, V_v1, V_v2]; rfl
  · rw [Cert.ReferenceAdamAdaIdeal.Read.val_main_v26_eq, final6, a1, a3, V_v1, V_v3]; rfl

end Cert.Opt.Ada

end
-- ==== Proof.AdamSmallClaims.lean ====
/-
  The optimiser's update of the small weights, packed into rows: what the kernel leaves in its three result arrays, entry by
  entry of the arguments, and the claims about it. One block holds all the rows.
-/
module

public import proofs.«01_k».proof.Proof.AdamSpec
public import proofs.«01_k».proof.Defs
public import proofs.«01_k».proof.Proof.Gen.KernelAdamSmallIdeal.Value
public import proofs.«01_k».proof.Proof.Gen.ReferenceAdamSmallIdeal.Read
public import proofs.«01_k».proof.Proof.Gen.ReferenceAdamSmallIdeal.Run
public import Idealize.ShloMosaic.Lib.KernelVsHost
public import Idealize.ShloMosaic.Lib.Quiescent
public import Idealize.ShloMosaic.Lib.StableHlo.ReadAt

@[expose] public section

set_option maxRecDepth 16384

noncomputable section

namespace Cert.Opt.Small

open Idealize.ShloMosaic Idealize.SL.Sem

section

open Cert.KernelAdamSmallIdeal Cert.KernelAdamSmallIdeal.Gen

theorem hz : (![0, 0] : Fin S160x1024.rank → Nat) = fun _ => 0 := by funext a; fin_cases a <;> rfl

section
variable (x0 x1 x2 x3 : Vec Ideal S160x1024 .f32)

/-- The body's second store is the new average of the gradient. -/
theorem out5 : out0_5 x0 x1 x2 x3 = fun y => newM (x1 y) (x2 y) := by
  unfold out0_5
  rw [View.canon_unit_zero (S := S160x1024) hz]
  simp only [View.ld_unit_zero (S := S160x1024) hz]
  rfl

/-- Its third is the new average of the square. -/
theorem out6 : out0_6 x0 x1 x2 x3 = fun y => newV (x1 y) (x3 y) := by
  unfold out0_6
  rw [View.canon_unit_zero (S := S160x1024) hz]
  simp only [View.ld_unit_zero (S := S160x1024) hz]
  rfl

/-- Its first is the weight's change. -/
theorem out4 : out0_4 x0 x1 x2 x3 = fun y => delta (x0 y) (x1 y) (x2 y) (x3 y) := by
  unfold out0_4
  rw [View.canon_unit_zero (S := S160x1024) hz]
  simp only [View.ld_unit_zero (S := S160x1024) hz]
  funext y
  exact delta_eq (x0 y) (x1 y) (x2 y) (x3 y) (Named.named (F := Ideal) κ "inv_corr1" (φ := .f32) 0x3FC48605#32)
    (Named.named (F := Ideal) κ "inv_corr2" (φ := .f32) 0x42C8E6D3#32)
    (IdealRules.named_const.ideal_named_scalar _ _ _ _ rfl) (IdealRules.named_const.ideal_named_scalar _ _ _ _ rfl)

end

/-- Window 4 is the whole array. -/
theorem idx4 : ∀ t : Fin cfg0.N, win0_4.index t 0 = t.val ∧ win0_4.index t 1 = 0 :=
  (by decide +kernel : ∀ t : Fin grid0.N, win0_4.index t 0 = t.val ∧ win0_4.index t 1 = 0)

variable (m : (ℓ : Loc nD τ sig) → Buf (Elt Ideal) ℓ) (c : Dev nD)

/-- Every row is written by the one point. -/
theorem cover4 (i : S160x1024.Idx) : ∃ t : Fin cfg0.N, i ∈ ((View.whole main_v0_0).slice (win0_4.rect t)).set := by
  have h0 : (i 0 : Fin 160).val < 160 := (i 0).isLt
  have h1 : (i 1 : Fin 1024).val < 1024 := (i 1).isLt
  have ht : (i 0 : Fin 160).val / 160 < cfg0.N := by rw [show cfg0.N = 1 from N_0]; omega
  refine ⟨⟨(i 0 : Fin 160).val / 160, ht⟩, ?_⟩
  rw [View.set_slice_whole, Rect.mem_set_unit]
  have hi := idx4 ⟨(i 0 : Fin 160).val / 160, ht⟩
  intro a
  match a with
  | ⟨0, _⟩ => exact walk (by norm_num) hi.1
  | ⟨1, _⟩ => exact stay hi.2 h1

/-- The three result arrays. -/
theorem final4 : (dats m 0 c).arrAt 4 cfg0.N
    = (fun i : S160x1024.Idx => delta (V m c main_arg0 i) (V m c main_arg1 i) (V m c main_arg2 i) (V m c main_arg3 i)) :=
  (dats m 0 c).arrAt_eq_of_cover 4
    (fun i : S160x1024.Idx => delta (V m c main_arg0 i) (V m c main_arg1 i) (V m c main_arg2 i) (V m c main_arg3 i))
    (fun t _ => by rw [Value.flushed4, out4]; rfl) fun i => (cover4 i).imp fun t h => ⟨flush0_4 t, h⟩

theorem final5 : (dats m 0 c).arrAt 5 cfg0.N = (fun i : S160x1024.Idx => newM (V m c main_arg1 i) (V m c main_arg2 i)) :=
  (dats m 0 c).arrAt_eq_of_cover 5 (fun i : S160x1024.Idx => newM (V m c main_arg1 i) (V m c main_arg2 i))
    (fun t _ => by rw [Value.flushed5, out5]; rfl) fun i => (cover4 i).imp fun t h => ⟨flush0_5 t, h⟩

theorem final6 : (dats m 0 c).arrAt 6 cfg0.N = (fun i : S160x1024.Idx => newV (V m c main_arg1 i) (V m c main_arg3 i)) :=
  (dats m 0 c).arrAt_eq_of_cover 6 (fun i : S160x1024.Idx => newV (V m c main_arg1 i) (V m c main_arg3 i))
    (fun t _ => by rw [Value.flushed6, out6]; rfl) fun i => (cover4 i).imp fun t h => ⟨flush0_6 t, h⟩

end

/-- The two constants the kernel names are the numbers the certificate gives. -/
theorem preserves : Cert.preserves_KernelAdamSmall_KernelAdamSmallIdeal :=
  ⟨IdealRules.named_const.statement Cert.KernelAdamSmallIdeal.κ _ _ _ _ rfl,
    IdealRules.named_const.statement Cert.KernelAdamSmallIdeal.κ _ _ _ _ rfl⟩

/-- The reference terminates and leaves its arguments as they were. -/
theorem frame_ref : Cert.quiescent_ReferenceAdamSmallIdeal := fun m ρ _ =>
  (θ_run Cert.ReferenceAdamSmallIdeal.defs _ _).mono (fun r h => ⟨fun c => (h c).2.2.2,
      Idealize.ShloMosaic.sem_eq_zero_of_no_sems (by decide) r.2⟩)
    (Cert.ReferenceAdamSmallIdeal.Value.run (F := Ideal) m ρ)

/-- From memories that agree on the arguments, the kernel's program and the reference end with equal results. -/
theorem algebraic : Cert.algebraic_KernelAdamSmallIdeal_ReferenceAdamSmallIdeal := by
  intro m ρ m' ρ' _ hagree
  refine ⟨_, _, _, Cert.KernelAdamSmallIdeal.Value.run_blocks (F := Ideal) m ρ, ?_⟩
  refine (θ_run Cert.ReferenceAdamSmallIdeal.defs _ _).mono (fun r h c => ?_)
    (Cert.ReferenceAdamSmallIdeal.Value.run (F := Ideal) m' ρ')
  obtain ⟨h0, h1, h2, hargs⟩ := h c
  obtain ⟨a0, a1, a2, a3⟩ := hagree c
  refine ⟨h0.trans ?_, h1.trans ?_, h2.trans ?_, hargs⟩
  · rw [Cert.ReferenceAdamSmallIdeal.Read.val_main_v23_eq, final4, a0, a1, a2, a3]; rfl
  · rw [Cert.ReferenceAdamSmallIdeal.Read.val_main_v4_eq, final5, a1, a2]; rfl
  · rw [Cert.ReferenceAdamSmallIdeal.Read.val_main_v10_eq, final6, a1, a3]; rfl

end Cert.Opt.Small

end
-- ==== Proof.LossSums.lean ====
/-
  The loss as a sum of squares over the extended reals. The kernel adds sixteen blocks of 512 tokens, each scaled before it is
  added; the reference scales each token's sum and, at the end, the whole. The terms are squares, none negative, so the scale
  can be taken out of the sums whether or not they are finite.
-/
module

public import proofs.«01_k».proof.Proof.WgtSums

@[expose] public section

noncomputable section

namespace Cert.Loss

open Finset
open Cert.Weight (bt ps)

theorem sq_nonneg (d : EReal) : 0 ≤ d * d := by
  rcases le_total 0 d with h | h
  · exact mul_nonneg h h
  · have h' : 0 ≤ -d := EReal.neg_nonneg.2 h
    rw [← neg_mul_neg]
    exact mul_nonneg h' h'

/-- A scale taken out of a sum of terms that are not negative. -/
theorem mul_sum_nonneg {ι : Type} (s : Finset ι) (f : ι → EReal) (hf : ∀ i, 0 ≤ f i) (a : EReal) :
    a * ∑ i ∈ s, f i = ∑ i ∈ s, a * f i := by
  classical
  induction s using Finset.induction_on with
  | empty => rw [sum_empty, sum_empty, mul_zero]
  | insert i s hi ih =>
    rw [sum_insert hi, sum_insert hi, ← ih, EReal.left_distrib_of_nonneg (hf i) (sum_nonneg fun j _ => hf j)]

/-- Token `r` of block `q` of 512. -/
def tok (q : ℕ) (r : Fin 512) : Fin 8192 := ⟨512 * (q % 16) + r.val, by omega⟩

/-- Sixteen blocks of 512 tokens are the two sequences. -/
theorem sum_tokens (F : Fin 2 → Fin 4096 → EReal) :
    ∑ q ∈ range 16, ∑ r : Fin 512, F (bt (tok q r)) (ps (tok q r)) = ∑ b, ∑ s, F b s := by
  have e1 : ∑ q ∈ range 16, ∑ r : Fin 512, F (bt (tok q r)) (ps (tok q r)) = ∑ t : Fin 8192, F (bt t) (ps t) := by
    rw [Finset.sum_range, ← Equiv.sum_comp (finProdFinEquiv (m := 16) (n := 512)) fun t : Fin 8192 => F (bt t) (ps t),
      Fintype.sum_prod_type]
    refine sum_congr rfl fun q _ => sum_congr rfl fun r _ => ?_
    have e : tok q.val r = finProdFinEquiv (m := 16) (n := 512) (q, r) := Fin.ext (by
      show 512 * (q.val % 16) + r.val = r.val + 512 * q.val
      omega)
    rw [e]
  rw [e1, ← Equiv.sum_comp (finProdFinEquiv (m := 2) (n := 4096)) fun t : Fin 8192 => F (bt t) (ps t), Fintype.sum_prod_type]
  refine sum_congr rfl fun b _ => sum_congr rfl fun s _ => ?_
  have h : (finProdFinEquiv (m := 2) (n := 4096) (b, s)).val = s.val + 4096 * b.val := rfl
  refine congrArg₂ F (Fin.ext ?_) (Fin.ext ?_)
  · show (finProdFinEquiv (m := 2) (n := 4096) (b, s)).val / 4096 = b.val
    omega
  · show (finProdFinEquiv (m := 2) (n := 4096) (b, s)).val % 4096 = s.val
    omega

variable (D : Fin 2 → Fin 4096 → Fin 1024 → EReal)

/-- The sum of the squared errors of block `q`. -/
def block (q : ℕ) : EReal :=
  ∑ k : Fin 1024, ∑ r : Fin 512, D (bt (tok q r)) (ps (tok q r)) k * D (bt (tok q r)) (ps (tok q r)) k

theorem block_nonneg (q : ℕ) : 0 ≤ block D q := sum_nonneg fun _ _ => sum_nonneg fun _ _ => sq_nonneg _

/-- The sum of the squared errors. -/
def total : EReal := ∑ b, ∑ s, ∑ k, D b s k * D b s k

/-- Half the sum over the tokens of the mean squared error. -/
def loss : EReal := ((1 / 2048 : ℝ) : EReal) * total D

/-- What the loss's block holds after point `n`. -/
def upto (n : ℕ) : EReal := ∑ q ∈ range (n + 1), ((1 / 2048 : ℝ) : EReal) * block D q

theorem upto_zero : upto D 0 = 0 + ((1 / 2048 : ℝ) : EReal) * block D 0 := by
  rw [upto, zero_add, Finset.sum_range_one, zero_add]

theorem upto_succ (n : ℕ) : upto D (n + 1) = upto D n + ((1 / 2048 : ℝ) : EReal) * block D (n + 1) :=
  Finset.sum_range_succ _ _

/-- After the last of the sixteen points it holds the loss. -/
theorem upto_last : upto D 15 = loss D := by
  unfold upto loss
  rw [← mul_sum_nonneg _ _ (block_nonneg D)]
  refine congrArg (_ * ·) ?_
  rw [total, ← sum_tokens fun b s => ∑ k, D b s k * D b s k]
  exact sum_congr rfl fun q _ => sum_comm

/-- Each token's sum divided by the width, summed and halved. -/
theorem means : ((1 / 2 : ℝ) : EReal) * ∑ b : Fin 2, ∑ s : Fin 4096, (∑ k, D b s k * D b s k) * ((1 / 1024 : ℝ) : EReal) = loss D := by
  have h : ∀ b s, 0 ≤ ∑ k, D b s k * D b s k := fun b s => sum_nonneg fun _ _ => sq_nonneg _
  have e : ∑ b : Fin 2, ∑ s : Fin 4096, (∑ k, D b s k * D b s k) * ((1 / 1024 : ℝ) : EReal) = ((1 / 1024 : ℝ) : EReal) * total D := by
    rw [total, mul_sum_nonneg _ _ fun b => sum_nonneg fun s _ => h b s]
    refine sum_congr rfl fun b _ => ?_
    rw [mul_sum_nonneg _ _ (h b)]
    exact sum_congr rfl fun s _ => mul_comm _ _
  rw [e, ← mul_assoc, ← EReal.coe_mul, loss]
  norm_num

end Cert.Loss

end
-- ==== Proof.LossPoint.lean ====
/-
  The loss: what one grid point leaves in its output blocks.
-/
module

public import proofs.«01_k».proof.Proof.Spec
public import proofs.«01_k».proof.Proof.Gen.KernelLossIdeal.Value
public import Idealize.ShloMosaic.Lib.VecWindow
public import Idealize.ShloMosaic.Lib.Pointwise

@[expose] public section

set_option maxRecDepth 16384

noncomputable section

namespace Cert.Loss

open Idealize.ShloMosaic Cert.KernelLossIdeal Cert.KernelLossIdeal.Gen
open Finset

/-- The kernel's two constants, exactly. -/
theorem w_1024th : Ideal.ofBits .f32 0x3A800000#32 = ((1 / 1024 : ℝ) : EReal) := by
  simp [Ideal.ofBits, Ideal.ieee, -EReal.coe_mul]; norm_num

theorem w_2048th : Ideal.ofBits .f32 0x3A000000#32 = ((1 / 2048 : ℝ) : EReal) := by
  simp [Ideal.ofBits, Ideal.ieee, -EReal.coe_mul]; norm_num

/-- The sum of the squared differences of two blocks. -/
def sq (x t : S512x1024.Idx → EReal) : EReal :=
  ∑ k : Fin 1024, ∑ r : Fin 512, (x (ix2 r k) - t (ix2 r k)) * (x (ix2 r k) - t (ix2 r k))

theorem p1 : k0_pay1 (F := Ideal) = fun _ => (0 : EReal) := by
  funext y
  pointwise [k0_pay1]

theorem p2 (x t : S512x1024.Idx → EReal) : k0_pay2 (F := Ideal) x t = fun y => x y - t y := by
  funext y
  pointwise [k0_pay2]

theorem p3 (x t : S512x1024.Idx → EReal) : k0_pay3 (F := Ideal) x t = fun y => (x y - t y) * ((1 / 1024 : ℝ) : EReal) := by
  funext y
  pointwise [k0_pay3]
  rw [p2, w_1024th]

theorem p4 (x t : S512x1024.Idx → EReal) (o : S8x128.Idx → EReal) :
    k0_pay4 (F := Ideal) x t o = fun y => o y + ((1 / 2048 : ℝ) : EReal) * sq x t := by
  funext y
  pointwise [k0_pay4]
  rw [p2, w_2048th]
  rfl

theorem hz2 : (![0, 0] : Fin 2 → Nat) = fun _ => 0 := by funext a; fin_cases a <;> rfl

variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S512x1024 .f32)
  (harg3 : arg3.IsWhole) (arg4 : Memref sig .tc .vmem S8x128 .f32) (harg4 : arg4.IsWhole)
  (x0 x1 : S512x1024.Idx → EReal) (xo : S8x128.Idx → EReal)

/-- The cotangent's block, at the first point and at the others. -/
theorem outA2 (hc0 : cond0_0 i) :
    out0_A_2 (F := Ideal) c i arg1 harg1 arg2 harg2 arg3 harg3 arg4 harg4 hc0 x0 x1
      = fun y => (x0 y - x1 y) * ((1 / 1024 : ℝ) : EReal) := by
  unfold out0_A_2
  rw [View.read_writes_eq_canon _ _ _ (cover0_A_2 (F := Ideal) c i arg1 harg1 arg2 harg2 arg3 harg3 arg4 harg4 hc0 x0 x1)]
  unfold kernelRun0_A
  dsimp only
  sl_unfold_words
  rw [View.canon_unit_zero (S := S512x1024) hz2]
  simp only [View.readAt_eq_ld, harg1.read_unread, harg2.read_unread]
  simp only [View.ld_unit_zero (S := S512x1024) hz2, p3]

theorem outB2 (hc0 : ¬cond0_0 i) :
    out0_B_2 (F := Ideal) c i arg1 harg1 arg2 harg2 arg3 harg3 arg4 harg4 hc0 x0 x1 xo
      = fun y => (x0 y - x1 y) * ((1 / 1024 : ℝ) : EReal) := by
  unfold out0_B_2
  rw [View.read_writes_eq_canon _ _ _ (cover0_B_2 (F := Ideal) c i arg1 harg1 arg2 harg2 arg3 harg3 arg4 harg4 hc0 x0 x1 xo)]
  unfold kernelRun0_B
  dsimp only
  sl_unfold_words
  rw [View.canon_unit_zero (S := S512x1024) hz2]
  simp only [View.readAt_eq_ld, harg1.read_unread, harg2.read_unread, harg4.read_unread]
  simp only [View.ld_unit_zero (S := S512x1024) hz2, p3]

/-- The loss's block: at the first point the block's part is added to zero, -/
theorem outA3 (hc0 : cond0_0 i) :
    out0_A_3 (F := Ideal) c i arg1 harg1 arg2 harg2 arg3 harg3 arg4 harg4 hc0 x0 x1
      = fun _ => 0 + ((1 / 2048 : ℝ) : EReal) * sq x0 x1 := by
  unfold out0_A_3
  unfold kernelRun0_A
  dsimp only
  sl_unfold_words
  refine (View.read_writes_full (s := S8x128) _ _ _ _ _).trans ?_
  rw [View.readCov_full (s := S8x128)]
  simp only [View.readAt_eq_ld, harg1.read_unread, harg2.read_unread]
  simp only [View.ld_unit_zero (S := S512x1024) hz2, View.ld_unit_zero (S := S8x128) hz2, p4, p1]

/-- at the others to what the point before left. -/
theorem outB3 (hc0 : ¬cond0_0 i) :
    out0_B_3 (F := Ideal) c i arg1 harg1 arg2 harg2 arg3 harg3 arg4 harg4 hc0 x0 x1 xo
      = fun y => xo y + ((1 / 2048 : ℝ) : EReal) * sq x0 x1 := by
  unfold out0_B_3
  rw [View.read_writes_eq_canon _ _ _ (cover0_B_3 (F := Ideal) c i arg1 harg1 arg2 harg2 arg3 harg3 arg4 harg4 hc0 x0 x1 xo)]
  unfold kernelRun0_B
  dsimp only
  sl_unfold_words
  rw [View.canon_unit_zero (S := S8x128) hz2]
  simp only [View.readAt_eq_ld, harg1.read_unread, harg2.read_unread, harg4.read_unread]
  simp only [View.ld_unit_zero (S := S512x1024) hz2, View.ld_unit_zero (S := S8x128) hz2, p4]

end Cert.Loss

end
-- ==== Proof.LossClaims.lean ====
/-
  The loss and its cotangent: what the kernel leaves in its two result arrays, and the claims about it.
-/
module

public import proofs.«01_k».proof.Proof.LossSums
public import proofs.«01_k».proof.Proof.LossPoint
public import proofs.«01_k».proof.Defs
public import proofs.«01_k».proof.Proof.Gen.ReferenceLossIdeal.Read
public import proofs.«01_k».proof.Proof.Gen.ReferenceLossIdeal.Run
public import Idealize.ShloMosaic.Lib.KernelVsHost
public import Idealize.ShloMosaic.Lib.Quiescent
public import Idealize.ShloMosaic.Lib.StableHlo.ReadAt

@[expose] public section

set_option maxRecDepth 16384

noncomputable section

namespace Cert.Loss

open Idealize.ShloMosaic Idealize.ShloMosaic.TcCoe Idealize.SL.Sem
open Finset
open Cert.Weight (bt ps)

/-- The error of one token's entry. -/
def err (x t : Cert.KernelLossIdeal.S2x4096x1024.Idx → EReal) (b : Fin 2) (s : Fin 4096) (k : Fin 1024) : EReal :=
  x (ix3 b s k) - t (ix3 b s k)

section

open Cert.KernelLossIdeal Cert.KernelLossIdeal.Gen

variable (m : (ℓ : Loc nD τ sig) → Buf (Elt Ideal) ℓ) (c : Dev nD)

/-- The errors of the arguments. -/
abbrev er : Fin 2 → Fin 4096 → Fin 1024 → EReal :=
  err (m ((c : Thread nD τ).loc main_arg0)) (m ((c : Thread nD τ).loc main_arg1))

theorem idx (t : Fin cfg0.N) : win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0 :=
  (by decide +kernel : ∀ t : Fin grid0.N, win0_0.index t 0 = t.val ∧ win0_0.index t 1 = 0 ∧ win0_1.index t 0 = t.val
    ∧ win0_1.index t 1 = 0 ∧ win0_2.index t 0 = t.val ∧ win0_2.index t 1 = 0 ∧ win0_3.index t 0 = 0 ∧ win0_3.index t 1 = 0) t

/-- The two arguments, their tokens in one row after the other. -/
theorem V_v0 (i : S8192x1024.Idx) : V m c main_v0 i = m ((c : Thread nD τ).loc main_arg0) (ix3 (bt (i 0)) (ps (i 0)) (i 1)) := by
  unfold V
  after_reads_at
  rfl

theorem V_v1 (i : S8192x1024.Idx) : V m c main_v1 i = m ((c : Thread nD τ).loc main_arg1) (ix3 (bt (i 0)) (ps (i 0)) (i 1)) := by
  unfold V
  after_reads_at
  rfl

/-- The blocks point `n` is given. -/
def xb (x : S2x4096x1024.Idx → EReal) (n : ℕ) (y : S512x1024.Idx) : EReal := x (ix3 (bt (tok n (y 0))) (ps (tok n (y 0))) (y 1))

theorem iblk0 (t : Fin cfg0.N) : iblk m c 0 t = xb (m ((c : Thread nD τ).loc main_arg0)) t.val := by
  funext y
  unfold iblk
  rw [View.read_apply]
  have ht : t.val < 16 := lt_of_lt_of_eq t.isLt N_0
  refine (V_v0 m c _).trans ?_
  have e0 : (((cfg0.win 0).blk t).view.emb y 0 : Fin 8192) = tok t.val (y 0) := Fin.ext (by
    show win0_0.index t 0 * 512 + 1 * (y 0).val = 512 * (t.val % 16) + (y 0).val
    rw [(idx t).1]; omega)
  have e1 : (((cfg0.win 0).blk t).view.emb y 1 : Fin 1024) = y 1 := Fin.ext (by
    show win0_0.index t 1 * 1024 + 1 * (y 1).val = (y 1).val
    rw [(idx t).2.1]; omega)
  exact congrArg₂ (fun (a : Fin 8192) (d : Fin 1024) => m ((c : Thread nD τ).loc main_arg0) (ix3 (bt a) (ps a) d)) e0 e1

theorem iblk1 (t : Fin cfg0.N) : iblk m c 1 t = xb (m ((c : Thread nD τ).loc main_arg1)) t.val := by
  funext y
  unfold iblk
  rw [View.read_apply]
  have ht : t.val < 16 := lt_of_lt_of_eq t.isLt N_0
  refine (V_v1 m c _).trans ?_
  have e0 : (((cfg0.win 1).blk t).view.emb y 0 : Fin 8192) = tok t.val (y 0) := Fin.ext (by
    show win0_1.index t 0 * 512 + 1 * (y 0).val = 512 * (t.val % 16) + (y 0).val
    rw [(idx t).2.2.1]; omega)
  have e1 : (((cfg0.win 1).blk t).view.emb y 1 : Fin 1024) = y 1 := Fin.ext (by
    show win0_1.index t 1 * 1024 + 1 * (y 1).val = (y 1).val
    rw [(idx t).2.2.2.1]; omega)
  exact congrArg₂ (fun (a : Fin 8192) (d : Fin 1024) => m ((c : Thread nD τ).loc main_arg1) (ix3 (bt a) (ps a) d)) e0 e1

/-- What a block adds to the loss. -/
theorem sq_block (n : ℕ) : sq (xb (m ((c : Thread nD τ).loc main_arg0)) n) (xb (m ((c : Thread nD τ).loc main_arg1)) n) = block (er m c) n := rfl

/-- The cotangent's block after each point. -/
theorem outs_fst (t : Fin cfg0.N) : (outsAt0 m c t.val t.isLt).1
    = fun y => er m c (bt (tok t.val (y 0))) (ps (tok t.val (y 0))) (y 1) * ((1 / 1024 : ℝ) : EReal) := by
  by_cases h0 : t.val % 16 = 0
  · rw [outsAt0_A m c t h0, iblk0, iblk1]
    dsimp only
    rw [outA2]
    rfl
  · rw [outsAt0_B m c t h0, iblk0, iblk1]
    dsimp only
    rw [outB2]
    rfl

/-- The loss's block after each point. -/
theorem outs_snd : ∀ (n : ℕ) (hn : n < cfg0.N), (outsAt0 m c n hn).2 = fun _ => upto (er m c) n
  | 0, hn => by
    rw [outsAt0_A m c ⟨0, hn⟩ rfl, iblk0, iblk1]
    dsimp only
    rw [outA3, sq_block, ← upto_zero]
  | n + 1, hn => by
    have ih := outs_snd n (Nat.lt_of_succ_lt hn)
    have hN : n + 1 < 16 := lt_of_lt_of_eq hn N_0
    rw [outsAt0_B m c ⟨n + 1, hn⟩ (by dsimp only; omega), iblk0, iblk1]
    dsimp only
    rw [outB3, sq_block]
    simp only [Nat.add_sub_cancel, ih, ← upto_succ]

/-- A row lies in its block of 512. -/
theorem in_block (n : ℕ) : n / 512 * 512 ≤ n ∧ n < n / 512 * 512 + 512 := by omega

/-- The first result: the loss's cotangent. -/
theorem final2 : (dats m 0 c).arrAt 2 cfg0.N
    = (fun i : S8192x1024.Idx => er m c (bt (i 0)) (ps (i 0)) (i 1) * ((1 / 1024 : ℝ) : EReal)) := by
  refine (dats m 0 c).arrAt_eq_of_cover 2
    (fun i : S8192x1024.Idx => er m c (bt (i 0)) (ps (i 0)) (i 1) * ((1 / 1024 : ℝ) : EReal)) (fun t _ => ?_) fun i => ?_
  · have ht : t.val < 16 := lt_of_lt_of_eq t.isLt N_0
    rw [Value.flushed2, outs_fst]
    funext y
    rw [View.read_apply]
    have e0 : tok t.val (y 0) = (((cfg0.win 2).blk t).view.emb y 0 : Fin 8192) := Fin.ext (by
      show 512 * (t.val % 16) + (y 0).val = win0_2.index t 0 * 512 + 1 * (y 0).val
      rw [(idx t).2.2.2.2.1]; omega)
    have e1 : y 1 = (((cfg0.win 2).blk t).view.emb y 1 : Fin 1024) := Fin.ext (by
      show (y 1).val = win0_2.index t 1 * 1024 + 1 * (y 1).val
      rw [(idx t).2.2.2.2.2.1]; omega)
    exact congrArg₂ (fun (a : Fin 8192) (d : Fin 1024) => er m c (bt a) (ps a) d * ((1 / 1024 : ℝ) : EReal)) e0 e1
  · have h0 : (i 0 : Fin 8192).val < 8192 := (i 0).isLt
    have h1 : (i 1 : Fin 1024).val < 1024 := (i 1).isLt
    have ht : (i 0 : Fin 8192).val / 512 < cfg0.N := by rw [show cfg0.N = 16 from N_0]; omega
    refine ⟨⟨_, ht⟩, flush0_2 _, ?_⟩
    obtain ⟨-, -, -, -, e0, e1, -, -⟩ := idx ⟨_, ht⟩
    show i ∈ ((View.whole main_v2_0).slice (win0_2.rect ⟨_, ht⟩)).set
    rw [View.set_slice_whole, Rect.mem_set_unit]
    intro a
    match a with
    | ⟨0, _⟩ =>
      show win0_2.index _ 0 * 512 ≤ (i 0 : Fin 8192).val ∧ (i 0 : Fin 8192).val < win0_2.index _ 0 * 512 + 512
      rw [e0]; exact in_block _
    | ⟨1, _⟩ =>
      show win0_2.index _ 1 * 1024 ≤ (i 1 : Fin 1024).val ∧ (i 1 : Fin 1024).val < win0_2.index _ 1 * 1024 + 1024
      rw [e1]; omega

/-- The second: the loss, in every entry of the block. -/
theorem final3 : (dats m 0 c).arrAt 3 cfg0.N = (fun _ : S8x128.Idx => loss (er m c)) := by
  refine (dats m 0 c).arrAt_eq_of_cover 3 (fun _ : S8x128.Idx => loss (er m c)) (fun t hf => ?_) fun i => ?_
  · have ht : t.val < 16 := lt_of_lt_of_eq t.isLt N_0
    have h15 : t.val % 16 = 15 := (flush0_3 t).1 hf
    rw [Value.flushed3, outs_snd, show t.val = 15 by omega, upto_last]
    funext y
    rw [View.read_apply]
    rfl
  · have h0 : (i 0 : Fin 8).val < 8 := (i 0).isLt
    have h1 : (i 1 : Fin 128).val < 128 := (i 1).isLt
    have ht : 15 < cfg0.N := by rw [show cfg0.N = 16 from N_0]; omega
    refine ⟨⟨_, ht⟩, (flush0_3 _).2 rfl, ?_⟩
    obtain ⟨-, -, -, -, -, -, e0, e1⟩ := idx ⟨_, ht⟩
    show i ∈ ((View.whole main_v2_1).slice (win0_3.rect ⟨_, ht⟩)).set
    rw [View.set_slice_whole, Rect.mem_set_unit]
    intro a
    match a with
    | ⟨0, _⟩ =>
      show win0_3.index _ 0 * 8 ≤ (i 0 : Fin 8).val ∧ (i 0 : Fin 8).val < win0_3.index _ 0 * 8 + 8
      rw [e0]; omega
    | ⟨1, _⟩ =>
      show win0_3.index _ 1 * 128 ≤ (i 1 : Fin 128).val ∧ (i 1 : Fin 128).val < win0_3.index _ 1 * 128 + 128
      rw [e1]; omega

end

section

open Cert.ReferenceLossIdeal Cert.ReferenceLossIdeal.Gen Cert.ReferenceLossIdeal.Read

theorem w_two : Ideal.ofBits .f32 0x40000000#32 = ((2 : ℝ) : EReal) := by
  simp [Ideal.ofBits, Ideal.ieee, -EReal.coe_mul]; norm_num

variable (x t : Vec Ideal S2x4096x1024 .f32)

/-- The reference's cotangent: twice the error, by half over the width. -/
theorem ref_dy : val_main_v15 (F := Ideal) x t
    = fun i : S8192x1024.Idx => err x t (bt (i 0)) (ps (i 0)) (i 1) * ((1 / 1024 : ℝ) : EReal) := by
  funext i
  have h0 : (i 0 : Fin 8192).val < 8192 := (i 0).isLt
  have h1 : (i 1 : Fin 1024).val < 1024 := (i 1).isLt
  rw [val_main_v15_apply, val_main_v14_apply, val_main_v13_apply, val_main_v12_apply, val_main_v10_apply, val_main_v11_apply,
    val_main_v9_apply, val_main_v3_apply, val_main_v2_apply, val_main_v0_apply, val_main_cst_apply, val_main_cst_4_apply,
    val_main_cst_5_apply, val_main_cst_6_apply]
  simp only [Ideal.ofBits_def, Ideal.mulf_def, Ideal.subf_def, Ideal.hostDivf_def, w_two, Cert.Ffn.w_half, Cert.Ffn.w_one,
    Cert.Ffn.w_width]
  rw [Ideal.div_coe (by norm_num), ← mul_assoc, ← EReal.coe_mul, ← EReal.coe_mul, ← EReal.coe_mul, mul_comm]
  have ei : idx_main_v15 i = ix3 (n0 := 2) (n1 := 4096) (n2 := 1024) (bt (i 0)) (ps (i 0)) (i 1) := by
    funext a
    refine Fin.ext ?_
    match a with
    | ⟨0, _⟩ => show ((i 0).val * 1024 + (i 1).val) / 4194304 = (i 0).val / 4096; omega
    | ⟨1, _⟩ => show ((i 0).val * 1024 + (i 1).val) / 1024 % 4096 = (i 0).val % 4096; omega
    | ⟨2, _⟩ => show ((i 0).val * 1024 + (i 1).val) % 1024 = (i 1).val; omega
  rw [ei]
  unfold err
  norm_num

/-- The reference's loss, in every entry of a block. -/
theorem ref_loss : val_main_v16 (F := Ideal) x t = fun _ : S8x128.Idx => loss (err x t) := by
  funext i
  rw [val_main_v16_apply, val_main_v8_apply, val_main_v7_apply, val_main_cst_3_apply, val_main_cst_2_apply]
  simp only [val_main_v6_apply, val_main_v4_apply, val_main_v5_apply, val_main_cst_0_apply, val_main_cst_1_apply,
    val_main_v1_apply, val_main_v0_apply, Ideal.ofBits_def, Ideal.mulf_def, Ideal.subf_def, Ideal.hostDivf_def,
    Cert.Ffn.w_half, Cert.Ffn.w_zero, Cert.Ffn.w_width, EReal.coe_zero, zero_add]
  rw [← means, ValueIdx.sum_idx2]
  refine congrArg (_ * ·) (sum_congr rfl fun b _ => sum_congr rfl fun s _ => ?_)
  rw [Ideal.div_coe (by norm_num)]
  refine congrArg (· * _) (sum_congr rfl fun k _ => ?_)
  have e : idx_main_v4 (ValueIdx.ix2 b s) k = ix3 (n0 := 2) (n1 := 4096) (n2 := 1024) b s k := by
    funext a
    match a with
    | ⟨0, _⟩ => rfl
    | ⟨1, _⟩ => rfl
    | ⟨2, _⟩ => rfl
  rw [e]
  rfl

end

/-- The reference terminates and leaves its arguments as they were. -/
theorem frame_ref : Cert.quiescent_ReferenceLossIdeal := fun m ρ _ =>
  (θ_run Cert.ReferenceLossIdeal.defs _ _).mono (fun r h => ⟨fun c => (h c).2.2,
      Idealize.ShloMosaic.sem_eq_zero_of_no_sems (by decide) r.2⟩)
    (Cert.ReferenceLossIdeal.Value.run (F := Ideal) m ρ)

/-- From memories that agree on the arguments, the kernel's program and the reference end with equal results. -/
theorem algebraic : Cert.algebraic_KernelLossIdeal_ReferenceLossIdeal := by
  intro m ρ m' ρ' _ hagree
  refine ⟨_, _, Cert.KernelLossIdeal.Value.run_blocks (F := Ideal) m ρ, ?_⟩
  refine (θ_run Cert.ReferenceLossIdeal.defs _ _).mono (fun r h c => ?_)
    (Cert.ReferenceLossIdeal.Value.run (F := Ideal) m' ρ')
  obtain ⟨h0, h1, hargs⟩ := h c
  obtain ⟨a0, a1⟩ := hagree c
  refine ⟨h0.trans ?_, h1.trans ?_, hargs⟩
  · rw [Cert.ReferenceLossIdeal.Read.val_main_v15_eq, ref_dy, final2, a0, a1]
  · rw [Cert.ReferenceLossIdeal.Read.val_main_v16_eq, ref_loss, final3, a0, a1]

end Cert.Loss

end
-- ==== Proof.AdaClaims.lean ====
/-
  The gradient of the modulation's weight: for each layer, the conditioning after its activation, times the gathered cotangents of
  the modulation, summed over the sixteen sequences. The kernel leaves one block of columns a point.
-/
module

public import proofs.«01_k».proof.Proof.Spec
public import proofs.«01_k».proof.Defs
public import proofs.«01_k».proof.Proof.Gen.KernelAdaIdeal.Value
public import proofs.«01_k».proof.Proof.Gen.ReferenceAdaIdeal.Read
public import proofs.«01_k».proof.Proof.Gen.ReferenceAdaIdeal.Run
public import Idealize.ShloMosaic.Lib.KernelVsHost
public import Idealize.ShloMosaic.Lib.Quiescent
public import Idealize.ShloMosaic.Lib.StableHlo.ReadAt

@[expose] public section

set_option maxRecDepth 16384

noncomputable section

namespace Cert.Mod.Ada

open Idealize.ShloMosaic Idealize.ShloMosaic.TcCoe Idealize.SL.Sem

/-- The activation `c · 1 / (1 + exp (−c))`. -/
def act (c : EReal) : EReal := c * Ideal.div 1 (1 + Ideal.exp (-c))

section

open Cert.KernelAdaIdeal Cert.KernelAdaIdeal.Gen

/-- Entry `(l, d, q)` of the gradient. -/
def grad (c : Vec Ideal S16x1024 .f32) (dm : Vec Ideal S2x16x2304 .f32) : Vec Ideal S2x1024x2304 .f32 := fun i =>
  ∑ k : Fin 16, act (c fun a => match a with
      | ⟨0, _⟩ => k
      | ⟨1, _⟩ => ⟨(i 1).val, (i 1).isLt⟩)
    * dm fun a => match a with
      | ⟨0, _⟩ => ⟨(i 0).val, (i 0).isLt⟩
      | ⟨1, _⟩ => k
      | ⟨2, _⟩ => ⟨(i 2).val, (i 2).isLt⟩

theorem hz2 : (![0, 0] : Fin S16x1024.rank → Nat) = fun _ => 0 := by funext a; fin_cases a <;> rfl
theorem hz3 : (![0, 0, 0] : Fin S1x16x768.rank → Nat) = fun _ => 0 := by funext a; fin_cases a <;> rfl
theorem hz3' : (![0, 0, 0] : Fin S1x1024x768.rank → Nat) = fun _ => 0 := by funext a; fin_cases a <;> rfl

/-- The rows of the two factors a product's entry runs over. -/
abbrev lix (i : S1x1024x768.Idx) (k : Fin 16) : S16x1024.Idx := fun a => match a with
  | ⟨0, _⟩ => k
  | ⟨1, _⟩ => ⟨(i 1).val, (i 1).isLt⟩
abbrev rix (i : S1x1024x768.Idx) (k : Fin 16) : S1x16x768.Idx := fun a => match a with
  | ⟨0, _⟩ => ⟨0, Nat.one_pos⟩
  | ⟨1, _⟩ => k
  | ⟨2, _⟩ => ⟨(i 2).val, (i 2).isLt⟩

/-- The product of the block, entry by entry. -/
theorem dot_apply (l : FVec Ideal S16x1024 .bf16) (r : FVec Ideal S16x768 .bf16) (z : FVec Ideal S1024x768 .f32) (i : S1024x768.Idx) :
    matmul dot_S16x1024_S16x768_S1024x768_0_0_1_1_n_n none l r z i
      = z i + ∑ k : Fin 16, l (fun a => match a with | ⟨0, _⟩ => k | ⟨1, _⟩ => ⟨(i 0).val, (i 0).isLt⟩ : S16x1024.Idx)
        * r (fun a => match a with | ⟨0, _⟩ => k | ⟨1, _⟩ => ⟨(i 1).val, (i 1).isLt⟩ : S16x768.Idx) := by
  simp only [matmul]
  rw [Ideal.matmul_apply, ← Equiv.sum_comp (ValueIdx.contrEquiv1 dot_S16x1024_S16x768_S1024x768_0_0_1_1_n_n 16 rfl rfl).symm]
  refine congrArg (z i + ·) (Finset.sum_congr rfl fun k _ => ?_)
  have hk := ValueIdx.contrEquiv1_symm_val dot_S16x1024_S16x768_S1024x768_0_0_1_1_n_n 16 rfl rfl k
  refine congrArg₂ (· * ·) (congrArg l (funext fun a => Fin.ext ?_)) (congrArg r (funext fun a => Fin.ext ?_))
  · match a with
    | ⟨0, _⟩ => exact (DotDims.lhsIdx_val_of_single _ rfl i _).trans hk
    | ⟨1, _⟩ =>
      show (DotDims.lhsIdx _ i _ 1).val = _
      unfold DotDims.lhsIdx
      rw [dif_neg (show ¬(1 : Fin S16x1024.rank) ∈ dot_S16x1024_S16x768_S1024x768_0_0_1_1_n_n.lhsBatch by decide),
        dif_pos (show (1 : Fin S16x1024.rank) ∈ dot_S16x1024_S16x768_S1024x768_0_0_1_1_n_n.lhsNonContracting by decide)]
      rfl
  · match a with
    | ⟨0, _⟩ => exact (DotDims.rhsIdx_val_of_single _ rfl i _).trans hk
    | ⟨1, _⟩ =>
      show (DotDims.rhsIdx _ i _ 1).val = _
      unfold DotDims.rhsIdx
      rw [dif_neg (show ¬(1 : Fin S16x768.rank) ∈ dot_S16x1024_S16x768_S1024x768_0_0_1_1_n_n.rhsBatch by decide),
        dif_pos (show (1 : Fin S16x768.rank) ∈ dot_S16x1024_S16x768_S1024x768_0_0_1_1_n_n.rhsNonContracting by decide)]
      rfl

/-- What a point leaves in its block. -/
theorem out2 (x0 : Vec Ideal S16x1024 .f32) (x1 : Vec Ideal S1x16x768 .f32) :
    out0_2 x0 x1 = fun i => ∑ k : Fin 16, act (x0 (lix i k)) * x1 (rix i k) := by
  unfold out0_2
  rw [View.canon_unit_zero (S := S1x1024x768) hz3', View.ld_unit_zero (S := S16x1024) hz2, View.ld_unit_zero (S := S1x16x768) hz3]
  funext i
  have h0 : (i 0 : Fin 1).val < 1 := (i 0).isLt
  unfold k0_pay1
  rw [shapeCast_apply _ shapeCasts_S1024x768_S1x1024x768 i (fun a => match a with
      | ⟨0, _⟩ => ⟨(i 1).val, (i 1).isLt⟩
      | ⟨1, _⟩ => ⟨(i 2).val, (i 2).isLt⟩ : S1024x768.Idx) (by
    rw [Shape.rowMajor_val_three, Shape.rowMajor_val_two]
    show (i 1).val * 768 + (i 2).val = ((i 0).val * 1024 + (i 1).val) * 768 + (i 2).val
    omega), dot_apply]
  rw [show (constant (F := Ideal) S1024x768 .f32 0x00000000#32) _ = (0 : EReal) from Cert.Ffn.w_zero, zero_add]
  refine Finset.sum_congr rfl fun k _ => congrArg₂ (· * ·) ?_ ?_
  · show x0 (lix i k) * Ideal.div (Ideal.ofBits .f32 0x3F800000#32)
      (Ideal.ofBits .f32 0x3F800000#32 + Ideal.exp (Ideal.ofBits .f32 0x00000000#32 - x0 (lix i k))) = _
    rw [Cert.Ffn.w_one, Cert.Ffn.w_zero, EReal.coe_zero, EReal.coe_one, zero_sub]
    rfl
  · exact shapeCast_apply _ shapeCasts_S1x16x768_S16x768 _ (rix i k) (by
      rw [Shape.rowMajor_val_three, Shape.rowMajor_val_two]
      show (0 * 16 + k.val) * 768 + (i 2).val = k.val * 768 + (i 2).val
      omega)

variable (m : (ℓ : Loc nD τ sig) → Buf (Elt Ideal) ℓ) (c : Dev nD)

/-- Where the windows are at a point: three blocks of columns a layer. -/
theorem idx (t : Fin cfg0.N) : win0_0.index t 0 = 0 ∧ win0_0.index t 1 = 0
    ∧ win0_1.index t 0 = t.val / 3 ∧ win0_1.index t 1 = 0 ∧ win0_1.index t 2 = t.val % 3
    ∧ win0_2.index t 0 = t.val / 3 ∧ win0_2.index t 1 = 0 ∧ win0_2.index t 2 = t.val % 3 :=
  (by decide +kernel : ∀ t : Fin grid0.N, win0_0.index t 0 = 0 ∧ win0_0.index t 1 = 0
    ∧ win0_1.index t 0 = t.val / 3 ∧ win0_1.index t 1 = 0 ∧ win0_1.index t 2 = t.val % 3
    ∧ win0_2.index t 0 = t.val / 3 ∧ win0_2.index t 1 = 0 ∧ win0_2.index t 2 = t.val % 3) t

/-- The result array is the gradient. -/
theorem final2 : (dats m 0 c).arrAt 2 cfg0.N
    = grad (m ((c : Thread nD τ).loc main_arg0)) (m ((c : Thread nD τ).loc main_arg1)) := by
  rw [← V_main_arg0 m c, ← V_main_arg1 m c]
  refine (dats m 0 c).arrAt_eq_of_cover 2 (grad (V m c main_arg0) (V m c main_arg1)) (fun t _ => ?_) fun i => ?_
  · obtain ⟨a0, a1, b0, b1, b2, e0, e1, e2⟩ := idx t
    rw [Value.flushed2, out2]
    funext y
    have hy : (y 0 : Fin 1).val < 1 := (y 0).isLt
    show (∑ k : Fin 16, act (V m c main_arg0 (((cfg0.win 0).blk t).view.emb (lix y k)))
        * V m c main_arg1 (((cfg0.win 1).blk t).view.emb (rix y k)) : EReal)
      = grad (V m c main_arg0) (V m c main_arg1) (((cfg0.win 2).blk t).view.emb y)
    unfold grad
    refine congrArg (fun f : Fin 16 → EReal => ∑ k, f k) (funext fun k => congrArg₂ (fun p q : EReal => act p * q)
      (congrArg (V m c main_arg0) (funext fun a => Fin.ext ?_)) (congrArg (V m c main_arg1) (funext fun a => Fin.ext ?_)))
    · match a with
      | ⟨0, _⟩ => show win0_0.index t 0 * 16 + 1 * k.val = k.val; omega
      | ⟨1, _⟩ => show win0_0.index t 1 * 1024 + 1 * (y 1).val = win0_2.index t 1 * 1024 + 1 * (y 1).val; omega
    · match a with
      | ⟨0, _⟩ => show win0_1.index t 0 * 1 + 1 * 0 = win0_2.index t 0 * 1 + 1 * (y 0).val; omega
      | ⟨1, _⟩ => show win0_1.index t 1 * 16 + 1 * k.val = k.val; omega
      | ⟨2, _⟩ => show win0_1.index t 2 * 768 + 1 * (y 2).val = win0_2.index t 2 * 768 + 1 * (y 2).val; omega
  · have h0 : (i 0 : Fin 2).val < 2 := (i 0).isLt
    have h1 : (i 1 : Fin 1024).val < 1024 := (i 1).isLt
    have h2 : (i 2 : Fin 2304).val < 2304 := (i 2).isLt
    have ht : (i 0 : Fin 2).val * 3 + (i 2 : Fin 2304).val / 768 < cfg0.N := by rw [show cfg0.N = 6 from N_0]; omega
    refine ⟨⟨_, ht⟩, flush0_2 _, ?_⟩
    obtain ⟨-, -, -, -, -, e0, e1, e2⟩ := idx ⟨_, ht⟩
    show i ∈ ((View.whole main_v0).slice (win0_2.rect ⟨_, ht⟩)).set
    rw [View.set_slice_whole, Rect.mem_set_unit]
    intro a
    match a with
    | ⟨0, _⟩ => show win0_2.index _ 0 * 1 ≤ (i 0).val ∧ (i 0).val < win0_2.index _ 0 * 1 + 1; rw [e0]; dsimp only; omega
    | ⟨1, _⟩ => show win0_2.index _ 1 * 1024 ≤ (i 1).val ∧ (i 1).val < win0_2.index _ 1 * 1024 + 1024; rw [e1]; omega
    | ⟨2, _⟩ => show win0_2.index _ 2 * 768 ≤ (i 2).val ∧ (i 2).val < win0_2.index _ 2 * 768 + 768; rw [e2]; dsimp only; omega

end

section

open Cert.ReferenceAdaIdeal Cert.ReferenceAdaIdeal.Gen Cert.ReferenceAdaIdeal.Read

variable (x0 : Vec Ideal S16x1024 .f32) (x1 : Vec Ideal S2x16x2304 .f32)

/-- The reference's activation. -/
theorem ref_act (i : S16x1024.Idx) : val_main_v4 (F := Ideal) x0 i = act (x0 i) := by
  show x0 i * Ideal.div (Ideal.ofBits .f32 0x3F800000#32) (Ideal.ofBits .f32 0x3F800000#32 + Ideal.exp (-(x0 i))) = _
  rw [Cert.Ffn.w_one, EReal.coe_one]
  rfl

theorem ref_act' (i : S16x1024.Idx) : val_main_v15 (F := Ideal) x0 i = act (x0 i) := ref_act x0 i

/-- The cotangents of a layer, put in the product's rows. -/
theorem row_back {k q : ℕ} (hk : k < 16) (hq : q < 2304) : (k * 2304 + q) / 2304 % 16 = k ∧ (k * 2304 + q) % 2304 = q := by
  omega

/-- The two layers' gradients. -/
theorem ref_lo (i : S2x1024x2304.Idx) (j : S1x1024x2304.Idx) (h0 : (i 0).val = 0) (h1 : (j 1).val = (i 1).val)
    (h2 : (j 2).val = (i 2).val) : val_main_v22 (F := Ideal) x0 x1 j = grad x0 x1 i := by
  rw [val_main_v22_apply, val_main_v10_apply, val_main_v9_apply]
  refine Finset.sum_congr rfl fun k _ => ?_
  rw [ref_act, val_main_v1_apply, val_main_v0_apply, mul_comm]
  have hb := row_back k.isLt (show (j 2).val < 2304 from (j 2).isLt)
  refine congrArg₂ (fun p q : EReal => act p * q) (congrArg x0 (funext fun a => Fin.ext ?_)) (congrArg x1 (funext fun a => Fin.ext ?_))
  · match a with
    | ⟨0, _⟩ => rfl
    | ⟨1, _⟩ => exact h1
  · match a with
    | ⟨0, _⟩ => exact h0.symm
    | ⟨1, _⟩ => exact hb.1
    | ⟨2, _⟩ => exact hb.2.trans h2

theorem ref_hi (i : S2x1024x2304.Idx) (j : S1x1024x2304.Idx) (h0 : (i 0).val = 1) (h1 : (j 1).val = (i 1).val)
    (h2 : (j 2).val = (i 2).val) : val_main_v23 (F := Ideal) x0 x1 j = grad x0 x1 i := by
  rw [val_main_v23_apply, val_main_v21_apply, val_main_v20_apply]
  refine Finset.sum_congr rfl fun k _ => ?_
  rw [ref_act', val_main_v12_apply, val_main_v11_apply, mul_comm]
  have hb := row_back k.isLt (show (j 2).val < 2304 from (j 2).isLt)
  refine congrArg₂ (fun p q : EReal => act p * q) (congrArg x0 (funext fun a => Fin.ext ?_)) (congrArg x1 (funext fun a => Fin.ext ?_))
  · match a with
    | ⟨0, _⟩ => rfl
    | ⟨1, _⟩ => exact h1
  · match a with
    | ⟨0, _⟩ => exact h0.symm
    | ⟨1, _⟩ => exact hb.1
    | ⟨2, _⟩ => exact hb.2.trans h2

/-- The reference's result: one layer after the other. -/
theorem ref_out : val_main_v24 (F := Ideal) x0 x1 = grad x0 x1 := by
  funext i
  have h0 : (i 0 : Fin 2).val < 2 := (i 0).isLt
  unfold val_main_v24
  by_cases h : (i 0 : Fin 2).val = 0
  · rw [concatenate_pair_apply_left (s₁ := S1x1024x2304) (s₂ := S1x1024x2304) 0 _ _ _ i rfl (fun a => match a with
        | ⟨0, _⟩ => ⟨0, Nat.one_pos⟩
        | ⟨1, _⟩ => ⟨(i 1).val, (i 1).isLt⟩
        | ⟨2, _⟩ => ⟨(i 2).val, (i 2).isLt⟩ : S1x1024x2304.Idx) (fun a => by
      match a with
      | ⟨0, _⟩ => exact h.symm
      | ⟨1, _⟩ => rfl
      | ⟨2, _⟩ => rfl)]
    exact ref_lo x0 x1 i _ h rfl rfl
  · rw [concatenate_pair_apply_right (s₁ := S1x1024x2304) (s₂ := S1x1024x2304) 0 _ _ _ i rfl rfl (fun a => match a with
        | ⟨0, _⟩ => ⟨0, Nat.one_pos⟩
        | ⟨1, _⟩ => ⟨(i 1).val, (i 1).isLt⟩
        | ⟨2, _⟩ => ⟨(i 2).val, (i 2).isLt⟩ : S1x1024x2304.Idx) (fun a ha => by
      match a with
      | ⟨0, _⟩ => exact absurd rfl ha
      | ⟨1, _⟩ => rfl
      | ⟨2, _⟩ => rfl) (show 0 + 1 = (i 0).val by omega)]
    exact ref_hi x0 x1 i _ (by omega) rfl rfl

end

/-- The reference terminates and leaves its arguments as they were. -/
theorem frame_ref : Cert.quiescent_ReferenceAdaIdeal := fun m ρ _ =>
  (θ_run Cert.ReferenceAdaIdeal.defs _ _).mono (fun r h => ⟨fun c => (h c).2,
      Idealize.ShloMosaic.sem_eq_zero_of_no_sems (by decide) r.2⟩)
    (Cert.ReferenceAdaIdeal.Value.run (F := Ideal) m ρ)

/-- From memories that agree on the arguments, the kernel's program and the reference end with equal results. -/
theorem algebraic : Cert.algebraic_KernelAdaIdeal_ReferenceAdaIdeal := by
  intro m ρ m' ρ' _ hagree
  refine ⟨_, Cert.KernelAdaIdeal.Value.run_blocks (F := Ideal) m ρ, ?_⟩
  refine (θ_run Cert.ReferenceAdaIdeal.defs _ _).mono (fun r h c => ?_)
    (Cert.ReferenceAdaIdeal.Value.run (F := Ideal) m' ρ')
  obtain ⟨h0, hargs⟩ := h c
  obtain ⟨a0, a1⟩ := hagree c
  refine ⟨h0.trans ?_, hargs⟩
  rw [Cert.ReferenceAdaIdeal.Read.val_main_v24_eq, ref_out, final2, a0, a1]

end Cert.Mod.Ada

end
-- ==== Proof.BiasClaims.lean ====
/-
  The gradient of the modulation's bias: the cotangents of all sixteen sequences added up. The kernel adds the sequences one after
  another, on rows of 1024 with six rows of zeros after them; the reference sums over the sequences.
-/
module

public import proofs.«01_k».proof.Proof.Spec
public import proofs.«01_k».proof.Defs
public import proofs.«01_k».proof.Proof.Gen.KernelBiasIdeal.Value
public import proofs.«01_k».proof.Proof.Gen.ReferenceBiasIdeal.Read
public import proofs.«01_k».proof.Proof.Gen.ReferenceBiasIdeal.Run
public import Idealize.ShloMosaic.Lib.KernelVsHost
public import Idealize.ShloMosaic.Lib.Quiescent
public import Idealize.ShloMosaic.Lib.StableHlo.ReadAt

@[expose] public section

set_option maxRecDepth 16384

noncomputable section

namespace Cert.Mod.Bias

open Idealize.ShloMosaic Idealize.ShloMosaic.TcCoe Idealize.SL.Sem

/-- The cotangent of sequence `k` that goes into entry `(r, q)` of the packed rows: the 18 rows are the two layers' 9216 columns. -/
def cot (x : Vec Ideal Cert.KernelBiasIdeal.S2x16x9216 .f32) (r q : ℕ) (k : Fin 16) : EReal :=
  if h : r < 18 ∧ q < 1024 then
    x fun a => match a with
      | ⟨0, _⟩ => ⟨(r * 1024 + q) / 9216, by show _ < 2; omega⟩
      | ⟨1, _⟩ => k
      | ⟨2, _⟩ => ⟨(r * 1024 + q) % 9216, by show _ < 9216; omega⟩
  else 0

section

open Cert.KernelBiasIdeal Cert.KernelBiasIdeal.Gen

/-- The entry of sequence `k` that goes into entry `i` of the sum. -/
abbrev part (i : S24x1024.Idx) (k : Fin 16) : S16x24x1024.Idx := fun a => match a with
  | ⟨0, _⟩ => ⟨k.val, k.isLt⟩
  | ⟨1, _⟩ => ⟨(i 0).val, (i 0).isLt⟩
  | ⟨2, _⟩ => ⟨(i 1).val, (i 1).isLt⟩

/-- What the block loads from its `n`-th rectangle, read at `j`. -/
theorem at_part (x : Vec Ideal S16x24x1024 .f32) (n : Fin 16) (r : Rect S16x24x1024) (j : r.shape.Idx) (i : S24x1024.Idx)
    (h0 : (r.idx j 0).val = n.val) (h1 : (r.idx j 1).val = (i 0).val) (h2 : (r.idx j 2).val = (i 1).val) :
    View.ld x r j = x (part i n) :=
  congrArg x (funext fun a => Fin.ext (by match a with | ⟨0, _⟩ => exact h0 | ⟨1, _⟩ => exact h1 | ⟨2, _⟩ => exact h2))

/-- Sixteen terms added one after another. -/
theorem sum16 (f : Fin 16 → EReal) : ∑ k, f k
    = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- The sum over the sequences. -/
def total (x : Vec Ideal S16x24x1024 .f32) : Vec Ideal S24x1024 .f32 := fun i => ∑ k : Fin 16, x (part i k)

/-- The block's result is the sum over the sequences. -/
theorem out1 (x : Vec Ideal S16x24x1024 .f32) : out0_1 x = total x := by
  funext i
  unfold out0_1 total
  rw [Value.canon1_eq, sum16]
  simp only [Value.E1, Ideal.addf_def]
  congr 1; congr 1; congr 1; congr 1; congr 1; congr 1; congr 1; congr 1; congr 1; congr 1; congr 1; congr 1; congr 1; congr 1; congr 1
  all_goals
    refine at_part x _ _ _ i ?_ ?_ ?_
    · show _ + 1 * _ = _; rfl
    · show 0 + 1 * (i 0).val = (i 0).val; omega
    · show 0 + 1 * (i 1).val = (i 1).val; omega

variable (m : (ℓ : Loc nD τ sig) → Buf (Elt Ideal) ℓ) (c : Dev nD)

/-- The rows the kernel is given. -/
theorem V_rows (i : S24x1024.Idx) (k : Fin 16) :
    V m c main_v2 (part i k) = cot (m ((c : Thread nD τ).loc main_arg0)) (i 0).val (i 1).val k := by
  have h0 : (i 0 : Fin 24).val < 24 := (i 0).isLt
  have h1 : (i 1 : Fin 1024).val < 1024 := (i 1).isLt
  have e : V m c main_v2 = pad S16x24x1024 ![0, 0, 0] ![0, 6, 0] ![0, 0, 0]
      (shapeCast S16x18x1024 (transpose S16x2x9216 [1, 0, 2] (m ((c : Thread nD τ).loc main_arg0)) transposes_S2x16x9216_S16x2x9216_1_0_2)
        shapeCasts_S16x2x9216_S16x18x1024)
      (sitofp (F := Ideal) .f32 (constantI S_ 32 0#32)) pads_S16x18x1024_S16x24x1024_000_060_000 h_S_ := by
    unfold V
    after_reads_simp
    rfl
  rw [e]
  unfold cot
  by_cases h : (i 0 : Fin 24).val < 18
  · rw [dif_pos ⟨h, h1⟩]
    rw [pad_apply_of_inside _ _ _ _ _ _ _ (part i k) (fun a => match a with
        | ⟨0, _⟩ => ⟨k.val, k.isLt⟩
        | ⟨1, _⟩ => ⟨(i 0).val, h⟩
        | ⟨2, _⟩ => ⟨(i 1).val, h1⟩ : S16x18x1024.Idx) (fun a => by
      match a with
      | ⟨0, _⟩ => show k.val = 0 + k.val * (0 + 1); omega
      | ⟨1, _⟩ => show (i 0).val = 0 + (i 0).val * (0 + 1); omega
      | ⟨2, _⟩ => show (i 1).val = 0 + (i 1).val * (0 + 1); omega)]
    rw [shapeCast_apply _ shapeCasts_S16x2x9216_S16x18x1024 _ (fun a => match a with
        | ⟨0, _⟩ => ⟨k.val, k.isLt⟩
        | ⟨1, _⟩ => ⟨((i 0).val * 1024 + (i 1).val) / 9216, by show _ < 2; omega⟩
        | ⟨2, _⟩ => ⟨((i 0).val * 1024 + (i 1).val) % 9216, by show _ < 9216; omega⟩ : S16x2x9216.Idx) (by
      rw [Shape.rowMajor_val_three, Shape.rowMajor_val_three]
      show (k.val * 2 + ((i 0).val * 1024 + (i 1).val) / 9216) * 9216 + ((i 0).val * 1024 + (i 1).val) % 9216
        = (k.val * 18 + (i 0).val) * 1024 + (i 1).val
      omega)]
    refine transpose_apply [1, 0, 2] _ transposes_S2x16x9216_S16x2x9216_1_0_2 _ _ (fun b => match b with
      | ⟨0, _⟩ => rfl
      | ⟨1, _⟩ => rfl
      | ⟨2, _⟩ => rfl)
  · rw [dif_neg fun hh => h hh.1, pad_apply_of_not_inside _ _ _ _ _ _ _ (part i k) 1 (fun hh => h (by
      have := hh.2.2
      have e : ((i 0).val - 0) / (0 + 1) < 18 := this
      omega))]
    show ((((0#32 : BitVec 32).toInt : ℝ)) : EReal) = 0
    simp

/-- The one point's blocks are the whole arrays. -/
theorem idx0 : ∀ t : Fin cfg0.N, win0_0.index t 0 = 0 ∧ win0_0.index t 1 = 0 ∧ win0_0.index t 2 = 0
    ∧ win0_1.index t 0 = 0 ∧ win0_1.index t 1 = 0 :=
  (by decide +kernel : ∀ t : Fin grid0.N, win0_0.index t 0 = 0 ∧ win0_0.index t 1 = 0 ∧ win0_0.index t 2 = 0
    ∧ win0_1.index t 0 = 0 ∧ win0_1.index t 1 = 0)

theorem total_rows : total (V m c main_v2)
    = (fun i : S24x1024.Idx => ∑ k : Fin 16, cot (m ((c : Thread nD τ).loc main_arg0)) (i 0).val (i 1).val k) :=
  funext fun i => congrArg (fun f : Fin 16 → EReal => ∑ k, f k) (funext fun k => V_rows m c i k)

/-- The kernel's result: each entry the sum over the sequences. -/
theorem final1 : (dats m 0 c).arrAt 1 cfg0.N
    = (fun i : S24x1024.Idx => ∑ k : Fin 16, cot (m ((c : Thread nD τ).loc main_arg0)) (i 0).val (i 1).val k) := by
  rw [← total_rows]
  refine (dats m 0 c).arrAt_eq_of_cover 1 (total (V m c main_v2)) (fun t _ => ?_) fun i => ?_
  · obtain ⟨e0, e1, e2, e3, e4⟩ := idx0 t
    rw [Value.flushed1, out1]
    funext y
    refine congrArg (fun f : Fin 16 → EReal => ∑ k, f k) (funext fun k => congrArg (V m c main_v2) (funext fun a => Fin.ext ?_))
    match a with
    | ⟨0, _⟩ => show win0_0.index t 0 * 16 + 1 * k.val = k.val; omega
    | ⟨1, _⟩ => show win0_0.index t 1 * 24 + 1 * (y 0).val = win0_1.index t 0 * 24 + 1 * (y 0).val; omega
    | ⟨2, _⟩ => show win0_0.index t 2 * 1024 + 1 * (y 1).val = win0_1.index t 1 * 1024 + 1 * (y 1).val; omega
  · have ht : 0 < cfg0.N := by rw [show cfg0.N = 1 from N_0]; omega
    refine ⟨⟨0, ht⟩, flush0_1 _, ?_⟩
    obtain ⟨e0, e1, e2, e3, e4⟩ := idx0 ⟨0, ht⟩
    have h0 : (i 0 : Fin 24).val < 24 := (i 0).isLt
    have h1 : (i 1 : Fin 1024).val < 1024 := (i 1).isLt
    show i ∈ ((View.whole main_v3).slice (win0_1.rect ⟨0, ht⟩)).set
    rw [View.set_slice_whole, Rect.mem_set_unit]
    intro a
    match a with
    | ⟨0, _⟩ => show win0_1.index _ 0 * 24 ≤ (i 0).val ∧ (i 0).val < win0_1.index _ 0 * 24 + 24; omega
    | ⟨1, _⟩ => show win0_1.index _ 1 * 1024 ≤ (i 1).val ∧ (i 1).val < win0_1.index _ 1 * 1024 + 1024; omega

end

section

open Cert.ReferenceBiasIdeal Cert.ReferenceBiasIdeal.Gen Cert.ReferenceBiasIdeal.Read

/-- The reference's result: the same sums. -/
theorem ref_out (x : Vec Ideal S2x16x9216 .f32) :
    val_main_v9 (F := Ideal) x = fun i : S24x1024.Idx => ∑ k : Fin 16, cot x (i 0).val (i 1).val k := by
  funext i
  unfold val_main_v9
  have h1 : (i 1 : Fin 1024).val < 1024 := (i 1).isLt
  by_cases h : (i 0 : Fin 24).val < 18
  · rw [pad_apply_of_inside _ _ _ _ _ _ _ i (fun a => match a with
        | ⟨0, _⟩ => ⟨(i 0).val, h⟩
        | ⟨1, _⟩ => ⟨(i 1).val, h1⟩ : S18x1024.Idx) (fun a => by
      match a with
      | ⟨0, _⟩ => show (i 0).val = 0 + (i 0).val * (0 + 1); omega
      | ⟨1, _⟩ => show (i 1).val = 0 + (i 1).val * (0 + 1); omega)]
    rw [val_main_v8_apply, val_main_v7_apply, Fin.sum_univ_one, val_main_v6_apply, val_main_v5_apply]
    simp only [val_main_cst_apply, val_main_cst_0_apply, val_main_cst_1_apply, val_main_cst_2_apply, Ideal.ofBits_def, Cert.Ffn.w_zero, EReal.coe_zero, zero_add]
    refine Finset.sum_congr rfl fun k _ => ?_
    unfold cot
    rw [dif_pos ⟨h, h1⟩]
    refine congrArg x (funext fun a => Fin.ext ?_)
    have hb : ((i 0).val * 1024 + (i 1).val) / 9216 < 2 := by omega
    have hq : ((i 0).val * 1024 + (i 1).val) % 9216 < 9216 := by omega
    match a with
    | ⟨0, _⟩ =>
      show ((((i 0).val * 1024 + (i 1).val) / 9216 * 1 + 0) * 9216 + ((i 0).val * 1024 + (i 1).val) % 9216) / 9216
        = ((i 0).val * 1024 + (i 1).val) / 9216
      omega
    | ⟨1, _⟩ => rfl
    | ⟨2, _⟩ =>
      show ((((i 0).val * 1024 + (i 1).val) / 9216 * 1 + 0) * 9216 + ((i 0).val * 1024 + (i 1).val) % 9216) % 9216
        = ((i 0).val * 1024 + (i 1).val) % 9216
      omega
  · rw [pad_apply_of_not_inside _ _ _ _ _ _ _ i 0 (fun hh => h (by
      have := hh.2.2
      have e : ((i 0).val - 0) / (0 + 1) < 18 := this
      omega))]
    refine Eq.trans ?_ (Finset.sum_eq_zero fun k _ => by unfold cot; rw [dif_neg fun hh => h hh.1]).symm
    rw [val_main_call0_v0_apply, val_main_c_apply]
    show ((((0#32 : BitVec 32).toInt : ℝ)) : EReal) = 0
    simp

end

/-- The reference terminates and leaves its argument as it was. -/
theorem frame_ref : Cert.quiescent_ReferenceBiasIdeal := fun m ρ _ =>
  (θ_run Cert.ReferenceBiasIdeal.defs _ _).mono (fun r h => ⟨fun c => (h c).2,
      Idealize.ShloMosaic.sem_eq_zero_of_no_sems (by decide) r.2⟩)
    (Cert.ReferenceBiasIdeal.Value.run (F := Ideal) m ρ)

/-- From memories that agree on the argument, the kernel's program and the reference end with equal results. -/
theorem algebraic : Cert.algebraic_KernelBiasIdeal_ReferenceBiasIdeal := by
  intro m ρ m' ρ' _ hagree
  refine ⟨_, Cert.KernelBiasIdeal.Value.run_blocks (F := Ideal) m ρ, ?_⟩
  refine (θ_run Cert.ReferenceBiasIdeal.defs _ _).mono (fun r h c => ?_)
    (Cert.ReferenceBiasIdeal.Value.run (F := Ideal) m' ρ')
  obtain ⟨h0, hargs⟩ := h c
  have a0 := hagree c
  refine ⟨h0.trans ?_, hargs⟩
  rw [Cert.ReferenceBiasIdeal.Read.val_main_v9_eq, ref_out, final1, a0]

end Cert.Mod.Bias

end
-- ==== Proof.PartsClaims.lean ====
/-
  The gradients of the small weights summed over the devices' parts, packed into rows: the kernel adds the eight parts one after
  another, the reference sums over them, and the two are the same sum.
-/
module

public import proofs.«01_k».proof.Proof.Spec
public import proofs.«01_k».proof.Defs
public import proofs.«01_k».proof.Proof.Gen.KernelPartsIdeal.Value
public import proofs.«01_k».proof.Proof.Gen.ReferencePartsIdeal.Read
public import proofs.«01_k».proof.Proof.Gen.ReferencePartsIdeal.Run
public import Idealize.ShloMosaic.Lib.KernelVsHost
public import Idealize.ShloMosaic.Lib.Quiescent

@[expose] public section

set_option maxRecDepth 16384

noncomputable section

namespace Cert.Mod.Parts

open Idealize.ShloMosaic Idealize.SL.Sem

section

open Cert.KernelPartsIdeal Cert.KernelPartsIdeal.Gen

/-- The entry of part `k` that goes into entry `i` of the sum. -/
abbrev part (i : S152x1024.Idx) (k : Fin 8) : S8x152x1024.Idx := fun a => match a with
  | ⟨0, _⟩ => ⟨k.val, k.isLt⟩
  | ⟨1, _⟩ => ⟨(i 0).val, (i 0).isLt⟩
  | ⟨2, _⟩ => ⟨(i 1).val, (i 1).isLt⟩

/-- What the block loads from its `n`-th rectangle, read at `j`. -/
theorem at_part (x : Vec Ideal S8x152x1024 .f32) (n : Fin 8) (r : Rect S8x152x1024) (j : r.shape.Idx) (i : S152x1024.Idx)
    (h0 : (r.idx j 0).val = n.val) (h1 : (r.idx j 1).val = (i 0).val) (h2 : (r.idx j 2).val = (i 1).val) :
    View.ld x r j = x (part i n) :=
  congrArg x (funext fun a => Fin.ext (by match a with | ⟨0, _⟩ => exact h0 | ⟨1, _⟩ => exact h1 | ⟨2, _⟩ => exact h2))

/-- The kernel's result is the sum over the parts. -/
theorem G1_apply (x : Vec Ideal S8x152x1024 .f32) (i : S152x1024.Idx) : Value.G1 x i = ∑ k : Fin 8, x (part i k) := by
  rw [← Value.out1_eq]
  unfold out0_1
  rw [Value.canon1_eq, Fin.sum_univ_eight]
  simp only [Value.E1, Ideal.addf_def]
  congr 1; congr 1; congr 1; congr 1; congr 1; congr 1; congr 1
  all_goals
    refine at_part x _ _ _ i ?_ ?_ ?_
    · show _ + 1 * _ = _; rfl
    · show 0 + 1 * (i 0).val = (i 0).val; omega
    · show 0 + 1 * (i 1).val = (i 1).val; omega

end

/-- The reference terminates and leaves its argument as it was. -/
theorem frame_ref : Cert.quiescent_ReferencePartsIdeal := fun m ρ _ =>
  (θ_run Cert.ReferencePartsIdeal.defs _ _).mono (fun r h => ⟨fun c => (h c).2,
      Idealize.ShloMosaic.sem_eq_zero_of_no_sems (by decide) r.2⟩)
    (Cert.ReferencePartsIdeal.Value.run (F := Ideal) m ρ)

/-- From memories that agree on the argument, the kernel's program and the reference end with equal results. -/
theorem algebraic : Cert.algebraic_KernelPartsIdeal_ReferencePartsIdeal := by
  intro m ρ m' ρ' _ hagree
  refine ⟨_, Cert.KernelPartsIdeal.Value.run (F := Ideal) m ρ, ?_⟩
  refine (θ_run Cert.ReferencePartsIdeal.defs _ _).mono (fun r h c => ?_)
    (Cert.ReferencePartsIdeal.Value.run (F := Ideal) m' ρ')
  obtain ⟨h0, hargs⟩ := h c
  have a0 := hagree c
  refine ⟨h0.trans ?_, hargs⟩
  rw [Cert.ReferencePartsIdeal.Read.val_main_v0_eq, a0]
  funext i
  rw [Cert.ReferencePartsIdeal.Read.val_main_v0_apply, Cert.ReferencePartsIdeal.Read.val_main_cst_apply, Ideal.ofBits_def,
    Cert.Ffn.w_zero, EReal.coe_zero, zero_add, G1_apply]
  rfl

end Cert.Mod.Parts

end
-- ==== Proof.ModClaims.lean ====
/-
  The modulation's own product: for each layer, the conditioning after its activation, times this device's columns of the weight,
  summed over the width, and the bias added. The kernel leaves one block of columns a point.
-/
module

public import proofs.«01_k».proof.Proof.AdaClaims
public import proofs.«01_k».proof.Proof.Gen.KernelModIdeal.Value
public import proofs.«01_k».proof.Proof.Gen.ReferenceModIdeal.Read
public import proofs.«01_k».proof.Proof.Gen.ReferenceModIdeal.Run

@[expose] public section

set_option maxRecDepth 16384

noncomputable section

namespace Cert.Mod.Product

open Idealize.ShloMosaic Idealize.ShloMosaic.TcCoe Idealize.SL.Sem
open Cert.Mod.Ada (act)

section

open Cert.KernelModIdeal Cert.KernelModIdeal.Gen

/-- Entry `(l, b, q)` of the modulation. -/
def modulation (c : Vec Ideal S16x1024 .f32) (w : Vec Ideal S2x1024x2304 .f32) (b : Vec Ideal S2x2304 .f32) :
    Vec Ideal S2x16x2304 .f32 := fun i =>
  (∑ k : Fin 1024, act (c fun a => match a with
      | ⟨0, _⟩ => ⟨(i 1).val, (i 1).isLt⟩
      | ⟨1, _⟩ => k)
    * w fun a => match a with
      | ⟨0, _⟩ => ⟨(i 0).val, (i 0).isLt⟩
      | ⟨1, _⟩ => k
      | ⟨2, _⟩ => ⟨(i 2).val, (i 2).isLt⟩)
  + b fun a => match a with
      | ⟨0, _⟩ => ⟨(i 0).val, (i 0).isLt⟩
      | ⟨1, _⟩ => ⟨(i 2).val, (i 2).isLt⟩

theorem hz2 : (![0, 0] : Fin S16x1024.rank → Nat) = fun _ => 0 := by funext a; fin_cases a <;> rfl
theorem hz3 : (![0, 0, 0] : Fin S1x1024x768.rank → Nat) = fun _ => 0 := by funext a; fin_cases a <;> rfl
theorem hz3b : (![0, 0, 0] : Fin S1x1x768.rank → Nat) = fun _ => 0 := by funext a; fin_cases a <;> rfl
theorem hz3o : (![0, 0, 0] : Fin S1x16x768.rank → Nat) = fun _ => 0 := by funext a; fin_cases a <;> rfl

/-- The rows of the two factors a product's entry runs over, and its entry of the bias. -/
abbrev lix (i : S1x16x768.Idx) (k : Fin 1024) : S16x1024.Idx := fun a => match a with
  | ⟨0, _⟩ => ⟨(i 1).val, (i 1).isLt⟩
  | ⟨1, _⟩ => k
abbrev rix (i : S1x16x768.Idx) (k : Fin 1024) : S1x1024x768.Idx := fun a => match a with
  | ⟨0, _⟩ => ⟨0, Nat.one_pos⟩
  | ⟨1, _⟩ => k
  | ⟨2, _⟩ => ⟨(i 2).val, (i 2).isLt⟩
abbrev bix (i : S1x16x768.Idx) : S1x1x768.Idx := fun a => match a with
  | ⟨0, _⟩ => ⟨0, Nat.one_pos⟩
  | ⟨1, _⟩ => ⟨0, Nat.one_pos⟩
  | ⟨2, _⟩ => ⟨(i 2).val, (i 2).isLt⟩

/-- The product of the block, entry by entry. -/
theorem dot_apply (l : FVec Ideal S16x1024 .bf16) (r : FVec Ideal S1024x768 .bf16) (z : FVec Ideal S16x768 .f32) (i : S16x768.Idx) :
    matmul dot_S16x1024_S1024x768_S16x768_1_0_0_1_n_n none l r z i
      = z i + ∑ k : Fin 1024, l (fun a => match a with | ⟨0, _⟩ => ⟨(i 0).val, (i 0).isLt⟩ | ⟨1, _⟩ => k : S16x1024.Idx)
        * r (fun a => match a with | ⟨0, _⟩ => k | ⟨1, _⟩ => ⟨(i 1).val, (i 1).isLt⟩ : S1024x768.Idx) := by
  simp only [matmul]
  rw [Ideal.matmul_apply, ← Equiv.sum_comp (ValueIdx.contrEquiv1 dot_S16x1024_S1024x768_S16x768_1_0_0_1_n_n 1024 rfl rfl).symm]
  refine congrArg (z i + ·) (Finset.sum_congr rfl fun k _ => ?_)
  have hk := ValueIdx.contrEquiv1_symm_val dot_S16x1024_S1024x768_S16x768_1_0_0_1_n_n 1024 rfl rfl k
  refine congrArg₂ (· * ·) (congrArg l (funext fun a => Fin.ext ?_)) (congrArg r (funext fun a => Fin.ext ?_))
  · match a with
    | ⟨1, _⟩ => exact (DotDims.lhsIdx_val_of_single _ rfl i _).trans hk
    | ⟨0, _⟩ =>
      show (DotDims.lhsIdx _ i _ 0).val = _
      unfold DotDims.lhsIdx
      rw [dif_neg (show ¬(0 : Fin S16x1024.rank) ∈ dot_S16x1024_S1024x768_S16x768_1_0_0_1_n_n.lhsBatch by decide),
        dif_pos (show (0 : Fin S16x1024.rank) ∈ dot_S16x1024_S1024x768_S16x768_1_0_0_1_n_n.lhsNonContracting by decide)]
      rfl
  · match a with
    | ⟨0, _⟩ => exact (DotDims.rhsIdx_val_of_single _ rfl i _).trans hk
    | ⟨1, _⟩ =>
      show (DotDims.rhsIdx _ i _ 1).val = _
      unfold DotDims.rhsIdx
      rw [dif_neg (show ¬(1 : Fin S1024x768.rank) ∈ dot_S16x1024_S1024x768_S16x768_1_0_0_1_n_n.rhsBatch by decide),
        dif_pos (show (1 : Fin S1024x768.rank) ∈ dot_S16x1024_S1024x768_S16x768_1_0_0_1_n_n.rhsNonContracting by decide)]
      rfl

/-- What a point leaves in its block. -/
theorem out3 (x0 : Vec Ideal S16x1024 .f32) (x1 : Vec Ideal S1x1024x768 .f32) (x2 : Vec Ideal S1x1x768 .f32) :
    out0_3 x0 x1 x2 = fun i => (∑ k : Fin 1024, act (x0 (lix i k)) * x1 (rix i k)) + x2 (bix i) := by
  unfold out0_3
  rw [View.canon_unit_zero (S := S1x16x768) hz3o, View.ld_unit_zero (S := S16x1024) hz2,
    View.ld_unit_zero (S := S1x1024x768) hz3, View.ld_unit_zero (S := S1x1x768) hz3b]
  funext i
  have h0 : (i 0 : Fin 1).val < 1 := (i 0).isLt
  unfold k0_pay1
  rw [shapeCast_apply _ shapeCasts_S16x768_S1x16x768 i (fun a => match a with
      | ⟨0, _⟩ => ⟨(i 1).val, (i 1).isLt⟩
      | ⟨1, _⟩ => ⟨(i 2).val, (i 2).isLt⟩ : S16x768.Idx) (by
    rw [Shape.rowMajor_val_three, Shape.rowMajor_val_two]
    show (i 1).val * 768 + (i 2).val = ((i 0).val * 16 + (i 1).val) * 768 + (i 2).val
    omega)]
  refine congrArg₂ (fun p q : EReal => p + q) ?_ ?_
  · rw [dot_apply]
    rw [show (constant (F := Ideal) S16x768 .f32 0x00000000#32) _ = (0 : EReal) from Cert.Ffn.w_zero, zero_add]
    refine Finset.sum_congr rfl fun k _ => congrArg₂ (· * ·) ?_ ?_
    · show x0 (lix i k) * Ideal.div (Ideal.ofBits .f32 0x3F800000#32)
        (Ideal.ofBits .f32 0x3F800000#32 + Ideal.exp (Ideal.ofBits .f32 0x00000000#32 - x0 (lix i k))) = _
      rw [Cert.Ffn.w_one, Cert.Ffn.w_zero, EReal.coe_zero, EReal.coe_one, zero_sub]
      rfl
    · exact shapeCast_apply _ shapeCasts_S1x1024x768_S1024x768 _ (rix i k) (by
        rw [Shape.rowMajor_val_three, Shape.rowMajor_val_two]
        show (0 * 1024 + k.val) * 768 + (i 2).val = k.val * 768 + (i 2).val
        omega)
  · rw [broadcastTo_apply _ broadcasts_S1x768_S16x768 _ (fun a => match a with
        | ⟨0, _⟩ => ⟨0, Nat.one_pos⟩
        | ⟨1, _⟩ => ⟨(i 2).val, (i 2).isLt⟩ : S1x768.Idx) (fun a => by
      match a with
      | ⟨0, _⟩ => rfl
      | ⟨1, _⟩ => rfl)]
    exact shapeCast_apply _ shapeCasts_S1x1x768_S1x768 _ (bix i) (by
      rw [Shape.rowMajor_val_three, Shape.rowMajor_val_two]
      show (0 * 1 + 0) * 768 + (i 2).val = 0 * 768 + (i 2).val
      omega)

variable (m : (ℓ : Loc nD τ sig) → Buf (Elt Ideal) ℓ) (c : Dev nD)

/-- The bias as the call is given it: with an axis of one row. -/
theorem V_bias (i : S2x1x2304.Idx) : V m c main_v0 i = m ((c : Thread nD τ).loc main_arg2) (fun a => match a with
    | ⟨0, _⟩ => ⟨(i 0).val, (i 0).isLt⟩
    | ⟨1, _⟩ => ⟨(i 2).val, (i 2).isLt⟩ : S2x2304.Idx) := by
  have e : V m c main_v0 = shapeCast S2x1x2304 (m ((c : Thread nD τ).loc main_arg2)) shapeCasts_S2x2304_S2x1x2304 := by
    unfold V
    after_reads_simp
    rfl
  have h1 : (i 1 : Fin 1).val < 1 := (i 1).isLt
  rw [e]
  refine shapeCast_apply _ shapeCasts_S2x2304_S2x1x2304 i _ ?_
  rw [Shape.rowMajor_val_three, Shape.rowMajor_val_two]
  show (i 0).val * 2304 + (i 2).val = ((i 0).val * 1 + (i 1).val) * 2304 + (i 2).val
  omega

/-- Where the windows are at a point: three blocks of columns a layer. -/
theorem idx (t : Fin cfg0.N) : win0_0.index t 0 = 0 ∧ win0_0.index t 1 = 0
    ∧ win0_1.index t 0 = t.val / 3 ∧ win0_1.index t 1 = 0 ∧ win0_1.index t 2 = t.val % 3
    ∧ win0_2.index t 0 = t.val / 3 ∧ win0_2.index t 1 = 0 ∧ win0_2.index t 2 = t.val % 3
    ∧ win0_3.index t 0 = t.val / 3 ∧ win0_3.index t 1 = 0 ∧ win0_3.index t 2 = t.val % 3 :=
  (by decide +kernel : ∀ t : Fin grid0.N, win0_0.index t 0 = 0 ∧ win0_0.index t 1 = 0
    ∧ win0_1.index t 0 = t.val / 3 ∧ win0_1.index t 1 = 0 ∧ win0_1.index t 2 = t.val % 3
    ∧ win0_2.index t 0 = t.val / 3 ∧ win0_2.index t 1 = 0 ∧ win0_2.index t 2 = t.val % 3
    ∧ win0_3.index t 0 = t.val / 3 ∧ win0_3.index t 1 = 0 ∧ win0_3.index t 2 = t.val % 3) t

/-- The result array is the modulation. -/
theorem final3 : (dats m 0 c).arrAt 3 cfg0.N = modulation (m ((c : Thread nD τ).loc main_arg0))
    (m ((c : Thread nD τ).loc main_arg1)) (m ((c : Thread nD τ).loc main_arg2)) := by
  rw [← V_main_arg0 m c, ← V_main_arg1 m c]
  refine (dats m 0 c).arrAt_eq_of_cover 3
    (modulation (V m c main_arg0) (V m c main_arg1) (m ((c : Thread nD τ).loc main_arg2))) (fun t _ => ?_) fun i => ?_
  · obtain ⟨a0, a1, b0, b1, b2, d0, d1, d2, e0, e1, e2⟩ := idx t
    rw [Value.flushed3, out3]
    funext y
    have hy : (y 0 : Fin 1).val < 1 := (y 0).isLt
    show ((∑ k : Fin 1024, act (V m c main_arg0 (((cfg0.win 0).blk t).view.emb (lix y k)))
        * V m c main_arg1 (((cfg0.win 1).blk t).view.emb (rix y k))) + V m c main_v0 (((cfg0.win 2).blk t).view.emb (bix y)) : EReal)
      = modulation (V m c main_arg0) (V m c main_arg1) (m ((c : Thread nD τ).loc main_arg2)) (((cfg0.win 3).blk t).view.emb y)
    unfold modulation
    refine congrArg₂ (fun p q : EReal => p + q) (congrArg (fun f : Fin 1024 → EReal => ∑ k, f k) (funext fun k =>
      congrArg₂ (fun p q : EReal => act p * q) (congrArg (V m c main_arg0) (funext fun a => Fin.ext ?_))
        (congrArg (V m c main_arg1) (funext fun a => Fin.ext ?_)))) ?_
    · match a with
      | ⟨0, _⟩ => show win0_0.index t 0 * 16 + 1 * (y 1).val = win0_3.index t 1 * 16 + 1 * (y 1).val; omega
      | ⟨1, _⟩ => show win0_0.index t 1 * 1024 + 1 * k.val = k.val; omega
    · match a with
      | ⟨0, _⟩ => show win0_1.index t 0 * 1 + 1 * 0 = win0_3.index t 0 * 1 + 1 * (y 0).val; omega
      | ⟨1, _⟩ => show win0_1.index t 1 * 1024 + 1 * k.val = k.val; omega
      | ⟨2, _⟩ => show win0_1.index t 2 * 768 + 1 * (y 2).val = win0_3.index t 2 * 768 + 1 * (y 2).val; omega
    · rw [V_bias]
      refine congrArg (m ((c : Thread nD τ).loc main_arg2)) (funext fun a => Fin.ext ?_)
      match a with
      | ⟨0, _⟩ => show win0_2.index t 0 * 1 + 1 * 0 = win0_3.index t 0 * 1 + 1 * (y 0).val; omega
      | ⟨1, _⟩ => show win0_2.index t 2 * 768 + 1 * (y 2).val = win0_3.index t 2 * 768 + 1 * (y 2).val; omega
  · have h0 : (i 0 : Fin 2).val < 2 := (i 0).isLt
    have h1 : (i 1 : Fin 16).val < 16 := (i 1).isLt
    have h2 : (i 2 : Fin 2304).val < 2304 := (i 2).isLt
    have ht : (i 0 : Fin 2).val * 3 + (i 2 : Fin 2304).val / 768 < cfg0.N := by rw [show cfg0.N = 6 from N_0]; omega
    refine ⟨⟨_, ht⟩, flush0_3 _, ?_⟩
    obtain ⟨-, -, -, -, -, -, -, -, e0, e1, e2⟩ := idx ⟨_, ht⟩
    show i ∈ ((View.whole main_v1).slice (win0_3.rect ⟨_, ht⟩)).set
    rw [View.set_slice_whole, Rect.mem_set_unit]
    intro a
    match a with
    | ⟨0, _⟩ => show win0_3.index _ 0 * 1 ≤ (i 0).val ∧ (i 0).val < win0_3.index _ 0 * 1 + 1; rw [e0]; dsimp only; omega
    | ⟨1, _⟩ => show win0_3.index _ 1 * 16 ≤ (i 1).val ∧ (i 1).val < win0_3.index _ 1 * 16 + 16; rw [e1]; omega
    | ⟨2, _⟩ => show win0_3.index _ 2 * 768 ≤ (i 2).val ∧ (i 2).val < win0_3.index _ 2 * 768 + 768; rw [e2]; dsimp only; omega

end

section

open Cert.ReferenceModIdeal Cert.ReferenceModIdeal.Gen Cert.ReferenceModIdeal.Read

variable (x0 : Vec Ideal S16x1024 .f32) (x1 : Vec Ideal S2x1024x2304 .f32) (x2 : Vec Ideal S2x2304 .f32)

/-- The reference's activation. -/
theorem ref_act (i : S16x1024.Idx) : val_main_v4 (F := Ideal) x0 i = act (x0 i) := by
  show x0 i * Ideal.div (Ideal.ofBits .f32 0x3F800000#32) (Ideal.ofBits .f32 0x3F800000#32 + Ideal.exp (-(x0 i))) = _
  rw [Cert.Ffn.w_one, EReal.coe_one]
  rfl

theorem ref_act' (i : S16x1024.Idx) : val_main_v13 (F := Ideal) x0 i = act (x0 i) := ref_act x0 i

/-- The two layers' modulations. -/
theorem ref_lo (i : S2x16x2304.Idx) (j : S1x16x2304.Idx) (h0 : (i 0).val = 0) (h1 : (j 1).val = (i 1).val)
    (h2 : (j 2).val = (i 2).val) : val_main_v18 (F := Ideal) x0 x1 x2 j = modulation x0 x1 x2 i := by
  have hj : (j 2).val < 2304 := (j 2).isLt
  rw [val_main_v18_apply, val_main_v8_apply, val_main_v5_apply, val_main_v7_apply, val_main_v6_apply, val_main_v3_apply,
    val_main_v2_apply]
  refine congrArg₂ (fun p q : EReal => p + q) (Finset.sum_congr rfl fun k _ => ?_) (congrArg x2 (funext fun a => Fin.ext ?_))
  · rw [ref_act, val_main_v1_apply, val_main_v0_apply]
    have hk : k.val < 1024 := k.isLt
    refine congrArg₂ (fun p q : EReal => act p * q) (congrArg x0 (funext fun a => Fin.ext ?_)) (congrArg x1 (funext fun a => Fin.ext ?_))
    · match a with
      | ⟨0, _⟩ => exact h1
      | ⟨1, _⟩ => rfl
    · match a with
      | ⟨0, _⟩ => exact h0.symm
      | ⟨1, _⟩ => show (k.val * 2304 + (j 2).val) / 2304 % 1024 = k.val; omega
      | ⟨2, _⟩ => show (k.val * 2304 + (j 2).val) % 2304 = (i 2).val; omega
  · match a with
    | ⟨0, _⟩ => exact h0.symm
    | ⟨1, _⟩ => show (j 2).val % 2304 = (i 2).val; omega

theorem ref_hi (i : S2x16x2304.Idx) (j : S1x16x2304.Idx) (h0 : (i 0).val = 1) (h1 : (j 1).val = (i 1).val)
    (h2 : (j 2).val = (i 2).val) : val_main_v19 (F := Ideal) x0 x1 x2 j = modulation x0 x1 x2 i := by
  have hj : (j 2).val < 2304 := (j 2).isLt
  rw [val_main_v19_apply, val_main_v17_apply, val_main_v14_apply, val_main_v16_apply, val_main_v15_apply, val_main_v12_apply,
    val_main_v11_apply]
  refine congrArg₂ (fun p q : EReal => p + q) (Finset.sum_congr rfl fun k _ => ?_) (congrArg x2 (funext fun a => Fin.ext ?_))
  · rw [ref_act', val_main_v10_apply, val_main_v9_apply]
    have hk : k.val < 1024 := k.isLt
    refine congrArg₂ (fun p q : EReal => act p * q) (congrArg x0 (funext fun a => Fin.ext ?_)) (congrArg x1 (funext fun a => Fin.ext ?_))
    · match a with
      | ⟨0, _⟩ => exact h1
      | ⟨1, _⟩ => rfl
    · match a with
      | ⟨0, _⟩ => exact h0.symm
      | ⟨1, _⟩ => show (k.val * 2304 + (j 2).val) / 2304 % 1024 = k.val; omega
      | ⟨2, _⟩ => show (k.val * 2304 + (j 2).val) % 2304 = (i 2).val; omega
  · match a with
    | ⟨0, _⟩ => exact h0.symm
    | ⟨1, _⟩ => show (j 2).val % 2304 = (i 2).val; omega

/-- The reference's result: one layer after the other. -/
theorem ref_out : val_main_v20 (F := Ideal) x0 x1 x2 = modulation x0 x1 x2 := by
  funext i
  have h0 : (i 0 : Fin 2).val < 2 := (i 0).isLt
  unfold val_main_v20
  by_cases h : (i 0 : Fin 2).val = 0
  · rw [concatenate_pair_apply_left (s₁ := S1x16x2304) (s₂ := S1x16x2304) 0 _ _ _ i rfl (fun a => match a with
        | ⟨0, _⟩ => ⟨0, Nat.one_pos⟩
        | ⟨1, _⟩ => ⟨(i 1).val, (i 1).isLt⟩
        | ⟨2, _⟩ => ⟨(i 2).val, (i 2).isLt⟩ : S1x16x2304.Idx) (fun a => by
      match a with
      | ⟨0, _⟩ => exact h.symm
      | ⟨1, _⟩ => rfl
      | ⟨2, _⟩ => rfl)]
    exact ref_lo x0 x1 x2 i _ h rfl rfl
  · rw [concatenate_pair_apply_right (s₁ := S1x16x2304) (s₂ := S1x16x2304) 0 _ _ _ i rfl rfl (fun a => match a with
        | ⟨0, _⟩ => ⟨0, Nat.one_pos⟩
        | ⟨1, _⟩ => ⟨(i 1).val, (i 1).isLt⟩
        | ⟨2, _⟩ => ⟨(i 2).val, (i 2).isLt⟩ : S1x16x2304.Idx) (fun a ha => by
      match a with
      | ⟨0, _⟩ => exact absurd rfl ha
      | ⟨1, _⟩ => rfl
      | ⟨2, _⟩ => rfl) (show 0 + 1 = (i 0).val by omega)]
    exact ref_hi x0 x1 x2 i _ (by omega) rfl rfl

end

/-- The reference terminates and leaves its arguments as they were. -/
theorem frame_ref : Cert.quiescent_ReferenceModIdeal := fun m ρ _ =>
  (θ_run Cert.ReferenceModIdeal.defs _ _).mono (fun r h => ⟨fun c => (h c).2,
      Idealize.ShloMosaic.sem_eq_zero_of_no_sems (by decide) r.2⟩)
    (Cert.ReferenceModIdeal.Value.run (F := Ideal) m ρ)

/-- From memories that agree on the arguments, the kernel's program and the reference end with equal results. -/
theorem algebraic : Cert.algebraic_KernelModIdeal_ReferenceModIdeal := by
  intro m ρ m' ρ' _ hagree
  refine ⟨_, Cert.KernelModIdeal.Value.run_blocks (F := Ideal) m ρ, ?_⟩
  refine (θ_run Cert.ReferenceModIdeal.defs _ _).mono (fun r h c => ?_)
    (Cert.ReferenceModIdeal.Value.run (F := Ideal) m' ρ')
  obtain ⟨h0, hargs⟩ := h c
  obtain ⟨a0, a1, a2⟩ := hagree c
  refine ⟨h0.trans ?_, hargs⟩
  rw [Cert.ReferenceModIdeal.Read.val_main_v20_eq, ref_out, final3, a0, a1, a2]

end Cert.Mod.Product

end
-- ==== Proof.GatePoint.lean ====
/-
  The forget gate's gradient: what one point leaves in its two result blocks. The sum of a row and all rows after it is made by
  doubling: twelve times, every row is added to the row at a distance that doubles each time.
-/
module

public import proofs.«01_k».proof.Proof.Spec
public import proofs.«01_k».proof.Proof.Gen.KernelGateIdeal.Value
public import Idealize.ShloMosaic.Lib.VecWindow
public import Idealize.ShloMosaic.Lib.Pointwise
public import Idealize.ShloMosaic.Lib.KernelVsHost
public import Idealize.ShloMosaic.Lib.WordCmp
public import Idealize.ShloMosaic.Lib.Pipeline.ReadBack

@[expose] public section

set_option maxRecDepth 16384

noncomputable section

namespace Cert.Gate

open Idealize.ShloMosaic Cert.KernelGateIdeal Cert.KernelGateIdeal.Gen
open Finset

/-- Row `r` of a lane; zero after the last row. -/
def ent (x : S4096x128.Idx → EReal) (l : Fin 128) (r : ℕ) : EReal := if h : r < 4096 then x (ix2 ⟨r, h⟩ l) else 0

/-- The sum of `d` rows from a row on. -/
def win (x : S4096x128.Idx → EReal) (d : ℕ) (i : S4096x128.Idx) : EReal := ∑ j ∈ range d, ent x (i 1) ((i 0).val + j)

/-- One step of the doubling, as the kernel writes it: the array turned by `b` rows, the rows that came around replaced by zero. -/
def step (b : BitVec 32) (v : FVec Ideal S4096x128 .f32) : FVec Ideal S4096x128 .f32 :=
  addf v (select (cmpi .slt (iota .tc S4096x128 32 [0] iota_S4096x128_d0_w32) (broadcast S4096x128 b))
    (dynamicRotate 0 b none v rotates_S4096x128_d0) (broadcast S4096x128 (Scalar.ofBits .f32 0x00000000#32)))

/-- A step turns the sums of `d` rows into the sums of twice as many. -/
theorem step_win (x : S4096x128.Idx → EReal) (d e : ℕ) (hd : 0 < d) (he : e + d = 4096) :
    step (BitVec.ofNat 32 e) (win x d) = win x (d + d) := by
  funext i
  have hi : (i 0 : Fin 4096).val < 4096 := (i 0).isLt
  have hr : dynamicRotate 0 (BitVec.ofNat 32 e) none (win x d) rotates_S4096x128_d0 i
      = win x d (ix2 (n0 := 4096) (n1 := 128) ⟨((i 0 : Fin 4096).val + d) % 4096, Nat.mod_lt _ (by decide)⟩ (i 1)) := by
    refine dynamicRotate_apply 0 (BitVec.ofNat 32 e) (win x d) rotates_S4096x128_d0 i _ fun a => ?_
    have hb : (BitVec.ofNat 32 e).toNat = e := by rw [BitVec.toNat_ofNat]; omega
    rw [hb]
    match a with
    | ⟨0, _⟩ =>
      show ((i 0 : Fin 4096).val + d) % 4096 = ((i 0 : Fin 4096).val + 4096 - e % 4096) % 4096
      omega
    | ⟨1, _⟩ => rfl
  have hc : cmpi .slt (iota .tc S4096x128 32 [0] iota_S4096x128_d0_w32) (broadcast S4096x128 (BitVec.ofNat 32 e)) i
      = BitVec.ofBool (decide ((i 0 : Fin 4096).val < e)) := by
    show IntOp.cmpi .slt (BitVec.ofNat 32 (0 * 4096 + (i 0 : Fin 4096).val)) (BitVec.ofNat 32 e) = _
    rw [Nat.zero_mul, Nat.zero_add]
    exact WordCmp.cmpi_slt_ofNat (by omega) (by omega)
  show (win x d i + Scalar.select (cmpi .slt (iota .tc S4096x128 32 [0] iota_S4096x128_d0_w32) (broadcast S4096x128 (BitVec.ofNat 32 e)) i)
    (dynamicRotate 0 (BitVec.ofNat 32 e) none (win x d) rotates_S4096x128_d0 i) (Ideal.ofBits .f32 0x00000000#32) : EReal) = _
  rw [hc, hr, Cert.Ffn.w_zero, EReal.coe_zero]
  unfold win
  rw [sum_range_add]
  refine congrArg (_ + ·) ?_
  unfold Scalar.select
  by_cases h : (i 0 : Fin 4096).val < e
  · rw [decide_eq_true h, if_pos (show BitVec.ofBool true = 1 by decide)]
    refine sum_congr rfl fun j _ => ?_
    show ent x (i 1) (((i 0 : Fin 4096).val + d) % 4096 + j) = ent x (i 1) ((i 0 : Fin 4096).val + (d + j))
    rw [Nat.mod_eq_of_lt (by omega), Nat.add_assoc]
  · rw [decide_eq_false h, if_neg (by decide)]
    refine (sum_eq_zero fun j _ => ?_).symm
    exact dif_neg (by omega)

theorem win_one (x : S4096x128.Idx → EReal) : win x 1 = x := by
  funext i
  have hi : (i 0 : Fin 4096).val < 4096 := (i 0).isLt
  unfold win
  rw [sum_range_one]
  refine (dif_pos (by omega)).trans (congrArg x (funext fun a => ?_))
  match a with
  | ⟨0, _⟩ => rfl
  | ⟨1, _⟩ => rfl

/-- The twelve steps. -/
theorem scan (x : S4096x128.Idx → EReal) :
    k0_pay7 (F := Ideal) (iota .tc S4096x128 32 [0] iota_S4096x128_d0_w32) (k0_pay5 x) k0_pay6 = win x 4096 := by
  have e : k0_pay7 (F := Ideal) (iota .tc S4096x128 32 [0] iota_S4096x128_d0_w32) (k0_pay5 x) k0_pay6
      = step 2048#32 (step 3072#32 (step 3584#32 (step 3840#32 (step 3968#32 (step 4032#32 (step 4064#32
        (step 4080#32 (step 4088#32 (step 4092#32 (step 4094#32 (step 4095#32
          (shapeCast S4096x128 x shapeCasts_S4096x128_S4096x128)))))))))))) := rfl
  have e0 : shapeCast S4096x128 x shapeCasts_S4096x128_S4096x128 = win x 1 := by
    rw [win_one]
    funext i
    exact shapeCast_apply _ shapeCasts_S4096x128_S4096x128 i i rfl
  rw [e, e0, step_win x 1 4095 (by decide) (by decide), step_win x 2 4094 (by decide) (by decide),
    step_win x 4 4092 (by decide) (by decide), step_win x 8 4088 (by decide) (by decide),
    step_win x 16 4080 (by decide) (by decide), step_win x 32 4064 (by decide) (by decide),
    step_win x 64 4032 (by decide) (by decide), step_win x 128 3968 (by decide) (by decide),
    step_win x 256 3840 (by decide) (by decide), step_win x 512 3584 (by decide) (by decide),
    step_win x 1024 3072 (by decide) (by decide), step_win x 2048 2048 (by decide) (by decide)]

/-- The derivative of the log-sigmoid. -/
def gate (z : EReal) : EReal := Ideal.div 1 (1 + Ideal.exp z)

/-- The gradient of the logits in a block: the sums over the rows from each row on, times the derivative at the logit. -/
def dz (x p : S4096x128.Idx → EReal) (b : S1x8x128.Idx → EReal) (i : S4096x128.Idx) : EReal :=
  win x 4096 i * gate (p i + b (ix3 (n0 := 1) (n1 := 8) (n2 := 128) 0 0 (i 1)))

theorem hz2 : (![0, 0] : Fin S4096x128.rank → Nat) = fun _ => 0 := by funext a; fin_cases a <;> rfl
theorem hz2a : ∀ a, (![0, 0] : Fin S8x128.rank → Nat) a = 0 := by intro a; fin_cases a <;> rfl

/-- The first row of the bias's block. -/
abbrev row0 (b : S1x8x128.Idx → EReal) : S1x1x128.Idx → EReal :=
  View.ld (Val := Elt Ideal) (e' := EltTy.f32) b (Rect.unit (s := S1x8x128) ![0, 0, 0] S1x1x128.size inb_S1x8x128_S1x1x128_0_0_0)

theorem p1 (x p : S4096x128.Idx → EReal) (b : S1x8x128.Idx → EReal) :
    k0_pay1 (F := Ideal) (win x 4096) p (row0 b) = dz x p b := by
  funext i
  show (win x 4096 i * Ideal.div (Ideal.ofBits .f32 0x3F800000#32) (Ideal.ofBits .f32 0x3F800000#32 + Ideal.exp
    (Ideal.ofBits .f32 0x00000000#32 - (Ideal.ofBits .f32 0x00000000#32
      - (shapeCast S4096x128 p shapeCasts_S4096x128_S4096x128 i
        + broadcastTo S4096x128 (shapeCast S1x128 (row0 b) shapeCasts_S1x1x128_S1x128) broadcasts_S1x128_S4096x128 i)))) : EReal) = _
  rw [Cert.Ffn.w_one, Cert.Ffn.w_zero, EReal.coe_zero, EReal.coe_one, zero_sub, zero_sub, neg_neg,
    shapeCast_apply p shapeCasts_S4096x128_S4096x128 i i rfl,
    broadcastTo_apply _ broadcasts_S1x128_S4096x128 _ (fun a => match a with
        | ⟨0, _⟩ => ⟨0, Nat.one_pos⟩
        | ⟨1, _⟩ => ⟨(i 1).val, (i 1).isLt⟩ : S1x128.Idx) (fun a => by
      match a with
      | ⟨0, _⟩ => rfl
      | ⟨1, _⟩ => rfl),
    shapeCast_apply (row0 b) shapeCasts_S1x1x128_S1x128 _ (ix3 (n0 := 1) (n1 := 1) (n2 := 128) 0 0 (i 1)) (by
      rw [Shape.rowMajor_val_three, Shape.rowMajor_val_two]
      show (0 * 1 + 0) * 128 + (i 1).val = 0 * 128 + (i 1).val
      omega)]
  unfold dz gate
  refine congrArg (fun q : EReal => win x 4096 i * Ideal.div 1 (1 + Ideal.exp (p i + q))) (congrArg b (funext fun a => Fin.ext ?_))
  match a with
  | ⟨0, _⟩ => rfl
  | ⟨1, _⟩ => rfl
  | ⟨2, _⟩ => show 0 + 1 * (i 1).val = (i 1).val; omega

theorem p2 (x p : S4096x128.Idx → EReal) (b : S1x8x128.Idx → EReal) :
    k0_pay2 (F := Ideal) (k0_pay7 (F := Ideal) (iota .tc S4096x128 32 [0] iota_S4096x128_d0_w32) (k0_pay5 x) k0_pay6) p (row0 b) = dz x p b := by
  rw [scan]
  exact p1 x p b

/-- The first row of the second result's block. -/
abbrev first (o : S8x128.Idx → EReal) : S1x128.Idx → EReal :=
  View.ld (Val := Elt Ideal) (e' := EltTy.f32) o (Rect.unit (s := S8x128) ![0, 0] S1x128.size inb_S8x128_S1x128_0_0)

theorem p3 (x p : S4096x128.Idx → EReal) (b : S1x8x128.Idx → EReal) (o : S8x128.Idx → EReal) :
    k0_pay3 (F := Ideal) (k0_pay7 (F := Ideal) (iota .tc S4096x128 32 [0] iota_S4096x128_d0_w32) (k0_pay5 x) k0_pay6) p (row0 b) (first o)
      = fun y : S1x128.Idx => o (ix2 (n0 := 8) (n1 := 128) 0 (y 1)) + ∑ r : Fin 4096, dz x p b (ix2 r (y 1)) := by
  rw [scan]
  funext y
  have h0 : (y 0 : Fin 1).val < 1 := (y 0).isLt
  show (shapeCast S1x128 (first o) shapeCasts_S1x128_S1x128 y
    + shapeCast S1x128 (multiReduction (F := Ideal) .add [0] S128 (k0_pay1 (win x 4096) p (row0 b)) 0x00000000#32 reduces_S4096x128_S128 (.inl rfl) rfl)
      shapeCasts_S128_S1x128 y : EReal) = _
  rw [shapeCast_apply (first o) shapeCasts_S1x128_S1x128 y y rfl,
    shapeCast_apply _ shapeCasts_S128_S1x128 y (fun a => match a with | ⟨0, _⟩ => ⟨(y 1).val, (y 1).isLt⟩ : S128.Idx) (by
      rw [Shape.rowMajor_val_two, Shape.rowMajor_val_one]
      show (y 1).val = (y 0).val * 128 + (y 1).val
      omega), p1]
  refine congrArg₂ (fun a q : EReal => a + q) (congrArg o (funext fun a => Fin.ext ?_)) ?_
  · match a with
    | ⟨0, _⟩ => show 0 + 1 * (y 0).val = 0; omega
    | ⟨1, _⟩ => show 0 + 1 * (y 1).val = (y 1).val; omega
  · pointwise []

theorem p4 : k0_pay4 (F := Ideal) = fun _ => (0 : EReal) := by
  funext y
  pointwise [k0_pay4]

/-- The first row of a block stored over what it held. -/
theorem write_first {sig' : RefSig} {κ : Kind} {sp : Space} (v : View sig' κ sp S8x128 .f32) (f : v.ty.Contents (Elt Ideal))
    (L : List (View.Piece (Elt Ideal) S8x128 .f32)) (o : S8x128.Idx → EReal) (s : Fin 128 → EReal)
    (w : S1x128.Idx → EReal) (hw : w = fun y : S1x128.Idx => o (ix2 (n0 := 8) (n1 := 128) 0 (y 1)) + s (y 1)) (ho : v.read (Elt Ideal) (v.writes (Elt Ideal) f L) = o) :
    v.read (Elt Ideal) (v.writes (Elt Ideal) f (⟨Rect.unit (s := S8x128) ![0, 0] S1x128.size inb_S8x128_S1x128_0_0, w⟩ :: L))
      = fun y => o y + if (y 0 : Fin 8).val = 0 then s (y 1) else 0 := by
  subst hw
  funext y
  by_cases h : (y 0 : Fin 8).val = 0
  · refine (View.read_writes_cons_unit_of_mem v f inb_S8x128_S1x128_0_0 _ L y (ix2 (n0 := 1) (n1 := 128) 0 (y 1)) rfl fun a => ?_).trans ?_
    · match a with
      | 0 => show (y 0 : Fin 8).val = 0 + 0; omega
      | 1 => show (y 1 : Fin 128).val = 0 + (y 1 : Fin 128).val; omega
    · rw [if_pos h]
      refine congrArg (· + s (y 1)) (congrArg o (funext fun a => Fin.ext ?_))
      match a with
      | ⟨0, _⟩ => exact h.symm
      | ⟨1, _⟩ => rfl
  · refine (View.read_writes_cons_unit_of_not_mem v f inb_S8x128_S1x128_0_0 _ L y rfl 0 ?_).trans ?_
    · show (y 0 : Fin 8).val < 0 ∨ 0 + 1 ≤ (y 0 : Fin 8).val
      omega
    · rw [ho, if_neg h, add_zero]

variable (c : Dev nD) (i : grid0.Coords) (arg1 : Memref sig .tc .vmem S4096x128 .f32) (harg1 : arg1.IsWhole)
  (arg2 : Memref sig .tc .vmem S4096x128 .f32) (harg2 : arg2.IsWhole) (arg3 : Memref sig .tc .vmem S1x8x128 .f32)
  (harg3 : arg3.IsWhole) (arg4 : Memref sig .tc .vmem S4096x128 .bf16) (harg4 : arg4.IsWhole)
  (arg5 : Memref sig .tc .vmem S8x128 .f32) (harg5 : arg5.IsWhole)
  (x0 x1 : S4096x128.Idx → EReal) (x2 : S1x8x128.Idx → EReal) (xo : S8x128.Idx → EReal)

/-- The first block, at the first point and at the second. -/
theorem outA3 (hc0 : cond0_0 i) :
    out0_A_3 (F := Ideal) c i arg1 harg1 arg2 harg2 arg3 harg3 arg4 harg4 arg5 harg5 hc0 x0 x1 x2 = dz x0 x1 x2 := by
  unfold out0_A_3
  rw [View.read_writes_eq_canon _ _ _ (cover0_A_3 (F := Ideal) c i arg1 harg1 arg2 harg2 arg3 harg3 arg4 harg4 arg5 harg5 hc0 x0 x1 x2)]
  unfold kernelRun0_A
  dsimp only
  sl_unfold_words
  rw [View.canon_unit_zero (S := S4096x128) hz2]
  simp only [View.readAt_eq_ld, harg1.read_unread, harg2.read_unread, harg3.read_unread]
  simp only [View.ld_unit_zero (S := S4096x128) hz2]
  exact p2 x0 x1 x2

theorem outB3 (hc0 : ¬cond0_0 i) :
    out0_B_3 (F := Ideal) c i arg1 harg1 arg2 harg2 arg3 harg3 arg4 harg4 arg5 harg5 hc0 x0 x1 x2 xo = dz x0 x1 x2 := by
  unfold out0_B_3
  rw [View.read_writes_eq_canon _ _ _ (cover0_B_3 (F := Ideal) c i arg1 harg1 arg2 harg2 arg3 harg3 arg4 harg4 arg5 harg5 hc0 x0 x1 x2 xo)]
  unfold kernelRun0_B
  dsimp only
  sl_unfold_words
  rw [View.canon_unit_zero (S := S4096x128) hz2]
  simp only [View.readAt_eq_ld, harg1.read_unread, harg2.read_unread, harg3.read_unread]
  simp only [View.ld_unit_zero (S := S4096x128) hz2]
  exact p2 x0 x1 x2

/-- The second block: the sums over the rows, added in the first row to zero -/
theorem outA4 (hc0 : cond0_0 i) :
    out0_A_4 (F := Ideal) c i arg1 harg1 arg2 harg2 arg3 harg3 arg4 harg4 arg5 harg5 hc0 x0 x1 x2
      = fun y => 0 + if (y 0 : Fin 8).val = 0 then ∑ r : Fin 4096, dz x0 x1 x2 (ix2 r (y 1)) else 0 := by
  unfold out0_A_4
  unfold kernelRun0_A
  dsimp only
  sl_unfold_words
  simp only [View.readAt_eq_ld, harg1.read_unread, harg2.read_unread, harg3.read_unread]
  simp only [View.ld_unit_zero (S := S4096x128) hz2]
  refine write_first _ _ _ (fun _ => 0) (fun l => ∑ r : Fin 4096, dz x0 x1 x2 (ix2 r l)) _ ?_
    ((View.read_writes_full (s := S8x128) _ _ _ _ _).trans p4)
  refine Eq.trans (congrArg (k0_pay3 (F := Ideal) _ x1 _) ?_) (p3 x0 x1 x2 fun _ => 0)
  exact (View.readCov_fill (s := S8x128) _ _ _ _ _ hz2a).trans (congrArg (fun o => first o) p4)

/-- and to what the point before left. -/
theorem outB4 (hc0 : ¬cond0_0 i) :
    out0_B_4 (F := Ideal) c i arg1 harg1 arg2 harg2 arg3 harg3 arg4 harg4 arg5 harg5 hc0 x0 x1 x2 xo
      = fun y => xo y + if (y 0 : Fin 8).val = 0 then ∑ r : Fin 4096, dz x0 x1 x2 (ix2 r (y 1)) else 0 := by
  unfold out0_B_4
  unfold kernelRun0_B
  dsimp only
  sl_unfold_words
  simp only [View.readAt_eq_ld, harg1.read_unread, harg2.read_unread, harg3.read_unread, harg5.read_unread]
  simp only [View.ld_unit_zero (S := S4096x128) hz2]
  exact write_first _ _ [] xo (fun l => ∑ r : Fin 4096, dz x0 x1 x2 (ix2 r l)) _ (p3 x0 x1 x2 xo) (harg5.read_unread _)

end Cert.Gate

end
-- ==== Proof.GateRef.lean ====
/-
  The forget gate's gradient as the reference writes it: the sum over each position and the ones after it, times the derivative of the
  log-sigmoid, and the bias's sum over all tokens.
-/
module

public import proofs.«01_k».proof.Proof.GatePoint
public import proofs.«01_k».proof.Proof.WgtSums
public import proofs.«01_k».proof.Proof.Gen.ReferenceGateIdeal.Read
public import Idealize.ShloMosaic.Lib.IdealHost

@[expose] public section

set_option maxRecDepth 16384

noncomputable section

namespace Cert.Gate

open Idealize.ShloMosaic
open Cert.ReferenceGateIdeal Cert.ReferenceGateIdeal.Gen Cert.ReferenceGateIdeal.Read
open Cert.Weight (bt ps)
open Finset

/-- The cotangent summed from a position to the sequence's end. -/
def sfx (x : S2x4096x4.Idx → EReal) (b : Fin 2) (s : ℕ) (l : Fin 4) : EReal :=
  ∑ j ∈ range 4096, if h : s + j < 4096 then x (ix3 b ⟨s + j, h⟩ l) else 0

/-- The logit of a token's gate: its entry of the projection, and the second layer's bias. -/
def logit (p : S2x4096x2564.Idx → EReal) (w : S2x4.Idx → EReal) (b : Fin 2) (s : Fin 4096) (l : Fin 4) : EReal :=
  p (ix3 b s ⟨2560 + l.val, by omega⟩) + w (ix2 1 l)

/-- The logits' gradient. -/
def dlogit (x : S2x4096x4.Idx → EReal) (p : S2x4096x2564.Idx → EReal) (w : S2x4.Idx → EReal) (b : Fin 2) (s : Fin 4096) (l : Fin 4) : EReal :=
  sfx x b s.val l * gate (logit p w b s l)

/-- The two results: the logits' gradient, its tokens in one row after the other, and the bias's in the first row. -/
def logits (x : S2x4096x4.Idx → EReal) (p : S2x4096x2564.Idx → EReal) (w : S2x4.Idx → EReal) : S8192x128.Idx → EReal := fun i =>
  if h : (i 1 : Fin 128).val < 4 then dlogit x p w (bt (i 0)) (ps (i 0)) ⟨(i 1 : Fin 128).val, h⟩ else 0

def bias (x : S2x4096x4.Idx → EReal) (p : S2x4096x2564.Idx → EReal) (w : S2x4.Idx → EReal) : S8x128.Idx → EReal := fun i =>
  if h : (i 0 : Fin 8).val = 0 ∧ (i 1 : Fin 128).val < 4 then ∑ b : Fin 2, ∑ s : Fin 4096, dlogit x p w b s ⟨(i 1 : Fin 128).val, h.2⟩ else 0

/-! ## The derivative of the log-sigmoid -/

/-- Choosing by a decided proposition. -/
theorem sel (q : Prop) [Decidable q] (a b : EReal) : Scalar.select (BitVec.ofBool (decide q)) a b = if q then a else b := by
  unfold Scalar.select
  by_cases h : q
  · rw [decide_eq_true h, if_pos h, if_pos (show BitVec.ofBool true = 1 by decide)]
  · rw [decide_eq_false h, if_neg h, if_neg (show ¬BitVec.ofBool false = 1 by decide)]

theorem w_top : Ideal.ofBits .f32 0x7F800000#32 = (⊤ : EReal) := by
  simp [Ideal.ofBits, Ideal.ieee]

theorem coe_max (a b : ℝ) : ((max a b : ℝ) : EReal) = max (a : EReal) (b : EReal) := EReal.coe_strictMono.monotone.map_max

/-- The softplus, and a number with infinity replaced by zero. -/
def sp (t : EReal) : EReal := max t 0 + Ideal.log1p (Ideal.exp (-max t (-t)))
def fin (t : EReal) : EReal := if t = ⊤ then 0 else t

/-- Over the reals: the exponential of a number less its softplus. -/
theorem exp_softplus (t : ℝ) : Real.exp (t - (max t 0 + Real.log (1 + Real.exp (-max t (-t))))) = 1 / (1 + Real.exp (-t)) := by
  have h0 : ∀ u : ℝ, 0 < 1 + Real.exp u := fun u => by positivity
  rw [Real.exp_sub, Real.exp_add, Real.exp_log (h0 _)]
  rcases le_total 0 t with h | h
  · rw [max_eq_left h, max_eq_left (by linarith), div_mul_eq_div_div, div_self (Real.exp_pos t).ne']
  · rw [max_eq_right h, max_eq_right (by linarith), neg_neg, Real.exp_zero, one_mul, Real.exp_neg]
    have := Real.exp_pos t
    have := h0 t
    field_simp
    ring

theorem exp_fin (z : EReal) : Ideal.exp (fin (-z) - fin (sp (-z))) = gate z := by
  induction z using EReal.rec with
  | bot =>
    have e : sp (-⊥) = ⊤ := by
      unfold sp
      rw [EReal.neg_bot, max_eq_left le_top, EReal.neg_top, max_eq_left bot_le, EReal.neg_top, Ideal.exp_bot]
      unfold Ideal.log1p
      rw [add_zero, ← EReal.coe_one, Ideal.log_coe]
      simp
    rw [e, EReal.neg_bot]
    unfold fin gate
    rw [if_pos rfl, Ideal.exp_bot, add_zero, sub_zero, ← EReal.coe_zero, Ideal.exp_coe, ← EReal.coe_one, Ideal.div_coe one_ne_zero]
    simp
  | top =>
    have e : sp (-⊤) = 0 := by
      unfold sp
      rw [EReal.neg_top, max_eq_right bot_le, EReal.neg_bot, max_eq_right bot_le, EReal.neg_top, Ideal.exp_bot]
      unfold Ideal.log1p
      rw [add_zero, ← EReal.coe_one, Ideal.log_coe]
      simp
    rw [e, EReal.neg_top]
    unfold fin gate
    rw [if_neg (by simp), if_neg (by simp), sub_zero, Ideal.exp_bot, Ideal.exp_top,
      show (1 : EReal) + ⊤ = ⊤ from EReal.coe_add_top 1]
    simp [Ideal.div]
  | coe z =>
    have h0 : 0 < 1 + Real.exp (-max (-z) (- -z)) := by positivity
    have e : sp (-(z : EReal)) = ((max (-z) 0 + Real.log (1 + Real.exp (-max (-z) (- -z))) : ℝ) : EReal) := by
      unfold sp Ideal.log1p
      rw [← EReal.coe_neg, ← EReal.coe_neg, ← coe_max, ← EReal.coe_neg, Ideal.exp_coe, ← EReal.coe_one, ← EReal.coe_add,
        Ideal.log_coe, if_neg (not_le.mpr h0), ← EReal.coe_zero, ← coe_max, ← EReal.coe_add]
    rw [e]
    unfold fin gate
    rw [← EReal.coe_neg, if_neg (EReal.coe_ne_top _), if_neg (EReal.coe_ne_top _), ← EReal.coe_sub, Ideal.exp_coe, exp_softplus,
      neg_neg, Ideal.exp_coe, ← EReal.coe_one, ← EReal.coe_add, Ideal.div_coe (by positivity), ← EReal.coe_mul, one_mul]

variable (x0 : Vec Ideal S2x4096x4 .f32) (x1 : Vec Ideal S2x4096x2564 .f32) (x2 : Vec Ideal S2x4 .f32)

theorem ref_logit (i : S2x4096x4.Idx) : val_main_v5 (F := Ideal) x1 x2 i = logit x1 x2 (i 0) (i 1) (i 2) := by
  rw [val_main_v5_apply, val_main_v0_apply, val_main_v4_apply, val_main_v3_apply, val_main_v2_apply, val_main_v1_apply]
  have h2 : (i 2 : Fin 4).val < 4 := (i 2).isLt
  refine congrArg₂ (fun p q : EReal => p + q) (congrArg x1 (funext fun a => Fin.ext ?_)) (congrArg x2 (funext fun a => Fin.ext ?_))
  · match a with
    | ⟨0, _⟩ => rfl
    | ⟨1, _⟩ => rfl
    | ⟨2, _⟩ => rfl
  · match a with
    | ⟨0, _⟩ => rfl
    | ⟨1, _⟩ => show (i 2).val % 4 = (i 2).val; omega

theorem ref_sp (i : S2x4096x4.Idx) : val_main_call0_v1_0 (F := Ideal) x1 x2 i = sp (-(logit x1 x2 (i 0) (i 1) (i 2))) := by
  rw [val_main_call0_v1_0_apply, val_main_call0_call0_v4_apply, val_main_call0_call0_v11_apply, val_main_call0_call0_v1_apply,
    val_main_call0_call0_v10_apply, val_main_call0_call0_v9_apply, val_main_call0_call0_v8_apply, val_main_call0_call0_v7_apply,
    val_main_call0_call0_v3_apply, val_main_call0_call0_v2_apply, val_main_call0_call0_v0_apply, val_main_call0_call0_cst_apply,
    val_main_call0_v0_apply, ref_logit]
  generalize logit x1 x2 (i 0) (i 1) (i 2) = z
  generalize val_main_call0_call0_v6 (F := Ideal) x1 x2 i = u
  refine (sel (-z - Ideal.ofBits .f32 0x00000000#32 ≠ -z - Ideal.ofBits .f32 0x00000000#32) u
    (max (-z) (Ideal.ofBits .f32 0x00000000#32) + Ideal.log1p (Ideal.exp
      (-max (-z - Ideal.ofBits .f32 0x00000000#32) (-(-z - Ideal.ofBits .f32 0x00000000#32)))))).trans ?_
  rw [if_neg (fun h => h rfl), Cert.Ffn.w_zero, EReal.coe_zero, sub_zero]
  rfl

theorem ref_gate (i : S2x4096x4.Idx) : val_main_v6_1 (F := Ideal) x1 x2 i = gate (logit x1 x2 (i 0) (i 1) (i 2)) := by
  rw [val_main_v6_1_apply, val_main_call0_call0_v21_apply, val_main_call0_call0_v16_apply, val_main_call0_call0_v20_apply,
    val_main_call0_call0_v14_apply, val_main_call0_call0_v18_apply, val_main_call0_call0_v13_apply, val_main_call0_call0_v17_apply,
    val_main_call0_call0_v15_apply, val_main_call0_call0_v19_apply, val_main_call0_call0_cst_0_apply, val_main_call0_call0_cst_1_apply,
    val_main_call0_call0_cst_2_apply, val_main_call0_call0_cst_3_apply, ref_sp, val_main_call0_v0_apply, ref_logit, ← exp_fin]
  generalize logit x1 x2 (i 0) (i 1) (i 2) = z
  refine congrArg Ideal.exp (congrArg₂ (fun p q : EReal => p - q) ?_ ?_)
  · refine (sel (-z = Ideal.ofBits .f32 0x7F800000#32) (Ideal.ofBits .f32 0x00000000#32) (-z)).trans ?_
    rw [w_top, Cert.Ffn.w_zero, EReal.coe_zero]
    rfl
  · refine (sel (sp (-z) = Ideal.ofBits .f32 0x7F800000#32) (Ideal.ofBits .f32 0x00000000#32) (sp (-z))).trans ?_
    rw [w_top, Cert.Ffn.w_zero, EReal.coe_zero]
    rfl

/-! ## The running sum -/

theorem foldl_add {α : Type} (f : α → EReal) : ∀ (l : List α) (v : EReal), l.foldl (fun r n => r + f n) v = v + (l.map f).sum
  | [], v => (add_zero v).symm
  | a :: l, v => by rw [List.foldl_cons, foldl_add f l, List.map_cons, List.sum_cons, add_assoc]

theorem ref_scan (i : S2x4x4096.Idx) : val_main_v10 (F := Ideal) x0 i = sfx x0 (i 0) (i 2 : Fin 4096).val (i 1) := by
  have hi : (i 2 : Fin 4096).val < 4096 := (i 2).isLt
  have hz : val_main_call2_call0_v0 (F := Ideal) (Shape.Idx.first h_S_) = (0 : EReal) := by
    rw [val_main_call2_call0_v0_apply, val_main_call2_call0_cst_apply]
    exact Cert.Ffn.w_zero
  unfold val_main_v10 Host.reduceWindowAdd
  rw [Ideal.hostReduceWindowAdd_def, hz]
  unfold Ideal.hostReduceWindowAdd Host.reduceWindow
  refine (foldl_add _ _ _).trans ?_
  rw [zero_add, ← Fin.sum_univ_def]
  refine (Fintype.sum_equiv (⟨3, ![1, 1, 4096]⟩ : Shape).rowMajor.symm _ (fun w : (⟨3, ![1, 1, 4096]⟩ : Shape).Idx =>
    if h : (i 2 : Fin 4096).val + (w 2 : Fin 4096).val < 4096
      then x0 (ix3 (n0 := 2) (n1 := 4096) (n2 := 4) (i 0) ⟨(i 2 : Fin 4096).val + (w 2 : Fin 4096).val, h⟩ (i 1)) else 0) (fun n => ?_)).trans ?_
  · obtain ⟨w, hw⟩ : ∃ w : (⟨3, ![1, 1, 4096]⟩ : Shape).Idx, w = (⟨3, ![1, 1, 4096]⟩ : Shape).rowMajor.symm n := ⟨_, rfl⟩
    have w0 : (w 0 : Fin 1).val = 0 := by have : (w 0 : Fin 1).val < 1 := (w 0).isLt; omega
    have w1 : (w 1 : Fin 1).val = 0 := by have : (w 1 : Fin 1).val < 1 := (w 1).isLt; omega
    have w2 : (w 2 : Fin 4096).val < 4096 := (w 2).isLt
    subst hw
    by_cases h : (i 2 : Fin 4096).val + ((⟨3, ![1, 1, 4096]⟩ : Shape).rowMajor.symm n 2 : Fin 4096).val < 4096
    · rw [dif_pos h]
      refine (dif_pos (fun a => by
        match a with
        | ⟨0, _⟩ =>
          have : (i 0 : Fin 2).val < 2 := (i 0).isLt
          show 0 ≤ (i 0).val * 1 + ((⟨3, ![1, 1, 4096]⟩ : Shape).rowMajor.symm n 0).val
            ∧ (i 0).val * 1 + ((⟨3, ![1, 1, 4096]⟩ : Shape).rowMajor.symm n 0).val - 0 < 2
          rw [w0]
          omega
        | ⟨1, _⟩ =>
          have : (i 1 : Fin 4).val < 4 := (i 1).isLt
          show 0 ≤ (i 1).val * 1 + ((⟨3, ![1, 1, 4096]⟩ : Shape).rowMajor.symm n 1).val
            ∧ (i 1).val * 1 + ((⟨3, ![1, 1, 4096]⟩ : Shape).rowMajor.symm n 1).val - 0 < 4
          rw [w1]
          omega
        | ⟨2, _⟩ =>
          show 0 ≤ (i 2).val * 1 + ((⟨3, ![1, 1, 4096]⟩ : Shape).rowMajor.symm n 2).val
            ∧ (i 2).val * 1 + ((⟨3, ![1, 1, 4096]⟩ : Shape).rowMajor.symm n 2).val - 0 < 4096
          omega)).trans ?_
      rw [val_main_v9_apply]
      refine congrArg x0 (funext fun a => Fin.ext ?_)
      match a with
      | ⟨0, _⟩ =>
        show (i 0).val * 1 + ((⟨3, ![1, 1, 4096]⟩ : Shape).rowMajor.symm n 0).val - 0 = (i 0).val
        rw [w0]; omega
      | ⟨1, _⟩ =>
        show (i 2).val * 1 + ((⟨3, ![1, 1, 4096]⟩ : Shape).rowMajor.symm n 2).val - 0
          = (i 2).val + ((⟨3, ![1, 1, 4096]⟩ : Shape).rowMajor.symm n 2).val
        omega
      | ⟨2, _⟩ =>
        show (i 1).val * 1 + ((⟨3, ![1, 1, 4096]⟩ : Shape).rowMajor.symm n 1).val - 0 = (i 1).val
        rw [w1]; omega
    · rw [dif_neg h]
      refine dif_neg (fun hh => h ?_)
      have e : (i 2).val * 1 + ((⟨3, ![1, 1, 4096]⟩ : Shape).rowMajor.symm n 2).val - 0 < 4096 := (hh 2).2
      omega
  · rw [sum_idx3, Fin.sum_univ_one, Fin.sum_univ_one]
    unfold sfx
    rw [sum_range]
    rfl

theorem ref_dlogit (i : S2x4096x4.Idx) : val_main_v12 (F := Ideal) x0 x1 x2 i = dlogit x0 x1 x2 (i 0) (i 1) (i 2) := by
  rw [val_main_v12_apply, val_main_call3_v1_apply, val_main_call3_v0_apply, val_main_v11_apply, ref_scan, ref_gate]
  show (-(-(sfx x0 (i 0) (i 1 : Fin 4096).val (i 2)) * gate (logit x1 x2 (i 0) (i 1) (i 2))) : EReal) = _
  rw [neg_mul, neg_neg]
  rfl

/-! ## The two results -/

theorem ref_logits : val_main_v18 (F := Ideal) x0 x1 x2 = logits x0 x1 x2 := by
  funext i
  show val_main_v17 (F := Ideal) x0 x1 x2 i = _
  unfold val_main_v17 logits
  have hi : (i 0 : Fin 8192).val < 8192 := (i 0).isLt
  by_cases h : (i 1 : Fin 128).val < 4
  · rw [dif_pos h, pad_apply_of_inside _ _ _ _ _ _ _ i (ix2 (i 0) ⟨(i 1).val, h⟩ : S8192x4.Idx) (fun a => by
      match a with
      | ⟨0, _⟩ => show (i 0).val = 0 + (i 0).val * (0 + 1); omega
      | ⟨1, _⟩ => show (i 1).val = 0 + (i 1).val * (0 + 1); omega), val_main_v16_apply, ref_dlogit]
    refine congr (congrArg₂ (dlogit x0 x1 x2) (Fin.ext ?_) (Fin.ext ?_)) (Fin.ext ?_)
    · show ((i 0).val * 4 + (i 1).val) / 16384 = (i 0).val / 4096; omega
    · show ((i 0).val * 4 + (i 1).val) / 4 % 4096 = (i 0).val % 4096; omega
    · show ((i 0).val * 4 + (i 1).val) % 4 = (i 1).val; omega
  · rw [dif_neg h, pad_apply_of_not_inside _ _ _ _ _ _ _ i 1 (fun hh => h (by
      have := hh.2.2
      have e : ((i 1).val - 0) / (0 + 1) < 4 := this
      omega)), val_main_call4_v0_apply, val_main_c_apply]
    show ((((0#32 : BitVec 32).toInt : ℝ)) : EReal) = 0
    simp

/-- A sum over the first two of three axes. -/
theorem sum01 {n0 n1 n2 : ℕ} (h : (⟨3, ![n0, n1, n2]⟩ : Shape).ReducesTo [0, 1] ⟨1, ![n2]⟩) (v : (⟨3, ![n0, n1, n2]⟩ : Shape).Idx → EReal)
    (init : EReal) (j : (⟨1, ![n2]⟩ : Shape).Idx) :
    Ideal.hostReduceAdd h v init j = init + ∑ a : Fin n0, ∑ b : Fin n1, v (ix3 a b (j 0)) := by
  classical
  refine congrArg (init + ·) ((Finset.sum_filter_eq_sum_of_fiber (fun i => h.drop i = j) (fun k : Fin n0 × Fin n1 => ix3 k.1 k.2 (j 0))
    (fun _ _ e => Prod.ext (congrFun e 0) (congrFun e 1)) (fun i => ?_) v).trans ?_)
  · constructor
    · intro e
      refine ⟨(i 0, i 1), ?_⟩
      funext a
      refine Fin.ext ?_
      match a with
      | ⟨0, _⟩ => rfl
      | ⟨1, _⟩ => rfl
      | ⟨2, _⟩ => exact (congrArg Fin.val (congrFun e 0)).symm
    · rintro ⟨k, rfl⟩
      funext b
      refine Fin.ext ?_
      match b with
      | ⟨0, _⟩ => rfl
  · rw [Fintype.sum_prod_type]

theorem ref_sum (i : S4.Idx) : val_main_v13 (F := Ideal) x0 x1 x2 i = ∑ b : Fin 2, ∑ s : Fin 4096, dlogit x0 x1 x2 b s (i 0) := by
  unfold val_main_v13
  rw [ValueIdx.hostReduceAdd_apply]
  refine (sum01 _ _ _ _).trans ?_
  rw [val_main_cst_apply]
  refine (congrArg (· + _) Cert.Ffn.w_zero).trans ?_
  rw [EReal.coe_zero, zero_add]
  refine sum_congr rfl fun b _ => sum_congr rfl fun s _ => ?_
  rw [ref_dlogit]
  rfl

theorem ref_total (i : S4.Idx) : val_main_v15 (F := Ideal) x0 x1 x2 i = ∑ b : Fin 2, ∑ s : Fin 4096, dlogit x0 x1 x2 b s (i 0) := by
  unfold val_main_v15
  rw [ValueIdx.hostReduceAdd_apply]
  refine (sum01 _ _ _ _).trans ?_
  rw [val_main_cst_0_apply]
  refine (congrArg (· + _) Cert.Ffn.w_zero).trans ?_
  rw [EReal.coe_zero, zero_add, Fin.sum_univ_one, Fin.sum_univ_one, val_main_v14_apply, ref_sum]
  refine sum_congr rfl fun b _ => sum_congr rfl fun s _ => congrArg (dlogit x0 x1 x2 b s) (Fin.ext ?_)
  show (0 * 1 + 0) * 4 + (i 0).val = (i 0).val
  omega

theorem ref_bias : val_main_v20 (F := Ideal) x0 x1 x2 = bias x0 x1 x2 := by
  funext i
  unfold val_main_v20 bias
  have hz : val_main_call5_v0 (F := Ideal) (Shape.Idx.first h_S_) = (0 : EReal) := by
    rw [val_main_call5_v0_apply, val_main_c_1_apply]
    show ((((0#32 : BitVec 32).toInt : ℝ)) : EReal) = 0
    simp
  by_cases h0 : (i 0 : Fin 8).val = 0
  · by_cases h : (i 1 : Fin 128).val < 4
    · rw [dif_pos ⟨h0, h⟩, pad_apply_of_inside _ _ _ _ _ _ _ i (ix2 0 ⟨(i 1).val, h⟩ : S1x4.Idx) (fun a => by
        match a with
        | ⟨0, _⟩ => show (i 0).val = 0 + 0 * (0 + 1); omega
        | ⟨1, _⟩ => show (i 1).val = 0 + (i 1).val * (0 + 1); omega), val_main_v19_apply, ref_total]
      rfl
    · rw [dif_neg fun hh => h hh.2, pad_apply_of_not_inside _ _ _ _ _ _ _ i 1 (fun hh => h (by
        have := hh.2.2
        have e : ((i 1).val - 0) / (0 + 1) < 4 := this
        omega)), hz]
  · rw [dif_neg fun hh => h0 hh.1, pad_apply_of_not_inside _ _ _ _ _ _ _ i 0 (fun hh => h0 (by
      have := hh.2.2
      have e : ((i 0).val - 0) / (0 + 1) < 1 := this
      omega)), hz]

end Cert.Gate

end
-- ==== Proof.GateClaims.lean ====
/-
  The forget gate's gradient: what the kernel leaves in its two result arrays, and the claims about it.
-/
module

public import proofs.«01_k».proof.Proof.GateRef
public import proofs.«01_k».proof.Defs
public import proofs.«01_k».proof.Proof.Gen.ReferenceGateIdeal.Run
public import Idealize.ShloMosaic.Lib.KernelVsHost
public import Idealize.ShloMosaic.Lib.Quiescent
public import Idealize.ShloMosaic.Lib.StableHlo.ReadAt

@[expose] public section

set_option maxRecDepth 16384

noncomputable section

namespace Cert.Gate

open Idealize.ShloMosaic Idealize.ShloMosaic.TcCoe Idealize.SL.Sem
open Finset
open Cert.Weight (bt ps)

/-- Token `r` of sequence `n`. -/
def tok (n : ℕ) (r : Fin 4096) : Fin 8192 := ⟨4096 * (n % 2) + r.val, by omega⟩

theorem bt_tok (n : ℕ) (r : Fin 4096) : (bt (tok n r)).val = n % 2 := by
  show (4096 * (n % 2) + r.val) / 4096 = _; omega

theorem ps_tok (n : ℕ) (r : Fin 4096) : ps (tok n r) = r := Fin.ext (by
  show (4096 * (n % 2) + r.val) % 4096 = _; omega)

section

open Cert.KernelGateIdeal Cert.KernelGateIdeal.Gen

variable (m : (ℓ : Loc nD τ sig) → Buf (Elt Ideal) ℓ) (c : Dev nD)

/-- The three arguments. -/
abbrev A0 : S2x4096x4.Idx → EReal := m ((c : Thread nD τ).loc main_arg0)
abbrev A1 : S2x4096x2564.Idx → EReal := m ((c : Thread nD τ).loc main_arg1)
abbrev A2 : S2x4.Idx → EReal := m ((c : Thread nD τ).loc main_arg2)

theorem idx (t : Fin cfg0.N) : win0_0.index t 0 = t.val ∧ win0_0.index t 1 = 0 ∧ win0_1.index t 0 = t.val ∧ win0_1.index t 1 = 20
    ∧ win0_2.index t 0 = 1 ∧ win0_2.index t 1 = 0 ∧ win0_2.index t 2 = 0 ∧ win0_3.index t 0 = t.val ∧ win0_3.index t 1 = 0
    ∧ win0_4.index t 0 = 0 ∧ win0_4.index t 1 = 0 :=
  (by decide +kernel : ∀ t : Fin grid0.N, win0_0.index t 0 = t.val ∧ win0_0.index t 1 = 0 ∧ win0_1.index t 0 = t.val
    ∧ win0_1.index t 1 = 20 ∧ win0_2.index t 0 = 1 ∧ win0_2.index t 1 = 0 ∧ win0_2.index t 2 = 0 ∧ win0_3.index t 0 = t.val
    ∧ win0_3.index t 1 = 0 ∧ win0_4.index t 0 = 0 ∧ win0_4.index t 1 = 0) t

/-! ## The arrays the host code prepares -/

/-- The cotangent, its tokens in one row after the other, its lanes padded with zeros. -/
theorem V_v1 (i : S8192x128.Idx) : V m c main_v1 i
    = if h : (i 1 : Fin 128).val < 4 then A0 m c (ix3 (bt (i 0)) (ps (i 0)) ⟨(i 1 : Fin 128).val, h⟩) else 0 := by
  have h0 : (i 0 : Fin 8192).val < 8192 := (i 0).isLt
  have e : V m c main_v1 = pad S8192x128 ![0, 0] ![0, 124] ![0, 0]
      (shapeCast S8192x4 (A0 m c) shapeCasts_S2x4096x4_S8192x4)
      (sitofp (F := Ideal) .f32 (constantI S_ 32 0#32)) pads_S8192x4_S8192x128_000_01240 h_S_ := by
    unfold V
    after_reads_simp
    rfl
  rw [e]
  by_cases h : (i 1 : Fin 128).val < 4
  · rw [dif_pos h, pad_apply_of_inside _ _ _ _ _ _ _ i (ix2 (i 0) ⟨(i 1 : Fin 128).val, h⟩ : S8192x4.Idx) (fun a => by
      match a with
      | ⟨0, _⟩ => show (i 0).val = 0 + (i 0).val * (0 + 1); omega
      | ⟨1, _⟩ => show (i 1).val = 0 + (i 1).val * (0 + 1); omega)]
    refine shapeCast_apply _ shapeCasts_S2x4096x4_S8192x4 _ _ ?_
    rw [Shape.rowMajor_val_three, Shape.rowMajor_val_two]
    show ((i 0).val / 4096 * 4096 + (i 0).val % 4096) * 4 + (i 1).val = (i 0).val * 4 + (i 1).val
    omega
  · rw [dif_neg h, pad_apply_of_not_inside _ _ _ _ _ _ _ i 1 (fun hh => h (by
      have := hh.2.2
      have e : ((i 1).val - 0) / (0 + 1) < 4 := this
      omega))]
    show ((((0#32 : BitVec 32).toInt : ℝ)) : EReal) = 0
    simp

/-- The projection, its tokens in one row after the other. -/
theorem V_v3 (i : S8192x2688.Idx) (h : (i 1 : Fin 2688).val < 2564) : V m c main_v3 i
    = A1 m c (ix3 (bt (i 0)) (ps (i 0)) ⟨(i 1 : Fin 2688).val, h⟩) := by
  have h0 : (i 0 : Fin 8192).val < 8192 := (i 0).isLt
  have e : V m c main_v3 = pad S8192x2688 ![0, 0] ![0, 124] ![0, 0]
      (shapeCast S8192x2564 (A1 m c) shapeCasts_S2x4096x2564_S8192x2564)
      (sitofp (F := Ideal) .f32 (constantI S_ 32 0#32)) pads_S8192x2564_S8192x2688_000_01240 h_S_ := by
    unfold V
    after_reads_simp
    rfl
  rw [e, pad_apply_of_inside _ _ _ _ _ _ _ i (ix2 (i 0) ⟨(i 1 : Fin 2688).val, h⟩ : S8192x2564.Idx) (fun a => by
    match a with
    | ⟨0, _⟩ => show (i 0).val = 0 + (i 0).val * (0 + 1); omega
    | ⟨1, _⟩ => show (i 1).val = 0 + (i 1).val * (0 + 1); omega)]
  refine shapeCast_apply _ shapeCasts_S2x4096x2564_S8192x2564 _ _ ?_
  rw [Shape.rowMajor_val_three, Shape.rowMajor_val_two]
  show ((i 0).val / 4096 * 4096 + (i 0).val % 4096) * 2564 + (i 1).val = (i 0).val * 2564 + (i 1).val
  omega

/-- The bias, repeated over eight rows. -/
theorem V_v9 (i : S2x8x128.Idx) (h : (i 2 : Fin 128).val < 4) : V m c main_v9 i = A2 m c (ix2 (i 0) ⟨(i 2 : Fin 128).val, h⟩) := by
  have e : V m c main_v9 = mulf (F := Ideal) (φ := .f32)
      (broadcastInDim S2x8x128 ![0, 1, 2] bcast_S2x1x128_S2x8x128_0_1_2 (broadcastInDim S2x1x128 ![0, 2] bcast_S2x128_S2x1x128_0_2
        (pad S2x128 ![0, 0] ![0, 124] ![0, 0] (A2 m c) (sitofp (F := Ideal) .f32 (constantI S_ 32 0#32)) pads_S2x4_S2x128_000_01240 h_S_)))
      (broadcastInDim S2x8x128 ![0, 1, 2] bcast_S1x8x1_S2x8x128_0_1_2 (broadcastInDim S1x8x1 ![] bcast_S_S1x8x1
        (constant (F := Ideal) S_ .f32 0x3F800000#32))) := by
    unfold V
    after_reads_simp
    rfl
  rw [e]
  show (_ * Ideal.ofBits .f32 0x3F800000#32 : EReal) = _
  rw [Cert.Ffn.w_one, EReal.coe_one, mul_one]
  rw [broadcastInDim_apply _ bcast_S2x1x128_S2x8x128_0_1_2 _ _ (ix3 (n0 := 2) (n1 := 1) (n2 := 128) (i 0) 0 (i 2)) (fun a => by
    match a with
    | ⟨0, _⟩ => rfl
    | ⟨1, _⟩ => rfl
    | ⟨2, _⟩ => rfl)]
  rw [broadcastInDim_apply _ bcast_S2x128_S2x1x128_0_2 _ _ (ix2 (n0 := 2) (n1 := 128) (i 0) (i 2)) (fun a => by
    match a with
    | ⟨0, _⟩ => rfl
    | ⟨1, _⟩ => rfl)]
  exact pad_apply_of_inside _ _ _ _ _ _ _ _ (ix2 (i 0) ⟨(i 2 : Fin 128).val, h⟩ : S2x4.Idx) (fun a => by
    match a with
    | ⟨0, _⟩ => show (i 0).val = 0 + (i 0).val * (0 + 1); omega
    | ⟨1, _⟩ => show (i 2).val = 0 + (i 2).val * (0 + 1); omega)

/-! ## The blocks of a point -/

theorem iblk0 (t : Fin cfg0.N) (y : S4096x128.Idx) : iblk m c 0 t y
    = if h : (y 1 : Fin 128).val < 4 then A0 m c (ix3 (bt (tok t.val (y 0))) (y 0) ⟨(y 1 : Fin 128).val, h⟩) else 0 := by
  unfold iblk
  rw [View.read_apply]
  have ht : t.val < 2 := lt_of_lt_of_eq t.isLt N_0
  refine (V_v1 m c _).trans ?_
  have e0 : (((cfg0.win 0).blk t).view.emb y 0 : Fin 8192) = tok t.val (y 0) := Fin.ext (by
    show win0_0.index t 0 * 4096 + 1 * (y 0).val = 4096 * (t.val % 2) + (y 0).val
    rw [(idx t).1]; omega)
  have e1 : (((cfg0.win 0).blk t).view.emb y 1 : Fin 128) = y 1 := Fin.ext (by
    show win0_0.index t 1 * 128 + 1 * (y 1).val = (y 1).val
    rw [(idx t).2.1]; omega)
  refine (congrArg₂ (fun (a : Fin 8192) (d : Fin 128) =>
    if h : d.val < 4 then A0 m c (ix3 (bt a) (ps a) ⟨d.val, h⟩) else 0) e0 e1).trans ?_
  exact congrArg (fun s : Fin 4096 => if h : (y 1 : Fin 128).val < 4
    then A0 m c (ix3 (bt (tok t.val (y 0))) s ⟨(y 1 : Fin 128).val, h⟩) else 0) (ps_tok t.val (y 0))

theorem iblk1 (t : Fin cfg0.N) (y : S4096x128.Idx) (h : (y 1 : Fin 128).val < 4) : iblk m c 1 t y
    = A1 m c (ix3 (bt (tok t.val (y 0))) (y 0) ⟨2560 + (y 1 : Fin 128).val, by omega⟩) := by
  unfold iblk
  rw [View.read_apply]
  have ht : t.val < 2 := lt_of_lt_of_eq t.isLt N_0
  have e0 : (((cfg0.win 1).blk t).view.emb y 0 : Fin 8192) = tok t.val (y 0) := Fin.ext (by
    show win0_1.index t 0 * 4096 + 1 * (y 0).val = 4096 * (t.val % 2) + (y 0).val
    rw [(idx t).2.2.1]; omega)
  have e1 : (((cfg0.win 1).blk t).view.emb y 1 : Fin 2688).val = 2560 + (y 1 : Fin 128).val := by
    show win0_1.index t 1 * 128 + 1 * (y 1).val = 2560 + (y 1).val
    rw [(idx t).2.2.2.1]; omega
  refine (V_v3 m c _ (by rw [e1]; omega)).trans ?_
  refine (congrArg₂ (fun (a : Fin 8192) (d : Fin 2564) => A1 m c (ix3 (bt a) (ps a) d)) e0
    (Fin.ext (a := (⟨_, lt_of_eq_of_lt e1 (by omega)⟩ : Fin 2564)) (b := ⟨2560 + (y 1 : Fin 128).val, by omega⟩) e1)).trans ?_
  exact congrArg (fun s : Fin 4096 => A1 m c (ix3 (bt (tok t.val (y 0))) s ⟨2560 + (y 1 : Fin 128).val, by omega⟩)) (ps_tok t.val (y 0))

theorem iblk2 (t : Fin cfg0.N) (l : Fin 128) (h : l.val < 4) : iblk m c 2 t (ix3 (n0 := 1) (n1 := 8) (n2 := 128) 0 0 l)
    = A2 m c (ix2 1 ⟨l.val, h⟩) := by
  unfold iblk
  rw [View.read_apply]
  have e0 : (((cfg0.win 2).blk t).view.emb (ix3 (n0 := 1) (n1 := 8) (n2 := 128) 0 0 l) 0 : Fin 2).val = 1 := by
    show win0_2.index t 0 * 1 + 1 * 0 = 1
    rw [(idx t).2.2.2.2.1]
  have e1 : (((cfg0.win 2).blk t).view.emb (ix3 (n0 := 1) (n1 := 8) (n2 := 128) 0 0 l) 2 : Fin 128).val = l.val := by
    show win0_2.index t 2 * 128 + 1 * l.val = l.val
    rw [(idx t).2.2.2.2.2.2.1]; omega
  refine (V_v9 m c _ (by rw [e1]; exact h)).trans ?_
  exact congrArg₂ (fun (a : Fin 2) (d : Fin 4) => A2 m c (ix2 a d)) (Fin.ext e0) (Fin.ext e1)

/-- A point's block of the logits' gradient. -/
theorem block (t : Fin cfg0.N) : dz (iblk m c 0 t) (iblk m c 1 t) (iblk m c 2 t)
    = fun y : S4096x128.Idx => logits (A0 m c) (A1 m c) (A2 m c) (ix2 (tok t.val (y 0)) (y 1)) := by
  funext y
  unfold dz logits
  by_cases h : (y 1 : Fin 128).val < 4
  · rw [dif_pos (show ((ix2 (n0 := 8192) (n1 := 128) (tok t.val (y 0)) (y 1)) 1 : Fin 128).val < 4 from h), iblk1 m c t y h, iblk2 m c t (y 1) h]
    refine Eq.trans ?_ (congrArg (fun s : Fin 4096 =>
      dlogit (A0 m c) (A1 m c) (A2 m c) (bt (tok t.val (y 0))) s ⟨(y 1 : Fin 128).val, h⟩) (ps_tok t.val (y 0))).symm
    unfold dlogit
    refine congrArg (· * gate (logit (A1 m c) (A2 m c) (bt (tok t.val (y 0))) (y 0) ⟨(y 1 : Fin 128).val, h⟩)) ?_
    unfold win sfx ent
    refine sum_congr rfl fun j _ => ?_
    by_cases hj : (y 0 : Fin 4096).val + j < 4096
    · rw [dif_pos hj, dif_pos hj, iblk0]
      refine (dif_pos h).trans ?_
      refine congrArg (fun b : Fin 2 => A0 m c (ix3 b ⟨(y 0 : Fin 4096).val + j, hj⟩ ⟨(y 1 : Fin 128).val, h⟩)) (Fin.ext ?_)
      exact (bt_tok _ _).trans (bt_tok _ _).symm
    · rw [dif_neg hj, dif_neg hj]
  · rw [dif_neg (show ¬((ix2 (n0 := 8192) (n1 := 128) (tok t.val (y 0)) (y 1)) 1 : Fin 128).val < 4 from h)]
    have e : win (iblk m c 0 t) 4096 y = 0 := by
      unfold win ent
      refine sum_eq_zero fun j _ => ?_
      by_cases hj : (y 0 : Fin 4096).val + j < 4096
      · rw [dif_pos hj, iblk0]
        exact dif_neg h
      · rw [dif_neg hj]
    rw [e, zero_mul]

/-- A sequence's part of the bias's gradient. -/
def part (n : ℕ) (y : S8x128.Idx) : EReal :=
  if (y 0 : Fin 8).val = 0 then ∑ r : Fin 4096, logits (A0 m c) (A1 m c) (A2 m c) (ix2 (tok n r) (y 1)) else 0

theorem outs_fst (t : Fin cfg0.N) : (outsAt0 m c t.val t.isLt).1
    = fun y : S4096x128.Idx => logits (A0 m c) (A1 m c) (A2 m c) (ix2 (tok t.val (y 0)) (y 1)) := by
  by_cases h0 : t.val % 2 = 0
  · rw [outsAt0_A m c t h0]
    dsimp only
    rw [outA3, block]
  · rw [outsAt0_B m c t h0]
    dsimp only
    rw [outB3, block]

theorem outs_snd0 (hn : 0 < cfg0.N) : (outsAt0 m c 0 hn).2 = fun y => 0 + part m c 0 y := by
  rw [outsAt0_A m c ⟨0, hn⟩ rfl]
  dsimp only
  rw [outA4, block]
  rfl

theorem outs_snd1 (hn : 1 < cfg0.N) : (outsAt0 m c 1 hn).2 = fun y => 0 + part m c 0 y + part m c 1 y := by
  rw [outsAt0_B m c ⟨1, hn⟩ (by show ¬1 % 2 = 0; decide)]
  dsimp only
  rw [outB4, block]
  simp only [Nat.sub_self, outs_snd0]
  rfl

/-- The two sequences' parts add up to the bias's gradient. -/
theorem parts (y : S8x128.Idx) : 0 + part m c 0 y + part m c 1 y = bias (A0 m c) (A1 m c) (A2 m c) y := by
  unfold part bias
  by_cases h0 : (y 0 : Fin 8).val = 0
  · rw [if_pos h0, if_pos h0, zero_add]
    by_cases h : (y 1 : Fin 128).val < 4
    · rw [dif_pos ⟨h0, h⟩, Fin.sum_univ_two]
      refine congrArg₂ (fun p q : EReal => p + q) (sum_congr rfl fun r _ => ?_) (sum_congr rfl fun r _ => ?_)
      all_goals
        unfold logits
        refine (dif_pos h).trans ?_
        refine congrArg₂ (fun b s => dlogit (A0 m c) (A1 m c) (A2 m c) b s ⟨(y 1 : Fin 128).val, h⟩) (Fin.ext (bt_tok _ r)) (ps_tok _ r)
    · rw [dif_neg fun hh => h hh.2]
      have e : ∀ n, ∑ r : Fin 4096, logits (A0 m c) (A1 m c) (A2 m c) (ix2 (tok n r) (y 1)) = 0 := fun n =>
        sum_eq_zero fun r _ => dif_neg h
      rw [e, e, add_zero]
  · rw [if_neg h0, if_neg h0, dif_neg fun hh => h0 hh.1, add_zero, add_zero]

/-! ## The two result arrays -/

theorem in_block (n : ℕ) : n / 4096 * 4096 ≤ n ∧ n < n / 4096 * 4096 + 4096 := by omega

theorem final3 : (dats m 0 c).arrAt 3 cfg0.N = logits (A0 m c) (A1 m c) (A2 m c) := by
  refine (dats m 0 c).arrAt_eq_of_cover 3 (logits (A0 m c) (A1 m c) (A2 m c)) (fun t _ => ?_) fun i => ?_
  · have ht : t.val < 2 := lt_of_lt_of_eq t.isLt N_0
    rw [Value.flushed3, outs_fst]
    funext y
    rw [View.read_apply]
    refine congrArg (logits (A0 m c) (A1 m c) (A2 m c)) (funext fun a => Fin.ext ?_)
    match a with
    | ⟨0, _⟩ =>
      show 4096 * (t.val % 2) + (y 0).val = win0_3.index t 0 * 4096 + 1 * (y 0).val
      rw [(idx t).2.2.2.2.2.2.2.1]; omega
    | ⟨1, _⟩ =>
      show (y 1).val = win0_3.index t 1 * 128 + 1 * (y 1).val
      rw [(idx t).2.2.2.2.2.2.2.2.1]; omega
  · have h0 : (i 0 : Fin 8192).val < 8192 := (i 0).isLt
    have h1 : (i 1 : Fin 128).val < 128 := (i 1).isLt
    have ht : (i 0 : Fin 8192).val / 4096 < cfg0.N := by rw [show cfg0.N = 2 from N_0]; omega
    refine ⟨⟨_, ht⟩, flush0_3 _, ?_⟩
    obtain ⟨-, -, -, -, -, -, -, e0, e1, -, -⟩ := idx ⟨_, ht⟩
    show i ∈ ((View.whole main_v10_0).slice (win0_3.rect ⟨_, ht⟩)).set
    rw [View.set_slice_whole, Rect.mem_set_unit]
    intro a
    match a with
    | ⟨0, _⟩ =>
      show win0_3.index _ 0 * 4096 ≤ (i 0 : Fin 8192).val ∧ (i 0 : Fin 8192).val < win0_3.index _ 0 * 4096 + 4096
      rw [e0]; exact in_block _
    | ⟨1, _⟩ =>
      show win0_3.index _ 1 * 128 ≤ (i 1 : Fin 128).val ∧ (i 1 : Fin 128).val < win0_3.index _ 1 * 128 + 128
      rw [e1]; omega

theorem final4 : (dats m 0 c).arrAt 4 cfg0.N = bias (A0 m c) (A1 m c) (A2 m c) := by
  refine (dats m 0 c).arrAt_eq_of_cover 4 (bias (A0 m c) (A1 m c) (A2 m c)) (fun t hf => ?_) fun i => ?_
  · have ht : t.val < 2 := lt_of_lt_of_eq t.isLt N_0
    have h1 : t.val % 2 = 1 := (flush0_4 t).1 hf
    obtain ⟨n, hn⟩ := t
    obtain rfl : n = 1 := by dsimp only at h1 ht; omega
    rw [Value.flushed4, outs_snd1]
    funext y
    rw [View.read_apply]
    refine (parts m c y).trans (congrArg (bias (A0 m c) (A1 m c) (A2 m c)) (funext fun a => Fin.ext ?_))
    obtain ⟨-, -, -, -, -, -, -, -, -, e0, e1⟩ := idx ⟨1, hn⟩
    match a with
    | ⟨0, _⟩ =>
      show (y 0).val = win0_4.index _ 0 * 8 + 1 * (y 0).val
      rw [e0]; omega
    | ⟨1, _⟩ =>
      show (y 1).val = win0_4.index _ 1 * 128 + 1 * (y 1).val
      rw [e1]; omega
  · have h0 : (i 0 : Fin 8).val < 8 := (i 0).isLt
    have h1 : (i 1 : Fin 128).val < 128 := (i 1).isLt
    have ht : 1 < cfg0.N := by rw [show cfg0.N = 2 from N_0]; omega
    refine ⟨⟨_, ht⟩, (flush0_4 _).2 rfl, ?_⟩
    obtain ⟨-, -, -, -, -, -, -, -, -, e0, e1⟩ := idx ⟨_, ht⟩
    show i ∈ ((View.whole main_v10_1).slice (win0_4.rect ⟨_, ht⟩)).set
    rw [View.set_slice_whole, Rect.mem_set_unit]
    intro a
    match a with
    | ⟨0, _⟩ =>
      show win0_4.index _ 0 * 8 ≤ (i 0 : Fin 8).val ∧ (i 0 : Fin 8).val < win0_4.index _ 0 * 8 + 8
      rw [e0]; omega
    | ⟨1, _⟩ =>
      show win0_4.index _ 1 * 128 ≤ (i 1 : Fin 128).val ∧ (i 1 : Fin 128).val < win0_4.index _ 1 * 128 + 128
      rw [e1]; omega

end

/-- The reference terminates and leaves its arguments as they were. -/
theorem frame_ref : Cert.quiescent_ReferenceGateIdeal := fun m ρ _ =>
  (θ_run Cert.ReferenceGateIdeal.defs _ _).mono (fun r h => ⟨fun c => (h c).2.2,
      Idealize.ShloMosaic.sem_eq_zero_of_no_sems (by decide) r.2⟩)
    (Cert.ReferenceGateIdeal.Value.run (F := Ideal) m ρ)

/-- From memories that agree on the arguments, the kernel's program and the reference end with equal results. -/
theorem algebraic : Cert.algebraic_KernelGateIdeal_ReferenceGateIdeal := by
  intro m ρ m' ρ' _ hagree
  refine ⟨_, _, Cert.KernelGateIdeal.Value.run_blocks (F := Ideal) m ρ, ?_⟩
  refine (θ_run Cert.ReferenceGateIdeal.defs _ _).mono (fun r h c => ?_)
    (Cert.ReferenceGateIdeal.Value.run (F := Ideal) m' ρ')
  obtain ⟨h0, h1, hargs⟩ := h c
  obtain ⟨a0, a1, a2⟩ := hagree c
  refine ⟨h0.trans ?_, h1.trans ?_, hargs⟩
  · rw [Cert.ReferenceGateIdeal.Read.val_main_v18_eq, ref_logits, final3, a0, a1, a2]
  · rw [Cert.ReferenceGateIdeal.Read.val_main_v20_eq, ref_bias, final4, a0, a1, a2]

end Cert.Gate

end
-- ==== Proof.lean ====
/-
  The proof of the certificate's claims: for each program its frames, what its idealization preserves, and the algebraic claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.ReferenceUpIdeal
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.ReferenceDownIdeal
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.KernelFwd
public import proofs.«01_k».proof.Proof.Gen.KernelFwd.Skeleton
public import proofs.«01_k».proof.Proof.Gen.KernelFwd.Launch
public import proofs.«01_k».proof.Proof.Gen.KernelFwd.Points
public import proofs.«01_k».proof.Proof.Gen.KernelFwd.Frame
public import proofs.«01_k».proof.Proof.Gen.KernelFwdIdeal
public import proofs.«01_k».proof.Proof.Gen.KernelFwdIdeal.Skeleton
public import proofs.«01_k».proof.Proof.Gen.KernelFwdIdeal.Launch
public import proofs.«01_k».proof.Proof.Gen.KernelFwdIdeal.Points
public import proofs.«01_k».proof.Proof.Gen.KernelFwdIdeal.Frame
public import proofs.«01_k».proof.Proof.Gen.ReferenceFwdIdeal
public import proofs.«01_k».proof.Proof.Gen.KernelMixIn
public import proofs.«01_k».proof.Proof.Gen.KernelMixIn.Skeleton
public import proofs.«01_k».proof.Proof.Gen.KernelMixIn.Launch
public import proofs.«01_k».proof.Proof.Gen.KernelMixIn.Points
public import proofs.«01_k».proof.Proof.Gen.KernelMixIn.Frame
public import proofs.«01_k».proof.Proof.Gen.KernelMixInIdeal
public import proofs.«01_k».proof.Proof.Gen.KernelMixInIdeal.Skeleton
public import proofs.«01_k».proof.Proof.Gen.KernelMixInIdeal.Launch
public import proofs.«01_k».proof.Proof.Gen.KernelMixInIdeal.Points
public import proofs.«01_k».proof.Proof.Gen.KernelMixInIdeal.Frame
public import proofs.«01_k».proof.Proof.Gen.ReferenceMixInIdeal
public import proofs.«01_k».proof.Proof.Gen.KernelMixOut
public import proofs.«01_k».proof.Proof.Gen.KernelMixOut.Skeleton
public import proofs.«01_k».proof.Proof.Gen.KernelMixOut.Launch
public import proofs.«01_k».proof.Proof.Gen.KernelMixOut.Points
public import proofs.«01_k».proof.Proof.Gen.KernelMixOut.Frame
public import proofs.«01_k».proof.Proof.Gen.KernelMixOutIdeal
public import proofs.«01_k».proof.Proof.Gen.KernelMixOutIdeal.Skeleton
public import proofs.«01_k».proof.Proof.Gen.KernelMixOutIdeal.Launch
public import proofs.«01_k».proof.Proof.Gen.KernelMixOutIdeal.Points
public import proofs.«01_k».proof.Proof.Gen.KernelMixOutIdeal.Frame
public import proofs.«01_k».proof.Proof.Gen.ReferenceMixOutIdeal
public import proofs.«01_k».proof.Proof.Gen.KernelMixInBwd
public import proofs.«01_k».proof.Proof.Gen.KernelMixInBwd.Skeleton
public import proofs.«01_k».proof.Proof.Gen.KernelMixInBwd.Launch
public import proofs.«01_k».proof.Proof.Gen.KernelMixInBwd.Points
public import proofs.«01_k».proof.Proof.Gen.KernelMixInBwd.Frame
public import proofs.«01_k».proof.Proof.Gen.KernelMixInBwdIdeal
public import proofs.«01_k».proof.Proof.Gen.KernelMixInBwdIdeal.Skeleton
public import proofs.«01_k».proof.Proof.Gen.KernelMixInBwdIdeal.Launch
public import proofs.«01_k».proof.Proof.Gen.KernelMixInBwdIdeal.Points
public import proofs.«01_k».proof.Proof.Gen.KernelMixInBwdIdeal.Frame
public import proofs.«01_k».proof.Proof.Gen.ReferenceMixInBwdIdeal
public import proofs.«01_k».proof.Proof.Gen.KernelAdamUp
public import proofs.«01_k».proof.Proof.Gen.KernelAdamUp.Skeleton
public import proofs.«01_k».proof.Proof.Gen.KernelAdamUp.Launch
public import proofs.«01_k».proof.Proof.Gen.KernelAdamUp.Points
public import proofs.«01_k».proof.Proof.Gen.KernelAdamUp.Frame
public import proofs.«01_k».proof.Proof.Gen.KernelAdamUpIdeal
public import proofs.«01_k».proof.Proof.Gen.KernelAdamUpIdeal.Skeleton
public import proofs.«01_k».proof.Proof.Gen.KernelAdamUpIdeal.Launch
public import proofs.«01_k».proof.Proof.Gen.KernelAdamUpIdeal.Points
public import proofs.«01_k».proof.Proof.Gen.KernelAdamUpIdeal.Frame
public import proofs.«01_k».proof.Proof.Gen.ReferenceAdamUpIdeal
public import proofs.«01_k».proof.Proof.Gen.KernelAdamDown
public import proofs.«01_k».proof.Proof.Gen.KernelAdamDown.Skeleton
public import proofs.«01_k».proof.Proof.Gen.KernelAdamDown.Launch
public import proofs.«01_k».proof.Proof.Gen.KernelAdamDown.Points
public import proofs.«01_k».proof.Proof.Gen.KernelAdamDown.Frame
public import proofs.«01_k».proof.Proof.Gen.KernelAdamDownIdeal
public import proofs.«01_k».proof.Proof.Gen.KernelAdamDownIdeal.Skeleton
public import proofs.«01_k».proof.Proof.Gen.KernelAdamDownIdeal.Launch
public import proofs.«01_k».proof.Proof.Gen.KernelAdamDownIdeal.Points
public import proofs.«01_k».proof.Proof.Gen.KernelAdamDownIdeal.Frame
public import proofs.«01_k».proof.Proof.Gen.ReferenceAdamDownIdeal
public import proofs.«01_k».proof.Proof.Gen.KernelAdamIn
public import proofs.«01_k».proof.Proof.Gen.KernelAdamIn.Skeleton
public import proofs.«01_k».proof.Proof.Gen.KernelAdamIn.Launch
public import proofs.«01_k».proof.Proof.Gen.KernelAdamIn.Points
public import proofs.«01_k».proof.Proof.Gen.KernelAdamIn.Frame
public import proofs.«01_k».proof.Proof.Gen.KernelAdamInIdeal
public import proofs.«01_k».proof.Proof.Gen.KernelAdamInIdeal.Skeleton
public import proofs.«01_k».proof.Proof.Gen.KernelAdamInIdeal.Launch
public import proofs.«01_k».proof.Proof.Gen.KernelAdamInIdeal.Points
public import proofs.«01_k».proof.Proof.Gen.KernelAdamInIdeal.Frame
public import proofs.«01_k».proof.Proof.Gen.ReferenceAdamInIdeal
public import proofs.«01_k».proof.Proof.Gen.KernelAdamOut
public import proofs.«01_k».proof.Proof.Gen.KernelAdamOut.Skeleton
public import proofs.«01_k».proof.Proof.Gen.KernelAdamOut.Launch
public import proofs.«01_k».proof.Proof.Gen.KernelAdamOut.Points
public import proofs.«01_k».proof.Proof.Gen.KernelAdamOut.Frame
public import proofs.«01_k».proof.Proof.Gen.KernelAdamOutIdeal
public import proofs.«01_k».proof.Proof.Gen.KernelAdamOutIdeal.Skeleton
public import proofs.«01_k».proof.Proof.Gen.KernelAdamOutIdeal.Launch
public import proofs.«01_k».proof.Proof.Gen.KernelAdamOutIdeal.Points
public import proofs.«01_k».proof.Proof.Gen.KernelAdamOutIdeal.Frame
public import proofs.«01_k».proof.Proof.Gen.ReferenceAdamOutIdeal
public import proofs.«01_k».proof.Proof.Gen.KernelAdamAda
public import proofs.«01_k».proof.Proof.Gen.KernelAdamAda.Skeleton
public import proofs.«01_k».proof.Proof.Gen.KernelAdamAda.Launch
public import proofs.«01_k».proof.Proof.Gen.KernelAdamAda.Points
public import proofs.«01_k».proof.Proof.Gen.KernelAdamAda.Frame
public import proofs.«01_k».proof.Proof.Gen.KernelAdamAdaIdeal
public import proofs.«01_k».proof.Proof.Gen.KernelAdamAdaIdeal.Skeleton
public import proofs.«01_k».proof.Proof.Gen.KernelAdamAdaIdeal.Launch
public import proofs.«01_k».proof.Proof.Gen.KernelAdamAdaIdeal.Points
public import proofs.«01_k».proof.Proof.Gen.KernelAdamAdaIdeal.Frame
public import proofs.«01_k».proof.Proof.Gen.ReferenceAdamAdaIdeal
public import proofs.«01_k».proof.Proof.Gen.KernelAdamSmall
public import proofs.«01_k».proof.Proof.Gen.KernelAdamSmall.Skeleton
public import proofs.«01_k».proof.Proof.Gen.KernelAdamSmall.Launch
public import proofs.«01_k».proof.Proof.Gen.KernelAdamSmall.Points
public import proofs.«01_k».proof.Proof.Gen.KernelAdamSmall.Frame
public import proofs.«01_k».proof.Proof.Gen.KernelAdamSmallIdeal
public import proofs.«01_k».proof.Proof.Gen.KernelAdamSmallIdeal.Skeleton
public import proofs.«01_k».proof.Proof.Gen.KernelAdamSmallIdeal.Launch
public import proofs.«01_k».proof.Proof.Gen.KernelAdamSmallIdeal.Points
public import proofs.«01_k».proof.Proof.Gen.KernelAdamSmallIdeal.Frame
public import proofs.«01_k».proof.Proof.Gen.ReferenceAdamSmallIdeal
public import proofs.«01_k».proof.Proof.Gen.KernelLoss
public import proofs.«01_k».proof.Proof.Gen.KernelLoss.Skeleton
public import proofs.«01_k».proof.Proof.Gen.KernelLoss.Launch
public import proofs.«01_k».proof.Proof.Gen.KernelLoss.Points
public import proofs.«01_k».proof.Proof.Gen.KernelLoss.Frame
public import proofs.«01_k».proof.Proof.Gen.KernelLossIdeal
public import proofs.«01_k».proof.Proof.Gen.KernelLossIdeal.Skeleton
public import proofs.«01_k».proof.Proof.Gen.KernelLossIdeal.Launch
public import proofs.«01_k».proof.Proof.Gen.KernelLossIdeal.Points
public import proofs.«01_k».proof.Proof.Gen.KernelLossIdeal.Frame
public import proofs.«01_k».proof.Proof.Gen.ReferenceLossIdeal
public import proofs.«01_k».proof.Proof.Gen.KernelAda
public import proofs.«01_k».proof.Proof.Gen.KernelAda.Skeleton
public import proofs.«01_k».proof.Proof.Gen.KernelAda.Launch
public import proofs.«01_k».proof.Proof.Gen.KernelAda.Points
public import proofs.«01_k».proof.Proof.Gen.KernelAda.Frame
public import proofs.«01_k».proof.Proof.Gen.KernelAdaIdeal
public import proofs.«01_k».proof.Proof.Gen.KernelAdaIdeal.Skeleton
public import proofs.«01_k».proof.Proof.Gen.KernelAdaIdeal.Launch
public import proofs.«01_k».proof.Proof.Gen.KernelAdaIdeal.Points
public import proofs.«01_k».proof.Proof.Gen.KernelAdaIdeal.Frame
public import proofs.«01_k».proof.Proof.Gen.ReferenceAdaIdeal
public import proofs.«01_k».proof.Proof.Gen.KernelBias
public import proofs.«01_k».proof.Proof.Gen.KernelBias.Skeleton
public import proofs.«01_k».proof.Proof.Gen.KernelBias.Launch
public import proofs.«01_k».proof.Proof.Gen.KernelBias.Points
public import proofs.«01_k».proof.Proof.Gen.KernelBias.Frame
public import proofs.«01_k».proof.Proof.Gen.KernelBiasIdeal
public import proofs.«01_k».proof.Proof.Gen.KernelBiasIdeal.Skeleton
public import proofs.«01_k».proof.Proof.Gen.KernelBiasIdeal.Launch
public import proofs.«01_k».proof.Proof.Gen.KernelBiasIdeal.Points
public import proofs.«01_k».proof.Proof.Gen.KernelBiasIdeal.Frame
public import proofs.«01_k».proof.Proof.Gen.ReferenceBiasIdeal
public import proofs.«01_k».proof.Proof.Gen.KernelParts
public import proofs.«01_k».proof.Proof.Gen.KernelParts.Skeleton
public import proofs.«01_k».proof.Proof.Gen.KernelParts.Launch
public import proofs.«01_k».proof.Proof.Gen.KernelParts.Points
public import proofs.«01_k».proof.Proof.Gen.KernelParts.Frame
public import proofs.«01_k».proof.Proof.Gen.KernelPartsIdeal
public import proofs.«01_k».proof.Proof.Gen.KernelPartsIdeal.Skeleton
public import proofs.«01_k».proof.Proof.Gen.KernelPartsIdeal.Launch
public import proofs.«01_k».proof.Proof.Gen.KernelPartsIdeal.Points
public import proofs.«01_k».proof.Proof.Gen.KernelPartsIdeal.Frame
public import proofs.«01_k».proof.Proof.Gen.ReferencePartsIdeal
public import proofs.«01_k».proof.Proof.Gen.KernelMod
public import proofs.«01_k».proof.Proof.Gen.KernelMod.Skeleton
public import proofs.«01_k».proof.Proof.Gen.KernelMod.Launch
public import proofs.«01_k».proof.Proof.Gen.KernelMod.Points
public import proofs.«01_k».proof.Proof.Gen.KernelMod.Frame
public import proofs.«01_k».proof.Proof.Gen.KernelModIdeal
public import proofs.«01_k».proof.Proof.Gen.KernelModIdeal.Skeleton
public import proofs.«01_k».proof.Proof.Gen.KernelModIdeal.Launch
public import proofs.«01_k».proof.Proof.Gen.KernelModIdeal.Points
public import proofs.«01_k».proof.Proof.Gen.KernelModIdeal.Frame
public import proofs.«01_k».proof.Proof.Gen.ReferenceModIdeal
public import proofs.«01_k».proof.Proof.Gen.KernelGate
public import proofs.«01_k».proof.Proof.Gen.KernelGate.Skeleton
public import proofs.«01_k».proof.Proof.Gen.KernelGate.Launch
public import proofs.«01_k».proof.Proof.Gen.KernelGate.Points
public import proofs.«01_k».proof.Proof.Gen.KernelGate.Frame
public import proofs.«01_k».proof.Proof.Gen.KernelGateIdeal
public import proofs.«01_k».proof.Proof.Gen.KernelGateIdeal.Skeleton
public import proofs.«01_k».proof.Proof.Gen.KernelGateIdeal.Launch
public import proofs.«01_k».proof.Proof.Gen.KernelGateIdeal.Points
public import proofs.«01_k».proof.Proof.Gen.KernelGateIdeal.Frame
public import proofs.«01_k».proof.Proof.Gen.ReferenceGateIdeal
public import proofs.«01_k».proof.Proof.Gen.Pre_finite
public import proofs.«01_k».proof.Proof.Gen.Pre_finite_in
public import proofs.«01_k».proof.Proof.Gen.KernelIdeal.Value
public import proofs.«01_k».proof.Proof.Gen.ReferenceIdeal.Read
public import proofs.«01_k».proof.Proof.Gen.KernelUpIdeal.Value
public import proofs.«01_k».proof.Proof.Gen.ReferenceUpIdeal.Read
public import proofs.«01_k».proof.Proof.Gen.KernelDownIdeal.Value
public import proofs.«01_k».proof.Proof.Gen.ReferenceDownIdeal.Read
public import proofs.«01_k».proof.Proof.Gen.KernelOutIdeal.Value
public import proofs.«01_k».proof.Proof.Gen.ReferenceOutIdeal.Read
public import proofs.«01_k».proof.Proof.Gen.KernelInIdeal.Value
public import proofs.«01_k».proof.Proof.Gen.ReferenceInIdeal.Read
public import proofs.«01_k».proof.Proof.Gen.KernelFwdIdeal.Value
public import proofs.«01_k».proof.Proof.Gen.ReferenceFwdIdeal.Read
public import proofs.«01_k».proof.Proof.Gen.KernelMixInIdeal.Value
public import proofs.«01_k».proof.Proof.Gen.ReferenceMixInIdeal.Read
public import proofs.«01_k».proof.Proof.Gen.KernelMixOutIdeal.Value
public import proofs.«01_k».proof.Proof.Gen.ReferenceMixOutIdeal.Read
public import proofs.«01_k».proof.Proof.Gen.KernelMixInBwdIdeal.Value
public import proofs.«01_k».proof.Proof.Gen.ReferenceMixInBwdIdeal.Read
public import proofs.«01_k».proof.Proof.Gen.KernelAdamUpIdeal.Value
public import proofs.«01_k».proof.Proof.Gen.ReferenceAdamUpIdeal.Read
public import proofs.«01_k».proof.Proof.Gen.KernelAdamDownIdeal.Value
public import proofs.«01_k».proof.Proof.Gen.ReferenceAdamDownIdeal.Read
public import proofs.«01_k».proof.Proof.Gen.KernelAdamInIdeal.Value
public import proofs.«01_k».proof.Proof.Gen.ReferenceAdamInIdeal.Read
public import proofs.«01_k».proof.Proof.Gen.KernelAdamOutIdeal.Value
public import proofs.«01_k».proof.Proof.Gen.ReferenceAdamOutIdeal.Read
public import proofs.«01_k».proof.Proof.Gen.KernelAdamAdaIdeal.Value
public import proofs.«01_k».proof.Proof.Gen.ReferenceAdamAdaIdeal.Read
public import proofs.«01_k».proof.Proof.Gen.KernelAdamSmallIdeal.Value
public import proofs.«01_k».proof.Proof.Gen.ReferenceAdamSmallIdeal.Read
public import proofs.«01_k».proof.Proof.Gen.KernelLossIdeal.Value
public import proofs.«01_k».proof.Proof.Gen.ReferenceLossIdeal.Read
public import proofs.«01_k».proof.Proof.Gen.KernelAdaIdeal.Value
public import proofs.«01_k».proof.Proof.Gen.ReferenceAdaIdeal.Read
public import proofs.«01_k».proof.Proof.Gen.KernelBiasIdeal.Value
public import proofs.«01_k».proof.Proof.Gen.ReferenceBiasIdeal.Read
public import proofs.«01_k».proof.Proof.Gen.KernelPartsIdeal.Value
public import proofs.«01_k».proof.Proof.Gen.ReferencePartsIdeal.Read
public import proofs.«01_k».proof.Proof.Gen.KernelModIdeal.Value
public import proofs.«01_k».proof.Proof.Gen.ReferenceModIdeal.Read
public import proofs.«01_k».proof.Proof.Gen.KernelGateIdeal.Value
public import proofs.«01_k».proof.Proof.Gen.ReferenceGateIdeal.Read
public import proofs.«01_k».proof.Proof.FfnClaims
public import proofs.«01_k».proof.Proof.UpClaims
public import proofs.«01_k».proof.Proof.DownClaims
public import proofs.«01_k».proof.Proof.OutClaims
public import proofs.«01_k».proof.Proof.InClaims
public import proofs.«01_k».proof.Proof.FwdClaims
public import proofs.«01_k».proof.Proof.MixInClaims
public import proofs.«01_k».proof.Proof.MixOutClaims
public import proofs.«01_k».proof.Proof.MixInBwdClaims
public import proofs.«01_k».proof.Proof.AdamUpClaims
public import proofs.«01_k».proof.Proof.AdamDownClaims
public import proofs.«01_k».proof.Proof.AdamInClaims
public import proofs.«01_k».proof.Proof.AdamOutClaims
public import proofs.«01_k».proof.Proof.AdamAdaClaims
public import proofs.«01_k».proof.Proof.AdamSmallClaims
public import proofs.«01_k».proof.Proof.LossClaims
public import proofs.«01_k».proof.Proof.AdaClaims
public import proofs.«01_k».proof.Proof.BiasClaims
public import proofs.«01_k».proof.Proof.PartsClaims
public import proofs.«01_k».proof.Proof.ModClaims
public import proofs.«01_k».proof.Proof.GateClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.KernelUp.Gen.facts, Cert.KernelUpIdeal.Gen.facts, Cert.ReferenceUpIdeal.Gen.facts,
    Cert.KernelDown.Gen.facts, Cert.KernelDownIdeal.Gen.facts, Cert.ReferenceDownIdeal.Gen.facts,
    Cert.KernelOut.Gen.facts, Cert.KernelOutIdeal.Gen.facts, Cert.ReferenceOutIdeal.Gen.facts,
    Cert.KernelIn.Gen.facts, Cert.KernelInIdeal.Gen.facts, Cert.ReferenceInIdeal.Gen.facts,
    Cert.KernelFwd.Gen.facts, Cert.KernelFwdIdeal.Gen.facts, Cert.ReferenceFwdIdeal.Gen.facts,
    Cert.KernelMixIn.Gen.facts, Cert.KernelMixInIdeal.Gen.facts, Cert.ReferenceMixInIdeal.Gen.facts,
    Cert.KernelMixOut.Gen.facts, Cert.KernelMixOutIdeal.Gen.facts, Cert.ReferenceMixOutIdeal.Gen.facts,
    Cert.KernelMixInBwd.Gen.facts, Cert.KernelMixInBwdIdeal.Gen.facts, Cert.ReferenceMixInBwdIdeal.Gen.facts,
    Cert.KernelAdamUp.Gen.facts, Cert.KernelAdamUpIdeal.Gen.facts, Cert.ReferenceAdamUpIdeal.Gen.facts,
    Cert.KernelAdamDown.Gen.facts, Cert.KernelAdamDownIdeal.Gen.facts, Cert.ReferenceAdamDownIdeal.Gen.facts,
    Cert.KernelAdamIn.Gen.facts, Cert.KernelAdamInIdeal.Gen.facts, Cert.ReferenceAdamInIdeal.Gen.facts,
    Cert.KernelAdamOut.Gen.facts, Cert.KernelAdamOutIdeal.Gen.facts, Cert.ReferenceAdamOutIdeal.Gen.facts,
    Cert.KernelAdamAda.Gen.facts, Cert.KernelAdamAdaIdeal.Gen.facts, Cert.ReferenceAdamAdaIdeal.Gen.facts,
    Cert.KernelAdamSmall.Gen.facts, Cert.KernelAdamSmallIdeal.Gen.facts, Cert.ReferenceAdamSmallIdeal.Gen.facts,
    Cert.KernelLoss.Gen.facts, Cert.KernelLossIdeal.Gen.facts, Cert.ReferenceLossIdeal.Gen.facts,
    Cert.KernelAda.Gen.facts, Cert.KernelAdaIdeal.Gen.facts, Cert.ReferenceAdaIdeal.Gen.facts,
    Cert.KernelBias.Gen.facts, Cert.KernelBiasIdeal.Gen.facts, Cert.ReferenceBiasIdeal.Gen.facts,
    Cert.KernelParts.Gen.facts, Cert.KernelPartsIdeal.Gen.facts, Cert.ReferencePartsIdeal.Gen.facts,
    Cert.KernelMod.Gen.facts, Cert.KernelModIdeal.Gen.facts, Cert.ReferenceModIdeal.Gen.facts,
    Cert.KernelGate.Gen.facts, Cert.KernelGateIdeal.Gen.facts, Cert.ReferenceGateIdeal.Gen.facts, Cert.Ffn.preFacts, Cert.Pre_finite_in.Gen.facts,
    fun m ρ _ => Cert.Kernel.Gen.frame m ρ,
    fun m ρ _ => Cert.KernelIdeal.Gen.frame m ρ,
    fun m ρ _ => Cert.KernelIdeal.Gen.frame m ρ,
    Cert.Ffn.frame_ref,
    fun m ρ _ => Cert.Ffn.frame_ref m ρ trivial,
    fun m ρ _ => Cert.KernelUp.Gen.frame m ρ,
    fun m ρ _ => Cert.KernelUpIdeal.Gen.frame m ρ,
    Cert.Weight.Up.frame_ref,
    fun m ρ _ => Cert.KernelDown.Gen.frame m ρ,
    fun m ρ _ => Cert.KernelDownIdeal.Gen.frame m ρ,
    Cert.Weight.Down.frame_ref,
    fun m ρ _ => Cert.KernelOut.Gen.frame m ρ,
    fun m ρ _ => Cert.KernelOutIdeal.Gen.frame m ρ,
    Cert.Weight.Out.frame_ref,
    fun m ρ _ => Cert.KernelIn.Gen.frame m ρ,
    fun m ρ _ => Cert.KernelInIdeal.Gen.frame m ρ,
    Cert.Weight.In.frame_ref,
    fun m ρ _ => Cert.KernelFwd.Gen.frame m ρ,
    fun m ρ _ => Cert.KernelFwdIdeal.Gen.frame m ρ,
    Cert.Ffn.Fwd.frame_ref,
    fun m ρ _ => Cert.KernelMixIn.Gen.frame m ρ,
    fun m ρ _ => Cert.KernelMixInIdeal.Gen.frame m ρ,
    Cert.Mixer.In.frame_ref,
    fun m ρ _ => Cert.KernelMixOut.Gen.frame m ρ,
    fun m ρ _ => Cert.KernelMixOutIdeal.Gen.frame m ρ,
    Cert.Mixer.Out.frame_ref,
    fun m ρ _ => Cert.KernelMixInBwd.Gen.frame m ρ,
    fun m ρ _ => Cert.KernelMixInBwdIdeal.Gen.frame m ρ,
    fun m ρ _ => Cert.KernelMixInBwdIdeal.Gen.frame m ρ,
    Cert.Mixer.InBwd.frame_ref,
    fun m ρ _ => Cert.Mixer.InBwd.frame_ref m ρ trivial,
    fun m ρ _ => Cert.KernelAdamUp.Gen.frame m ρ,
    fun m ρ _ => Cert.KernelAdamUpIdeal.Gen.frame m ρ,
    Cert.Opt.Up.frame_ref,
    fun m ρ _ => Cert.KernelAdamDown.Gen.frame m ρ,
    fun m ρ _ => Cert.KernelAdamDownIdeal.Gen.frame m ρ,
    Cert.Opt.Down.frame_ref,
    fun m ρ _ => Cert.KernelAdamIn.Gen.frame m ρ,
    fun m ρ _ => Cert.KernelAdamInIdeal.Gen.frame m ρ,
    Cert.Opt.In.frame_ref,
    fun m ρ _ => Cert.KernelAdamOut.Gen.frame m ρ,
    fun m ρ _ => Cert.KernelAdamOutIdeal.Gen.frame m ρ,
    Cert.Opt.Out.frame_ref,
    fun m ρ _ => Cert.KernelAdamAda.Gen.frame m ρ,
    fun m ρ _ => Cert.KernelAdamAdaIdeal.Gen.frame m ρ,
    Cert.Opt.Ada.frame_ref,
    fun m ρ _ => Cert.KernelAdamSmall.Gen.frame m ρ,
    fun m ρ _ => Cert.KernelAdamSmallIdeal.Gen.frame m ρ,
    Cert.Opt.Small.frame_ref,
    fun m ρ _ => Cert.KernelLoss.Gen.frame m ρ,
    fun m ρ _ => Cert.KernelLossIdeal.Gen.frame m ρ,
    Cert.Loss.frame_ref,
    fun m ρ _ => Cert.KernelAda.Gen.frame m ρ,
    fun m ρ _ => Cert.KernelAdaIdeal.Gen.frame m ρ,
    Cert.Mod.Ada.frame_ref,
    fun m ρ _ => Cert.KernelBias.Gen.frame m ρ,
    fun m ρ _ => Cert.KernelBiasIdeal.Gen.frame m ρ,
    Cert.Mod.Bias.frame_ref,
    fun m ρ _ => Cert.KernelParts.Gen.frame m ρ,
    fun m ρ _ => Cert.KernelPartsIdeal.Gen.frame m ρ,
    Cert.Mod.Parts.frame_ref,
    fun m ρ _ => Cert.KernelMod.Gen.frame m ρ,
    fun m ρ _ => Cert.KernelModIdeal.Gen.frame m ρ,
    Cert.Mod.Product.frame_ref,
    fun m ρ _ => Cert.KernelGate.Gen.frame m ρ,
    fun m ρ _ => Cert.KernelGateIdeal.Gen.frame m ρ,
    Cert.Gate.frame_ref,
    trivial,
    Cert.Ffn.algebraic,
    trivial,
    Cert.Weight.Up.algebraic,
    trivial,
    Cert.Weight.Down.algebraic,
    trivial,
    Cert.Weight.Out.algebraic,
    trivial,
    Cert.Weight.In.algebraic,
    trivial,
    Cert.Ffn.Fwd.algebraic,
    trivial,
    Cert.Mixer.In.algebraic,
    trivial,
    Cert.Mixer.Out.algebraic,
    trivial,
    Cert.Mixer.InBwd.algebraic,
    Cert.Opt.Up.preserves,
    Cert.Opt.Up.algebraic,
    Cert.Opt.Down.preserves,
    Cert.Opt.Down.algebraic,
    Cert.Opt.In.preserves,
    Cert.Opt.In.algebraic,
    Cert.Opt.Out.preserves,
    Cert.Opt.Out.algebraic,
    Cert.Opt.Ada.preserves,
    Cert.Opt.Ada.algebraic,
    Cert.Opt.Small.preserves,
    Cert.Opt.Small.algebraic,
    trivial,
    Cert.Loss.algebraic,
    trivial,
    Cert.Mod.Ada.algebraic,
    trivial,
    Cert.Mod.Bias.algebraic,
    trivial,
    Cert.Mod.Parts.algebraic,
    trivial,
    Cert.Mod.Product.algebraic,
    trivial,
    Cert.Gate.algebraic⟩

end Cert.Proof

end
